-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2 = (fun _ => 1#1)

def Pre_QkNorm (m : (ℓ : Loc Cert.QkNorm.nD Cert.QkNorm.τ Cert.QkNorm.sig) → Buf (Elt Bits) ℓ) : Prop :=
  True

def Pre_QkNormIdeal (m : (ℓ : Loc Cert.QkNormIdeal.nD Cert.QkNormIdeal.τ Cert.QkNormIdeal.sig) → Buf (Elt Ideal) ℓ) : Prop :=
  True

def Pre_QkNormIdeal_qkv_finite [hPre_qkv_finite : Cert.Pre_qkv_finite.Facts] (m : (ℓ : Loc Cert.QkNormIdeal.nD Cert.QkNormIdeal.τ Cert.QkNormIdeal.sig) → Buf (Elt Ideal) ℓ) : Prop :=
  ∀ c : Dev Cert.QkNormIdeal.nD,
    (Cert.Pre_qkv_finite.fn (F := Ideal) (m ((c.tc : Thread Cert.QkNormIdeal.nD Cert.QkNormIdeal.τ).loc Cert.QkNormIdeal.main_arg0)) (m ((c.tc : Thread Cert.QkNormIdeal.nD Cert.QkNormIdeal.τ).loc Cert.QkNormIdeal.main_arg1)) (m ((c.tc : Thread Cert.QkNormIdeal.nD Cert.QkNormIdeal.τ).loc Cert.QkNormIdeal.main_arg2)) (m ((c.tc : Thread Cert.QkNormIdeal.nD Cert.QkNormIdeal.τ).loc Cert.QkNormIdeal.main_arg3)) (m ((c.tc : Thread Cert.QkNormIdeal.nD Cert.QkNormIdeal.τ).loc Cert.QkNormIdeal.main_arg4)) (m ((c.tc : Thread Cert.QkNormIdeal.nD Cert.QkNormIdeal.τ).loc Cert.QkNormIdeal.main_arg5)) (m ((c.tc : Thread Cert.QkNormIdeal.nD Cert.QkNormIdeal.τ).loc Cert.QkNormIdeal.main_arg6))).1 = (fun _ => 1#1)
    ∧ (Cert.Pre_qkv_finite.fn (F := Ideal) (m ((c.tc : Thread Cert.QkNormIdeal.nD Cert.QkNormIdeal.τ).loc Cert.QkNormIdeal.main_arg0)) (m ((c.tc : Thread Cert.QkNormIdeal.nD Cert.QkNormIdeal.τ).loc Cert.QkNormIdeal.main_arg1)) (m ((c.tc : Thread Cert.QkNormIdeal.nD Cert.QkNormIdeal.τ).loc Cert.QkNormIdeal.main_arg2)) (m ((c.tc : Thread Cert.QkNormIdeal.nD Cert.QkNormIdeal.τ).loc Cert.QkNormIdeal.main_arg3)) (m ((c.tc : Thread Cert.QkNormIdeal.nD Cert.QkNormIdeal.τ).loc Cert.QkNormIdeal.main_arg4)) (m ((c.tc : Thread Cert.QkNormIdeal.nD Cert.QkNormIdeal.τ).loc Cert.QkNormIdeal.main_arg5)) (m ((c.tc : Thread Cert.QkNormIdeal.nD Cert.QkNormIdeal.τ).loc Cert.QkNormIdeal.main_arg6))).2.1 = (fun _ => 1#1)
    ∧ (Cert.Pre_qkv_finite.fn (F := Ideal) (m ((c.tc : Thread Cert.QkNormIdeal.nD Cert.QkNormIdeal.τ).loc Cert.QkNormIdeal.main_arg0)) (m ((c.tc : Thread Cert.QkNormIdeal.nD Cert.QkNormIdeal.τ).loc Cert.QkNormIdeal.main_arg1)) (m ((c.tc : Thread Cert.QkNormIdeal.nD Cert.QkNormIdeal.τ).loc Cert.QkNormIdeal.main_arg2)) (m ((c.tc : Thread Cert.QkNormIdeal.nD Cert.QkNormIdeal.τ).loc Cert.QkNormIdeal.main_arg3)) (m ((c.tc : Thread Cert.QkNormIdeal.nD Cert.QkNormIdeal.τ).loc Cert.QkNormIdeal.main_arg4)) (m ((c.tc : Thread Cert.QkNormIdeal.nD Cert.QkNormIdeal.τ).loc Cert.QkNormIdeal.main_arg5)) (m ((c.tc : Thread Cert.QkNormIdeal.nD Cert.QkNormIdeal.τ).loc Cert.QkNormIdeal.main_arg6))).2.2.1 = (fun _ => 1#1)
    ∧ (Cert.Pre_qkv_finite.fn (F := Ideal) (m ((c.tc : Thread Cert.QkNormIdeal.nD Cert.QkNormIdeal.τ).loc Cert.QkNormIdeal.main_arg0)) (m ((c.tc : Thread Cert.QkNormIdeal.nD Cert.QkNormIdeal.τ).loc Cert.QkNormIdeal.main_arg1)) (m ((c.tc : Thread Cert.QkNormIdeal.nD Cert.QkNormIdeal.τ).loc Cert.QkNormIdeal.main_arg2)) (m ((c.tc : Thread Cert.QkNormIdeal.nD Cert.QkNormIdeal.τ).loc Cert.QkNormIdeal.main_arg3)) (m ((c.tc : Thread Cert.QkNormIdeal.nD Cert.QkNormIdeal.τ).loc Cert.QkNormIdeal.main_arg4)) (m ((c.tc : Thread Cert.QkNormIdeal.nD Cert.QkNormIdeal.τ).loc Cert.QkNormIdeal.main_arg5)) (m ((c.tc : Thread Cert.QkNormIdeal.nD Cert.QkNormIdeal.τ).loc Cert.QkNormIdeal.main_arg6))).2.2.2.1 = (fun _ => 1#1)
    ∧ (Cert.Pre_qkv_finite.fn (F := Ideal) (m ((c.tc : Thread Cert.QkNormIdeal.nD Cert.QkNormIdeal.τ).loc Cert.QkNormIdeal.main_arg0)) (m ((c.tc : Thread Cert.QkNormIdeal.nD Cert.QkNormIdeal.τ).loc Cert.QkNormIdeal.main_arg1)) (m ((c.tc : Thread Cert.QkNormIdeal.nD Cert.QkNormIdeal.τ).loc Cert.QkNormIdeal.main_arg2)) (m ((c.tc : Thread Cert.QkNormIdeal.nD Cert.QkNormIdeal.τ).loc Cert.QkNormIdeal.main_arg3)) (m ((c.tc : Thread Cert.QkNormIdeal.nD Cert.QkNormIdeal.τ).loc Cert.QkNormIdeal.main_arg4)) (m ((c.tc : Thread Cert.QkNormIdeal.nD Cert.QkNormIdeal.τ).loc Cert.QkNormIdeal.main_arg5)) (m ((c.tc : Thread Cert.QkNormIdeal.nD Cert.QkNormIdeal.τ).loc Cert.QkNormIdeal.main_arg6))).2.2.2.2 = (fun _ => 1#1)

def Pre_QkNormRefIdeal (m : (ℓ : Loc Cert.QkNormRefIdeal.nD Cert.QkNormRefIdeal.τ Cert.QkNormRefIdeal.sig) → Buf (Elt Ideal) ℓ) : Prop :=
  True

def Pre_QkNormRefIdeal_qkv_finite [hPre_qkv_finite : Cert.Pre_qkv_finite.Facts] (m : (ℓ : Loc Cert.QkNormRefIdeal.nD Cert.QkNormRefIdeal.τ Cert.QkNormRefIdeal.sig) → Buf (Elt Ideal) ℓ) : Prop :=
  ∀ c : Dev Cert.QkNormRefIdeal.nD,
    (Cert.Pre_qkv_finite.fn (F := Ideal) (m ((c.tc : Thread Cert.QkNormRefIdeal.nD Cert.QkNormRefIdeal.τ).loc Cert.QkNormRefIdeal.main_arg0)) (m ((c.tc : Thread Cert.QkNormRefIdeal.nD Cert.QkNormRefIdeal.τ).loc Cert.QkNormRefIdeal.main_arg1)) (m ((c.tc : Thread Cert.QkNormRefIdeal.nD Cert.QkNormRefIdeal.τ).loc Cert.QkNormRefIdeal.main_arg2)) (m ((c.tc : Thread Cert.QkNormRefIdeal.nD Cert.QkNormRefIdeal.τ).loc Cert.QkNormRefIdeal.main_arg3)) (m ((c.tc : Thread Cert.QkNormRefIdeal.nD Cert.QkNormRefIdeal.τ).loc Cert.QkNormRefIdeal.main_arg4)) (m ((c.tc : Thread Cert.QkNormRefIdeal.nD Cert.QkNormRefIdeal.τ).loc Cert.QkNormRefIdeal.main_arg5)) (m ((c.tc : Thread Cert.QkNormRefIdeal.nD Cert.QkNormRefIdeal.τ).loc Cert.QkNormRefIdeal.main_arg6))).1 = (fun _ => 1#1)
    ∧ (Cert.Pre_qkv_finite.fn (F := Ideal) (m ((c.tc : Thread Cert.QkNormRefIdeal.nD Cert.QkNormRefIdeal.τ).loc Cert.QkNormRefIdeal.main_arg0)) (m ((c.tc : Thread Cert.QkNormRefIdeal.nD Cert.QkNormRefIdeal.τ).loc Cert.QkNormRefIdeal.main_arg1)) (m ((c.tc : Thread Cert.QkNormRefIdeal.nD Cert.QkNormRefIdeal.τ).loc Cert.QkNormRefIdeal.main_arg2)) (m ((c.tc : Thread Cert.QkNormRefIdeal.nD Cert.QkNormRefIdeal.τ).loc Cert.QkNormRefIdeal.main_arg3)) (m ((c.tc : Thread Cert.QkNormRefIdeal.nD Cert.QkNormRefIdeal.τ).loc Cert.QkNormRefIdeal.main_arg4)) (m ((c.tc : Thread Cert.QkNormRefIdeal.nD Cert.QkNormRefIdeal.τ).loc Cert.QkNormRefIdeal.main_arg5)) (m ((c.tc : Thread Cert.QkNormRefIdeal.nD Cert.QkNormRefIdeal.τ).loc Cert.QkNormRefIdeal.main_arg6))).2.1 = (fun _ => 1#1)
    ∧ (Cert.Pre_qkv_finite.fn (F := Ideal) (m ((c.tc : Thread Cert.QkNormRefIdeal.nD Cert.QkNormRefIdeal.τ).loc Cert.QkNormRefIdeal.main_arg0)) (m ((c.tc : Thread Cert.QkNormRefIdeal.nD Cert.QkNormRefIdeal.τ).loc Cert.QkNormRefIdeal.main_arg1)) (m ((c.tc : Thread Cert.QkNormRefIdeal.nD Cert.QkNormRefIdeal.τ).loc Cert.QkNormRefIdeal.main_arg2)) (m ((c.tc : Thread Cert.QkNormRefIdeal.nD Cert.QkNormRefIdeal.τ).loc Cert.QkNormRefIdeal.main_arg3)) (m ((c.tc : Thread Cert.QkNormRefIdeal.nD Cert.QkNormRefIdeal.τ).loc Cert.QkNormRefIdeal.main_arg4)) (m ((c.tc : Thread Cert.QkNormRefIdeal.nD Cert.QkNormRefIdeal.τ).loc Cert.QkNormRefIdeal.main_arg5)) (m ((c.tc : Thread Cert.QkNormRefIdeal.nD Cert.QkNormRefIdeal.τ).loc Cert.QkNormRefIdeal.main_arg6))).2.2.1 = (fun _ => 1#1)
    ∧ (Cert.Pre_qkv_finite.fn (F := Ideal) (m ((c.tc : Thread Cert.QkNormRefIdeal.nD Cert.QkNormRefIdeal.τ).loc Cert.QkNormRefIdeal.main_arg0)) (m ((c.tc : Thread Cert.QkNormRefIdeal.nD Cert.QkNormRefIdeal.τ).loc Cert.QkNormRefIdeal.main_arg1)) (m ((c.tc : Thread Cert.QkNormRefIdeal.nD Cert.QkNormRefIdeal.τ).loc Cert.QkNormRefIdeal.main_arg2)) (m ((c.tc : Thread Cert.QkNormRefIdeal.nD Cert.QkNormRefIdeal.τ).loc Cert.QkNormRefIdeal.main_arg3)) (m ((c.tc : Thread Cert.QkNormRefIdeal.nD Cert.QkNormRefIdeal.τ).loc Cert.QkNormRefIdeal.main_arg4)) (m ((c.tc : Thread Cert.QkNormRefIdeal.nD Cert.QkNormRefIdeal.τ).loc Cert.QkNormRefIdeal.main_arg5)) (m ((c.tc : Thread Cert.QkNormRefIdeal.nD Cert.QkNormRefIdeal.τ).loc Cert.QkNormRefIdeal.main_arg6))).2.2.2.1 = (fun _ => 1#1)
    ∧ (Cert.Pre_qkv_finite.fn (F := Ideal) (m ((c.tc : Thread Cert.QkNormRefIdeal.nD Cert.QkNormRefIdeal.τ).loc Cert.QkNormRefIdeal.main_arg0)) (m ((c.tc : Thread Cert.QkNormRefIdeal.nD Cert.QkNormRefIdeal.τ).loc Cert.QkNormRefIdeal.main_arg1)) (m ((c.tc : Thread Cert.QkNormRefIdeal.nD Cert.QkNormRefIdeal.τ).loc Cert.QkNormRefIdeal.main_arg2)) (m ((c.tc : Thread Cert.QkNormRefIdeal.nD Cert.QkNormRefIdeal.τ).loc Cert.QkNormRefIdeal.main_arg3)) (m ((c.tc : Thread Cert.QkNormRefIdeal.nD Cert.QkNormRefIdeal.τ).loc Cert.QkNormRefIdeal.main_arg4)) (m ((c.tc : Thread Cert.QkNormRefIdeal.nD Cert.QkNormRefIdeal.τ).loc Cert.QkNormRefIdeal.main_arg5)) (m ((c.tc : Thread Cert.QkNormRefIdeal.nD Cert.QkNormRefIdeal.τ).loc Cert.QkNormRefIdeal.main_arg6))).2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4)) (m ((c.tc : Thread Cert.PoolIdeal.nD Cert.PoolIdeal.τ).loc Cert.PoolIdeal.main_arg5))).2.2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4)) (m ((c.tc : Thread Cert.PoolRefIdeal.nD Cert.PoolRefIdeal.τ).loc Cert.PoolRefIdeal.main_arg5))).2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_dh_finite [hPre_dh_finite : Cert.Pre_dh_finite.Facts] (m : (ℓ : Loc Cert.DhIdeal.nD Cert.DhIdeal.τ Cert.DhIdeal.sig) → Buf (Elt Ideal) ℓ) : Prop :=
  ∀ c : Dev Cert.DhIdeal.nD,
    (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.2.1 = (fun _ => 1#1)
    ∧ (Cert.Pre_dh_finite.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))).2.2.2 = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_dh_finite [hPre_dh_finite : Cert.Pre_dh_finite.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.2.1 = (fun _ => 1#1)
    ∧ (Cert.Pre_dh_finite.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))).2.2.2 = (fun _ => 1#1)

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinIdeal_din_finite [hPre_din_finite : Cert.Pre_din_finite.Facts] (m : (ℓ : Loc Cert.DinIdeal.nD Cert.DinIdeal.τ Cert.DinIdeal.sig) → Buf (Elt Ideal) ℓ) : Prop :=
  ∀ c : Dev Cert.DinIdeal.nD,
    (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.2.1 = (fun _ => 1#1)
    ∧ (Cert.Pre_din_finite.fn (F := Ideal) (m ((c.tc : Thread Cert.DinIdeal.nD Cert.DinIdeal.τ).loc Cert.DinIdeal.main_arg0)) (m ((c.tc : Thread Cert.DinIdeal.nD Cert.DinIdeal.τ).loc Cert.DinIdeal.main_arg1)) (m ((c.tc : Thread Cert.DinIdeal.nD Cert.DinIdeal.τ).loc Cert.DinIdeal.main_arg2)) (m ((c.tc : Thread Cert.DinIdeal.nD Cert.DinIdeal.τ).loc Cert.DinIdeal.main_arg3)) (m ((c.tc : Thread Cert.DinIdeal.nD Cert.DinIdeal.τ).loc Cert.DinIdeal.main_arg4))).2.2.2 = (fun _ => 1#1)

def Pre_DinRefIdeal (m : (ℓ : Loc Cert.DinRefIdeal.nD Cert.DinRefIdeal.τ Cert.DinRefIdeal.sig) → Buf (Elt Ideal) ℓ) : Prop :=
  True

def Pre_DinRefIdeal_din_finite [hPre_din_finite : Cert.Pre_din_finite.Facts] (m : (ℓ : Loc Cert.DinRefIdeal.nD Cert.DinRefIdeal.τ Cert.DinRefIdeal.sig) → Buf (Elt Ideal) ℓ) : Prop :=
  ∀ c : Dev Cert.DinRefIdeal.nD,
    (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.2.1 = (fun _ => 1#1)
    ∧ (Cert.Pre_din_finite.fn (F := Ideal) (m ((c.tc : Thread Cert.DinRefIdeal.nD Cert.DinRefIdeal.τ).loc Cert.DinRefIdeal.main_arg0)) (m ((c.tc : Thread Cert.DinRefIdeal.nD Cert.DinRefIdeal.τ).loc Cert.DinRefIdeal.main_arg1)) (m ((c.tc : Thread Cert.DinRefIdeal.nD Cert.DinRefIdeal.τ).loc Cert.DinRefIdeal.main_arg2)) (m ((c.tc : Thread Cert.DinRefIdeal.nD Cert.DinRefIdeal.τ).loc Cert.DinRefIdeal.main_arg3)) (m ((c.tc : Thread Cert.DinRefIdeal.nD Cert.DinRefIdeal.τ).loc Cert.DinRefIdeal.main_arg4))).2.2.2 = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2.1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_QkNorm [hQkNorm : Cert.QkNorm.Facts] : Prop :=
  ∀ (m : (ℓ : Loc Cert.QkNorm.nD Cert.QkNorm.τ Cert.QkNorm.sig) → Buf (Elt Bits) ℓ) (g : Dev Cert.QkNorm.nD → PrngReg), Pre_QkNorm m →
    θ_run (Cert.QkNorm.defs (F := Bits)) (onTc (τ := Cert.QkNorm.τ) (Cert.QkNorm.main (F := Bits))) ⟨m, fun _ => 0, g⟩ (fun r => (∀ c : Dev Cert.QkNorm.nD,
      r.2.mem ((c.tc : Thread Cert.QkNorm.nD Cert.QkNorm.τ).loc Cert.QkNorm.main_arg0) = m ((c.tc : Thread Cert.QkNorm.nD Cert.QkNorm.τ).loc Cert.QkNorm.main_arg0)
      ∧ r.2.mem ((c.tc : Thread Cert.QkNorm.nD Cert.QkNorm.τ).loc Cert.QkNorm.main_arg1) = m ((c.tc : Thread Cert.QkNorm.nD Cert.QkNorm.τ).loc Cert.QkNorm.main_arg1)
      ∧ r.2.mem ((c.tc : Thread Cert.QkNorm.nD Cert.QkNorm.τ).loc Cert.QkNorm.main_arg2) = m ((c.tc : Thread Cert.QkNorm.nD Cert.QkNorm.τ).loc Cert.QkNorm.main_arg2)
      ∧ r.2.mem ((c.tc : Thread Cert.QkNorm.nD Cert.QkNorm.τ).loc Cert.QkNorm.main_arg3) = m ((c.tc : Thread Cert.QkNorm.nD Cert.QkNorm.τ).loc Cert.QkNorm.main_arg3)
      ∧ r.2.mem ((c.tc : Thread Cert.QkNorm.nD Cert.QkNorm.τ).loc Cert.QkNorm.main_arg4) = m ((c.tc : Thread Cert.QkNorm.nD Cert.QkNorm.τ).loc Cert.QkNorm.main_arg4)
      ∧ r.2.mem ((c.tc : Thread Cert.QkNorm.nD Cert.QkNorm.τ).loc Cert.QkNorm.main_arg5) = m ((c.tc : Thread Cert.QkNorm.nD Cert.QkNorm.τ).loc Cert.QkNorm.main_arg5)
      ∧ r.2.mem ((c.tc : Thread Cert.QkNorm.nD Cert.QkNorm.τ).loc Cert.QkNorm.main_arg6) = m ((c.tc : Thread Cert.QkNorm.nD Cert.QkNorm.τ).loc Cert.QkNorm.main_arg6))
      ∧ r.2.sem = fun _ => 0)

def quiescent_QkNormIdeal [hQkNormIdeal : Cert.QkNormIdeal.Facts] : Prop :=
  ∀ (m : (ℓ : Loc Cert.QkNormIdeal.nD Cert.QkNormIdeal.τ Cert.QkNormIdeal.sig) → Buf (Elt Ideal) ℓ) (g : Dev Cert.QkNormIdeal.nD → PrngReg), Pre_QkNormIdeal m →
    θ_run (Cert.QkNormIdeal.defs (F := Ideal)) (onTc (τ := Cert.QkNormIdeal.τ) (Cert.QkNormIdeal.main (F := Ideal))) ⟨m, fun _ => 0, g⟩ (fun r => (∀ c : Dev Cert.QkNormIdeal.nD,
      r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
      ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
      ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2)
      ∧ r.2.mem ((c.tc : Thread Cert.QkNormIdeal.nD Cert.QkNormIdeal.τ).loc Cert.QkNormIdeal.main_arg3) = m ((c.tc : Thread Cert.QkNormIdeal.nD Cert.QkNormIdeal.τ).loc Cert.QkNormIdeal.main_arg3)
      ∧ r.2.mem ((c.tc : Thread Cert.QkNormIdeal.nD Cert.QkNormIdeal.τ).loc Cert.QkNormIdeal.main_arg4) = m ((c.tc : Thread Cert.QkNormIdeal.nD Cert.QkNormIdeal.τ).loc Cert.QkNormIdeal.main_arg4)
      ∧ r.2.mem ((c.tc : Thread Cert.QkNormIdeal.nD Cert.QkNormIdeal.τ).loc Cert.QkNormIdeal.main_arg5) = m ((c.tc : Thread Cert.QkNormIdeal.nD Cert.QkNormIdeal.τ).loc Cert.QkNormIdeal.main_arg5)
      ∧ r.2.mem ((c.tc : Thread Cert.QkNormIdeal.nD Cert.QkNormIdeal.τ).loc Cert.QkNormIdeal.main_arg6) = m ((c.tc : Thread Cert.QkNormIdeal.nD Cert.QkNormIdeal.τ).loc Cert.QkNormIdeal.main_arg6))
      ∧ r.2.sem = fun _ => 0)

def quiescent_QkNormIdeal_pre_qkv_finite [hQkNormIdeal : Cert.QkNormIdeal.Facts] [hPre_qkv_finite : Cert.Pre_qkv_finite.Facts] : Prop :=
  ∀ (m : (ℓ : Loc Cert.QkNormIdeal.nD Cert.QkNormIdeal.τ Cert.QkNormIdeal.sig) → Buf (Elt Ideal) ℓ) (g : Dev Cert.QkNormIdeal.nD → PrngReg), Pre_QkNormIdeal_qkv_finite m →
    θ_run (Cert.QkNormIdeal.defs (F := Ideal)) (onTc (τ := Cert.QkNormIdeal.τ) (Cert.QkNormIdeal.main (F := Ideal))) ⟨m, fun _ => 0, g⟩ (fun r => (∀ c : Dev Cert.QkNormIdeal.nD,
      r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
      ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
      ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2)
      ∧ r.2.mem ((c.tc : Thread Cert.QkNormIdeal.nD Cert.QkNormIdeal.τ).loc Cert.QkNormIdeal.main_arg3) = m ((c.tc : Thread Cert.QkNormIdeal.nD Cert.QkNormIdeal.τ).loc Cert.QkNormIdeal.main_arg3)
      ∧ r.2.mem ((c.tc : Thread Cert.QkNormIdeal.nD Cert.QkNormIdeal.τ).loc Cert.QkNormIdeal.main_arg4) = m ((c.tc : Thread Cert.QkNormIdeal.nD Cert.QkNormIdeal.τ).loc Cert.QkNormIdeal.main_arg4)
      ∧ r.2.mem ((c.tc : Thread Cert.QkNormIdeal.nD Cert.QkNormIdeal.τ).loc Cert.QkNormIdeal.main_arg5) = m ((c.tc : Thread Cert.QkNormIdeal.nD Cert.QkNormIdeal.τ).loc Cert.QkNormIdeal.main_arg5)
      ∧ r.2.mem ((c.tc : Thread Cert.QkNormIdeal.nD Cert.QkNormIdeal.τ).loc Cert.QkNormIdeal.main_arg6) = m ((c.tc : Thread Cert.QkNormIdeal.nD Cert.QkNormIdeal.τ).loc Cert.QkNormIdeal.main_arg6))
      ∧ r.2.sem = fun _ => 0)

def quiescent_QkNormRefIdeal [hQkNormRefIdeal : Cert.QkNormRefIdeal.Facts] : Prop :=
  ∀ (m : (ℓ : Loc Cert.QkNormRefIdeal.nD Cert.QkNormRefIdeal.τ Cert.QkNormRefIdeal.sig) → Buf (Elt Ideal) ℓ) (g : Dev Cert.QkNormRefIdeal.nD → PrngReg), Pre_QkNormRefIdeal m →
    θ_run (Cert.QkNormRefIdeal.defs (F := Ideal)) (onTc (τ := Cert.QkNormRefIdeal.τ) (Cert.QkNormRefIdeal.main (F := Ideal))) ⟨m, fun _ => 0, g⟩ (fun r => (∀ c : Dev Cert.QkNormRefIdeal.nD,
      r.2.mem ((c.tc : Thread Cert.QkNormRefIdeal.nD Cert.QkNormRefIdeal.τ).loc Cert.QkNormRefIdeal.main_arg0) = m ((c.tc : Thread Cert.QkNormRefIdeal.nD Cert.QkNormRefIdeal.τ).loc Cert.QkNormRefIdeal.main_arg0)
      ∧ r.2.mem ((c.tc : Thread Cert.QkNormRefIdeal.nD Cert.QkNormRefIdeal.τ).loc Cert.QkNormRefIdeal.main_arg1) = m ((c.tc : Thread Cert.QkNormRefIdeal.nD Cert.QkNormRefIdeal.τ).loc Cert.QkNormRefIdeal.main_arg1)
      ∧ r.2.mem ((c.tc : Thread Cert.QkNormRefIdeal.nD Cert.QkNormRefIdeal.τ).loc Cert.QkNormRefIdeal.main_arg2) = m ((c.tc : Thread Cert.QkNormRefIdeal.nD Cert.QkNormRefIdeal.τ).loc Cert.QkNormRefIdeal.main_arg2)
      ∧ r.2.mem ((c.tc : Thread Cert.QkNormRefIdeal.nD Cert.QkNormRefIdeal.τ).loc Cert.QkNormRefIdeal.main_arg3) = m ((c.tc : Thread Cert.QkNormRefIdeal.nD Cert.QkNormRefIdeal.τ).loc Cert.QkNormRefIdeal.main_arg3)
      ∧ r.2.mem ((c.tc : Thread Cert.QkNormRefIdeal.nD Cert.QkNormRefIdeal.τ).loc Cert.QkNormRefIdeal.main_arg4) = m ((c.tc : Thread Cert.QkNormRefIdeal.nD Cert.QkNormRefIdeal.τ).loc Cert.QkNormRefIdeal.main_arg4)
      ∧ r.2.mem ((c.tc : Thread Cert.QkNormRefIdeal.nD Cert.QkNormRefIdeal.τ).loc Cert.QkNormRefIdeal.main_arg5) = m ((c.tc : Thread Cert.QkNormRefIdeal.nD Cert.QkNormRefIdeal.τ).loc Cert.QkNormRefIdeal.main_arg5)
      ∧ r.2.mem ((c.tc : Thread Cert.QkNormRefIdeal.nD Cert.QkNormRefIdeal.τ).loc Cert.QkNormRefIdeal.main_arg6) = m ((c.tc : Thread Cert.QkNormRefIdeal.nD Cert.QkNormRefIdeal.τ).loc Cert.QkNormRefIdeal.main_arg6))
      ∧ r.2.sem = fun _ => 0)

def quiescent_QkNormRefIdeal_pre_qkv_finite [hQkNormRefIdeal : Cert.QkNormRefIdeal.Facts] [hPre_qkv_finite : Cert.Pre_qkv_finite.Facts] : Prop :=
  ∀ (m : (ℓ : Loc Cert.QkNormRefIdeal.nD Cert.QkNormRefIdeal.τ Cert.QkNormRefIdeal.sig) → Buf (Elt Ideal) ℓ) (g : Dev Cert.QkNormRefIdeal.nD → PrngReg), Pre_QkNormRefIdeal_qkv_finite m →
    θ_run (Cert.QkNormRefIdeal.defs (F := Ideal)) (onTc (τ := Cert.QkNormRefIdeal.τ) (Cert.QkNormRefIdeal.main (F := Ideal))) ⟨m, fun _ => 0, g⟩ (fun r => (∀ c : Dev Cert.QkNormRefIdeal.nD,
      r.2.mem ((c.tc : Thread Cert.QkNormRefIdeal.nD Cert.QkNormRefIdeal.τ).loc Cert.QkNormRefIdeal.main_arg0) = m ((c.tc : Thread Cert.QkNormRefIdeal.nD Cert.QkNormRefIdeal.τ).loc Cert.QkNormRefIdeal.main_arg0)
      ∧ r.2.mem ((c.tc : Thread Cert.QkNormRefIdeal.nD Cert.QkNormRefIdeal.τ).loc Cert.QkNormRefIdeal.main_arg1) = m ((c.tc : Thread Cert.QkNormRefIdeal.nD Cert.QkNormRefIdeal.τ).loc Cert.QkNormRefIdeal.main_arg1)
      ∧ r.2.mem ((c.tc : Thread Cert.QkNormRefIdeal.nD Cert.QkNormRefIdeal.τ).loc Cert.QkNormRefIdeal.main_arg2) = m ((c.tc : Thread Cert.QkNormRefIdeal.nD Cert.QkNormRefIdeal.τ).loc Cert.QkNormRefIdeal.main_arg2)
      ∧ r.2.mem ((c.tc : Thread Cert.QkNormRefIdeal.nD Cert.QkNormRefIdeal.τ).loc Cert.QkNormRefIdeal.main_arg3) = m ((c.tc : Thread Cert.QkNormRefIdeal.nD Cert.QkNormRefIdeal.τ).loc Cert.QkNormRefIdeal.main_arg3)
      ∧ r.2.mem ((c.tc : Thread Cert.QkNormRefIdeal.nD Cert.QkNormRefIdeal.τ).loc Cert.QkNormRefIdeal.main_arg4) = m ((c.tc : Thread Cert.QkNormRefIdeal.nD Cert.QkNormRefIdeal.τ).loc Cert.QkNormRefIdeal.main_arg4)
      ∧ r.2.mem ((c.tc : Thread Cert.QkNormRefIdeal.nD Cert.QkNormRefIdeal.τ).loc Cert.QkNormRefIdeal.main_arg5) = m ((c.tc : Thread Cert.QkNormRefIdeal.nD Cert.QkNormRefIdeal.τ).loc Cert.QkNormRefIdeal.main_arg5)
      ∧ r.2.mem ((c.tc : Thread Cert.QkNormRefIdeal.nD Cert.QkNormRefIdeal.τ).loc Cert.QkNormRefIdeal.main_arg6) = m ((c.tc : Thread Cert.QkNormRefIdeal.nD Cert.QkNormRefIdeal.τ).loc Cert.QkNormRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhIdeal_pre_dh_finite [hDhIdeal : Cert.DhIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg), Pre_DhIdeal_dh_finite m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_DhRefIdeal_pre_dh_finite [hDhRefIdeal : Cert.DhRefIdeal.Facts] [hPre_dh_finite : Cert.Pre_dh_finite.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_dh_finite m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinIdeal_pre_din_finite [hDinIdeal : Cert.DinIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg), Pre_DinIdeal_din_finite m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_DinRefIdeal_pre_din_finite [hDinRefIdeal : Cert.DinRefIdeal.Facts] [hPre_din_finite : Cert.Pre_din_finite.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal_din_finite m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  IdealRules.named_const.Statement Cert.AttnIdeal.κ "ln2" .f32 0x3F317218#32 ((Real.log 2 : ℝ) : EReal)
  ∧ IdealRules.named_const.Statement Cert.AttnIdeal.κ "mask" .f32 0xF149F2CA#32 ⊥
  ∧ IdealRules.named_const.Statement Cert.AttnIdeal.κ "unfold" .f32 0x3E7D75E0#32 ((Real.sqrt ((Real.sqrt 128)⁻¹ * (Real.log 2)) : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v58_0)) (v1 : (c : Dev Cert.AttnIdeal.nD) → Buf (Elt Ideal) ((c.tc : Thread Cert.AttnIdeal.nD Cert.AttnIdeal.τ).loc Cert.AttnIdeal.main_v58_1)) (v2 : (c : Dev Cert.AttnIdeal.nD) → Buf (Elt Ideal) ((c.tc : Thread Cert.AttnIdeal.nD Cert.AttnIdeal.τ).loc Cert.AttnIdeal.main_v58_2)) (v3 : (c : Dev Cert.AttnIdeal.nD) → Buf (Elt Ideal) ((c.tc : Thread Cert.AttnIdeal.nD Cert.AttnIdeal.τ).loc Cert.AttnIdeal.main_v61)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v58_0) = v0 c
          ∧ r.2.mem ((c.tc : Thread Cert.AttnIdeal.nD Cert.AttnIdeal.τ).loc Cert.AttnIdeal.main_v58_1) = v1 c
          ∧ r.2.mem ((c.tc : Thread Cert.AttnIdeal.nD Cert.AttnIdeal.τ).loc Cert.AttnIdeal.main_v58_2) = v2 c
          ∧ r.2.mem ((c.tc : Thread Cert.AttnIdeal.nD Cert.AttnIdeal.τ).loc Cert.AttnIdeal.main_v61) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v85) = v0 c
          ∧ r.2.mem ((c.tc : Thread Cert.AttnRefIdeal.nD Cert.AttnRefIdeal.τ).loc Cert.AttnRefIdeal.main_v84) = v1 c
          ∧ r.2.mem ((c.tc : Thread Cert.AttnRefIdeal.nD Cert.AttnRefIdeal.τ).loc Cert.AttnRefIdeal.main_v86) = v2 c
          ∧ r.2.mem ((c.tc : Thread Cert.AttnRefIdeal.nD Cert.AttnRefIdeal.τ).loc Cert.AttnRefIdeal.main_v76) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v7_0)) (v1 : (c : Dev Cert.GateIdeal.nD) → Buf (Elt Ideal) ((c.tc : Thread Cert.GateIdeal.nD Cert.GateIdeal.τ).loc Cert.GateIdeal.main_v7_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7_0) = v0 c
          ∧ r.2.mem ((c.tc : Thread Cert.GateIdeal.nD Cert.GateIdeal.τ).loc Cert.GateIdeal.main_v7_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_QkNorm_QkNormIdeal : Prop :=
  True

def algebraic_QkNormIdeal_QkNormRefIdeal_pre_qkv_finite [hQkNormIdeal : Cert.QkNormIdeal.Facts] [hQkNormRefIdeal : Cert.QkNormRefIdeal.Facts] [hPre_qkv_finite : Cert.Pre_qkv_finite.Facts] : Prop :=
  ∀ (m : (ℓ : Loc Cert.QkNormIdeal.nD Cert.QkNormIdeal.τ Cert.QkNormIdeal.sig) → Buf (Elt Ideal) ℓ) (g : Dev Cert.QkNormIdeal.nD → PrngReg)
    (m' : (ℓ : Loc Cert.QkNormRefIdeal.nD Cert.QkNormRefIdeal.τ Cert.QkNormRefIdeal.sig) → Buf (Elt Ideal) ℓ) (g' : Dev Cert.QkNormRefIdeal.nD → PrngReg), Pre_QkNormIdeal_qkv_finite m →
    (∀ c : Dev Cert.QkNormIdeal.nD,
      m' ((c.tc : Thread Cert.QkNormRefIdeal.nD Cert.QkNormRefIdeal.τ).loc Cert.QkNormRefIdeal.main_arg0) = m ((c.tc : Thread Cert.QkNormIdeal.nD Cert.QkNormIdeal.τ).loc Cert.QkNormIdeal.main_arg0)
      ∧ m' ((c.tc : Thread Cert.QkNormRefIdeal.nD Cert.QkNormRefIdeal.τ).loc Cert.QkNormRefIdeal.main_arg1) = m ((c.tc : Thread Cert.QkNormIdeal.nD Cert.QkNormIdeal.τ).loc Cert.QkNormIdeal.main_arg1)
      ∧ m' ((c.tc : Thread Cert.QkNormRefIdeal.nD Cert.QkNormRefIdeal.τ).loc Cert.QkNormRefIdeal.main_arg2) = m ((c.tc : Thread Cert.QkNormIdeal.nD Cert.QkNormIdeal.τ).loc Cert.QkNormIdeal.main_arg2)
      ∧ m' ((c.tc : Thread Cert.QkNormRefIdeal.nD Cert.QkNormRefIdeal.τ).loc Cert.QkNormRefIdeal.main_arg3) = m ((c.tc : Thread Cert.QkNormIdeal.nD Cert.QkNormIdeal.τ).loc Cert.QkNormIdeal.main_arg3)
      ∧ m' ((c.tc : Thread Cert.QkNormRefIdeal.nD Cert.QkNormRefIdeal.τ).loc Cert.QkNormRefIdeal.main_arg4) = m ((c.tc : Thread Cert.QkNormIdeal.nD Cert.QkNormIdeal.τ).loc Cert.QkNormIdeal.main_arg4)
      ∧ m' ((c.tc : Thread Cert.QkNormRefIdeal.nD Cert.QkNormRefIdeal.τ).loc Cert.QkNormRefIdeal.main_arg5) = m ((c.tc : Thread Cert.QkNormIdeal.nD Cert.QkNormIdeal.τ).loc Cert.QkNormIdeal.main_arg5)
      ∧ m' ((c.tc : Thread Cert.QkNormRefIdeal.nD Cert.QkNormRefIdeal.τ).loc Cert.QkNormRefIdeal.main_arg6) = m ((c.tc : Thread Cert.QkNormIdeal.nD Cert.QkNormIdeal.τ).loc Cert.QkNormIdeal.main_arg6)) →
    ∃ (v0 : (c : Dev Cert.QkNormIdeal.nD) → Buf (Elt Ideal) ((c.tc : Thread Cert.QkNormIdeal.nD Cert.QkNormIdeal.τ).loc Cert.QkNormIdeal.main_v6_0)) (v1 : (c : Dev Cert.QkNormIdeal.nD) → Buf (Elt Ideal) ((c.tc : Thread Cert.QkNormIdeal.nD Cert.QkNormIdeal.τ).loc Cert.QkNormIdeal.main_v6_1)) (v2 : (c : Dev Cert.QkNormIdeal.nD) → Buf (Elt Ideal) ((c.tc : Thread Cert.QkNormIdeal.nD Cert.QkNormIdeal.τ).loc Cert.QkNormIdeal.main_v6_2)),
      θ_run (Cert.QkNormIdeal.defs (F := Ideal)) (onTc (τ := Cert.QkNormIdeal.τ) (Cert.QkNormIdeal.main (F := Ideal))) ⟨m, fun _ => 0, g⟩ (fun r => ∀ c : Dev Cert.QkNormIdeal.nD,
          r.2.mem ((c.tc : Thread Cert.QkNormIdeal.nD Cert.QkNormIdeal.τ).loc Cert.QkNormIdeal.main_v6_0) = v0 c
          ∧ r.2.mem ((c.tc : Thread Cert.QkNormIdeal.nD Cert.QkNormIdeal.τ).loc Cert.QkNormIdeal.main_v6_1) = v1 c
          ∧ r.2.mem ((c.tc : Thread Cert.QkNormIdeal.nD Cert.QkNormIdeal.τ).loc Cert.QkNormIdeal.main_v6_2) = v2 c
          ∧ r.2.mem ((c.tc : Thread Cert.QkNormIdeal.nD Cert.QkNormIdeal.τ).loc Cert.QkNormIdeal.main_arg0) = m ((c.tc : Thread Cert.QkNormIdeal.nD Cert.QkNormIdeal.τ).loc Cert.QkNormIdeal.main_arg0)
          ∧ r.2.mem ((c.tc : Thread Cert.QkNormIdeal.nD Cert.QkNormIdeal.τ).loc Cert.QkNormIdeal.main_arg1) = m ((c.tc : Thread Cert.QkNormIdeal.nD Cert.QkNormIdeal.τ).loc Cert.QkNormIdeal.main_arg1)
          ∧ r.2.mem ((c.tc : Thread Cert.QkNormIdeal.nD Cert.QkNormIdeal.τ).loc Cert.QkNormIdeal.main_arg2) = m ((c.tc : Thread Cert.QkNormIdeal.nD Cert.QkNormIdeal.τ).loc Cert.QkNormIdeal.main_arg2)
          ∧ r.2.mem ((c.tc : Thread Cert.QkNormIdeal.nD Cert.QkNormIdeal.τ).loc Cert.QkNormIdeal.main_arg3) = m ((c.tc : Thread Cert.QkNormIdeal.nD Cert.QkNormIdeal.τ).loc Cert.QkNormIdeal.main_arg3)
          ∧ r.2.mem ((c.tc : Thread Cert.QkNormIdeal.nD Cert.QkNormIdeal.τ).loc Cert.QkNormIdeal.main_arg4) = m ((c.tc : Thread Cert.QkNormIdeal.nD Cert.QkNormIdeal.τ).loc Cert.QkNormIdeal.main_arg4)
          ∧ r.2.mem ((c.tc : Thread Cert.QkNormIdeal.nD Cert.QkNormIdeal.τ).loc Cert.QkNormIdeal.main_arg5) = m ((c.tc : Thread Cert.QkNormIdeal.nD Cert.QkNormIdeal.τ).loc Cert.QkNormIdeal.main_arg5)
          ∧ r.2.mem ((c.tc : Thread Cert.QkNormIdeal.nD Cert.QkNormIdeal.τ).loc Cert.QkNormIdeal.main_arg6) = m ((c.tc : Thread Cert.QkNormIdeal.nD Cert.QkNormIdeal.τ).loc Cert.QkNormIdeal.main_arg6))
      ∧ θ_run (Cert.QkNormRefIdeal.defs (F := Ideal)) (onTc (τ := Cert.QkNormRefIdeal.τ) (Cert.QkNormRefIdeal.main (F := Ideal))) ⟨m', fun _ => 0, g'⟩ (fun r => ∀ c : Dev Cert.QkNormRefIdeal.nD,
          r.2.mem ((c.tc : Thread Cert.QkNormRefIdeal.nD Cert.QkNormRefIdeal.τ).loc Cert.QkNormRefIdeal.main_v92) = v0 c
          ∧ r.2.mem ((c.tc : Thread Cert.QkNormRefIdeal.nD Cert.QkNormRefIdeal.τ).loc Cert.QkNormRefIdeal.main_v93) = v1 c
          ∧ r.2.mem ((c.tc : Thread Cert.QkNormRefIdeal.nD Cert.QkNormRefIdeal.τ).loc Cert.QkNormRefIdeal.main_v94) = v2 c
          ∧ r.2.mem ((c.tc : Thread Cert.QkNormRefIdeal.nD Cert.QkNormRefIdeal.τ).loc Cert.QkNormRefIdeal.main_arg0) = m' ((c.tc : Thread Cert.QkNormRefIdeal.nD Cert.QkNormRefIdeal.τ).loc Cert.QkNormRefIdeal.main_arg0)
          ∧ r.2.mem ((c.tc : Thread Cert.QkNormRefIdeal.nD Cert.QkNormRefIdeal.τ).loc Cert.QkNormRefIdeal.main_arg1) = m' ((c.tc : Thread Cert.QkNormRefIdeal.nD Cert.QkNormRefIdeal.τ).loc Cert.QkNormRefIdeal.main_arg1)
          ∧ r.2.mem ((c.tc : Thread Cert.QkNormRefIdeal.nD Cert.QkNormRefIdeal.τ).loc Cert.QkNormRefIdeal.main_arg2) = m' ((c.tc : Thread Cert.QkNormRefIdeal.nD Cert.QkNormRefIdeal.τ).loc Cert.QkNormRefIdeal.main_arg2)
          ∧ r.2.mem ((c.tc : Thread Cert.QkNormRefIdeal.nD Cert.QkNormRefIdeal.τ).loc Cert.QkNormRefIdeal.main_arg3) = m' ((c.tc : Thread Cert.QkNormRefIdeal.nD Cert.QkNormRefIdeal.τ).loc Cert.QkNormRefIdeal.main_arg3)
          ∧ r.2.mem ((c.tc : Thread Cert.QkNormRefIdeal.nD Cert.QkNormRefIdeal.τ).loc Cert.QkNormRefIdeal.main_arg4) = m' ((c.tc : Thread Cert.QkNormRefIdeal.nD Cert.QkNormRefIdeal.τ).loc Cert.QkNormRefIdeal.main_arg4)
          ∧ r.2.mem ((c.tc : Thread Cert.QkNormRefIdeal.nD Cert.QkNormRefIdeal.τ).loc Cert.QkNormRefIdeal.main_arg5) = m' ((c.tc : Thread Cert.QkNormRefIdeal.nD Cert.QkNormRefIdeal.τ).loc Cert.QkNormRefIdeal.main_arg5)
          ∧ r.2.mem ((c.tc : Thread Cert.QkNormRefIdeal.nD Cert.QkNormRefIdeal.τ).loc Cert.QkNormRefIdeal.main_arg6) = m' ((c.tc : Thread Cert.QkNormRefIdeal.nD Cert.QkNormRefIdeal.τ).loc Cert.QkNormRefIdeal.main_arg6))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)) →
    ∃ (v0 : (c : Dev Cert.PoolIdeal.nD) → Buf (Elt Ideal) ((c.tc : Thread Cert.PoolIdeal.nD Cert.PoolIdeal.τ).loc Cert.PoolIdeal.main_v153_0)) (v1 : (c : Dev Cert.PoolIdeal.nD) → Buf (Elt Ideal) ((c.tc : Thread Cert.PoolIdeal.nD Cert.PoolIdeal.τ).loc Cert.PoolIdeal.main_v153_1)) (v2 : (c : Dev Cert.PoolIdeal.nD) → Buf (Elt Ideal) ((c.tc : Thread Cert.PoolIdeal.nD Cert.PoolIdeal.τ).loc Cert.PoolIdeal.main_v153_2)) (v3 : (c : Dev Cert.PoolIdeal.nD) → Buf (Elt Ideal) ((c.tc : Thread Cert.PoolIdeal.nD Cert.PoolIdeal.τ).loc Cert.PoolIdeal.main_v153_3)) (v4 : (c : Dev Cert.PoolIdeal.nD) → Buf (Elt Ideal) ((c.tc : Thread Cert.PoolIdeal.nD Cert.PoolIdeal.τ).loc Cert.PoolIdeal.main_v153_4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v153_0) = v0 c
          ∧ r.2.mem ((c.tc : Thread Cert.PoolIdeal.nD Cert.PoolIdeal.τ).loc Cert.PoolIdeal.main_v153_1) = v1 c
          ∧ r.2.mem ((c.tc : Thread Cert.PoolIdeal.nD Cert.PoolIdeal.τ).loc Cert.PoolIdeal.main_v153_2) = v2 c
          ∧ r.2.mem ((c.tc : Thread Cert.PoolIdeal.nD Cert.PoolIdeal.τ).loc Cert.PoolIdeal.main_v153_3) = v3 c
          ∧ r.2.mem ((c.tc : Thread Cert.PoolIdeal.nD Cert.PoolIdeal.τ).loc Cert.PoolIdeal.main_v153_4) = v4 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v243) = v0 c
          ∧ r.2.mem ((c.tc : Thread Cert.PoolRefIdeal.nD Cert.PoolRefIdeal.τ).loc Cert.PoolRefIdeal.main_v244) = v1 c
          ∧ r.2.mem ((c.tc : Thread Cert.PoolRefIdeal.nD Cert.PoolRefIdeal.τ).loc Cert.PoolRefIdeal.main_v245) = v2 c
          ∧ r.2.mem ((c.tc : Thread Cert.PoolRefIdeal.nD Cert.PoolRefIdeal.τ).loc Cert.PoolRefIdeal.main_v246) = v3 c
          ∧ r.2.mem ((c.tc : Thread Cert.PoolRefIdeal.nD Cert.PoolRefIdeal.τ).loc Cert.PoolRefIdeal.main_v247) = v4 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v18)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v18) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v10) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dh_DhIdeal : Prop :=
  True

def algebraic_DhIdeal_DhRefIdeal_pre_dh_finite [hDhIdeal : Cert.DhIdeal.Facts] [hDhRefIdeal : Cert.DhRefIdeal.Facts] [hPre_dh_finite : Cert.Pre_dh_finite.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_dh_finite m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v10_0)) (v1 : (c : Dev Cert.DhIdeal.nD) → Buf (Elt Ideal) ((c.tc : Thread Cert.DhIdeal.nD Cert.DhIdeal.τ).loc Cert.DhIdeal.main_v10_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v10_0) = v0 c
          ∧ r.2.mem ((c.tc : Thread Cert.DhIdeal.nD Cert.DhIdeal.τ).loc Cert.DhIdeal.main_v10_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v38) = v0 c
          ∧ r.2.mem ((c.tc : Thread Cert.DhRefIdeal.nD Cert.DhRefIdeal.τ).loc Cert.DhRefIdeal.main_v39) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Din_DinIdeal : Prop :=
  True

def algebraic_DinIdeal_DinRefIdeal_pre_din_finite [hDinIdeal : Cert.DinIdeal.Facts] [hDinRefIdeal : Cert.DinRefIdeal.Facts] [hPre_din_finite : Cert.Pre_din_finite.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal_din_finite m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)) →
    ∃ (v0 : (c : Dev Cert.DinIdeal.nD) → Buf (Elt Ideal) ((c.tc : Thread Cert.DinIdeal.nD Cert.DinIdeal.τ).loc Cert.DinIdeal.main_v5_0)) (v1 : (c : Dev Cert.DinIdeal.nD) → Buf (Elt Ideal) ((c.tc : Thread Cert.DinIdeal.nD Cert.DinIdeal.τ).loc Cert.DinIdeal.main_v5_1)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v5_0) = v0 c
          ∧ r.2.mem ((c.tc : Thread Cert.DinIdeal.nD Cert.DinIdeal.τ).loc Cert.DinIdeal.main_v5_1) = v1 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v38) = v0 c
          ∧ r.2.mem ((c.tc : Thread Cert.DinRefIdeal.nD Cert.DinRefIdeal.τ).loc Cert.DinRefIdeal.main_v39) = v1 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)
      ∧ m' ((c.tc : Thread Cert.DeltaRefIdeal.nD Cert.DeltaRefIdeal.τ).loc Cert.DeltaRefIdeal.main_arg4) = m ((c.tc : Thread Cert.DeltaIdeal.nD Cert.DeltaIdeal.τ).loc Cert.DeltaIdeal.main_arg4)) →
    ∃ (v0 : (c : Dev Cert.DeltaIdeal.nD) → Buf (Elt Ideal) ((c.tc : Thread Cert.DeltaIdeal.nD Cert.DeltaIdeal.τ).loc Cert.DeltaIdeal.main_v36)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v36) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
          ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v45) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3)
          ∧ r.2.mem ((c.tc : Thread Cert.DeltaRefIdeal.nD Cert.DeltaRefIdeal.τ).loc Cert.DeltaRefIdeal.main_arg4) = m' ((c.tc : Thread Cert.DeltaRefIdeal.nD Cert.DeltaRefIdeal.τ).loc Cert.DeltaRefIdeal.main_arg4))

def preserves_Fwd_FwdIdeal : Prop :=
  IdealRules.named_const.Statement Cert.FwdIdeal.κ "mask" .f32 0xF149F2CA#32 ⊥
  ∧ IdealRules.named_const.Statement Cert.FwdIdeal.κ "log2e" .f32 0x3FB8AA3B#32 (((Real.log 2)⁻¹ : ℝ) : EReal)
  ∧ IdealRules.named_const.Statement Cert.FwdIdeal.κ "ln2" .f32 0x3F317218#32 ((Real.log 2 : ℝ) : EReal)

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v18_0)) (v1 : (c : Dev Cert.FwdIdeal.nD) → Buf (Elt Ideal) ((c.tc : Thread Cert.FwdIdeal.nD Cert.FwdIdeal.τ).loc Cert.FwdIdeal.main_v18_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v18_0) = v0 c
          ∧ r.2.mem ((c.tc : Thread Cert.FwdIdeal.nD Cert.FwdIdeal.τ).loc Cert.FwdIdeal.main_v18_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v35) = v0 c
          ∧ r.2.mem ((c.tc : Thread Cert.FwdRefIdeal.nD Cert.FwdRefIdeal.τ).loc Cert.FwdRefIdeal.main_v36) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def Claim : Prop :=
  ∃ (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hQkNorm : Cert.QkNorm.Facts) (hQkNormIdeal : Cert.QkNormIdeal.Facts) (hQkNormRefIdeal : Cert.QkNormRefIdeal.Facts) (hPool : Cert.Pool.Facts) (hPoolIdeal : Cert.PoolIdeal.Facts) (hPoolRefIdeal : Cert.PoolRefIdeal.Facts) (hDact : Cert.Dact.Facts) (hDactIdeal : Cert.DactIdeal.Facts) (hDactRefIdeal : Cert.DactRefIdeal.Facts) (hDh : Cert.Dh.Facts) (hDhIdeal : Cert.DhIdeal.Facts) (hDhRefIdeal : Cert.DhRefIdeal.Facts) (hDin : Cert.Din.Facts) (hDinIdeal : Cert.DinIdeal.Facts) (hDinRefIdeal : Cert.DinRefIdeal.Facts) (hDelta : Cert.Delta.Facts) (hDeltaIdeal : Cert.DeltaIdeal.Facts) (hDeltaRefIdeal : Cert.DeltaRefIdeal.Facts) (hFwd : Cert.Fwd.Facts) (hFwdIdeal : Cert.FwdIdeal.Facts) (hFwdRefIdeal : Cert.FwdRefIdeal.Facts) (hPre_attn_finite : Cert.Pre_attn_finite.Facts) (hPre_gate_finite : Cert.Pre_gate_finite.Facts) (hPre_qkv_finite : Cert.Pre_qkv_finite.Facts) (hPre_pool_finite : Cert.Pre_pool_finite.Facts) (hPre_dact_finite : Cert.Pre_dact_finite.Facts) (hPre_dh_finite : Cert.Pre_dh_finite.Facts) (hPre_din_finite : Cert.Pre_din_finite.Facts) (hPre_fwd_finite : Cert.Pre_fwd_finite.Facts),
    quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_QkNorm (hQkNorm := hQkNorm)
    ∧ quiescent_QkNormIdeal (hQkNormIdeal := hQkNormIdeal)
    ∧ quiescent_QkNormIdeal_pre_qkv_finite (hQkNormIdeal := hQkNormIdeal) (hPre_qkv_finite := hPre_qkv_finite)
    ∧ quiescent_QkNormRefIdeal (hQkNormRefIdeal := hQkNormRefIdeal)
    ∧ quiescent_QkNormRefIdeal_pre_qkv_finite (hQkNormRefIdeal := hQkNormRefIdeal) (hPre_qkv_finite := hPre_qkv_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Dh (hDh := hDh)
    ∧ quiescent_DhIdeal (hDhIdeal := hDhIdeal)
    ∧ quiescent_DhIdeal_pre_dh_finite (hDhIdeal := hDhIdeal) (hPre_dh_finite := hPre_dh_finite)
    ∧ quiescent_DhRefIdeal (hDhRefIdeal := hDhRefIdeal)
    ∧ quiescent_DhRefIdeal_pre_dh_finite (hDhRefIdeal := hDhRefIdeal) (hPre_dh_finite := hPre_dh_finite)
    ∧ quiescent_Din (hDin := hDin)
    ∧ quiescent_DinIdeal (hDinIdeal := hDinIdeal)
    ∧ quiescent_DinIdeal_pre_din_finite (hDinIdeal := hDinIdeal) (hPre_din_finite := hPre_din_finite)
    ∧ quiescent_DinRefIdeal (hDinRefIdeal := hDinRefIdeal)
    ∧ quiescent_DinRefIdeal_pre_din_finite (hDinRefIdeal := hDinRefIdeal) (hPre_din_finite := hPre_din_finite)
    ∧ quiescent_Delta (hDelta := hDelta)
    ∧ quiescent_DeltaIdeal (hDeltaIdeal := hDeltaIdeal)
    ∧ quiescent_DeltaRefIdeal (hDeltaRefIdeal := hDeltaRefIdeal)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_QkNorm_QkNormIdeal
    ∧ algebraic_QkNormIdeal_QkNormRefIdeal_pre_qkv_finite (hQkNormIdeal := hQkNormIdeal) (hQkNormRefIdeal := hQkNormRefIdeal) (hPre_qkv_finite := hPre_qkv_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Dh_DhIdeal
    ∧ algebraic_DhIdeal_DhRefIdeal_pre_dh_finite (hDhIdeal := hDhIdeal) (hDhRefIdeal := hDhRefIdeal) (hPre_dh_finite := hPre_dh_finite)
    ∧ preserves_Din_DinIdeal
    ∧ algebraic_DinIdeal_DinRefIdeal_pre_din_finite (hDinIdeal := hDinIdeal) (hDinRefIdeal := hDinRefIdeal) (hPre_din_finite := hPre_din_finite)
    ∧ preserves_Delta_DeltaIdeal
    ∧ algebraic_DeltaIdeal_DeltaRefIdeal (hDeltaIdeal := hDeltaIdeal) (hDeltaRefIdeal := hDeltaRefIdeal)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
-- ==== Pre_attn_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  bcast_S_S16x8192 : S_.BroadcastsInDim S16x8192 (![] : Fin 0 → Fin S16x8192.rank)

variable [Facts]

def fn {F : FTy → Type} [FloatOps F] (main_arg0 : FVec F S8192x2048 .f32) (main_arg1 : FVec F S8192x2048 .f32) (main_arg2 : FVec F S8192x2048 .f32) (main_arg3 : FVec F S16x8192 .f32) (main_arg4 : FVec F S8192x2048 .f32) : IVec S8192x2048 1 × IVec S8192x2048 1 × IVec S8192x2048 1 × IVec S16x8192 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_dact_finite.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

class Facts : Prop where
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x5632 .f32) (main_arg1 : FVec F S8192x5632 .f32) (main_arg2 : FVec F S5632x2048 .f32) (main_arg3 : FVec F S8192x2048 .f32) : IVec S8192x5632 1 × IVec S8192x5632 1 × IVec S5632x2048 1 × IVec S8192x2048 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_dh_finite.lean ====
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S2048x11264 : S_.BroadcastsInDim S2048x11264 (![] : Fin 0 → Fin S2048x11264.rank)
  bcast_S_S8192x11264 : S_.BroadcastsInDim S8192x11264 (![] : Fin 0 → Fin S8192x11264.rank)

variable [Facts]

def fn {F : FTy → Type} [FloatOps F] (main_arg0 : FVec F S8192x2048 .f32) (main_arg1 : FVec F S2048 .f32) (main_arg2 : FVec F S2048x11264 .f32) (main_arg3 : FVec F S8192x2048 .f32) (main_arg4 : FVec F S8192x11264 .f32) : IVec S8192x2048 1 × IVec S2048 1 × IVec S2048x11264 1 × IVec S8192x11264 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x11264 .f32 := Host.absf main_arg2
  let main_cst_1 : FVec F S_ .f32 := constant S_ .f32 0x7F800000#32
  let main_v7 : FVec F S2048x11264 .f32 := broadcastInDim S2048x11264 ![] bcast_S_S2048x11264 main_cst_1
  let main_v8 : IVec S2048x11264 1 := cmpf .olt main_v6 main_v7
  let main_v9 : FVec F S8192x11264 .f32 := Host.absf main_arg4
  let main_cst_2 : FVec F S_ .f32 := constant S_ .f32 0x7F800000#32
  let main_v10 : FVec F S8192x11264 .f32 := broadcastInDim S8192x11264 ![] bcast_S_S8192x11264 main_cst_2
  let main_v11 : IVec S8192x11264 1 := cmpf .olt main_v9 main_v10
  (main_v2, main_v5, main_v8, main_v11)
-- ==== Pre_din_finite.lean ====
abbrev S8192x2048 : Shape := ⟨2, ![8192, 2048]⟩
abbrev S2048 : Shape := ⟨1, ![2048]⟩
abbrev S2048x6160 : Shape := ⟨2, ![2048, 6160]⟩
abbrev S8192x6160 : Shape := ⟨2, ![8192, 6160]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S2048x6160 : S_.BroadcastsInDim S2048x6160 (![] : Fin 0 → Fin S2048x6160.rank)
  bcast_S_S8192x6160 : S_.BroadcastsInDim S8192x6160 (![] : Fin 0 → Fin S8192x6160.rank)

variable [Facts]

def fn {F : FTy → Type} [FloatOps F] (main_arg0 : FVec F S8192x2048 .f32) (main_arg1 : FVec F S2048 .f32) (main_arg2 : FVec F S2048x6160 .f32) (main_arg3 : FVec F S8192x2048 .f32) (main_arg4 : FVec F S8192x6160 .f32) : IVec S8192x2048 1 × IVec S2048 1 × IVec S2048x6160 1 × IVec S8192x6160 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x6160 .f32 := Host.absf main_arg2
  let main_cst_1 : FVec F S_ .f32 := constant S_ .f32 0x7F800000#32
  let main_v7 : FVec F S2048x6160 .f32 := broadcastInDim S2048x6160 ![] bcast_S_S2048x6160 main_cst_1
  let main_v8 : IVec S2048x6160 1 := cmpf .olt main_v6 main_v7
  let main_v9 : FVec F S8192x6160 .f32 := Host.absf main_arg4
  let main_cst_2 : FVec F S_ .f32 := constant S_ .f32 0x7F800000#32
  let main_v10 : FVec F S8192x6160 .f32 := broadcastInDim S8192x6160 ![] bcast_S_S8192x6160 main_cst_2
  let main_v11 : IVec S8192x6160 1 := cmpf .olt main_v9 main_v10
  (main_v2, main_v5, main_v8, main_v11)
-- ==== Pre_fwd_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  bcast_S_S16x8192 : S_.BroadcastsInDim S16x8192 (![] : Fin 0 → Fin S16x8192.rank)

variable [Facts]

def fn {F : FTy → Type} [FloatOps F] (main_arg0 : FVec F S8192x2048 .f32) (main_arg1 : FVec F S8192x2048 .f32) (main_arg2 : FVec F S8192x2048 .f32) (main_arg3 : FVec F S16x8192 .f32) : IVec S8192x2048 1 × IVec S8192x2048 1 × IVec S8192x2048 1 × IVec S16x8192 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S16x8192 .f32 := Host.absf main_arg3
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  (main_v2, main_v5, main_v8, main_v11)
-- ==== Pre_gate_finite.lean ====
abbrev S8192x16 : Shape := ⟨2, ![8192, 16]⟩
abbrev S16 : Shape := ⟨1, ![16]⟩
abbrev S16x8192 : Shape := ⟨2, ![16, 8192]⟩
abbrev S_ : Shape := ⟨0, ![]⟩

class Facts : Prop where
  bcast_S_S16x8192 : S_.BroadcastsInDim S16x8192 (![] : Fin 0 → Fin S16x8192.rank)

variable [Facts]

def fn {F : FTy → Type} [FloatOps F] (main_arg0 : FVec F S8192x16 .f32) (main_arg1 : FVec F S16 .f32) (main_arg2 : FVec F S16x8192 .f32) (main_arg3 : FVec F S16x8192 .f32) : IVec S16x8192 1 × IVec S16x8192 1 :=
  let main_v0 : FVec F S16x8192 .f32 := Host.absf main_arg2
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_v3 : FVec F S16x8192 .f32 := Host.absf main_arg3
  let main_cst_0 : FVec F S_ .f32 := constant S_ .f32 0x7F800000#32
  let main_v4 : FVec F S16x8192 .f32 := broadcastInDim S16x8192 ![] bcast_S_S16x8192 main_cst_0
  let main_v5 : IVec S16x8192 1 := cmpf .olt main_v3 main_v4
  (main_v2, main_v5)
-- ==== Pre_pool_finite.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S_S4x512x512 : S_.BroadcastsInDim S4x512x512 (![] : Fin 0 → Fin S4x512x512.rank)

variable [Facts]

def fn {F : FTy → Type} [FloatOps F] (main_arg0 : FVec F S8192x2048 .f32) (main_arg1 : FVec F S2048 .f32) (main_arg2 : FVec F S4x512x512 .f32) (main_arg3 : FVec F S2048 .f32) (main_arg4 : FVec F S2048 .f32) (main_arg5 : FVec F S8192x2048 .f32) : IVec S8192x2048 1 × IVec S2048 1 × IVec S4x512x512 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4x512x512 .f32 := Host.absf main_arg2
  let main_cst_1 : FVec F S_ .f32 := constant S_ .f32 0x7F800000#32
  let main_v7 : FVec F S4x512x512 .f32 := broadcastInDim S4x512x512 ![] bcast_S_S4x512x512 main_cst_1
  let main_v8 : IVec S4x512x512 1 := cmpf .olt main_v6 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8192x2048 .f32 := Host.absf main_arg5
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_qkv_finite.lean ====
abbrev S8192x6160 : Shape := ⟨2, ![8192, 6160]⟩
abbrev S128 : Shape := ⟨1, ![128]⟩
abbrev S8192x2048 : Shape := ⟨2, ![8192, 2048]⟩
abbrev S8192x16 : Shape := ⟨2, ![8192, 16]⟩
abbrev S_ : Shape := ⟨0, ![]⟩

class Facts : Prop where
  bcast_S_S8192x6160 : S_.BroadcastsInDim S8192x6160 (![] : Fin 0 → Fin S8192x6160.rank)
  bcast_S_S128 : S_.BroadcastsInDim S128 (![] : Fin 0 → Fin S128.rank)
  bcast_S_S8192x2048 : S_.BroadcastsInDim S8192x2048 (![] : Fin 0 → Fin S8192x2048.rank)

variable [Facts]

def fn {F : FTy → Type} [FloatOps F] (main_arg0 : FVec F S8192x6160 .f32) (main_arg1 : FVec F S128 .f32) (main_arg2 : FVec F S128 .f32) (main_arg3 : FVec F S8192x2048 .f32) (main_arg4 : FVec F S8192x2048 .f32) (main_arg5 : FVec F S8192x2048 .f32) (main_arg6 : FVec F S8192x16 .f32) : IVec S8192x6160 1 × IVec S128 1 × IVec S128 1 × IVec S8192x2048 1 × IVec S8192x2048 1 :=
  let main_v0 : FVec F S8192x6160 .f32 := Host.absf main_arg0
  let main_cst : FVec F S_ .f32 := constant S_ .f32 0x7F800000#32
  let main_v1 : FVec F S8192x6160 .f32 := broadcastInDim S8192x6160 ![] bcast_S_S8192x6160 main_cst
  let main_v2 : IVec S8192x6160 1 := cmpf .olt main_v0 main_v1
  let main_v3 : FVec F S128 .f32 := Host.absf main_arg1
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Loss.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S_, .f32⟩
  | .hbm, ⟨27, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Attn.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S8192x16 : Shape := ⟨2, ![8192, 16]⟩
abbrev S8192x256 : Shape := ⟨2, ![8192, 256]⟩
abbrev S2x1x8192 : Shape := ⟨3, ![2, 1, 8192]⟩
abbrev S512x256 : Shape := ⟨2, ![512, 256]⟩
abbrev S2x512x1 : Shape := ⟨3, ![2, 512, 1]⟩
abbrev S512x128 : Shape := ⟨2, ![512, 128]⟩
abbrev S1x1x512 : Shape := ⟨3, ![1, 1, 512]⟩
abbrev S1x512 : Shape := ⟨2, ![1, 512]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 83
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x128x8192, .f32⟩
  | .hbm, ⟨42, _⟩ => ⟨S8192x16x128, .f32⟩
  | .hbm, ⟨43, _⟩ => ⟨S16x8192x1, .f32⟩
  | .hbm, ⟨44, _⟩ => ⟨S16x8192x1, .f32⟩
  | .hbm, ⟨45, _⟩ => ⟨S16x8192, .f32⟩
  | .hbm, ⟨46, _⟩ => ⟨S8192x16x128, .f32⟩
  | .hbm, ⟨47, _⟩ => ⟨S8192x16x128, .f32⟩
  | .hbm, ⟨48, _⟩ => ⟨S_, .f32⟩
  | .hbm, ⟨49, _⟩ => ⟨S8192x16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .bf16⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .bf16⟩
  | .hbm, ⟨68, _⟩ => ⟨S8192x2048, .bf16⟩
  | .hbm, ⟨69, _⟩ => ⟨S8192x2048, .bf16⟩
  | .hbm, ⟨70, _⟩ => ⟨S16x1x8192, .f32⟩
  | .hbm, ⟨71, _⟩ => ⟨S16x1x8192, .f32⟩
  | .hbm, ⟨72, _⟩ => ⟨S16x8192, .f32⟩
  | .hbm, ⟨73, _⟩ => ⟨S16x1x8192, .f32⟩
  | .hbm, ⟨74, _⟩ => ⟨S16x8192x1, .f32⟩
  | .hbm, ⟨75, _⟩ => ⟨S8192x2048, .f32⟩
  | .hbm, ⟨76, _⟩ => ⟨S8192x2048, .f32⟩
  | .hbm, ⟨77, _⟩ => ⟨S8192x2048, .bf16⟩
  | .hbm, ⟨78, _⟩ => ⟨S16x8192x1, .f32⟩
  | .hbm, ⟨79, _⟩ => ⟨S16x1x8192, .f32⟩
  | .hbm, ⟨80, _⟩ => ⟨S16x8192, .f32⟩
  | .hbm, ⟨81, _⟩ => ⟨S16x8192, .f32⟩
  | .hbm, ⟨82, _⟩ => ⟨S16x8192, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S2x1x8192, .f32⟩
  | .local _ .vmem, ⟨5, _⟩ => ⟨S2x1x8192, .f32⟩
  | .local _ .vmem, ⟨6, _⟩ => ⟨S2x1x8192, .f32⟩
  | .local _ .vmem, ⟨7, _⟩ => ⟨S2x1x8192, .f32⟩
  | .local _ .vmem, ⟨8, _⟩ => ⟨S2x1x8192, .f32⟩
  | .local _ .vmem, ⟨9, _⟩ => ⟨S2x1x8192, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S2x512x1, .f32⟩
  | .local _ .vmem, ⟨15, _⟩ => ⟨S2x512x1, .f32⟩
  | .local _ .vmem, ⟨16, _⟩ => ⟨S8192x256, .f32⟩
  | .local _ .vmem, ⟨17, _⟩ => ⟨S8192x256, .f32⟩
  | .local _ .vmem, ⟨18, _⟩ => ⟨S512x256, .f32⟩
  | .local _ .vmem, ⟨19, _⟩ => ⟨S512x256, .f32⟩
  | .local _ .vmem, ⟨20, _⟩ => ⟨S512x256, .bf16⟩
  | .local _ .vmem, ⟨21, _⟩ => ⟨S512x256, .bf16⟩
  | .local _ .vmem, ⟨22, _⟩ => ⟨S2x512x1, .f32⟩
  | .local _ .vmem, ⟨23, _⟩ => ⟨S2x512x1, .f32⟩
  | .local _ .vmem, ⟨24, _⟩ => ⟨S2x1x8192, .f32⟩
  | .local _ .vmem, ⟨25, _⟩ => ⟨S2x1x8192, .f32⟩
  | .local _ .vmem, ⟨26, _⟩ => ⟨S512x256, .f32⟩
  | .local _ .vmem, ⟨27, _⟩ => ⟨S512x256, .f32⟩
  | .local _ .vmem, ⟨28, _⟩ => ⟨S2x512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev main_v58_2 : Ref sig .tc := ⟨.hbm, 77, rfl⟩
abbrev main_v58_3 : Ref sig .tc := ⟨.hbm, 78, rfl⟩
abbrev main_v58_4 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v19 : Index := Scalar.indexCast v16
  let c0_11 : Index := 0#32
  ![v19.toNat, 0]
def k0_off2 (i : grid0.Coords) : Fin 3 → Nat :=
  let c0_13 : Index := 0#32
  let c0_14 : Index := 0#32
  let arg1 : BitVec 32 := BitVec.ofNat 32 (i 1).val
  let c512_i32 : BitVec 32 := 512#32
  let v15 : BitVec 32 := Scalar.muli arg1 c512_i32
  let v16 : BitVec 32 := v15
  let v25 : Index := Scalar.indexCast v16
  ![0, 0, v25.toNat]
def k0_off3 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v99 : Index := Scalar.indexCast v16
  let c128_55 : Index := 128#32
  ![v99.toNat, 128]
def k0_off4 (i : grid0.Coords) : Fin 3 → Nat :=
  let c1 : Index := 1#32
  let c0_57 : Index := 0#32
  let arg1 : BitVec 32 := BitVec.ofNat 32 (i 1).val
  let c512_i32 : BitVec 32 := 512#32
  let v15 : BitVec 32 := Scalar.muli arg1 c512_i32
  let v16 : BitVec 32 := v15
  let v105 : Index := Scalar.indexCast v16
  ![1, 0, v105.toNat]
@[reducible] def k0_t1_loop (i : grid0.Coords) : Scf.Loop 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_99 : BitVec 32 := 1#32
  ⟨v177, v182, c1_i32_99⟩
def k0_mult2 (i : grid0.Coords) (k0_t1 : Fin (k0_t1_loop i).trips) : BitVec 32 :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  v194
def k0_off5 (i : grid0.Coords) (k0_t1 : Fin (k0_t1_loop i).trips) : Fin 2 → Nat :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v198 : Index := Scalar.indexCast v195
  let c0_120 : Index := 0#32
  ![v198.toNat, 0]
def k0_off6 (i : grid0.Coords) (k0_t1 : Fin (k0_t1_loop i).trips) : Fin 3 → Nat :=
  let c0_122 : Index := 0#32
  let c0_123 : Index := 0#32
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v204 : Index := Scalar.indexCast v195
  ![0, 0, v204.toNat]
def k0_off7 (i : grid0.Coords) (k0_t1 : Fin (k0_t1_loop i).trips) : Fin 2 → Nat :=
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v273 : Index := Scalar.indexCast v195
  let c128_164 : Index := 128#32
  ![v273.toNat, 128]
def k0_off8 (i : grid0.Coords) (k0_t1 : Fin (k0_t1_loop i).trips) : Fin 3 → Nat :=
  let c1_166 : Index := 1#32
  let c0_167 : Index := 0#32
  let arg1 : BitVec 32 := BitVec.ofNat 32 (i 1).val
  let c1_i32 : BitVec 32 := 1#32
  let v177 : BitVec 32 := Scalar.addi arg1 c1_i32
  let c1_i32_99 : BitVec 32 := 1#32
  let arg18 : BitVec 32 := Scf.iv v177 c1_i32_99 k0_t1
  let c512_i32_117 : BitVec 32 := 512#32
  let v194 : BitVec 32 := Scalar.muli arg18 c512_i32_117
  let v195 : BitVec 32 := v194
  let v279 : Index := Scalar.indexCast v195
  ![1, 0, v279.toNat]
@[reducible] def k0_t2_loop (i : grid0.Coords) : Scf.Loop 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let v179 : BitVec 32 := Scalar.addi v177 v178
  let c1_i32_100 : BitVec 32 := 1#32
  ⟨v182, v179, c1_i32_100⟩
def k0_mult3 (i : grid0.Coords) (k0_t2 : Fin (k0_t2_loop i).trips) : BitVec 32 :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  v194
def k0_off9 (i : grid0.Coords) (k0_t2 : Fin (k0_t2_loop i).trips) : Fin 2 → Nat :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v198 : Index := Scalar.indexCast v195
  let c0_120 : Index := 0#32
  ![v198.toNat, 0]
def k0_off10 (i : grid0.Coords) (k0_t2 : Fin (k0_t2_loop i).trips) : Fin 3 → Nat :=
  let c0_122 : Index := 0#32
  let c0_123 : Index := 0#32
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v204 : Index := Scalar.indexCast v195
  ![0, 0, v204.toNat]
def k0_off11 (i : grid0.Coords) (k0_t2 : Fin (k0_t2_loop i).trips) : Fin 2 → Nat :=
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v273 : Index := Scalar.indexCast v195
  let c128_164 : Index := 128#32
  ![v273.toNat, 128]
def k0_off12 (i : grid0.Coords) (k0_t2 : Fin (k0_t2_loop i).trips) : Fin 3 → Nat :=
  let c1_166 : Index := 1#32
  let c0_167 : Index := 0#32
  let arg1 : BitVec 32 := BitVec.ofNat 32 (i 1).val
  let c1_i32 : BitVec 32 := 1#32
  let v177 : BitVec 32 := Scalar.addi arg1 c1_i32
  let c16_i32 : BitVec 32 := 16#32
  let v178 : BitVec 32 := Scalar.subi c16_i32 v177
  let c1_i32_98 : BitVec 32 := 1#32
  let v180 : BitVec 32 := Scalar.divsi v178 c1_i32_98
  let v181 : BitVec 32 := Scalar.muli v180 c1_i32_98
  let v182 : BitVec 32 := Scalar.addi v177 v181
  let c1_i32_100 : BitVec 32 := 1#32
  let arg18 : BitVec 32 := Scf.iv v182 c1_i32_100 k0_t2
  let c512_i32_117 : BitVec 32 := 512#32
  let v194 : BitVec 32 := Scalar.muli arg18 c512_i32_117
  let v195 : BitVec 32 := v194
  let v279 : Index := Scalar.indexCast v195
  ![1, 0, v279.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AttnIdeal.lean ====
variable {F : FTy → Type} [FloatOps F] [Named F]
def κ : String → Option EReal := fun
  | "ln2" => some ((Real.log 2 : ℝ) : EReal)
  | "mask" => some ⊥
  | "unfold" => some ((Real.sqrt ((Real.sqrt 128)⁻¹ * (Real.log 2)) : ℝ) : EReal)
  | _ => none
-- ==== AttnRefIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S16x8192x128 : Shape := ⟨3, ![16, 8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x128x8192, .f32⟩
  | .hbm, ⟨71, _⟩ => ⟨S8192x16x128, .f32⟩
  | .hbm, ⟨72, _⟩ => ⟨S8192x2048, .f32⟩
  | .hbm, ⟨73, _⟩ => ⟨S8192x16x128, .f32⟩
  | .hbm, ⟨74, _⟩ => ⟨S16x128x8192, .f32⟩
  | .hbm, ⟨75, _⟩ => ⟨S16x8192x8192, .f32⟩
  | .hbm, ⟨76, _⟩ => ⟨S16x128x8192, .f32⟩
  | .hbm, ⟨77, _⟩ => ⟨S8192x16x128, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x8192x1, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x1x8192, .f32⟩
  | .hbm, ⟨102, _⟩ => ⟨S_, .f32⟩
  | .hbm, ⟨103, _⟩ => ⟨S16x8192, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S16x8192x8192, .f32⟩
  | .hbm, ⟨108, _⟩ => ⟨S16x8192x8192, .f32⟩
  | .hbm, ⟨109, _⟩ => ⟨S16x8192x128, .f32⟩
  | .hbm, ⟨110, _⟩ => ⟨S8192x16x128, .f32⟩
  | .hbm, ⟨111, _⟩ => ⟨S16x8192x128, .f32⟩
  | .hbm, ⟨112, _⟩ => ⟨S8192x16x128, .f32⟩
  | .hbm, ⟨113, _⟩ => ⟨S8192x2048, .f32⟩
  | .hbm, ⟨114, _⟩ => ⟨S8192x2048, .f32⟩
  | .hbm, ⟨115, _⟩ => ⟨S8192x2048, .f32⟩
  | .hbm, ⟨116, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩

abbrev nD : Nat := 1
abbrev τ : Topo := Topo.v7x

variable {F : FTy → Type} [FloatOps F]
-- ==== Gate.lean ====
abbrev S8192x16 : Shape := ⟨2, ![8192, 16]⟩
abbrev S16 : Shape := ⟨1, ![16]⟩
abbrev S16x8192 : Shape := ⟨2, ![16, 8192]⟩
abbrev S_ : Shape := ⟨0, ![]⟩
abbrev S8192x128 : Shape := ⟨2, ![8192, 128]⟩
abbrev S128 : Shape := ⟨1, ![128]⟩
abbrev S1x128 : Shape := ⟨2, ![1, 128]⟩
abbrev S256x128 : Shape := ⟨2, ![256, 128]⟩
abbrev S256x256 : Shape := ⟨2, ![256, 256]⟩

abbrev nBuf : Space → Nat
  | .hbm => 21
  | .vmem => 12
  | .smem => 0
  | _ => 0

abbrev bufTy : (tb : Table) → Fin (tcTables nBuf tb) → BufTy
  | .hbm, ⟨0, _⟩ => ⟨S8192x16, .f32⟩
  | .hbm, ⟨1, _⟩ => ⟨S16, .f32⟩
  | .hbm, ⟨2, _⟩ => ⟨S16x8192, .f32⟩
  | .hbm, ⟨3, _⟩ => ⟨S16x8192, .f32⟩
  | .hbm, ⟨4, _⟩ => ⟨S8192x16, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S8192x16, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S8192x128, .bf16⟩
  | .hbm, ⟨20, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | .local _ .vmem, ⟨9, _⟩ => ⟨S1x128, .f32⟩
  | .local _ .vmem, ⟨10, _⟩ => ⟨S1x128, .f32⟩
  | .local _ .vmem, ⟨11, _⟩ => ⟨S256x128, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_25 : BitVec 32 := 0#32
  let v56 : BitVec 1 := Scalar.cmpi .eq arg0 c0_i32_25
  let v57 : BitVec 32 := Scalar.extui v56
  let c0_i32_26 : BitVec 32 := 0#32
  let v58 : BitVec 1 := Scalar.cmpi .ne v57 c0_i32_26
  v58

def k0_cond3 (i : grid0.Coords) : BitVec 1 :=
  let arg0 : BitVec 32 := BitVec.ofNat 32 (i 0).val
  let c0_i32_27 : BitVec 32 := 0#32
  let v59 : BitVec 1 := Scalar.cmpi .sgt arg0 c0_i32_27
  let v60 : BitVec 32 := Scalar.extui v59
  let c0_i32_28 : BitVec 32 := 0#32
  let v61 : BitVec 1 := Scalar.cmpi .ne v60 c0_i32_28
  v61

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateRefIdeal.lean ====
abbrev S8192x16 : Shape := ⟨2, ![8192, 16]⟩
abbrev S16 : Shape := ⟨1, ![16]⟩
abbrev S16x8192 : Shape := ⟨2, ![16, 8192]⟩
abbrev S1x16 : Shape := ⟨2, ![1, 16]⟩
abbrev S_ : Shape := ⟨0, ![]⟩
abbrev S8192x128 : Shape := ⟨2, ![8192, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S16, .f32⟩
  | .hbm, ⟨2, _⟩ => ⟨S16x8192, .f32⟩
  | .hbm, ⟨3, _⟩ => ⟨S16x8192, .f32⟩
  | .hbm, ⟨4, _⟩ => ⟨S1x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S_, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S8192x16, .i1⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x16, .f32⟩
  | .hbm, ⟨24, _⟩ => ⟨S8192x16, .i1⟩
  | .hbm, ⟨25, _⟩ => ⟨S_, .f32⟩
  | .hbm, ⟨26, _⟩ => ⟨S8192x16, .f32⟩
  | .hbm, ⟨27, _⟩ => ⟨S8192x16, .f32⟩
  | .hbm, ⟨28, _⟩ => ⟨S_, .f32⟩
  | .hbm, ⟨29, _⟩ => ⟨S8192x16, .f32⟩
  | .hbm, ⟨30, _⟩ => ⟨S8192x16, .i1⟩
  | .hbm, ⟨31, _⟩ => ⟨S_, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x16, .f32⟩
  | .hbm, ⟨44, _⟩ => ⟨S8192x16, .i1⟩
  | .hbm, ⟨45, _⟩ => ⟨S_, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S_, .f32⟩
  | .hbm, ⟨52, _⟩ => ⟨S8192x16, .f32⟩
  | .hbm, ⟨53, _⟩ => ⟨S8192x16, .f32⟩
  | .hbm, ⟨54, _⟩ => ⟨S8192x16, .f32⟩
  | .hbm, ⟨55, _⟩ => ⟨S_, .f32⟩
  | .hbm, ⟨56, _⟩ => ⟨S_, .f32⟩
  | .hbm, ⟨57, _⟩ => ⟨S8192x16, .f32⟩
  | .hbm, ⟨58, _⟩ => ⟨S16x8192, .f32⟩
  | .hbm, ⟨59, _⟩ => ⟨S16x8192, .f32⟩
  | .hbm, ⟨60, _⟩ => ⟨S8192x16, .f32⟩
  | .hbm, ⟨61, _⟩ => ⟨S_, .f32⟩
  | .hbm, ⟨62, _⟩ => ⟨S_, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S16, .f32⟩
  | .hbm, ⟨69, _⟩ => ⟨S1x16, .f32⟩
  | .hbm, ⟨70, _⟩ => ⟨S_, .f32⟩
  | .hbm, ⟨71, _⟩ => ⟨S16, .f32⟩
  | .hbm, ⟨72, _⟩ => ⟨S_, .i32⟩
  | .hbm, ⟨73, _⟩ => ⟨S_, .f32⟩
  | .hbm, ⟨74, _⟩ => ⟨S8192x128, .f32⟩
  | .hbm, ⟨75, _⟩ => ⟨S8192x128, .bf16⟩
  | .hbm, ⟨76, _⟩ => ⟨S1x16, .f32⟩
  | .hbm, ⟨77, _⟩ => ⟨S_, .i32⟩
  | .hbm, ⟨78, _⟩ => ⟨S_, .f32⟩
  | .hbm, ⟨79, _⟩ => ⟨S1x128, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_c : Ref sig .tc := ⟨.hbm, 72, rfl⟩
abbrev main_call4_v0 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_c_1 : Ref sig .tc := ⟨.hbm, 77, rfl⟩
abbrev main_call5_v0 : Ref sig .tc := ⟨.hbm, 78, rfl⟩
abbrev main_v16 : Ref sig .tc := ⟨.hbm, 79, rfl⟩

abbrev nD : Nat := 1
abbrev τ : Topo := Topo.v7x

variable {F : FTy → Type} [FloatOps F]
-- ==== QkNorm.lean ====
abbrev S8192x6160 : Shape := ⟨2, ![8192, 6160]⟩
abbrev S128 : Shape := ⟨1, ![128]⟩
abbrev S8192x2048 : Shape := ⟨2, ![8192, 2048]⟩
abbrev S8192x16 : Shape := ⟨2, ![8192, 16]⟩
abbrev S_ : Shape := ⟨0, ![]⟩
abbrev S8192x6272 : Shape := ⟨2, ![8192, 6272]⟩
abbrev S8192x128 : Shape := ⟨2, ![8192, 128]⟩
abbrev S1x128 : Shape := ⟨2, ![1, 128]⟩
abbrev S256x2048 : Shape := ⟨2, ![256, 2048]⟩
abbrev S256x128 : Shape := ⟨2, ![256, 128]⟩
abbrev S256x6272 : Shape := ⟨2, ![256, 6272]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S8192x6160, .f32⟩
  | .hbm, ⟨1, _⟩ => ⟨S128, .f32⟩
  | .hbm, ⟨2, _⟩ => ⟨S128, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16, .f32⟩
  | .hbm, ⟨7, _⟩ => ⟨S_, .i32⟩
  | .hbm, ⟨8, _⟩ => ⟨S_, .f32⟩
  | .hbm, ⟨9, _⟩ => ⟨S8192x6272, .f32⟩
  | .hbm, ⟨10, _⟩ => ⟨S8192x2048, .bf16⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x128, .bf16⟩
  | .hbm, ⟨15, _⟩ => ⟨S1x128, .f32⟩
  | .hbm, ⟨16, _⟩ => ⟨S1x128, .f32⟩
  | .hbm, ⟨17, _⟩ => ⟨S8192x6272, .bf16⟩
  | .hbm, ⟨18, _⟩ => ⟨S1x128, .f32⟩
  | .hbm, ⟨19, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x128, .bf16⟩
  | .local _ .vmem, ⟨11, _⟩ => ⟨S256x128, .bf16⟩
  | .local _ .vmem, ⟨12, _⟩ => ⟨S1x128, .f32⟩
  | .local _ .vmem, ⟨13, _⟩ => ⟨S1x128, .f32⟩
  | .local _ .vmem, ⟨14, _⟩ => ⟨S256x6272, .bf16⟩
  | .local _ .vmem, ⟨15, _⟩ => ⟨S256x6272, .bf16⟩
  | .local _ .vmem, ⟨16, _⟩ => ⟨S1x128, .f32⟩
  | .local _ .vmem, ⟨17, _⟩ => ⟨S1x128, .f32⟩
  | _, _ => ⟨S8192x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v1064 : BitVec 1 := Scalar.cmpi .eq arg0 c0_i32
  let v1065 : BitVec 32 := Scalar.extui v1064
  let c0_i32_423 : BitVec 32 := 0#32
  let v1066 : BitVec 1 := Scalar.cmpi .ne v1065 c0_i32_423
  v1066

def k0_cond2 (i : grid0.Coords) : BitVec 1 :=
  let arg0 : BitVec 32 := BitVec.ofNat 32 (i 0).val
  let c0_i32_424 : BitVec 32 := 0#32
  let v1067 : BitVec 1 := Scalar.cmpi .sgt arg0 c0_i32_424
  let v1068 : BitVec 32 := Scalar.extui v1067
  let c0_i32_425 : BitVec 32 := 0#32
  let v1069 : BitVec 1 := Scalar.cmpi .ne v1068 c0_i32_425
  v1069

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6272 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== QkNormRefIdeal.lean ====
abbrev S8192x6160 : Shape := ⟨2, ![8192, 6160]⟩
abbrev S128 : Shape := ⟨1, ![128]⟩
abbrev S8192x2048 : Shape := ⟨2, ![8192, 2048]⟩
abbrev S8192x16 : Shape := ⟨2, ![8192, 16]⟩
abbrev S8192x16x128 : Shape := ⟨3, ![8192, 16, 128]⟩
abbrev S_ : Shape := ⟨0, ![]⟩
abbrev S8192x16x1 : Shape := ⟨3, ![8192, 16, 1]⟩
abbrev S1x1x128 : Shape := ⟨3, ![1, 1, 128]⟩
abbrev S8192x6272 : Shape := ⟨2, ![8192, 6272]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x6160, .f32⟩
  | .hbm, ⟨1, _⟩ => ⟨S128, .f32⟩
  | .hbm, ⟨2, _⟩ => ⟨S128, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16, .f32⟩
  | .hbm, ⟨7, _⟩ => ⟨S8192x2048, .f32⟩
  | .hbm, ⟨8, _⟩ => ⟨S8192x16x128, .f32⟩
  | .hbm, ⟨9, _⟩ => ⟨S8192x2048, .f32⟩
  | .hbm, ⟨10, _⟩ => ⟨S8192x16x128, .f32⟩
  | .hbm, ⟨11, _⟩ => ⟨S8192x2048, .f32⟩
  | .hbm, ⟨12, _⟩ => ⟨S8192x16, .f32⟩
  | .hbm, ⟨13, _⟩ => ⟨S8192x16x128, .f32⟩
  | .hbm, ⟨14, _⟩ => ⟨S_, .f32⟩
  | .hbm, ⟨15, _⟩ => ⟨S8192x16, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S_, .f32⟩
  | .hbm, ⟨21, _⟩ => ⟨S8192x16x1, .f32⟩
  | .hbm, ⟨22, _⟩ => ⟨S8192x16x1, .f32⟩
  | .hbm, ⟨23, _⟩ => ⟨S8192x16x1, .f32⟩
  | .hbm, ⟨24, _⟩ => ⟨S8192x16x1, .f32⟩
  | .hbm, ⟨25, _⟩ => ⟨S_, .f32⟩
  | .hbm, ⟨26, _⟩ => ⟨S8192x16x1, .f32⟩
  | .hbm, ⟨27, _⟩ => ⟨S8192x16x1, .f32⟩
  | .hbm, ⟨28, _⟩ => ⟨S8192x16x128, .f32⟩
  | .hbm, ⟨29, _⟩ => ⟨S8192x16x128, .f32⟩
  | .hbm, ⟨30, _⟩ => ⟨S1x1x128, .f32⟩
  | .hbm, ⟨31, _⟩ => ⟨S8192x16x128, .f32⟩
  | .hbm, ⟨32, _⟩ => ⟨S8192x16x128, .f32⟩
  | .hbm, ⟨33, _⟩ => ⟨S8192x2048, .f32⟩
  | .hbm, ⟨34, _⟩ => ⟨S8192x16x128, .f32⟩
  | .hbm, ⟨35, _⟩ => ⟨S_, .f32⟩
  | .hbm, ⟨36, _⟩ => ⟨S8192x16, .f32⟩
  | .hbm, ⟨37, _⟩ => ⟨S8192x16x1, .f32⟩
  | .hbm, ⟨38, _⟩ => ⟨S_, .f32⟩
  | .hbm, ⟨39, _⟩ => ⟨S8192x16x1, .f32⟩
  | .hbm, ⟨40, _⟩ => ⟨S8192x16x1, .f32⟩
  | .hbm, ⟨41, _⟩ => ⟨S_, .f32⟩
  | .hbm, ⟨42, _⟩ => ⟨S8192x16x1, .f32⟩
  | .hbm, ⟨43, _⟩ => ⟨S8192x16x1, .f32⟩
  | .hbm, ⟨44, _⟩ => ⟨S8192x16x1, .f32⟩
  | .hbm, ⟨45, _⟩ => ⟨S8192x16x1, .f32⟩
  | .hbm, ⟨46, _⟩ => ⟨S_, .f32⟩
  | .hbm, ⟨47, _⟩ => ⟨S8192x16x1, .f32⟩
  | .hbm, ⟨48, _⟩ => ⟨S8192x16x1, .f32⟩
  | .hbm, ⟨49, _⟩ => ⟨S8192x16x128, .f32⟩
  | .hbm, ⟨50, _⟩ => ⟨S8192x16x128, .f32⟩
  | .hbm, ⟨51, _⟩ => ⟨S1x1x128, .f32⟩
  | .hbm, ⟨52, _⟩ => ⟨S8192x16x128, .f32⟩
  | .hbm, ⟨53, _⟩ => ⟨S8192x16x128, .f32⟩
  | .hbm, ⟨54, _⟩ => ⟨S8192x2048, .f32⟩
  | .hbm, ⟨55, _⟩ => ⟨S8192x16x128, .f32⟩
  | .hbm, ⟨56, _⟩ => ⟨S8192x16x128, .f32⟩
  | .hbm, ⟨57, _⟩ => ⟨S_, .f32⟩
  | .hbm, ⟨58, _⟩ => ⟨S128, .f32⟩
  | .hbm, ⟨59, _⟩ => ⟨S1x1x128, .f32⟩
  | .hbm, ⟨60, _⟩ => ⟨S8192x16x128, .f32⟩
  | .hbm, ⟨61, _⟩ => ⟨S8192x16x128, .f32⟩
  | .hbm, ⟨62, _⟩ => ⟨S_, .f32⟩
  | .hbm, ⟨63, _⟩ => ⟨S128, .f32⟩
  | .hbm, ⟨64, _⟩ => ⟨S8192x16x128, .f32⟩
  | .hbm, ⟨65, _⟩ => ⟨S_, .f32⟩
  | .hbm, ⟨66, _⟩ => ⟨S8192x16, .f32⟩
  | .hbm, ⟨67, _⟩ => ⟨S8192x16x1, .f32⟩
  | .hbm, ⟨68, _⟩ => ⟨S8192x16x128, .f32⟩
  | .hbm, ⟨69, _⟩ => ⟨S8192x16x128, .f32⟩
  | .hbm, ⟨70, _⟩ => ⟨S8192x16x1, .f32⟩
  | .hbm, ⟨71, _⟩ => ⟨S_, .f32⟩
  | .hbm, ⟨72, _⟩ => ⟨S8192x16x1, .f32⟩
  | .hbm, ⟨73, _⟩ => ⟨S8192x16x1, .f32⟩
  | .hbm, ⟨74, _⟩ => ⟨S_, .f32⟩
  | .hbm, ⟨75, _⟩ => ⟨S8192x16, .f32⟩
  | .hbm, ⟨76, _⟩ => ⟨S8192x16x128, .f32⟩
  | .hbm, ⟨77, _⟩ => ⟨S8192x16x128, .f32⟩
  | .hbm, ⟨78, _⟩ => ⟨S8192x16x128, .f32⟩
  | .hbm, ⟨79, _⟩ => ⟨S8192x16x128, .f32⟩
  | .hbm, ⟨80, _⟩ => ⟨S8192x16x128, .f32⟩
  | .hbm, ⟨81, _⟩ => ⟨S8192x16x128, .f32⟩
  | .hbm, ⟨82, _⟩ => ⟨S8192x16x128, .f32⟩
  | .hbm, ⟨83, _⟩ => ⟨S_, .f32⟩
  | .hbm, ⟨84, _⟩ => ⟨S128, .f32⟩
  | .hbm, ⟨85, _⟩ => ⟨S1x1x128, .f32⟩
  | .hbm, ⟨86, _⟩ => ⟨S8192x16x128, .f32⟩
  | .hbm, ⟨87, _⟩ => ⟨S8192x16x128, .f32⟩
  | .hbm, ⟨88, _⟩ => ⟨S_, .f32⟩
  | .hbm, ⟨89, _⟩ => ⟨S128, .f32⟩
  | .hbm, ⟨90, _⟩ => ⟨S8192x16x128, .f32⟩
  | .hbm, ⟨91, _⟩ => ⟨S_, .f32⟩
  | .hbm, ⟨92, _⟩ => ⟨S8192x16, .f32⟩
  | .hbm, ⟨93, _⟩ => ⟨S8192x16x1, .f32⟩
  | .hbm, ⟨94, _⟩ => ⟨S8192x16x128, .f32⟩
  | .hbm, ⟨95, _⟩ => ⟨S8192x16x128, .f32⟩
  | .hbm, ⟨96, _⟩ => ⟨S8192x16x1, .f32⟩
  | .hbm, ⟨97, _⟩ => ⟨S_, .f32⟩
  | .hbm, ⟨98, _⟩ => ⟨S8192x16x1, .f32⟩
  | .hbm, ⟨99, _⟩ => ⟨S8192x16x1, .f32⟩
  | .hbm, ⟨100, _⟩ => ⟨S_, .f32⟩
  | .hbm, ⟨101, _⟩ => ⟨S8192x16, .f32⟩
  | .hbm, ⟨102, _⟩ => ⟨S8192x16x128, .f32⟩
  | .hbm, ⟨103, _⟩ => ⟨S8192x16x128, .f32⟩
  | .hbm, ⟨104, _⟩ => ⟨S8192x16x128, .f32⟩
  | .hbm, ⟨105, _⟩ => ⟨S8192x16x128, .f32⟩
  | .hbm, ⟨106, _⟩ => ⟨S8192x16x128, .f32⟩
  | .hbm, ⟨107, _⟩ => ⟨S_, .f32⟩
  | .hbm, ⟨108, _⟩ => ⟨S8192x6160, .f32⟩
  | .hbm, ⟨109, _⟩ => ⟨S_, .f32⟩
  | .hbm, ⟨110, _⟩ => ⟨S8192x6160, .f32⟩
  | .hbm, ⟨111, _⟩ => ⟨S8192x6160, .f32⟩
  | .hbm, ⟨112, _⟩ => ⟨S8192x2048, .f32⟩
  | .hbm, ⟨113, _⟩ => ⟨S_, .f32⟩
  | .hbm, ⟨114, _⟩ => ⟨S8192x6160, .f32⟩
  | .hbm, ⟨115, _⟩ => ⟨S8192x6160, .f32⟩
  | .hbm, ⟨116, _⟩ => ⟨S8192x2048, .f32⟩
  | .hbm, ⟨117, _⟩ => ⟨S_, .f32⟩
  | .hbm, ⟨118, _⟩ => ⟨S8192x6160, .f32⟩
  | .hbm, ⟨119, _⟩ => ⟨S8192x6160, .f32⟩
  | .hbm, ⟨120, _⟩ => ⟨S_, .i32⟩
  | .hbm, ⟨121, _⟩ => ⟨S_, .f32⟩
  | .hbm, ⟨122, _⟩ => ⟨S8192x6272, .f32⟩
  | .hbm, ⟨123, _⟩ => ⟨S8192x6272, .bf16⟩
  | .hbm, ⟨124, _⟩ => ⟨S1x128, .f32⟩
  | .hbm, ⟨125, _⟩ => ⟨S1x128, .f32⟩
  | _, _ => ⟨S8192x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_19 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_c : Ref sig .tc := ⟨.hbm, 120, rfl⟩
abbrev main_call0_v0 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Pool.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8193x2048 : Shape := ⟨2, ![8193, 2048]⟩
abbrev S8193x512 : Shape := ⟨2, ![8193, 512]⟩
abbrev S8192x512 : Shape := ⟨2, ![8192, 512]⟩
abbrev S8192x4x512 : Shape := ⟨3, ![8192, 4, 512]⟩
abbrev S4x512x8192 : Shape := ⟨3, ![4, 512, 8192]⟩
abbrev S256x2048 : Shape := ⟨2, ![256, 2048]⟩
abbrev S16x2048 : Shape := ⟨2, ![16, 2048]⟩
abbrev S272x2048 : Shape := ⟨2, ![272, 2048]⟩
abbrev S272x1 : Shape := ⟨2, ![272, 1]⟩
abbrev S272x512 : Shape := ⟨2, ![272, 512]⟩
abbrev S1x512x512 : Shape := ⟨3, ![1, 512, 512]⟩
abbrev S512x512 : Shape := ⟨2, ![512, 512]⟩
abbrev S256x512 : Shape := ⟨2, ![256, 512]⟩
abbrev S256 : Shape := ⟨1, ![256]⟩
abbrev S256x1 : Shape := ⟨2, ![256, 1]⟩

abbrev nBuf : Space → Nat
  | .hbm => 206
  | .vmem => 18
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S2048, .f32⟩
  | 5 => ⟨S8192x2048, .f32⟩
  | 6 => ⟨S8192x2048, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x2048, .f32⟩
  | 18 => ⟨S8192x2048, .f32⟩
  | 19 => ⟨S1x2048, .f32⟩
  | 20 => ⟨S8192x2048, .f32⟩
  | 21 => ⟨S8192x2048, .f32⟩
  | 22 => ⟨S_, .f32⟩
  | 23 => ⟨S1x2048, .f32⟩
  | 24 => ⟨S_, .f32⟩
  | 25 => ⟨S_, .f32⟩
  | 26 => ⟨S8192x2048, .f32⟩
  | 27 => ⟨S8193x2048, .f32⟩
  | 28 => ⟨S8192, .i32⟩
  | 29 => ⟨S8193x512, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .i32⟩
  | 43 => ⟨S8192, .f32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x512, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x512, .f32⟩
  | 65 => ⟨S8192x512, .f32⟩
  | 66 => ⟨S8192x1, .f32⟩
  | 67 => ⟨S8192x512, .f32⟩
  | 68 => ⟨S8192x512, .f32⟩
  | 69 => ⟨S8193x512, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .i32⟩
  | 83 => ⟨S8192, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x512, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x512, .f32⟩
  | 105 => ⟨S8192x512, .f32⟩
  | 106 => ⟨S8192x1, .f32⟩
  | 107 => ⟨S8192x512, .f32⟩
  | 108 => ⟨S8192x512, .f32⟩
  | 109 => ⟨S8193x512, .f32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S8192, .i32⟩
  | 123 => ⟨S8192, .f32⟩
  | 124 => ⟨S_, .i32⟩
  | 125 => ⟨S8192, .i32⟩
  | 126 => ⟨S8192, .i32⟩
  | 127 => ⟨S_, .i32⟩
  | _ => ⟨S8192x2048, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S8192x512, .f32⟩
  | 18 => ⟨S8192x1, .f32⟩
  | 19 => ⟨S8192x512, .f32⟩
  | 20 => ⟨S8192x512, .f32⟩
  | 21 => ⟨S8193x512, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S8192, .i32⟩
  | 35 => ⟨S8192, .f32⟩
  | 36 => ⟨S_, .i32⟩
  | 37 => ⟨S8192, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S8192x512, .f32⟩
  | 58 => ⟨S8192x1, .f32⟩
  | 59 => ⟨S8192x512, .f32⟩
  | 60 => ⟨S8192x512, .f32⟩
  | 61 => ⟨S8192x2048, .f32⟩
  | 62 => ⟨S8192x2048, .f32⟩
  | 63 => ⟨S8192x4x512, .f32⟩
  | 64 => ⟨S4x512x8192, .f32⟩
  | 65 => ⟨S8192x4x512, .f32⟩
  | 66 => ⟨S8192x2048, .f32⟩
  | 67 => ⟨S1x2048, .f32⟩
  | 68 => ⟨S8192x2048, .f32⟩
  | 69 => ⟨S8192x2048, .f32⟩
  | 70 => ⟨S1x2048, .f32⟩
  | 71 => ⟨S4x512x512, .bf16⟩
  | 72 => ⟨S1x2048, .f32⟩
  | 73 => ⟨S8192x2048, .f32⟩
  | 74 => ⟨S8192x2048, .bf16⟩
  | 75 => ⟨S1x2048, .f32⟩
  | 76 => ⟨S1x2048, .f32⟩
  | 77 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S4x512x512, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_c_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_v60 : Ref sig .tc := ⟨.hbm, 86, rfl⟩
abbrev main_c_16 : Ref sig .tc := ⟨.hbm, 87, rfl⟩
abbrev main_v61 : Ref sig .tc := ⟨.hbm, 88, rfl⟩
abbrev main_v62 : Ref sig .tc := ⟨.hbm, 89, rfl⟩
abbrev main_c_17 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_c_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_20 : Ref sig .tc := ⟨.hbm, 110, rfl⟩
abbrev main_v80 : Ref sig .tc := ⟨.hbm, 111, rfl⟩
abbrev main_v81 : Ref sig .tc := ⟨.hbm, 112, rfl⟩
abbrev main_c_21 : Ref sig .tc := ⟨.hbm, 113, rfl⟩
abbrev main_v82 : Ref sig .tc := ⟨.hbm, 114, rfl⟩
abbrev main_v83 : Ref sig .tc := ⟨.hbm, 115, rfl⟩
abbrev main_c_22 : Ref sig .tc := ⟨.hbm, 116, rfl⟩
abbrev main_v84 : Ref sig .tc := ⟨.hbm, 117, rfl⟩
abbrev main_v85 : Ref sig .tc := ⟨.hbm, 118, rfl⟩
abbrev main_c_23 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_24 : Ref sig .tc := ⟨.hbm, 124, rfl⟩
abbrev main_v90 : Ref sig .tc := ⟨.hbm, 125, rfl⟩
abbrev main_v91 : Ref sig .tc := ⟨.hbm, 126, rfl⟩
abbrev main_c_25 : Ref sig .tc := ⟨.hbm, 127, rfl⟩
abbrev main_v92 : Ref sig .tc := ⟨.hbm, 128, rfl⟩
abbrev main_v93 : Ref sig .tc := ⟨.hbm, 129, rfl⟩
abbrev main_c_26 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_27 : Ref sig .tc := ⟨.hbm, 136, rfl⟩
abbrev main_v99 : Ref sig .tc := ⟨.hbm, 137, rfl⟩
abbrev main_v100 : Ref sig .tc := ⟨.hbm, 138, rfl⟩
abbrev main_c_28 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_29 : Ref sig .tc := ⟨.hbm, 150, rfl⟩
abbrev main_v111 : Ref sig .tc := ⟨.hbm, 151, rfl⟩
abbrev main_v112 : Ref sig .tc := ⟨.hbm, 152, rfl⟩
abbrev main_c_30 : Ref sig .tc := ⟨.hbm, 153, rfl⟩
abbrev main_v113 : Ref sig .tc := ⟨.hbm, 154, rfl⟩
abbrev main_v114 : Ref sig .tc := ⟨.hbm, 155, rfl⟩
abbrev main_c_31 : Ref sig .tc := ⟨.hbm, 156, rfl⟩
abbrev main_v115 : Ref sig .tc := ⟨.hbm, 157, rfl⟩
abbrev main_v116 : Ref sig .tc := ⟨.hbm, 158, rfl⟩
abbrev main_c_32 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_33 : Ref sig .tc := ⟨.hbm, 164, rfl⟩
abbrev main_v121 : Ref sig .tc := ⟨.hbm, 165, rfl⟩
abbrev main_v122 : Ref sig .tc := ⟨.hbm, 166, rfl⟩
abbrev main_c_34 : Ref sig .tc := ⟨.hbm, 167, rfl⟩
abbrev main_v123 : Ref sig .tc := ⟨.hbm, 168, rfl⟩
abbrev main_v124 : Ref sig .tc := ⟨.hbm, 169, rfl⟩
abbrev main_c_35 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_36 : Ref sig .tc := ⟨.hbm, 176, rfl⟩
abbrev main_v130 : Ref sig .tc := ⟨.hbm, 177, rfl⟩
abbrev main_v131 : Ref sig .tc := ⟨.hbm, 178, rfl⟩
abbrev main_c_37 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153_0 : Ref sig .tc := ⟨.hbm, 201, rfl⟩
abbrev main_v153_1 : Ref sig .tc := ⟨.hbm, 202, rfl⟩
abbrev main_v153_2 : Ref sig .tc := ⟨.hbm, 203, rfl⟩
abbrev main_v153_3 : Ref sig .tc := ⟨.hbm, 204, rfl⟩
abbrev main_v153_4 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v143 : BitVec 1 := Scalar.cmpi .eq arg0 c0_i32
  let v144 : BitVec 32 := Scalar.extui v143
  let c0_i32_48 : BitVec 32 := 0#32
  let v145 : BitVec 1 := Scalar.cmpi .ne v144 c0_i32_48
  v145

def k0_cond2 (i : grid0.Coords) : BitVec 1 :=
  let arg0 : BitVec 32 := BitVec.ofNat 32 (i 0).val
  let c0_i32_49 : BitVec 32 := 0#32
  let v146 : BitVec 1 := Scalar.cmpi .sgt arg0 c0_i32_49
  let v147 : BitVec 32 := Scalar.extui v146
  let c0_i32_50 : BitVec 32 := 0#32
  let v148 : BitVec 1 := Scalar.cmpi .ne v147 c0_i32_50
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PoolRefIdeal.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8193x2048 : Shape := ⟨2, ![8193, 2048]⟩
abbrev S8193x512 : Shape := ⟨2, ![8193, 512]⟩
abbrev S8192x512 : Shape := ⟨2, ![8192, 512]⟩
abbrev S8192x4x512 : Shape := ⟨3, ![8192, 4, 512]⟩
abbrev S4x512x8192 : Shape := ⟨3, ![4, 512, 8192]⟩
abbrev S4x8192x512 : Shape := ⟨3, ![4, 8192, 512]⟩

abbrev nBuf : Space → Nat
  | .hbm => 322
  | .vmem => 0
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S2048, .f32⟩
  | 5 => ⟨S8192x2048, .f32⟩
  | 6 => ⟨S_, .f32⟩
  | 7 => ⟨S8192x2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x2048, .f32⟩
  | 24 => ⟨S8192x2048, .f32⟩
  | 25 => ⟨S1x2048, .f32⟩
  | 26 => ⟨S8192x2048, .f32⟩
  | 27 => ⟨S8192x2048, .f32⟩
  | 28 => ⟨S_, .f32⟩
  | 29 => ⟨S1x2048, .f32⟩
  | 30 => ⟨S_, .f32⟩
  | 31 => ⟨S_, .f32⟩
  | 32 => ⟨S8192x2048, .f32⟩
  | 33 => ⟨S8193x2048, .f32⟩
  | 34 => ⟨S_, .f32⟩
  | 35 => ⟨S1x2048, .f32⟩
  | 36 => ⟨S8192, .i32⟩
  | 37 => ⟨S8193x512, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192, .i32⟩
  | 51 => ⟨S8192, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x512, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x512, .f32⟩
  | 73 => ⟨S8192x512, .f32⟩
  | 74 => ⟨S8192x1, .f32⟩
  | 75 => ⟨S8192x512, .f32⟩
  | 76 => ⟨S8192x512, .f32⟩
  | 77 => ⟨S8193x512, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .i32⟩
  | 91 => ⟨S8192, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x512, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x512, .f32⟩
  | 113 => ⟨S8192x512, .f32⟩
  | 114 => ⟨S8192x1, .f32⟩
  | 115 => ⟨S8192x512, .f32⟩
  | 116 => ⟨S8192x512, .f32⟩
  | 117 => ⟨S8193x512, .f32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S8192x2048, .f32⟩

abbrev hbmTy0_1 (i : Nat) : BufTy := match i % 128 with
  | 0 => ⟨S8192, .i32⟩
  | 1 => ⟨S8192, .i32⟩
  | 2 => ⟨S8192, .i32⟩
  | 3 => ⟨S8192, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x512, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S8192x512, .f32⟩
  | 26 => ⟨S8192x1, .f32⟩
  | 27 => ⟨S8192x512, .f32⟩
  | 28 => ⟨S8192x512, .f32⟩
  | 29 => ⟨S8193x512, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S8192, .i32⟩
  | 43 => ⟨S8192, .f32⟩
  | 44 => ⟨S_, .i32⟩
  | 45 => ⟨S8192, .i32⟩
  | 46 => ⟨S8192, .i32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x512, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x512, .f32⟩
  | 65 => ⟨S8192x512, .f32⟩
  | 66 => ⟨S8192x1, .f32⟩
  | 67 => ⟨S8192x512, .f32⟩
  | 68 => ⟨S8192x512, .f32⟩
  | 69 => ⟨S8192x2048, .f32⟩
  | 70 => ⟨S8192x2048, .f32⟩
  | 71 => ⟨S8192x4x512, .f32⟩
  | 72 => ⟨S4x512x8192, .f32⟩
  | 73 => ⟨S8192x4x512, .f32⟩
  | 74 => ⟨S8192x2048, .f32⟩
  | 75 => ⟨S8192x2048, .f32⟩
  | 76 => ⟨S1x2048, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S_, .f32⟩
  | 86 => ⟨S2048, .f32⟩
  | 87 => ⟨S1x2048, .f32⟩
  | 88 => ⟨S8192x2048, .f32⟩
  | 89 => ⟨S8192x2048, .f32⟩
  | 90 => ⟨S_, .f32⟩
  | 91 => ⟨S2048, .f32⟩
  | 92 => ⟨S_, .f32⟩
  | 93 => ⟨S2048, .f32⟩
  | 94 => ⟨S1x2048, .f32⟩
  | 95 => ⟨S_, .f32⟩
  | 96 => ⟨S2048, .f32⟩
  | 97 => ⟨S8192x4x512, .f32⟩
  | 98 => ⟨S4x512x8192, .f32⟩
  | 99 => ⟨S4x8192x512, .f32⟩
  | 100 => ⟨S8192x4x512, .f32⟩
  | 101 => ⟨S8192x2048, .f32⟩
  | 102 => ⟨S8192x2048, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S8193x512, .f32⟩
  | 112 => ⟨S8193x512, .f32⟩
  | 113 => ⟨S_, .f32⟩
  | 114 => ⟨S8193x512, .f32⟩
  | 115 => ⟨S8193x512, .f32⟩
  | 116 => ⟨S8193x512, .f32⟩
  | 117 => ⟨S_, .f32⟩
  | 118 => ⟨S8193x2048, .f32⟩
  | 119 => ⟨S8192x512, .f32⟩
  | 120 => ⟨S8192x512, .f32⟩
  | 121 => ⟨S8192x512, .f32⟩
  | 122 => ⟨S_, .f32⟩
  | 123 => ⟨S8193x512, .f32⟩
  | 124 => ⟨S8193x512, .f32⟩
  | 125 => ⟨S_, .f32⟩
  | 126 => ⟨S8193x512, .f32⟩
  | 127 => ⟨S8193x512, .f32⟩
  | _ => ⟨S8192x2048, .f32⟩

abbrev hbmTy0_2 (i : Nat) : BufTy := match i % 128 with
  | 0 => ⟨S8193x512, .f32⟩
  | 1 => ⟨S_, .f32⟩
  | 2 => ⟨S8193x2048, .f32⟩
  | 3 => ⟨S8193x2048, .f32⟩
  | 4 => ⟨S8192x512, .f32⟩
  | 5 => ⟨S8192x512, .f32⟩
  | 6 => ⟨S8192x512, .f32⟩
  | 7 => ⟨S_, .f32⟩
  | 8 => ⟨S8193x512, .f32⟩
  | 9 => ⟨S8193x512, .f32⟩
  | 10 => ⟨S_, .f32⟩
  | 11 => ⟨S8193x512, .f32⟩
  | 12 => ⟨S8193x512, .f32⟩
  | 13 => ⟨S8193x512, .f32⟩
  | 14 => ⟨S_, .f32⟩
  | 15 => ⟨S8193x2048, .f32⟩
  | 16 => ⟨S8193x2048, .f32⟩
  | 17 => ⟨S8192x512, .f32⟩
  | 18 => ⟨S8192x512, .f32⟩
  | 19 => ⟨S8192x512, .f32⟩
  | 20 => ⟨S_, .f32⟩
  | 21 => ⟨S8193x512, .f32⟩
  | 22 => ⟨S8193x512, .f32⟩
  | 23 => ⟨S_, .f32⟩
  | 24 => ⟨S8193x512, .f32⟩
  | 25 => ⟨S8193x512, .f32⟩
  | 26 => ⟨S8193x512, .f32⟩
  | 27 => ⟨S_, .f32⟩
  | 28 => ⟨S8193x2048, .f32⟩
  | 29 => ⟨S8193x2048, .f32⟩
  | 30 => ⟨S1x2048, .f32⟩
  | 31 => ⟨S8192x2048, .f32⟩
  | 32 => ⟨S_, .f32⟩
  | 33 => ⟨S_, .f32⟩
  | 34 => ⟨S8192x2048, .f32⟩
  | 35 => ⟨S8192x2048, .f32⟩
  | 36 => ⟨S8192x2048, .f32⟩
  | 37 => ⟨S_, .f32⟩
  | 38 => ⟨S2048, .f32⟩
  | 39 => ⟨S1x2048, .f32⟩
  | 40 => ⟨S8192x2048, .f32⟩
  | 41 => ⟨S8192x2048, .f32⟩
  | 42 => ⟨S_, .f32⟩
  | 43 => ⟨S2048, .f32⟩
  | 44 => ⟨S8192x2048, .f32⟩
  | 45 => ⟨S_, .f32⟩
  | 46 => ⟨S8192, .f32⟩
  | 47 => ⟨S8192x1, .f32⟩
  | 48 => ⟨S8192x2048, .f32⟩
  | 49 => ⟨S8192x2048, .f32⟩
  | 50 => ⟨S8192x2048, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .bf16⟩
  | 63 => ⟨S1x2048, .f32⟩
  | 64 => ⟨S1x2048, .f32⟩
  | 65 => ⟨S1x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_call0_call0_cst : Ref sig .tc := ⟨.hbm, 30, rfl⟩
abbrev main_call0_call0_v0 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_c_15 : Ref sig .tc := ⟨.hbm, 81, rfl⟩
abbrev main_v56 : Ref sig .tc := ⟨.hbm, 82, rfl⟩
abbrev main_v57 : Ref sig .tc := ⟨.hbm, 83, rfl⟩
abbrev main_c_16 : Ref sig .tc := ⟨.hbm, 84, rfl⟩
abbrev main_v58 : Ref sig .tc := ⟨.hbm, 85, rfl⟩
abbrev main_v59 : Ref sig .tc := ⟨.hbm, 86, rfl⟩
abbrev main_c_17 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_18 : Ref sig .tc := ⟨.hbm, 92, rfl⟩
abbrev main_v64 : Ref sig .tc := ⟨.hbm, 93, rfl⟩
abbrev main_v65 : Ref sig .tc := ⟨.hbm, 94, rfl⟩
abbrev main_c_19 : Ref sig .tc := ⟨.hbm, 95, rfl⟩
abbrev main_v66 : Ref sig .tc := ⟨.hbm, 96, rfl⟩
abbrev main_v67 : Ref sig .tc := ⟨.hbm, 97, rfl⟩
abbrev main_c_20 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_21 : Ref sig .tc := ⟨.hbm, 104, rfl⟩
abbrev main_v73 : Ref sig .tc := ⟨.hbm, 105, rfl⟩
abbrev main_v74 : Ref sig .tc := ⟨.hbm, 106, rfl⟩
abbrev main_c_22 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_23 : Ref sig .tc := ⟨.hbm, 118, rfl⟩
abbrev main_v85 : Ref sig .tc := ⟨.hbm, 119, rfl⟩
abbrev main_v86 : Ref sig .tc := ⟨.hbm, 120, rfl⟩
abbrev main_c_24 : Ref sig .tc := ⟨.hbm, 121, rfl⟩
abbrev main_v87 : Ref sig .tc := ⟨.hbm, 122, rfl⟩
abbrev main_v88 : Ref sig .tc := ⟨.hbm, 123, rfl⟩
abbrev main_c_25 : Ref sig .tc := ⟨.hbm, 124, rfl⟩
abbrev main_v89 : Ref sig .tc := ⟨.hbm, 125, rfl⟩
abbrev main_v90 : Ref sig .tc := ⟨.hbm, 126, rfl⟩
abbrev main_c_26 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_27 : Ref sig .tc := ⟨.hbm, 132, rfl⟩
abbrev main_v95 : Ref sig .tc := ⟨.hbm, 133, rfl⟩
abbrev main_v96 : Ref sig .tc := ⟨.hbm, 134, rfl⟩
abbrev main_c_28 : Ref sig .tc := ⟨.hbm, 135, rfl⟩
abbrev main_v97 : Ref sig .tc := ⟨.hbm, 136, rfl⟩
abbrev main_v98 : Ref sig .tc := ⟨.hbm, 137, rfl⟩
abbrev main_c_29 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_30 : Ref sig .tc := ⟨.hbm, 144, rfl⟩
abbrev main_v104 : Ref sig .tc := ⟨.hbm, 145, rfl⟩
abbrev main_v105 : Ref sig .tc := ⟨.hbm, 146, rfl⟩
abbrev main_c_31 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_32 : Ref sig .tc := ⟨.hbm, 158, rfl⟩
abbrev main_v116 : Ref sig .tc := ⟨.hbm, 159, rfl⟩
abbrev main_v117 : Ref sig .tc := ⟨.hbm, 160, rfl⟩
abbrev main_c_33 : Ref sig .tc := ⟨.hbm, 161, rfl⟩
abbrev main_v118 : Ref sig .tc := ⟨.hbm, 162, rfl⟩
abbrev main_v119 : Ref sig .tc := ⟨.hbm, 163, rfl⟩
abbrev main_c_34 : Ref sig .tc := ⟨.hbm, 164, rfl⟩
abbrev main_v120 : Ref sig .tc := ⟨.hbm, 165, rfl⟩
abbrev main_v121 : Ref sig .tc := ⟨.hbm, 166, rfl⟩
abbrev main_c_35 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_36 : Ref sig .tc := ⟨.hbm, 172, rfl⟩
abbrev main_v126 : Ref sig .tc := ⟨.hbm, 173, rfl⟩
abbrev main_v127 : Ref sig .tc := ⟨.hbm, 174, rfl⟩
abbrev main_c_37 : Ref sig .tc := ⟨.hbm, 175, rfl⟩
abbrev main_v128 : Ref sig .tc := ⟨.hbm, 176, rfl⟩
abbrev main_v129 : Ref sig .tc := ⟨.hbm, 177, rfl⟩
abbrev main_c_38 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_c_39 : Ref sig .tc := ⟨.hbm, 184, rfl⟩
abbrev main_v135 : Ref sig .tc := ⟨.hbm, 185, rfl⟩
abbrev main_v136 : Ref sig .tc := ⟨.hbm, 186, rfl⟩
abbrev main_c_40 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_41 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_42 : Ref sig .tc := ⟨.hbm, 218, rfl⟩
abbrev main_v166 : Ref sig .tc := ⟨.hbm, 219, rfl⟩
abbrev main_cst_43 : Ref sig .tc := ⟨.hbm, 220, rfl⟩
abbrev main_v167 : Ref sig .tc := ⟨.hbm, 221, rfl⟩
abbrev main_v168 : Ref sig .tc := ⟨.hbm, 222, rfl⟩
abbrev main_cst_44 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_cst_45 : Ref sig .tc := ⟨.hbm, 238, rfl⟩
abbrev main_v183 : Ref sig .tc := ⟨.hbm, 239, rfl⟩
abbrev main_v184 : Ref sig .tc := ⟨.hbm, 240, rfl⟩
abbrev main_cst_46 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_cst_47 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_48 : Ref sig .tc := ⟨.hbm, 250, rfl⟩
abbrev main_v192 : Ref sig .tc := ⟨.hbm, 251, rfl⟩
abbrev main_v193 : Ref sig .tc := ⟨.hbm, 252, rfl⟩
abbrev main_cst_49 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_50 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_cst_51 : Ref sig .tc := ⟨.hbm, 263, rfl⟩
abbrev main_v202 : Ref sig .tc := ⟨.hbm, 264, rfl⟩
abbrev main_v203 : Ref sig .tc := ⟨.hbm, 265, rfl⟩
abbrev main_cst_52 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_53 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_54 : Ref sig .tc := ⟨.hbm, 276, rfl⟩
abbrev main_v212 : Ref sig .tc := ⟨.hbm, 277, rfl⟩
abbrev main_v213 : Ref sig .tc := ⟨.hbm, 278, rfl⟩
abbrev main_cst_55 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_56 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_call1_call0_cst : Ref sig .tc := ⟨.hbm, 288, rfl⟩
abbrev main_call1_call0_v0 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_cst_57 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_cst_58 : Ref sig .tc := ⟨.hbm, 298, rfl⟩
abbrev main_v228 : Ref sig .tc := ⟨.hbm, 299, rfl⟩
abbrev main_v229 : Ref sig .tc := ⟨.hbm, 300, rfl⟩
abbrev main_cst_59 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_cst_60 : Ref sig .tc := ⟨.hbm, 308, rfl⟩
abbrev main_v236 : Ref sig .tc := ⟨.hbm, 309, rfl⟩
abbrev main_v237 : Ref sig .tc := ⟨.hbm, 310, rfl⟩
abbrev main_cst_61 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩

abbrev nD : Nat := 1
abbrev τ : Topo := Topo.v7x

variable {F : FTy → Type} [FloatOps F]
-- ==== Dact.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S4x1408x2048 : Shape := ⟨3, ![4, 1408, 2048]⟩
abbrev S2x8192x5632 : Shape := ⟨3, ![2, 8192, 5632]⟩
abbrev S512x2048 : Shape := ⟨2, ![512, 2048]⟩
abbrev S1x1408x2048 : Shape := ⟨3, ![1, 1408, 2048]⟩
abbrev S512x1408 : Shape := ⟨2, ![512, 1408]⟩
abbrev S2x512x1408 : Shape := ⟨3, ![2, 512, 1408]⟩
abbrev S1x640x2048 : Shape := ⟨3, ![1, 640, 2048]⟩
abbrev S640x2048 : Shape := ⟨2, ![640, 2048]⟩
abbrev S512x640 : Shape := ⟨2, ![512, 640]⟩
abbrev S1x512x640 : Shape := ⟨3, ![1, 512, 640]⟩
abbrev S1x768x2048 : Shape := ⟨3, ![1, 768, 2048]⟩
abbrev S768x2048 : Shape := ⟨2, ![768, 2048]⟩
abbrev S512x768 : Shape := ⟨2, ![512, 768]⟩
abbrev S1x512x768 : Shape := ⟨3, ![1, 512, 768]⟩

abbrev nBuf : Space → Nat
  | .hbm => 27
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S5632x2048, .bf16⟩
  | .hbm, ⟨23, _⟩ => ⟨S4x1408x2048, .bf16⟩
  | .hbm, ⟨24, _⟩ => ⟨S8192x5632, .bf16⟩
  | .hbm, ⟨25, _⟩ => ⟨S8192x5632, .bf16⟩
  | .hbm, ⟨26, _⟩ => ⟨S2x8192x5632, .bf16⟩
  | .local _ .vmem, ⟨0, _⟩ => ⟨S512x2048, .f32⟩
  | .local _ .vmem, ⟨1, _⟩ => ⟨S512x2048, .f32⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DactRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S5632x2048, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x8192x5632, .f32⟩
  | .hbm, ⟨27, _⟩ => ⟨S1x8192x5632, .f32⟩
  | .hbm, ⟨28, _⟩ => ⟨S2x8192x5632, .f32⟩
  | .hbm, ⟨29, _⟩ => ⟨S2x8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Dh.lean ====
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S2048x8x1408 : Shape := ⟨3, ![2048, 8, 1408]⟩
abbrev S8x2048x1408 : Shape := ⟨3, ![8, 2048, 1408]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S1x2048 : Shape := ⟨2, ![1, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩
abbrev S128x2048 : Shape := ⟨2, ![128, 2048]⟩
abbrev S128 : Shape := ⟨1, ![128]⟩
abbrev S128x1 : Shape := ⟨2, ![128, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S8192x2048, .f32⟩
  | .hbm, ⟨4, _⟩ => ⟨S8192x11264, .f32⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S8192x5632, .f32⟩
  | .hbm, ⟨9, _⟩ => ⟨S8192x5632, .f32⟩
  | .hbm, ⟨10, _⟩ => ⟨S1x8192x5632, .f32⟩
  | .hbm, ⟨11, _⟩ => ⟨S1x8192x5632, .f32⟩
  | .hbm, ⟨12, _⟩ => ⟨S2x8192x5632, .f32⟩
  | .hbm, ⟨13, _⟩ => ⟨S2x8192x5632, .bf16⟩
  | .hbm, ⟨14, _⟩ => ⟨S1x2048, .f32⟩
  | .hbm, ⟨15, _⟩ => ⟨S8192x2048, .f32⟩
  | .hbm, ⟨16, _⟩ => ⟨S1x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

@[reducible] def k0_t1_loop : Scf.Loop 32 :=
  let c0_i32_12 : BitVec 32 := 0#32
  let c4_i32 : BitVec 32 := 4#32
  let v16 : BitVec 32 := Scalar.addi c0_i32_12 c4_i32
  let c1_i32 : BitVec 32 := 1#32
  ⟨c0_i32_12, v16, c1_i32⟩
def k0_mult1 (k0_t1 : Fin k0_t1_loop.trips) : BitVec 32 :=
  let c0_i32_12 : BitVec 32 := 0#32
  let c1_i32 : BitVec 32 := 1#32
  let arg9 : BitVec 32 := Scf.iv c0_i32_12 c1_i32 k0_t1
  let c128_i32 : BitVec 32 := 128#32
  let v24 : BitVec 32 := Scalar.muli arg9 c128_i32
  v24
def k0_off1 (k0_t1 : Fin k0_t1_loop.trips) : Fin 2 → Nat :=
  let c0_i32_12 : BitVec 32 := 0#32
  let c1_i32 : BitVec 32 := 1#32
  let arg9 : BitVec 32 := Scf.iv c0_i32_12 c1_i32 k0_t1
  let c128_i32 : BitVec 32 := 128#32
  let v24 : BitVec 32 := Scalar.muli arg9 c128_i32
  let v25 : BitVec 32 := v24
  let v26 : Index := Scalar.indexCast v25
  let c0_18 : Index := 0#32
  ![v26.toNat, 0]
def k0_cond3 (i : grid0.Coords) : BitVec 1 :=
  let arg0 : BitVec 32 := BitVec.ofNat 32 (i 0).val
  let c0_i32_14 : BitVec 32 := 0#32
  let v18 : BitVec 1 := Scalar.cmpi .eq arg0 c0_i32_14
  let v19 : BitVec 32 := Scalar.extui v18
  let c0_i32_15 : BitVec 32 := 0#32
  let v20 : BitVec 1 := Scalar.cmpi .ne v19 c0_i32_15
  v20

def k0_cond4 (i : grid0.Coords) : BitVec 1 :=
  let arg0 : BitVec 32 := BitVec.ofNat 32 (i 0).val
  let c0_i32_16 : BitVec 32 := 0#32
  let v21 : BitVec 1 := Scalar.cmpi .sgt arg0 c0_i32_16
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DhRefIdeal.lean ====
abbrev S8192x2048 : Shape := ⟨2, ![8192, 2048]⟩
abbrev S2048 : Shape := ⟨1, ![2048]⟩
abbrev S2048x11264 : Shape := ⟨2, ![2048, 11264]⟩
abbrev S8192x11264 : Shape := ⟨2, ![8192, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S8192x2048, .f32⟩
  | .hbm, ⟨4, _⟩ => ⟨S8192x11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x11264, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Din.lean ====
abbrev S8192x2048 : Shape := ⟨2, ![8192, 2048]⟩
abbrev S2048 : Shape := ⟨1, ![2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩
abbrev S2048x6272 : Shape := ⟨2, ![2048, 6272]⟩
abbrev S1x2048 : Shape := ⟨2, ![1, 2048]⟩
abbrev S512x896 : Shape := ⟨2, ![512, 896]⟩
abbrev S2048x896 : Shape := ⟨2, ![2048, 896]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S8192x2048, .f32⟩
  | .hbm, ⟨4, _⟩ => ⟨S8192x6160, .f32⟩
  | .hbm, ⟨5, _⟩ => ⟨S_, .i32⟩
  | .hbm, ⟨6, _⟩ => ⟨S_, .f32⟩
  | .hbm, ⟨7, _⟩ => ⟨S8192x6272, .f32⟩
  | .hbm, ⟨8, _⟩ => ⟨S8192x6272, .bf16⟩
  | .hbm, ⟨9, _⟩ => ⟨S2048x6160, .bf16⟩
  | .hbm, ⟨10, _⟩ => ⟨S_, .i32⟩
  | .hbm, ⟨11, _⟩ => ⟨S_, .bf16⟩
  | .hbm, ⟨12, _⟩ => ⟨S2048x6272, .bf16⟩
  | .hbm, ⟨13, _⟩ => ⟨S1x2048, .f32⟩
  | .hbm, ⟨14, _⟩ => ⟨S8192x2048, .f32⟩
  | .hbm, ⟨15, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S2048x896, .bf16⟩
  | .local _ .vmem, ⟨3, _⟩ => ⟨S2048x896, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v12 : BitVec 1 := Scalar.cmpi .eq arg1 c6_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_10 : BitVec 32 := 0#32
  let c4_i32 : BitVec 32 := 4#32
  let v16 : BitVec 32 := Scalar.addi c0_i32_10 c4_i32
  let c1_i32 : BitVec 32 := 1#32
  ⟨c0_i32_10, v16, c1_i32⟩
def k0_mult1 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c128_i32 : BitVec 32 := 128#32
  let v24 : BitVec 32 := Scalar.muli arg9 c128_i32
  v24
def k0_off1 (k0_t1 : Fin k0_t1_loop.trips) : Fin 2 → Nat :=
  let c0_i32_10 : BitVec 32 := 0#32
  let c1_i32 : BitVec 32 := 1#32
  let arg9 : BitVec 32 := Scf.iv c0_i32_10 c1_i32 k0_t1
  let c128_i32 : BitVec 32 := 128#32
  let v24 : BitVec 32 := Scalar.muli arg9 c128_i32
  let v25 : BitVec 32 := v24
  let v26 : Index := Scalar.indexCast v25
  let c0_16 : Index := 0#32
  ![v26.toNat, 0]
def k0_cond3 (i : grid0.Coords) : BitVec 1 :=
  let arg0 : BitVec 32 := BitVec.ofNat 32 (i 0).val
  let c0_i32_12 : BitVec 32 := 0#32
  let v18 : BitVec 1 := Scalar.cmpi .eq arg0 c0_i32_12
  let v19 : BitVec 32 := Scalar.extui v18
  let c0_i32_13 : BitVec 32 := 0#32
  let v20 : BitVec 1 := Scalar.cmpi .ne v19 c0_i32_13
  v20

def k0_cond4 (i : grid0.Coords) : BitVec 1 :=
  let arg0 : BitVec 32 := BitVec.ofNat 32 (i 0).val
  let c0_i32_14 : BitVec 32 := 0#32
  let v21 : BitVec 1 := Scalar.cmpi .sgt arg0 c0_i32_14
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DinRefIdeal.lean ====
abbrev S8192x2048 : Shape := ⟨2, ![8192, 2048]⟩
abbrev S2048 : Shape := ⟨1, ![2048]⟩
abbrev S2048x6160 : Shape := ⟨2, ![2048, 6160]⟩
abbrev S8192x6160 : Shape := ⟨2, ![8192, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6160, .f32⟩
  | .hbm, ⟨3, _⟩ => ⟨S8192x2048, .f32⟩
  | .hbm, ⟨4, _⟩ => ⟨S8192x6160, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x6160, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Delta.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 50
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S8192x16x128, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S_, .f32⟩
  | .hbm, ⟨33, _⟩ => ⟨S16x8192, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x128x8192, .f32⟩
  | .hbm, ⟨45, _⟩ => ⟨S8192x16x128, .f32⟩
  | .hbm, ⟨46, _⟩ => ⟨S8192x2048, .f32⟩
  | .hbm, ⟨47, _⟩ => ⟨S8192x2048, .bf16⟩
  | .hbm, ⟨48, _⟩ => ⟨S8192x2048, .bf16⟩
  | .hbm, ⟨49, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x128, .f32⟩
  | .local _ .vmem, ⟨5, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S8192x2048 : Shape := ⟨2, ![8192, 2048]⟩
abbrev S16x8192 : Shape := ⟨2, ![16, 8192]⟩
abbrev S_ : Shape := ⟨0, ![]⟩
abbrev S8192x16 : Shape := ⟨2, ![8192, 16]⟩
abbrev S8192x16x128 : Shape := ⟨3, ![8192, 16, 128]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩
abbrev S8192x16x1 : Shape := ⟨3, ![8192, 16, 1]⟩
abbrev S8192x128 : Shape := ⟨2, ![8192, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x2048, .f32⟩
  | .hbm, ⟨5, _⟩ => ⟨S_, .f32⟩
  | .hbm, ⟨6, _⟩ => ⟨S8192x16, .f32⟩
  | .hbm, ⟨7, _⟩ => ⟨S8192x16x128, .f32⟩
  | .hbm, ⟨8, _⟩ => ⟨S8192x16x128, .f32⟩
  | .hbm, ⟨9, _⟩ => ⟨S8192x16x128, .f32⟩
  | .hbm, ⟨10, _⟩ => ⟨S16x8192x8192, .f32⟩
  | .hbm, ⟨11, _⟩ => ⟨S_, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S16x8192x1, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S8192, .i32⟩
  | .hbm, ⟨22, _⟩ => ⟨S8192x1, .i32⟩
  | .hbm, ⟨23, _⟩ => ⟨S1x8192, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S_, .f32⟩
  | .hbm, ⟨35, _⟩ => ⟨S16x8192, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S16x128x8192, .f32⟩
  | .hbm, ⟨47, _⟩ => ⟨S8192x16x128, .f32⟩
  | .hbm, ⟨48, _⟩ => ⟨S8192x2048, .f32⟩
  | .hbm, ⟨49, _⟩ => ⟨S8192x16x128, .f32⟩
  | .hbm, ⟨50, _⟩ => ⟨S8192x16x1, .f32⟩
  | .hbm, ⟨51, _⟩ => ⟨S8192x16x128, .f32⟩
  | .hbm, ⟨52, _⟩ => ⟨S8192x16x128, .f32⟩
  | .hbm, ⟨53, _⟩ => ⟨S8192x2048, .f32⟩
  | .hbm, ⟨54, _⟩ => ⟨S8192x16x128, .f32⟩
  | .hbm, ⟨55, _⟩ => ⟨S8192x16x128, .f32⟩
  | .hbm, ⟨56, _⟩ => ⟨S_, .f32⟩
  | .hbm, ⟨57, _⟩ => ⟨S8192x16, .f32⟩
  | .hbm, ⟨58, _⟩ => ⟨S8192x16x1, .f32⟩
  | .hbm, ⟨59, _⟩ => ⟨S_, .f32⟩
  | .hbm, ⟨60, _⟩ => ⟨S8192x16, .f32⟩
  | .hbm, ⟨61, _⟩ => ⟨S_, .i32⟩
  | .hbm, ⟨62, _⟩ => ⟨S_, .f32⟩
  | .hbm, ⟨63, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_c : Ref sig .tc := ⟨.hbm, 61, rfl⟩
abbrev main_call1_v0 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Fwd.lean ====
abbrev S8192x2048 : Shape := ⟨2, ![8192, 2048]⟩
abbrev S16x8192 : Shape := ⟨2, ![16, 8192]⟩
abbrev S_ : Shape := ⟨0, ![]⟩
abbrev S2048x8192 : Shape := ⟨2, ![2048, 8192]⟩
abbrev S16x1x8192 : Shape := ⟨3, ![16, 1, 8192]⟩
abbrev S16x8192x1 : Shape := ⟨3, ![16, 8192, 1]⟩
abbrev S512x256 : Shape := ⟨2, ![512, 256]⟩
abbrev S8192x256 : Shape := ⟨2, ![8192, 256]⟩
abbrev S256x8192 : Shape := ⟨2, ![256, 8192]⟩
abbrev S2x1x512 : Shape := ⟨3, ![2, 1, 512]⟩
abbrev S2x8192x1 : Shape := ⟨3, ![2, 8192, 1]⟩
abbrev S2x128x512 : Shape := ⟨3, ![2, 128, 512]⟩
abbrev S512x128 : Shape := ⟨2, ![512, 128]⟩
abbrev S128x512 : Shape := ⟨2, ![128, 512]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩

abbrev nBuf : Space → Nat
  | .hbm => 28
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .bf16⟩
  | .hbm, ⟨22, _⟩ => ⟨S8192x2048, .bf16⟩
  | .hbm, ⟨23, _⟩ => ⟨S2048x8192, .bf16⟩
  | .hbm, ⟨24, _⟩ => ⟨S16x1x8192, .f32⟩
  | .hbm, ⟨25, _⟩ => ⟨S16x8192x1, .f32⟩
  | .hbm, ⟨26, _⟩ => ⟨S8192x2048, .bf16⟩
  | .hbm, ⟨27, _⟩ => ⟨S16x1x8192, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S256x8192, .bf16⟩
  | .local _ .vmem, ⟨5, _⟩ => ⟨S256x8192, .bf16⟩
  | .local _ .vmem, ⟨6, _⟩ => ⟨S2x1x512, .f32⟩
  | .local _ .vmem, ⟨7, _⟩ => ⟨S2x1x512, .f32⟩
  | .local _ .vmem, ⟨8, _⟩ => ⟨S2x8192x1, .f32⟩
  | .local _ .vmem, ⟨9, _⟩ => ⟨S2x8192x1, .f32⟩
  | .local _ .vmem, ⟨10, _⟩ => ⟨S512x256, .bf16⟩
  | .local _ .vmem, ⟨11, _⟩ => ⟨S512x256, .bf16⟩
  | .local _ .vmem, ⟨12, _⟩ => ⟨S2x1x512, .f32⟩
  | .local _ .vmem, ⟨13, _⟩ => ⟨S2x1x512, .f32⟩
  | .local _ .vmem, ⟨14, _⟩ => ⟨S2x1x512, .f32⟩
  | .local _ .vmem, ⟨15, _⟩ => ⟨S2x1x512, .f32⟩
  | .local _ .vmem, ⟨16, _⟩ => ⟨S2x128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  v175
def k0_off1 (i : grid0.Coords) (k0_t1 : Fin (k0_t1_loop i).trips) : Fin 2 → Nat :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v177 : Index := Scalar.indexCast v176
  let c0_116 : Index := 0#32
  ![v177.toNat, 0]
def k0_off2 (i : grid0.Coords) (k0_t1 : Fin (k0_t1_loop i).trips) : Fin 2 → Nat :=
  let c0_117 : Index := 0#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v180 : Index := Scalar.indexCast v176
  ![0, v180.toNat]
def k0_off3 (i : grid0.Coords) (k0_t1 : Fin (k0_t1_loop i).trips) : Fin 3 → Nat :=
  let c0_121 : Index := 0#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v186 : Index := Scalar.indexCast v176
  let c0_122 : Index := 0#32
  ![0, v186.toNat, 0]
def k0_off4 (i : grid0.Coords) (k0_t1 : Fin (k0_t1_loop i).trips) : Fin 2 → Nat :=
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v225 : Index := Scalar.indexCast v176
  let c128_145 : Index := 128#32
  ![v225.toNat, 128]
def k0_off5 (i : grid0.Coords) (k0_t1 : Fin (k0_t1_loop i).trips) : Fin 2 → Nat :=
  let c128_146 : Index := 128#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v228 : Index := Scalar.indexCast v176
  ![128, v228.toNat]
def k0_off6 (i : grid0.Coords) (k0_t1 : Fin (k0_t1_loop i).trips) : Fin 3 → Nat :=
  let c1_150 : Index := 1#32
  let c0_i32_10 : BitVec 32 := 0#32
  let c1_i32_11 : BitVec 32 := 1#32
  let arg12 : BitVec 32 := Scf.iv c0_i32_10 c1_i32_11 k0_t1
  let c512_i32_115 : BitVec 32 := 512#32
  let v175 : BitVec 32 := Scalar.muli arg12 c512_i32_115
  let v176 : BitVec 32 := v175
  let v234 : Index := Scalar.indexCast v176
  let c0_151 : Index := 0#32
  ![1, v234.toNat, 0]
@[reducible] def k0_t2_loop (i : grid0.Coords) : Scf.Loop 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  v175
def k0_off7 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v177 : Index := Scalar.indexCast v176
  let c0_116 : Index := 0#32
  ![v177.toNat, 0]
def k0_off8 (i : grid0.Coords) (k0_t2 : Fin (k0_t2_loop i).trips) : Fin 2 → Nat :=
  let c0_117 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v180 : Index := Scalar.indexCast v176
  ![0, v180.toNat]
def k0_off9 (i : grid0.Coords) (k0_t2 : Fin (k0_t2_loop i).trips) : Fin 3 → Nat :=
  let c0_121 : Index := 0#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v186 : Index := Scalar.indexCast v176
  let c0_122 : Index := 0#32
  ![0, v186.toNat, 0]
def k0_off10 (i : grid0.Coords) (k0_t2 : Fin (k0_t2_loop i).trips) : Fin 2 → Nat :=
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v225 : Index := Scalar.indexCast v176
  let c128_145 : Index := 128#32
  ![v225.toNat, 128]
def k0_off11 (i : grid0.Coords) (k0_t2 : Fin (k0_t2_loop i).trips) : Fin 2 → Nat :=
  let c128_146 : Index := 128#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v228 : Index := Scalar.indexCast v176
  ![128, v228.toNat]
def k0_off12 (i : grid0.Coords) (k0_t2 : Fin (k0_t2_loop i).trips) : Fin 3 → Nat :=
  let c1_150 : Index := 1#32
  let c0_i32_10 : BitVec 32 := 0#32
  let arg1 : BitVec 32 := BitVec.ofNat 32 (i 1).val
  let v12 : BitVec 32 := Scalar.subi arg1 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg12 : BitVec 32 := Scf.iv v16 c1_i32_12 k0_t2
  let c512_i32_115 : BitVec 32 := 512#32
  let v175 : BitVec 32 := Scalar.muli arg12 c512_i32_115
  let v176 : BitVec 32 := v175
  let v234 : Index := Scalar.indexCast v176
  let c0_151 : Index := 0#32
  ![1, v234.toNat, 0]
def k0_mult3 (i : grid0.Coords) : BitVec 32 :=
  let arg1 : BitVec 32 := BitVec.ofNat 32 (i 1).val
  let c512_i32 : BitVec 32 := 512#32
  let v17 : BitVec 32 := Scalar.muli arg1 c512_i32
  v17
def k0_off13 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_13 : Index := 0#32
  ![v19.toNat, 0]
def k0_off14 (i : grid0.Coords) : Fin 2 → Nat :=
  let c0_14 : Index := 0#32
  let arg1 : BitVec 32 := BitVec.ofNat 32 (i 1).val
  let c512_i32 : BitVec 32 := 512#32
  let v17 : BitVec 32 := Scalar.muli arg1 c512_i32
  let v18 : BitVec 32 := v17
  let v22 : Index := Scalar.indexCast v18
  ![0, v22.toNat]
def k0_off15 (i : grid0.Coords) : Fin 3 → Nat :=
  let c0_18 : Index := 0#32
  let arg1 : BitVec 32 := BitVec.ofNat 32 (i 1).val
  let c512_i32 : BitVec 32 := 512#32
  let v17 : BitVec 32 := Scalar.muli arg1 c512_i32
  let v18 : BitVec 32 := v17
  let v28 : Index := Scalar.indexCast v18
  let c0_19 : Index := 0#32
  ![0, v28.toNat, 0]
def k0_off16 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v72 : Index := Scalar.indexCast v18
  let c128 : Index := 128#32
  ![v72.toNat, 128]
def k0_off17 (i : grid0.Coords) : Fin 2 → Nat :=
  let c128_43 : Index := 128#32
  let arg1 : BitVec 32 := BitVec.ofNat 32 (i 1).val
  let c512_i32 : BitVec 32 := 512#32
  let v17 : BitVec 32 := Scalar.muli arg1 c512_i32
  let v18 : BitVec 32 := v17
  let v75 : Index := Scalar.indexCast v18
  ![128, v75.toNat]
def k0_off18 (i : grid0.Coords) : Fin 3 → Nat :=
  let c1 : Index := 1#32
  let arg1 : BitVec 32 := BitVec.ofNat 32 (i 1).val
  let c512_i32 : BitVec 32 := 512#32
  let v17 : BitVec 32 := Scalar.muli arg1 c512_i32
  let v18 : BitVec 32 := v17
  let v81 : Index := Scalar.indexCast v18
  let c0_47 : Index := 0#32
  ![1, v81.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8192x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | _ => none
-- ==== FwdRefIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x128x8192 : Shape := ⟨3, ![16, 128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S16x8192, .f32⟩
  | .hbm, ⟨4, _⟩ => ⟨S8192x16x128, .f32⟩
  | .hbm, ⟨5, _⟩ => ⟨S8192x16x128, .f32⟩
  | .hbm, ⟨6, _⟩ => ⟨S8192x16x128, .f32⟩
  | .hbm, ⟨7, _⟩ => ⟨S16x8192x8192, .f32⟩
  | .hbm, ⟨8, _⟩ => ⟨S_, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192x1, .f32⟩
  | .hbm, ⟨13, _⟩ => ⟨S16x1x8192, .f32⟩
  | .hbm, ⟨14, _⟩ => ⟨S16x8192x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .f32⟩
  | .hbm, ⟨40, _⟩ => ⟨S16x128x8192, .f32⟩
  | .hbm, ⟨41, _⟩ => ⟨S8192x16x128, .f32⟩
  | .hbm, ⟨42, _⟩ => ⟨S16x8192x1, .f32⟩
  | .hbm, ⟨43, _⟩ => ⟨S16x8192x1, .f32⟩
  | .hbm, ⟨44, _⟩ => ⟨S16x8192, .f32⟩
  | .hbm, ⟨45, _⟩ => ⟨S8192x2048, .f32⟩
  | .hbm, ⟨46, _⟩ => ⟨S8192x2048, .bf16⟩
  | .hbm, ⟨47, _⟩ => ⟨S16x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.LossValue.lean ====
/- The loss head: what the kernel's two result arrays hold, and that it is the derivative of the squared error and
   twice the loss itself. -/
module

public import proofs.«01_k».proof.Defs
public import proofs.«01_k».proof.Proof.Gen.LossIdeal.Value
public import proofs.«01_k».proof.Proof.Gen.LossRefIdeal.Read
public import proofs.«01_k».proof.Proof.Gen.LossRefIdeal.Run
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.LossIdeal.Loss

open Cert.LossIdeal Cert.LossIdeal.Gen

theorem hz : (![0, 0] : Fin 2 → Nat) = fun _ => 0 := funext fun a => by fin_cases a <;> rfl

/-- The first point leaves the scaled error in the gradient's block. -/
theorem out_A_2 (c : Dev nD) (i : grid0.Coords) (a1 : Memref sig .tc .vmem S512x2048 .f32) (h1 : a1.IsWhole)
    (a2 : Memref sig .tc .vmem S512x2048 .f32) (h2 : a2.IsWhole) (a3 : Memref sig .tc .vmem S512x2048 .f32) (h3 : a3.IsWhole)
    (a4 : Memref sig .tc .vmem S8x128 .f32) (h4 : a4.IsWhole) (hc0 : cond0_0 i) (hc1 : ¬cond0_1 i)
    (x0 x1 : Vec Ideal S512x2048 .f32) :
    out0_A_2 c i a1 h1 a2 h2 a3 h3 a4 h4 hc0 hc1 x0 x1 = k0_pay2 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x2048) hz]

/-- Every later point does the same. -/
theorem out_B_2 (c : Dev nD) (i : grid0.Coords) (a1 : Memref sig .tc .vmem S512x2048 .f32) (h1 : a1.IsWhole)
    (a2 : Memref sig .tc .vmem S512x2048 .f32) (h2 : a2.IsWhole) (a3 : Memref sig .tc .vmem S512x2048 .f32) (h3 : a3.IsWhole)
    (a4 : Memref sig .tc .vmem S8x128 .f32) (h4 : a4.IsWhole) (hc0 : ¬cond0_0 i) (hc1 : cond0_1 i)
    (x0 x1 : Vec Ideal S512x2048 .f32) (xo : Vec Ideal S8x128 .f32) :
    out0_B_2 c i a1 h1 a2 h2 a3 h3 a4 h4 hc0 hc1 x0 x1 xo = k0_pay2 x0 x1 := by
  unfold out0_B_2
  rw [View.read_writes_eq_canon _ _ _ (cover0_B_2 c i a1 h1 a2 h2 a3 h3 a4 h4 hc0 hc1 x0 x1 xo)]
  unfold kernelRun0_B
  dsimp only
  rw [View.canon_unit_zero hz]
  simp only [View.readAt_eq_ld, h1.read_unread, h2.read_unread, View.ld_unit_zero (S := S512x2048) hz]

/-- The first point leaves its rows' sum of mean squares in the loss block. -/
theorem out_A_3 (c : Dev nD) (i : grid0.Coords) (a1 : Memref sig .tc .vmem S512x2048 .f32) (h1 : a1.IsWhole)
    (a2 : Memref sig .tc .vmem S512x2048 .f32) (h2 : a2.IsWhole) (a3 : Memref sig .tc .vmem S512x2048 .f32) (h3 : a3.IsWhole)
    (a4 : Memref sig .tc .vmem S8x128 .f32) (h4 : a4.IsWhole) (hc0 : cond0_0 i) (hc1 : ¬cond0_1 i)
    (x0 x1 : Vec Ideal S512x2048 .f32) :
    out0_A_3 c i a1 h1 a2 h2 a3 h3 a4 h4 hc0 hc1 x0 x1 = k0_pay3 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero hz]
  simp only [View.readAt_eq_ld, h1.read_unread, h2.read_unread, View.ld_unit_zero (S := S512x2048) hz]

/-- A later point adds its rows' sum to what the point before left. -/
theorem out_B_3 (c : Dev nD) (i : grid0.Coords) (a1 : Memref sig .tc .vmem S512x2048 .f32) (h1 : a1.IsWhole)
    (a2 : Memref sig .tc .vmem S512x2048 .f32) (h2 : a2.IsWhole) (a3 : Memref sig .tc .vmem S512x2048 .f32) (h3 : a3.IsWhole)
    (a4 : Memref sig .tc .vmem S8x128 .f32) (h4 : a4.IsWhole) (hc0 : ¬cond0_0 i) (hc1 : cond0_1 i)
    (x0 x1 : Vec Ideal S512x2048 .f32) (xo : Vec Ideal S8x128 .f32) :
    out0_B_3 c i a1 h1 a2 h2 a3 h3 a4 h4 hc0 hc1 x0 x1 xo = addf xo (k0_pay3 x0 x1) := by
  unfold out0_B_3
  rw [View.read_writes_eq_canon _ _ _ (cover0_B_3 c i a1 h1 a2 h2 a3 h3 a4 h4 hc0 hc1 x0 x1 xo)]
  unfold kernelRun0_B
  dsimp only
  rw [View.canon_unit_zero hz]
  unfold k0_pay4
  simp only [View.readAt_eq_ld, h1.read_unread, h2.read_unread, h4.read_unread, View.ld_unit_zero (S := S512x2048) hz,
    View.ld_unit_zero (S := S8x128) hz, shapeCast_self]

/-- One block's rows: the sum over them of the mean of the squared error. -/
theorem pay3_apply (x0 x1 : Vec Ideal S512x2048 .f32) (r : Fin 8) (l : Fin 128) :
    k0_pay3 x0 x1 (ix2 r l) = ∑ a : Fin 512, Ideal.div (∑ k : Fin 2048,
      (x0 (ix2 a k) - x1 (ix2 a k)) * (x0 (ix2 a k) - x1 (ix2 a k)))
        (Ideal.ofBits .f32 0x45000000#32) := by
  pointwise [k0_pay3, k0_pay1]

theorem pay2_apply (x0 x1 : Vec Ideal S512x2048 .f32) (r : Fin 512) (l : Fin 2048) :
    k0_pay2 x0 x1 (ix2 r l) = (x0 (ix2 r l) - x1 (ix2 r l)) * Ideal.ofBits .f32 0x3A000000#32 := by
  pointwise [k0_pay2, k0_pay1]

variable (m : (ℓ : Loc nD τ sig) → Buf (Elt Ideal) ℓ)

/-- The rows of one array, as block `t` of an argument. -/
theorem row_lt (t : Fin cfg0.N) (a : Fin 512) : t.val * 512 + a.val < 8192 := by
  have h : t.val < 16 := t.isLt
  omega

/-- Block `t` of the prediction is its rows from `512 t` on. -/
theorem iblk_0 (c : Dev nD) (t : Fin cfg0.N) (a : Fin 512) (k : Fin 2048) :
    iblk m c 0 t (ix2 a k) = m ((c : Thread nD τ).loc main_arg0) (ix2 ⟨t.val * 512 + a.val, row_lt t a⟩ k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  congr 1
  funext b
  apply Fin.ext
  match b with
  | ⟨0, _⟩ => show win0_0.index t 0 * 512 + 1 * a.val = t.val * 512 + a.val; rw [hi.1, one_mul]
  | ⟨1, _⟩ => show win0_0.index t 1 * 2048 + 1 * k.val = k.val; rw [hi.2]; omega

/-- Block `t` of the target is its rows from `512 t` on. -/
theorem iblk_1 (c : Dev nD) (t : Fin cfg0.N) (a : Fin 512) (k : Fin 2048) :
    iblk m c 1 t (ix2 a k) = m ((c : Thread nD τ).loc main_arg1) (ix2 ⟨t.val * 512 + a.val, row_lt t a⟩ k) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_arg1 _ = _
  rw [V_main_arg1]
  congr 1
  funext b
  apply Fin.ext
  match b with
  | ⟨0, _⟩ => show win0_1.index t 0 * 512 + 1 * a.val = t.val * 512 + a.val; rw [hi.1, one_mul]
  | ⟨1, _⟩ => show win0_1.index t 1 * 2048 + 1 * k.val = k.val; rw [hi.2]; omega

/-- The mean of a row's squared error. -/
def rowMean (y z : S8192x2048.Idx → EReal) (r : Fin 8192) : EReal :=
  Ideal.div (∑ k : Fin 2048, (y (ix2 r k) - z (ix2 r k)) * (y (ix2 r k) - z (ix2 r k))) (Ideal.ofBits .f32 0x45000000#32)

/-- The scaled error. -/
def scaled (y z : S8192x2048.Idx → EReal) : S8192x2048.Idx → EReal := fun j => (y j - z j) * Ideal.ofBits .f32 0x3A000000#32

/-- The sum of the rows' means, everywhere. -/
def meanSum (y z : S8192x2048.Idx → EReal) : S8x128.Idx → EReal := fun _ => ∑ r : Fin 8192, rowMean y z r

/-- After point `n` the gradient's block is that point's rows of the scaled error. -/
theorem outs_2 (c : Dev nD) (t : Fin cfg0.N) :
    (outsAt0 m c t.val t.isLt).1 = k0_pay2 (iblk m c 0 t) (iblk m c 1 t) := by
  have hN : t.val < 16 := t.isLt
  by_cases h : t.val % 16 = 0
  · rw [outsAt0_A m c t h (by omega)]; dsimp only; rw [out_A_2]
  · rw [outsAt0_B m c t h (by omega)]; dsimp only; rw [out_B_2]

/-- After point `n` the loss block is the sum of the points' row sums so far. -/
theorem outs_3 (c : Dev nD) (r : Fin 8) (l : Fin 128) : ∀ (n : ℕ) (hn : n < cfg0.N), (outsAt0 m c n hn).2 (ix2 r l)
    = ∑ t : Fin (n + 1), k0_pay3 (F := Ideal) (iblk m c 0 ⟨t.val, lt_of_lt_of_le t.isLt hn⟩) (iblk m c 1 ⟨t.val, lt_of_lt_of_le t.isLt hn⟩) (ix2 r l)
  | 0, hn => by
    rw [outsAt0_A m c ⟨0, hn⟩ rfl (by show ¬1 ≤ 0; omega), Fin.sum_univ_one]
    dsimp only
    rw [out_A_3]
    rfl
  | n + 1, hn => by
    have hN : n + 1 < 16 := hn
    rw [outsAt0_B m c ⟨n + 1, hn⟩ (by show ¬(n + 1) % 16 = 0; omega) (by show 1 ≤ n + 1; omega), Fin.sum_univ_castSucc]
    dsimp only
    rw [out_B_3]
    exact congrArg₂ (· + ·) (outs_3 c r l n (Nat.lt_of_succ_lt hn)) rfl

/-- The gradient array after the run: the scaled error. -/
theorem final_2 (c : Dev nD) : (dats m 0 c).arrAt 2 cfg0.N
    = scaled (m ((c : Thread nD τ).loc main_arg0)) (m ((c : Thread nD τ).loc main_arg1)) := by
  have hi : ∀ t : Fin grid0.N, win0_2.index t 0 = t.val ∧ win0_2.index t 1 = 0 := by decide +kernel
  refine (dats m 0 c).arrAt_eq_of_cover 2 _ (fun t _ => ?_) (fun (i : S8192x2048.Idx) => ?_)
  · show (cfg0.win 2).cut (grid0.coords t) ((dats m 0 c).after 2 t) = _
    rw [after0_2, outs_2]
    funext j
    rw [View.read_apply]
    obtain ⟨a, k, rfl⟩ : ∃ (a : Fin 512) (k : Fin 2048), j = ix2 a k := ⟨j 0, j 1, (ix2_eta j).symm⟩
    refine (pay2_apply _ _ a k).trans ?_
    rw [iblk_0, iblk_1]
    have e : ((cfg0.win 2).blk t).view.emb (ix2 a k) = ix2 ⟨t.val * 512 + a.val, row_lt t a⟩ k := by
      funext b
      apply Fin.ext
      match b with
      | ⟨0, _⟩ => show win0_2.index t 0 * 512 + 1 * a.val = t.val * 512 + a.val; rw [(hi t).1, one_mul]
      | ⟨1, _⟩ => show win0_2.index t 1 * 2048 + 1 * k.val = k.val; rw [(hi t).2]; omega
    rw [e]
    rfl
  · have h0 : (i 0).val < 8192 := (i 0).isLt
    have h1 : (i 1).val < 2048 := (i 1).isLt
    obtain ⟨t, ht⟩ : ∃ t : Fin cfg0.N, t.val = (i 0).val / 512 := ⟨⟨(i 0).val / 512, by show _ < 16; omega⟩, rfl⟩
    refine ⟨t, flush0_2 _, ?_⟩
    show i ∈ ((View.whole main_v0_0).slice (win0_2.rect t)).set
    rw [View.set_slice_whole, Rect.mem_set_unit]
    intro a
    match a with
    | ⟨0, _⟩ =>
      show win0_2.index _ 0 * 512 ≤ (i 0).val ∧ (i 0).val < win0_2.index _ 0 * 512 + 512
      rw [(hi _).1]; omega
    | ⟨1, _⟩ =>
      show win0_2.index _ 1 * 2048 ≤ (i 1).val ∧ (i 1).val < win0_2.index _ 1 * 2048 + 2048
      rw [(hi _).2]; omega

/-- The loss array after the run: the sum of the rows' means, everywhere. -/
theorem final_3 (c : Dev nD) : (dats m 0 c).arrAt 3 cfg0.N
    = meanSum (m ((c : Thread nD τ).loc main_arg0)) (m ((c : Thread nD τ).loc main_arg1)) := by
  have hi : ∀ t : Fin grid0.N, win0_3.index t 0 = 0 ∧ win0_3.index t 1 = 0 := by decide +kernel
  refine (dats m 0 c).arrAt_eq_of_cover 3 _ (fun t hf => ?_) (fun (i : S8x128.Idx) => ?_)
  · have ht : t.val = 15 := by
      have := (flush0_3 t).mp hf
      have h16 : t.val < 16 := t.isLt
      omega
    show (cfg0.win 3).cut (grid0.coords t) ((dats m 0 c).after 3 t) = _
    rw [after0_3]
    funext j
    rw [View.read_apply]
    obtain ⟨a, k, rfl⟩ : ∃ (a : Fin 8) (k : Fin 128), j = ix2 a k := ⟨j 0, j 1, (ix2_eta j).symm⟩
    refine (outs_3 m c a k t.val t.isLt).trans ?_
    obtain ⟨tv, htv⟩ := t
    obtain rfl : tv = 15 := ht
    unfold meanSum
    rw [Fin.sum_univ_tiles 16 512 (by norm_num) (fun r : Fin 8192 => rowMean (m ((c : Thread nD τ).loc main_arg0)) (m ((c : Thread nD τ).loc main_arg1)) r)]
    refine Finset.sum_congr rfl fun t _ => ?_
    rw [pay3_apply]
    refine Finset.sum_congr rfl fun b _ => ?_
    simp only [iblk_0, iblk_1, rowMean]
  · obtain ⟨t, ht⟩ : ∃ t : Fin cfg0.N, t.val = 15 := ⟨⟨15, by decide⟩, rfl⟩
    refine ⟨t, (flush0_3 _).mpr (by rw [ht]), ?_⟩
    have h0 : (i 0).val < 8 := (i 0).isLt
    have h1 : (i 1).val < 128 := (i 1).isLt
    show i ∈ ((View.whole main_v0_1).slice (win0_3.rect t)).set
    rw [View.set_slice_whole, Rect.mem_set_unit]
    intro a
    match a with
    | ⟨0, _⟩ =>
      show win0_3.index _ 0 * 8 ≤ (i 0).val ∧ (i 0).val < win0_3.index _ 0 * 8 + 8
      rw [(hi _).1]; omega
    | ⟨1, _⟩ =>
      show win0_3.index _ 1 * 128 ≤ (i 1).val ∧ (i 1).val < win0_3.index _ 1 * 128 + 128
      rw [(hi _).2]; omega

end Cert.LossIdeal.Loss

namespace Cert

/-- The word of 2048. -/
theorem ofBits_2048 : Ideal.ofBits .f32 0x45000000#32 = ((2048 : ℝ) : EReal) := by
  simp [Ideal.ofBits, Ideal.ieee, -EReal.coe_mul]; norm_num

/-- The word of a half. -/
theorem ofBits_half : Ideal.ofBits .f32 0x3F000000#32 = ((1 / 2 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

/-- The word of 1 / 2048. -/
theorem ofBits_inv_2048 : Ideal.ofBits .f32 0x3A000000#32 = ((1 / 2048 : ℝ) : EReal) := by
  simp [Ideal.ofBits, Ideal.ieee, -EReal.coe_mul]; norm_num

end Cert

namespace Cert.LossRefIdeal.Loss

open Cert.LossRefIdeal

/-- The derivative of the loss is the scaled error. -/
theorem grad_eq (x0 x1 : S8192x2048.Idx → EReal) :
    Read.val_main_v14 (F := Ideal) x0 x1 = LossIdeal.Loss.scaled x0 x1 := by
  funext j
  simp only [Read.val_main_v14_apply, Read.val_main_v13_apply, Read.val_main_v12_apply, Read.val_main_v11_apply,
    Read.val_main_v10_apply, Read.val_main_v9_apply, Read.val_main_v3_apply, Read.val_main_v2_apply, Read.val_main_v0_apply,
    Read.val_main_cst_apply, Read.val_main_cst_4_apply, Read.val_main_cst_5_apply, Read.val_main_cst_6_apply]
  unfold LossIdeal.Loss.scaled
  pointwise
  rw [ofBits_2048, ofBits_half, ofBits_two, ofBits_inv_2048, Ideal.div_coe (by norm_num), ← mul_assoc, ← EReal.coe_mul,
    ← EReal.coe_mul, mul_comm]
  congr 2
  norm_num

/-- Twice the loss is the sum of the rows' means. -/
theorem loss_eq (x0 x1 : S8192x2048.Idx → EReal) :
    Read.val_main_v16 (F := Ideal) x0 x1 = LossIdeal.Loss.meanSum x0 x1 := by
  funext j
  simp only [Read.val_main_v16_apply, Read.val_main_v15_apply, Read.val_main_v8_apply, Read.val_main_v7_apply,
    Read.val_main_v6_apply, Read.val_main_v5_apply, Read.val_main_v4_apply, Read.val_main_v1_apply, Read.val_main_v0_apply,
    Read.val_main_cst_7_apply, Read.val_main_cst_3_apply, Read.val_main_cst_2_apply, Read.val_main_cst_1_apply, Read.val_main_cst_0_apply]
  unfold LossIdeal.Loss.meanSum LossIdeal.Loss.rowMean
  pointwise
  rw [ofBits_half, ofBits_two, ← mul_assoc, ← EReal.coe_mul, show (2 : ℝ) * (1 / 2) = 1 by norm_num, EReal.coe_one, one_mul]
  rw [sum_idx1]
  refine Finset.sum_congr rfl fun r _ => ?_
  have e : ∀ k : Fin 2048, Read.idx_main_v4 (ix1 r) k = ix2 r k := fun k => funext fun a => by fin_cases a <;> rfl
  simp only [e]

end Cert.LossRefIdeal.Loss

namespace Cert.Proof

open Cert

/-- The loss head computes the loss (twice, over the whole block) and its derivative. -/
theorem algebraic_loss : Cert.algebraic_LossIdeal_LossRefIdeal (hLossIdeal := Cert.LossIdeal.Gen.facts) (hLossRefIdeal := Cert.LossRefIdeal.Gen.facts) := by
  intro m g m' g' _ hargs
  refine ⟨fun c => LossIdeal.Loss.scaled (m ((c : Thread LossIdeal.nD LossIdeal.τ).loc LossIdeal.main_arg0)) (m ((c : Thread LossIdeal.nD LossIdeal.τ).loc LossIdeal.main_arg1)),
    fun c => LossIdeal.Loss.meanSum (m ((c : Thread LossIdeal.nD LossIdeal.τ).loc LossIdeal.main_arg0)) (m ((c : Thread LossIdeal.nD LossIdeal.τ).loc LossIdeal.main_arg1)), ?_, ?_⟩
  · refine (θ_run LossIdeal.defs _ _).mono (fun r h c => ?_) (LossIdeal.Value.run_blocks m g)
    obtain ⟨h2, h3, k0, k1⟩ := h c
    exact ⟨h2.trans (LossIdeal.Loss.final_2 m c), h3.trans (LossIdeal.Loss.final_3 m c), k0, k1⟩
  · refine (θ_run LossRefIdeal.defs _ _).mono (fun r h c => ?_) (LossRefIdeal.Value.run m' g')
    obtain ⟨h2, h3, k0, k1⟩ := h c
    obtain ⟨a0, a1⟩ := hargs c
    refine ⟨h2.trans ?_, h3.trans ?_, k0, k1⟩
    · rw [LossRefIdeal.Read.val_main_v14_eq, LossRefIdeal.Loss.grad_eq]
      exact congrArg₂ LossIdeal.Loss.scaled a0 a1
    · rw [LossRefIdeal.Read.val_main_v16_eq, LossRefIdeal.Loss.loss_eq]
      exact congrArg₂ LossIdeal.Loss.meanSum a0 a1

/-- The reference runs, keeps its arguments and leaves every counter at zero. -/
theorem frame_lossRef : Cert.quiescent_LossRefIdeal (hLossRefIdeal := Cert.LossRefIdeal.Gen.facts) := fun m ρ _ =>
  (θ_run LossRefIdeal.defs _ _).mono (fun r h => ⟨fun c => (h c).2.2, sem_eq_zero_of_no_sems (by decide) r.2⟩)
    (LossRefIdeal.Value.run m ρ)

end Cert.Proof

end
-- ==== Proof.AttnBody.lean ====
/- The attention's backward kernel at one grid point: what its body does to the memory it is given. Over any float values. -/
module

public import proofs.«01_k».proof.Proof.Gen.AttnIdeal.Loops
public import proofs.«01_k».proof.Proof.Gen.AttnIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole staging memrefs that the body is called with: eight inputs, five results, three scratch buffers. -/
structure Refs where
  a2 : Memref sig .tc .vmem S8192x256 .bf16
  w2 : a2.IsWhole
  a3 : Memref sig .tc .vmem S8192x256 .bf16
  w3 : a3.IsWhole
  a4 : Memref sig .tc .vmem S2x1x8192 .f32
  w4 : a4.IsWhole
  a5 : Memref sig .tc .vmem S2x1x8192 .f32
  w5 : a5.IsWhole
  a6 : Memref sig .tc .vmem S2x1x8192 .f32
  w6 : a6.IsWhole
  a7 : Memref sig .tc .vmem S512x256 .bf16
  w7 : a7.IsWhole
  a8 : Memref sig .tc .vmem S512x256 .bf16
  w8 : a8.IsWhole
  a9 : Memref sig .tc .vmem S2x512x1 .f32
  w9 : a9.IsWhole
  a10 : Memref sig .tc .vmem S8192x256 .f32
  w10 : a10.IsWhole
  a11 : Memref sig .tc .vmem S512x256 .f32
  w11 : a11.IsWhole
  a12 : Memref sig .tc .vmem S512x256 .bf16
  w12 : a12.IsWhole
  a13 : Memref sig .tc .vmem S2x512x1 .f32
  w13 : a13.IsWhole
  a14 : Memref sig .tc .vmem S2x1x8192 .f32
  w14 : a14.IsWhole
  a15 : Memref sig .tc .vmem S512x256 .f32
  w15 : a15.IsWhole
  a16 : Memref sig .tc .vmem S512x256 .f32
  w16 : a16.IsWhole
  a17 : Memref sig .tc .vmem S2x512x1 .f32
  w17 : a17.IsWhole

/-- What the inputs hold: the heads' queries, the cotangent, the gates' cumulative sum, the rows' log-sums, the rows' sums
    of cotangent times output, the point's block of keys, of values and of the keys' cumulative sum. -/
structure Ins (F : FTy → Type) [FloatOps F] where
  x2 : Vec F S8192x256 .bf16
  x3 : Vec F S8192x256 .bf16
  x4 : Vec F S2x1x8192 .f32
  x5 : Vec F S2x1x8192 .f32
  x6 : Vec F S2x1x8192 .f32
  x7 : Vec F S512x256 .bf16
  x8 : Vec F S512x256 .bf16
  x9 : Vec F S2x512x1 .f32

/-- What the results hold: the gradients of the queries, keys, values, and of the cumulative sum along keys and queries. -/
structure Outs (F : FTy → Type) [FloatOps F] where
  x10 : Vec F S8192x256 .f32
  x11 : Vec F S512x256 .f32
  x12 : Vec F S512x256 .bf16
  x13 : Vec F S2x512x1 .f32
  x14 : Vec F S2x1x8192 .f32

/-- The body on those memrefs. -/
abbrev body (i : grid0.Coords) (R : Refs) : Prog (TpuEff nD τ sig (Elt F) Λ₀ .tc) PUnit :=
  cc0_attn_bwd (F := F) i R.a2 R.w2 R.a3 R.w3 R.a4 R.w4 R.a5 R.w5 R.a6 R.w6 R.a7 R.w7 R.a8 R.w8 R.a9 R.w9 R.a10 R.w10 R.a11 R.w11 R.a12 R.w12 R.a13 R.w13 R.a14 R.w14 R.a15 R.w15 R.a16 R.w16 R.a17 R.w17

/-- The point opens a new pair of heads: its block of keys is the first. -/
abbrev opens (i : grid0.Coords) : Prop :=
  (Scalar.cmpi .ne (Scalar.extui (Scalar.cmpi .eq (BitVec.ofNat 32 (i 1).val) 0#32)) 0#32) = 1#1

/-- The inputs are owned at what they hold. -/
def heldIn (c : Dev nD) (R : Refs) (X : Ins F) : sProp 𝕄 :=
  iprop(owns (c : Thread nD τ) R.a2 fullShare X.x2 ∗ owns (c : Thread nD τ) R.a3 fullShare X.x3 ∗ owns (c : Thread nD τ) R.a4 fullShare X.x4 ∗ owns (c : Thread nD τ) R.a5 fullShare X.x5 ∗ owns (c : Thread nD τ) R.a6 fullShare X.x6 ∗ owns (c : Thread nD τ) R.a7 fullShare X.x7 ∗ owns (c : Thread nD τ) R.a8 fullShare X.x8 ∗ owns (c : Thread nD τ) R.a9 fullShare X.x9)

/-- The results are owned at what they hold. -/
def heldOut (c : Dev nD) (R : Refs) (Y : Outs F) : sProp 𝕄 :=
  iprop(owns (c : Thread nD τ) R.a10 fullShare Y.x10 ∗ owns (c : Thread nD τ) R.a11 fullShare Y.x11 ∗ owns (c : Thread nD τ) R.a12 fullShare Y.x12 ∗ owns (c : Thread nD τ) R.a13 fullShare Y.x13 ∗ owns (c : Thread nD τ) R.a14 fullShare Y.x14)

/-- The scratch buffers, and the results that a point stores whole, are owned at anything. -/
def heldRest (c : Dev nD) (R : Refs) : sProp 𝕄 :=
  iprop((∃ d, owns (c : Thread nD τ) R.a11 fullShare d) ∗ (∃ d, owns (c : Thread nD τ) R.a12 fullShare d) ∗ (∃ d, owns (c : Thread nD τ) R.a13 fullShare d) ∗ (∃ d, owns (c : Thread nD τ) R.a15 fullShare d) ∗ (∃ d, owns (c : Thread nD τ) R.a16 fullShare d) ∗ (∃ d, owns (c : Thread nD τ) R.a17 fullShare d))
def heldScratch (c : Dev nD) (R : Refs) : sProp 𝕄 :=
  iprop((∃ d, owns (c : Thread nD τ) R.a15 fullShare d) ∗ (∃ d, owns (c : Thread nD τ) R.a16 fullShare d) ∗ (∃ d, owns (c : Thread nD τ) R.a17 fullShare d))

/-- The loop over what a division by the step leaves over has no trips. -/
theorem rest_trips (i : grid0.Coords) : Scf.trips (k0_t2_loop i).lb (k0_t2_loop i).ub (k0_t2_loop i).st = 0 := by
  unfold k0_t2_loop; dsimp only; generalize i 1 = j; revert j; decide

/-- A whole store leaves its payload. -/
theorem read_stored {sp : Space} {S : Shape} {e : EltTy} (v : View sig .tc sp S e) {off : Fin S.rank → Nat} (h : off = fun _ => 0)
    (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w :=
  (View.read_writes_eq_canon _ _ _ fun y => ⟨_, List.mem_singleton_self _, View.mem_set_unit_zero h inb y⟩).trans
    (View.canon_unit_zero h inb w)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1600000 in
/-- A point that does not open a pair of heads. -/
noncomputable def run_next (c : Dev nD) (i : grid0.Coords) (R : Refs) (hc : ¬opens i) (X : Ins F)
    (dq : Vec F S8192x256 .f32) (dcq : Vec F S2x1x8192 .f32) :
    { Y : Outs F // ∀ (E : Set ℕ) (K : PUnit → sProp 𝕄),
        iprop(heldIn c R X ∗ owns (c : Thread nD τ) R.a10 fullShare dq ∗ owns (c : Thread nD τ) R.a14 fullShare dcq ∗ heldRest c R
            ∗ (iprop(heldIn c R X ∗ heldOut c R Y ∗ heldScratch c R) -∗ K ⟨⟩))
          ⊢ wp frame (wpE (defs₀ (F := F)) Variants.none c none) E (body i R) K } := by
  refine ⟨⟨?_, ?_, ?_, ?_, ?_⟩, fun E K => ?run⟩
  case run =>
    unfold body
    simp only [cc0_attn_bwd_eq_skeleton]; unfold cc0_attn_bwd_skel
    simp only [k0_part9_eq_skeleton]
    unfold heldIn heldOut heldRest heldScratch owns
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%f10, %h10, H10⟩, ⟨%f14, %h14, H14⟩, ⟨⟨%d11, %f11, -, H11⟩, ⟨%d12, %f12, -, H12⟩, ⟨%d13, %f13, -, H13⟩, ⟨%d15, %f15, -, H15⟩, ⟨%d16, %f16, -, H16⟩, ⟨%d17, %f17, -, H17⟩⟩, Hk⟩
    obtain rfl := R.w2.eq_unread h2; obtain rfl := R.w3.eq_unread h3; obtain rfl := R.w4.eq_unread h4; obtain rfl := R.w5.eq_unread h5; obtain rfl := R.w6.eq_unread h6; obtain rfl := R.w7.eq_unread h7; obtain rfl := R.w8.eq_unread h8; obtain rfl := R.w9.eq_unread h9; obtain rfl := R.w10.eq_unread h10; obtain rfl := R.w14.eq_unread h14
    sl_exec (disch := first | sl_exact hc)
    rw [rest_trips]; simp only [pb_k0_t2, List.nil_append]
    sl_step
    iapply Hk
    isplitl [H2 H3 H4 H5 H6 H7 H8 H9]
    · isplitl [H2]
      · iexists _; isplitr; · ipureintro; exact R.w2.read_unread _
        iexact H2
      isplitl [H3]
      · iexists _; isplitr; · ipureintro; exact R.w3.read_unread _
        iexact H3
      isplitl [H4]
      · iexists _; isplitr; · ipureintro; exact R.w4.read_unread _
        iexact H4
      isplitl [H5]
      · iexists _; isplitr; · ipureintro; exact R.w5.read_unread _
        iexact H5
      isplitl [H6]
      · iexists _; isplitr; · ipureintro; exact R.w6.read_unread _
        iexact H6
      isplitl [H7]
      · iexists _; isplitr; · ipureintro; exact R.w7.read_unread _
        iexact H7
      isplitl [H8]
      · iexists _; isplitr; · ipureintro; exact R.w8.read_unread _
        iexact H8
      iexists _; isplitr; · ipureintro; exact R.w9.read_unread _
      iexact H9
    isplitl [H10 H11 H12 H13 H14]
    · isplitl [H10]
      · iexists _; isplitr; swap; · iexact H10
        ipureintro; rfl
      isplitl [H11]
      · iexists _; isplitr; swap; · iexact H11
        ipureintro; exact read_stored (F := F) R.a11.view hz2 _ _ _
      isplitl [H12]
      · iexists _; isplitr; swap; · iexact H12
        ipureintro; exact read_stored (F := F) R.a12.view hz2 _ _ _
      isplitl [H13]
      · iexists _; isplitr; swap; · iexact H13
        ipureintro; exact read_stored (F := F) R.a13.view hz3 _ _ _
      iexists _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

set_option maxHeartbeats 1600000 in
/-- A point that opens a pair of heads. -/
noncomputable def run_open (c : Dev nD) (i : grid0.Coords) (R : Refs) (hc : opens i) (X : Ins F) :
    { Y : Outs F // ∀ (E : Set ℕ) (K : PUnit → sProp 𝕄),
        iprop(heldIn c R X ∗ (∃ d, owns (c : Thread nD τ) R.a10 fullShare d) ∗ (∃ d, owns (c : Thread nD τ) R.a14 fullShare d) ∗ heldRest c R
            ∗ (iprop(heldIn c R X ∗ heldOut c R Y ∗ heldScratch c R) -∗ K ⟨⟩))
          ⊢ wp frame (wpE (defs₀ (F := F)) Variants.none c none) E (body i R) K } := by
  refine ⟨⟨?_, ?_, ?_, ?_, ?_⟩, fun E K => ?run⟩
  case run =>
    unfold body
    simp only [cc0_attn_bwd_eq_skeleton]; unfold cc0_attn_bwd_skel
    simp only [k0_part9_eq_skeleton]
    unfold heldIn heldOut heldRest heldScratch owns
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%d10, %f10, %h10, H10⟩, ⟨%d14, %f14, %h14, H14⟩, ⟨⟨%d11, %f11, -, H11⟩, ⟨%d12, %f12, -, H12⟩, ⟨%d13, %f13, -, H13⟩, ⟨%d15, %f15, -, H15⟩, ⟨%d16, %f16, -, H16⟩, ⟨%d17, %f17, -, H17⟩⟩, Hk⟩
    obtain rfl := R.w2.eq_unread h2; obtain rfl := R.w3.eq_unread h3; obtain rfl := R.w4.eq_unread h4; obtain rfl := R.w5.eq_unread h5; obtain rfl := R.w6.eq_unread h6; obtain rfl := R.w7.eq_unread h7; obtain rfl := R.w8.eq_unread h8; obtain rfl := R.w9.eq_unread h9; obtain rfl := R.w10.eq_unread h10; obtain rfl := R.w14.eq_unread h14
    sl_exec (disch := first | sl_exact hc)
    rw [rest_trips]; simp only [pb_k0_t2, List.nil_append]
    sl_step
    iapply Hk
    isplitl [H2 H3 H4 H5 H6 H7 H8 H9]
    · isplitl [H2]
      · iexists _; isplitr; · ipureintro; exact R.w2.read_unread _
        iexact H2
      isplitl [H3]
      · iexists _; isplitr; · ipureintro; exact R.w3.read_unread _
        iexact H3
      isplitl [H4]
      · iexists _; isplitr; · ipureintro; exact R.w4.read_unread _
        iexact H4
      isplitl [H5]
      · iexists _; isplitr; · ipureintro; exact R.w5.read_unread _
        iexact H5
      isplitl [H6]
      · iexists _; isplitr; · ipureintro; exact R.w6.read_unread _
        iexact H6
      isplitl [H7]
      · iexists _; isplitr; · ipureintro; exact R.w7.read_unread _
        iexact H7
      isplitl [H8]
      · iexists _; isplitr; · ipureintro; exact R.w8.read_unread _
        iexact H8
      iexists _; isplitr; · ipureintro; exact R.w9.read_unread _
      iexact H9
    isplitl [H10 H11 H12 H13 H14]
    · isplitl [H10]
      · iexists _; isplitr; swap; · iexact H10
        ipureintro; rfl
      isplitl [H11]
      · iexists _; isplitr; swap; · iexact H11
        ipureintro; exact read_stored (F := F) R.a11.view hz2 _ _ _
      isplitl [H12]
      · iexists _; isplitr; swap; · iexact H12
        ipureintro; exact read_stored (F := F) R.a12.view hz2 _ _ _
      isplitl [H13]
      · iexists _; isplitr; swap; · iexact H13
        ipureintro; exact read_stored (F := F) R.a13.view hz3 _ _ _
      iexists _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.AttnIdeal.Bwd

end
-- ==== Proof.AttnPay.lean ====
/- The attention's backward kernel over the extended reals: what one block of queries adds, read off the values that the body computes. -/
module

public import proofs.«01_k».proof.Proof.AttnBody
public import Idealize.ShloMosaic.Lib.Pointwise
public import Idealize.ShloMosaic.PureOps.Ideal.Laws

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic

local notation "E" => Idealize.ShloMosaic.Ideal

/-- log 2 as a value. -/
abbrev ln2 : EReal := ((Real.log 2 : ℝ) : EReal)

/-- The factor that turns a gradient of folded queries and keys into one of the queries and keys. -/
abbrev unfold : EReal := ((Real.sqrt ((Real.sqrt 128)⁻¹ * (Real.log 2)) : ℝ) : EReal)

theorem named_ln2 : Named.named (F := Ideal) κ "ln2" (φ := .f32) 0x3F317218#32 = ln2 := rfl
theorem named_unfold : Named.named (F := Ideal) κ "unfold" (φ := .f32) 0x3E7D75E0#32 = unfold := rfl
theorem named_mask : Named.named (F := Ideal) κ "mask" (φ := .f32) 0xF149F2CA#32 = (⊥ : EReal) := rfl

/-- One score, from a key's and a query's features, the gate's sum and log-sum of the query and the gate's sum of the key. -/
def scoreOf (k q : S512x128.Idx → EReal) (cr ls : S1x1x512.Idx → EReal) (ck : S1x512x1.Idx → EReal) (κ ρ : Fin 512) : EReal :=
  (∑ d : Fin 128, k (ix2 κ d) * q (ix2 ρ d)) * ln2 + ((cr (ix3 0 0 ρ) - ls (ix3 0 0 ρ)) - ck (ix3 0 κ 0))

/-- What a score's probability is multiplied with to give its gradient. -/
def slopeOf (v do_ : S512x128.Idx → EReal) (dl : S1x1x512.Idx → EReal) (κ ρ : Fin 512) : EReal :=
  (∑ d : Fin 128, v (ix2 κ d) * do_ (ix2 ρ d)) - dl (ix3 0 0 ρ)

theorem id6 (x) : k0_pay6 (F := E) x = x := shapeCast_self _ _
theorem id7 (x) : k0_pay7 (F := E) x = x := shapeCast_self _ _
theorem id8 (x) : k0_pay8 (F := E) x = x := shapeCast_self _ _
theorem id19 (x) : k0_pay19 (F := E) x = x := shapeCast_self _ _
theorem id20 (x) : k0_pay20 (F := E) x = x := shapeCast_self _ _
theorem id21 (x) : k0_pay21 (F := E) x = x := shapeCast_self _ _
theorem id57 (x) : k0_pay57 (F := E) x = x := shapeCast_self _ _
theorem id58 (x) : k0_pay58 (F := E) x = x := shapeCast_self _ _
theorem id59 (x) : k0_pay59 (F := E) x = x := shapeCast_self _ _
theorem id69 (x) : k0_pay69 (F := E) x = x := shapeCast_self _ _
theorem id70 (x) : k0_pay70 (F := E) x = x := shapeCast_self _ _
theorem id71 (x) : k0_pay71 (F := E) x = x := shapeCast_self _ _

theorem pay9_at (k q cr ls ck) (κ ρ : Fin 512) :
    k0_pay9 (F := E) k q cr ls ck (ix2 κ ρ) = Ideal.exp (scoreOf k q cr ls ck κ ρ) := by
  unfold scoreOf
  pointwise [k0_pay9, named_ln2, id6, id7, id8]
theorem pay10_at (k q do_ cr ls dl ck v) (κ ρ : Fin 512) :
    k0_pay10 (F := E) k q do_ cr ls dl ck v (ix2 κ ρ) = Ideal.exp (scoreOf k q cr ls ck κ ρ) * slopeOf v do_ dl κ ρ := by
  unfold scoreOf slopeOf
  pointwise [k0_pay10, k0_pay9, named_ln2, id6, id7, id8]

theorem pay22_at (k q cr ls ck) (κ ρ : Fin 512) :
    k0_pay22 (F := E) k q cr ls ck (ix2 κ ρ) = Ideal.exp (scoreOf k q cr ls ck κ ρ) := by
  unfold scoreOf
  pointwise [k0_pay22, named_ln2, id19, id20, id21]
theorem pay23_at (k q do_ cr ls dl ck v) (κ ρ : Fin 512) :
    k0_pay23 (F := E) k q do_ cr ls dl ck v (ix2 κ ρ) = Ideal.exp (scoreOf k q cr ls ck κ ρ) * slopeOf v do_ dl κ ρ := by
  unfold scoreOf slopeOf
  pointwise [k0_pay23, k0_pay22, named_ln2, id19, id20, id21]

theorem pay11_eq (k q do_ cr ls dl ck v) : k0_pay11 (F := E) k q do_ cr ls dl ck v = k0_pay10 (F := E) k q do_ cr ls dl ck v := rfl
theorem pay24_eq (x) : k0_pay24 (F := E) x = x := rfl
theorem pay60_at (cr ls) (ρ : Fin 512) : k0_pay60 (F := E) cr ls (ix2 0 ρ) = cr (ix3 0 0 ρ) - ls (ix3 0 0 ρ) := by
  pointwise [k0_pay60]

/-- A comparison of two counters that selects. -/
theorem select_sge {a b : ℕ} (ha : a < 8192) (hb : b < 8192) (x y : EReal) :
    Scalar.select (IntOp.cmpi CmpIPredicate.sge (BitVec.ofNat 32 a) (BitVec.ofNat 32 b)) x y = if b ≤ a then x else y := by
  have h : IntOp.cmpi CmpIPredicate.sge (BitVec.ofNat 32 a) (BitVec.ofNat 32 b) = 1#1 ↔ b ≤ a := by
    word_cmp
  unfold Scalar.select
  by_cases hab : b ≤ a
  · rw [if_pos hab]; exact if_pos (h.mpr hab)
  · rw [if_neg hab]; exact if_neg (fun e => hab (h.mp e))

theorem exp_bot : Ideal.exp (⊥ : EReal) = 0 := rfl

/-- A probability of the block of queries that the block of keys meets: zero where the key comes after the query. -/
def probOf (k q : S512x128.Idx → EReal) (cr ls : S1x1x512.Idx → EReal) (ck : S1x512x1.Idx → EReal) (κ ρ : Fin 512) : EReal :=
  if κ.val ≤ ρ.val then Ideal.exp (scoreOf k q cr ls ck κ ρ) else 0

theorem pay61_at (k q cr ls ck) (κ ρ : Fin 512) :
    k0_pay61 (F := E) k q (k0_pay60 cr ls) ck (ix2 κ ρ) = probOf k q cr ls ck κ ρ := by
  unfold probOf scoreOf
  pointwise [k0_pay61, pay60_at, named_ln2, named_mask]
  rw [select_sge (by omega) (by omega), apply_ite Ideal.exp, exp_bot]
theorem pay62_at (k q do_ cr ls dl ck v) (κ ρ : Fin 512) :
    k0_pay62 (F := E) k q do_ (k0_pay60 cr ls) dl ck v (ix2 κ ρ) = probOf k q cr ls ck κ ρ * slopeOf v do_ dl κ ρ := by
  unfold slopeOf
  pointwise [k0_pay62, pay61_at]
theorem pay63_eq (k q do_ b dl ck v) : k0_pay63 (F := E) k q do_ b dl ck v = k0_pay62 (F := E) k q do_ b dl ck v := rfl
theorem pay72_at (k q cr ls ck) (κ ρ : Fin 512) :
    k0_pay72 (F := E) k q cr ls ck (ix2 κ ρ) = probOf k q cr ls ck κ ρ := by
  unfold probOf scoreOf
  pointwise [k0_pay72, named_ln2, named_mask]
  rw [select_sge (by omega) (by omega), apply_ite Ideal.exp, exp_bot]
theorem pay73_at (k q do_ cr ls dl ck v) (κ ρ : Fin 512) :
    k0_pay73 (F := E) k q do_ cr ls dl ck v (ix2 κ ρ) = probOf k q cr ls ck κ ρ * slopeOf v do_ dl κ ρ := by
  unfold slopeOf
  pointwise [k0_pay73, pay72_at]
theorem pay74_eq (k q do_ cr ls dl ck v) : k0_pay74 (F := E) k q do_ cr ls dl ck v = k0_pay73 (F := E) k q do_ cr ls dl ck v := rfl

theorem pay12_at (w p acc) (κ : Fin 512) (d : Fin 128) : k0_pay12 (F := E) w p acc (ix2 κ d) = acc (ix2 κ d) + ∑ ρ : Fin 512, p (ix2 κ ρ) * w (ix2 ρ d) := by
  pointwise [k0_pay12]
theorem pay25_at (w p acc) (κ : Fin 512) (d : Fin 128) : k0_pay25 (F := E) w p acc (ix2 κ d) = acc (ix2 κ d) + ∑ ρ : Fin 512, p (ix2 κ ρ) * w (ix2 ρ d) := by
  pointwise [k0_pay25]
theorem pay13_at (w p acc) (κ : Fin 512) (d : Fin 128) : k0_pay13 (F := E) w p acc (ix2 κ d) = acc (ix2 κ d) + ∑ ρ : Fin 512, p (ix2 κ ρ) * w (ix2 ρ d) := by
  pointwise [k0_pay13]
theorem pay26_at (w p acc) (κ : Fin 512) (d : Fin 128) : k0_pay26 (F := E) w p acc (ix2 κ d) = acc (ix2 κ d) + ∑ ρ : Fin 512, p (ix2 κ ρ) * w (ix2 ρ d) := by
  pointwise [k0_pay26, pay24_eq]
theorem pay76_at (w p acc) (κ : Fin 512) (d : Fin 128) : k0_pay76 (F := E) w p acc (ix2 κ d) = acc (ix2 κ d) + ∑ ρ : Fin 512, p (ix2 κ ρ) * w (ix2 ρ d) := by
  pointwise [k0_pay76]
theorem pay64_at (k q w cr ls ck acc) (κ : Fin 512) (d : Fin 128) : k0_pay64 (F := E) k q w (k0_pay60 cr ls) ck acc (ix2 κ d) = acc (ix2 κ d) + ∑ ρ : Fin 512, probOf k q cr ls ck κ ρ * w (ix2 ρ d) := by
  pointwise [k0_pay64, pay61_at]
theorem pay65_at (k q do_ cr ls dl ck v acc) (κ : Fin 512) (d : Fin 128) : k0_pay65 (F := E) k q do_ (k0_pay60 cr ls) dl ck v acc (ix2 κ d) = acc (ix2 κ d) + ∑ ρ : Fin 512, probOf k q cr ls ck κ ρ * slopeOf v do_ dl κ ρ * q (ix2 ρ d) := by
  pointwise [k0_pay65, pay63_eq, pay62_at]
theorem pay75_at (k q w cr ls ck acc) (κ : Fin 512) (d : Fin 128) : k0_pay75 (F := E) k q w cr ls ck acc (ix2 κ d) = acc (ix2 κ d) + ∑ ρ : Fin 512, probOf k q cr ls ck κ ρ * w (ix2 ρ d) := by
  pointwise [k0_pay75, pay72_at]
theorem pay14_at (k p acc) (ρ : Fin 512) (d : Fin 128) : k0_pay14 (F := E) k p acc (ix2 ρ d) = acc (ix2 ρ d) + (∑ κ : Fin 512, p (ix2 κ ρ) * k (ix2 κ d)) * unfold := by
  pointwise [k0_pay14, named_unfold]
theorem pay27_at (k p acc) (ρ : Fin 512) (d : Fin 128) : k0_pay27 (F := E) k p acc (ix2 ρ d) = acc (ix2 ρ d) + (∑ κ : Fin 512, p (ix2 κ ρ) * k (ix2 κ d)) * unfold := by
  pointwise [k0_pay27, named_unfold, pay24_eq]
theorem pay66_at (k p acc) (ρ : Fin 512) (d : Fin 128) : k0_pay66 (F := E) k p acc (ix2 ρ d) = acc (ix2 ρ d) + (∑ κ : Fin 512, p (ix2 κ ρ) * k (ix2 κ d)) * unfold := by
  pointwise [k0_pay66, named_unfold]
theorem pay77_at (k p acc) (ρ : Fin 512) (d : Fin 128) : k0_pay77 (F := E) k p acc (ix2 ρ d) = acc (ix2 ρ d) + (∑ κ : Fin 512, p (ix2 κ ρ) * k (ix2 κ d)) * unfold := by
  pointwise [k0_pay77, named_unfold]
theorem pay15_at (p acc) (κ : Fin 512) : k0_pay15 (F := E) p acc (ix3 0 κ 0) = acc (ix3 0 κ 0) + ∑ ρ : Fin 512, p (ix2 κ ρ) := by
  pointwise [k0_pay15]
theorem pay28_at (p acc) (κ : Fin 512) : k0_pay28 (F := E) p acc (ix3 0 κ 0) = acc (ix3 0 κ 0) + ∑ ρ : Fin 512, p (ix2 κ ρ) := by
  pointwise [k0_pay28]
theorem pay67_at (p acc) (κ : Fin 512) : k0_pay67 (F := E) p acc (ix3 0 κ 0) = acc (ix3 0 κ 0) + ∑ ρ : Fin 512, p (ix2 κ ρ) := by
  pointwise [k0_pay67]
theorem pay78_at (p acc) (κ : Fin 512) : k0_pay78 (F := E) p acc (ix3 0 κ 0) = acc (ix3 0 κ 0) + ∑ ρ : Fin 512, p (ix2 κ ρ) := by
  pointwise [k0_pay78]
theorem pay18_at (p acc) (ρ : Fin 512) : k0_pay18 (F := E) (k0_pay16 acc) (k0_pay17 p) (ix3 0 0 ρ) = acc (ix3 0 0 ρ) + ∑ κ : Fin 512, p (ix2 κ ρ) := by
  pointwise [k0_pay18, k0_pay16, k0_pay17]
theorem pay1_at (p acc) (ρ : Fin 512) : k0_pay1 (F := E) p acc (ix3 0 0 ρ) = acc (ix3 0 0 ρ) + ∑ κ : Fin 512, p (ix2 κ ρ) := by
  pointwise [k0_pay1]
theorem pay68_at (p acc) (ρ : Fin 512) : k0_pay68 (F := E) p acc (ix3 0 0 ρ) = acc (ix3 0 0 ρ) + ∑ κ : Fin 512, p (ix2 κ ρ) := by
  pointwise [k0_pay68]
theorem pay79_at (p acc) (ρ : Fin 512) : k0_pay79 (F := E) p acc (ix3 0 0 ρ) = acc (ix3 0 0 ρ) + ∑ κ : Fin 512, p (ix2 κ ρ) := by
  pointwise [k0_pay79]
theorem pay3_at (x) (κ : Fin 512) (d : Fin 256) : k0_pay3 (F := E) x (ix2 κ d) = x (ix2 κ d) * unfold := by
  pointwise [k0_pay3, named_unfold]
theorem pay4_at (x) (κ : Fin 512) (d : Fin 256) : k0_pay4 (F := E) x (ix2 κ d) = x (ix2 κ d) := by
  pointwise [k0_pay4]
theorem pay5_at (x) (h : Fin 2) (κ : Fin 512) : k0_pay5 (F := E) x (ix3 h κ 0) = - x (ix3 h κ 0) := by
  pointwise [k0_pay5]
  rw [zero_sub]
theorem pay52_at (r : Fin 8192) (d : Fin 256) : k0_pay52 (F := E) (ix2 r d) = 0 := by
  pointwise [k0_pay52]
theorem pay53_at (h : Fin 2) (r : Fin 8192) : k0_pay53 (F := E) (ix3 h 0 r) = 0 := by
  pointwise [k0_pay53]
theorem pay54_at (κ : Fin 512) (d : Fin 256) : k0_pay54 (F := E) (ix2 κ d) = 0 := by
  pointwise [k0_pay54]
theorem pay55_at (κ : Fin 512) (d : Fin 256) : k0_pay55 (F := E) (ix2 κ d) = 0 := by
  pointwise [k0_pay55]
theorem pay56_at (h : Fin 2) (κ : Fin 512) : k0_pay56 (F := E) (ix3 h κ 0) = 0 := by
  pointwise [k0_pay56]

end Cert.AttnIdeal.Bwd

end
-- ==== Proof.AttnStep.lean ====
/- The attention's backward kernel over the extended reals: what one pass of its loop over blocks of queries leaves in the buffers it adds to. -/
module

public import proofs.«01_k».proof.Proof.AttnPay
public import Idealize.ShloMosaic.Lib.WritesUnit
public import Idealize.ShloMosaic.Lib.WholeRead
public import Idealize.ShloMosaic.Lib.Scf

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic

local notation "E" => Idealize.ShloMosaic.Ideal

/-- Feature `d` of head `h` of a pair of heads. -/
abbrev col (h : Fin 2) (d : Fin 128) : Fin 256 := ⟨h.val * 128 + d.val, by omega⟩

/-- Token `ρ` of block `b`. -/
abbrev row (b : Fin 16) (ρ : Fin 512) : Fin 8192 := ⟨b.val * 512 + ρ.val, by omega⟩

/-! ## Loads -/

section loads
variable {sp : Space} {e : EltTy}

theorem load2 {n0 n1 : ℕ} {M : Memref sig .tc sp ⟨2, ![n0, n1]⟩ e} (f : M.view.ty.Contents (Elt E)) {off : Fin 2 → ℕ} {s0 s1 o0 o1 : ℕ}
    (inb : ∀ a, off a + (![s0, s1] : Fin 2 → ℕ) a ≤ (![n0, n1] : Fin 2 → ℕ) a) (h : off = ![o0, o1])
    (a : Fin s0) (b : Fin s1) (y0 : Fin n0) (y1 : Fin n1) (h0 : y0.val = o0 + a.val) (h1 : y1.val = o1 + b.val) :
    View.readAt (Elt E) M.view (Rect.unit (s := ⟨2, ![n0, n1]⟩) off ![s0, s1] inb).toLoadRect f (ix2 a b) = M.view.read (Elt E) f (ix2 y0 y1) := by
  subst h
  refine congrArg (M.view.read (Elt E) f) (funext fun c => Fin.ext ?_)
  match c with
  | ⟨0, _⟩ => show o0 + 1 * a.val = y0.val; omega
  | ⟨1, _⟩ => show o1 + 1 * b.val = y1.val; omega

theorem load3 {n0 n1 n2 : ℕ} {M : Memref sig .tc sp ⟨3, ![n0, n1, n2]⟩ e} (f : M.view.ty.Contents (Elt E)) {off : Fin 3 → ℕ} {s0 s1 s2 o0 o1 o2 : ℕ}
    (inb : ∀ a, off a + (![s0, s1, s2] : Fin 3 → ℕ) a ≤ (![n0, n1, n2] : Fin 3 → ℕ) a) (h : off = ![o0, o1, o2])
    (a : Fin s0) (b : Fin s1) (c : Fin s2) (y0 : Fin n0) (y1 : Fin n1) (y2 : Fin n2)
    (h0 : y0.val = o0 + a.val) (h1 : y1.val = o1 + b.val) (h2 : y2.val = o2 + c.val) :
    View.readAt (Elt E) M.view (Rect.unit (s := ⟨3, ![n0, n1, n2]⟩) off ![s0, s1, s2] inb).toLoadRect f (ix3 a b c)
      = M.view.read (Elt E) f (ix3 y0 y1 y2) := by
  subst h
  refine congrArg (M.view.read (Elt E) f) (funext fun d => Fin.ext ?_)
  match d with
  | ⟨0, _⟩ => show o0 + 1 * a.val = y0.val; omega
  | ⟨1, _⟩ => show o1 + 1 * b.val = y1.val; omega
  | ⟨2, _⟩ => show o2 + 1 * c.val = y2.val; omega

end loads

/-! ## Where the blocks lie -/

theorem j_lt (i : grid0.Coords) : (i 1).val < 16 := (i 1).isLt

theorem trips_eq (i : grid0.Coords) : (k0_t1_loop i).trips = 15 - (i 1).val := by
  show Scf.trips (k0_t1_loop i).lb (k0_t1_loop i).ub (k0_t1_loop i).st = _
  unfold k0_t1_loop; dsimp only; have := j_lt i; revert this; generalize (i 1).val = j; intro h; interval_cases j <;> rfl

/-- The block of queries that a trip of the loop takes. -/
def blk (i : grid0.Coords) (k : Fin (k0_t1_loop i).trips) : Fin 16 :=
  ⟨(i 1).val + 1 + k.val, by have := trips_eq i; have := k.isLt; omega⟩

theorem iv_toNat (i : grid0.Coords) (k : Fin (k0_t1_loop i).trips) :
    (Scalar.indexCast (Scalar.muli (Scf.iv (Scalar.addi (BitVec.ofNat 32 (i 1).val) 1#32) 1#32 k) 512#32)).toNat = (blk i k).val * 512 := by
  have hk : k.val < 15 - (i 1).val := by have := trips_eq i; have := k.isLt; omega
  unfold blk; dsimp only
  have := j_lt i; revert hk this; generalize (i 1).val = j; generalize k.val = n; intro h1 h2
  have e : n < 15 := by omega
  interval_cases j <;> interval_cases n <;> first | rfl | omega

/-! ## The terms of a point -/

/-- The score of key `κ` of the point's block against query `r`. -/
def score (X : Ins E) (h : Fin 2) (κ : Fin 512) (r : Fin 8192) : EReal :=
  (∑ d : Fin 128, X.x7 (ix2 κ (col h d)) * X.x2 (ix2 r (col h d))) * ln2 + ((X.x4 (ix3 h 0 r) - X.x5 (ix3 h 0 r)) - X.x9 (ix3 h κ 0))

/-- Its probability: zero where the key, of block `j`, comes after the query. -/
def prob (j : ℕ) (X : Ins E) (h : Fin 2) (κ : Fin 512) (r : Fin 8192) : EReal :=
  if j * 512 + κ.val ≤ r.val then Ideal.exp (score X h κ r) else 0

/-- The gradient of the score. -/
def grad (j : ℕ) (X : Ins E) (h : Fin 2) (κ : Fin 512) (r : Fin 8192) : EReal :=
  prob j X h κ r * ((∑ d : Fin 128, X.x8 (ix2 κ (col h d)) * X.x3 (ix2 r (col h d))) - X.x6 (ix3 h 0 r))

section terms
variable (R : Refs) (X : Ins E) (h : Fin 2) (b : Fin 16) {o2 : Fin 2 → ℕ} {o4 : Fin 3 → ℕ} {ok : Fin 2 → ℕ} {oc : Fin 3 → ℕ}
  (e2 : o2 = ![b.val * 512, h.val * 128]) (e4 : o4 = ![h.val, 0, b.val * 512]) (ek : ok = ![0, h.val * 128]) (ec : oc = ![h.val, 0, 0])
  (i2 : ∀ a, o2 a + (![512, 128] : Fin 2 → ℕ) a ≤ (![8192, 256] : Fin 2 → ℕ) a)
  (i4 : ∀ a, o4 a + (![1, 1, 512] : Fin 3 → ℕ) a ≤ (![2, 1, 8192] : Fin 3 → ℕ) a)
  (ik : ∀ a, ok a + (![512, 128] : Fin 2 → ℕ) a ≤ (![512, 256] : Fin 2 → ℕ) a)
  (ic : ∀ a, oc a + (![1, 512, 1] : Fin 3 → ℕ) a ≤ (![2, 512, 1] : Fin 3 → ℕ) a)

include e2 in
theorem q_at (ρ : Fin 512) (d : Fin 128) :
    View.readAt (Elt E) R.a2.view (Rect.unit (s := S8192x256) o2 ![512, 128] i2).toLoadRect (R.w2.unread X.x2) (ix2 ρ d) = X.x2 (ix2 (row b ρ) (col h d)) := by
  rw [load2 _ i2 e2 ρ d (row b ρ) (col h d) rfl rfl, R.w2.read_unread]

include e2 in
theorem do_at (ρ : Fin 512) (d : Fin 128) :
    View.readAt (Elt E) R.a3.view (Rect.unit (s := S8192x256) o2 ![512, 128] i2).toLoadRect (R.w3.unread X.x3) (ix2 ρ d) = X.x3 (ix2 (row b ρ) (col h d)) := by
  rw [load2 _ i2 e2 ρ d (row b ρ) (col h d) rfl rfl, R.w3.read_unread]

include ek in
theorem k_at (κ : Fin 512) (d : Fin 128) :
    View.readAt (Elt E) R.a7.view (Rect.unit (s := S512x256) ok ![512, 128] ik).toLoadRect (R.w7.unread X.x7) (ix2 κ d) = X.x7 (ix2 κ (col h d)) := by
  rw [load2 _ ik ek κ d κ (col h d) (Nat.zero_add _).symm rfl, R.w7.read_unread]

include ek in
theorem v_at (κ : Fin 512) (d : Fin 128) :
    View.readAt (Elt E) R.a8.view (Rect.unit (s := S512x256) ok ![512, 128] ik).toLoadRect (R.w8.unread X.x8) (ix2 κ d) = X.x8 (ix2 κ (col h d)) := by
  rw [load2 _ ik ek κ d κ (col h d) (Nat.zero_add _).symm rfl, R.w8.read_unread]

include e2 e4 ek ec in
theorem scoreOf_loads (κ ρ : Fin 512) :
    scoreOf (View.readAt (Elt E) R.a7.view (Rect.unit (s := S512x256) ok ![512, 128] ik).toLoadRect (R.w7.unread X.x7))
      (View.readAt (Elt E) R.a2.view (Rect.unit (s := S8192x256) o2 ![512, 128] i2).toLoadRect (R.w2.unread X.x2))
      (View.readAt (Elt E) R.a4.view (Rect.unit (s := S2x1x8192) o4 ![1, 1, 512] i4).toLoadRect (R.w4.unread X.x4))
      (View.readAt (Elt E) R.a5.view (Rect.unit (s := S2x1x8192) o4 ![1, 1, 512] i4).toLoadRect (R.w5.unread X.x5))
      (View.readAt (Elt E) R.a9.view (Rect.unit (s := S2x512x1) oc ![1, 512, 1] ic).toLoadRect (R.w9.unread X.x9)) κ ρ
      = score X h κ (row b ρ) := by
  unfold scoreOf score
  rw [load3 _ i4 e4 0 0 ρ h 0 (row b ρ) rfl rfl rfl, load3 _ i4 e4 0 0 ρ h 0 (row b ρ) rfl rfl rfl,
    load3 _ ic ec 0 κ 0 h κ 0 rfl (Nat.zero_add _).symm rfl, R.w4.read_unread, R.w5.read_unread, R.w9.read_unread,
    Finset.sum_congr rfl fun d _ => congrArg₂ (· * ·) (k_at R X h ek ik κ d) (q_at R X h b e2 i2 ρ d)]

include e2 e4 ek in
theorem slopeOf_loads (κ ρ : Fin 512) :
    slopeOf (View.readAt (Elt E) R.a8.view (Rect.unit (s := S512x256) ok ![512, 128] ik).toLoadRect (R.w8.unread X.x8))
      (View.readAt (Elt E) R.a3.view (Rect.unit (s := S8192x256) o2 ![512, 128] i2).toLoadRect (R.w3.unread X.x3))
      (View.readAt (Elt E) R.a6.view (Rect.unit (s := S2x1x8192) o4 ![1, 1, 512] i4).toLoadRect (R.w6.unread X.x6)) κ ρ
      = (∑ d : Fin 128, X.x8 (ix2 κ (col h d)) * X.x3 (ix2 (row b ρ) (col h d))) - X.x6 (ix3 h 0 (row b ρ)) := by
  unfold slopeOf
  rw [load3 _ i4 e4 0 0 ρ h 0 (row b ρ) rfl rfl rfl, R.w6.read_unread,
    Finset.sum_congr rfl fun d _ => congrArg₂ (· * ·) (v_at R X h ek ik κ d) (do_at R X h b e2 i2 ρ d)]

end terms

/-! ## Two stores, one for each head -/

section stores
variable {sp : Space} {e : EltTy}

/-- In an array of a block's rows. -/
theorem two_cols {n : ℕ} {v : View sig .tc sp ⟨2, ![n, 256]⟩ e} (f : v.ty.Contents (Elt E)) (i1 i0)
    (w : Fin 2 → (⟨2, ![n, 128]⟩ : Shape).Idx → Elt E e) (L : List (View.Piece (Elt E) ⟨2, ![n, 256]⟩ e)) (κ : Fin n) (h : Fin 2) (d : Fin 128) :
    v.read (Elt E) (v.writes (Elt E) f ((⟨Rect.unit (s := ⟨2, ![n, 256]⟩) ![0, 128] ![n, 128] i1, w 1⟩ : View.Piece (Elt E) ⟨2, ![n, 256]⟩ e) ::
      (⟨Rect.unit (s := ⟨2, ![n, 256]⟩) ![0, 0] ![n, 128] i0, w 0⟩ : View.Piece (Elt E) ⟨2, ![n, 256]⟩ e) :: L)) (ix2 κ (col h d)) = w h (ix2 κ d) := by
  obtain rfl | rfl : h = 0 ∨ h = 1 := by omega
  · refine Eq.trans (View.read_writes_cons_unit_of_not_mem v f _ (w 1) _ _ rfl 1 (Or.inl (by show 0 * 128 + d.val < 128; omega))) ?_
    refine View.read_writes_cons_unit_of_mem v f _ (w 0) _ _ (ix2 κ d) rfl fun a => ?_
    match a with
    | ⟨0, _⟩ => exact (Nat.zero_add _).symm
    | ⟨1, _⟩ => show 0 * 128 + d.val = 0 + d.val; omega
  · refine View.read_writes_cons_unit_of_mem v f _ (w 1) _ _ (ix2 κ d) rfl fun a => ?_
    match a with
    | ⟨0, _⟩ => exact (Nat.zero_add _).symm
    | ⟨1, _⟩ => show 1 * 128 + d.val = 128 + d.val; omega

/-- In an array of all rows, of which the stores take block `b`. -/
theorem two_rows {v : View sig .tc sp S8192x256 e} (f : v.ty.Contents (Elt E)) (b : Fin 16) {o1 o0 : Fin 2 → ℕ} (e1 : o1 = ![b.val * 512, 128])
    (e0 : o0 = ![b.val * 512, 0]) (i1 i0) (w : Fin 2 → S512x128.Idx → Elt E e) (L : List (View.Piece (Elt E) S8192x256 e)) (b' : Fin 16) (ρ : Fin 512) (h : Fin 2)
    (d : Fin 128) :
    v.read (Elt E) (v.writes (Elt E) f ((⟨Rect.unit (s := S8192x256) o1 ![512, 128] i1, w 1⟩ : View.Piece (Elt E) S8192x256 e) ::
      (⟨Rect.unit (s := S8192x256) o0 ![512, 128] i0, w 0⟩ : View.Piece (Elt E) S8192x256 e) :: L)) (ix2 (row b' ρ) (col h d))
      = if b' = b then w h (ix2 ρ d) else v.read (Elt E) (v.writes (Elt E) f L) (ix2 (row b' ρ) (col h d)) := by
  by_cases hb : b' = b
  · subst hb
    rw [if_pos rfl]
    obtain rfl | rfl : h = 0 ∨ h = 1 := by omega
    · refine Eq.trans (View.read_writes_cons_unit_of_not_mem v f _ (w 1) _ _ e1 1 (Or.inl (by show 0 * 128 + d.val < 128; omega))) ?_
      refine View.read_writes_cons_unit_of_mem v f _ (w 0) _ _ (ix2 ρ d) e0 fun a => ?_
      match a with
      | ⟨0, _⟩ => rfl
      | ⟨1, _⟩ => show 0 * 128 + d.val = 0 + d.val; omega
    · refine View.read_writes_cons_unit_of_mem v f _ (w 1) _ _ (ix2 ρ d) e1 fun a => ?_
      match a with
      | ⟨0, _⟩ => rfl
      | ⟨1, _⟩ => show 1 * 128 + d.val = 128 + d.val; omega
  · rw [if_neg hb]
    have hn : (row b' ρ).val < b.val * 512 ∨ b.val * 512 + 512 ≤ (row b' ρ).val := by
      have : b'.val ≠ b.val := fun h => hb (Fin.ext h)
      show b'.val * 512 + ρ.val < _ ∨ _ ≤ b'.val * 512 + ρ.val; omega
    exact Eq.trans (View.read_writes_cons_unit_of_not_mem v f _ (w 1) _ _ e1 0 hn) (View.read_writes_cons_unit_of_not_mem v f _ (w 0) _ _ e0 0 hn)

/-- In an array of one column for each head. -/
theorem two_heads {v : View sig .tc sp S2x512x1 e} (f : v.ty.Contents (Elt E)) (i1 i0) (w : Fin 2 → S1x512x1.Idx → Elt E e)
    (L : List (View.Piece (Elt E) S2x512x1 e)) (κ : Fin 512) (h : Fin 2) :
    v.read (Elt E) (v.writes (Elt E) f ((⟨Rect.unit (s := S2x512x1) ![1, 0, 0] ![1, 512, 1] i1, w 1⟩ : View.Piece (Elt E) S2x512x1 e) ::
      (⟨Rect.unit (s := S2x512x1) ![0, 0, 0] ![1, 512, 1] i0, w 0⟩ : View.Piece (Elt E) S2x512x1 e) :: L)) (ix3 h κ 0) = w h (ix3 0 κ 0) := by
  obtain rfl | rfl : h = 0 ∨ h = 1 := by omega
  · refine Eq.trans (View.read_writes_cons_unit_of_not_mem v f _ (w 1) _ _ rfl 0 (Or.inl (by show 0 < 1; omega))) ?_
    refine View.read_writes_cons_unit_of_mem v f _ (w 0) _ _ (ix3 0 κ 0) rfl fun a => ?_
    match a with
    | ⟨0, _⟩ => rfl
    | ⟨1, _⟩ => exact (Nat.zero_add _).symm
    | ⟨2, _⟩ => rfl
  · refine View.read_writes_cons_unit_of_mem v f _ (w 1) _ _ (ix3 0 κ 0) rfl fun a => ?_
    match a with
    | ⟨0, _⟩ => rfl
    | ⟨1, _⟩ => exact (Nat.zero_add _).symm
    | ⟨2, _⟩ => rfl

/-- In an array of one row for each head, of which the stores take block `b`. -/
theorem two_lanes {v : View sig .tc sp S2x1x8192 e} (f : v.ty.Contents (Elt E)) (b : Fin 16) {o1 o0 : Fin 3 → ℕ} (e1 : o1 = ![1, 0, b.val * 512])
    (e0 : o0 = ![0, 0, b.val * 512]) (i1 i0) (w : Fin 2 → S1x1x512.Idx → Elt E e) (L : List (View.Piece (Elt E) S2x1x8192 e)) (b' : Fin 16) (ρ : Fin 512) (h : Fin 2) :
    v.read (Elt E) (v.writes (Elt E) f ((⟨Rect.unit (s := S2x1x8192) o1 ![1, 1, 512] i1, w 1⟩ : View.Piece (Elt E) S2x1x8192 e) ::
      (⟨Rect.unit (s := S2x1x8192) o0 ![1, 1, 512] i0, w 0⟩ : View.Piece (Elt E) S2x1x8192 e) :: L)) (ix3 h 0 (row b' ρ))
      = if b' = b then w h (ix3 0 0 ρ) else v.read (Elt E) (v.writes (Elt E) f L) (ix3 h 0 (row b' ρ)) := by
  by_cases hb : b' = b
  · subst hb
    rw [if_pos rfl]
    obtain rfl | rfl : h = 0 ∨ h = 1 := by omega
    · refine Eq.trans (View.read_writes_cons_unit_of_not_mem v f _ (w 1) _ _ e1 0 (Or.inl (by show 0 < 1; omega))) ?_
      refine View.read_writes_cons_unit_of_mem v f _ (w 0) _ _ (ix3 0 0 ρ) e0 fun a => ?_
      match a with
      | ⟨0, _⟩ => rfl
      | ⟨1, _⟩ => rfl
      | ⟨2, _⟩ => rfl
    · refine View.read_writes_cons_unit_of_mem v f _ (w 1) _ _ (ix3 0 0 ρ) e1 fun a => ?_
      match a with
      | ⟨0, _⟩ => rfl
      | ⟨1, _⟩ => rfl
      | ⟨2, _⟩ => rfl
  · rw [if_neg hb]
    have hn : (row b' ρ).val < b.val * 512 ∨ b.val * 512 + 512 ≤ (row b' ρ).val := by
      have : b'.val ≠ b.val := fun h => hb (Fin.ext h)
      show b'.val * 512 + ρ.val < _ ∨ _ ≤ b'.val * 512 + ρ.val; omega
    exact Eq.trans (View.read_writes_cons_unit_of_not_mem v f _ (w 1) _ _ e1 2 hn) (View.read_writes_cons_unit_of_not_mem v f _ (w 0) _ _ e0 2 hn)

end stores

end Cert.AttnIdeal.Bwd

end
-- ==== Proof.AttnLoop.lean ====
/- The attention's backward kernel over the extended reals: what its loop over the later blocks of queries leaves in the buffers it adds to. -/
module

public import proofs.«01_k».proof.Proof.AttnStep

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic

local notation "E" => Idealize.ShloMosaic.Ideal

theorem off5 (i : grid0.Coords) (k) : k0_off5 i k = ![(blk i k).val * 512, (0 : Fin 2).val * 128] := by rw [← iv_toNat]; rfl
theorem off7 (i : grid0.Coords) (k) : k0_off7 i k = ![(blk i k).val * 512, (1 : Fin 2).val * 128] := by rw [← iv_toNat]; rfl
theorem off6 (i : grid0.Coords) (k) : k0_off6 i k = ![(0 : Fin 2).val, 0, (blk i k).val * 512] := by rw [← iv_toNat]; rfl
theorem off8 (i : grid0.Coords) (k) : k0_off8 i k = ![(1 : Fin 2).val, 0, (blk i k).val * 512] := by rw [← iv_toNat]; rfl

section trip
variable (c : Dev nD) (i : grid0.Coords) (R : Refs) (X : Ins E) (k : Fin (k0_t1_loop i).trips)

/-- A later block of queries sees every key of the point's block. -/
theorem prob_later (h : Fin 2) (κ ρ : Fin 512) : prob (i 1).val X h κ (row (blk i k) ρ) = Ideal.exp (score X h κ (row (blk i k) ρ)) :=
  if_pos (by show (i 1).val * 512 + κ.val ≤ ((i 1).val + 1 + k.val) * 512 + ρ.val; omega)

theorem r_3_at (κ ρ : Fin 512) : trip_k0_t1.sl.r_3 i R.a2 R.a4 R.a5 R.a7 R.a9 (R.w2.unread X.x2) (R.w4.unread X.x4) (R.w5.unread X.x5) (R.w7.unread X.x7) (R.w9.unread X.x9) k (ix2 κ ρ) = prob (i 1).val X 0 κ (row (blk i k) ρ) := by
  unfold trip_k0_t1.sl.r_3
  rw [pay9_at]
  rw [prob_later]
  exact congrArg Ideal.exp (scoreOf_loads R X 0 (blk i k) (off5 i k) (off6 i k) rfl rfl _ _ _ _ κ ρ)

theorem r_12_at (κ ρ : Fin 512) : trip_k0_t1.sl.r_12 i R.a2 R.a4 R.a5 R.a7 R.a9 (R.w2.unread X.x2) (R.w4.unread X.x4) (R.w5.unread X.x5) (R.w7.unread X.x7) (R.w9.unread X.x9) k (ix2 κ ρ) = prob (i 1).val X 1 κ (row (blk i k) ρ) := by
  unfold trip_k0_t1.sl.r_12
  rw [pay22_at]
  rw [prob_later]
  exact congrArg Ideal.exp (scoreOf_loads R X 1 (blk i k) (off7 i k) (off8 i k) rfl rfl _ _ _ _ κ ρ)

theorem r_4_at (κ ρ : Fin 512) : trip_k0_t1.sl.r_4 i R.a2 R.a3 R.a4 R.a5 R.a6 R.a7 R.a8 R.a9 (R.w2.unread X.x2) (R.w3.unread X.x3) (R.w4.unread X.x4) (R.w5.unread X.x5) (R.w6.unread X.x6) (R.w7.unread X.x7) (R.w8.unread X.x8) (R.w9.unread X.x9) k (ix2 κ ρ) = grad (i 1).val X 0 κ (row (blk i k) ρ) := by
  unfold trip_k0_t1.sl.r_4
  rw [pay10_at]
  unfold grad; rw [prob_later]
  exact congrArg₂ (fun a b => Ideal.exp a * b) (scoreOf_loads R X 0 (blk i k) (off5 i k) (off6 i k) rfl rfl _ _ _ _ κ ρ) (slopeOf_loads R X 0 (blk i k) (off5 i k) (off6 i k) rfl _ _ _ κ ρ)

theorem r_5_at (κ ρ : Fin 512) : trip_k0_t1.sl.r_5 i R.a2 R.a3 R.a4 R.a5 R.a6 R.a7 R.a8 R.a9 (R.w2.unread X.x2) (R.w3.unread X.x3) (R.w4.unread X.x4) (R.w5.unread X.x5) (R.w6.unread X.x6) (R.w7.unread X.x7) (R.w8.unread X.x8) (R.w9.unread X.x9) k (ix2 κ ρ) = grad (i 1).val X 0 κ (row (blk i k) ρ) := by
  unfold trip_k0_t1.sl.r_5
  rw [pay11_eq, pay10_at]
  unfold grad; rw [prob_later]
  exact congrArg₂ (fun a b => Ideal.exp a * b) (scoreOf_loads R X 0 (blk i k) (off5 i k) (off6 i k) rfl rfl _ _ _ _ κ ρ) (slopeOf_loads R X 0 (blk i k) (off5 i k) (off6 i k) rfl _ _ _ κ ρ)

theorem r_13_at (κ ρ : Fin 512) : trip_k0_t1.sl.r_13 i R.a2 R.a3 R.a4 R.a5 R.a6 R.a7 R.a8 R.a9 (R.w2.unread X.x2) (R.w3.unread X.x3) (R.w4.unread X.x4) (R.w5.unread X.x5) (R.w6.unread X.x6) (R.w7.unread X.x7) (R.w8.unread X.x8) (R.w9.unread X.x9) k (ix2 κ ρ) = grad (i 1).val X 1 κ (row (blk i k) ρ) := by
  unfold trip_k0_t1.sl.r_13
  rw [pay23_at]
  unfold grad; rw [prob_later]
  exact congrArg₂ (fun a b => Ideal.exp a * b) (scoreOf_loads R X 1 (blk i k) (off7 i k) (off8 i k) rfl rfl _ _ _ _ κ ρ) (slopeOf_loads R X 1 (blk i k) (off7 i k) (off8 i k) rfl _ _ _ κ ρ)

variable (f10 : R.a10.view.ty.Contents (Elt E)) (f14 : R.a14.view.ty.Contents (Elt E)) (f15 : R.a15.view.ty.Contents (Elt E))
  (f16 : R.a16.view.ty.Contents (Elt E)) (f17 : R.a17.view.ty.Contents (Elt E))

/-- The stores of one trip. -/
abbrev tripOf := tripL_k0_t1 (F := E) Variants.none c none i R.a2 R.w2 R.a3 R.w3 R.a4 R.w4 R.a5 R.w5 R.a6 R.w6 R.a7 R.w7 R.a8 R.w8 R.a9 R.w9 R.a10 R.w10 R.a11 R.w11 R.a12 R.w12 R.a13 R.w13 R.a14 R.w14 R.a15 R.w15 R.a16 R.w16 R.a17 R.w17 (Scalar.addi (BitVec.ofNat 32 (i 1).val) 1#32) (R.w2.unread X.x2) (R.w3.unread X.x3) (R.w4.unread X.x4) (R.w5.unread X.x5) (R.w6.unread X.x6) (R.w7.unread X.x7) (R.w8.unread X.x8) (R.w9.unread X.x9) k f10 f14 f15 f16 f17

/-- A trip adds its block's share to the keys' gradient. -/
theorem trip15 (κ : Fin 512) (h : Fin 2) (d : Fin 128) :
    R.a15.view.read (Elt E) (R.a15.view.writes (Elt E) f15 (tripOf c i R X k f10 f14 f15 f16 f17).2.2.1) (ix2 κ (col h d)) = R.a15.view.read (Elt E) f15 (ix2 κ (col h d)) + ∑ ρ : Fin 512, grad (i 1).val X h κ (row (blk i k) ρ) * X.x2 (ix2 (row (blk i k) ρ) (col h d)) := by
  unfold tripOf tripL_k0_t1 trip_k0_t1; dsimp only
  refine Eq.trans (two_cols f15 _ _ ![_, _] [] κ h d) ?_
  obtain rfl | rfl : h = 0 ∨ h = 1 := by omega
  · refine (pay13_at _ _ _ κ d).trans (congrArg₂ (· + ·) (load2 _ _ rfl κ d κ (col 0 d) (Nat.zero_add _).symm rfl) (Finset.sum_congr rfl fun ρ _ => ?_))
    refine congrArg₂ (· * ·) (r_5_at i R X k κ ρ) ?_
    unfold trip_k0_t1.sl.r_1; rw [id7]; exact q_at R X 0 (blk i k) (off5 i k) _ ρ d
  · refine (pay26_at _ _ _ κ d).trans (congrArg₂ (· + ·) (load2 _ _ rfl κ d κ (col 1 d) (Nat.zero_add _).symm rfl) (Finset.sum_congr rfl fun ρ _ => ?_))
    refine congrArg₂ (· * ·) (r_13_at i R X k κ ρ) ?_
    unfold trip_k0_t1.sl.r_10; rw [id20]; exact q_at R X 1 (blk i k) (off7 i k) _ ρ d

/-- And to the values' gradient. -/
theorem trip16 (κ : Fin 512) (h : Fin 2) (d : Fin 128) :
    R.a16.view.read (Elt E) (R.a16.view.writes (Elt E) f16 (tripOf c i R X k f10 f14 f15 f16 f17).2.2.2.1) (ix2 κ (col h d)) = R.a16.view.read (Elt E) f16 (ix2 κ (col h d)) + ∑ ρ : Fin 512, prob (i 1).val X h κ (row (blk i k) ρ) * X.x3 (ix2 (row (blk i k) ρ) (col h d)) := by
  unfold tripOf tripL_k0_t1 trip_k0_t1; dsimp only
  refine Eq.trans (two_cols f16 _ _ ![_, _] [] κ h d) ?_
  obtain rfl | rfl : h = 0 ∨ h = 1 := by omega
  · refine (pay12_at _ _ _ κ d).trans (congrArg₂ (· + ·) (load2 _ _ rfl κ d κ (col 0 d) (Nat.zero_add _).symm rfl) (Finset.sum_congr rfl fun ρ _ => ?_))
    refine congrArg₂ (· * ·) (r_3_at i R X k κ ρ) ?_
    unfold trip_k0_t1.sl.r_2; rw [id8]; exact do_at R X 0 (blk i k) (off5 i k) _ ρ d
  · refine (pay25_at _ _ _ κ d).trans (congrArg₂ (· + ·) (load2 _ _ rfl κ d κ (col 1 d) (Nat.zero_add _).symm rfl) (Finset.sum_congr rfl fun ρ _ => ?_))
    refine congrArg₂ (· * ·) (r_12_at i R X k κ ρ) ?_
    unfold trip_k0_t1.sl.r_11; rw [id21]; exact do_at R X 1 (blk i k) (off7 i k) _ ρ d

/-- And to the gradient of the keys' gate sums. -/
theorem trip17 (κ : Fin 512) (h : Fin 2) :
    R.a17.view.read (Elt E) (R.a17.view.writes (Elt E) f17 (tripOf c i R X k f10 f14 f15 f16 f17).2.2.2.2) (ix3 h κ 0) = R.a17.view.read (Elt E) f17 (ix3 h κ 0) + ∑ ρ : Fin 512, grad (i 1).val X h κ (row (blk i k) ρ) := by
  unfold tripOf tripL_k0_t1 trip_k0_t1; dsimp only
  refine Eq.trans (two_heads f17 _ _ ![_, _] [] κ h) ?_
  obtain rfl | rfl : h = 0 ∨ h = 1 := by omega
  · exact (pay15_at _ _ κ).trans (congrArg₂ (· + ·) (load3 _ _ rfl 0 κ 0 0 κ 0 rfl (Nat.zero_add _).symm rfl) (Finset.sum_congr rfl fun ρ _ => r_4_at i R X k κ ρ))
  · exact (pay28_at _ _ κ).trans (congrArg₂ (· + ·) (load3 _ _ rfl 0 κ 0 1 κ 0 rfl (Nat.zero_add _).symm rfl) (Finset.sum_congr rfl fun ρ _ => r_13_at i R X k κ ρ))

/-- And to its block of rows. -/
theorem trip10 (b : Fin 16) (ρ : Fin 512) (h : Fin 2) (d : Fin 128) :
    R.a10.view.read (Elt E) (R.a10.view.writes (Elt E) f10 (tripOf c i R X k f10 f14 f15 f16 f17).1) (ix2 (row b ρ) (col h d)) = R.a10.view.read (Elt E) f10 (ix2 (row b ρ) (col h d)) + if b = blk i k then (∑ κ : Fin 512, grad (i 1).val X h κ (row b ρ) * X.x7 (ix2 κ (col h d))) * unfold else 0 := by
  unfold tripOf tripL_k0_t1 trip_k0_t1; dsimp only
  refine Eq.trans (two_rows f10 (blk i k) (off7 i k) (off5 i k) _ _ ![_, _] [] b ρ h d) ?_
  by_cases hb : b = blk i k
  · subst hb
    rw [if_pos rfl, if_pos rfl]
    obtain rfl | rfl : h = 0 ∨ h = 1 := by omega
    · refine (pay14_at _ _ _ ρ d).trans (congrArg₂ (· + ·) (load2 _ _ (off5 i k) ρ d _ (col 0 d) rfl rfl)
        (congrArg (· * unfold) (Finset.sum_congr rfl fun κ _ => congrArg₂ (· * ·) (r_5_at i R X k κ ρ) ?_)))
      unfold trip_k0_t1.sl.r; rw [id6]; exact k_at R X 0 rfl _ κ d
    · refine (pay27_at _ _ _ ρ d).trans (congrArg₂ (· + ·) (load2 _ _ (off7 i k) ρ d _ (col 1 d) rfl rfl)
        (congrArg (· * unfold) (Finset.sum_congr rfl fun κ _ => congrArg₂ (· * ·) (r_13_at i R X k κ ρ) ?_)))
      unfold trip_k0_t1.sl.r_9; rw [id19]; exact k_at R X 1 rfl _ κ d
  · rw [if_neg hb, if_neg hb, add_zero]; rfl

/-- And to its block of rows. -/
theorem trip14 (b : Fin 16) (ρ : Fin 512) (h : Fin 2) :
    R.a14.view.read (Elt E) (R.a14.view.writes (Elt E) f14 (tripOf c i R X k f10 f14 f15 f16 f17).2.1) (ix3 h 0 (row b ρ)) = R.a14.view.read (Elt E) f14 (ix3 h 0 (row b ρ)) + if b = blk i k then ∑ κ : Fin 512, grad (i 1).val X h κ (row b ρ) else 0 := by
  unfold tripOf tripL_k0_t1 trip_k0_t1; dsimp only
  refine Eq.trans (two_lanes f14 (blk i k) (off8 i k) (off6 i k) _ _ ![_, _] [] b ρ h) ?_
  by_cases hb : b = blk i k
  · subst hb
    rw [if_pos rfl, if_pos rfl]
    obtain rfl | rfl : h = 0 ∨ h = 1 := by omega
    · exact (pay18_at _ _ ρ).trans (congrArg₂ (· + ·) (load3 _ _ (off6 i k) 0 0 ρ 0 0 _ rfl rfl rfl)
        (Finset.sum_congr rfl fun κ _ => r_4_at i R X k κ ρ))
    · exact (pay1_at _ _ ρ).trans (congrArg₂ (· + ·) (load3 _ _ (off8 i k) 0 0 ρ 1 0 _ rfl rfl rfl)
        (Finset.sum_congr rfl fun κ _ => r_13_at i R X k κ ρ))
  · rw [if_neg hb, if_neg hb, add_zero]; rfl

end trip

/-! ## The whole loop -/

/-- A sum over the blocks after block `j`, one block more. -/
theorem sum_grow (g : Fin 16 → EReal) (j n : ℕ) (b : Fin 16) (hb : b.val = j + 1 + n) :
    (∑ x : Fin 16, if j < x.val ∧ x.val ≤ j + n then g x else 0) + g b = ∑ x : Fin 16, if j < x.val ∧ x.val ≤ j + (n + 1) then g x else 0 := by
  have e : g b = ∑ x : Fin 16, if x = b then g x else 0 := by rw [Finset.sum_ite_eq' Finset.univ b g]; simp
  rw [e, ← Finset.sum_add_distrib]
  refine Finset.sum_congr rfl fun x _ => ?_
  have hx : x = b ↔ x.val = j + 1 + n := by rw [Fin.ext_iff, hb]
  by_cases h1 : x = b
  · have := hx.mp h1
    rw [if_neg (by omega), if_pos h1, if_pos (by omega), zero_add]
  · have h2 : x.val ≠ j + 1 + n := fun h => h1 (hx.mpr h)
    rw [if_neg h1, add_zero]
    exact if_congr (by omega) rfl rfl

section loop
variable (c : Dev nD) (i : grid0.Coords) (R : Refs) (X : Ins E)
variable (f10 : R.a10.view.ty.Contents (Elt E)) (f14 : R.a14.view.ty.Contents (Elt E)) (f15 : R.a15.view.ty.Contents (Elt E))
  (f16 : R.a16.view.ty.Contents (Elt E)) (f17 : R.a17.view.ty.Contents (Elt E))

/-- The stores of the first `n` trips. -/
abbrev loopOf (n : ℕ) := pb_k0_t1 (F := E) Variants.none c none i R.a2 R.w2 R.a3 R.w3 R.a4 R.w4 R.a5 R.w5 R.a6 R.w6 R.a7 R.w7 R.a8 R.w8 R.a9 R.w9 R.a10 R.w10 R.a11 R.w11 R.a12 R.w12 R.a13 R.w13 R.a14 R.w14 R.a15 R.w15 R.a16 R.w16 R.a17 R.w17 (Scalar.addi (BitVec.ofNat 32 (i 1).val) 1#32) (R.w2.unread X.x2) (R.w3.unread X.x3) (R.w4.unread X.x4) (R.w5.unread X.x5) (R.w6.unread X.x6) (R.w7.unread X.x7) (R.w8.unread X.x8) (R.w9.unread X.x9) f10 f14 f15 f16 f17 n

/-- The stores of one more trip. -/
def loop_succ (t : Fin (k0_t1_loop i).trips) := pb_k0_t1_succ (F := E) Variants.none c none i R.a2 R.w2 R.a3 R.w3 R.a4 R.w4 R.a5 R.w5 R.a6 R.w6 R.a7 R.w7 R.a8 R.w8 R.a9 R.w9 R.a10 R.w10 R.a11 R.w11 R.a12 R.w12 R.a13 R.w13 R.a14 R.w14 R.a15 R.w15 R.a16 R.w16 R.a17 R.w17 (Scalar.addi (BitVec.ofNat 32 (i 1).val) 1#32) (R.w2.unread X.x2) (R.w3.unread X.x3) (R.w4.unread X.x4) (R.w5.unread X.x5) (R.w6.unread X.x6) (R.w7.unread X.x7) (R.w8.unread X.x8) (R.w9.unread X.x9) f10 f14 f15 f16 f17 t

theorem loop15 (κ : Fin 512) (h : Fin 2) (d : Fin 128) (n : ℕ) (hn : n ≤ (k0_t1_loop i).trips) :
    R.a15.view.read (Elt E) (R.a15.view.writes (Elt E) f15 (loopOf c i R X f10 f14 f15 f16 f17 n).2.2.1) (ix2 κ (col h d)) = R.a15.view.read (Elt E) f15 (ix2 κ (col h d)) + ∑ b : Fin 16, if (i 1).val < b.val ∧ b.val ≤ (i 1).val + n then (∑ ρ : Fin 512, grad (i 1).val X h κ (row b ρ) * X.x2 (ix2 (row b ρ) (col h d))) else 0 := by
  induction n with
  | zero =>
    rw [show (∑ b : Fin 16, if (i 1).val < b.val ∧ b.val ≤ (i 1).val + 0 then (∑ ρ : Fin 512, grad (i 1).val X h κ (row b ρ) * X.x2 (ix2 (row b ρ) (col h d))) else 0) = 0 from
      Finset.sum_eq_zero fun b _ => if_neg (by omega), add_zero]; rfl
  | succ n ih =>
    unfold loopOf
    rw [loop_succ c i R X f10 f14 f15 f16 f17 ⟨n, hn⟩]
    dsimp only
    rw [View.writes_append]
    refine (trip15 c i R X ⟨n, hn⟩ _ _ _ _ _ κ h d).trans ?_
    rw [ih (by omega), add_assoc]
    exact congrArg _ (sum_grow (fun b => (∑ ρ : Fin 512, grad (i 1).val X h κ (row b ρ) * X.x2 (ix2 (row b ρ) (col h d)))) (i 1).val n (blk i ⟨n, hn⟩) rfl)

theorem loop16 (κ : Fin 512) (h : Fin 2) (d : Fin 128) (n : ℕ) (hn : n ≤ (k0_t1_loop i).trips) :
    R.a16.view.read (Elt E) (R.a16.view.writes (Elt E) f16 (loopOf c i R X f10 f14 f15 f16 f17 n).2.2.2.1) (ix2 κ (col h d)) = R.a16.view.read (Elt E) f16 (ix2 κ (col h d)) + ∑ b : Fin 16, if (i 1).val < b.val ∧ b.val ≤ (i 1).val + n then (∑ ρ : Fin 512, prob (i 1).val X h κ (row b ρ) * X.x3 (ix2 (row b ρ) (col h d))) else 0 := by
  induction n with
  | zero =>
    rw [show (∑ b : Fin 16, if (i 1).val < b.val ∧ b.val ≤ (i 1).val + 0 then (∑ ρ : Fin 512, prob (i 1).val X h κ (row b ρ) * X.x3 (ix2 (row b ρ) (col h d))) else 0) = 0 from
      Finset.sum_eq_zero fun b _ => if_neg (by omega), add_zero]; rfl
  | succ n ih =>
    unfold loopOf
    rw [loop_succ c i R X f10 f14 f15 f16 f17 ⟨n, hn⟩]
    dsimp only
    rw [View.writes_append]
    refine (trip16 c i R X ⟨n, hn⟩ _ _ _ _ _ κ h d).trans ?_
    rw [ih (by omega), add_assoc]
    exact congrArg _ (sum_grow (fun b => (∑ ρ : Fin 512, prob (i 1).val X h κ (row b ρ) * X.x3 (ix2 (row b ρ) (col h d)))) (i 1).val n (blk i ⟨n, hn⟩) rfl)

theorem loop17 (κ : Fin 512) (h : Fin 2) (n : ℕ) (hn : n ≤ (k0_t1_loop i).trips) :
    R.a17.view.read (Elt E) (R.a17.view.writes (Elt E) f17 (loopOf c i R X f10 f14 f15 f16 f17 n).2.2.2.2) (ix3 h κ 0) = R.a17.view.read (Elt E) f17 (ix3 h κ 0) + ∑ b : Fin 16, if (i 1).val < b.val ∧ b.val ≤ (i 1).val + n then (∑ ρ : Fin 512, grad (i 1).val X h κ (row b ρ)) else 0 := by
  induction n with
  | zero =>
    rw [show (∑ b : Fin 16, if (i 1).val < b.val ∧ b.val ≤ (i 1).val + 0 then (∑ ρ : Fin 512, grad (i 1).val X h κ (row b ρ)) else 0) = 0 from
      Finset.sum_eq_zero fun b _ => if_neg (by omega), add_zero]; rfl
  | succ n ih =>
    unfold loopOf
    rw [loop_succ c i R X f10 f14 f15 f16 f17 ⟨n, hn⟩]
    dsimp only
    rw [View.writes_append]
    refine (trip17 c i R X ⟨n, hn⟩ _ _ _ _ _ κ h).trans ?_
    rw [ih (by omega), add_assoc]
    exact congrArg _ (sum_grow (fun b => (∑ ρ : Fin 512, grad (i 1).val X h κ (row b ρ))) (i 1).val n (blk i ⟨n, hn⟩) rfl)

theorem loop10 (b : Fin 16) (ρ : Fin 512) (h : Fin 2) (d : Fin 128) (n : ℕ) (hn : n ≤ (k0_t1_loop i).trips) :
    R.a10.view.read (Elt E) (R.a10.view.writes (Elt E) f10 (loopOf c i R X f10 f14 f15 f16 f17 n).1) (ix2 (row b ρ) (col h d)) = R.a10.view.read (Elt E) f10 (ix2 (row b ρ) (col h d)) + if (i 1).val < b.val ∧ b.val ≤ (i 1).val + n then (∑ κ : Fin 512, grad (i 1).val X h κ (row b ρ) * X.x7 (ix2 κ (col h d))) * unfold else 0 := by
  induction n with
  | zero =>
    rw [if_neg (by omega), add_zero]; rfl
  | succ n ih =>
    unfold loopOf
    rw [loop_succ c i R X f10 f14 f15 f16 f17 ⟨n, hn⟩]
    dsimp only
    rw [View.writes_append]
    refine (trip10 c i R X ⟨n, hn⟩ _ _ _ _ _ b ρ h d).trans ?_
    rw [ih (by omega), add_assoc]
    refine congrArg _ ?_
    have hx : b = blk i ⟨n, hn⟩ ↔ b.val = (i 1).val + 1 + n := Fin.ext_iff
    by_cases h1 : b = blk i ⟨n, hn⟩
    · have := hx.mp h1
      rw [if_neg (by omega), if_pos h1, if_pos (by omega), zero_add]
    · have h2 : b.val ≠ (i 1).val + 1 + n := fun h => h1 (hx.mpr h)
      rw [if_neg h1, add_zero]
      exact if_congr (by omega) rfl rfl

theorem loop14 (b : Fin 16) (ρ : Fin 512) (h : Fin 2) (n : ℕ) (hn : n ≤ (k0_t1_loop i).trips) :
    R.a14.view.read (Elt E) (R.a14.view.writes (Elt E) f14 (loopOf c i R X f10 f14 f15 f16 f17 n).2.1) (ix3 h 0 (row b ρ)) = R.a14.view.read (Elt E) f14 (ix3 h 0 (row b ρ)) + if (i 1).val < b.val ∧ b.val ≤ (i 1).val + n then (∑ κ : Fin 512, grad (i 1).val X h κ (row b ρ)) else 0 := by
  induction n with
  | zero =>
    rw [if_neg (by omega), add_zero]; rfl
  | succ n ih =>
    unfold loopOf
    rw [loop_succ c i R X f10 f14 f15 f16 f17 ⟨n, hn⟩]
    dsimp only
    rw [View.writes_append]
    refine (trip14 c i R X ⟨n, hn⟩ _ _ _ _ _ b ρ h).trans ?_
    rw [ih (by omega), add_assoc]
    refine congrArg _ ?_
    have hx : b = blk i ⟨n, hn⟩ ↔ b.val = (i 1).val + 1 + n := Fin.ext_iff
    by_cases h1 : b = blk i ⟨n, hn⟩
    · have := hx.mp h1
      rw [if_neg (by omega), if_pos h1, if_pos (by omega), zero_add]
    · have h2 : b.val ≠ (i 1).val + 1 + n := fun h => h1 (hx.mpr h)
      rw [if_neg h1, add_zero]
      exact if_congr (by omega) rfl rfl

end loop

end Cert.AttnIdeal.Bwd
-- ==== Proof.AttnPoint.lean ====
/- The attention's backward kernel over the extended reals: what one point of the grid leaves in the buffers of the results. -/
module

public import proofs.«01_k».proof.Proof.AttnLoop
public import Idealize.ShloMosaic.Lib.Pointwise.Sums

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic

local notation "E" => Idealize.ShloMosaic.Ideal

/-- The block of keys of a point, which is also the block of queries that it takes first. -/
abbrev own (i : grid0.Coords) : Fin 16 := ⟨(i 1).val, j_lt i⟩

theorem own_toNat (i : grid0.Coords) : (Scalar.indexCast (Scalar.muli (BitVec.ofNat 32 (i 1).val) 512#32)).toNat = (own i).val * 512 := by
  unfold own; dsimp only
  have := j_lt i; revert this; generalize (i 1).val = j; intro h; interval_cases j <;> rfl

theorem off1 (i : grid0.Coords) : k0_off1 i = ![(own i).val * 512, (0 : Fin 2).val * 128] := by rw [← own_toNat]; rfl
theorem off3 (i : grid0.Coords) : k0_off3 i = ![(own i).val * 512, (1 : Fin 2).val * 128] := by rw [← own_toNat]; rfl
theorem off2 (i : grid0.Coords) : k0_off2 i = ![(0 : Fin 2).val, 0, (own i).val * 512] := by rw [← own_toNat]; rfl
theorem off4 (i : grid0.Coords) : k0_off4 i = ![(1 : Fin 2).val, 0, (own i).val * 512] := by rw [← own_toNat]; rfl

/-! ## The block of queries that the keys' own block meets -/

section seed
variable (c : Dev nD) (i : grid0.Coords) (R : Refs) (X : Ins E)

theorem probOf_own {k q : S512x128.Idx → EReal} {cr ls : S1x1x512.Idx → EReal} {ck : S1x512x1.Idx → EReal} (h : Fin 2) (κ ρ : Fin 512)
    (hs : scoreOf k q cr ls ck κ ρ = score X h κ (row (own i) ρ)) : probOf k q cr ls ck κ ρ = prob (i 1).val X h κ (row (own i) ρ) := by
  unfold probOf prob
  rw [hs]
  exact if_congr (by show _ ↔ (i 1).val * 512 + κ.val ≤ (i 1).val * 512 + ρ.val; omega) rfl rfl

theorem own_r_4 (κ ρ : Fin 512) : run_open.sl.r_4 c i R X (ix2 κ ρ) = grad (i 1).val X 0 κ (row (own i) ρ) := by
  unfold run_open.sl.r_4 run_open.sl.r run_open.sl.r_1 run_open.sl.r_2 run_open.sl.r_3
  rw [pay62_at, id57, id58, id59]
  exact congrArg₂ (· * ·) (probOf_own i X 0 κ ρ (scoreOf_loads R X 0 (own i) (off1 i) (off2 i) rfl rfl _ _ _ _ κ ρ))
    (slopeOf_loads R X 0 (own i) (off1 i) (off2 i) rfl _ _ _ κ ρ)

theorem own_r_5 (κ ρ : Fin 512) : run_open.sl.r_5 c i R X (ix2 κ ρ) = grad (i 1).val X 0 κ (row (own i) ρ) := by
  unfold run_open.sl.r_5 run_open.sl.r run_open.sl.r_1 run_open.sl.r_2 run_open.sl.r_3
  rw [pay63_eq, pay62_at, id57, id58, id59]
  exact congrArg₂ (· * ·) (probOf_own i X 0 κ ρ (scoreOf_loads R X 0 (own i) (off1 i) (off2 i) rfl rfl _ _ _ _ κ ρ))
    (slopeOf_loads R X 0 (own i) (off1 i) (off2 i) rfl _ _ _ κ ρ)

theorem own_r_9 (κ ρ : Fin 512) : run_open.sl.r_9 c i R X (ix2 κ ρ) = grad (i 1).val X 1 κ (row (own i) ρ) := by
  unfold run_open.sl.r_9 run_open.sl.r_6 run_open.sl.r_7 run_open.sl.r_8
  rw [pay73_at, id69, id70, id71]
  exact congrArg₂ (· * ·) (probOf_own i X 1 κ ρ (scoreOf_loads R X 1 (own i) (off3 i) (off4 i) rfl rfl _ _ _ _ κ ρ))
    (slopeOf_loads R X 1 (own i) (off3 i) (off4 i) rfl _ _ _ κ ρ)

theorem own_r_10 (κ ρ : Fin 512) : run_open.sl.r_10 c i R X (ix2 κ ρ) = grad (i 1).val X 1 κ (row (own i) ρ) := by
  unfold run_open.sl.r_10 run_open.sl.r_6 run_open.sl.r_7 run_open.sl.r_8
  rw [pay74_eq, pay73_at, id69, id70, id71]
  exact congrArg₂ (· * ·) (probOf_own i X 1 κ ρ (scoreOf_loads R X 1 (own i) (off3 i) (off4 i) rfl rfl _ _ _ _ κ ρ))
    (slopeOf_loads R X 1 (own i) (off3 i) (off4 i) rfl _ _ _ κ ρ)

theorem zero15 (κ : Fin 512) (x : Fin 256) : R.a15.view.read (Elt E) (R.a15.view.writes (Elt E) R.a15.view.junk run_open.sl.H15_1) (ix2 κ x) = 0 := by
  unfold run_open.sl.H15_1
  exact (congrFun (read_stored R.a15.view hz2 _ _ _) (ix2 κ x)).trans (pay54_at κ x)

theorem zero16 (κ : Fin 512) (x : Fin 256) : R.a16.view.read (Elt E) (R.a16.view.writes (Elt E) R.a16.view.junk run_open.sl.H16_1) (ix2 κ x) = 0 := by
  unfold run_open.sl.H16_1
  exact (congrFun (read_stored R.a16.view hz2 _ _ _) (ix2 κ x)).trans (pay55_at κ x)

theorem zero17 (κ : Fin 512) (h : Fin 2) : R.a17.view.read (Elt E) (R.a17.view.writes (Elt E) R.a17.view.junk run_open.sl.H17_1) (ix3 h κ 0) = 0 := by
  unfold run_open.sl.H17_1
  exact (congrFun (read_stored R.a17.view hz3 _ _ _) (ix3 h κ 0)).trans (pay56_at h κ)

theorem zero10 (r : Fin 8192) (x : Fin 256) : R.a10.view.read (Elt E) (R.a10.view.writes (Elt E) R.a10.view.junk run_open.sl.H10_1) (ix2 r x) = 0 := by
  unfold run_open.sl.H10_1
  exact (congrFun (read_stored R.a10.view hz2 _ _ _) (ix2 r x)).trans (pay52_at r x)

theorem zero14 (r : Fin 8192) (h : Fin 2) : R.a14.view.read (Elt E) (R.a14.view.writes (Elt E) R.a14.view.junk run_open.sl.H14_1) (ix3 h 0 r) = 0 := by
  unfold run_open.sl.H14_1
  exact (congrFun (read_stored R.a14.view hz3 _ _ _) (ix3 h 0 r)).trans (pay53_at h r)

theorem seed15 (κ : Fin 512) (h : Fin 2) (d : Fin 128) :
    R.a15.view.read (Elt E) (R.a15.view.writes (Elt E) R.a15.view.junk (run_open.sl.H15_3 c i R X)) (ix2 κ (col h d))
      = ∑ ρ : Fin 512, grad (i 1).val X h κ (row (own i) ρ) * X.x2 (ix2 (row (own i) ρ) (col h d)) := by
  unfold run_open.sl.H15_3 run_open.sl.H15_2
  refine Eq.trans (two_cols _ _ _ ![_, _] _ κ h d) ?_
  obtain rfl | rfl : h = 0 ∨ h = 1 := by omega
  · refine (pay65_at _ _ _ _ _ _ _ _ _ κ d).trans ?_
    have e : run_open.sl.v64 c R (ix2 κ d) = 0 := (load2 _ _ rfl κ d κ (col 0 d) (Nat.zero_add _).symm rfl).trans (zero15 R κ _)
    rw [e, zero_add]
    unfold run_open.sl.r run_open.sl.r_1 run_open.sl.r_2
    rw [id57, id58, id59]
    exact Finset.sum_congr rfl fun ρ _ => congrArg₂ (· * ·) (congrArg₂ (· * ·) (probOf_own i X 0 κ ρ (scoreOf_loads R X 0 (own i) (off1 i) (off2 i) rfl rfl _ _ _ _ κ ρ))
        (slopeOf_loads R X 0 (own i) (off1 i) (off2 i) rfl _ _ _ κ ρ)) (q_at R X 0 (own i) (off1 i) _ ρ d)
  · refine (pay76_at _ _ _ κ d).trans ?_
    have e : run_open.sl.v144 c i R X (ix2 κ d) = 0 := (load2 _ _ rfl κ d κ (col 1 d) (Nat.zero_add _).symm rfl).trans
      ((View.read_writes_cons_unit_of_not_mem _ _ _ _ _ _ rfl 1 (Or.inr (Nat.le_add_right 128 d.val))).trans (zero15 R κ _))
    rw [e, zero_add]
    unfold run_open.sl.r_7
    rw [id70]
    exact Finset.sum_congr rfl fun ρ _ => congrArg₂ (· * ·) (own_r_10 c i R X κ ρ) (q_at R X 1 (own i) (off3 i) _ ρ d)

theorem seed16 (κ : Fin 512) (h : Fin 2) (d : Fin 128) :
    R.a16.view.read (Elt E) (R.a16.view.writes (Elt E) R.a16.view.junk (run_open.sl.H16_3 c i R X)) (ix2 κ (col h d))
      = ∑ ρ : Fin 512, prob (i 1).val X h κ (row (own i) ρ) * X.x3 (ix2 (row (own i) ρ) (col h d)) := by
  unfold run_open.sl.H16_3 run_open.sl.H16_2
  refine Eq.trans (two_cols _ _ _ ![_, _] _ κ h d) ?_
  obtain rfl | rfl : h = 0 ∨ h = 1 := by omega
  · refine (pay64_at _ _ _ _ _ _ _ κ d).trans ?_
    have e : run_open.sl.v57 c R (ix2 κ d) = 0 := (load2 _ _ rfl κ d κ (col 0 d) (Nat.zero_add _).symm rfl).trans (zero16 R κ _)
    rw [e, zero_add]
    unfold run_open.sl.r run_open.sl.r_1 run_open.sl.r_2
    rw [id57, id58, id59]
    exact Finset.sum_congr rfl fun ρ _ => congrArg₂ (· * ·) (probOf_own i X 0 κ ρ (scoreOf_loads R X 0 (own i) (off1 i) (off2 i) rfl rfl _ _ _ _ κ ρ)) (do_at R X 0 (own i) (off1 i) _ ρ d)
  · refine (pay75_at _ _ _ _ _ _ _ κ d).trans ?_
    have e : run_open.sl.v137 c i R X (ix2 κ d) = 0 := (load2 _ _ rfl κ d κ (col 1 d) (Nat.zero_add _).symm rfl).trans
      ((View.read_writes_cons_unit_of_not_mem _ _ _ _ _ _ rfl 1 (Or.inr (Nat.le_add_right 128 d.val))).trans (zero16 R κ _))
    rw [e, zero_add]
    unfold run_open.sl.r_6 run_open.sl.r_7 run_open.sl.r_8
    rw [id69, id70, id71]
    exact Finset.sum_congr rfl fun ρ _ => congrArg₂ (· * ·) (probOf_own i X 1 κ ρ (scoreOf_loads R X 1 (own i) (off3 i) (off4 i) rfl rfl _ _ _ _ κ ρ)) (do_at R X 1 (own i) (off3 i) _ ρ d)

theorem seed17 (κ : Fin 512) (h : Fin 2) :
    R.a17.view.read (Elt E) (R.a17.view.writes (Elt E) R.a17.view.junk (run_open.sl.H17_3 c i R X)) (ix3 h κ 0)
      = ∑ ρ : Fin 512, grad (i 1).val X h κ (row (own i) ρ) := by
  unfold run_open.sl.H17_3 run_open.sl.H17_2
  refine Eq.trans (two_heads _ _ _ ![_, _] _ κ h) ?_
  obtain rfl | rfl : h = 0 ∨ h = 1 := by omega
  · refine (pay67_at _ _ κ).trans ?_
    have e : run_open.sl.v79 c R (ix3 0 κ 0) = 0 := (load3 _ _ rfl 0 κ 0 0 κ 0 rfl (Nat.zero_add _).symm rfl).trans (zero17 R κ 0)
    rw [e, zero_add]
    exact Finset.sum_congr rfl fun ρ _ => own_r_4 c i R X κ ρ
  · refine (pay78_at _ _ κ).trans ?_
    have e : run_open.sl.v159 c i R X (ix3 0 κ 0) = 0 := (load3 _ _ rfl 0 κ 0 1 κ 0 rfl (Nat.zero_add _).symm rfl).trans
      ((View.read_writes_cons_unit_of_not_mem _ _ _ _ _ _ rfl 0 (Or.inr (Nat.le_refl 1))).trans (zero17 R κ 1))
    rw [e, zero_add]
    exact Finset.sum_congr rfl fun ρ _ => own_r_9 c i R X κ ρ

/-- The queries' gradients of the own block, added to what the loads found. -/
theorem seed10 (f : R.a10.view.ty.Contents (Elt E)) (i1 i0) (A : Fin 2 → S512x128.Idx → EReal) (L : List (View.Piece (Elt E) S8192x256 .f32))
    (b : Fin 16) (ρ : Fin 512) (h : Fin 2) (d : Fin 128) :
    R.a10.view.read (Elt E) (R.a10.view.writes (Elt E) f
      ((⟨Rect.unit (s := S8192x256) (k0_off3 i) ![512, 128] i1, k0_pay77 (run_open.sl.r_6 c R X) (run_open.sl.r_10 c i R X) (A 1)⟩ : View.Piece (Elt E) S8192x256 .f32) ::
        (⟨Rect.unit (s := S8192x256) (k0_off1 i) ![512, 128] i0, k0_pay66 (run_open.sl.r c R X) (run_open.sl.r_5 c i R X) (A 0)⟩ : View.Piece (Elt E) S8192x256 .f32) :: L)) (ix2 (row b ρ) (col h d))
      = if b = own i then A h (ix2 ρ d) + (∑ κ : Fin 512, grad (i 1).val X h κ (row b ρ) * X.x7 (ix2 κ (col h d))) * unfold
        else R.a10.view.read (Elt E) (R.a10.view.writes (Elt E) f L) (ix2 (row b ρ) (col h d)) := by
  refine Eq.trans (two_rows f (own i) (off3 i) (off1 i) _ _ ![_, _] L b ρ h d) ?_
  by_cases hb : b = own i
  · subst hb
    rw [if_pos rfl, if_pos rfl]
    obtain rfl | rfl : h = 0 ∨ h = 1 := by omega
    · refine (pay66_at _ _ _ ρ d).trans (congrArg (A 0 (ix2 ρ d) + · * unfold) (Finset.sum_congr rfl fun κ _ => congrArg₂ (· * ·) (own_r_5 c i R X κ ρ) ?_))
      unfold run_open.sl.r; rw [id57]; exact k_at R X 0 rfl _ κ d
    · refine (pay77_at _ _ _ ρ d).trans (congrArg (A 1 (ix2 ρ d) + · * unfold) (Finset.sum_congr rfl fun κ _ => congrArg₂ (· * ·) (own_r_10 c i R X κ ρ) ?_))
      unfold run_open.sl.r_6; rw [id69]; exact k_at R X 1 rfl _ κ d
  · rw [if_neg hb, if_neg hb]

theorem seed14 (f : R.a14.view.ty.Contents (Elt E)) (i1 i0) (A : Fin 2 → S1x1x512.Idx → EReal) (L : List (View.Piece (Elt E) S2x1x8192 .f32))
    (b : Fin 16) (ρ : Fin 512) (h : Fin 2) :
    R.a14.view.read (Elt E) (R.a14.view.writes (Elt E) f
      ((⟨Rect.unit (s := S2x1x8192) (k0_off4 i) ![1, 1, 512] i1, k0_pay79 (run_open.sl.r_9 c i R X) (A 1)⟩ : View.Piece (Elt E) S2x1x8192 .f32) ::
        (⟨Rect.unit (s := S2x1x8192) (k0_off2 i) ![1, 1, 512] i0, k0_pay68 (run_open.sl.r_4 c i R X) (A 0)⟩ : View.Piece (Elt E) S2x1x8192 .f32) :: L)) (ix3 h 0 (row b ρ))
      = if b = own i then A h (ix3 0 0 ρ) + ∑ κ : Fin 512, grad (i 1).val X h κ (row b ρ)
        else R.a14.view.read (Elt E) (R.a14.view.writes (Elt E) f L) (ix3 h 0 (row b ρ)) := by
  refine Eq.trans (two_lanes f (own i) (off4 i) (off2 i) _ _ ![_, _] L b ρ h) ?_
  by_cases hb : b = own i
  · subst hb
    rw [if_pos rfl, if_pos rfl]
    obtain rfl | rfl : h = 0 ∨ h = 1 := by omega
    · exact (pay68_at _ _ ρ).trans (congrArg (A 0 (ix3 0 0 ρ) + ·) (Finset.sum_congr rfl fun κ _ => own_r_4 c i R X κ ρ))
    · exact (pay79_at _ _ ρ).trans (congrArg (A 1 (ix3 0 0 ρ) + ·) (Finset.sum_congr rfl fun κ _ => own_r_9 c i R X κ ρ))
  · rw [if_neg hb, if_neg hb]

end seed

/-! ## The whole point -/

/-- Before its own block a key has no weight. -/
theorem prob_early (i : grid0.Coords) (X : Ins E) (h : Fin 2) (κ ρ : Fin 512) (b : Fin 16) (hb : b.val < (i 1).val) : prob (i 1).val X h κ (row b ρ) = 0 :=
  if_neg (by show ¬(i 1).val * 512 + κ.val ≤ b.val * 512 + ρ.val; omega)

theorem grad_early (i : grid0.Coords) (X : Ins E) (h : Fin 2) (κ ρ : Fin 512) (b : Fin 16) (hb : b.val < (i 1).val) : grad (i 1).val X h κ (row b ρ) = 0 := by
  unfold grad; rw [prob_early i X h κ ρ b hb, zero_mul]

/-- The own block and the later ones are all blocks, where the earlier ones add nothing. -/
theorem sum_own (i : grid0.Coords) (f : Fin 8192 → EReal) (h0 : ∀ (b : Fin 16) (ρ : Fin 512), b.val < (i 1).val → f (row b ρ) = 0) :
    (∑ ρ : Fin 512, f (row (own i) ρ)) + (∑ b : Fin 16, if (i 1).val < b.val ∧ b.val ≤ (i 1).val + (k0_t1_loop i).trips then ∑ ρ : Fin 512, f (row b ρ) else 0)
      = ∑ r : Fin 8192, f r := by
  rw [Fin.sum_univ_tiles 16 512 (by norm_num) f]
  have e : (∑ ρ : Fin 512, f (row (own i) ρ)) = ∑ b : Fin 16, if b = own i then ∑ ρ : Fin 512, f (row b ρ) else 0 := by
    rw [Finset.sum_ite_eq' Finset.univ (own i) fun b => ∑ ρ : Fin 512, f (row b ρ)]; simp
  rw [e, ← Finset.sum_add_distrib]
  refine Finset.sum_congr rfl fun b _ => ?_
  have ht := trips_eq i
  have hj := j_lt i
  have hx : b = own i ↔ b.val = (i 1).val := Fin.ext_iff
  by_cases h1 : b = own i
  · have := hx.mp h1
    rw [if_pos h1, if_neg (by omega), add_zero]
  · have h2 : b.val ≠ (i 1).val := fun h => h1 (hx.mpr h)
    rw [if_neg h1, zero_add]
    by_cases h3 : b.val < (i 1).val
    · rw [if_neg (by omega)]
      exact (Finset.sum_eq_zero fun ρ _ => h0 b ρ h3).symm
    · rw [if_pos (by omega)]

/-- The same of one block's row. -/
theorem row_own (i : grid0.Coords) (b : Fin 16) (s a g : EReal) (ha : b = own i → a = s) (h0 : b.val < (i 1).val → g = 0) :
    (if b = own i then a + g else s) + (if (i 1).val < b.val ∧ b.val ≤ (i 1).val + (k0_t1_loop i).trips then g else 0) = s + g := by
  have ht := trips_eq i
  have hj := j_lt i
  have hx : b = own i ↔ b.val = (i 1).val := Fin.ext_iff
  by_cases h1 : b = own i
  · have := hx.mp h1
    rw [if_pos h1, if_neg (by omega), add_zero, ha h1]
  · have h2 : b.val ≠ (i 1).val := fun h => h1 (hx.mpr h)
    rw [if_neg h1]
    by_cases h3 : b.val < (i 1).val
    · rw [if_neg (by omega), h0 h3]
    · rw [if_pos (by omega)]

/-- Every row lies in a block. -/
theorem row_eta (r : Fin 8192) : ∃ (b : Fin 16) (ρ : Fin 512), r = row b ρ :=
  ⟨⟨r.val / 512, by omega⟩, ⟨r.val % 512, by omega⟩, Fin.ext (by show r.val = r.val / 512 * 512 + r.val % 512; omega)⟩

section point
variable (c : Dev nD) (i : grid0.Coords) (R : Refs) (X : Ins E)

/-- The keys' gradient of a point, folded. -/
def dkOf (j : ℕ) (X : Ins E) (κ : Fin 512) (h : Fin 2) (d : Fin 128) : EReal := ∑ r : Fin 8192, grad j X h κ r * X.x2 (ix2 r (col h d))
/-- The values' gradient of a point. -/
def dvOf (j : ℕ) (X : Ins E) (κ : Fin 512) (h : Fin 2) (d : Fin 128) : EReal := ∑ r : Fin 8192, prob j X h κ r * X.x3 (ix2 r (col h d))
/-- The gradient of the keys' gate sums of a point, its sign apart. -/
def dcOf (j : ℕ) (X : Ins E) (κ : Fin 512) (h : Fin 2) : EReal := ∑ r : Fin 8192, grad j X h κ r
/-- What a point adds to the queries' gradient. -/
def dqOf (j : ℕ) (X : Ins E) (r : Fin 8192) (h : Fin 2) (d : Fin 128) : EReal := (∑ κ : Fin 512, grad j X h κ r * X.x7 (ix2 κ (col h d))) * unfold
/-- What a point adds to the gradient of the queries' gate sums. -/
def dcqOf (j : ℕ) (X : Ins E) (r : Fin 8192) (h : Fin 2) : EReal := ∑ κ : Fin 512, grad j X h κ r

section sums
variable (f10 : R.a10.view.ty.Contents (Elt E)) (f14 : R.a14.view.ty.Contents (Elt E))

theorem all15 (κ : Fin 512) (h : Fin 2) (d : Fin 128) :
    R.a15.view.read (Elt E) (R.a15.view.writes (Elt E) R.a15.view.junk
      ((loopOf c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) (k0_t1_loop i).trips).2.2.1 ++ run_open.sl.H15_3 c i R X)) (ix2 κ (col h d))
      = dkOf (i 1).val X κ h d := by
  rw [View.writes_append]
  refine (loop15 c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) κ h d _ (Nat.le_refl _)).trans ?_
  rw [seed15 c i R X κ h d]
  unfold dkOf
  exact sum_own i (fun r => grad (i 1).val X h κ r * X.x2 (ix2 r (col h d))) fun b ρ hb => (congrArg (· * _) (grad_early i X h κ ρ b hb)).trans (zero_mul _)

theorem all16 (κ : Fin 512) (h : Fin 2) (d : Fin 128) :
    R.a16.view.read (Elt E) (R.a16.view.writes (Elt E) R.a16.view.junk
      ((loopOf c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) (k0_t1_loop i).trips).2.2.2.1 ++ run_open.sl.H16_3 c i R X)) (ix2 κ (col h d))
      = dvOf (i 1).val X κ h d := by
  rw [View.writes_append]
  refine (loop16 c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) κ h d _ (Nat.le_refl _)).trans ?_
  rw [seed16 c i R X κ h d]
  unfold dvOf
  exact sum_own i (fun r => prob (i 1).val X h κ r * X.x3 (ix2 r (col h d))) fun b ρ hb => (congrArg (· * _) (prob_early i X h κ ρ b hb)).trans (zero_mul _)

theorem all17 (κ : Fin 512) (h : Fin 2) :
    R.a17.view.read (Elt E) (R.a17.view.writes (Elt E) R.a17.view.junk
      ((loopOf c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) (k0_t1_loop i).trips).2.2.2.2 ++ run_open.sl.H17_3 c i R X)) (ix3 h κ 0)
      = dcOf (i 1).val X κ h := by
  rw [View.writes_append]
  refine (loop17 c i R X f10 f14 (R.a15.view.writes (Elt E) R.a15.view.junk (run_open.sl.H15_3 c i R X)) (R.a16.view.writes (Elt E) R.a16.view.junk (run_open.sl.H16_3 c i R X)) (R.a17.view.writes (Elt E) R.a17.view.junk (run_open.sl.H17_3 c i R X)) κ h _ (Nat.le_refl _)).trans ?_
  rw [seed17 c i R X κ h]
  unfold dcOf
  exact sum_own i (fun r => grad (i 1).val X h κ r) fun b ρ hb => grad_early i X h κ ρ b hb

end sums

theorem open_x11 (hc : opens i) (κ : Fin 512) (h : Fin 2) (d : Fin 128) : (run_open c i R hc X).1.x11 (ix2 κ (col h d)) = dkOf (i 1).val X κ h d * unfold := by
  refine Eq.trans (pay3_at (run_open.sl.v183 c i R X) κ (col h d)) (congrArg (· * unfold) ?_)
  unfold run_open.sl.v183
  rw [rest_trips]; simp only [pb_k0_t2, List.nil_append]
  exact (load2 _ _ rfl κ (col h d) κ (col h d) (Nat.zero_add _).symm (Nat.zero_add _).symm).trans (all15 c i R X _ _ κ h d)

theorem open_x12 (hc : opens i) (κ : Fin 512) (h : Fin 2) (d : Fin 128) : (run_open c i R hc X).1.x12 (ix2 κ (col h d)) = dvOf (i 1).val X κ h d := by
  refine Eq.trans (pay4_at (run_open.sl.v187 c i R X) κ (col h d)) (?_)
  unfold run_open.sl.v187
  rw [rest_trips]; simp only [pb_k0_t2, List.nil_append]
  exact (load2 _ _ rfl κ (col h d) κ (col h d) (Nat.zero_add _).symm (Nat.zero_add _).symm).trans (all16 c i R X _ _ κ h d)

theorem open_x13 (hc : opens i) (κ : Fin 512) (h : Fin 2) : (run_open c i R hc X).1.x13 (ix3 h κ 0) = -dcOf (i 1).val X κ h := by
  refine Eq.trans (pay5_at (run_open.sl.v190 c i R X) h κ) (congrArg (- ·) ?_)
  unfold run_open.sl.v190
  rw [rest_trips]; simp only [pb_k0_t2, List.nil_append]
  exact (load3 _ _ rfl h κ 0 h κ 0 (Nat.zero_add _).symm (Nat.zero_add _).symm rfl).trans (all17 c i R X _ _ κ h)

theorem next_x11 (hc : ¬opens i) (dq dcq) (κ : Fin 512) (h : Fin 2) (d : Fin 128) : (run_next c i R hc X dq dcq).1.x11 (ix2 κ (col h d)) = dkOf (i 1).val X κ h d * unfold := by
  refine Eq.trans (pay3_at (run_next.sl.v183 c i R X dq dcq) κ (col h d)) (congrArg (· * unfold) ?_)
  unfold run_next.sl.v183
  rw [rest_trips]; simp only [pb_k0_t2, List.nil_append]
  exact (load2 _ _ rfl κ (col h d) κ (col h d) (Nat.zero_add _).symm (Nat.zero_add _).symm).trans (all15 c i R X _ _ κ h d)

theorem next_x12 (hc : ¬opens i) (dq dcq) (κ : Fin 512) (h : Fin 2) (d : Fin 128) : (run_next c i R hc X dq dcq).1.x12 (ix2 κ (col h d)) = dvOf (i 1).val X κ h d := by
  refine Eq.trans (pay4_at (run_next.sl.v187 c i R X dq dcq) κ (col h d)) (?_)
  unfold run_next.sl.v187
  rw [rest_trips]; simp only [pb_k0_t2, List.nil_append]
  exact (load2 _ _ rfl κ (col h d) κ (col h d) (Nat.zero_add _).symm (Nat.zero_add _).symm).trans (all16 c i R X _ _ κ h d)

theorem next_x13 (hc : ¬opens i) (dq dcq) (κ : Fin 512) (h : Fin 2) : (run_next c i R hc X dq dcq).1.x13 (ix3 h κ 0) = -dcOf (i 1).val X κ h := by
  refine Eq.trans (pay5_at (run_next.sl.v190 c i R X dq dcq) h κ) (congrArg (- ·) ?_)
  unfold run_next.sl.v190
  rw [rest_trips]; simp only [pb_k0_t2, List.nil_append]
  exact (load3 _ _ rfl h κ 0 h κ 0 (Nat.zero_add _).symm (Nat.zero_add _).symm rfl).trans (all17 c i R X _ _ κ h)

theorem open_x10 (hc : opens i) (r : Fin 8192) (h : Fin 2) (d : Fin 128) : (run_open c i R hc X).1.x10 (ix2 r (col h d)) = dqOf (i 1).val X r h d := by
  obtain ⟨b, ρ, rfl⟩ := row_eta r
  show R.a10.view.read (Elt E) (R.a10.view.writes (Elt E) R.a10.view.junk ((loopOf c i R X _ _ _ _ _ (k0_t1_loop i).trips).1 ++ _)) _ = _
  rw [View.writes_append]
  refine (loop10 c i R X _ _ _ _ _ b ρ h d _ (Nat.le_refl _)).trans ?_
  unfold run_open.sl.H10_2
  refine Eq.trans (congrArg (· + _) (seed10 c i R X R.a10.view.junk _ _ ![View.readAt (Elt E) R.a10.view (Rect.unit (s := S8192x256) (k0_off1 i) ![512, 128] (k0_off1_inb i)).toLoadRect (R.a10.view.writes (Elt E) R.a10.view.junk run_open.sl.H10_1), run_open.sl.v151 c i R X] run_open.sl.H10_1 b ρ h d)) ?_
  refine Eq.trans (row_own i b _ _ (dqOf (i 1).val X (row b ρ) h d) ?_ fun hb => by unfold dqOf; rw [Finset.sum_eq_zero fun κ _ => (congrArg (· * _) (grad_early i X h κ ρ b hb)).trans (zero_mul _), zero_mul]) ?_
  · intro hb
    subst hb
    refine Eq.trans ?_ (zero10 R (row (own i) ρ) (col h d)).symm
    obtain rfl | rfl : h = 0 ∨ h = 1 := by omega
    · exact (load2 _ _ (off1 i) ρ d (row (own i) ρ) (col 0 d) rfl rfl).trans (zero10 R (row (own i) ρ) (col 0 d))
    · exact (load2 _ _ (off3 i) ρ d (row (own i) ρ) (col 1 d) rfl rfl).trans ((View.read_writes_cons_unit_of_not_mem _ _ _ _ _ _ (off1 i) 1 (Or.inr (by show 0 * 128 + 128 ≤ 1 * 128 + d.val; omega))).trans (zero10 R (row (own i) ρ) (col 1 d)))
  · exact (congrArg (· + _) (zero10 R (row b ρ) (col h d))).trans (zero_add _)

theorem open_x14 (hc : opens i) (r : Fin 8192) (h : Fin 2) : (run_open c i R hc X).1.x14 (ix3 h 0 r) = dcqOf (i 1).val X r h := by
  obtain ⟨b, ρ, rfl⟩ := row_eta r
  show R.a14.view.read (Elt E) (R.a14.view.writes (Elt E) R.a14.view.junk ((loopOf c i R X _ _ _ _ _ (k0_t1_loop i).trips).2.1 ++ _)) _ = _
  rw [View.writes_append]
  refine (loop14 c i R X _ _ _ _ _ b ρ h _ (Nat.le_refl _)).trans ?_
  unfold run_open.sl.H14_2
  refine Eq.trans (congrArg (· + _) (seed14 c i R X R.a14.view.junk _ _ ![View.readAt (Elt E) R.a14.view (Rect.unit (s := S2x1x8192) (k0_off2 i) ![1, 1, 512] (k0_off2_inb i)).toLoadRect (R.a14.view.writes (Elt E) R.a14.view.junk run_open.sl.H14_1), run_open.sl.v168 c i R X] run_open.sl.H14_1 b ρ h)) ?_
  refine Eq.trans (row_own i b _ _ (dcqOf (i 1).val X (row b ρ) h) ?_ fun hb => by unfold dcqOf; exact Finset.sum_eq_zero fun κ _ => grad_early i X h κ ρ b hb) ?_
  · intro hb
    subst hb
    refine Eq.trans ?_ (zero14 R (row (own i) ρ) h).symm
    obtain rfl | rfl : h = 0 ∨ h = 1 := by omega
    · exact (load3 _ _ (off2 i) 0 0 ρ 0 0 (row (own i) ρ) rfl rfl rfl).trans (zero14 R (row (own i) ρ) 0)
    · exact (load3 _ _ (off4 i) 0 0 ρ 1 0 (row (own i) ρ) rfl rfl rfl).trans ((View.read_writes_cons_unit_of_not_mem _ _ _ _ _ _ (off2 i) 0 (Or.inr (by show 0 + 1 ≤ 1; omega))).trans (zero14 R (row (own i) ρ) 1))
  · exact (congrArg (· + _) (zero14 R (row b ρ) h)).trans (zero_add _)

theorem next_x10 (hc : ¬opens i) (dq : Vec E S8192x256 .f32) (dcq : Vec E S2x1x8192 .f32) (r : Fin 8192) (h : Fin 2) (d : Fin 128) : (run_next c i R hc X dq dcq).1.x10 (ix2 r (col h d)) = dq (ix2 r (col h d)) + dqOf (i 1).val X r h d := by
  obtain ⟨b, ρ, rfl⟩ := row_eta r
  show R.a10.view.read (Elt E) (R.a10.view.writes (Elt E) (R.w10.unread dq) ((loopOf c i R X _ _ _ _ _ (k0_t1_loop i).trips).1 ++ _)) _ = _
  rw [View.writes_append]
  refine (loop10 c i R X _ _ _ _ _ b ρ h d _ (Nat.le_refl _)).trans ?_
  refine Eq.trans (congrArg (· + _) (seed10 c i R X (R.w10.unread dq) _ _ ![View.readAt (Elt E) R.a10.view (Rect.unit (s := S8192x256) (k0_off1 i) ![512, 128] (k0_off1_inb i)).toLoadRect (R.w10.unread dq), run_next.sl.v151 c i R dq] [] b ρ h d)) ?_
  refine Eq.trans (row_own i b _ _ (dqOf (i 1).val X (row b ρ) h d) ?_ fun hb => by unfold dqOf; rw [Finset.sum_eq_zero fun κ _ => (congrArg (· * _) (grad_early i X h κ ρ b hb)).trans (zero_mul _), zero_mul]) ?_
  · intro hb
    subst hb
    refine Eq.trans ?_ (show R.a10.view.read (Elt E) (R.a10.view.writes (Elt E) (R.w10.unread dq) []) (ix2 (row (own i) ρ) (col h d)) = dq (ix2 (row (own i) ρ) (col h d)) from congrFun (R.w10.read_unread _) _).symm
    obtain rfl | rfl : h = 0 ∨ h = 1 := by omega
    · exact (load2 _ _ (off1 i) ρ d (row (own i) ρ) (col 0 d) rfl rfl).trans (congrFun (R.w10.read_unread _) _)
    · exact (load2 _ _ (off3 i) ρ d (row (own i) ρ) (col 1 d) rfl rfl).trans (congrFun (R.w10.read_unread _) _)
  · exact congrArg (· + _) (show R.a10.view.read (Elt E) (R.a10.view.writes (Elt E) (R.w10.unread dq) []) (ix2 (row b ρ) (col h d)) = dq (ix2 (row b ρ) (col h d)) from congrFun (R.w10.read_unread _) _)

theorem next_x14 (hc : ¬opens i) (dq : Vec E S8192x256 .f32) (dcq : Vec E S2x1x8192 .f32) (r : Fin 8192) (h : Fin 2) : (run_next c i R hc X dq dcq).1.x14 (ix3 h 0 r) = dcq (ix3 h 0 r) + dcqOf (i 1).val X r h := by
  obtain ⟨b, ρ, rfl⟩ := row_eta r
  show R.a14.view.read (Elt E) (R.a14.view.writes (Elt E) (R.w14.unread dcq) ((loopOf c i R X _ _ _ _ _ (k0_t1_loop i).trips).2.1 ++ _)) _ = _
  rw [View.writes_append]
  refine (loop14 c i R X _ _ _ _ _ b ρ h _ (Nat.le_refl _)).trans ?_
  refine Eq.trans (congrArg (· + _) (seed14 c i R X (R.w14.unread dcq) _ _ ![View.readAt (Elt E) R.a14.view (Rect.unit (s := S2x1x8192) (k0_off2 i) ![1, 1, 512] (k0_off2_inb i)).toLoadRect (R.w14.unread dcq), run_next.sl.v168 c i R dcq] [] b ρ h)) ?_
  refine Eq.trans (row_own i b _ _ (dcqOf (i 1).val X (row b ρ) h) ?_ fun hb => by unfold dcqOf; exact Finset.sum_eq_zero fun κ _ => grad_early i X h κ ρ b hb) ?_
  · intro hb
    subst hb
    refine Eq.trans ?_ (show R.a14.view.read (Elt E) (R.a14.view.writes (Elt E) (R.w14.unread dcq) []) (ix3 h 0 (row (own i) ρ)) = dcq (ix3 h 0 (row (own i) ρ)) from congrFun (R.w14.read_unread _) _).symm
    obtain rfl | rfl : h = 0 ∨ h = 1 := by omega
    · exact (load3 _ _ (off2 i) 0 0 ρ 0 0 (row (own i) ρ) rfl rfl rfl).trans (congrFun (R.w14.read_unread _) _)
    · exact (load3 _ _ (off4 i) 0 0 ρ 1 0 (row (own i) ρ) rfl rfl rfl).trans (congrFun (R.w14.read_unread _) _)
  · exact congrArg (· + _) (show R.a14.view.read (Elt E) (R.a14.view.writes (Elt E) (R.w14.unread dcq) []) (ix3 h 0 (row b ρ)) = dcq (ix3 h 0 (row b ρ)) from congrFun (R.w14.read_unread _) _)

end point

end Cert.AttnIdeal.Bwd
-- ==== Proof.AttnRun.lean ====
/- The attention's backward kernel over its grid: what each point leaves in the results' buffers, the launch, and the frame. Over any float
   values. -/
module

public import proofs.«01_k».proof.Proof.AttnBody
public import Idealize.ShloMosaic.Lib.Pipeline.TableIdle
public import Idealize.ShloMosaic.Lib.Claim

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point opens a pair of heads exactly when it is a multiple of the number of key blocks. -/
theorem opens_iff (t : Fin cfg0.N) : opens (grid0.coords t) ↔ t.val % 16 = 0 := by
  have ht : t.val < 128 := Nat.lt_of_lt_of_eq t.isLt N_0
  have e0 : (grid0.coords t 0).val = t.val / 16 % 8 := Pipeline.Grid.coords_val t 0 (by decide) rfl
  have e1 : (grid0.coords t 1).val = t.val / 1 % 16 := Pipeline.Grid.coords_val t 1 (by decide) rfl
  simp only [opens, e0, e1]
  word_cmp

/-- The memrefs that the body is called with at a point. -/
abbrev refs (t : Fin cfg0.N) : Refs := ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10),
    win0_11.stage (cfg0.slots t 11), hstage0_11 ((cfg0.slots t 11).cast nbuf0_11),
    win0_12.stage (cfg0.slots t 12), hstage0_12 ((cfg0.slots t 12).cast nbuf0_12),
    Memref.whole cc0_scratch0, Memref.isWhole_whole _, Memref.whole cc0_scratch1, Memref.isWhole_whole _, Memref.whole cc0_scratch2, Memref.isWhole_whole _⟩

/-- What the inputs hold at a point: their blocks. -/
abbrev ins (c : Dev nD) (t : Fin cfg0.N) : Ins F := ⟨iblk m c 0 t, iblk m c 1 t, iblk m c 2 t, iblk m c 3 t, iblk m c 4 t, iblk m c 5 t, iblk m c 6 t, iblk m c 7 t⟩

/-- What the results' buffers hold after a point, the gradients along queries added to what the point before left. -/
def outsAt (c : Dev nD) : (n : ℕ) → n < cfg0.N → Outs F
  | 0, hn => (run_open c (grid0.coords ⟨0, hn⟩) (refs ⟨0, hn⟩) ((opens_iff ⟨0, hn⟩).mpr (Nat.zero_mod _)) (ins m c ⟨0, hn⟩)).1
  | n + 1, hn =>
    if h0 : (n + 1) % 16 = 0 then
      (run_open c (grid0.coords ⟨n + 1, hn⟩) (refs ⟨n + 1, hn⟩) ((opens_iff ⟨n + 1, hn⟩).mpr h0) (ins m c ⟨n + 1, hn⟩)).1
    else
      (run_next c (grid0.coords ⟨n + 1, hn⟩) (refs ⟨n + 1, hn⟩) (fun h => h0 ((opens_iff ⟨n + 1, hn⟩).mp h)) (ins m c ⟨n + 1, hn⟩)
        (outsAt c n (Nat.lt_of_succ_lt hn)).x10 (outsAt c n (Nat.lt_of_succ_lt hn)).x14).1

/-- At a point that opens a pair of heads. -/
theorem outsAt_open (c : Dev nD) (t : Fin cfg0.N) (h0 : t.val % 16 = 0) :
    outsAt m c t.val t.isLt = (run_open c (grid0.coords t) (refs t) ((opens_iff t).mpr h0) (ins m c t)).1 := by
  obtain ⟨n, hn⟩ := t
  cases n with
  | zero => exact rfl
  | succ n => exact dif_pos h0

/-- At a point that does not. -/
theorem outsAt_next (c : Dev nD) (t : Fin cfg0.N) (h0 : ¬t.val % 16 = 0) :
    outsAt m c t.val t.isLt = (run_next c (grid0.coords t) (refs t) (fun h => h0 ((opens_iff t).mp h)) (ins m c t)
      (outsAt m c (t.val - 1) (Nat.lt_of_le_of_lt (Nat.sub_le _ _) t.isLt)).x10
      (outsAt m c (t.val - 1) (Nat.lt_of_le_of_lt (Nat.sub_le _ _) t.isLt)).x14).1 := by
  obtain ⟨n, hn⟩ := t
  cases n with
  | zero => exact absurd (Nat.zero_mod _) h0
  | succ n => exact dif_neg h0

/-- The pipeline's proof data: the arrays as the region finds them, the inputs' buffers at their blocks, the results' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).x10
    | ⟨9, _⟩ => (outsAt m c t.val t.isLt).x11
    | ⟨10, _⟩ => (outsAt m c t.val t.isLt).x12
    | ⟨11, _⟩ => (outsAt m c t.val t.isLt).x13
    | ⟨12, _⟩ => (outsAt m c t.val t.isLt).x14
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (outsAt m c t.val t.isLt).x10 := by dsimp only [dats]
theorem after_9 (c : Dev nD) (t : Fin cfg0.N) : (dats m 0 c).after 9 t = (outsAt m c t.val t.isLt).x11 := by dsimp only [dats]
theorem after_10 (c : Dev nD) (t : Fin cfg0.N) : (dats m 0 c).after 10 t = (outsAt m c t.val t.isLt).x12 := by dsimp only [dats]
theorem after_11 (c : Dev nD) (t : Fin cfg0.N) : (dats m 0 c).after 11 t = (outsAt m c t.val t.isLt).x13 := by dsimp only [dats]
theorem after_12 (c : Dev nD) (t : Fin cfg0.N) : (dats m 0 c).after 12 t = (outsAt m c t.val t.isLt).x14 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- A result that is written back with the last block of keys is kept between the blocks. -/
theorem kept (w : Fin cfg0.W) (hf : ∀ t : Fin cfg0.N, (cfg0.win w).flush t = true ↔ t.val % 16 = 15)
    (hi : ∀ i, cfg0.idle w i = false) (t : Fin cfg0.N) (h0 : ¬t.val % 16 = 0) : cfg0.fresh w t.val = false := by
  obtain ⟨n, hn⟩ := t
  cases n with
  | zero => exact absurd (Nat.zero_mod _) h0
  | succ n =>
    have hn' : n < cfg0.N := Nat.lt_of_succ_lt hn
    show cfg0.fresh w (n + 1) = false
    rw [Pipeline.Cfg.fresh_succ cfg0 w n hn', hi, Bool.false_and, Bool.or_false]
    have h15 : ¬n % 16 = 15 := by
      simp only at h0; omega
    exact Bool.eq_false_iff.mpr fun h => h15 ((hf ⟨n, hn'⟩).mp h)

theorem before_8 (c : Dev nD) (t : Fin cfg0.N) (h0 : ¬t.val % 16 = 0) (d) :
    (dats m 0 c).before 8 t d = (outsAt m c (t.val - 1) (Nat.lt_of_le_of_lt (Nat.sub_le _ _) t.isLt)).x10 := by
  rw [Dat.before_out_traj _ 8 rfl (fun _ _ => rfl) (fun _ _ hi _ => absurd hi Bool.false_ne_true) t.val t rfl d,
    if_neg (by rw [kept 8 flush0_8 (fun _ => rfl) t h0]; exact Bool.false_ne_true)]
  dsimp only [dats]

theorem before_12 (c : Dev nD) (t : Fin cfg0.N) (h0 : ¬t.val % 16 = 0) (d) :
    (dats m 0 c).before 12 t d = (outsAt m c (t.val - 1) (Nat.lt_of_le_of_lt (Nat.sub_le _ _) t.isLt)).x14 := by
  rw [Dat.before_out_traj _ 12 rfl (fun _ _ => rfl) (fun _ _ hi _ => absurd hi Bool.false_ne_true) t.val t rfl d,
    if_neg (by rw [kept 12 flush0_12 (fun _ => rfl) t h0]; exact Bool.false_ne_true)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (refs t).a2 fullShare ((dats m 0 c).before 0 t d))
    ∗ (∃ d, owns (c : Thread nD τ) (refs t).a3 fullShare ((dats m 0 c).before 1 t d))
    ∗ (∃ d, owns (c : Thread nD τ) (refs t).a4 fullShare ((dats m 0 c).before 2 t d))
    ∗ (∃ d, owns (c : Thread nD τ) (refs t).a5 fullShare ((dats m 0 c).before 3 t d))
    ∗ (∃ d, owns (c : Thread nD τ) (refs t).a6 fullShare ((dats m 0 c).before 4 t d))
    ∗ (∃ d, owns (c : Thread nD τ) (refs t).a7 fullShare ((dats m 0 c).before 5 t d))
    ∗ (∃ d, owns (c : Thread nD τ) (refs t).a8 fullShare ((dats m 0 c).before 6 t d))
    ∗ (∃ d, owns (c : Thread nD τ) (refs t).a9 fullShare ((dats m 0 c).before 7 t d))
    ∗ (∃ d, owns (c : Thread nD τ) (refs t).a10 fullShare ((dats m 0 c).before 8 t d))
    ∗ (∃ d, owns (c : Thread nD τ) (refs t).a11 fullShare ((dats m 0 c).before 9 t d))
    ∗ (∃ d, owns (c : Thread nD τ) (refs t).a12 fullShare ((dats m 0 c).before 10 t d))
    ∗ (∃ d, owns (c : Thread nD τ) (refs t).a13 fullShare ((dats m 0 c).before 11 t d))
    ∗ (∃ d, owns (c : Thread nD τ) (refs t).a14 fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (refs t).a2 fullShare ((dats m 0 c).after 0 t)
    ∗ owns (c : Thread nD τ) (refs t).a3 fullShare ((dats m 0 c).after 1 t)
    ∗ owns (c : Thread nD τ) (refs t).a4 fullShare ((dats m 0 c).after 2 t)
    ∗ owns (c : Thread nD τ) (refs t).a5 fullShare ((dats m 0 c).after 3 t)
    ∗ owns (c : Thread nD τ) (refs t).a6 fullShare ((dats m 0 c).after 4 t)
    ∗ owns (c : Thread nD τ) (refs t).a7 fullShare ((dats m 0 c).after 5 t)
    ∗ owns (c : Thread nD τ) (refs t).a8 fullShare ((dats m 0 c).after 6 t)
    ∗ owns (c : Thread nD τ) (refs t).a9 fullShare ((dats m 0 c).after 7 t)
    ∗ owns (c : Thread nD τ) (refs t).a10 fullShare ((dats m 0 c).after 8 t)
    ∗ owns (c : Thread nD τ) (refs t).a11 fullShare ((dats m 0 c).after 9 t)
    ∗ owns (c : Thread nD τ) (refs t).a12 fullShare ((dats m 0 c).after 10 t)
    ∗ owns (c : Thread nD τ) (refs t).a13 fullShare ((dats m 0 c).after 11 t)
    ∗ owns (c : Thread nD τ) (refs t).a14 fullShare ((dats m 0 c).after 12 t))

/-- The pipeline's invariant: the scratch buffers at anything, and the generator's register. -/
theorem rest_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

set_option maxHeartbeats 3200000 in
/-- The body's triple at any point. -/
theorem sound_body (c : Dev nD) (t : Fin cfg0.N) :
    bodyPre m c t ⊢ wp frame (wpE (defs₀ (F := F)) Variants.none c none) Set.univ (body (grid0.coords t) (refs t)) (fun _ => bodyPost m c t) := by
  unfold bodyPre bodyPost
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl, rest_eq]
  by_cases h0 : t.val % 16 = 0
  · rw [outsAt_open m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_open c (grid0.coords t) (refs t) ((opens_iff t).mpr h0) (ins m c t)).2 Set.univ _)
    unfold heldIn heldOut heldRest heldScratch
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H12]; · iexists _; iexact H12
    isplitl [H9 H10 H11 HS0 HS1 HS2]
    · isplitl [H9]; · iexists _; iexact H9
      isplitl [H10]; · iexists _; iexact H10
      isplitl [H11]; · iexists _; iexact H11
      isplitl [HS0]; · iexact HS0
      isplitl [HS1]; · iexact HS1
      iexact HS2
    iintro ⟨⟨H0, H1, H2, H3, H4, H5, H6, H7⟩, ⟨H8, H9, H10, H11, H12⟩, ⟨HS0, HS1, HS2⟩⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before_8 m c t h0, before_12 m c t h0]
    rw [outsAt_next m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((run_next c (grid0.coords t) (refs t) (fun h => h0 ((opens_iff t).mp h)) (ins m c t) _ _).2 Set.univ _)
    unfold heldIn heldOut heldRest heldScratch
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H12]; · iexact H12
    isplitl [H9 H10 H11 HS0 HS1 HS2]
    · isplitl [H9]; · iexists _; iexact H9
      isplitl [H10]; · iexists _; iexact H10
      isplitl [H11]; · iexists _; iexact H11
      isplitl [HS0]; · iexact HS0
      isplitl [HS1]; · iexact HS1
      iexact HS2
    iintro ⟨⟨H0, H1, H2, H3, H4, H5, H6, H7⟩, ⟨H8, H9, H10, H11, H12⟩, ⟨HS0, HS1, HS2⟩⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point is the body. -/
theorem defs₀_row (t : Fin cfg0.N) :
    defs₀ (F := F) .tc cfg0.body (cfg0.bodyArgs t (cfg0.slots t)) = body (grid0.coords t) (refs t) := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends, with each array of the pipeline at what the points wrote back, every other buffer as the host lines left it,
    and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every run ends, the arguments are unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnIdeal.Bwd

end
-- ==== Proof.AttnArrays.lean ====
/- The attention's backward kernel over the extended reals: what its five arrays hold when the grid is done, of the arrays that it reads. -/
module

public import proofs.«01_k».proof.Proof.AttnPoint
public import proofs.«01_k».proof.Proof.AttnRun

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic
open Idealize.ShloMosaic.Pipeline (Dat)

local notation "E" => Idealize.ShloMosaic.Ideal

/-- Feature `d` of head `H`, of all heads. -/
abbrev gcol (H : Fin 16) (d : Fin 128) : Fin 2048 := ⟨H.val * 128 + d.val, by omega⟩

/-- Head `h` of pair `p`. -/
abbrev hd (p : Fin 8) (h : Fin 2) : Fin 16 := ⟨p.val * 2 + h.val, by omega⟩

/-- The arrays that the kernel reads. -/
structure Arr where
  q : S8192x2048.Idx → EReal
  dout : S8192x2048.Idx → EReal
  cr : S16x1x8192.Idx → EReal
  ls : S16x1x8192.Idx → EReal
  dl : S16x1x8192.Idx → EReal
  k : S8192x2048.Idx → EReal
  v : S8192x2048.Idx → EReal
  cc : S16x8192x1.Idx → EReal

section maths
variable (A : Arr) (H : Fin 16) (s r : Fin 8192)

/-- The logarithm of the weight of key `s` for query `r`. -/
def gscore : EReal :=
  (∑ d : Fin 128, A.k (ix2 s (gcol H d)) * A.q (ix2 r (gcol H d))) * ln2 + ((A.cr (ix3 H 0 r) - A.ls (ix3 H 0 r)) - A.cc (ix3 H s 0))

/-- The weight of key `s` for query `r`. -/
def gprob : EReal := if s.val ≤ r.val then Ideal.exp (gscore A H s r) else 0

/-- The gradient of the score of key `s` for query `r`. -/
def ggrad : EReal :=
  gprob A H s r * ((∑ d : Fin 128, A.v (ix2 s (gcol H d)) * A.dout (ix2 r (gcol H d))) - A.dl (ix3 H 0 r))

end maths

variable (m : (ℓ : Loc nD τ sig) → Buf (Elt E) ℓ)

/-- The arrays as the kernel finds them. -/
def arr (c : Dev nD) : Arr :=
  ⟨V m c main_v43, V m c main_v52, V m c main_v53, V m c main_v54, V m c main_v56, V m c main_v50, V m c main_v51, V m c main_v57⟩

/-- The point of the grid for the pair `p` of heads and the block `b` of keys. -/
def pt (p : Fin 8) (b : Fin 16) : Fin cfg0.N := ⟨p.val * 16 + b.val, by show _ < 128; omega⟩

theorem pt_eta (t : Fin cfg0.N) : ∃ p b, t = pt p b :=
  have h : t.val < 128 := t.isLt
  ⟨⟨t.val / 16, by omega⟩, ⟨t.val % 16, by omega⟩, Fin.ext (by show t.val = t.val / 16 * 16 + t.val % 16; omega)⟩

theorem coords_pt (p : Fin 8) (b : Fin 16) : (grid0.coords (pt p b) 1).val = b.val := by
  have h1 : (grid0.coords (pt p b) 1).val = (p.val * 16 + b.val) / 1 % 16 := Pipeline.Grid.coords_val _ 1 (by decide) rfl
  omega

theorem idx_q : ∀ (p : Fin 8) (b : Fin 16), win0_0.index (pt p b) 0 = 0 ∧ win0_0.index (pt p b) 1 = p.val := by decide +kernel
theorem idx_do : ∀ (p : Fin 8) (b : Fin 16), win0_1.index (pt p b) 0 = 0 ∧ win0_1.index (pt p b) 1 = p.val := by decide +kernel
theorem idx_cr : ∀ (p : Fin 8) (b : Fin 16), win0_2.index (pt p b) 0 = p.val ∧ win0_2.index (pt p b) 1 = 0 ∧ win0_2.index (pt p b) 2 = 0 := by decide +kernel
theorem idx_ls : ∀ (p : Fin 8) (b : Fin 16), win0_3.index (pt p b) 0 = p.val ∧ win0_3.index (pt p b) 1 = 0 ∧ win0_3.index (pt p b) 2 = 0 := by decide +kernel
theorem idx_dl : ∀ (p : Fin 8) (b : Fin 16), win0_4.index (pt p b) 0 = p.val ∧ win0_4.index (pt p b) 1 = 0 ∧ win0_4.index (pt p b) 2 = 0 := by decide +kernel
theorem idx_k : ∀ (p : Fin 8) (b : Fin 16), win0_5.index (pt p b) 0 = b.val ∧ win0_5.index (pt p b) 1 = p.val := by decide +kernel
theorem idx_v : ∀ (p : Fin 8) (b : Fin 16), win0_6.index (pt p b) 0 = b.val ∧ win0_6.index (pt p b) 1 = p.val := by decide +kernel
theorem idx_cc : ∀ (p : Fin 8) (b : Fin 16), win0_7.index (pt p b) 0 = p.val ∧ win0_7.index (pt p b) 1 = b.val ∧ win0_7.index (pt p b) 2 = 0 := by decide +kernel
theorem idx_dq : ∀ (p : Fin 8) (b : Fin 16), win0_8.index (pt p b) 0 = 0 ∧ win0_8.index (pt p b) 1 = p.val := by decide +kernel
theorem idx_dk : ∀ (p : Fin 8) (b : Fin 16), win0_9.index (pt p b) 0 = b.val ∧ win0_9.index (pt p b) 1 = p.val := by decide +kernel
theorem idx_dv : ∀ (p : Fin 8) (b : Fin 16), win0_10.index (pt p b) 0 = b.val ∧ win0_10.index (pt p b) 1 = p.val := by decide +kernel
theorem idx_dc : ∀ (p : Fin 8) (b : Fin 16), win0_11.index (pt p b) 0 = p.val ∧ win0_11.index (pt p b) 1 = b.val ∧ win0_11.index (pt p b) 2 = 0 := by decide +kernel
theorem idx_dcq : ∀ (p : Fin 8) (b : Fin 16), win0_12.index (pt p b) 0 = p.val ∧ win0_12.index (pt p b) 1 = 0 ∧ win0_12.index (pt p b) 2 = 0 := by decide +kernel

section blocks
variable (c : Dev nD) (p : Fin 8) (b : Fin 16)

/-! Each window's block, read off any contents of its array. -/

theorem block_q (Y : S8192x2048.Idx → EReal) (r : Fin 8192) (h : Fin 2) (d : Fin 128) : ((cfg0.win 0).blk (pt p b)).view.read (Elt E) Y (ix2 r (col h d)) = Y (ix2 r (gcol (hd p h) d)) := by
  have hi := idx_q p b
  rw [View.read_apply]
  refine congrArg Y (funext fun a => Fin.ext ?_)
  match a with
  | ⟨0, _⟩ => show win0_0.index _ 0 * 8192 + 1 * r.val = r.val; rw [hi.1]; omega
  | ⟨1, _⟩ => show win0_0.index _ 1 * 256 + 1 * (h.val * 128 + d.val) = (p.val * 2 + h.val) * 128 + d.val; rw [hi.2]; omega

theorem block_do (Y : S8192x2048.Idx → EReal) (r : Fin 8192) (h : Fin 2) (d : Fin 128) : ((cfg0.win 1).blk (pt p b)).view.read (Elt E) Y (ix2 r (col h d)) = Y (ix2 r (gcol (hd p h) d)) := by
  have hi := idx_do p b
  rw [View.read_apply]
  refine congrArg Y (funext fun a => Fin.ext ?_)
  match a with
  | ⟨0, _⟩ => show win0_1.index _ 0 * 8192 + 1 * r.val = r.val; rw [hi.1]; omega
  | ⟨1, _⟩ => show win0_1.index _ 1 * 256 + 1 * (h.val * 128 + d.val) = (p.val * 2 + h.val) * 128 + d.val; rw [hi.2]; omega

theorem block_k (Y : S8192x2048.Idx → EReal) (κ : Fin 512) (h : Fin 2) (d : Fin 128) : ((cfg0.win 5).blk (pt p b)).view.read (Elt E) Y (ix2 κ (col h d)) = Y (ix2 (row b κ) (gcol (hd p h) d)) := by
  have hi := idx_k p b
  rw [View.read_apply]
  refine congrArg Y (funext fun a => Fin.ext ?_)
  match a with
  | ⟨0, _⟩ => show win0_5.index _ 0 * 512 + 1 * κ.val = b.val * 512 + κ.val; rw [hi.1]; omega
  | ⟨1, _⟩ => show win0_5.index _ 1 * 256 + 1 * (h.val * 128 + d.val) = (p.val * 2 + h.val) * 128 + d.val; rw [hi.2]; omega

theorem block_v (Y : S8192x2048.Idx → EReal) (κ : Fin 512) (h : Fin 2) (d : Fin 128) : ((cfg0.win 6).blk (pt p b)).view.read (Elt E) Y (ix2 κ (col h d)) = Y (ix2 (row b κ) (gcol (hd p h) d)) := by
  have hi := idx_v p b
  rw [View.read_apply]
  refine congrArg Y (funext fun a => Fin.ext ?_)
  match a with
  | ⟨0, _⟩ => show win0_6.index _ 0 * 512 + 1 * κ.val = b.val * 512 + κ.val; rw [hi.1]; omega
  | ⟨1, _⟩ => show win0_6.index _ 1 * 256 + 1 * (h.val * 128 + d.val) = (p.val * 2 + h.val) * 128 + d.val; rw [hi.2]; omega

theorem block_cr (Y : S16x1x8192.Idx → EReal) (h : Fin 2) (r : Fin 8192) : ((cfg0.win 2).blk (pt p b)).view.read (Elt E) Y (ix3 h 0 r) = Y (ix3 (hd p h) 0 r) := by
  have hi := idx_cr p b
  rw [View.read_apply]
  refine congrArg Y (funext fun a => Fin.ext ?_)
  match a with
  | ⟨0, _⟩ => show win0_2.index _ 0 * 2 + 1 * h.val = p.val * 2 + h.val; rw [hi.1]; omega
  | ⟨1, _⟩ => show win0_2.index _ 1 * 1 + 1 * 0 = 0; rw [hi.2.1]
  | ⟨2, _⟩ => show win0_2.index _ 2 * 8192 + 1 * r.val = r.val; rw [hi.2.2]; omega

theorem block_ls (Y : S16x1x8192.Idx → EReal) (h : Fin 2) (r : Fin 8192) : ((cfg0.win 3).blk (pt p b)).view.read (Elt E) Y (ix3 h 0 r) = Y (ix3 (hd p h) 0 r) := by
  have hi := idx_ls p b
  rw [View.read_apply]
  refine congrArg Y (funext fun a => Fin.ext ?_)
  match a with
  | ⟨0, _⟩ => show win0_3.index _ 0 * 2 + 1 * h.val = p.val * 2 + h.val; rw [hi.1]; omega
  | ⟨1, _⟩ => show win0_3.index _ 1 * 1 + 1 * 0 = 0; rw [hi.2.1]
  | ⟨2, _⟩ => show win0_3.index _ 2 * 8192 + 1 * r.val = r.val; rw [hi.2.2]; omega

theorem block_dl (Y : S16x1x8192.Idx → EReal) (h : Fin 2) (r : Fin 8192) : ((cfg0.win 4).blk (pt p b)).view.read (Elt E) Y (ix3 h 0 r) = Y (ix3 (hd p h) 0 r) := by
  have hi := idx_dl p b
  rw [View.read_apply]
  refine congrArg Y (funext fun a => Fin.ext ?_)
  match a with
  | ⟨0, _⟩ => show win0_4.index _ 0 * 2 + 1 * h.val = p.val * 2 + h.val; rw [hi.1]; omega
  | ⟨1, _⟩ => show win0_4.index _ 1 * 1 + 1 * 0 = 0; rw [hi.2.1]
  | ⟨2, _⟩ => show win0_4.index _ 2 * 8192 + 1 * r.val = r.val; rw [hi.2.2]; omega

theorem block_cc (Y : S16x8192x1.Idx → EReal) (h : Fin 2) (κ : Fin 512) : ((cfg0.win 7).blk (pt p b)).view.read (Elt E) Y (ix3 h κ 0) = Y (ix3 (hd p h) (row b κ) 0) := by
  have hi := idx_cc p b
  rw [View.read_apply]
  refine congrArg Y (funext fun a => Fin.ext ?_)
  match a with
  | ⟨0, _⟩ => show win0_7.index _ 0 * 2 + 1 * h.val = p.val * 2 + h.val; rw [hi.1]; omega
  | ⟨1, _⟩ => show win0_7.index _ 1 * 512 + 1 * κ.val = b.val * 512 + κ.val; rw [hi.2.1]; omega
  | ⟨2, _⟩ => show win0_7.index _ 2 * 1 + 1 * 0 = 0; rw [hi.2.2]

/-! The blocks of a point, of the arrays. -/

theorem read_q (r : Fin 8192) (h : Fin 2) (d : Fin 128) : (ins m c (pt p b)).x2 (ix2 r (col h d)) = (arr m c).q (ix2 r (gcol (hd p h) d)) := block_q p b (V m c main_v43) r h d

theorem read_do (r : Fin 8192) (h : Fin 2) (d : Fin 128) : (ins m c (pt p b)).x3 (ix2 r (col h d)) = (arr m c).dout (ix2 r (gcol (hd p h) d)) := block_do p b (V m c main_v52) r h d

theorem read_k (κ : Fin 512) (h : Fin 2) (d : Fin 128) : (ins m c (pt p b)).x7 (ix2 κ (col h d)) = (arr m c).k (ix2 (row b κ) (gcol (hd p h) d)) := block_k p b (V m c main_v50) κ h d

theorem read_v (κ : Fin 512) (h : Fin 2) (d : Fin 128) : (ins m c (pt p b)).x8 (ix2 κ (col h d)) = (arr m c).v (ix2 (row b κ) (gcol (hd p h) d)) := block_v p b (V m c main_v51) κ h d

theorem read_cr (h : Fin 2) (r : Fin 8192) : (ins m c (pt p b)).x4 (ix3 h 0 r) = (arr m c).cr (ix3 (hd p h) 0 r) := block_cr p b (V m c main_v53) h r

theorem read_ls (h : Fin 2) (r : Fin 8192) : (ins m c (pt p b)).x5 (ix3 h 0 r) = (arr m c).ls (ix3 (hd p h) 0 r) := block_ls p b (V m c main_v54) h r

theorem read_dl (h : Fin 2) (r : Fin 8192) : (ins m c (pt p b)).x6 (ix3 h 0 r) = (arr m c).dl (ix3 (hd p h) 0 r) := block_dl p b (V m c main_v56) h r

theorem read_cc (h : Fin 2) (κ : Fin 512) : (ins m c (pt p b)).x9 (ix3 h κ 0) = (arr m c).cc (ix3 (hd p h) (row b κ) 0) := block_cc p b (V m c main_v57) h κ

/-- Inputs of a point that hold its blocks of the arrays `A`. -/
structure HoldBlocks (A : Arr) (X : Ins E) : Prop where
  q : ∀ r h d, X.x2 (ix2 r (col h d)) = A.q (ix2 r (gcol (hd p h) d))
  dout : ∀ r h d, X.x3 (ix2 r (col h d)) = A.dout (ix2 r (gcol (hd p h) d))
  cr : ∀ h r, X.x4 (ix3 h 0 r) = A.cr (ix3 (hd p h) 0 r)
  ls : ∀ h r, X.x5 (ix3 h 0 r) = A.ls (ix3 (hd p h) 0 r)
  dl : ∀ h r, X.x6 (ix3 h 0 r) = A.dl (ix3 (hd p h) 0 r)
  k : ∀ κ h d, X.x7 (ix2 κ (col h d)) = A.k (ix2 (row b κ) (gcol (hd p h) d))
  v : ∀ κ h d, X.x8 (ix2 κ (col h d)) = A.v (ix2 (row b κ) (gcol (hd p h) d))
  cc : ∀ h κ, X.x9 (ix3 h κ 0) = A.cc (ix3 (hd p h) (row b κ) 0)

theorem holdBlocks : HoldBlocks p b (arr m c) (ins m c (pt p b)) :=
  ⟨read_q m c p b, read_do m c p b, read_cr m c p b, read_ls m c p b, read_dl m c p b, read_k m c p b, read_v m c p b, read_cc m c p b⟩

variable {p b} {A : Arr} {X : Ins E} (hX : HoldBlocks p b A X)
include hX

theorem score_pt (h : Fin 2) (κ : Fin 512) (r : Fin 8192) : score X h κ r = gscore A (hd p h) (row b κ) r := by
  unfold score gscore
  simp only [hX.q, hX.k, hX.cr, hX.ls, hX.cc]

theorem prob_pt (h : Fin 2) (κ : Fin 512) (r : Fin 8192) : prob b.val X h κ r = gprob A (hd p h) (row b κ) r := by
  unfold prob gprob; rw [score_pt hX]

theorem grad_pt (h : Fin 2) (κ : Fin 512) (r : Fin 8192) : grad b.val X h κ r = ggrad A (hd p h) (row b κ) r := by
  unfold grad ggrad; rw [prob_pt hX]
  simp only [hX.v, hX.dout, hX.dl]

end blocks

/-! ## The results, of the arrays -/

section results
variable (A : Arr)

/-- The gradient of key `s`, head `H`, feature `d`. -/
def gdk (H : Fin 16) (s : Fin 8192) (d : Fin 128) : EReal := (∑ r : Fin 8192, ggrad A H s r * A.q (ix2 r (gcol H d))) * unfold

/-- The gradient of value `s`, head `H`, feature `d`. -/
def gdv (H : Fin 16) (s : Fin 8192) (d : Fin 128) : EReal := ∑ r : Fin 8192, gprob A H s r * A.dout (ix2 r (gcol H d))

/-- The part of the gate's gradient that token `s` gets as a key. -/
def gdc (H : Fin 16) (s : Fin 8192) : EReal := -∑ r : Fin 8192, ggrad A H s r

/-- What the block `b` of keys adds to the gradient of query `r`. -/
def gdqPart (H : Fin 16) (b : Fin 16) (r : Fin 8192) (d : Fin 128) : EReal :=
  (∑ κ : Fin 512, ggrad A H (row b κ) r * A.k (ix2 (row b κ) (gcol H d))) * unfold

/-- The gradient of query `r`, head `H`, feature `d`. -/
def gdq (H : Fin 16) (r : Fin 8192) (d : Fin 128) : EReal := ∑ b : Fin 16, gdqPart A H b r d

/-- The part of the gate's gradient that token `r` gets as a query from the block `b` of keys. -/
def gdcqPart (H : Fin 16) (b : Fin 16) (r : Fin 8192) : EReal := ∑ κ : Fin 512, ggrad A H (row b κ) r

/-- The part of the gate's gradient that token `r` gets as a query. -/
def gdcq (H : Fin 16) (r : Fin 8192) : EReal := ∑ b : Fin 16, gdcqPart A H b r

end results

section points
variable (c : Dev nD) (p : Fin 8) (b : Fin 16)

section parts
variable {p : Fin 8} {b : Fin 16} {A : Arr} {X : Ins E} (hX : HoldBlocks p b A X)
include hX

theorem dkOf_pt (κ : Fin 512) (h : Fin 2) (d : Fin 128) :
    dkOf (grid0.coords (pt p b) 1).val X κ h d * unfold = gdk A (hd p h) (row b κ) d := by
  rw [coords_pt]; unfold dkOf gdk
  simp only [grad_pt hX, hX.q]

theorem dvOf_pt (κ : Fin 512) (h : Fin 2) (d : Fin 128) : dvOf (grid0.coords (pt p b) 1).val X κ h d = gdv A (hd p h) (row b κ) d := by
  rw [coords_pt]; unfold dvOf gdv
  simp only [prob_pt hX, hX.dout]

theorem dcOf_pt (κ : Fin 512) (h : Fin 2) : -dcOf (grid0.coords (pt p b) 1).val X κ h = gdc A (hd p h) (row b κ) := by
  rw [coords_pt]; unfold dcOf gdc
  simp only [grad_pt hX]

theorem dqOf_pt (r : Fin 8192) (h : Fin 2) (d : Fin 128) : dqOf (grid0.coords (pt p b) 1).val X r h d = gdqPart A (hd p h) b r d := by
  rw [coords_pt]; unfold dqOf gdqPart
  simp only [grad_pt hX, hX.k]

theorem dcqOf_pt (r : Fin 8192) (h : Fin 2) : dcqOf (grid0.coords (pt p b) 1).val X r h = gdcqPart A (hd p h) b r := by
  rw [coords_pt]; unfold dcqOf gdcqPart
  simp only [grad_pt hX]

end parts

theorem pt_mod : (pt p b).val % 16 = b.val := by show (p.val * 16 + b.val) % 16 = b.val; omega

theorem x11_pt (κ : Fin 512) (h : Fin 2) (d : Fin 128) :
    (outsAt m c (pt p b).val (pt p b).isLt).x11 (ix2 κ (col h d)) = gdk (arr m c) (hd p h) (row b κ) d := by
  by_cases h0 : (pt p b).val % 16 = 0
  · rw [outsAt_open m c _ h0]; exact (open_x11 c _ _ _ _ κ h d).trans (dkOf_pt (holdBlocks m c p b) κ h d)
  · rw [outsAt_next m c _ h0]; exact (next_x11 c _ _ _ _ _ _ κ h d).trans (dkOf_pt (holdBlocks m c p b) κ h d)

theorem x12_pt (κ : Fin 512) (h : Fin 2) (d : Fin 128) :
    (outsAt m c (pt p b).val (pt p b).isLt).x12 (ix2 κ (col h d)) = gdv (arr m c) (hd p h) (row b κ) d := by
  by_cases h0 : (pt p b).val % 16 = 0
  · rw [outsAt_open m c _ h0]; exact (open_x12 c _ _ _ _ κ h d).trans (dvOf_pt (holdBlocks m c p b) κ h d)
  · rw [outsAt_next m c _ h0]; exact (next_x12 c _ _ _ _ _ _ κ h d).trans (dvOf_pt (holdBlocks m c p b) κ h d)

theorem x13_pt (κ : Fin 512) (h : Fin 2) :
    (outsAt m c (pt p b).val (pt p b).isLt).x13 (ix3 h κ 0) = gdc (arr m c) (hd p h) (row b κ) := by
  by_cases h0 : (pt p b).val % 16 = 0
  · rw [outsAt_open m c _ h0]; exact (open_x13 c _ _ _ _ κ h).trans (dcOf_pt (holdBlocks m c p b) κ h)
  · rw [outsAt_next m c _ h0]; exact (next_x13 c _ _ _ _ _ _ κ h).trans (dcOf_pt (holdBlocks m c p b) κ h)

/-- After the point of block `n` the queries' gradient holds the parts of the blocks up to `n`. -/
theorem x10_pt (r : Fin 8192) (h : Fin 2) (d : Fin 128) : ∀ (n : ℕ) (hn : n < 16) (k : ℕ) (hk : k < cfg0.N), k = p.val * 16 + n →
    (outsAt m c k hk).x10 (ix2 r (col h d)) = ∑ b : Fin (n + 1), gdqPart (arr m c) (hd p h) ⟨b.val, by omega⟩ r d
  | 0, hn, k, hk, e => by
    subst e
    have h0 : (pt p 0).val % 16 = 0 := pt_mod p 0
    rw [show outsAt m c (p.val * 16 + 0) hk = outsAt m c (pt p 0).val (pt p 0).isLt from rfl, outsAt_open m c _ h0, Fin.sum_univ_castSucc, Fin.sum_univ_zero, zero_add]
    exact (open_x10 c _ _ _ _ r h d).trans (dqOf_pt (holdBlocks m c p 0) r h d)
  | n + 1, hn, k, hk, e => by
    subst e
    have h0 : ¬(pt p ⟨n + 1, hn⟩).val % 16 = 0 := by rw [pt_mod]; exact Nat.succ_ne_zero n
    rw [show outsAt m c (p.val * 16 + (n + 1)) hk = outsAt m c (pt p ⟨n + 1, hn⟩).val (pt p ⟨n + 1, hn⟩).isLt from rfl, outsAt_next m c _ h0, Fin.sum_univ_castSucc]
    exact (next_x10 c _ _ _ _ _ _ r h d).trans (congrArg₂ (· + ·) (x10_pt r h d n (by omega) _ _ (by show p.val * 16 + (n + 1) - 1 = _; omega)) (dqOf_pt (holdBlocks m c p ⟨n + 1, hn⟩) r h d))

theorem x14_pt (r : Fin 8192) (h : Fin 2) : ∀ (n : ℕ) (hn : n < 16) (k : ℕ) (hk : k < cfg0.N), k = p.val * 16 + n →
    (outsAt m c k hk).x14 (ix3 h 0 r) = ∑ b : Fin (n + 1), gdcqPart (arr m c) (hd p h) ⟨b.val, by omega⟩ r
  | 0, hn, k, hk, e => by
    subst e
    have h0 : (pt p 0).val % 16 = 0 := pt_mod p 0
    rw [show outsAt m c (p.val * 16 + 0) hk = outsAt m c (pt p 0).val (pt p 0).isLt from rfl, outsAt_open m c _ h0, Fin.sum_univ_castSucc, Fin.sum_univ_zero, zero_add]
    exact (open_x14 c _ _ _ _ r h).trans (dcqOf_pt (holdBlocks m c p 0) r h)
  | n + 1, hn, k, hk, e => by
    subst e
    have h0 : ¬(pt p ⟨n + 1, hn⟩).val % 16 = 0 := by rw [pt_mod]; exact Nat.succ_ne_zero n
    rw [show outsAt m c (p.val * 16 + (n + 1)) hk = outsAt m c (pt p ⟨n + 1, hn⟩).val (pt p ⟨n + 1, hn⟩).isLt from rfl, outsAt_next m c _ h0, Fin.sum_univ_castSucc]
    exact (next_x14 c _ _ _ _ _ _ r h).trans (congrArg₂ (· + ·) (x14_pt r h n (by omega) _ _ (by show p.val * 16 + (n + 1) - 1 = _; omega)) (dcqOf_pt (holdBlocks m c p ⟨n + 1, hn⟩) r h))

theorem x10_last (r : Fin 8192) (h : Fin 2) (d : Fin 128) :
    (outsAt m c (pt p 15).val (pt p 15).isLt).x10 (ix2 r (col h d)) = gdq (arr m c) (hd p h) r d :=
  x10_pt m c p r h d 15 (by omega) _ _ rfl

theorem x14_last (r : Fin 8192) (h : Fin 2) :
    (outsAt m c (pt p 15).val (pt p 15).isLt).x14 (ix3 h 0 r) = gdcq (arr m c) (hd p h) r :=
  x14_pt m c p r h 15 (by omega) _ _ rfl

end points

/-! ## The arrays when the grid is done -/

/-- The head and the feature of a column. -/
abbrev headOf (y : Fin 2048) : Fin 16 := ⟨y.val / 128, by omega⟩
abbrev featOf (y : Fin 2048) : Fin 128 := ⟨y.val % 128, by omega⟩

theorem headOf_gcol (H : Fin 16) (d : Fin 128) : headOf (gcol H d) = H := Fin.ext (by show (H.val * 128 + d.val) / 128 = H.val; omega)
theorem featOf_gcol (H : Fin 16) (d : Fin 128) : featOf (gcol H d) = d := Fin.ext (by show (H.val * 128 + d.val) % 128 = d.val; omega)

/-- An array over rows and columns, of its entries by head and feature. -/
def byHead (f : Fin 16 → Fin 8192 → Fin 128 → EReal) : S8192x2048.Idx → EReal := fun i => f (headOf (i 1)) (i 0) (featOf (i 1))

theorem byHead_gcol (f : Fin 16 → Fin 8192 → Fin 128 → EReal) (H : Fin 16) (r : Fin 8192) (d : Fin 128) : byHead f (ix2 r (gcol H d)) = f H r d := by
  show f (headOf (gcol H d)) r (featOf (gcol H d)) = f H r d
  rw [headOf_gcol, featOf_gcol]

/-- A column of a pair's block, by head and feature. -/
theorem col_eta (y : Fin 256) : ∃ h d, y = col h d :=
  ⟨⟨y.val / 128, by omega⟩, ⟨y.val % 128, by omega⟩, Fin.ext (by show y.val = y.val / 128 * 128 + y.val % 128; omega)⟩

variable (c : Dev nD)

theorem arr_dk : (dats m 0 c).arrAt 9 cfg0.N = byHead (gdk (arr m c)) := by
  refine (dats m 0 c).arrAt_eq_of_cover 9 _ (fun t _ => ?_) (fun (i : S8192x2048.Idx) => ?_)
  · obtain ⟨p, b, rfl⟩ := pt_eta t
    show (cfg0.win 9).cut (grid0.coords (pt p b)) ((dats m 0 c).after 9 (pt p b)) = _
    rw [after_9]; funext j; rw [View.read_apply]
    obtain ⟨κ, y, rfl⟩ : ∃ (κ : Fin 512) (y : Fin 256), j = ix2 κ y := ⟨j 0, j 1, (ix2_eta j).symm⟩
    obtain ⟨h, d, rfl⟩ := col_eta y
    have e : ((cfg0.win 9).blk (pt p b)).view.emb (ix2 κ (col h d)) = ix2 (row b κ) (gcol (hd p h) d) := by
      funext a; apply Fin.ext
      match a with
      | ⟨0, _⟩ => show win0_9.index _ 0 * 512 + 1 * κ.val = b.val * 512 + κ.val; rw [(idx_dk p b).1]; omega
      | ⟨1, _⟩ => show win0_9.index _ 1 * 256 + 1 * (h.val * 128 + d.val) = (p.val * 2 + h.val) * 128 + d.val; rw [(idx_dk p b).2]; omega
    rw [e]
    exact (x11_pt m c p b κ h d).trans (byHead_gcol _ _ _ _).symm
  · have h0 : (i 0).val < 8192 := (i 0).isLt
    have h1 : (i 1).val < 2048 := (i 1).isLt
    obtain ⟨p, hp⟩ : ∃ p : Fin 8, p.val = (i 1).val / 256 := ⟨⟨_, by omega⟩, rfl⟩
    obtain ⟨b, hb⟩ : ∃ b : Fin 16, b.val = (i 0).val / 512 := ⟨⟨_, by omega⟩, rfl⟩
    refine ⟨pt p b, flush0_9 _, ?_⟩
    show i ∈ ((View.whole main_v58_1).slice (win0_9.rect (pt p b))).set
    rw [View.set_slice_whole, Rect.mem_set_unit]; intro a
    match a with
    | ⟨0, _⟩ => show win0_9.index _ 0 * 512 ≤ (i 0).val ∧ (i 0).val < win0_9.index _ 0 * 512 + 512; rw [(idx_dk _ _).1]; omega
    | ⟨1, _⟩ => show win0_9.index _ 1 * 256 ≤ (i 1).val ∧ (i 1).val < win0_9.index _ 1 * 256 + 256; rw [(idx_dk _ _).2]; omega

theorem arr_dv : (dats m 0 c).arrAt 10 cfg0.N = byHead (gdv (arr m c)) := by
  refine (dats m 0 c).arrAt_eq_of_cover 10 _ (fun t _ => ?_) (fun (i : S8192x2048.Idx) => ?_)
  · obtain ⟨p, b, rfl⟩ := pt_eta t
    show (cfg0.win 10).cut (grid0.coords (pt p b)) ((dats m 0 c).after 10 (pt p b)) = _
    rw [after_10]; funext j; rw [View.read_apply]
    obtain ⟨κ, y, rfl⟩ : ∃ (κ : Fin 512) (y : Fin 256), j = ix2 κ y := ⟨j 0, j 1, (ix2_eta j).symm⟩
    obtain ⟨h, d, rfl⟩ := col_eta y
    have e : ((cfg0.win 10).blk (pt p b)).view.emb (ix2 κ (col h d)) = ix2 (row b κ) (gcol (hd p h) d) := by
      funext a; apply Fin.ext
      match a with
      | ⟨0, _⟩ => show win0_10.index _ 0 * 512 + 1 * κ.val = b.val * 512 + κ.val; rw [(idx_dv p b).1]; omega
      | ⟨1, _⟩ => show win0_10.index _ 1 * 256 + 1 * (h.val * 128 + d.val) = (p.val * 2 + h.val) * 128 + d.val; rw [(idx_dv p b).2]; omega
    rw [e]
    exact (x12_pt m c p b κ h d).trans (byHead_gcol _ _ _ _).symm
  · have h0 : (i 0).val < 8192 := (i 0).isLt
    have h1 : (i 1).val < 2048 := (i 1).isLt
    obtain ⟨p, hp⟩ : ∃ p : Fin 8, p.val = (i 1).val / 256 := ⟨⟨_, by omega⟩, rfl⟩
    obtain ⟨b, hb⟩ : ∃ b : Fin 16, b.val = (i 0).val / 512 := ⟨⟨_, by omega⟩, rfl⟩
    refine ⟨pt p b, flush0_10 _, ?_⟩
    show i ∈ ((View.whole main_v58_2).slice (win0_10.rect (pt p b))).set
    rw [View.set_slice_whole, Rect.mem_set_unit]; intro a
    match a with
    | ⟨0, _⟩ => show win0_10.index _ 0 * 512 ≤ (i 0).val ∧ (i 0).val < win0_10.index _ 0 * 512 + 512; rw [(idx_dv _ _).1]; omega
    | ⟨1, _⟩ => show win0_10.index _ 1 * 256 ≤ (i 1).val ∧ (i 1).val < win0_10.index _ 1 * 256 + 256; rw [(idx_dv _ _).2]; omega

/-- The block of a pair `p` that ends the sum over blocks of keys. -/
theorem last_of_flush {p : Fin 8} {b : Fin 16} (h : (pt p b).val % 16 = 15) : b = 15 := Fin.ext ((pt_mod p b).symm.trans h)

theorem arr_dq : (dats m 0 c).arrAt 8 cfg0.N = byHead (gdq (arr m c)) := by
  refine (dats m 0 c).arrAt_eq_of_cover 8 _ (fun t hf => ?_) (fun (i : S8192x2048.Idx) => ?_)
  · obtain ⟨p, b, rfl⟩ := pt_eta t
    obtain rfl := last_of_flush ((flush0_8 _).mp hf)
    show (cfg0.win 8).cut (grid0.coords (pt p 15)) ((dats m 0 c).after 8 (pt p 15)) = _
    rw [after_8]; funext j; rw [View.read_apply]
    obtain ⟨r, y, rfl⟩ : ∃ (r : Fin 8192) (y : Fin 256), j = ix2 r y := ⟨j 0, j 1, (ix2_eta j).symm⟩
    obtain ⟨h, d, rfl⟩ := col_eta y
    have e : ((cfg0.win 8).blk (pt p 15)).view.emb (ix2 r (col h d)) = ix2 r (gcol (hd p h) d) := by
      funext a; apply Fin.ext
      match a with
      | ⟨0, _⟩ => show win0_8.index _ 0 * 8192 + 1 * r.val = r.val; rw [(idx_dq p 15).1]; omega
      | ⟨1, _⟩ => show win0_8.index _ 1 * 256 + 1 * (h.val * 128 + d.val) = (p.val * 2 + h.val) * 128 + d.val; rw [(idx_dq p 15).2]; omega
    rw [e]
    exact (x10_last m c p r h d).trans (byHead_gcol _ _ _ _).symm
  · have h0 : (i 0).val < 8192 := (i 0).isLt
    have h1 : (i 1).val < 2048 := (i 1).isLt
    obtain ⟨p, hp⟩ : ∃ p : Fin 8, p.val = (i 1).val / 256 := ⟨⟨_, by omega⟩, rfl⟩
    refine ⟨pt p 15, (flush0_8 _).mpr (pt_mod _ 15), ?_⟩
    show i ∈ ((View.whole main_v58_0).slice (win0_8.rect (pt p 15))).set
    rw [View.set_slice_whole, Rect.mem_set_unit]; intro a
    match a with
    | ⟨0, _⟩ => show win0_8.index _ 0 * 8192 ≤ (i 0).val ∧ (i 0).val < win0_8.index _ 0 * 8192 + 8192; rw [(idx_dq _ _).1]; omega
    | ⟨1, _⟩ => show win0_8.index _ 1 * 256 ≤ (i 1).val ∧ (i 1).val < win0_8.index _ 1 * 256 + 256; rw [(idx_dq _ _).2]; omega

theorem arr_dc : (dats m 0 c).arrAt 11 cfg0.N = fun i : S16x8192x1.Idx => gdc (arr m c) (i 0) (i 1) := by
  refine (dats m 0 c).arrAt_eq_of_cover 11 _ (fun t _ => ?_) (fun (i : S16x8192x1.Idx) => ?_)
  · obtain ⟨p, b, rfl⟩ := pt_eta t
    show (cfg0.win 11).cut (grid0.coords (pt p b)) ((dats m 0 c).after 11 (pt p b)) = _
    rw [after_11]; funext j; rw [View.read_apply]
    obtain ⟨h, κ, z, rfl⟩ : ∃ (h : Fin 2) (κ : Fin 512) (z : Fin 1), j = ix3 h κ z := ⟨j 0, j 1, j 2, (ix3_eta j).symm⟩
    obtain rfl : z = 0 := Subsingleton.elim _ _
    have e : ((cfg0.win 11).blk (pt p b)).view.emb (ix3 h κ 0) = ix3 (hd p h) (row b κ) 0 := by
      funext a; apply Fin.ext
      match a with
      | ⟨0, _⟩ => show win0_11.index _ 0 * 2 + 1 * h.val = p.val * 2 + h.val; rw [(idx_dc p b).1]; omega
      | ⟨1, _⟩ => show win0_11.index _ 1 * 512 + 1 * κ.val = b.val * 512 + κ.val; rw [(idx_dc p b).2.1]; omega
      | ⟨2, _⟩ => show win0_11.index _ 2 * 1 + 1 * 0 = 0; rw [(idx_dc p b).2.2]
    rw [e]
    exact x13_pt m c p b κ h
  · have h0 : (i 0).val < 16 := (i 0).isLt
    have h1 : (i 1).val < 8192 := (i 1).isLt
    have h2 : (i 2).val < 1 := (i 2).isLt
    obtain ⟨p, hp⟩ : ∃ p : Fin 8, p.val = (i 0).val / 2 := ⟨⟨_, by omega⟩, rfl⟩
    obtain ⟨b, hb⟩ : ∃ b : Fin 16, b.val = (i 1).val / 512 := ⟨⟨_, by omega⟩, rfl⟩
    refine ⟨pt p b, flush0_11 _, ?_⟩
    show i ∈ ((View.whole main_v58_3).slice (win0_11.rect (pt p b))).set
    rw [View.set_slice_whole, Rect.mem_set_unit]; intro a
    match a with
    | ⟨0, _⟩ => show win0_11.index _ 0 * 2 ≤ (i 0).val ∧ (i 0).val < win0_11.index _ 0 * 2 + 2; rw [(idx_dc _ _).1]; omega
    | ⟨1, _⟩ => show win0_11.index _ 1 * 512 ≤ (i 1).val ∧ (i 1).val < win0_11.index _ 1 * 512 + 512; rw [(idx_dc _ _).2.1]; omega
    | ⟨2, _⟩ => show win0_11.index _ 2 * 1 ≤ (i 2).val ∧ (i 2).val < win0_11.index _ 2 * 1 + 1; rw [(idx_dc _ _).2.2]; omega

theorem arr_dcq : (dats m 0 c).arrAt 12 cfg0.N = fun i : S16x1x8192.Idx => gdcq (arr m c) (i 0) (i 2) := by
  refine (dats m 0 c).arrAt_eq_of_cover 12 _ (fun t hf => ?_) (fun (i : S16x1x8192.Idx) => ?_)
  · obtain ⟨p, b, rfl⟩ := pt_eta t
    obtain rfl := last_of_flush ((flush0_12 _).mp hf)
    show (cfg0.win 12).cut (grid0.coords (pt p 15)) ((dats m 0 c).after 12 (pt p 15)) = _
    rw [after_12]; funext j; rw [View.read_apply]
    obtain ⟨h, z, r, rfl⟩ : ∃ (h : Fin 2) (z : Fin 1) (r : Fin 8192), j = ix3 h z r := ⟨j 0, j 1, j 2, (ix3_eta j).symm⟩
    obtain rfl : z = 0 := Subsingleton.elim _ _
    have e : ((cfg0.win 12).blk (pt p 15)).view.emb (ix3 h 0 r) = ix3 (hd p h) 0 r := by
      funext a; apply Fin.ext
      match a with
      | ⟨0, _⟩ => show win0_12.index _ 0 * 2 + 1 * h.val = p.val * 2 + h.val; rw [(idx_dcq p 15).1]; omega
      | ⟨1, _⟩ => show win0_12.index _ 1 * 1 + 1 * 0 = 0; rw [(idx_dcq p 15).2.1]
      | ⟨2, _⟩ => show win0_12.index _ 2 * 8192 + 1 * r.val = r.val; rw [(idx_dcq p 15).2.2]; omega
    rw [e]
    exact x14_last m c p r h
  · have h0 : (i 0).val < 16 := (i 0).isLt
    have h1 : (i 1).val < 1 := (i 1).isLt
    have h2 : (i 2).val < 8192 := (i 2).isLt
    obtain ⟨p, hp⟩ : ∃ p : Fin 8, p.val = (i 0).val / 2 := ⟨⟨_, by omega⟩, rfl⟩
    refine ⟨pt p 15, (flush0_12 _).mpr (pt_mod _ 15), ?_⟩
    show i ∈ ((View.whole main_v58_4).slice (win0_12.rect (pt p 15))).set
    rw [View.set_slice_whole, Rect.mem_set_unit]; intro a
    match a with
    | ⟨0, _⟩ => show win0_12.index _ 0 * 2 ≤ (i 0).val ∧ (i 0).val < win0_12.index _ 0 * 2 + 2; rw [(idx_dcq _ _).1]; omega
    | ⟨1, _⟩ => show win0_12.index _ 1 * 1 ≤ (i 1).val ∧ (i 1).val < win0_12.index _ 1 * 1 + 1; rw [(idx_dcq _ _).2.1]; omega
    | ⟨2, _⟩ => show win0_12.index _ 2 * 8192 ≤ (i 2).val ∧ (i 2).val < win0_12.index _ 2 * 8192 + 8192; rw [(idx_dcq _ _).2.2]; omega

end Cert.AttnIdeal.Bwd
-- ==== Proof.RealSum.lean ====
/- Extended reals that are real numbers: sums, exponentials, logarithms and quotients of them are the real ones. -/
module

public import Idealize.ShloMosaic.Lib.IdealHost
public import Idealize.ShloMosaic.Lib.Pointwise

@[expose] public section

noncomputable section

namespace Cert.Lift

open Idealize.ShloMosaic

/-- A sum of reals, read as an extended real. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (x : ℝ) : Ideal.exp (x : EReal) = ((Real.exp x : ℝ) : EReal) := rfl

theorem log_coe {x : ℝ} (h : 0 < x) : Ideal.log (x : EReal) = ((Real.log x : ℝ) : EReal) := if_neg (not_le.mpr h)

theorem sqrt_coe {x : ℝ} (h : 0 ≤ x) : Ideal.sqrt (x : EReal) = ((Real.sqrt x : ℝ) : EReal) := if_neg (not_lt.mpr h)

theorem rsqrt_coe {x : ℝ} (h : 0 < x) : Ideal.rsqrt (x : EReal) = (((Real.sqrt x)⁻¹ : ℝ) : EReal) := by
  show (if x < 0 then (⊥ : EReal) else if x = 0 then ⊤ else _) = _
  rw [if_neg (not_lt.mpr h.le), if_neg h.ne']

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem coe_ite (p : Prop) [Decidable p] (x y : ℝ) : ((if p then x else y : ℝ) : EReal) = if p then (x : EReal) else (y : EReal) := by
  split <;> rfl

/-- An extended real of finite magnitude is a real. -/
theorem real_of_abs_lt {x : EReal} (h : max x (-x) < ⊤) : ∃ r : ℝ, x = r := by
  induction x with
  | bot => simp at h
  | top => simp at h
  | coe r => exact ⟨r, rfl⟩

/-- An array whose entries are all reals is an array of reals. -/
theorem reals {ι : Type} {x : ι → EReal} (h : ∀ i, ∃ r : ℝ, x i = r) : ∃ y : ι → ℝ, x = fun i => (y i : EReal) :=
  ⟨fun i => (h i).choose, funext fun i => (h i).choose_spec⟩

/-- The largest of finitely many entries, each a real or ⊥ and one of them a real, is a real. -/
theorem fold_max_real {n : ℕ} (f : Fin n → EReal) (hf : ∀ i, f i = ⊥ ∨ ∃ r : ℝ, f i = r) (h1 : ∃ i, ∃ r : ℝ, f i = r) :
    ∃ M : ℝ, Finset.univ.fold max ⊥ f = (M : EReal) := by
  have hs : Finset.univ.fold max ⊥ f = Finset.univ.sup f := rfl
  obtain ⟨i, r, hi⟩ := h1
  obtain ⟨k, -, hk⟩ := Finset.exists_mem_eq_sup Finset.univ ⟨i, Finset.mem_univ i⟩ f
  rw [hs, hk]
  rcases hf k with h | h
  · exfalso
    have := Finset.le_sup (f := f) (Finset.mem_univ i)
    rw [hk, h, hi, le_bot_iff] at this
    exact EReal.coe_ne_bot _ this
  · exact h

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

theorem ofBits_128 : Ideal.ofBits .f32 0x43000000#32 = ((128 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- An array that a precondition says to be finite is an array of reals. -/
theorem reals_of_finite {S S₀ : Shape} {d : Fin S₀.rank → Fin S.rank} (hb : S₀.BroadcastsInDim S d) (x : FVec Ideal S .f32)
    (h : cmpf .olt (Host.absf x) (broadcastInDim S d hb (constant S₀ FTy.f32 0x7F800000#32 : FVec Ideal S₀ .f32)) = fun _ => 1#1) :
    ∃ y : S.Idx → ℝ, x = fun i => (y i : EReal) := by
  refine reals fun i => real_of_abs_lt ?_
  have h1 : Ideal.cmp .olt (max (x i) (-(x i))) (Ideal.ofBits .f32 0x7F800000#32) = 1#1 := congrFun h i
  rw [ofBits_inf, Ideal.cmp_olt] at h1
  by_contra h2
  rw [decide_eq_false h2] at h1
  exact absurd h1 (by decide)

theorem ofBits_one : Ideal.ofBits .f32 0x3F800000#32 = ((1 : ℝ) : EReal) := by
  simp [Ideal.ofBits, Ideal.ieee, -EReal.coe_mul]; norm_num

end Cert.Lift
-- ==== Proof.AttnReal.lean ====
/- The gradient of the forgetting attention over the real numbers, and the attention's backward kernel's arrays where all that it reads is real. -/
module

public import proofs.«01_k».proof.Proof.AttnArrays
public import proofs.«01_k».proof.Proof.RealSum

@[expose] public section

noncomputable section

namespace Cert.AttnReal

open Idealize.ShloMosaic Cert.Lift

/-- Queries, keys, values and the cotangent of the output, by head, token and feature; the gates' cumulative sum, and a
    number for each row that is subtracted from its scores. -/
structure Data where
  q : Fin 16 → Fin 8192 → Fin 128 → ℝ
  k : Fin 16 → Fin 8192 → Fin 128 → ℝ
  v : Fin 16 → Fin 8192 → Fin 128 → ℝ
  w : Fin 16 → Fin 8192 → Fin 128 → ℝ
  c : Fin 16 → Fin 8192 → ℝ
  M : Fin 16 → Fin 8192 → ℝ

/-- The scores' scale, one over the square root of a head's width. -/
def rs : ℝ := (Real.sqrt 128)⁻¹

theorem rs_pos : 0 < rs := inv_pos.mpr (Real.sqrt_pos.mpr (by norm_num))

/-- The factor of folded queries and keys. -/
def foldF : ℝ := Real.sqrt (rs / Real.log 2)

/-- The factor that leads a gradient of folded ones back. -/
def foldU : ℝ := Real.sqrt (rs * Real.log 2)

theorem log2_pos : 0 < Real.log 2 := Real.log_pos (by norm_num)

theorem fold_sq : foldF * foldF * Real.log 2 = rs := by
  unfold foldF
  rw [Real.mul_self_sqrt (div_nonneg rs_pos.le log2_pos.le), div_mul_cancel₀ _ log2_pos.ne']

theorem fold_back : foldF * foldU = rs := by
  unfold foldF foldU
  rw [← Real.sqrt_mul (div_nonneg rs_pos.le log2_pos.le)]
  have : rs / Real.log 2 * (rs * Real.log 2) = rs * rs := by field_simp [log2_pos.ne']
  rw [this, Real.sqrt_mul_self rs_pos.le]

section maths
variable (D : Data) (H : Fin 16)

/-- The score of key `s` for query `r`, with the gates' bias. -/
def x (r s : Fin 8192) : ℝ := (∑ d, D.q H r d * D.k H s d) * rs + (D.c H r - D.c H s)

def e (r s : Fin 8192) : ℝ := if s.val ≤ r.val then Real.exp (x D H r s - D.M H r) else 0

def l (r : Fin 8192) : ℝ := ∑ s, e D H r s

/-- The weight of key `s` for query `r`. -/
def p (r s : Fin 8192) : ℝ := e D H r s / l D H r

def dp (r s : Fin 8192) : ℝ := ∑ d, D.w H r d * D.v H s d

/-- A row's sum of weights times their cotangents. -/
def δ (r : Fin 8192) : ℝ := ∑ s, p D H r s * dp D H r s

/-- The gradient of the score. -/
def g (r s : Fin 8192) : ℝ := p D H r s * (dp D H r s - δ D H r)

theorem l_pos (r : Fin 8192) : 0 < l D H r := by
  have h0 : ∀ s, 0 ≤ e D H r s := fun s => by unfold e; split; exacts [(Real.exp_pos _).le, le_rfl]
  have h1 : 0 < e D H r r := by unfold e; rw [if_pos le_rfl]; exact Real.exp_pos _
  exact lt_of_lt_of_le h1 (Finset.single_le_sum (f := fun s => e D H r s) (fun s _ => h0 s) (Finset.mem_univ r))

def rdq (r : Fin 8192) (d : Fin 128) : ℝ := ∑ s, g D H r s * rs * D.k H s d
def rdk (s : Fin 8192) (d : Fin 128) : ℝ := ∑ r, g D H r s * rs * D.q H r d
def rdv (s : Fin 8192) (d : Fin 128) : ℝ := ∑ r, D.w H r d * p D H r s
def rdc (t : Fin 8192) : ℝ := (∑ r, -g D H r t) + ∑ s, g D H t s

end maths

open Cert.AttnIdeal.Bwd Cert.AttnIdeal

/-- What the kernel's arrays hold where the data are real. -/
structure Holds (D : Data) (A : Arr) : Prop where
  q : ∀ H r d, A.q (ix2 r (gcol H d)) = ((D.q H r d * foldF : ℝ) : EReal)
  k : ∀ H r d, A.k (ix2 r (gcol H d)) = ((D.k H r d * foldF : ℝ) : EReal)
  v : ∀ H r d, A.v (ix2 r (gcol H d)) = (D.v H r d : EReal)
  w : ∀ H r d, A.dout (ix2 r (gcol H d)) = (D.w H r d : EReal)
  cr : ∀ H r, A.cr (ix3 H 0 r) = (D.c H r : EReal)
  cc : ∀ H r, A.cc (ix3 H r 0) = (D.c H r : EReal)
  ls : ∀ H r, A.ls (ix3 H 0 r) = ((D.M H r + Real.log (l D H r) : ℝ) : EReal)
  dl : ∀ H r, A.dl (ix3 H 0 r) = (δ D H r : EReal)

theorem sum_blocks (f : Fin 8192 → ℝ) : ∑ b : Fin 16, ∑ κ : Fin 512, f (row b κ) = ∑ s, f s := by
  rw [Fin.sum_univ_tiles 16 512 (by norm_num) f]

variable {D : Data} {A : Arr} (h : Holds D A)
include h

theorem gscore_real (H : Fin 16) (s r : Fin 8192) : gscore A H s r = ((x D H r s - (D.M H r + Real.log (l D H r)) : ℝ) : EReal) := by
  unfold gscore
  simp only [h.q, h.k, h.cr, h.cc, h.ls, ← EReal.coe_mul, ← coe_sum, ← EReal.coe_sub, ← EReal.coe_add]
  refine congrArg _ ?_
  have : (∑ d : Fin 128, D.k H s d * foldF * (D.q H r d * foldF)) = (∑ d, D.q H r d * D.k H s d) * (foldF * foldF) := by
    rw [Finset.sum_mul]; exact Finset.sum_congr rfl fun d _ => by ring
  rw [this, mul_assoc, fold_sq]; unfold x; ring

theorem gprob_real (H : Fin 16) (s r : Fin 8192) : gprob A H s r = (p D H r s : EReal) := by
  unfold gprob p e
  rw [gscore_real h, exp_coe, ← sub_sub, Real.exp_sub, Real.exp_log (l_pos D H r)]
  split
  · rfl
  · rw [zero_div]; rfl

theorem ggrad_real (H : Fin 16) (s r : Fin 8192) : ggrad A H s r = (g D H r s : EReal) := by
  unfold ggrad
  simp only [gprob_real h, h.v, h.w, h.dl, ← EReal.coe_mul, ← coe_sum, ← EReal.coe_sub]
  refine congrArg _ ?_
  unfold g dp
  simp only [mul_comm (D.v H s _)]

theorem gdk_real (H : Fin 16) (s : Fin 8192) (d : Fin 128) : gdk A H s d = (rdk D H s d : EReal) := by
  unfold gdk
  simp only [ggrad_real h, h.q, ← EReal.coe_mul, ← coe_sum]
  refine congrArg _ ?_
  rw [show Real.sqrt ((Real.sqrt 128)⁻¹ * Real.log 2) = foldU from rfl]
  unfold rdk
  rw [Finset.sum_mul]
  exact Finset.sum_congr rfl fun r _ => by rw [← fold_back]; ring

theorem gdv_real (H : Fin 16) (s : Fin 8192) (d : Fin 128) : gdv A H s d = (rdv D H s d : EReal) := by
  unfold gdv
  simp only [gprob_real h, h.w, ← EReal.coe_mul, ← coe_sum]
  refine congrArg _ ?_
  unfold rdv
  exact Finset.sum_congr rfl fun r _ => mul_comm _ _

theorem gdq_real (H : Fin 16) (r : Fin 8192) (d : Fin 128) : gdq A H r d = (rdq D H r d : EReal) := by
  unfold gdq gdqPart
  simp only [ggrad_real h, h.k, ← EReal.coe_mul, ← coe_sum]
  refine congrArg _ ?_
  rw [show Real.sqrt ((Real.sqrt 128)⁻¹ * Real.log 2) = foldU from rfl]
  unfold rdq
  rw [← sum_blocks (fun s => g D H r s * rs * D.k H s d)]
  refine Finset.sum_congr rfl fun b _ => ?_
  rw [Finset.sum_mul]
  exact Finset.sum_congr rfl fun κ _ => by rw [← fold_back]; ring

/-- The two parts of the gate's gradient, along keys and along queries. -/
theorem gdc_real (H : Fin 16) (t : Fin 8192) : gdc A H t + gdcq A H t = (rdc D H t : EReal) := by
  unfold gdc gdcq gdcqPart
  simp only [ggrad_real h, ← coe_sum, ← EReal.coe_neg, ← EReal.coe_add]
  refine congrArg _ ?_
  unfold rdc
  rw [Finset.sum_neg_distrib]
  exact congrArg _ (sum_blocks fun s => g D H t s)

end Cert.AttnReal
-- ==== Proof.AttnHost.lean ====
/- The attention's backward kernel: the host lines before the call, where all arguments are real, and the one after it. -/
module

public import proofs.«01_k».proof.Proof.AttnReal

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic Idealize.ShloMosaic.StableHlo
open Idealize.ShloMosaic.Pipeline (Dat)
open Cert.Lift Cert.AttnReal

local notation "E" => Idealize.ShloMosaic.Ideal

/-! ## The host lines as functions of arrays -/

abbrev Q2 := FVec E S8192x2048 .f32
/-- An array by token, head and feature. -/
def rot (q : Q2) : FVec E S8192x16x128 .f32 := shapeCast S8192x16x128 q shapeCasts_S8192x2048_S8192x16x128
/-- The scores, −∞ where the key comes after the query. -/
def masked (q k : Q2) (c : FVec E S16x8192 .f32) : FVec E S16x8192x8192 .f32 :=
  select
      (broadcastInDim S16x8192x8192 ![1, 2] bcast_S8192x8192_S16x8192x8192_1_2
        (cmpi CmpIPredicate.sge
          (broadcastInDim S8192x8192 ![0, 1] bcast_S8192x1_S8192x8192_0_1
            (broadcastInDim S8192x1 ![0] bcast_S8192_S8192x1_0 (iotaInDim S8192 32 0)))
          (broadcastInDim S8192x8192 ![0, 1] bcast_S1x8192_S8192x8192_0_1
            (broadcastInDim S1x8192 ![1] bcast_S8192_S1x8192_1 (iotaInDim S8192 32 0)))))
      (addf
        (mulf
          (Host.dotGeneral dot_S8192x16x128_S8192x16x128_S16x8192x8192_2_2_0_0_1_1 none (rot q) (rot k))
          (broadcastInDim S16x8192x8192 ![] bcast_S_S16x8192x8192 (Host.rsqrt (constant S_ FTy.f32 1124073472#32 : FVec E S_ .f32))))
        (subf
          (broadcastInDim S16x8192x8192 ![0, 1, 2] bcast_S16x8192x1_S16x8192x8192_0_1_2
            (broadcastInDim S16x8192x1 ![0, 1] bcast_S16x8192_S16x8192x1_0_1 c))
          (broadcastInDim S16x8192x8192 ![0, 1, 2] bcast_S16x1x8192_S16x8192x8192_0_1_2
            (broadcastInDim S16x1x8192 ![0, 2] bcast_S16x8192_S16x1x8192_0_2 c))))
      (broadcastInDim S16x8192x8192 ![] bcast_S_S16x8192x8192 (id (constant S_ FTy.f32 4286578688#32 : FVec E S_ .f32)))
/-- Each row's largest score. -/
def maxOf (M : FVec E S16x8192x8192 .f32) : FVec E S16x8192 .f32 := Host.reduce FloatOps.maximumf M (constant S_ FTy.f32 4286578688#32 : FVec E S_ .f32) reducesTo_S16x8192x8192_S16x8192_d2 h_S_

/-- A number for each row, over the row. -/
def bc2 (x : FVec E S16x8192x1 .f32) : FVec E S16x8192x8192 .f32 := broadcastInDim S16x8192x8192 ![0, 1, 2] bcast_S16x8192x1_S16x8192x8192_0_1_2 x
def bc1 (x : FVec E S16x8192 .f32) : FVec E S16x8192x1 .f32 := broadcastInDim S16x8192x1 ![0, 1] bcast_S16x8192_S16x8192x1_0_1 x
/-- Each row's sum. -/
def sumOf (e : FVec E S16x8192x8192 .f32) : FVec E S16x8192 .f32 := Host.reduceAdd e (constant S_ FTy.f32 0#32 : FVec E S_ .f32) reducesTo_S16x8192x8192_S16x8192_d2 h_S_

/-- The exponentials of the scores less their row's largest. -/
def expOf (M : FVec E S16x8192x8192 .f32) : FVec E S16x8192x8192 .f32 := Host.exp (subf M (bc2 (bc1 (maxOf M))))

/-- Each row's logarithm of the sum of exponentials. -/
def lseOf (M : FVec E S16x8192x8192 .f32) : FVec E S16x8192 .f32 :=
  shapeCast S16x8192 (addf (bc1 (maxOf M)) (Host.log (bc1 (sumOf (expOf M))))) shapeCasts_S16x8192x1_S16x8192

/-- The attention's output, by token, head and feature. -/
def outOf (v : Q2) (M : FVec E S16x8192x8192 .f32) : FVec E S8192x16x128 .f32 :=
  transpose S8192x16x128 [2, 0, 1] (Host.dotGeneral dot_S8192x16x128_S16x8192x8192_S16x128x8192_0_2_2_1_1_0 none (rot v)
    (Host.divf (expOf M) (bc2 (bc1 (sumOf (expOf M)))))) transposes_S16x128x8192_S8192x16x128_2_0_1

/-- Each row's sum of the output times its cotangent. -/
def deltaOf (v w : Q2) (M : FVec E S16x8192x8192 .f32) : FVec E S16x8192 .f32 :=
  transpose S16x8192 [1, 0] (Host.reduceAdd (mulf (outOf v M) (rot w)) (constant S_ FTy.f32 0#32 : FVec E S_ .f32) reducesTo_S8192x16x128_S8192x16_d2 h_S_)
    transposes_S8192x16_S16x8192_1_0

/-- The factor of folded queries and keys. -/
def foldOf : FVec E S_ .f32 := Host.sqrt (Host.divf (Host.rsqrt (constant S_ FTy.f32 1124073472#32)) (Host.log (constant S_ FTy.f32 1073741824#32)))

def foldedOf (q : Q2) : FVec E S8192x2048 .bf16 := truncf FTy.bf16 (mulf q (broadcastInDim S8192x2048 ![] bcast_S_S8192x2048 foldOf)) bitsLt_bf16_f32

section values
variable (m : (ℓ : Loc nD τ sig) → Buf (Elt E) ℓ) (c : Dev nD)

abbrev argQ : Q2 := m ((c : Thread nD τ).loc main_arg0)
abbrev argK : Q2 := m ((c : Thread nD τ).loc main_arg1)
abbrev argV : Q2 := m ((c : Thread nD τ).loc main_arg2)
abbrev argC : FVec E S16x8192 .f32 := m ((c : Thread nD τ).loc main_arg3)
abbrev argW : Q2 := m ((c : Thread nD τ).loc main_arg4)

/-- What the host lines hand to the call. -/
structure Handed : Prop where
  v43 : V m c main_v43 = foldedOf (argQ m c)
  v50 : V m c main_v50 = foldedOf (argK m c)
  v51 : V m c main_v51 = truncf FTy.bf16 (argV m c) bitsLt_bf16_f32
  v52 : V m c main_v52 = truncf FTy.bf16 (argW m c) bitsLt_bf16_f32
  v53 : V m c main_v53 = broadcastInDim S16x1x8192 ![0, 2] bcast_S16x8192_S16x1x8192_0_2 (argC m c)
  v54 : V m c main_v54 = broadcastInDim S16x1x8192 ![0, 2] bcast_S16x8192_S16x1x8192_0_2 (lseOf (masked (argQ m c) (argK m c) (argC m c)))
  v56 : V m c main_v56 = broadcastInDim S16x1x8192 ![0, 2] bcast_S16x8192_S16x1x8192_0_2 (deltaOf (argV m c) (argW m c) (masked (argQ m c) (argK m c) (argC m c)))
  v57 : V m c main_v57 = broadcastInDim S16x8192x1 ![0, 1] bcast_S16x8192_S16x8192x1_0_1 (argC m c)

theorem handed : Handed m c := by
  constructor <;> (simp only [V, V0, hostOps0, hostOps0_1, hostOps0_2, List.flatten_cons, List.flatten_nil, List.append_nil, List.cons_append, List.nil_append, TRef.nullary, TRef.ternary, TRef.unary, TRef.toBuf, TRef.ofBuf, cast_eq]; after_results_simp <;> rfl)

end values

/-! ## Their entries -/

section entries
variable (H : Fin 16) (r s : Fin 8192) (d : Fin 128)

theorem rot_at (q : Q2) : rot q (ix3 r H d) = q (ix2 r (gcol H d)) := by
  pointwise [rot]
theorem bc2_at (y : FVec E S16x8192x1 .f32) : bc2 y (ix3 H r s) = y (ix3 H r 0) := by
  pointwise [bc2]
theorem bc1_at (y : FVec E S16x8192 .f32) : bc1 y (ix3 H r 0) = y (ix2 H r) := by
  pointwise [bc1]
theorem sumOf_at (y : FVec E S16x8192x8192 .f32) : sumOf y (ix2 H r) = ∑ s : Fin 8192, y (ix3 H r s) := by
  pointwise [sumOf]
theorem maxOf_at (y : FVec E S16x8192x8192 .f32) : maxOf y (ix2 H r) = Finset.univ.fold max (⊥ : EReal) fun s : Fin 8192 => y (ix3 H r s) := by
  rw [← ofBits_neg_inf]
  pointwise [maxOf]

theorem causal : Scalar.select (IntOp.cmpi CmpIPredicate.sge (BitVec.ofNat 32 r.val) (BitVec.ofNat 32 s.val)) = fun (a b : EReal) => if s.val ≤ r.val then a else b := by
  funext a b
  have hr := r.isLt
  have hs := s.isLt
  unfold Scalar.select
  have : IntOp.cmpi CmpIPredicate.sge (BitVec.ofNat 32 r.val) (BitVec.ofNat 32 s.val) = 1 ↔ s.val ≤ r.val := by
    word_cmp
  simp only [this]

theorem rsqrt_128 : Ideal.rsqrt (Ideal.ofBits .f32 0x43000000#32) = (rs : EReal) := by
  rw [ofBits_128, rsqrt_coe (by norm_num)]; rfl

theorem masked_at (q k : Q2) (c : FVec E S16x8192 .f32) : masked q k c (ix3 H r s) =
    if s.val ≤ r.val then (∑ d : Fin 128, q (ix2 r (gcol H d)) * k (ix2 s (gcol H d))) * (rs : EReal) + (c (ix2 H r) - c (ix2 H s)) else ⊥ := by
  have h : masked q k c (ix3 H r s) = Scalar.select (IntOp.cmpi CmpIPredicate.sge (BitVec.ofNat 32 r.val) (BitVec.ofNat 32 s.val))
      ((∑ d : Fin 128, rot q (ix3 r H d) * rot k (ix3 s H d)) * Ideal.rsqrt (Ideal.ofBits .f32 0x43000000#32) + (c (ix2 H r) - c (ix2 H s))) (Ideal.ofBits .f32 0xFF800000#32) := by
    pointwise [masked]
    rfl
  rw [h, causal, rsqrt_128, ofBits_neg_inf]
  simp only [rot_at]

theorem foldOf_eq : foldOf ix0 = (foldF : EReal) := by
  have h : foldOf ix0 = Ideal.sqrt (Ideal.div (Ideal.rsqrt (Ideal.ofBits .f32 0x43000000#32)) (Ideal.log (Ideal.ofBits .f32 0x40000000#32))) := by
    pointwise [foldOf]
  rw [h, rsqrt_128, ofBits_two, log_coe (by norm_num), div_coe log2_pos.ne', sqrt_coe (div_nonneg rs_pos.le log2_pos.le)]; rfl

theorem foldedOf_at (q : Q2) (y : Fin 2048) : foldedOf q (ix2 r y) = q (ix2 r y) * (foldF : EReal) := by
  rw [← foldOf_eq]
  pointwise [foldedOf]

theorem drop_unit (y : FVec E S16x8192x1 .f32) : shapeCast S16x8192 y shapeCasts_S16x8192x1_S16x8192 (ix2 H r) = y (ix3 H r 0) := by
  refine shapeCast_apply y shapeCasts_S16x8192x1_S16x8192 (ix2 H r) (ix3 H r 0) ?_
  rewrite [Shape.rowMajor_val_two, Shape.rowMajor_val_three]
  show (H.val * 8192 + r.val) * 1 + 0 = H.val * 8192 + r.val
  omega

theorem lseOf_at (M : FVec E S16x8192x8192 .f32) : lseOf M (ix2 H r) = maxOf M (ix2 H r) + Ideal.log (sumOf (expOf M) (ix2 H r)) := by
  have h (a b : FVec E S16x8192x1 .f32) : shapeCast S16x8192 (addf a (Host.log b)) shapeCasts_S16x8192x1_S16x8192 (ix2 H r) = a (ix3 H r 0) + Ideal.log (b (ix3 H r 0)) := by
    rw [drop_unit]; rfl
  unfold lseOf
  rw [h, bc1_at, bc1_at]

theorem expOf_at (M : FVec E S16x8192x8192 .f32) : expOf M (ix3 H r s) = Ideal.exp (M (ix3 H r s) - maxOf M (ix2 H r)) := by
  have h : expOf M (ix3 H r s) = Ideal.exp (M (ix3 H r s) - bc2 (bc1 (maxOf M)) (ix3 H r s)) := by
    pointwise [expOf]
  rw [h, bc2_at, bc1_at]

theorem outOf_at (v : Q2) (M : FVec E S16x8192x8192 .f32) :
    outOf v M (ix3 r H d) = ∑ s : Fin 8192, v (ix2 s (gcol H d)) * Ideal.div (expOf M (ix3 H r s)) (sumOf (expOf M) (ix2 H r)) := by
  have h : outOf v M (ix3 r H d) = ∑ s : Fin 8192, rot v (ix3 s H d) * Ideal.div (expOf M (ix3 H r s)) (bc2 (bc1 (sumOf (expOf M))) (ix3 H r s)) := by
    pointwise [outOf]
  rw [h]
  simp only [rot_at, bc2_at, bc1_at]

theorem deltaOf_at (v w : Q2) (M : FVec E S16x8192x8192 .f32) :
    deltaOf v w M (ix2 H r) = ∑ d : Fin 128, outOf v M (ix3 r H d) * w (ix2 r (gcol H d)) := by
  have h : deltaOf v w M (ix2 H r) = ∑ d : Fin 128, outOf v M (ix3 r H d) * rot w (ix3 r H d) := by
    pointwise [deltaOf]
  rw [h]
  simp only [rot_at]

theorem head_row (y : FVec E S16x8192 .f32) : broadcastInDim S16x1x8192 ![0, 2] bcast_S16x8192_S16x1x8192_0_2 y (ix3 H 0 r) = y (ix2 H r) := by
  pointwise
theorem head_col (y : FVec E S16x8192 .f32) : broadcastInDim S16x8192x1 ![0, 1] bcast_S16x8192_S16x8192x1_0_1 y (ix3 H r 0) = y (ix2 H r) := by
  pointwise

end entries

end Cert.AttnIdeal.Bwd
-- ==== Proof.AttnHolds.lean ====
/- The attention's backward kernel, where all arguments are real: what its host lines hand to the call are the real data,
   each row's largest score and logarithm of a sum, and the row sums of the output times its cotangent. -/
module

public import proofs.«01_k».proof.Proof.AttnHost

@[expose] public section

set_option maxRecDepth 16384

noncomputable section

namespace Cert.AttnReal

open Idealize.ShloMosaic Idealize.ShloMosaic.TcCoe
open Cert.Lift Cert.AttnIdeal Cert.AttnIdeal.Gen Cert.AttnIdeal.Bwd

/-- The data of real arguments, with nothing subtracted from the scores. -/
def data₀ (q k v w : S8192x2048.Idx → ℝ) (c : S16x8192.Idx → ℝ) : Data where
  q H r d := q (ix2 r (gcol H d))
  k H r d := k (ix2 r (gcol H d))
  v H r d := v (ix2 r (gcol H d))
  w H r d := w (ix2 r (gcol H d))
  c H r := c (ix2 H r)
  M _ _ := 0

/-- A row's scores, −∞ where the key comes after the query. -/
def scores (D : Data) (H : Fin 16) (r s : Fin 8192) : EReal := if s.val ≤ r.val then (x D H r s : EReal) else ⊥

/-- The data of real arguments, with each row's largest score. -/
def dataOf (q k v w : S8192x2048.Idx → ℝ) (c : S16x8192.Idx → ℝ) : Data :=
  { data₀ q k v w c with M := fun H r => (Finset.univ.fold max ⊥ (scores (data₀ q k v w c) H r)).toReal }

abbrev up {S : Shape} (f : S.Idx → ℝ) : S.Idx → EReal := fun i => (f i : EReal)

variable (q k v w : S8192x2048.Idx → ℝ) (c : S16x8192.Idx → ℝ) (H : Fin 16) (r s : Fin 8192) (d : Fin 128)

theorem top_score : Finset.univ.fold max ⊥ (scores (dataOf q k v w c) H r) = ((dataOf q k v w c).M H r : EReal) := by
  have h : scores (dataOf q k v w c) H r = scores (data₀ q k v w c) H r := rfl
  rw [h]
  obtain ⟨M, hM⟩ := fold_max_real (scores (data₀ q k v w c) H r)
    (fun s => by unfold scores; split; exacts [Or.inr ⟨_, rfl⟩, Or.inl rfl]) ⟨r, _, if_pos le_rfl⟩
  show _ = (((Finset.univ.fold max ⊥ (scores (data₀ q k v w c) H r)).toReal : ℝ) : EReal)
  rw [hM, EReal.toReal_coe]

/-- The exponential of a masked score less the largest. -/
theorem exp_score (D : Data) : Ideal.exp (scores D H r s - (D.M H r : EReal)) = (e D H r s : EReal) := by
  unfold scores e
  split
  · rw [← EReal.coe_sub, exp_coe]
  · rw [EReal.bot_sub]; rfl

theorem score_real : (∑ d : Fin 128, up q (ix2 r (gcol H d)) * up k (ix2 s (gcol H d))) * (rs : EReal) + (up c (ix2 H r) - up c (ix2 H s)) =
    (x (dataOf q k v w c) H r s : EReal) := by
  simp only [← EReal.coe_mul, ← coe_sum, ← EReal.coe_sub, ← EReal.coe_add]
  rfl

theorem masked_real : masked (up q) (up k) (up c) (ix3 H r s) = scores (dataOf q k v w c) H r s := by
  rw [masked_at, score_real q k v w c]; rfl

theorem max_real : maxOf (masked (up q) (up k) (up c)) (ix2 H r) = ((dataOf q k v w c).M H r : EReal) := by
  rw [maxOf_at, ← top_score]
  exact congrArg (fun f => Finset.univ.fold max ⊥ f) (funext fun s => masked_real q k v w c H r s)

theorem exp_real : expOf (masked (up q) (up k) (up c)) (ix3 H r s) = (e (dataOf q k v w c) H r s : EReal) := by
  rw [expOf_at, max_real q k v w c, masked_real q k v w c, exp_score]

theorem sum_real : sumOf (expOf (masked (up q) (up k) (up c))) (ix2 H r) = (l (dataOf q k v w c) H r : EReal) := by
  rw [sumOf_at]
  simp only [exp_real q k v w c, ← coe_sum]
  rfl

theorem lse_real : lseOf (masked (up q) (up k) (up c)) (ix2 H r) = (((dataOf q k v w c).M H r + Real.log (l (dataOf q k v w c) H r) : ℝ) : EReal) := by
  rw [lseOf_at, max_real q k v w c, sum_real q k v w c, log_coe (l_pos _ H r), EReal.coe_add]

theorem out_real : outOf (up v) (masked (up q) (up k) (up c)) (ix3 r H d) =
    ((∑ s, (dataOf q k v w c).v H s d * p (dataOf q k v w c) H r s : ℝ) : EReal) := by
  rw [outOf_at]
  simp only [exp_real q k v w c, sum_real q k v w c, div_coe (l_pos _ H r).ne', ← EReal.coe_mul, ← coe_sum]
  rfl

theorem delta_real : deltaOf (up v) (up w) (masked (up q) (up k) (up c)) (ix2 H r) = (δ (dataOf q k v w c) H r : EReal) := by
  rw [deltaOf_at]
  simp only [out_real q k v w c, ← EReal.coe_mul, ← coe_sum]
  refine congrArg _ ?_
  unfold δ dp
  simp only [Finset.sum_mul, Finset.mul_sum]
  rw [Finset.sum_comm]
  refine Finset.sum_congr rfl fun s _ => Finset.sum_congr rfl fun d _ => ?_
  show _ * w (ix2 r (gcol H d)) = _ * (w (ix2 r (gcol H d)) * _)
  ring

/-- The kernel's arrays where the arguments are real. -/
theorem holds_of {A : Arr} (hq : A.q = foldedOf (up q)) (hk : A.k = foldedOf (up k)) (hv : A.v = up v) (hw : A.dout = up w)
    (hcr : A.cr = broadcastInDim S16x1x8192 ![0, 2] bcast_S16x8192_S16x1x8192_0_2 (up c : FVec Ideal S16x8192 .f32))
    (hcc : A.cc = broadcastInDim S16x8192x1 ![0, 1] bcast_S16x8192_S16x8192x1_0_1 (up c : FVec Ideal S16x8192 .f32))
    (hl : A.ls = broadcastInDim S16x1x8192 ![0, 2] bcast_S16x8192_S16x1x8192_0_2 (lseOf (masked (up q) (up k) (up c))))
    (hd : A.dl = broadcastInDim S16x1x8192 ![0, 2] bcast_S16x8192_S16x1x8192_0_2 (deltaOf (up v) (up w) (masked (up q) (up k) (up c)))) :
    Holds (dataOf q k v w c) A where
  q H r d := by rw [hq, foldedOf_at, EReal.coe_mul]; rfl
  k H r d := by rw [hk, foldedOf_at, EReal.coe_mul]; rfl
  v H r d := by rw [hv]; rfl
  w H r d := by rw [hw]; rfl
  cr H r := by rw [hcr, head_row]; rfl
  cc H r := by rw [hcc, head_col]; rfl
  ls H r := by rw [hl, head_row, lse_real q k v w c]
  dl H r := by rw [hd, head_row, delta_real]

end Cert.AttnReal

namespace Cert.AttnIdeal.Bwd
open Cert.AttnIdeal Cert.AttnIdeal.Gen Idealize.ShloMosaic Idealize.ShloMosaic.TcCoe Cert.AttnReal

/-- What the call reads, as host lines of five arguments. -/
def arrOf (q k v : Q2) (g : FVec Ideal S16x8192 .f32) (w : Q2) : Arr where
  q := foldedOf q
  dout := truncf FTy.bf16 w bitsLt_bf16_f32
  cr := broadcastInDim S16x1x8192 ![0, 2] bcast_S16x8192_S16x1x8192_0_2 g
  ls := broadcastInDim S16x1x8192 ![0, 2] bcast_S16x8192_S16x1x8192_0_2 (lseOf (masked q k g))
  dl := broadcastInDim S16x1x8192 ![0, 2] bcast_S16x8192_S16x1x8192_0_2 (deltaOf v w (masked q k g))
  k := foldedOf k
  v := truncf FTy.bf16 v bitsLt_bf16_f32
  cc := broadcastInDim S16x8192x1 ![0, 1] bcast_S16x8192_S16x8192x1_0_1 g

theorem arr_eq (m : (ℓ : Loc nD τ sig) → Buf (Elt Ideal) ℓ) (c : Dev nD) :
    arr m c = arrOf (argQ m c) (argK m c) (argV m c) (argC m c) (argW m c) := by
  unfold arr arrOf
  rw [(handed m c).v43, (handed m c).v50, (handed m c).v51, (handed m c).v52, (handed m c).v53, (handed m c).v54, (handed m c).v56, (handed m c).v57]

theorem holds_args (q k v w : S8192x2048.Idx → ℝ) (g : S16x8192.Idx → ℝ) :
    Holds (dataOf q k v w g) (arrOf (up q) (up k) (up v) (up g) (up w)) :=
  holds_of q k v w g rfl rfl rfl rfl rfl rfl rfl rfl

theorem holds (m : (ℓ : Loc nD τ sig) → Buf (Elt Ideal) ℓ) (c : Dev nD) (q k v w : S8192x2048.Idx → ℝ) (g : S16x8192.Idx → ℝ)
    (hq : argQ m c = up q) (hk : argK m c = up k) (hv : argV m c = up v) (hc : argC m c = up g) (hw : argW m c = up w) :
    Holds (dataOf q k v w g) (arr m c) := by
  rw [arr_eq]
  generalize argQ m c = a1 at hq ⊢
  generalize argK m c = a2 at hk ⊢
  generalize argV m c = a3 at hv ⊢
  generalize argC m c = a4 at hc ⊢
  generalize argW m c = a5 at hw ⊢
  subst hq hk hv hc hw
  exact holds_args q k v w g

end Cert.AttnIdeal.Bwd
-- ==== Proof.AttnRef.lean ====
/- The derivative of the forgetting attention, where all arguments are real: the reference's four results. -/
module

public import proofs.«01_k».proof.Proof.AttnHolds
public import proofs.«01_k».proof.Proof.Gen.AttnRefIdeal.Run
public import proofs.«01_k».proof.Proof.Gen.AttnRefIdeal.Read

@[expose] public section

set_option maxRecDepth 16384

noncomputable section

namespace Cert.AttnRefIdeal.Bwd

open Cert.AttnRefIdeal Cert.AttnRefIdeal.Gen
open Idealize.ShloMosaic Idealize.ShloMosaic.TcCoe Idealize.ShloMosaic.Tactic
open Cert.Lift Cert.AttnReal
open Cert.AttnIdeal.Bwd (gcol causal rsqrt_128)

local notation "E" => Idealize.ShloMosaic.Ideal

abbrev Q2 : Type := (⟨S8192x2048, .f32⟩ : BufTy).Contents (Elt E)
abbrev G2 : Type := (⟨S16x8192, .f32⟩ : BufTy).Contents (Elt E)

section nodes
variable (x0 x1 x2 : Q2) (x3 : G2) (x4 : Q2) (H : Fin 16) (r s : Fin 8192) (d : Fin 128)

theorem head_div (h : (H.val * 128 + d.val) / 128 < 16) : (⟨(H.val * 128 + d.val) / 128, h⟩ : Fin 16) = H :=
  Fin.ext (by show (H.val * 128 + d.val) / 128 = H.val; omega)

theorem col_mod (h : (H.val * 128 + d.val) / 128 * 128 + (H.val * 128 + d.val) % 128 < 2048) :
    (⟨(H.val * 128 + d.val) / 128 * 128 + (H.val * 128 + d.val) % 128, h⟩ : Fin 2048) = gcol H d :=
  Fin.ext (by show (H.val * 128 + d.val) / 128 * 128 + (H.val * 128 + d.val) % 128 = H.val * 128 + d.val; omega)

theorem mask_at (a b : EReal) : Scalar.select (Read.val_main_v19_1 (F := E) (ix3 H r s)) a b = if s.val ≤ r.val then a else b := by
  have h : Read.val_main_v19_1 (F := E) (ix3 H r s) = IntOp.cmpi CmpIPredicate.sge (BitVec.ofNat 32 r.val) (BitVec.ofNat 32 s.val) := by
    pointwise [Read.val_main_v19_1, Read.val_main_v18, Read.val_main_v17, Read.val_main_v16, Read.val_main_v15, Read.val_main_v14, Read.val_main_v13]
  rw [h, causal]

theorem dot_at : Read.val_main_v3 (F := E) x0 x1 (ix3 H r s) = ∑ d : Fin 128, x0 (ix2 r (gcol H d)) * x1 (ix2 s (gcol H d)) := by
  pointwise [Read.val_main_v3, Read.val_main_v0, Read.val_main_v1]

theorem score_at : Read.val_main_v12 (F := E) x0 x1 x3 (ix3 H r s) =
    (∑ d : Fin 128, x0 (ix2 r (gcol H d)) * x1 (ix2 s (gcol H d))) * (rs : EReal) + (x3 (ix2 H r) - x3 (ix2 H s)) := by
  rw [← rsqrt_128, ← dot_at]
  pointwise [Read.val_main_v12, Read.val_main_v6, Read.val_main_v5, Read.val_main_v4, Read.val_main_cst, Read.val_main_v11, Read.val_main_v9, Read.val_main_v10, Read.val_main_v7, Read.val_main_v8]

theorem masked_at : Read.val_main_v19_0 (F := E) x0 x1 x3 (ix3 H r s) =
    if s.val ≤ r.val then (∑ d : Fin 128, x0 (ix2 r (gcol H d)) * x1 (ix2 s (gcol H d))) * (rs : EReal) + (x3 (ix2 H r) - x3 (ix2 H s)) else ⊥ := by
  rw [← score_at, ← mask_at H r s, ← ofBits_neg_inf]
  pointwise [Read.val_main_v19_0, Read.val_main_call0_v2, Read.val_main_call0_v0, Read.val_main_cst_0]
  rfl

def foldOf (y : FVec E S16x8192x8192 .f32) : FVec E S16x8192 .f32 :=
  Host.reduce FloatOps.maximumf y (constant S_ FTy.f32 0xFF800000#32 : FVec E S_ .f32) reducesTo_S16x8192x8192_S16x8192_d2 h_S_

theorem fold_at (y : FVec E S16x8192x8192 .f32) : foldOf y (ix2 H r) = Finset.univ.fold max (⊥ : EReal) fun s : Fin 8192 => y (ix3 H r s) := by
  rw [← ofBits_neg_inf]
  pointwise [foldOf]

theorem max_at (y : FVec E S16x8192 .f32) : (maximumf (Read.val_main_v26 (F := E) : FVec E S16x8192 .f32) y : FVec E S16x8192 .f32) (ix2 H r) = y (ix2 H r) := by
  have h : (maximumf (Read.val_main_v26 (F := E) : FVec E S16x8192 .f32) y : FVec E S16x8192 .f32) (ix2 H r) = max (Ideal.ofBits .f32 0xFF800000#32) (y (ix2 H r)) := by
    pointwise [Read.val_main_v26, Read.val_main_cst_3]
  rw [h, ofBits_neg_inf, bot_sup_eq]

theorem top_at : Read.val_main_v27 (F := E) x0 x1 x3 (ix2 H r) = Finset.univ.fold max ⊥ fun s : Fin 8192 => Read.val_main_v19_0 (F := E) x0 x1 x3 (ix3 H r s) :=
  (max_at H r _).trans (fold_at H r _)

theorem exp_at : Read.val_main_v40 (F := E) x0 x1 x3 (ix3 H r s) =
    Ideal.exp (Read.val_main_v19_0 (F := E) x0 x1 x3 (ix3 H r s) - Read.val_main_v27 (F := E) x0 x1 x3 (ix2 H r)) := by
  pointwise [Read.val_main_v40, Read.val_main_v39, Read.val_main_v38, Read.val_main_v37]

theorem sum_at : Read.val_main_v41 (F := E) x0 x1 x3 (ix2 H r) = ∑ s : Fin 8192, Read.val_main_v40 (F := E) x0 x1 x3 (ix3 H r s) := by
  pointwise [Read.val_main_v41, Read.val_main_cst_9]

theorem prob_at : Read.val_main_v44 (F := E) x0 x1 x3 (ix3 H r s) =
    Ideal.div (Read.val_main_v40 (F := E) x0 x1 x3 (ix3 H r s)) (Read.val_main_v41 (F := E) x0 x1 x3 (ix2 H r)) := by
  pointwise [Read.val_main_v44, Read.val_main_v43, Read.val_main_v42]

theorem dp_at : Read.val_main_v53 (F := E) x2 x4 (ix3 H r s) = ∑ d : Fin 128, x4 (ix2 r (gcol H d)) * x2 (ix2 s (gcol H d)) := by
  pointwise [Read.val_main_v53, Read.val_main_v52, Read.val_main_v51, Read.val_main_v2]

theorem rest_at : Read.val_main_v59 (F := E) x0 x1 x2 x3 x4 (ix2 H r) = ∑ s : Fin 8192, Read.val_main_v53 (F := E) x2 x4 (ix3 H r s) *
    Ideal.div (Ideal.ofBits .f32 0x3F800000#32) (Read.val_main_v41 (F := E) x0 x1 x3 (ix2 H r) * Read.val_main_v41 (F := E) x0 x1 x3 (ix2 H r)) *
    Read.val_main_v40 (F := E) x0 x1 x3 (ix3 H r s) := by
  pointwise [Read.val_main_v59, Read.val_main_cst_11, Read.val_main_v58, Read.val_main_v57, Read.val_main_v56, Read.val_main_v47, Read.val_main_v46, Read.val_main_cst_10, Read.val_main_v45, Read.val_main_v42]

theorem grad_at : Read.val_main_v68 (F := E) x0 x1 x2 x3 x4 (ix3 H r s) = if s.val ≤ r.val then
    (Ideal.div (Read.val_main_v53 (F := E) x2 x4 (ix3 H r s)) (Read.val_main_v41 (F := E) x0 x1 x3 (ix2 H r)) +
      -Read.val_main_v59 (F := E) x0 x1 x2 x3 x4 (ix2 H r)) * Read.val_main_v40 (F := E) x0 x1 x3 (ix3 H r s) else 0 := by
  rw [← mask_at H r s]
  pointwise [Read.val_main_v68, Read.val_main_v67, Read.val_main_v66, Read.val_main_v65, Read.val_main_v64, Read.val_main_cst_12, Read.val_main_v63, Read.val_main_v62, Read.val_main_v61, Read.val_main_v60, Read.val_main_v42, Read.val_main_call1_v0, Read.val_main_call1_cst]
  rw [Fin.sum_univ_one]

theorem dq_at : Read.val_main_v85 (F := E) x0 x1 x2 x3 x4 (ix2 r (gcol H d)) =
    ∑ s : Fin 8192, Read.val_main_v68 (F := E) x0 x1 x2 x3 x4 (ix3 H r s) * (rs : EReal) * x1 (ix2 s (gcol H d)) := by
  rw [← rsqrt_128]
  pointwise [Read.val_main_v85, Read.val_main_v82, Read.val_main_v81, Read.val_main_v78, Read.val_main_v77, Read.val_main_v4, Read.val_main_cst, Read.val_main_v1]
  simp only [head_div, col_mod]

theorem dk_at : Read.val_main_v84 (F := E) x0 x1 x2 x3 x4 (ix2 s (gcol H d)) =
    ∑ r : Fin 8192, Read.val_main_v68 (F := E) x0 x1 x2 x3 x4 (ix3 H r s) * (rs : EReal) * x0 (ix2 r (gcol H d)) := by
  rw [← rsqrt_128]
  pointwise [Read.val_main_v84, Read.val_main_v80, Read.val_main_v79, Read.val_main_v78, Read.val_main_v77, Read.val_main_v4, Read.val_main_cst, Read.val_main_v0]
  simp only [head_div, col_mod]

theorem dv_at : Read.val_main_v86 (F := E) x0 x1 x3 x4 (ix2 s (gcol H d)) =
    ∑ r : Fin 8192, x4 (ix2 r (gcol H d)) * Read.val_main_v44 (F := E) x0 x1 x3 (ix3 H r s) := by
  pointwise [Read.val_main_v86, Read.val_main_v83, Read.val_main_v55, Read.val_main_v54, Read.val_main_v52, Read.val_main_v51]
  simp only [head_div, col_mod]

theorem dc_at : Read.val_main_v76 (F := E) x0 x1 x2 x3 x4 (ix2 H r) =
    (∑ r' : Fin 8192, -Read.val_main_v68 (F := E) x0 x1 x2 x3 x4 (ix3 H r' r)) + ∑ s : Fin 8192, Read.val_main_v68 (F := E) x0 x1 x2 x3 x4 (ix3 H r s) := by
  pointwise [Read.val_main_v76, Read.val_main_v74, Read.val_main_v73, Read.val_main_v72, Read.val_main_v71, Read.val_main_v75, Read.val_main_v70, Read.val_main_v69, Read.val_main_cst_13, Read.val_main_cst_14, Read.val_main_cst_15, Read.val_main_cst_16]
  simp only [Fin.sum_univ_one]

end nodes

section reals
variable (q k v w : S8192x2048.Idx → ℝ) (c : S16x8192.Idx → ℝ) (H : Fin 16) (r s : Fin 8192) (d : Fin 128)

local notation "D" => dataOf q k v w c

theorem masked_real : Read.val_main_v19_0 (F := E) (up q) (up k) (up c) (ix3 H r s) = scores D H r s := by
  rw [masked_at, score_real q k v w c]; rfl

theorem top_real : Read.val_main_v27 (F := E) (up q) (up k) (up c) (ix2 H r) = ((D).M H r : EReal) := by
  rw [top_at, ← top_score]
  exact congrArg (fun f => Finset.univ.fold max ⊥ f) (funext fun s => masked_real q k v w c H r s)

theorem exp_real : Read.val_main_v40 (F := E) (up q) (up k) (up c) (ix3 H r s) = (e D H r s : EReal) := by
  rw [exp_at, top_real q k v w c, masked_real q k v w c, exp_score]

theorem sum_real : Read.val_main_v41 (F := E) (up q) (up k) (up c) (ix2 H r) = (l D H r : EReal) := by
  rw [sum_at]
  simp only [exp_real q k v w c, ← coe_sum]
  rfl

theorem prob_real : Read.val_main_v44 (F := E) (up q) (up k) (up c) (ix3 H r s) = (p D H r s : EReal) := by
  rw [prob_at, exp_real q k v w c, sum_real q k v w c, div_coe (l_pos _ H r).ne']; rfl

theorem dp_real : Read.val_main_v53 (F := E) (up v) (up w) (ix3 H r s) = (dp D H r s : EReal) := by
  rw [dp_at]
  simp only [← EReal.coe_mul, ← coe_sum]
  rfl

theorem rest_real : Read.val_main_v59 (F := E) (up q) (up k) (up v) (up c) (up w) (ix2 H r) = ((δ D H r / l D H r : ℝ) : EReal) := by
  rw [rest_at]
  have hl := (l_pos D H r).ne'
  simp only [exp_real q k v w c, sum_real q k v w c, dp_real q k v w c, ofBits_one, ← EReal.coe_mul]
  simp only [div_coe (mul_ne_zero hl hl), ← EReal.coe_mul, ← coe_sum]
  refine congrArg _ ?_
  unfold δ p
  rw [Finset.sum_div]
  exact Finset.sum_congr rfl fun s _ => by field_simp

theorem grad_real : Read.val_main_v68 (F := E) (up q) (up k) (up v) (up c) (up w) (ix3 H r s) = (g D H r s : EReal) := by
  rw [grad_at, exp_real q k v w c, sum_real q k v w c, dp_real q k v w c, rest_real, div_coe (l_pos D H r).ne', ← EReal.coe_neg, ← EReal.coe_add, ← EReal.coe_mul]
  have hl := (l_pos D H r).ne'
  unfold g p
  split
  · refine congrArg _ ?_
    field_simp
    ring
  · next h =>
    have : e D H r s = 0 := if_neg h
    rw [this, zero_div, zero_mul]; rfl

theorem dq_real : Read.val_main_v85 (F := E) (up q) (up k) (up v) (up c) (up w) (ix2 r (gcol H d)) = (rdq D H r d : EReal) := by
  rw [dq_at]
  simp only [grad_real q k v w c, ← EReal.coe_mul, ← coe_sum]
  rfl

theorem dk_real : Read.val_main_v84 (F := E) (up q) (up k) (up v) (up c) (up w) (ix2 s (gcol H d)) = (rdk D H s d : EReal) := by
  rw [dk_at]
  simp only [grad_real q k v w c, ← EReal.coe_mul, ← coe_sum]
  rfl

theorem dv_real : Read.val_main_v86 (F := E) (up q) (up k) (up c) (up w) (ix2 s (gcol H d)) = (rdv D H s d : EReal) := by
  rw [dv_at]
  simp only [prob_real q k v w c, ← EReal.coe_mul, ← coe_sum]
  rfl

theorem dc_real : Read.val_main_v76 (F := E) (up q) (up k) (up v) (up c) (up w) (ix2 H r) = (rdc D H r : EReal) := by
  rw [dc_at]
  simp only [grad_real q k v w c, ← EReal.coe_neg, ← coe_sum, ← EReal.coe_add]
  rfl

end reals

end Cert.AttnRefIdeal.Bwd
-- ==== Proof.AttnFrame.lean ====
/- The frames of the attention's backward kernel as it is compiled, over words, and of its reference. -/
module

public import proofs.«01_k».proof.Defs
public import proofs.«01_k».proof.Proof.AttnRun
public import proofs.«01_k».proof.Proof.Gen.Attn.Frame
public import proofs.«01_k».proof.Proof.Gen.AttnRefIdeal.Run
public import Idealize.ShloMosaic.Lib.Quiescent

@[expose] public section

noncomputable section

namespace Cert.Proof

open Idealize.ShloMosaic Idealize.ShloMosaic.Tactic

/-- Over words a named constant is its word. -/
local instance : Named Bits := ⟨fun _ _ {_} bits => bits⟩

set_option maxHeartbeats 1600000 in
/-- The compiled kernel: the run over any values, at words. -/
theorem frame_attn : Cert.quiescent_Attn := by
  intro m ρ _
  exact cast (by sl_kernel_rfl) (Cert.AttnIdeal.Bwd.frame (F := Bits) m ρ)

end Cert.Proof

end
-- ==== Proof.AttnValue.lean ====
/- The attention's backward kernel and the derivative of the forgetting attention: the same four gradients, where the arguments are finite. -/
module

public import proofs.«01_k».proof.Proof.AttnRef
public import proofs.«01_k».proof.Proof.AttnFrame
public import proofs.«01_k».proof.Proof.Gen.Pre_attn_finite
public import Idealize.ShloMosaic.Lib.Quiescent

@[expose] public section

set_option maxRecDepth 16384

noncomputable section

namespace Cert.AttnIdeal.Bwd

open Cert.AttnIdeal Cert.AttnIdeal.Gen
open Idealize.ShloMosaic Idealize.ShloMosaic.TcCoe Idealize.ShloMosaic.Tactic Idealize.ShloMosaic.StableHlo
open Cert.Lift Cert.AttnReal

local notation "E" => Idealize.ShloMosaic.Ideal

/-- The host line after the call: the two parts of the gate's gradient added. -/
def addParts (y : FVec E S16x8192x1 .f32) (z : FVec E S16x1x8192 .f32) : FVec E S16x8192 .f32 :=
  addf (shapeCast S16x8192 y shapeCasts_S16x8192x1_S16x8192) (shapeCast S16x8192 z shapeCasts_S16x1x8192_S16x8192)

theorem tail_v61 (Y : Valuation τ sig (Elt E)) :
    StableHlo.after ([hostOps1] : List (List (HloOp τ sig (Elt E)))).flatten Y (Proc.devRef .tc main_v61) =
      addParts (Y (Proc.devRef .tc main_v58_3)) (Y (Proc.devRef .tc main_v58_4)) := by
  simp only [hostOps1, List.flatten_cons, List.flatten_nil, List.append_nil, TRef.nullary, TRef.ternary, TRef.unary, TRef.toBuf, TRef.ofBuf, cast_eq]
  after_results_simp <;> rfl

theorem drop_mid (y : FVec E S16x1x8192 .f32) (H : Fin 16) (r : Fin 8192) : shapeCast S16x8192 y shapeCasts_S16x1x8192_S16x8192 (ix2 H r) = y (ix3 H 0 r) := by
  refine shapeCast_apply y shapeCasts_S16x1x8192_S16x8192 (ix2 H r) (ix3 H 0 r) ?_
  rewrite [Shape.rowMajor_val_two, Shape.rowMajor_val_three]
  show (H.val * 1 + 0) * 8192 + r.val = H.val * 8192 + r.val
  omega

theorem addParts_at (y : FVec E S16x8192x1 .f32) (z : FVec E S16x1x8192 .f32) (H : Fin 16) (r : Fin 8192) :
    addParts y z (ix2 H r) = y (ix3 H r 0) + z (ix3 H 0 r) := by
  unfold addParts
  show _ + _ = _
  rw [drop_unit, drop_mid]

theorem arr_inj : Function.Injective (Pipeline.arrRef spec0) := by decide

variable (m : (ℓ : Loc nD τ sig) → Buf (Elt E) ℓ) (c : Dev nD)

theorem res_v61 : Pipeline.afterTail₀ cfgs (dats m) 0 (V0 m) [hostOps1] c main_v61 =
    addParts ((dats m 0 c).arrAt 11 cfg0.N) ((dats m 0 c).arrAt 12 cfg0.N) := by
  unfold Pipeline.afterTail₀
  rw [tail_v61]
  exact congrArg₂ addParts (Pipeline.withArrays_arr spec0 arr_inj c (V0 m c) (fun w => (dats m 0 c).arrAt w cfg0.N) 11)
    (Pipeline.withArrays_arr spec0 arr_inj c (V0 m c) (fun w => (dats m 0 c).arrAt w cfg0.N) 12)

/-- Every run of the kernel ends with the gradients of queries, keys, values and gates that the formulas of blocks give, its arguments unchanged. -/
theorem run_values (ρ : Dev nD → PrngReg) : θ_run (defs (F := E)) (onTc (τ := τ) (main (F := E))) ⟨m, fun _ => 0, ρ⟩ (fun r => ∀ c : Dev nD,
    r.2.mem ((c.tc : Thread nD τ).loc main_v58_0) = byHead (gdq (arr m c))
    ∧ r.2.mem ((c.tc : Thread nD τ).loc main_v58_1) = byHead (gdk (arr m c))
    ∧ r.2.mem ((c.tc : Thread nD τ).loc main_v58_2) = byHead (gdv (arr m c))
    ∧ r.2.mem ((c.tc : Thread nD τ).loc main_v61) =
      addParts (fun i => gdc (arr m c) (i 0) (i 1)) (fun i => gdcq (arr m c) (i 0) (i 2))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) := by
  refine (θ_run defs _ _).mono (fun r h c => ?_) (θ_run_and (run_main m ρ) (frame m ρ))
  obtain ⟨⟨hp, -⟩, hf, -⟩ := h
  refine ⟨((hp c).1 8).trans (arr_dq m c), ((hp c).1 9).trans (arr_dk m c), ((hp c).1 10).trans (arr_dv m c), ?_, hf c⟩
  refine ((hp c).2 main_v61 (by decide)).trans ((res_v61 m c).trans ?_)
  exact congrArg₂ addParts (arr_dc m c) (arr_dcq m c)

end Cert.AttnIdeal.Bwd

namespace Cert.AttnReal

open Idealize.ShloMosaic Cert.AttnIdeal Cert.AttnIdeal.Bwd

/-- An array of tokens' features is given by its entries by head. -/
theorem ext_heads {a b : S8192x2048.Idx → EReal} (h : ∀ (H : Fin 16) (r : Fin 8192) (d : Fin 128), a (ix2 r (gcol H d)) = b (ix2 r (gcol H d))) : a = b := by
  funext i
  have e : i = ix2 (i 0) (gcol (headOf (i 1)) (featOf (i 1))) := by
    funext x
    fin_cases x
    · rfl
    · refine Fin.ext ?_
      show (i 1).val = (i 1).val / 128 * 128 + (i 1).val % 128
      omega
  rw [e]
  exact h _ _ _

theorem ext_gates {a b : S16x8192.Idx → EReal} (h : ∀ (H : Fin 16) (r : Fin 8192), a (ix2 H r) = b (ix2 H r)) : a = b := by
  funext i
  rw [show i = ix2 (i 0) (i 1) from by funext x; fin_cases x <;> rfl]
  exact h _ _

end Cert.AttnReal

namespace Cert.Proof

open Idealize.ShloMosaic Idealize.ShloMosaic.TcCoe Cert.AttnReal Cert.Lift
open Cert.AttnIdeal.Bwd (arr byHead gdq gdk gdv gdc gdcq addParts addParts_at byHead_gcol holds arrOf holds_args arr_eq argQ argK argV argC argW)

/-- The kernel's host lines and blocks give the reference's four results, at real arguments. -/
theorem results_eq (q k v w : Cert.AttnIdeal.S8192x2048.Idx → ℝ) (g : Cert.AttnIdeal.S16x8192.Idx → ℝ) {A : Cert.AttnIdeal.Bwd.Arr} (h : Holds (dataOf q k v w g) A) :
    Cert.AttnRefIdeal.Read.val_main_v85 (F := Ideal) (up q) (up k) (up v) (up g) (up w) = byHead (gdq A)
    ∧ Cert.AttnRefIdeal.Read.val_main_v84 (F := Ideal) (up q) (up k) (up v) (up g) (up w) = byHead (gdk A)
    ∧ Cert.AttnRefIdeal.Read.val_main_v86 (F := Ideal) (up q) (up k) (up g) (up w) = byHead (gdv A)
    ∧ Cert.AttnRefIdeal.Read.val_main_v76 (F := Ideal) (up q) (up k) (up v) (up g) (up w) =
      addParts (fun i => gdc A (i 0) (i 1)) (fun i => gdcq A (i 0) (i 2)) := by
  refine ⟨ext_heads fun H r d => ?_, ext_heads fun H r d => ?_, ext_heads fun H r d => ?_, ext_gates fun H r => ?_⟩
  · rw [byHead_gcol, gdq_real h]; exact Cert.AttnRefIdeal.Bwd.dq_real q k v w g H r d
  · rw [byHead_gcol, gdk_real h]; exact Cert.AttnRefIdeal.Bwd.dk_real q k v w g H r d
  · rw [byHead_gcol, gdv_real h]; exact Cert.AttnRefIdeal.Bwd.dv_real q k v w g H r d
  · rw [addParts_at]; exact (Cert.AttnRefIdeal.Bwd.dc_real q k v w g H r).trans (gdc_real h H r).symm

/-- A reference over arrays: its four results at five arguments that are equal to real ones. -/
theorem ref_values {x0 x1 x2 : Cert.AttnRefIdeal.Bwd.Q2} {x3 : Cert.AttnRefIdeal.Bwd.G2} {x4 : Cert.AttnRefIdeal.Bwd.Q2}
    (q k v w : Cert.AttnIdeal.S8192x2048.Idx → ℝ) (g : Cert.AttnIdeal.S16x8192.Idx → ℝ)
    (hq : x0 = up q) (hk : x1 = up k) (hv : x2 = up v) (hg : x3 = up g) (hw : x4 = up w) {A : Cert.AttnIdeal.Bwd.Arr} (h : Holds (dataOf q k v w g) A) :
    Cert.AttnRefIdeal.Read.val_main_v85 (F := Ideal) x0 x1 x2 x3 x4 = byHead (gdq A)
    ∧ Cert.AttnRefIdeal.Read.val_main_v84 (F := Ideal) x0 x1 x2 x3 x4 = byHead (gdk A)
    ∧ Cert.AttnRefIdeal.Read.val_main_v86 (F := Ideal) x0 x1 x3 x4 = byHead (gdv A)
    ∧ Cert.AttnRefIdeal.Read.val_main_v76 (F := Ideal) x0 x1 x2 x3 x4 =
      addParts (fun i => gdc A (i 0) (i 1)) (fun i => gdcq A (i 0) (i 2)) := by
  subst hq hk hv hg hw
  exact results_eq q k v w g h

/-- The precondition: the five arguments are arrays of reals. -/
theorem finite_args (m : (ℓ : Loc Cert.AttnIdeal.nD Cert.AttnIdeal.τ Cert.AttnIdeal.sig) → Buf (Elt Ideal) ℓ)
    (h : Cert.Pre_AttnIdeal_attn_finite m) (c : Dev Cert.AttnIdeal.nD) :
    (∃ y, argQ m c = up y) ∧ (∃ y, argK m c = up y) ∧ (∃ y, argV m c = up y) ∧ (∃ y, argC m c = up y) ∧ (∃ y, argW m c = up y) := by
  obtain ⟨h0, h1, h2, h3, h4⟩ := h c
  exact ⟨reals_of_finite _ _ h0, reals_of_finite _ _ h1, reals_of_finite _ _ h2, reals_of_finite _ _ h3, reals_of_finite _ _ h4⟩

/-- Kernel and reference compute the same gradients of queries, keys, values and gates, where the arguments are finite. -/
theorem algebraic_attn : Cert.algebraic_AttnIdeal_AttnRefIdeal_pre_attn_finite := by
  intro m ρ m' ρ' hpre hargs
  refine ⟨fun c => byHead (gdq (arr m c)), fun c => byHead (gdk (arr m c)), fun c => byHead (gdv (arr m c)),
    fun c => addParts (fun i => gdc (arr m c) (i 0) (i 1)) (fun i => gdcq (arr m c) (i 0) (i 2)), ?_, ?_⟩
  · exact (θ_run Cert.AttnIdeal.defs _ _).mono (fun r h c => h c) (Cert.AttnIdeal.Bwd.run_values m ρ)
  · refine (θ_run Cert.AttnRefIdeal.defs _ _).mono (fun r h c => ?_) (Cert.AttnRefIdeal.Value.run m' ρ')
    obtain ⟨e0, e1, e2, e3, e4⟩ := hargs c
    obtain ⟨⟨q, hq⟩, ⟨k, hk⟩, ⟨v, hv⟩, ⟨g, hg⟩, ⟨w, hw⟩⟩ := finite_args m hpre c
    obtain ⟨r0, r1, r2, r3⟩ := ref_values q k v w g (e0.trans hq) (e1.trans hk) (e2.trans hv) (e3.trans hg) (e4.trans hw) (holds m c q k v w g hq hk hv hg hw)
    obtain ⟨p0, p1, p2, p3, p4⟩ := h c
    exact ⟨p0.trans ((Cert.AttnRefIdeal.Read.val_main_v85_eq m' c).trans r0), p1.trans ((Cert.AttnRefIdeal.Read.val_main_v84_eq m' c).trans r1),
      p2.trans ((Cert.AttnRefIdeal.Read.val_main_v86_eq m' c).trans r2), p3.trans ((Cert.AttnRefIdeal.Read.val_main_v76_eq m' c).trans r3), p4⟩

theorem frame_attnIdeal : Cert.quiescent_AttnIdeal := fun m ρ _ => Cert.AttnIdeal.Bwd.frame (F := Ideal) m ρ

theorem frame_attnIdeal_pre : Cert.quiescent_AttnIdeal_pre_attn_finite := fun m ρ _ => Cert.AttnIdeal.Bwd.frame (F := Ideal) m ρ

theorem frame_attnRef : Cert.quiescent_AttnRefIdeal := fun m ρ _ =>
  (θ_run Cert.AttnRefIdeal.defs _ _).mono (fun r h => ⟨fun c => (h c).2.2.2.2, sem_eq_zero_of_no_sems (by decide) r.2⟩) (Cert.AttnRefIdeal.Value.run (F := Ideal) m ρ)

theorem frame_attnRef_pre : Cert.quiescent_AttnRefIdeal_pre_attn_finite := fun m ρ _ =>
  (θ_run Cert.AttnRefIdeal.defs _ _).mono (fun r h => ⟨fun c => (h c).2.2.2.2, sem_eq_zero_of_no_sems (by decide) r.2⟩) (Cert.AttnRefIdeal.Value.run (F := Ideal) m ρ)

/-- The named constants: ln 2, −∞ for the mask, and the factor that leads gradients of folded queries and keys back. -/
theorem preserves_attn : Cert.preserves_Attn_AttnIdeal :=
  ⟨IdealRules.named_const.statement _ "ln2" .f32 0x3F317218#32 _ rfl, IdealRules.named_const.statement _ "mask" .f32 0xF149F2CA#32 _ rfl,
    IdealRules.named_const.statement _ "unfold" .f32 0x3E7D75E0#32 _ rfl⟩

end Cert.Proof
-- ==== Proof.Sums.lean ====
/- Running sums: a host window sum as a sum over the rows up to, or from, a row; and a sum from a row on, cut into the
   rest of that row's block and the blocks after it. -/
module

public import Idealize.ShloMosaic.PureOps.Ideal.Laws
public import Idealize.ShloMosaic.Lib.Pointwise

@[expose] public section

noncomputable section

namespace Cert.Sums

open Idealize.ShloMosaic

/-- An array of reals as one of extended reals. -/
abbrev up {S : Shape} (f : S.Idx → ℝ) : S.Idx → EReal := fun i => (f i : EReal)

/-- A left fold of additions is the initial value plus the sum. -/
theorem foldl_add {n : ℕ} (g : Fin n → EReal) (v : EReal) :
    (List.finRange n).foldl (fun r k => r + g k) v = v + ∑ k : Fin n, g k := by
  have h : ∀ (L : List (Fin n)) (v : EReal), L.foldl (fun r k => r + g k) v = v + (L.map g).sum := by
    intro L
    induction L with
    | nil => intro v; simp
    | cons a L ih => intro v; simp only [List.foldl_cons, ih, List.map_cons, List.sum_cons, add_assoc]
  rw [h, ← List.sum_toFinset g (List.nodup_finRange n)]
  simp

/-- An array's entries as a function of every natural number, zero outside. -/
def ext {M : Type} [Zero M] {N : ℕ} (f : Fin N → M) (i : ℕ) : M := if h : i < N then f ⟨i, h⟩ else 0

section
variable {M : Type} [AddCommMonoid M] {N : ℕ} (f : Fin N → M)

theorem ext_val (i : Fin N) : ext f i.val = f i := dif_pos i.isLt

/-- The sum of the entries from position `p` on. -/
def from_ (p : ℕ) : M := ∑ i ∈ Finset.Ico p N, ext f i

theorem from_eq (p : ℕ) : from_ f p = ∑ i : Fin N, if p ≤ i.val then f i else 0 := by
  have e : ∀ i : Fin N, (if p ≤ i.val then f i else 0) = (fun n : ℕ => if p ≤ n then ext f n else 0) i.val := fun i => by
    show _ = if p ≤ i.val then ext f i.val else 0
    rw [ext_val]
  rw [Finset.sum_congr rfl fun i _ => e i, Fin.sum_univ_eq_sum_range (fun n : ℕ => if p ≤ n then ext f n else 0) N,
    ← Finset.sum_filter]
  unfold from_
  refine Finset.sum_congr (Finset.ext fun i => ?_) fun _ _ => rfl
  simp only [Finset.mem_Ico, Finset.mem_filter, Finset.mem_range]
  omega

theorem from_all : from_ f 0 = ∑ i : Fin N, f i := by
  rw [from_eq]; exact Finset.sum_congr rfl fun i _ => if_pos (Nat.zero_le _)

theorem from_end : from_ f N = 0 := by unfold from_; rw [Finset.Ico_self, Finset.sum_empty]

/-- From row `a` of block `k` on: the rest of the block, and the blocks after it. -/
theorem from_block {T : ℕ} (k a : ℕ) (ha : a ≤ T) (hk : (k + 1) * T ≤ N) :
    from_ f (k * T + a) = (∑ b : Fin T, if a ≤ b.val then ext f (k * T + b.val) else 0) + from_ f ((k + 1) * T) := by
  have hs : (k + 1) * T = k * T + T := Nat.succ_mul k T
  unfold from_
  rw [← Finset.sum_Ico_consecutive (ext f) (m := k * T + a) (n := (k + 1) * T) (by omega) hk]
  congr 1
  rw [Fin.sum_univ_eq_sum_range (fun n : ℕ => if a ≤ n then ext f (k * T + n) else 0) T, ← Finset.sum_filter, hs,
    show k * T + a = a + k * T by omega, show k * T + T = T + k * T by omega, ← Finset.sum_Ico_add' (ext f) a T (k * T)]
  refine Finset.sum_congr (Finset.ext fun i => ?_) fun i _ => by rw [Nat.add_comm]
  simp only [Finset.mem_Ico, Finset.mem_filter, Finset.mem_range]
  omega

/-- The sum of the entries before position `p`. -/
def upto (p : ℕ) : M := ∑ i ∈ Finset.range p, ext f i

theorem upto_all : upto f N = ∑ i : Fin N, f i := by
  unfold upto
  rw [← Fin.sum_univ_eq_sum_range]
  exact Finset.sum_congr rfl fun i _ => ext_val f i

theorem upto_block (T k : ℕ) : upto f ((k + 1) * T) = upto f (k * T) + ∑ b : Fin T, ext f (k * T + b.val) := by
  unfold upto
  rw [Nat.succ_mul, Finset.sum_range_add, Fin.sum_univ_eq_sum_range (fun n : ℕ => ext f (k * T + n)) T]

/-- An accumulator that a first block sets and later ones add to holds the sum over all rows so far. -/
theorem acc_upto {T n : ℕ} (a : ℕ → M) (h0 : a 0 = ∑ b : Fin T, ext f b.val)
    (hs : ∀ k, k + 1 < n → a (k + 1) = a k + ∑ b : Fin T, ext f ((k + 1) * T + b.val)) : ∀ k, k < n → a k = upto f ((k + 1) * T) := by
  intro k
  induction k with
  | zero =>
    intro _
    rw [upto_block, h0, Nat.zero_mul]
    unfold upto
    rw [Finset.range_zero, Finset.sum_empty, zero_add]
    simp only [Nat.zero_add]
  | succ k ih => intro hk; rw [upto_block, hs k hk, ih (by omega)]

/-- `w` entries from position `p` on, those past the end left out. -/
theorem span_eq (p w : ℕ) : ∑ j ∈ Finset.range w, ext f (p + j) = ∑ i : Fin N, if p ≤ i.val ∧ i.val < p + w then f i else 0 := by
  have e : ∀ i : Fin N, (if p ≤ i.val ∧ i.val < p + w then f i else 0) = (fun n : ℕ => if p ≤ n ∧ n < p + w then ext f n else 0) i.val := fun i => by
    show _ = if p ≤ i.val ∧ i.val < p + w then ext f i.val else 0
    rw [ext_val]
  rw [Finset.sum_congr rfl fun i _ => e i, Fin.sum_univ_eq_sum_range (fun n : ℕ => if p ≤ n ∧ n < p + w then ext f n else 0) N,
    ← Finset.sum_filter]
  have h := (Finset.sum_Ico_eq_sum_range (ext f) p (p + w)).symm
  rw [Nat.add_sub_cancel_left] at h
  rw [h]
  refine (Finset.sum_subset (fun i hi => ?_) fun i hi hn => ?_).symm
  · simp only [Finset.mem_filter, Finset.mem_range, Finset.mem_Ico] at hi ⊢; omega
  · unfold ext
    rw [dif_neg fun h => hn (by simp only [Finset.mem_filter, Finset.mem_range, Finset.mem_Ico] at hi ⊢; omega)]

end

/-- A window of `N` rows padded above: each row gets the sum of the rows from it on. -/
theorem window_from {N C : ℕ} (x : (⟨2, ![N, C]⟩ : Shape).Idx → EReal)
    (h : (⟨2, ![N, C]⟩ : Shape).ReduceWindows ![N, 1] ![1, 1] ![0, 0] ![N - 1, 0] ⟨2, ![N, C]⟩) (r : Fin N) (l : Fin C) :
    Ideal.hostReduceWindowAdd ![N, 1] ![1, 1] ![0, 0] ![N - 1, 0] h x 0 (ix2 r l) = from_ (fun s => x (ix2 s l)) r.val := by
  unfold Ideal.hostReduceWindowAdd Host.reduceWindow
  dsimp only
  rw [foldl_add, zero_add, ← Equiv.sum_comp (Shape.rowMajor ⟨2, ![N, 1]⟩)]
  simp only [Equiv.symm_apply_apply]
  rw [sum_idx2]
  simp only [Fin.sum_univ_one]
  have e : ∀ a : Fin N, (if hin : ∀ b : Fin 2, (![0, 0] : Fin 2 → ℕ) b ≤ (ix2 r l b).val * (![1, 1] : Fin 2 → ℕ) b + (ix2 a (0 : Fin 1) b).val ∧
      (ix2 r l b).val * (![1, 1] : Fin 2 → ℕ) b + (ix2 a (0 : Fin 1) b).val - (![0, 0] : Fin 2 → ℕ) b < (![N, C] : Fin 2 → ℕ) b
      then x (fun b => ⟨_, (hin b).2⟩) else 0) = ext (fun s => x (ix2 s l)) (r.val + a.val) := by
    intro a
    by_cases hp : r.val + a.val < N
    · have hin : ∀ b : Fin 2, (![0, 0] : Fin 2 → ℕ) b ≤ (ix2 r l b).val * (![1, 1] : Fin 2 → ℕ) b + (ix2 a (0 : Fin 1) b).val ∧
        (ix2 r l b).val * (![1, 1] : Fin 2 → ℕ) b + (ix2 a (0 : Fin 1) b).val - (![0, 0] : Fin 2 → ℕ) b < (![N, C] : Fin 2 → ℕ) b := by
        intro b
        match b with
        | ⟨0, _⟩ => exact ⟨Nat.zero_le _, by show r.val * 1 + a.val - 0 < N; omega⟩
        | ⟨1, _⟩ => exact ⟨Nat.zero_le _, by show l.val * 1 + 0 - 0 < C; have := l.isLt; omega⟩
      rw [dif_pos hin]
      unfold ext
      rw [dif_pos hp]
      refine congrArg x (funext fun b => Fin.ext ?_)
      match b with
      | ⟨0, _⟩ => show r.val * 1 + a.val - 0 = r.val + a.val; omega
      | ⟨1, _⟩ => show l.val * 1 + 0 - 0 = l.val; omega
    · rw [dif_neg fun hin => hp (by have h0 : r.val * 1 + a.val - 0 < N := (hin 0).2; omega)]
      unfold ext
      rw [dif_neg hp]
  refine (Finset.sum_congr rfl fun a _ => e a).trans ?_
  rw [Fin.sum_univ_eq_sum_range (fun n : ℕ => ext (fun s => x (ix2 s l)) (r.val + n)) N, Finset.range_eq_Ico,
    Finset.sum_Ico_add (ext fun s => x (ix2 s l)) 0 N r.val, Nat.zero_add,
    ← Finset.sum_Ico_consecutive _ (Nat.le_of_lt r.isLt) (Nat.le_add_right N r.val)]
  unfold from_
  refine (congrArg _ (Finset.sum_eq_zero fun i hi => ?_)).trans (add_zero _)
  exact dif_neg (by have := Finset.mem_Ico.mp hi; omega)

end Cert.Sums

end
-- ==== Proof.GateBlock.lean ====
/- The gates' backward kernel: what one block leaves in its results and in the carried row. -/
module

public import proofs.«01_k».proof.Defs
public import proofs.«01_k».proof.Proof.Gen.GateIdeal.Value
public import proofs.«01_k».proof.Proof.Sums
public import proofs.«01_k».proof.Proof.RealSum
public import proofs.«01_k».proof.Proof.LossValue
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.GateIdeal.Bwd

open Cert.GateIdeal Cert.GateIdeal.Gen
open Idealize.ShloMosaic Idealize.ShloMosaic.TcCoe Idealize.SL.Sem
open Idealize.ShloMosaic.Pipeline (Dat)
open Cert.Lift

local notation "E" => Idealize.ShloMosaic.Ideal

theorem hz : (![0, 0] : Fin 2 → Nat) = fun _ => 0 := funext fun a => by fin_cases a <;> rfl

variable (m : (ℓ : Loc nD τ sig) → Buf (Elt E) ℓ) (c : Dev nD) (t : Fin cfg0.N)

/-- The first row of a block. -/
def topRow (y : Vec E S256x128 .f32) : Vec E S1x128 .f32 := fun j => y (ix2 0 (j 1))

theorem topRow_eq (y : Vec E S256x128 .f32) (h : ∀ a : Fin 2, (![0, 0] : Fin 2 → ℕ) a + (![1, 128] : Fin 2 → ℕ) a ≤ S256x128.size a) (j : S1x128.Idx) :
    y ((Rect.unit (s := S256x128) ![0, 0] ![1, 128] h).idx j) = topRow y j := by
  unfold topRow
  refine congrArg y (funext fun a => Fin.ext ?_)
  have h0 : (j 0).val < 1 := (j 0).isLt
  match a with
  | ⟨0, _⟩ => show 0 + 1 * (j 0).val = 0; omega
  | ⟨1, _⟩ => show 0 + 1 * (j 1).val = (j 1).val; omega

theorem read_scratch (h : (Memref.whole cc0_scratch0).IsWhole) (x : Vec E S1x128 .f32) :
    View.read (Elt E) (View.whole cc0_scratch0) (h.unread x) = x := h.read_unread x

/-- What a point finds in the carried row. -/
def found : Vec E S1x128 .f32 := if h : t.val % 32 = 0 then k0_pay5 (F := E) else (outsAt0 m c (t.val - 1) (by have := t.isLt; omega)).2.2

/-- A block's sums from each row on, over all later rows. -/
def tail : Vec E S256x128 .f32 := k0_pay6 (iblk m c 0 t) (iblk m c 1 t) (found m c t)

theorem outs_A (h : t.val % 32 = 0) : outsAt0 m c t.val t.isLt =
    (k0_pay2 (iblk m c 2 t) (iblk m c 3 t) (tail m c t), k0_pay3 (iblk m c 2 t) (iblk m c 3 t) (tail m c t), topRow (tail m c t)) := by
  have hN : t.val < 32 := t.isLt
  rw [outsAt0_A m c t h h (by omega)]
  unfold tail found
  rw [dif_pos h]
  refine Prod.ext ?_ (Prod.ext ?_ ?_)
  · frame_out
  · frame_out
  · frame_out
    unfold k0_pay7
    rw [shapeCast_self]
    rw [View.readCov_eq_canon', View.canon_unit_zero hz]
    funext j
    exact topRow_eq _ _ j

theorem outs_B (h : ¬t.val % 32 = 0) : outsAt0 m c t.val t.isLt =
    (k0_pay2 (iblk m c 2 t) (iblk m c 3 t) (tail m c t),
      k0_pay4 (iblk m c 2 t) (iblk m c 3 t) (tail m c t) (outsAt0 m c (t.val - 1) (by have := t.isLt; omega)).2.1, topRow (tail m c t)) := by
  have hN : t.val < 32 := t.isLt
  rw [outsAt0_B m c t h h (by omega)]
  unfold tail found
  rw [dif_neg h]
  refine Prod.ext ?_ (Prod.ext ?_ ?_)
  · frame_out
    rw [read_scratch]
  · frame_out
    rw [read_scratch]
  · frame_out
    unfold k0_pay7
    rw [shapeCast_self]
    rw [View.readCov_eq_canon', View.canon_unit_zero hz, read_scratch]
    funext j
    exact topRow_eq _ _ j

/-- Row `a` of a block, lane `l`: the sum of the block's rows from `a` on, and the carried row. -/
theorem pay6_apply (x0 x1 : Vec E S256x128 .f32) (x : Fin 256 → Fin 128 → ℝ) (hx : ∀ a l, x0 (ix2 a l) + x1 (ix2 a l) = (x a l : EReal))
    (xs : Vec E S1x128 .f32) (a : Fin 256) (l : Fin 128) :
    k0_pay6 x0 x1 xs (ix2 a l) = ((∑ b : Fin 256, if a.val ≤ b.val then x b l else 0 : ℝ) : EReal) + xs (ix2 0 l) := by
  have hz0 : ∀ y : ℝ, (y : EReal) - (y : EReal) = 0 := fun y => by rw [← EReal.coe_sub, sub_self, EReal.coe_zero]
  have hs : ∀ (b : Fin 256), FloatOps.sitofp (F := E) FTy.f32 (BitVec.setWidth 32 (IntOp.cmpi CmpIPredicate.sle (BitVec.ofNat 32 a.val) (BitVec.ofNat 32 b.val)))
      = ((if a.val ≤ b.val then 1 else 0 : ℝ) : EReal) := by
    intro b
    have ha := a.isLt
    have hb := b.isLt
    show ((((BitVec.setWidth 32 (IntOp.cmpi CmpIPredicate.sle (BitVec.ofNat 32 a.val) (BitVec.ofNat 32 b.val))).toInt : ℤ) : ℝ) : EReal) = _
    by_cases h : a.val ≤ b.val
    · have e : IntOp.cmpi CmpIPredicate.sle (BitVec.ofNat 32 a.val) (BitVec.ofNat 32 b.val) = 1#1 := by word_cmp
      rw [e, if_pos h]; norm_num
    · have e : IntOp.cmpi CmpIPredicate.sle (BitVec.ofNat 32 a.val) (BitVec.ofNat 32 b.val) = 0#1 := by word_cmp
      rw [e, if_neg h]; norm_num
  pointwise [k0_pay6]
  simp only [hx, hz0, sub_zero, mul_zero, Finset.sum_const_zero, add_zero]
  refine congrArg (· + _) ?_
  rw [coe_sum]
  refine Finset.sum_congr rfl fun b _ => ?_
  refine (congrArg (· * _) (hs b)).trans ?_
  rw [← EReal.coe_mul]
  refine congrArg _ ?_
  split <;> simp

theorem pay1_apply (x2 : Vec E S256x128 .f32) (x3 : Vec E S1x128 .f32) (y : Vec E S256x128 .f32) (a : Fin 256) (l : Fin 128) :
    k0_pay1 x2 x3 y (ix2 a l) = if l.val < 16 then Ideal.div (y (ix2 a l)) (1 + Ideal.exp (x2 (ix2 a l) + x3 (ix2 0 l))) else 0 := by
  have hc : ∀ u v : EReal, Scalar.select (IntOp.cmpi CmpIPredicate.slt (BitVec.ofNat 32 l.val) 16#32) u v = if l.val < 16 then u else v := by
    intro u v
    have hl := l.isLt
    unfold Scalar.select
    have h : IntOp.cmpi CmpIPredicate.slt (BitVec.ofNat 32 l.val) 16#32 = 1 ↔ l.val < 16 := by word_cmp
    simp only [h]
  pointwise [k0_pay1]
  exact hc _ _

theorem pay3_apply (x2 : Vec E S256x128 .f32) (x3 : Vec E S1x128 .f32) (y : Vec E S256x128 .f32) (z : Fin 1) (l : Fin 128) :
    k0_pay3 x2 x3 y (ix2 z l) = ∑ a : Fin 256, k0_pay1 x2 x3 y (ix2 a l) := by
  pointwise [k0_pay3]

end Cert.GateIdeal.Bwd

end
-- ==== Proof.GateValue.lean ====
/- The gates' backward kernel: what its two result arrays hold, where the two cotangents are real. -/
module

public import proofs.«01_k».proof.Proof.GateBlock
public import Idealize.ShloMosaic.Lib.KernelVsHost

@[expose] public section

set_option maxRecDepth 16384

noncomputable section

namespace Cert.GateIdeal.Bwd

open Cert.GateIdeal Cert.GateIdeal.Gen
open Idealize.ShloMosaic Idealize.ShloMosaic.TcCoe Idealize.SL.Sem Idealize.ShloMosaic.Tactic Idealize.ShloMosaic.StableHlo
open Idealize.ShloMosaic.Pipeline (Dat)
open Cert.Lift Cert.Sums

local notation "E" => Idealize.ShloMosaic.Ideal

/-! ## The host lines before the call -/

/-- A matrix with 112 lanes of zeros after its 16. -/
def lanes (x : FVec E S8192x16 .f32) : FVec E S8192x128 .f32 :=
  pad S8192x128 ![0, 0] ![0, 112] ![0, 0] x (sitofp .f32 (constantI S_ 32 0#32) : FVec E S_ .f32) pads_S8192x16_S8192x128_000_01120 h_S_

/-- The same for one row. -/
def laneRow (x : FVec E S16 .f32) : FVec E S1x128 .f32 :=
  broadcastInDim S1x128 ![1] bcast_S128_S1x128_1
    (pad S128 ![0] ![112] ![0] x (sitofp .f32 (constantI S_ 32 0#32) : FVec E S_ .f32) pads_S16_S128_01120 h_S_)

theorem word_zero (i : S_.Idx) : (sitofp .f32 (constantI S_ 32 0#32) : FVec E S_ .f32) i = 0 := by
  show ((((0#32 : BitVec 32).toInt : ℤ) : ℝ) : EReal) = 0
  norm_num

theorem lanes_at (x : FVec E S8192x16 .f32) (r : Fin 8192) (l : Fin 128) :
    lanes x (ix2 r l) = if h : l.val < 16 then x (ix2 r ⟨l.val, h⟩) else 0 := by
  unfold lanes
  split
  · rename_i h
    exact pad_apply_of_inside _ _ _ x _ _ _ (ix2 r l) (ix2 r ⟨l.val, h⟩) fun a => by
      match a with
      | ⟨0, _⟩ => show r.val = 0 + r.val * 1; omega
      | ⟨1, _⟩ => show l.val = 0 + l.val * 1; omega
  · rename_i h
    refine (pad_apply_of_not_inside _ _ _ x _ _ _ (ix2 r l) 1 fun hh => h ?_).trans (word_zero _)
    have h2 : (l.val - 0) / (0 + 1) < 16 := hh.2.2
    omega

theorem laneRow_at (x : FVec E S16 .f32) (z : Fin 1) (l : Fin 128) :
    laneRow x (ix2 z l) = if h : l.val < 16 then x (ix1 ⟨l.val, h⟩) else 0 := by
  have e : laneRow x (ix2 z l) = pad S128 ![0] ![112] ![0] x (sitofp .f32 (constantI S_ 32 0#32) : FVec E S_ .f32) pads_S16_S128_01120 h_S_ (ix1 l) := by
    unfold laneRow
    generalize pad S128 ![0] ![112] ![0] x (sitofp .f32 (constantI S_ 32 0#32) : FVec E S_ .f32) pads_S16_S128_01120 h_S_ = y
    pointwise
  rw [e]
  split
  · rename_i h
    exact pad_apply_of_inside _ _ _ x _ _ _ (ix1 l) (ix1 ⟨l.val, h⟩) fun a => by
      match a with
      | ⟨0, _⟩ => show l.val = 0 + l.val * 1; omega
  · rename_i h
    refine (pad_apply_of_not_inside _ _ _ x _ _ _ (ix1 l) 0 fun hh => h ?_).trans (word_zero _)
    have h2 : (l.val - 0) / (0 + 1) < 16 := hh.2.2
    omega

section host
variable (m : (ℓ : Loc nD τ sig) → Buf (Elt E) ℓ) (c : Dev nD)

abbrev argF : FVec E S8192x16 .f32 := m ((c : Thread nD τ).loc main_arg0)
abbrev argB : FVec E S16 .f32 := m ((c : Thread nD τ).loc main_arg1)
abbrev argK : FVec E S16x8192 .f32 := m ((c : Thread nD τ).loc main_arg2)
abbrev argQ : FVec E S16x8192 .f32 := m ((c : Thread nD τ).loc main_arg3)

/-- What the host lines hand to the call. -/
structure Handed : Prop where
  v1 : V m c main_v1 = lanes (transpose S8192x16 [1, 0] (argK m c) transposes_S16x8192_S8192x16_1_0)
  v3 : V m c main_v3 = lanes (transpose S8192x16 [1, 0] (argQ m c) transposes_S16x8192_S8192x16_1_0)
  v4 : V m c main_v4 = lanes (argF m c)
  v6 : V m c main_v6 = laneRow (argB m c)

theorem handed : Handed m c := by
  constructor <;> (simp only [V, hostOps0, hostOps0_1, hostOps0_2, hostOps0_3, hostOps0_4, hostOps0_5, hostOps0_6, hostOps0_7, hostOps0_8, List.flatten_cons, List.flatten_nil, List.append_nil, List.cons_append, List.nil_append, TRef.nullary, TRef.ternary, TRef.binary, TRef.unary, TRef.toBuf, TRef.ofBuf, cast_eq]; after_results_simp <;> rfl)

end host

/-! ## The results -/

/-- The sum of the two cotangents, by token and lane. -/
def cot (dk dq : S16x8192.Idx → ℝ) (l : Fin 128) (r : Fin 8192) : ℝ :=
  if h : l.val < 16 then dk (ix2 ⟨l.val, h⟩ r) + dq (ix2 ⟨l.val, h⟩ r) else 0

/-- The gate logits' gradient, by token and lane. -/
def grad (f : S8192x16.Idx → EReal) (b : S16.Idx → EReal) (dk dq : S16x8192.Idx → ℝ) (l : Fin 128) (r : Fin 8192) : EReal :=
  if h : l.val < 16 then Ideal.div ((from_ (cot dk dq l) r.val : ℝ) : EReal) (1 + Ideal.exp (f (ix2 r ⟨l.val, h⟩) + b (ix1 ⟨l.val, h⟩))) else 0

def gradF (f : S8192x16.Idx → EReal) (b : S16.Idx → EReal) (dk dq : S16x8192.Idx → ℝ) : S8192x128.Idx → EReal :=
  fun i => grad f b dk dq (i 1) (i 0)

def gradB (f : S8192x16.Idx → EReal) (b : S16.Idx → EReal) (dk dq : S16x8192.Idx → ℝ) : S1x128.Idx → EReal :=
  fun i => ∑ r : Fin 8192, grad f b dk dq (i 1) r

section arrays
variable (m : (ℓ : Loc nD τ sig) → Buf (Elt E) ℓ) (c : Dev nD) (dk dq : S16x8192.Idx → ℝ)
  (hk : argK m c = up dk) (hq : argQ m c = up dq) (t : Fin cfg0.N) (a : Fin 256) (l : Fin 128)

/-- Row `a` of the block that point `t` works on: blocks are walked from the last. -/
def row (t : ℕ) (a : Fin 256) : Fin 8192 := ⟨(31 - t) * 256 + a.val, by have := a.isLt; omega⟩

theorem idx_0 : ∀ t : Fin grid0.N, win0_0.index t 0 = 31 - t.val ∧ win0_0.index t 1 = 0 := by decide +kernel
theorem idx_1 : ∀ t : Fin grid0.N, win0_1.index t 0 = 31 - t.val ∧ win0_1.index t 1 = 0 := by decide +kernel
theorem idx_2 : ∀ t : Fin grid0.N, win0_2.index t 0 = 31 - t.val ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = 31 - t.val ∧ win0_4.index t 1 = 0 := by decide +kernel
theorem idx_5 : ∀ t : Fin grid0.N, win0_5.index t 0 = 0 ∧ win0_5.index t 1 = 0 := by decide +kernel

theorem iblk_0 : iblk m c 0 t (ix2 a l) = lanes (transpose S8192x16 [1, 0] (argK m c) transposes_S16x8192_S8192x16_1_0) (ix2 (row t.val a) l) := by
  rw [← (handed m c).v1]
  unfold iblk
  rw [View.read_apply]
  show V m c main_v1 _ = _
  congr 1
  blk_ext [idx_0 t, row]

theorem iblk_1 : iblk m c 1 t (ix2 a l) = lanes (transpose S8192x16 [1, 0] (argQ m c) transposes_S16x8192_S8192x16_1_0) (ix2 (row t.val a) l) := by
  rw [← (handed m c).v3]
  unfold iblk
  rw [View.read_apply]
  show V m c main_v3 _ = _
  congr 1
  blk_ext [idx_1 t, row]

theorem iblk_2 : iblk m c 2 t (ix2 a l) = lanes (argF m c) (ix2 (row t.val a) l) := by
  rw [← (handed m c).v4]
  unfold iblk
  rw [View.read_apply]
  show V m c main_v4 _ = _
  congr 1
  blk_ext [idx_2 t, row]

theorem iblk_3 (z : Fin 1) : iblk m c 3 t (ix2 z l) = laneRow (argB m c) (ix2 z l) := by
  rw [← (handed m c).v6]
  unfold iblk
  rw [View.read_apply]
  show V m c main_v6 _ = _
  congr 1
  blk_ext [idx_3 t]

theorem flip_at (x : FVec E S16x8192 .f32) (r : Fin 8192) (H : Fin 16) :
    transpose S8192x16 [1, 0] x transposes_S16x8192_S8192x16_1_0 (ix2 r H) = x (ix2 H r) := by
  pointwise

include hk hq in
/-- The two cotangents' blocks add up to real rows. -/
theorem cot_block : (show EReal from iblk m c 0 t (ix2 a l)) + (show EReal from iblk m c 1 t (ix2 a l)) = (cot dk dq l (row t.val a) : EReal) := by
  rw [iblk_0, iblk_1, lanes_at, lanes_at, hk, hq]
  unfold cot
  split
  · rw [flip_at, flip_at, EReal.coe_add]
  · rw [EReal.coe_zero, add_zero]

include hk hq in
/-- The sums of a block are the sums of all later rows, and what a point finds in the carried row those of later blocks. -/
theorem tail_found : ∀ (n : ℕ) (hn : n < cfg0.N),
    found m c ⟨n, hn⟩ (ix2 0 l) = ((from_ (cot dk dq l) ((31 - n + 1) * 256) : ℝ) : EReal) ∧
    ∀ a : Fin 256, tail m c ⟨n, hn⟩ (ix2 a l) = ((from_ (cot dk dq l) ((31 - n) * 256 + a.val) : ℝ) : EReal) := by
  have step : ∀ (n : ℕ) (hn : n < cfg0.N), found m c ⟨n, hn⟩ (ix2 0 l) = ((from_ (cot dk dq l) ((31 - n + 1) * 256) : ℝ) : EReal) →
      ∀ a : Fin 256, tail m c ⟨n, hn⟩ (ix2 a l) = ((from_ (cot dk dq l) ((31 - n) * 256 + a.val) : ℝ) : EReal) := by
    intro n hn hf a
    unfold tail
    rw [pay6_apply _ _ (fun b l => cot dk dq l (row n b)) (fun b l => cot_block m c dk dq hk hq ⟨n, hn⟩ b l) _ a l, hf, ← EReal.coe_add,
      from_block (T := 256) (cot dk dq l) (31 - n) a.val (le_of_lt a.isLt) (by omega)]
    refine congrArg _ (congrArg (· + _) (Finset.sum_congr rfl fun b _ => ?_))
    rw [← ext_val (cot dk dq l)]
    rfl
  intro n
  induction n with
  | zero =>
    intro hn
    have h0 : found m c ⟨0, hn⟩ (ix2 0 l) = ((from_ (cot dk dq l) ((31 - 0 + 1) * 256) : ℝ) : EReal) := by
      unfold found
      rw [dif_pos (show (⟨0, hn⟩ : Fin cfg0.N).val % 32 = 0 from rfl)]
      show _ = ((from_ (cot dk dq l) 8192 : ℝ) : EReal)
      rw [from_end, EReal.coe_zero]
      pointwise [k0_pay5]
    exact ⟨h0, step 0 hn h0⟩
  | succ n ih =>
    intro hn
    have hN : n + 1 < 32 := hn
    obtain ⟨-, i1⟩ := ih (Nat.lt_of_succ_lt hn)
    have h0 : found m c ⟨n + 1, hn⟩ (ix2 0 l) = ((from_ (cot dk dq l) ((31 - (n + 1) + 1) * 256) : ℝ) : EReal) := by
      unfold found
      rw [dif_neg (by show ¬(n + 1) % 32 = 0; omega)]
      have e : (outsAt0 m c n (Nat.lt_of_succ_lt hn)).2.2 = topRow (tail m c ⟨n, Nat.lt_of_succ_lt hn⟩) := by
        by_cases h : n % 32 = 0
        · rw [show outsAt0 m c n (Nat.lt_of_succ_lt hn) = _ from outs_A m c ⟨n, Nat.lt_of_succ_lt hn⟩ h]
        · rw [show outsAt0 m c n (Nat.lt_of_succ_lt hn) = _ from outs_B m c ⟨n, Nat.lt_of_succ_lt hn⟩ h]
      refine (congrFun e _).trans ((i1 0).trans ?_)
      rw [show (31 - (n + 1) + 1) * 256 = (31 - n) * 256 + (0 : Fin 256).val by show _ = _ + 0; omega]
    exact ⟨h0, step (n + 1) hn h0⟩

include hk hq in
/-- A block of the gate logits' gradient. -/
theorem grad_block : k0_pay1 (iblk m c 2 t) (iblk m c 3 t) (tail m c t) (ix2 a l) = grad (argF m c) (argB m c) dk dq l (row t.val a) := by
  rw [pay1_apply, (tail_found m c dk dq hk hq l t.val t.isLt).2 a, iblk_2, iblk_3, lanes_at, laneRow_at]
  unfold grad
  by_cases h : l.val < 16
  · rw [if_pos h, dif_pos h, dif_pos h, dif_pos h]; rfl
  · rw [if_neg h, dif_neg h]

theorem outs_4 : (outsAt0 m c t.val t.isLt).1 = k0_pay2 (iblk m c 2 t) (iblk m c 3 t) (tail m c t) := by
  by_cases h : t.val % 32 = 0
  · rw [outs_A m c t h]
  · rw [outs_B m c t h]

include hk hq in
/-- The accumulated bias gradient: the sum over the rows walked so far. -/
theorem outs_5 (z : Fin 1) : ∀ (n : ℕ) (hn : n < cfg0.N), (outsAt0 m c n hn).2.1 (ix2 z l) =
    from_ (grad (argF m c) (argB m c) dk dq l) ((31 - n) * 256) := by
  have part : ∀ (n : ℕ) (hn : n < cfg0.N), k0_pay3 (iblk m c 2 ⟨n, hn⟩) (iblk m c 3 ⟨n, hn⟩) (tail m c ⟨n, hn⟩) (ix2 z l) =
      ∑ b : Fin 256, ext (grad (argF m c) (argB m c) dk dq l) ((31 - n) * 256 + b.val) := by
    intro n hn
    rw [pay3_apply]
    refine Finset.sum_congr rfl fun b _ => ?_
    rw [grad_block m c dk dq hk hq ⟨n, hn⟩ b l, ← ext_val (grad (argF m c) (argB m c) dk dq l)]
    rfl
  have blk : ∀ n : ℕ, n < 32 → from_ (grad (argF m c) (argB m c) dk dq l) ((31 - n) * 256) =
      (∑ b : Fin 256, ext (grad (argF m c) (argB m c) dk dq l) ((31 - n) * 256 + b.val)) +
        from_ (grad (argF m c) (argB m c) dk dq l) ((31 - n + 1) * 256) := by
    intro n hn
    have := from_block (T := 256) (grad (argF m c) (argB m c) dk dq l) (31 - n) 0 (Nat.zero_le _) (by omega)
    simpa only [Nat.add_zero, Nat.zero_le, if_true] using this
  intro n
  induction n with
  | zero =>
    intro hn
    rw [show outsAt0 m c 0 hn = _ from outs_A m c ⟨0, hn⟩ rfl, blk 0 (by decide)]
    show k0_pay3 (iblk m c 2 ⟨0, hn⟩) (iblk m c 3 ⟨0, hn⟩) (tail m c ⟨0, hn⟩) (ix2 z l) = _ + from_ (grad (argF m c) (argB m c) dk dq l) 8192
    rw [part, from_end, add_zero]
  | succ n ih =>
    intro hn
    have hN : n + 1 < 32 := hn
    rw [show outsAt0 m c (n + 1) hn = _ from outs_B m c ⟨n + 1, hn⟩ (by show ¬(n + 1) % 32 = 0; omega), blk (n + 1) hN]
    refine Eq.trans ?_ (add_comm _ _)
    rw [show (31 - (n + 1) + 1) * 256 = (31 - n) * 256 by omega, ← ih (Nat.lt_of_succ_lt hn), ← part (n + 1) hn]
    unfold k0_pay4
    rw [shapeCast_self]
    rfl

end arrays

section finals
variable (m : (ℓ : Loc nD τ sig) → Buf (Elt E) ℓ) (c : Dev nD) (dk dq : S16x8192.Idx → ℝ)
  (hk : argK m c = up dk) (hq : argQ m c = up dq)

include hk hq in
/-- The first result: the gate logits' gradient. -/
theorem final_4 : (dats m 0 c).arrAt 4 cfg0.N = gradF (argF m c) (argB m c) dk dq := by
  refine (dats m 0 c).arrAt_eq_of_cover 4 _ (fun t _ => ?_) (fun (i : S8192x128.Idx) => ?_)
  · show (cfg0.win 4).cut (grid0.coords t) ((dats m 0 c).after 4 t) = _
    rw [after0_4, outs_4]
    funext j
    rw [View.read_apply]
    obtain ⟨a, l, rfl⟩ : ∃ (a : Fin 256) (l : Fin 128), j = ix2 a l := ⟨j 0, j 1, (ix2_eta j).symm⟩
    refine (grad_block m c dk dq hk hq t a l).trans ?_
    have e : ((cfg0.win 4).blk t).view.emb (ix2 a l) = ix2 (row t.val a) l := by
      funext b
      apply Fin.ext
      match b with
      | ⟨0, _⟩ => show win0_4.index t 0 * 256 + 1 * a.val = (31 - t.val) * 256 + a.val; rw [(idx_4 t).1, one_mul]
      | ⟨1, _⟩ => show win0_4.index t 1 * 128 + 1 * l.val = l.val; rw [(idx_4 t).2]; omega
    rw [e]
    rfl
  · have h0 : (i 0).val < 8192 := (i 0).isLt
    have h1 : (i 1).val < 128 := (i 1).isLt
    obtain ⟨t, ht⟩ : ∃ t : Fin cfg0.N, t.val = 31 - (i 0).val / 256 := ⟨⟨31 - (i 0).val / 256, by show _ < 32; omega⟩, rfl⟩
    refine ⟨t, flush0_4 _, ?_⟩
    show i ∈ ((View.whole main_v7_0).slice (win0_4.rect t)).set
    rw [View.set_slice_whole, Rect.mem_set_unit]
    intro a
    match a with
    | ⟨0, _⟩ =>
      show win0_4.index _ 0 * 256 ≤ (i 0).val ∧ (i 0).val < win0_4.index _ 0 * 256 + 256
      rw [(idx_4 _).1]; omega
    | ⟨1, _⟩ =>
      show win0_4.index _ 1 * 128 ≤ (i 1).val ∧ (i 1).val < win0_4.index _ 1 * 128 + 128
      rw [(idx_4 _).2]; omega

include hk hq in
/-- The second result: the bias's gradient. -/
theorem final_5 : (dats m 0 c).arrAt 5 cfg0.N = gradB (argF m c) (argB m c) dk dq := by
  refine (dats m 0 c).arrAt_eq_of_cover 5 _ (fun t hf => ?_) (fun (i : S1x128.Idx) => ?_)
  · have ht : t.val = 31 := by
      have := (flush0_5 t).mp hf
      have h16 : t.val < 32 := t.isLt
      omega
    show (cfg0.win 5).cut (grid0.coords t) ((dats m 0 c).after 5 t) = _
    rw [after0_5]
    funext j
    rw [View.read_apply]
    obtain ⟨a, l, rfl⟩ : ∃ (a : Fin 1) (l : Fin 128), j = ix2 a l := ⟨j 0, j 1, (ix2_eta j).symm⟩
    refine (outs_5 m c dk dq hk hq l a t.val t.isLt).trans ?_
    have e : ((cfg0.win 5).blk t).view.emb (ix2 a l) = ix2 a l := by
      funext b
      apply Fin.ext
      match b with
      | ⟨0, _⟩ => show win0_5.index t 0 * 1 + 1 * a.val = a.val; rw [(idx_5 t).1]; omega
      | ⟨1, _⟩ => show win0_5.index t 1 * 128 + 1 * l.val = l.val; rw [(idx_5 t).2]; omega
    rw [e, ht, show (31 - 31) * 256 = 0 from rfl, from_all]
    rfl
  · obtain ⟨t, ht⟩ : ∃ t : Fin cfg0.N, t.val = 31 := ⟨⟨31, by decide⟩, rfl⟩
    refine ⟨t, (flush0_5 _).mpr (by rw [ht]), ?_⟩
    have h0 : (i 0).val < 1 := (i 0).isLt
    have h1 : (i 1).val < 128 := (i 1).isLt
    show i ∈ ((View.whole main_v7_1).slice (win0_5.rect t)).set
    rw [View.set_slice_whole, Rect.mem_set_unit]
    intro a
    match a with
    | ⟨0, _⟩ =>
      show win0_5.index _ 0 * 1 ≤ (i 0).val ∧ (i 0).val < win0_5.index _ 0 * 1 + 1
      rw [(idx_5 _).1]; omega
    | ⟨1, _⟩ =>
      show win0_5.index _ 1 * 128 ≤ (i 1).val ∧ (i 1).val < win0_5.index _ 1 * 128 + 128
      rw [(idx_5 _).2]; omega

end finals

end Cert.GateIdeal.Bwd

end
-- ==== Proof.GateRef.lean ====
/- The gates' derivative as the reference computes it: its two results, where the two cotangents are real. -/
module

public import proofs.«01_k».proof.Proof.GateValue
public import proofs.«01_k».proof.Proof.Gen.GateRefIdeal.Run
public import proofs.«01_k».proof.Proof.Gen.GateRefIdeal.Read

@[expose] public section

set_option maxRecDepth 16384

noncomputable section

namespace Cert.GateRefIdeal.Bwd

open Cert.GateRefIdeal Cert.GateRefIdeal.Gen
open Idealize.ShloMosaic Idealize.ShloMosaic.TcCoe Idealize.ShloMosaic.Tactic
open Cert.Lift Cert.Sums
open Cert.GateIdeal.Bwd (cot grad gradF gradB lanes_at word_zero)

local notation "E" => Idealize.ShloMosaic.Ideal

/-- The softplus of `n`, as the reference writes it. -/
def soft (n : EReal) : EReal := max n 0 + Ideal.log (1 + Ideal.exp (-max n (-n)))

/-- The weight by which a softplus's derivative multiplies. -/
def weight (n : EReal) : EReal := Ideal.exp ((if n = ⊤ then 0 else n) - (if soft n = ⊤ then 0 else soft n))

theorem select_une (x a b : EReal) : Scalar.select (FloatOps.cmpf (F := E) (φ := .f32) CmpFPredicate.une x x) a b = b := by
  show Scalar.select (Ideal.cmp CmpFPredicate.une x x) a b = b
  simp [Scalar.select, Ideal.cmp]

theorem select_oeq (x y a b : EReal) : Scalar.select (FloatOps.cmpf (F := E) (φ := .f32) CmpFPredicate.oeq x y) a b = if x = y then a else b := by
  show Scalar.select (Ideal.cmp CmpFPredicate.oeq x y) a b = _
  by_cases h : x = y <;> simp [Scalar.select, Ideal.cmp, h]

/-- A real cotangent times the weight of the softplus of `-z`, twice negated: the cotangent over one and `exp z`. -/
theorem weight_div (t : ℝ) (z : EReal) : -(-(t : EReal) * weight (-z)) = Ideal.div t (1 + Ideal.exp z) := by
  induction z with
  | bot =>
    have h : weight (-⊥) = 1 := by
      have hs : soft ⊤ = ⊤ := by
        unfold soft
        rw [EReal.neg_top, max_eq_left bot_le, EReal.neg_top, show Ideal.exp ⊥ = 0 from rfl, add_zero, max_eq_left le_top,
          show ((1 : EReal)) = ((1 : ℝ) : EReal) from rfl, log_coe one_pos, EReal.top_add_coe]
      unfold weight
      rw [EReal.neg_bot, hs, if_pos rfl, sub_zero, show (0 : EReal) = ((0 : ℝ) : EReal) from rfl, exp_coe, Real.exp_zero]
      rfl
    rw [h, mul_one, neg_neg, show Ideal.exp ⊥ = 0 from rfl, add_zero, show ((1 : EReal)) = ((1 : ℝ) : EReal) from rfl, div_coe one_ne_zero, div_one]
  | top =>
    have h : weight (-⊤) = 0 := by
      have hs : soft ⊥ = 0 := by
        unfold soft
        rw [EReal.neg_bot, max_eq_right le_top, EReal.neg_top, show Ideal.exp ⊥ = 0 from rfl, add_zero, max_eq_right bot_le,
          show ((1 : EReal)) = ((1 : ℝ) : EReal) from rfl, log_coe one_pos, Real.log_one]
        simp
      unfold weight
      rw [EReal.neg_top, hs, if_neg bot_ne_top, if_neg EReal.zero_ne_top, sub_zero]
      rfl
    rw [h, mul_zero, neg_zero, show Ideal.exp ⊤ = ⊤ from rfl]
    have h1 : (1 : EReal) + ⊤ = ⊤ := EReal.coe_add_top 1
    rw [h1]
    unfold Ideal.div
    rw [if_neg (by simp), EReal.inv_top, mul_zero]
  | coe r =>
    have hs : soft ((-r : ℝ) : EReal) = ((max (-r) 0 + Real.log (1 + Real.exp (-max (-r) (- -r))) : ℝ) : EReal) := by
      unfold soft
      rw [← EReal.coe_neg (-r), show max ((-r : ℝ) : EReal) ((- -r : ℝ) : EReal) = ((max (-r) (- -r) : ℝ) : EReal) from (EReal.coe_strictMono.monotone.map_max).symm, ← EReal.coe_neg, exp_coe, show (1 : EReal) = ((1 : ℝ) : EReal) from rfl,
        show (0 : EReal) = ((0 : ℝ) : EReal) from rfl, ← EReal.coe_add, log_coe (by positivity), show max ((-r : ℝ) : EReal) ((0 : ℝ) : EReal) = ((max (-r) 0 : ℝ) : EReal) from (EReal.coe_strictMono.monotone.map_max).symm, ← EReal.coe_add]
    have hr : max (-r) 0 + Real.log (1 + Real.exp (-max (-r) (- -r))) = Real.log (1 + Real.exp (-r)) := by
      rcases le_total 0 r with h | h
      · rw [neg_neg, max_eq_right (by linarith), max_eq_right (by linarith), zero_add]
      · rw [neg_neg, max_eq_left (by linarith), max_eq_left (by linarith), neg_neg]
        have e : 1 + Real.exp (-r) = Real.exp (-r) * (1 + Real.exp r) := by
          rw [mul_add, mul_one, ← Real.exp_add, neg_add_cancel, Real.exp_zero, add_comm]
        rw [e, Real.log_mul (Real.exp_ne_zero _) (by positivity), Real.log_exp]
    have hw : weight (-(r : EReal)) = ((Real.exp (-r - Real.log (1 + Real.exp (-r))) : ℝ) : EReal) := by
      unfold weight
      rw [← EReal.coe_neg, hs, if_neg (EReal.coe_ne_top _), if_neg (EReal.coe_ne_top _), hr, ← EReal.coe_sub, exp_coe]
    rw [hw, exp_coe, show (1 : EReal) = ((1 : ℝ) : EReal) from rfl, ← EReal.coe_add, div_coe (by positivity), ← EReal.coe_neg,
      ← EReal.coe_mul, ← EReal.coe_neg]
    refine congrArg _ ?_
    rw [Real.exp_sub, Real.exp_log (by positivity), Real.exp_neg]
    have h0 := Real.exp_pos r
    field_simp
    ring

section nodes
variable (x0 : (⟨S8192x16, .f32⟩ : BufTy).Contents (Elt E)) (x1 : (⟨S16, .f32⟩ : BufTy).Contents (Elt E))
  (x2 x3 : (⟨S16x8192, .f32⟩ : BufTy).Contents (Elt E)) (r : Fin 8192) (h : Fin 16)

theorem logit_at : Read.val_main_call0_v0 (F := E) x0 x1 (ix2 r h) = -(x0 (ix2 r h) + x1 (ix1 h)) := by
  pointwise [Read.val_main_call0_v0, Read.val_main_v2, Read.val_main_v1, Read.val_main_v0]

theorem diff_at : Read.val_main_call0_call0_v3 (F := E) x0 x1 (ix2 r h) = Read.val_main_call0_v0 (F := E) x0 x1 (ix2 r h) := by
  have : Read.val_main_call0_call0_v3 (F := E) x0 x1 (ix2 r h) = Read.val_main_call0_v0 (F := E) x0 x1 (ix2 r h) - 0 := by
    pointwise [Read.val_main_call0_call0_v3, Read.val_main_call0_call0_v2, Read.val_main_call0_call0_cst]
  rw [this, sub_zero]

theorem soft_at : Read.val_main_call0_v1_0 (F := E) x0 x1 (ix2 r h) = soft (Read.val_main_call0_v0 (F := E) x0 x1 (ix2 r h)) := by
  refine (select_une (Read.val_main_call0_call0_v3 (F := E) x0 x1 (ix2 r h)) _ _).trans ?_
  unfold soft
  rw [← diff_at]
  have : Read.val_main_call0_call0_v11 (F := E) x0 x1 (ix2 r h) = max (Read.val_main_call0_v0 (F := E) x0 x1 (ix2 r h)) 0 +
      Ideal.log1p (Ideal.exp (-max (Read.val_main_call0_call0_v3 (F := E) x0 x1 (ix2 r h)) (-Read.val_main_call0_call0_v3 (F := E) x0 x1 (ix2 r h)))) := by
    pointwise [Read.val_main_call0_call0_v11, Read.val_main_call0_call0_v1, Read.val_main_call0_call0_v0, Read.val_main_call0_call0_cst,
      Read.val_main_call0_call0_v10, Read.val_main_call0_call0_v9, Read.val_main_call0_call0_v8, Read.val_main_call0_call0_v7]
    rfl
  rw [this, diff_at]
  rfl

theorem weight_at : Read.val_main_v3_1 (F := E) x0 x1 (ix2 r h) = weight (Read.val_main_call0_v0 (F := E) x0 x1 (ix2 r h)) := by
  have e : Read.val_main_v3_1 (F := E) x0 x1 (ix2 r h) = Ideal.exp
      (Scalar.select (FloatOps.cmpf (F := E) (φ := .f32) CmpFPredicate.oeq (Read.val_main_call0_v0 (F := E) x0 x1 (ix2 r h)) (Ideal.ofBits .f32 0x7F800000#32)) 0 (Read.val_main_call0_v0 (F := E) x0 x1 (ix2 r h)) -
        Scalar.select (FloatOps.cmpf (F := E) (φ := .f32) CmpFPredicate.oeq (Read.val_main_call0_v1_0 (F := E) x0 x1 (ix2 r h)) (Ideal.ofBits .f32 0x7F800000#32)) 0 (Read.val_main_call0_v1_0 (F := E) x0 x1 (ix2 r h))) := by
    pointwise [Read.val_main_v3_1, Read.val_main_call0_call0_v21, Read.val_main_call0_call0_v20, Read.val_main_call0_call0_v19, Read.val_main_call0_call0_v18,
      Read.val_main_call0_call0_v17, Read.val_main_call0_call0_v16, Read.val_main_call0_call0_v15, Read.val_main_call0_call0_v14, Read.val_main_call0_call0_v13,
      Read.val_main_call0_call0_cst_0, Read.val_main_call0_call0_cst_1, Read.val_main_call0_call0_cst_2, Read.val_main_call0_call0_cst_3]
  rw [e, select_oeq, select_oeq, soft_at, ofBits_inf]
  rfl

theorem flip_at (s : Fin 8192) : Read.val_main_v7 (F := E) x2 x3 (ix2 s h) = x2 (ix2 h s) + x3 (ix2 h s) := by
  pointwise [Read.val_main_v7, Read.val_main_v6]

theorem init_zero (i : S_.Idx) : Read.val_main_call2_call0_v0 (F := E) i = 0 := by
  pointwise [Read.val_main_call2_call0_v0, Read.val_main_call2_call0_cst]

theorem later_at : Read.val_main_v8 (F := E) x2 x3 (ix2 r h) = from_ (fun s => Read.val_main_v7 (F := E) x2 x3 (ix2 s h)) r.val := by
  rw [← window_from]
  unfold Read.val_main_v8 Host.reduceWindowAdd
  rw [init_zero]
  rfl

theorem grad_at : Read.val_main_v9 (F := E) x0 x1 x2 x3 (ix2 r h) =
    -(-(Read.val_main_v8 (F := E) x2 x3 (ix2 r h)) * weight (-(x0 (ix2 r h) + x1 (ix1 h)))) := by
  rw [← logit_at, ← weight_at]
  pointwise [Read.val_main_v9, Read.val_main_call3_v1, Read.val_main_call3_v0]

end nodes

section reals
variable (x0 : (⟨S8192x16, .f32⟩ : BufTy).Contents (Elt E)) (x1 : (⟨S16, .f32⟩ : BufTy).Contents (Elt E)) (dk dq : S16x8192.Idx → ℝ)

theorem grad_real (r : Fin 8192) (l : Fin 128) (h : l.val < 16) :
    Read.val_main_v9 (F := E) x0 x1 (up dk) (up dq) (ix2 r ⟨l.val, h⟩) = grad x0 x1 dk dq l r := by
  have e : Read.val_main_v8 (F := E) (up dk) (up dq) (ix2 r ⟨l.val, h⟩) = ((from_ (cot dk dq l) r.val : ℝ) : EReal) := by
    rw [later_at, from_eq, from_eq, coe_sum]
    refine Finset.sum_congr rfl fun s _ => ?_
    split
    · rw [flip_at, ← EReal.coe_add]
      unfold cot
      rw [dif_pos h]
    · rfl
  rw [grad_at, e, weight_div]
  unfold grad
  rw [dif_pos h]

/-- The first result is the gate logits' gradient. -/
theorem first : Read.val_main_v14 (F := E) x0 x1 (up dk) (up dq) = gradF x0 x1 dk dq := by
  funext i
  obtain ⟨r, l, rfl⟩ : ∃ (r : Fin 8192) (l : Fin 128), i = ix2 r l := ⟨i 0, i 1, (ix2_eta i).symm⟩
  refine (lanes_at (Read.val_main_v9 (F := E) x0 x1 (up dk) (up dq)) r l).trans ?_
  show _ = grad x0 x1 dk dq l r
  split
  · rename_i h; exact grad_real x0 x1 dk dq r l h
  · rename_i h; unfold grad; rw [dif_neg h]

theorem bias_at (h : Fin 16) : Read.val_main_v15 (F := E) x0 x1 (up dk) (up dq) (ix2 0 h) = ∑ r : Fin 8192, Read.val_main_v9 (F := E) x0 x1 (up dk) (up dq) (ix2 r h) := by
  pointwise [Read.val_main_v15, Read.val_main_v12, Read.val_main_v11, Read.val_main_v10, Read.val_main_cst, Read.val_main_cst_0]
  rw [Fin.sum_univ_one]

/-- The second result is the bias's gradient. -/
theorem second : Read.val_main_v16 (F := E) x0 x1 (up dk) (up dq) = gradB x0 x1 dk dq := by
  funext i
  obtain ⟨z, l, rfl⟩ : ∃ (z : Fin 1) (l : Fin 128), i = ix2 z l := ⟨i 0, i 1, (ix2_eta i).symm⟩
  obtain rfl : z = 0 := Subsingleton.elim _ _
  show _ = ∑ r : Fin 8192, grad x0 x1 dk dq l r
  unfold Read.val_main_v16
  by_cases h : l.val < 16
  · refine (pad_apply_of_inside _ _ _ _ _ _ _ (ix2 0 l) (ix2 0 ⟨l.val, h⟩) fun a => by
      match a with
      | ⟨0, _⟩ => rfl
      | ⟨1, _⟩ => show l.val = 0 + l.val * 1; omega).trans ?_
    rw [bias_at]
    exact Finset.sum_congr rfl fun r _ => grad_real x0 x1 dk dq r l h
  · refine (pad_apply_of_not_inside _ _ _ _ _ _ _ (ix2 0 l) 1 fun hh => h ?_).trans ((word_zero _).trans ?_)
    · have h2 : (l.val - 0) / (0 + 1) < 16 := hh.2.2
      omega
    · symm
      refine Finset.sum_eq_zero fun r _ => ?_
      unfold grad
      rw [dif_neg h]

end reals

end Cert.GateRefIdeal.Bwd

end
-- ==== Proof.GateClaims.lean ====
/- The claims about the gates' backward pass. -/
module

public import proofs.«01_k».proof.Defs
public import proofs.«01_k».proof.Proof.GateRef
public import proofs.«01_k».proof.Proof.RealSum
public import proofs.«01_k».proof.Proof.Gen.Pre_gate_finite
public import Idealize.ShloMosaic.Lib.Quiescent

@[expose] public section

noncomputable section

namespace Cert.Proof

open Idealize.ShloMosaic Idealize.SL.Sem Cert.Lift Cert.Sums
open Cert.GateIdeal.Bwd (argF argB argK argQ gradF gradB)

/-- The reference's two results, its cotangents being arrays of reals. -/
theorem gate_ref {x0 : (⟨Cert.GateRefIdeal.S8192x16, .f32⟩ : BufTy).Contents (Elt Ideal)} {x1 : (⟨Cert.GateRefIdeal.S16, .f32⟩ : BufTy).Contents (Elt Ideal)}
    {x2 x3 : (⟨Cert.GateRefIdeal.S16x8192, .f32⟩ : BufTy).Contents (Elt Ideal)} {f : Cert.GateIdeal.S8192x16.Idx → EReal} {b : Cert.GateIdeal.S16.Idx → EReal}
    (dk dq : Cert.GateIdeal.S16x8192.Idx → ℝ) (h0 : x0 = f) (h1 : x1 = b) (h2 : x2 = up dk) (h3 : x3 = up dq) :
    Cert.GateRefIdeal.Read.val_main_v14 (F := Ideal) x0 x1 x2 x3 = gradF f b dk dq
    ∧ Cert.GateRefIdeal.Read.val_main_v16 (F := Ideal) x0 x1 x2 x3 = gradB f b dk dq := by
  subst h0 h1 h2 h3
  exact ⟨Cert.GateRefIdeal.Bwd.first x0 x1 dk dq, Cert.GateRefIdeal.Bwd.second x0 x1 dk dq⟩

/-- Kernel and reference compute the same gradients of gate logits and bias, where the two cotangents are finite. -/
theorem algebraic_gate : Cert.algebraic_GateIdeal_GateRefIdeal_pre_gate_finite := by
  intro m ρ m' ρ' hpre hargs
  refine ⟨fun c => (Cert.GateIdeal.Gen.dats m 0 c).arrAt 4 Cert.GateIdeal.cfg0.N, fun c => (Cert.GateIdeal.Gen.dats m 0 c).arrAt 5 Cert.GateIdeal.cfg0.N,
    Cert.GateIdeal.Value.run_blocks m ρ, ?_⟩
  refine (θ_run Cert.GateRefIdeal.defs _ _).mono (fun r h c => ?_) (Cert.GateRefIdeal.Value.run m' ρ')
  obtain ⟨e0, e1, e2, e3⟩ := hargs c
  obtain ⟨f2, f3⟩ := hpre c
  obtain ⟨dk, hk⟩ := reals_of_finite _ _ f2
  obtain ⟨dq, hq⟩ := reals_of_finite _ _ f3
  obtain ⟨r0, r1⟩ := gate_ref (f := argF m c) (b := argB m c) dk dq e0 e1 (e2.trans hk) (e3.trans hq)
  obtain ⟨p0, p1, p2⟩ := h c
  exact ⟨p0.trans ((Cert.GateRefIdeal.Read.val_main_v14_eq m' c).trans (r0.trans (Cert.GateIdeal.Bwd.final_4 m c dk dq hk hq).symm)),
    p1.trans ((Cert.GateRefIdeal.Read.val_main_v16_eq m' c).trans (r1.trans (Cert.GateIdeal.Bwd.final_5 m c dk dq hk hq).symm)), p2⟩

theorem frame_gateRef : Cert.quiescent_GateRefIdeal := fun m ρ _ =>
  (θ_run Cert.GateRefIdeal.defs _ _).mono (fun r h => ⟨fun c => (h c).2.2, sem_eq_zero_of_no_sems (by decide) r.2⟩) (Cert.GateRefIdeal.Value.run (F := Ideal) m ρ)

theorem frame_gateRef_pre : Cert.quiescent_GateRefIdeal_pre_gate_finite := fun m ρ _ => frame_gateRef m ρ trivial

end Cert.Proof

end
-- ==== Proof.QkNormBlock.lean ====
/- The query and key norm's gradient: what a grid point leaves of its three results, head by head. -/
module

public import proofs.«01_k».proof.Proof.Gen.QkNormIdeal.Value
public import Idealize.ShloMosaic.Lib.Pipeline.ValueKit.Acc
public import Idealize.ShloMosaic.Lib.Pipeline.ValueKit.Tiles
public import Idealize.ShloMosaic.Lib.Pointwise

@[expose] public section

set_option maxRecDepth 16384

noncomputable section

namespace Cert.QkNormIdeal.Bwd

open Cert.QkNormIdeal Cert.QkNormIdeal.Gen
open Idealize.ShloMosaic Idealize.ShloMosaic.TcCoe Idealize.ShloMosaic.Tactic

local notation "E" => Idealize.ShloMosaic.Ideal

/-- Lane `l` of head `h` among 16 heads of 128 lanes. -/
def lane (h : ℕ) (l : Fin 128) : Fin 2048 := ⟨(128 * h + l.val) % 2048, Nat.mod_lt _ (by decide)⟩

/-- The lanes of one head. -/
def cols (X : Vec E S256x2048 .f32) (h : ℕ) : Vec E S256x128 .f32 := fun i => X (ix2 (i 0) (lane h (i 1)))

theorem ld_cols (X : Vec E S256x2048 .f32) (o h : ℕ) (hh : o = 128 * h) (inb : _) : View.ld (Val := Elt E) X (Rect.unit (s := S256x2048) ![0, o] ![256, 128] inb) = cols X h := by
  subst hh
  have hb : 128 * h + 128 ≤ 2048 := inb 1
  funext i
  obtain ⟨a, l, rfl⟩ : ∃ (a : Fin 256) (l : Fin 128), i = ix2 a l := ⟨i 0, i 1, (ix2_eta i).symm⟩
  refine (View.ld_unit_apply_of X ![0, 128 * h] ![256, 128] inb (ix2 a l) (ix2 a (lane h l)) ?_).trans rfl
  intro b
  have hl := l.isLt
  match b with
  | ⟨0, _⟩ => show a.val = 0 + a.val; omega
  | ⟨1, _⟩ => show (128 * h + l.val) % 2048 = 128 * h + l.val; omega

/-- The rows' gradient of one head, as it is stored. -/
def head (x dy : Vec E S256x128 .f32) (g : Vec E S1x128 .f32) : FVec E S256x128 .bf16 := k0_pay15 (k0_pay8 x dy g)

/-- The gain's gradient of a block of rows, summed over the first heads. -/
def heads (X D : Vec E S256x2048 .f32) (i : S1x128.Idx) : ℕ → EReal
  | 0 => 0
  | h + 1 => heads X D i h + k0_pay9 (cols X h) (cols D h) i

/-- The four parts of a block of rows, side by side: queries, keys, values, gates. -/
def whole (X0 X1 D0 D1 : Vec E S256x2048 .f32) (V : Vec E S256x2048 .bf16) (W : Vec E S256x128 .bf16) (g0 g1 : Vec E S1x128 .f32) (i : S256x6272.Idx) : EReal :=
  if h : (i 1).val < 2048 then head (cols X0 ((i 1).val / 128)) (cols D0 ((i 1).val / 128)) g0 (ix2 (i 0) ⟨(i 1).val % 128, Nat.mod_lt _ (by decide)⟩)
  else if h1 : (i 1).val < 4096 then head (cols X1 (((i 1).val - 2048) / 128)) (cols D1 (((i 1).val - 2048) / 128)) g1 (ix2 (i 0) ⟨(i 1).val % 128, Nat.mod_lt _ (by decide)⟩)
  else if h2 : (i 1).val < 6144 then V (ix2 (i 0) ⟨(i 1).val - 4096, by omega⟩)
  else W (ix2 (i 0) ⟨(i 1).val - 6144, by have : (i 1).val < 6272 := (i 1).isLt; omega⟩)

section pieces
variable (X0 X1 D0 D1 : Vec E S256x2048 .f32) (V : Vec E S256x2048 .bf16) (W : Vec E S256x128 .bf16) (g0 g1 : Vec E S1x128 .f32) (i : S256x6272.Idx) (a : Fin 256)

theorem tile_q (l : Fin 128) {o : ℕ} (h0 : (i 0 : ℕ) = a.val) (h1 : (i 1 : ℕ) = o + l.val) (ho : o < 2048 ∧ o % 128 = 0) (inb : _) (inb' : _) :
    head (View.ld (Val := Elt E) X0 (Rect.unit (s := S256x2048) ![0, o] ![256, 128] inb)) (View.ld (Val := Elt E) D0 (Rect.unit (s := S256x2048) ![0, o] ![256, 128] inb')) g0 (ix2 a l)
      = whole X0 X1 D0 D1 V W g0 g1 i := by
  obtain ⟨ho, hm⟩ := ho
  obtain ⟨h, rfl⟩ : ∃ h, o = 128 * h := ⟨o / 128, by omega⟩
  have hl := l.isLt
  rw [ld_cols X0 _ h rfl, ld_cols D0 _ h rfl]
  unfold whole
  rw [dif_pos (by omega), show (i 1 : ℕ) / 128 = h from by omega]
  exact congrArg _ (congrArg₂ ix2 (Fin.ext (by omega)) (Fin.ext (by show l.val = (i 1 : ℕ) % 128; omega)))

theorem tile_k (l : Fin 128) {o : ℕ} (h0 : (i 0 : ℕ) = a.val) (h1 : (i 1 : ℕ) = o + l.val) (ho : 2048 ≤ o ∧ o < 4096 ∧ o % 128 = 0) (inb : _) (inb' : _) :
    head (View.ld (Val := Elt E) X1 (Rect.unit (s := S256x2048) ![0, o - 2048] ![256, 128] inb)) (View.ld (Val := Elt E) D1 (Rect.unit (s := S256x2048) ![0, o - 2048] ![256, 128] inb')) g1 (ix2 a l)
      = whole X0 X1 D0 D1 V W g0 g1 i := by
  obtain ⟨h2, ho, hm⟩ := ho
  obtain ⟨h, hh⟩ : ∃ h, o - 2048 = 128 * h := ⟨(o - 2048) / 128, by omega⟩
  have hl := l.isLt
  rw [ld_cols X1 _ h hh, ld_cols D1 _ h hh]
  unfold whole
  rw [dif_neg (by omega), dif_pos (by omega), show ((i 1 : ℕ) - 2048) / 128 = h from by omega]
  exact congrArg _ (congrArg₂ ix2 (Fin.ext (by omega)) (Fin.ext (by show l.val = (i 1 : ℕ) % 128; omega)))

theorem tile_v (l : Fin 2048) (h0 : (i 0 : ℕ) = a.val) (h1 : (i 1 : ℕ) = 4096 + l.val) : V (ix2 a l) = whole X0 X1 D0 D1 V W g0 g1 i := by
  have hl := l.isLt
  unfold whole
  rw [dif_neg (by omega), dif_neg (by omega), dif_pos (by omega)]
  exact congrArg _ (congrArg₂ ix2 (Fin.ext (by omega)) (Fin.ext (by show l.val = (i 1 : ℕ) - 4096; omega)))

theorem tile_w (l : Fin 128) (h0 : (i 0 : ℕ) = a.val) (h1 : (i 1 : ℕ) = 6144 + l.val) : W (ix2 a l) = whole X0 X1 D0 D1 V W g0 g1 i := by
  have hl := l.isLt
  unfold whole
  rw [dif_neg (by omega), dif_neg (by omega), dif_neg (by omega)]
  exact congrArg _ (congrArg₂ ix2 (Fin.ext (by omega)) (Fin.ext (by show l.val = (i 1 : ℕ) - 6144; omega)))

theorem v_at (i : S256x2048.Idx) : k0_pay226 V i = V i := by
  obtain ⟨a, l, rfl⟩ : ∃ (a : Fin 256) (l : Fin 2048), i = ix2 a l := ⟨i 0, i 1, (ix2_eta i).symm⟩
  pointwise [k0_pay226]

theorem w_at (i : S256x128.Idx) : k0_pay227 W i = W i := by
  obtain ⟨a, l, rfl⟩ : ∃ (a : Fin 256) (l : Fin 128), i = ix2 a l := ⟨i 0, i 1, (ix2_eta i).symm⟩
  pointwise [k0_pay227]

theorem zero_at (i : S1x128.Idx) : k0_pay3 (F := E) i = 0 := by
  obtain ⟨z, l, rfl⟩ : ∃ (z : Fin 1) (l : Fin 128), i = ix2 z l := ⟨i 0, i 1, (ix2_eta i).symm⟩
  pointwise [k0_pay3]

theorem sum_at (p q : FVec E S1x128 .f32) (i : S1x128.Idx) : k0_pay17 p q i = p i + q i := rfl

/-- One more head. -/
theorem more (i : S1x128.Idx) (h : ℕ) (inb : _) (inb' : _) (v : FVec E S1x128 .f32) (hv : v i = heads X0 D0 i h) :
    k0_pay17 v (k0_pay9 (View.ld (Val := Elt E) X0 (Rect.unit (s := S256x2048) ![0, 128 * h] ![256, 128] inb)) (View.ld (Val := Elt E) D0 (Rect.unit (s := S256x2048) ![0, 128 * h] ![256, 128] inb'))) i
      = heads X0 D0 i (h + 1) := by
  rw [sum_at, hv, ld_cols X0 _ h rfl, ld_cols D0 _ h rfl]
  rfl

/-- The lanes of one head, as they are loaded. -/
abbrev loaded (X : Vec E S256x2048 .f32) (o : ℕ) (inb : ∀ a : Fin S256x2048.rank, ![0, o] a + ![256, 128] a ≤ S256x2048.size a) : Vec E S256x128 .f32 := View.ld (Val := Elt E) X (Rect.unit (s := S256x2048) ![0, o] ![256, 128] inb)

/-- The sum over the first heads with one more. -/
abbrev plus (X D : Vec E S256x2048 .f32) (v : FVec E S1x128 .f32) (o : ℕ) (inb : ∀ a : Fin S256x2048.rank, ![0, o] a + ![256, 128] a ≤ S256x2048.size a) : FVec E S1x128 .f32 := k0_pay17 v (k0_pay9 (loaded X o inb) (loaded D o inb))

/-- The sum over sixteen heads. -/
theorem sixteen (i : S1x128.Idx) :
    (plus X0 D0 (plus X0 D0 (plus X0 D0 (plus X0 D0 (plus X0 D0 (plus X0 D0 (plus X0 D0 (plus X0 D0 (plus X0 D0 (plus X0 D0 (plus X0 D0 (plus X0 D0 (plus X0 D0 (plus X0 D0 (plus X0 D0 (plus X0 D0 k0_pay3 0 inb_S256x2048_S256x128_0_0) 128 inb_S256x2048_S256x128_0_128) 256 inb_S256x2048_S256x128_0_256) 384 inb_S256x2048_S256x128_0_384) 512 inb_S256x2048_S256x128_0_512) 640 inb_S256x2048_S256x128_0_640) 768 inb_S256x2048_S256x128_0_768) 896 inb_S256x2048_S256x128_0_896) 1024 inb_S256x2048_S256x128_0_1024) 1152 inb_S256x2048_S256x128_0_1152) 1280 inb_S256x2048_S256x128_0_1280) 1408 inb_S256x2048_S256x128_0_1408) 1536 inb_S256x2048_S256x128_0_1536) 1664 inb_S256x2048_S256x128_0_1664) 1792 inb_S256x2048_S256x128_0_1792) 1920 inb_S256x2048_S256x128_0_1920) i = heads X0 D0 i 16 := by
  refine more X0 D0 i 15 _ _ _ ?_
  refine more X0 D0 i 14 _ _ _ ?_
  refine more X0 D0 i 13 _ _ _ ?_
  refine more X0 D0 i 12 _ _ _ ?_
  refine more X0 D0 i 11 _ _ _ ?_
  refine more X0 D0 i 10 _ _ _ ?_
  refine more X0 D0 i 9 _ _ _ ?_
  refine more X0 D0 i 8 _ _ _ ?_
  refine more X0 D0 i 7 _ _ _ ?_
  refine more X0 D0 i 6 _ _ _ ?_
  refine more X0 D0 i 5 _ _ _ ?_
  refine more X0 D0 i 4 _ _ _ ?_
  refine more X0 D0 i 3 _ _ _ ?_
  refine more X0 D0 i 2 _ _ _ ?_
  refine more X0 D0 i 1 _ _ _ ?_
  refine more X0 D0 i 0 _ _ _ ?_
  exact zero_at i

end pieces

section block
variable (m : (ℓ : Loc nD τ sig) → Buf (Elt E) ℓ) (c : Dev nD) (t : Fin cfg0.N)

/-- What a point leaves of its rows. -/
abbrev wholeAt : S256x6272.Idx → EReal := whole (X0_0 m c t) (X0_1 m c t) (iblk m c 2 t) (iblk m c 3 t) (iblk m c 4 t) (iblk m c 5 t) (iblk m c 6 t) (iblk m c 7 t)

set_option maxHeartbeats 4000000 in
theorem rows_eq : (outsAt0 m c t.val t.isLt).1 = wholeAt m c t := by
  funext i
  unfold wholeAt
  by_cases h : t.val % 32 = 0
  rw [outsAt0_A m c t h (by have : t.val < 32 := t.isLt; omega)]
  swap
  rw [outsAt0_B m c t h (by omega)]
  all_goals
    frame_out
    generalize X0_0 m c t = x0
    generalize X0_1 m c t = x1
    generalize iblk m c 2 t = x2
    generalize iblk m c 3 t = x3
    generalize iblk m c 4 t = x4
    generalize iblk m c 5 t = x5
    generalize iblk m c 6 t = x6
    generalize iblk m c 7 t = x7
    canon_tiles x h using View.cover_of_tiledBy _ ![256, 128] (by sl_kernel_rfl) _
    case piece0 =>
      obtain ⟨a, l, rfl⟩ : ∃ (a : Fin 256) (l : Fin 128), x = ix2 a l := ⟨x 0, x 1, (ix2_eta x).symm⟩
      exact (w_at x5 _).trans (tile_w x0 x1 x2 x3 x4 x5 x6 x7 i a l h0 h1)
    case piece1 =>
      obtain ⟨a, l, rfl⟩ : ∃ (a : Fin 256) (l : Fin 2048), x = ix2 a l := ⟨x 0, x 1, (ix2_eta x).symm⟩
      exact (v_at x4 _).trans (tile_v x0 x1 x2 x3 x4 x5 x6 x7 i a l h0 h1)
    all_goals
      obtain ⟨a, l, rfl⟩ : ∃ (a : Fin 256) (l : Fin 128), x = ix2 a l := ⟨x 0, x 1, (ix2_eta x).symm⟩
      first
      | exact tile_k x0 x1 x2 x3 x4 x5 x6 x7 i a l h0 h1 (of_decide_eq_true (Eq.refl true)) _ _
      | exact tile_q x0 x1 x2 x3 x4 x5 x6 x7 i a l h0 h1 (of_decide_eq_true (Eq.refl true)) _ _
      | exact tile_q x0 x1 x2 x3 x4 x5 x6 x7 i a l h0 (h1.trans (Nat.zero_add _).symm) (of_decide_eq_true (Eq.refl true)) _ _

theorem gain_add (p q : FVec E S1x128 .f32) (i : S1x128.Idx) : k0_pay1 p q i = q i + p i := by
  obtain ⟨z, l, rfl⟩ : ∃ (z : Fin 1) (l : Fin 128), i = ix2 z l := ⟨i 0, i 1, (ix2_eta i).symm⟩
  pointwise [k0_pay1]

set_option maxHeartbeats 4000000 in
/-- The gains' gradients after a point: what they held before, and this block's. -/
theorem gain_eq (i : S1x128.Idx) (n : ℕ) (hn : n < cfg0.N) :
    (outsAt0 m c n hn).2.1 i = (if h : 0 < n then (show EReal from (outsAt0 m c (n - 1) (lt_of_le_of_lt (Nat.sub_le n 1) hn)).2.1 i) else 0) + heads (X0_0 m c ⟨n, hn⟩) (iblk m c 2 ⟨n, hn⟩) i 16
    ∧ (outsAt0 m c n hn).2.2 i = (if h : 0 < n then (show EReal from (outsAt0 m c (n - 1) (lt_of_le_of_lt (Nat.sub_le n 1) hn)).2.2 i) else 0) + heads (X0_1 m c ⟨n, hn⟩) (iblk m c 3 ⟨n, hn⟩) i 16 := by
  by_cases h : n % 32 = 0
  · have hh : ¬0 < n := by have : n < 32 := hn; omega
    have e := outsAt0_A m c ⟨n, hn⟩ h (by show ¬1 ≤ n; omega)
    rw [dif_neg hh, dif_neg hh, zero_add, zero_add, show outsAt0 m c n hn = _ from e]
    refine ⟨?_, ?_⟩
    all_goals
      frame_out
      exact sixteen _ _ i
  · have hh : 0 < n := by omega
    have e := outsAt0_B m c ⟨n, hn⟩ h (by show 1 ≤ n; omega)
    rw [dif_pos hh, dif_pos hh, show outsAt0 m c n hn = _ from e]
    refine ⟨?_, ?_⟩
    all_goals
      frame_out
      refine (gain_add _ _ i).trans (congrArg _ ?_)
      exact sixteen _ _ i

end block

end Cert.QkNormIdeal.Bwd

end
-- ==== Proof.RmsReal.lean ====
/- Root-mean-square normalisation of a row of reals, and its derivative: the words of the programs' constants, and the
   two ways to write the derivative. -/
module

public import proofs.«01_k».proof.Proof.RealSum
public import proofs.«01_k».proof.Proof.Sums

@[expose] public section

noncomputable section

namespace Cert.Rms

open Idealize.ShloMosaic Cert.Lift

/-- The constant added to the mean square. -/
def eps : ℝ := 8796093 / 8796093022208

theorem eps_pos : 0 < eps := by unfold eps; norm_num

theorem ofBits_eps : Ideal.ofBits .f32 0x358637BD#32 = (eps : EReal) := by
  unfold eps
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

variable {n : ℕ} (x gd : Fin n → ℝ)

/-- The mean square of a row, kept away from zero. -/
def ms : ℝ := (∑ k, x k * x k) / n + eps

/-- The factor that normalises a row. -/
def inv : ℝ := (Real.sqrt (ms x))⁻¹

/-- The gradient of a row before its normalisation, of the scaled gradient `gd` after it. -/
def back (i : Fin n) : ℝ := inv x * (gd i - x i * inv x * ((∑ k, gd k * (x k * inv x)) / n))

theorem ms_pos : 0 < ms x := by
  unfold ms
  have : 0 ≤ (∑ k, x k * x k) / (n : ℝ) := div_nonneg (Finset.sum_nonneg fun k _ => mul_self_nonneg _) (Nat.cast_nonneg n)
  linarith [eps_pos]

theorem inv_sq : inv x * inv x = (ms x)⁻¹ := by
  unfold inv
  rw [← mul_inv, Real.mul_self_sqrt (ms_pos x).le]

/-- The reference's form: the square root's own derivative, halved, and the square's two factors. -/
theorem back_eq (i : Fin n) :
    gd i * inv x + x i * ((∑ k, x k * gd k) * (-(1 / 2) * (inv x / ms x)) / n) + (∑ k, x k * gd k) * (-(1 / 2) * (inv x / ms x)) / n * x i = back x gd i := by
  unfold back
  have h : ∑ k, gd k * (x k * inv x) = (∑ k, x k * gd k) * inv x := by
    rw [Finset.sum_mul]
    exact Finset.sum_congr rfl fun k _ => by ring
  rw [h, div_eq_mul_inv (inv x) (ms x), ← inv_sq]
  ring

/-- The mean square in the extended reals. -/
theorem ms_coe (d : EReal) (hd : d = ((n : ℝ) : EReal)) (hn : (n : ℝ) ≠ 0) : Ideal.div (∑ k, (x k : EReal) * (x k : EReal)) d + Ideal.ofBits .f32 0x358637BD#32 = (ms x : EReal) := by
  rw [hd, ofBits_eps]
  simp only [← EReal.coe_mul, ← coe_sum]
  rw [div_coe hn, ← EReal.coe_add]
  rfl

theorem inv_coe : Ideal.rsqrt (ms x : EReal) = (inv x : EReal) := rsqrt_coe (ms_pos x)

end Cert.Rms

end
-- ==== Proof.QkNormSpec.lean ====
/- The query and key norm's gradient in the reals: what the three result arrays are. -/
module

public import proofs.«01_k».proof.QkNormIdeal
public import proofs.«01_k».proof.Proof.RmsReal

@[expose] public section

noncomputable section

namespace Cert.QkNorm

open Cert.QkNormIdeal Idealize.ShloMosaic Cert.Lift

/-- Rows of 16 heads of 128 lanes. -/
abbrev Heads : Type := Fin 8192 → Fin 16 → Fin 128 → ℝ

/-- Lane `l` of head `h`. -/
def colOf (h : Fin 16) (l : Fin 128) : Fin 2048 := ⟨128 * h.val + l.val, by have := h.isLt; have := l.isLt; omega⟩

/-- The heads of the columns from `o` on. -/
def seg (o : ℕ) (ho : o + 2048 ≤ 6160) (p : S8192x6160.Idx → ℝ) : Heads := fun r h l =>
  p (ix2 r ⟨o + (colOf h l).val, by have := (colOf h l).isLt; omega⟩)

def dseg (d : S8192x2048.Idx → ℝ) : Heads := fun r h l => d (ix2 r (colOf h l))

/-- The gradient of the heads before their norm. -/
def headBack (y d : Heads) (g : S128.Idx → ℝ) : Heads := fun r h l => Rms.back (y r h) (fun k => d r h k * g (ix1 k)) l

/-- A row's part of the gain's gradient. -/
def partG (y d : Heads) (l : Fin 128) (r : Fin 8192) : ℝ := ∑ h : Fin 16, d r h l * (y r h l * Rms.inv (y r h))

/-- The gain's gradient. -/
def arrG (y d : Heads) : S1x128.Idx → EReal := fun i => ((∑ r : Fin 8192, partG y d (i 1) r : ℝ) : EReal)

/-- The projection's gradient: queries, keys, values, gates, and lanes of zeros. -/
def arrP (q k : Heads) (v : S8192x2048.Idx → EReal) (f : S8192x16.Idx → EReal) (r : Fin 8192) (l : Fin 6272) : EReal :=
  if h : l.val < 2048 then (q r ⟨l.val / 128, by omega⟩ ⟨l.val % 128, Nat.mod_lt _ (by decide)⟩ : EReal)
  else if h1 : l.val < 4096 then (k r ⟨(l.val - 2048) / 128, by omega⟩ ⟨(l.val - 2048) % 128, Nat.mod_lt _ (by decide)⟩ : EReal)
  else if h2 : l.val < 6144 then v (ix2 r ⟨l.val - 4096, by omega⟩)
  else if h3 : l.val < 6160 then f (ix2 r ⟨l.val - 6144, by omega⟩)
  else 0

end Cert.QkNorm

end
-- ==== Proof.QkNormValue.lean ====
/- The query and key norm's gradient over the extended reals: what its three result arrays hold, where the arguments that matter are real. -/
module

public import proofs.«01_k».proof.Proof.QkNormBlock
public import proofs.«01_k».proof.Proof.QkNormSpec
public import Idealize.ShloMosaic.Lib.Pipeline.ValueKit.Geometry
public import Idealize.ShloMosaic.Lib.KernelVsHost

@[expose] public section

set_option maxRecDepth 16384

noncomputable section

namespace Cert.QkNormIdeal.Bwd

open Cert.QkNormIdeal Cert.QkNormIdeal.Gen
open Idealize.ShloMosaic Idealize.ShloMosaic.TcCoe Idealize.SL.Sem Idealize.ShloMosaic.Tactic Idealize.ShloMosaic.StableHlo
open Idealize.ShloMosaic.Pipeline (Dat)
open Cert.Lift Cert.Sums Cert.QkNorm

local notation "E" => Idealize.ShloMosaic.Ideal

section pay
variable (x d : Vec E S256x128 .f32) (g : Vec E S1x128 .f32) (a : Fin 256) (l : Fin 128) (z : Fin 1)
  (xr dr : Fin 256 → Fin 128 → ℝ) (gr : Fin 128 → ℝ)
  (hx : ∀ a k, x (ix2 a k) = (xr a k : EReal)) (hd : ∀ a k, d (ix2 a k) = (dr a k : EReal)) (hg : ∀ k, g (ix2 0 k) = (gr k : EReal))

theorem inv_at : k0_pay6 x (ix2 a z) = Ideal.rsqrt (Ideal.div (∑ k : Fin 128, x (ix2 a k) * x (ix2 a k)) (Ideal.ofBits .f32 0x43000000#32) + Ideal.ofBits .f32 0x358637BD#32) := by
  pointwise [k0_pay6, k0_pay5]

include hx in
theorem inv_real : k0_pay6 x (ix2 a z) = (Rms.inv (xr a) : EReal) := by
  rw [inv_at]
  simp only [hx]
  rw [Rms.ms_coe (xr a) _ (ofBits_128.trans (by norm_num)) (by norm_num), Rms.inv_coe]

theorem xn_at : k0_pay7 x (ix2 a l) = x (ix2 a l) * k0_pay6 x (ix2 a 0) := by
  unfold k0_pay7
  generalize k0_pay6 x = y
  pointwise [k0_pay5]

include hx in
theorem xn_real : k0_pay7 x (ix2 a l) = ((xr a l * Rms.inv (xr a) : ℝ) : EReal) := by
  rw [xn_at, inv_real x a 0 xr hx, hx, EReal.coe_mul]

theorem head_at : head x d g (ix2 a l) = k0_pay6 x (ix2 a 0) * (d (ix2 a l) * g (ix2 0 l)
    - k0_pay7 x (ix2 a l) * Ideal.div (∑ k : Fin 128, d (ix2 a k) * g (ix2 0 k) * k0_pay7 x (ix2 a k)) (Ideal.ofBits .f32 0x43000000#32)) := by
  unfold head k0_pay8 k0_pay15
  generalize k0_pay6 x = y5
  generalize k0_pay7 x = y6
  pointwise

include hx hd hg in
/-- The rows' gradient of a head. -/
theorem head_real : head x d g (ix2 a l) = (Rms.back (xr a) (fun k => dr a k * gr k) l : EReal) := by
  rw [head_at, inv_real x a 0 xr hx]
  simp only [xn_real x a _ xr hx, hd, hg]
  simp only [← EReal.coe_mul, ← coe_sum]
  rw [ofBits_128, div_coe (by norm_num), ← EReal.coe_mul, ← EReal.coe_sub, ← EReal.coe_mul]
  unfold Rms.back
  norm_num

theorem gain_at : k0_pay9 x d (ix2 z l) = ∑ a : Fin 256, d (ix2 a l) * k0_pay7 x (ix2 a l) := by
  unfold k0_pay9
  generalize k0_pay7 x = y6
  pointwise

include hx hd in
theorem gain_real : k0_pay9 x d (ix2 z l) = ((∑ a : Fin 256, dr a l * (xr a l * Rms.inv (xr a)) : ℝ) : EReal) := by
  rw [gain_at, coe_sum]
  refine Finset.sum_congr rfl fun a _ => ?_
  rw [xn_real x a l xr hx, hd, ← EReal.coe_mul]

end pay

section heads
variable (X D : Vec E S256x2048 .f32) (g : Vec E S1x128 .f32) (z : Fin 1) (l : Fin 128) (y d : Fin 256 → Fin 16 → Fin 128 → ℝ)
  (hX : ∀ a h l, X (ix2 a (colOf h l)) = (y a h l : EReal)) (hD : ∀ a h l, D (ix2 a (colOf h l)) = (d a h l : EReal))

theorem lane_eq (h : Fin 16) : lane h.val l = colOf h l := Fin.ext (Nat.mod_eq_of_lt (colOf h l).isLt)

include hX hD in
theorem part_real (h : Fin 16) : k0_pay9 (cols X h.val) (cols D h.val) (ix2 z l) = ((∑ a : Fin 256, d a h l * (y a h l * Rms.inv (y a h)) : ℝ) : EReal) :=
  gain_real _ _ l z (fun a => y a h) (fun a => d a h)
    (fun a k => (show X (ix2 a (lane h.val k)) = _ by rw [lane_eq, hX])) (fun a k => (show D (ix2 a (lane h.val k)) = _ by rw [lane_eq, hD]))

include hX hD in
theorem heads_upto (n : ℕ) (hn : n ≤ 16) : heads X D (ix2 z l) n = ((upto (fun h : Fin 16 => ∑ a : Fin 256, d a h l * (y a h l * Rms.inv (y a h))) n : ℝ) : EReal) := by
  induction n with
  | zero => show (0 : EReal) = _; unfold upto; simp
  | succ n ih =>
    show heads X D (ix2 z l) n + k0_pay9 (cols X n) (cols D n) (ix2 z l) = _
    rw [ih (by omega), part_real X D z l y d hX hD ⟨n, by omega⟩, ← EReal.coe_add]
    unfold upto
    rw [Finset.sum_range_succ]
    exact congrArg (fun y : ℝ => ((_ + y : ℝ) : EReal)) (ext_val (fun h : Fin 16 => ∑ a : Fin 256, d a h l * (y a h l * Rms.inv (y a h))) ⟨n, by omega⟩).symm

include hX hD in
/-- A block's part of a gain's gradient. -/
theorem heads_real : heads X D (ix2 z l) 16 = ((∑ a : Fin 256, ∑ h : Fin 16, d a h l * (y a h l * Rms.inv (y a h)) : ℝ) : EReal) := by
  rw [heads_upto X D z l y d hX hD 16 le_rfl, upto_all, Finset.sum_comm]

end heads

section host
variable (m : (ℓ : Loc nD τ sig) → Buf (Elt E) ℓ) (c : Dev nD)

abbrev argP : FVec E S8192x6160 .f32 := m ((c : Thread nD τ).loc main_arg0)
abbrev argGq : FVec E S128 .f32 := m ((c : Thread nD τ).loc main_arg1)
abbrev argGk : FVec E S128 .f32 := m ((c : Thread nD τ).loc main_arg2)
abbrev argDq : FVec E S8192x2048 .f32 := m ((c : Thread nD τ).loc main_arg3)
abbrev argDk : FVec E S8192x2048 .f32 := m ((c : Thread nD τ).loc main_arg4)
abbrev argDv : FVec E S8192x2048 .f32 := m ((c : Thread nD τ).loc main_arg5)
abbrev argDf : FVec E S8192x16 .f32 := m ((c : Thread nD τ).loc main_arg6)

/-- The zero with which the host pads. -/
def zeroWord : FVec E S_ .f32 := sitofp .f32 (constantI S_ 32 0#32)

def padP (p : FVec E S8192x6160 .f32) : FVec E S8192x6272 .f32 := pad S8192x6272 ![0, 0] ![0, 112] ![0, 0] p zeroWord pads_S8192x6160_S8192x6272_000_01120 h_S_
def padF (f : FVec E S8192x16 .f32) : FVec E S8192x128 .bf16 := truncf .bf16 (pad S8192x128 ![0, 0] ![0, 112] ![0, 0] f zeroWord pads_S8192x16_S8192x128_000_01120 h_S_) bitsLt_bf16_f32
def castV (v : FVec E S8192x2048 .f32) : FVec E S8192x2048 .bf16 := truncf .bf16 v bitsLt_bf16_f32
def gainRow (g : FVec E S128 .f32) : FVec E S1x128 .f32 := broadcastInDim S1x128 ![1] bcast_S128_S1x128_1 g

/-- What the host lines hand to the call. -/
structure Handed : Prop where
  v0 : V m c main_v0 = padP (argP m c)
  v1 : V m c main_v1 = castV (argDv m c)
  v3 : V m c main_v3 = padF (argDf m c)
  v4 : V m c main_v4 = gainRow (argGq m c)
  v5 : V m c main_v5 = gainRow (argGk m c)

theorem handed : Handed m c := by
  constructor <;> (simp only [V, hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]; after_results_simp <;> rfl)

theorem gainRow_at (g : FVec E S128 .f32) (z : Fin 1) (l : Fin 128) : gainRow g (ix2 z l) = g (ix1 l) := by
  pointwise [gainRow]

theorem zeroWord_at (i : S_.Idx) : zeroWord i = 0 := by
  show ((((0#32 : BitVec 32).toInt : ℤ) : ℝ) : EReal) = 0
  norm_num

theorem padP_at (p : FVec E S8192x6160 .f32) (r : Fin 8192) (l : Fin 6272) (h : l.val < 6160) : padP p (ix2 r l) = p (ix2 r ⟨l.val, h⟩) := by
  unfold padP
  exact pad_apply_of_inside _ _ _ _ _ _ _ (ix2 r l) (ix2 r ⟨l.val, h⟩) fun a => by
    match a with
    | ⟨0, _⟩ => show r.val = 0 + r.val * 1; omega
    | ⟨1, _⟩ => show l.val = 0 + l.val * 1; omega

theorem padF_at (f : FVec E S8192x16 .f32) (r : Fin 8192) (l : Fin 128) : padF f (ix2 r l) = if h : l.val < 16 then f (ix2 r ⟨l.val, h⟩) else 0 := by
  unfold padF
  show pad S8192x128 ![0, 0] ![0, 112] ![0, 0] f zeroWord pads_S8192x16_S8192x128_000_01120 h_S_ (ix2 r l) = _
  split
  · rename_i h
    exact pad_apply_of_inside _ _ _ _ _ _ _ (ix2 r l) (ix2 r ⟨l.val, h⟩) fun a => by
      match a with
      | ⟨0, _⟩ => show r.val = 0 + r.val * 1; omega
      | ⟨1, _⟩ => show l.val = 0 + l.val * 1; omega
  · rename_i h
    refine (pad_apply_of_not_inside _ _ _ _ _ _ _ (ix2 r l) 1 fun hh => h ?_).trans (zeroWord_at _)
    have h2 : (l.val - 0) / (0 + 1) < 16 := hh.2.2
    omega

variable (t : Fin cfg0.N) (a : Fin 256) (l : Fin 128) (k : Fin 2048) (z : Fin 1)

theorem lt32 : t.val < 32 := t.isLt

/-- Row `a` of the block of point `t`. -/
def row : Fin 8192 := ⟨t.val * 256 + a.val, by have := a.isLt; have := lt32 t; omega⟩

theorem idx_0 : ∀ t : Fin grid0.N, win0_0.index t 0 = t.val ∧ win0_0.index t 1 = 0 := by decide +kernel
theorem idx_1 : ∀ t : Fin grid0.N, win0_1.index t 0 = t.val ∧ win0_1.index t 1 = 1 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = t.val ∧ win0_4.index t 1 = 0 := by decide +kernel
theorem idx_5 : ∀ t : Fin grid0.N, win0_5.index t 0 = t.val ∧ win0_5.index t 1 = 0 := by decide +kernel
theorem idx_6 : ∀ t : Fin grid0.N, win0_6.index t 0 = 0 ∧ win0_6.index t 1 = 0 := by decide +kernel
theorem idx_7 : ∀ t : Fin grid0.N, win0_7.index t 0 = 0 ∧ win0_7.index t 1 = 0 := by decide +kernel
theorem idx_8 : ∀ t : Fin grid0.N, win0_8.index t 0 = t.val ∧ win0_8.index t 1 = 0 := by decide +kernel
theorem idx_9 : ∀ t : Fin grid0.N, win0_9.index t 0 = 0 ∧ win0_9.index t 1 = 0 := by decide +kernel
theorem idx_10 : ∀ t : Fin grid0.N, win0_10.index t 0 = 0 ∧ win0_10.index t 1 = 0 := by decide +kernel

theorem xblk_0 : X0_0 m c t (ix2 a k) = argP m c (ix2 (row t a) ⟨0 + k.val, by omega⟩) := by
  refine Eq.trans ?_ (padP_at (argP m c) (row t a) ⟨0 + k.val, by omega⟩ (by show 0 + k.val < 6160; omega))
  rw [← (handed m c).v0]
  unfold X0_0 Pipeline.Window.fill
  rw [dif_pos (moved0_0 t (ix2 a k))]
  unfold iblk
  rw [View.read_apply]
  show V m c main_v0 _ = _
  congr 1
  blk_ext [idx_0 t, row]

theorem xblk_1 : X0_1 m c t (ix2 a k) = argP m c (ix2 (row t a) ⟨2048 + k.val, by omega⟩) := by
  refine Eq.trans ?_ (padP_at (argP m c) (row t a) ⟨2048 + k.val, by omega⟩ (by show 2048 + k.val < 6160; omega))
  rw [← (handed m c).v0]
  unfold X0_1 Pipeline.Window.fill
  rw [dif_pos (moved0_1 t (ix2 a k))]
  unfold iblk
  rw [View.read_apply]
  show V m c main_v0 _ = _
  congr 1
  blk_ext [idx_1 t, row]

theorem iblk_2 : iblk m c 2 t (ix2 a k) = argDq m c (ix2 (row t a) k) := by
  rw [show argDq m c = V m c main_arg3 from (V_main_arg3 m c).symm]
  unfold iblk
  rw [View.read_apply]
  show V m c main_arg3 _ = _
  congr 1
  blk_ext [idx_2 t, row]

theorem iblk_3 : iblk m c 3 t (ix2 a k) = argDk m c (ix2 (row t a) k) := by
  rw [show argDk m c = V m c main_arg4 from (V_main_arg4 m c).symm]
  unfold iblk
  rw [View.read_apply]
  show V m c main_arg4 _ = _
  congr 1
  blk_ext [idx_3 t, row]

theorem iblk_4 : iblk m c 4 t (ix2 a k) = argDv m c (ix2 (row t a) k) := by
  rw [show argDv m c (ix2 (row t a) k) = castV (argDv m c) (ix2 (row t a) k) from rfl, ← (handed m c).v1]
  unfold iblk
  rw [View.read_apply]
  show V m c main_v1 _ = _
  congr 1
  blk_ext [idx_4 t, row]

theorem iblk_5 : iblk m c 5 t (ix2 a l) = if h : l.val < 16 then argDf m c (ix2 (row t a) ⟨l.val, h⟩) else 0 := by
  rw [← padF_at, ← (handed m c).v3]
  unfold iblk
  rw [View.read_apply]
  show V m c main_v3 _ = _
  congr 1
  blk_ext [idx_5 t, row]

theorem iblk_6 : iblk m c 6 t (ix2 z l) = argGq m c (ix1 l) := by
  rw [← gainRow_at (argGq m c) z l, ← (handed m c).v4]
  unfold iblk
  rw [View.read_apply]
  show V m c main_v4 _ = _
  congr 1
  blk_ext [idx_6 t]

theorem iblk_7 : iblk m c 7 t (ix2 z l) = argGk m c (ix1 l) := by
  rw [← gainRow_at (argGk m c) z l, ← (handed m c).v5]
  unfold iblk
  rw [View.read_apply]
  show V m c main_v5 _ = _
  congr 1
  blk_ext [idx_7 t]

end host

section real
variable (m : (ℓ : Loc nD τ sig) → Buf (Elt E) ℓ) (c : Dev nD)
  (p : S8192x6160.Idx → ℝ) (gq gk : S128.Idx → ℝ) (dq dk : S8192x2048.Idx → ℝ)
  (hp : argP m c = up p) (hgq : argGq m c = up gq) (hgk : argGk m c = up gk) (hdq : argDq m c = up dq) (hdk : argDk m c = up dk)
  (t : Fin cfg0.N) (a : Fin 256) (l : Fin 128) (z : Fin 1) (h : Fin 16)

/-- The queries' and the keys' heads. -/
abbrev heads0 (p : S8192x6160.Idx → ℝ) : Heads := seg 0 (by decide) p
abbrev heads1 (p : S8192x6160.Idx → ℝ) : Heads := seg 2048 (by decide) p

include hp in
theorem q_real : X0_0 m c t (ix2 a (colOf h l)) = (heads0 p (row t a) h l : EReal) := by
  rw [xblk_0, hp]
  rfl

include hp in
theorem k_real : X0_1 m c t (ix2 a (colOf h l)) = (heads1 p (row t a) h l : EReal) := by
  rw [xblk_1, hp]
  rfl

include hdq in
theorem dq_real : iblk m c 2 t (ix2 a (colOf h l)) = (dseg dq (row t a) h l : EReal) := by
  rw [iblk_2, hdq]
  rfl

include hdk in
theorem dk_real : iblk m c 3 t (ix2 a (colOf h l)) = (dseg dk (row t a) h l : EReal) := by
  rw [iblk_3, hdk]
  rfl

/-- A head's gradient where the rows, their gradient and the gain are real. -/
theorem cols_real (X D : Vec E S256x2048 .f32) (g : Vec E S1x128 .f32) (y d : Heads) (gr : S128.Idx → ℝ)
    (hX : ∀ a h l, X (ix2 a (colOf h l)) = (y (row t a) h l : EReal)) (hD : ∀ a h l, D (ix2 a (colOf h l)) = (d (row t a) h l : EReal))
    (hg : ∀ l, g (ix2 0 l) = (gr (ix1 l) : EReal)) : head (cols X h.val) (cols D h.val) g (ix2 a l) = (headBack y d gr (row t a) h l : EReal) :=
  head_real _ _ _ a l (fun a => y (row t a) h) (fun a => d (row t a) h) (fun k => gr (ix1 k))
    (fun a k => (show X (ix2 a (lane h.val k)) = _ by rw [lane_eq, hX])) (fun a k => (show D (ix2 a (lane h.val k)) = _ by rw [lane_eq, hD])) hg

include hp hgq hgk hdq hdk in
/-- What a point leaves of its rows. -/
theorem rows_at (j : Fin 6272) : (outsAt0 m c t.val t.isLt).1 (ix2 a j)
    = arrP (headBack (heads0 p) (dseg dq) gq) (headBack (heads1 p) (dseg dk) gk) (argDv m c) (argDf m c) (row t a) j := by
  rw [rows_eq]
  unfold wholeAt whole arrP
  have hj := j.isLt
  by_cases h0 : j.val < 2048
  · refine (dif_pos h0).trans ?_
    refine Eq.trans ?_ (dif_pos h0).symm
    exact cols_real t a ⟨j.val % 128, Nat.mod_lt _ (by decide)⟩ ⟨j.val / 128, by omega⟩ _ _ _ (heads0 p) (dseg dq) gq
      (fun a h l => q_real m c p hp t a l h) (fun a h l => dq_real m c dq hdq t a l h) (fun l => by rw [iblk_6, hgq])
  · refine (dif_neg h0).trans ?_
    refine Eq.trans ?_ (dif_neg h0).symm
    by_cases h1 : j.val < 4096
    · refine (dif_pos h1).trans ?_
      refine Eq.trans ?_ (dif_pos h1).symm
      have e : (⟨j.val % 128, Nat.mod_lt _ (by decide)⟩ : Fin 128) = ⟨(j.val - 2048) % 128, Nat.mod_lt _ (by decide)⟩ := Fin.ext (by show j.val % 128 = (j.val - 2048) % 128; omega)
      refine (congrArg (fun l => head _ _ _ (ix2 a l)) e).trans ?_
      exact cols_real t a ⟨(j.val - 2048) % 128, Nat.mod_lt _ (by decide)⟩ ⟨(j.val - 2048) / 128, by omega⟩ _ _ _ (heads1 p) (dseg dk) gk
        (fun a h l => k_real m c p hp t a l h) (fun a h l => dk_real m c dk hdk t a l h) (fun l => by rw [iblk_7, hgk])
    · refine (dif_neg h1).trans ?_
      refine Eq.trans ?_ (dif_neg h1).symm
      by_cases h2 : j.val < 6144
      · refine (dif_pos h2).trans ?_
        refine Eq.trans ?_ (dif_pos h2).symm
        exact iblk_4 m c t a _
      · refine (dif_neg h2).trans ?_
        refine Eq.trans ?_ (dif_neg h2).symm
        refine (iblk_5 m c t a ⟨j.val - 6144, by omega⟩).trans ?_
        by_cases h3 : j.val < 6160
        · refine (dif_pos (show j.val - 6144 < 16 by omega)).trans ?_
          exact Eq.symm (dif_pos h3)
        · refine (dif_neg (show ¬j.val - 6144 < 16 by omega)).trans ?_
          exact Eq.symm (dif_neg h3)

/-- A running sum over the blocks of rows, one block a point. -/
theorem running (f : Fin 8192 → ℝ) (o : (n : ℕ) → n < cfg0.N → EReal)
    (ho : ∀ n hn, o n hn = (if h : 0 < n then o (n - 1) (lt_of_le_of_lt (Nat.sub_le n 1) hn) else 0) + ((∑ a : Fin 256, f (row ⟨n, hn⟩ a) : ℝ) : EReal))
    (n : ℕ) (hn : n < cfg0.N) : o n hn = ((upto f ((n + 1) * 256) : ℝ) : EReal) := by
  have e : ∀ n hn, ((∑ a : Fin 256, f (row ⟨n, hn⟩ a) : ℝ) : EReal) = ((∑ a : Fin 256, ext f (n * 256 + a.val) : ℝ) : EReal) := fun n hn =>
    congrArg _ (Finset.sum_congr rfl fun a _ => (ext_val f (row ⟨n, hn⟩ a)).symm)
  induction n with
  | zero =>
    rw [ho, dif_neg (by decide), zero_add, e, upto_block, EReal.coe_add]
    unfold upto
    simp
  | succ n ih =>
    rw [ho, dif_pos (Nat.succ_pos n), e, upto_block, EReal.coe_add]
    exact congrArg (· + _) (ih (Nat.lt_of_succ_lt hn))

include hp hdq in
theorem gain_q (n : ℕ) (hn : n < cfg0.N) : (outsAt0 m c n hn).2.1 (ix2 z l) = ((upto (partG (heads0 p) (dseg dq) l) ((n + 1) * 256) : ℝ) : EReal) := by
  refine running (partG (heads0 p) (dseg dq) l) (fun n hn => (outsAt0 m c n hn).2.1 (ix2 z l)) (fun n hn => ?_) n hn
  refine (gain_eq m c (ix2 z l) n hn).1.trans (congrArg _ ?_)
  exact heads_real _ _ z l (fun a => heads0 p (row ⟨n, hn⟩ a)) (fun a => dseg dq (row ⟨n, hn⟩ a))
    (fun a h l => q_real m c p hp ⟨n, hn⟩ a l h) (fun a h l => dq_real m c dq hdq ⟨n, hn⟩ a l h)

include hp hdk in
theorem gain_k (n : ℕ) (hn : n < cfg0.N) : (outsAt0 m c n hn).2.2 (ix2 z l) = ((upto (partG (heads1 p) (dseg dk) l) ((n + 1) * 256) : ℝ) : EReal) := by
  refine running (partG (heads1 p) (dseg dk) l) (fun n hn => (outsAt0 m c n hn).2.2 (ix2 z l)) (fun n hn => ?_) n hn
  refine (gain_eq m c (ix2 z l) n hn).2.trans (congrArg _ ?_)
  exact heads_real _ _ z l (fun a => heads1 p (row ⟨n, hn⟩ a)) (fun a => dseg dk (row ⟨n, hn⟩ a))
    (fun a h l => k_real m c p hp ⟨n, hn⟩ a l h) (fun a h l => dk_real m c dk hdk ⟨n, hn⟩ a l h)

include hp hgq hgk hdq hdk in
/-- The first result: the projection's gradient. -/
theorem final_8 : (dats m 0 c).arrAt 8 cfg0.N = fun i : S8192x6272.Idx =>
    arrP (headBack (heads0 p) (dseg dq) gq) (headBack (heads1 p) (dseg dk) gk) (argDv m c) (argDf m c) (i 0) (i 1) := by
  refine (dats m 0 c).arrAt_eq_of_cover 8 _ (fun t hf => ?_) (fun (i : S8192x6272.Idx) => ?_)
  · show (cfg0.win 8).cut (grid0.coords t) ((dats m 0 c).after 8 t) = _
    rw [after0_8]
    funext j
    rw [View.read_apply]
    obtain ⟨a, l, rfl⟩ : ∃ (a : Fin 256) (l : Fin 6272), j = ix2 a l := ⟨j 0, j 1, (ix2_eta j).symm⟩
    refine (rows_at m c p gq gk dq dk hp hgq hgk hdq hdk t a l).trans ?_
    have e : ((cfg0.win 8).blk t).view.emb (ix2 a l) = ix2 (row t a) l := by
      funext b
      apply Fin.ext
      match b with
      | ⟨0, _⟩ => show win0_8.index t 0 * 256 + 1 * a.val = t.val * 256 + a.val; rw [(idx_8 t).1]; omega
      | ⟨1, _⟩ => show win0_8.index t 1 * 6272 + 1 * l.val = l.val; rw [(idx_8 t).2]; omega
    rw [e]
    rfl
  · have h0 : (i 0).val < 8192 := (i 0).isLt
    have h1 : (i 1).val < 6272 := (i 1).isLt
    obtain ⟨t, ht⟩ : ∃ t : Fin cfg0.N, t.val = (i 0).val / 256 := ⟨⟨(i 0).val / 256, by show _ < 32; omega⟩, rfl⟩
    refine ⟨t, flush0_8 _, ?_⟩
    show i ∈ ((View.whole main_v6_0).slice (win0_8.rect t)).set
    rw [View.set_slice_whole, Rect.mem_set_unit]
    intro b
    match b with
    | ⟨0, _⟩ =>
      show win0_8.index _ 0 * 256 ≤ (i 0).val ∧ (i 0).val < win0_8.index _ 0 * 256 + 256
      rw [(idx_8 _).1]; omega
    | ⟨1, _⟩ =>
      show win0_8.index _ 1 * 6272 ≤ (i 1).val ∧ (i 1).val < win0_8.index _ 1 * 6272 + 6272
      rw [(idx_8 _).2]; omega

include hp hdq in
/-- The second result: the gradient of the queries' gain. -/
theorem final_9 : (dats m 0 c).arrAt 9 cfg0.N = arrG (heads0 p) (dseg dq) := by
  refine (dats m 0 c).arrAt_eq_of_cover 9 _ (fun t hf => ?_) (fun (i : S1x128.Idx) => ?_)
  · have ht : t.val = 31 := by
      have := (flush0_9 t).mp hf
      have := lt32 t
      omega
    show (cfg0.win 9).cut (grid0.coords t) ((dats m 0 c).after 9 t) = _
    rw [after0_9]
    funext j
    rw [View.read_apply]
    obtain ⟨a, l, rfl⟩ : ∃ (a : Fin 1) (l : Fin 128), j = ix2 a l := ⟨j 0, j 1, (ix2_eta j).symm⟩
    refine (gain_q m c p dq hp hdq l a t.val t.isLt).trans ?_
    have e : ((cfg0.win 9).blk t).view.emb (ix2 a l) = ix2 a l := by
      funext b
      apply Fin.ext
      match b with
      | ⟨0, _⟩ => show win0_9.index t 0 * 1 + 1 * a.val = a.val; rw [(idx_9 _).1]; omega
      | ⟨1, _⟩ => show win0_9.index t 1 * 128 + 1 * l.val = l.val; rw [(idx_9 _).2]; omega
    rw [e, show (t.val + 1) * 256 = 8192 from by omega, upto_all]
    rfl
  · obtain ⟨t, ht⟩ : ∃ t : Fin cfg0.N, t.val = 31 := ⟨⟨31, by decide⟩, rfl⟩
    refine ⟨t, (flush0_9 _).mpr (by rw [ht]), ?_⟩
    have h0 : (i 0).val < 1 := (i 0).isLt
    have h1 : (i 1).val < 128 := (i 1).isLt
    show i ∈ ((View.whole main_v6_1).slice (win0_9.rect t)).set
    rw [View.set_slice_whole, Rect.mem_set_unit]
    intro a
    match a with
    | ⟨0, _⟩ =>
      show win0_9.index _ 0 * 1 ≤ (i 0).val ∧ (i 0).val < win0_9.index _ 0 * 1 + 1
      rw [(idx_9 _).1]; omega
    | ⟨1, _⟩ =>
      show win0_9.index _ 1 * 128 ≤ (i 1).val ∧ (i 1).val < win0_9.index _ 1 * 128 + 128
      rw [(idx_9 _).2]; omega

include hp hdk in
/-- The third result: the gradient of the keys' gain. -/
theorem final_10 : (dats m 0 c).arrAt 10 cfg0.N = arrG (heads1 p) (dseg dk) := by
  refine (dats m 0 c).arrAt_eq_of_cover 10 _ (fun t hf => ?_) (fun (i : S1x128.Idx) => ?_)
  · have ht : t.val = 31 := by
      have := (flush0_10 t).mp hf
      have := lt32 t
      omega
    show (cfg0.win 10).cut (grid0.coords t) ((dats m 0 c).after 10 t) = _
    rw [after0_10]
    funext j
    rw [View.read_apply]
    obtain ⟨a, l, rfl⟩ : ∃ (a : Fin 1) (l : Fin 128), j = ix2 a l := ⟨j 0, j 1, (ix2_eta j).symm⟩
    refine (gain_k m c p dk hp hdk l a t.val t.isLt).trans ?_
    have e : ((cfg0.win 10).blk t).view.emb (ix2 a l) = ix2 a l := by
      funext b
      apply Fin.ext
      match b with
      | ⟨0, _⟩ => show win0_10.index t 0 * 1 + 1 * a.val = a.val; rw [(idx_10 _).1]; omega
      | ⟨1, _⟩ => show win0_10.index t 1 * 128 + 1 * l.val = l.val; rw [(idx_10 _).2]; omega
    rw [e, show (t.val + 1) * 256 = 8192 from by omega, upto_all]
    rfl
  · obtain ⟨t, ht⟩ : ∃ t : Fin cfg0.N, t.val = 31 := ⟨⟨31, by decide⟩, rfl⟩
    refine ⟨t, (flush0_10 _).mpr (by rw [ht]), ?_⟩
    have h0 : (i 0).val < 1 := (i 0).isLt
    have h1 : (i 1).val < 128 := (i 1).isLt
    show i ∈ ((View.whole main_v6_2).slice (win0_10.rect t)).set
    rw [View.set_slice_whole, Rect.mem_set_unit]
    intro a
    match a with
    | ⟨0, _⟩ =>
      show win0_10.index _ 0 * 1 ≤ (i 0).val ∧ (i 0).val < win0_10.index _ 0 * 1 + 1
      rw [(idx_10 _).1]; omega
    | ⟨1, _⟩ =>
      show win0_10.index _ 1 * 128 ≤ (i 1).val ∧ (i 1).val < win0_10.index _ 1 * 128 + 128
      rw [(idx_10 _).2]; omega

end real

end Cert.QkNormIdeal.Bwd

end
-- ==== Proof.QkNormRef.lean ====
/- The reference's gradient of the query and key norm: what its three results are, where the arguments that matter are real. -/
module

public import proofs.«01_k».proof.Proof.QkNormSpec
public import proofs.«01_k».proof.Proof.Gen.QkNormRefIdeal.Read
public import Idealize.ShloMosaic.Lib.KernelVsHost
public import Idealize.ShloMosaic.Lib.Pointwise

@[expose] public section

set_option maxRecDepth 16384

noncomputable section

namespace Cert.QkNormRefIdeal.Bwd

open Cert.QkNormRefIdeal Cert.QkNormRefIdeal.Gen
open Idealize.ShloMosaic Idealize.ShloMosaic.TcCoe Idealize.SL.Sem Idealize.ShloMosaic.Tactic
open Cert.Lift Cert.Sums Cert.QkNorm

local notation "E" => Idealize.ShloMosaic.Ideal

section sums
variable {n0 n1 n2 : ℕ} {t : Shape} (h : (⟨3, ![n0, n1, n2]⟩ : Shape).ReducesTo [0, 1] t) (l : Fin n2)

/-- The sum over the first two axes of a rank-3 array, as an iterated sum. -/
theorem sum_two_axes (j : t.Idx) (hj : ∀ b, (j b).val = l.val) (v : (⟨3, ![n0, n1, n2]⟩ : Shape).Idx → EReal) (a : EReal) :
    Idealize.ShloMosaic.Ideal.hostReduceAdd h v a j = a + ∑ r : Fin n0, ∑ k : Fin n1, v (ix3 r k l) := by
  refine congrArg (a + ·) ((Finset.sum_filter_eq_sum_of_fiber _ (fun k : Fin n0 × Fin n1 => ix3 k.1 k.2 l)
    (fun _ _ e => Prod.ext (congrFun e 0) (congrFun e 1)) (fun i => ?_) v).trans (Fintype.sum_prod_type _))
  have h1 : t.rank = 1 := h.1
  constructor
  · intro e
    refine ⟨(i 0, i 1), ?_⟩
    funext b
    apply Fin.ext
    match b with
    | ⟨0, _⟩ => rfl
    | ⟨1, _⟩ => rfl
    | ⟨2, _⟩ => exact (hj ⟨0, by omega⟩).symm.trans (congrArg Fin.val (congrFun e ⟨0, by omega⟩)).symm
  · rintro ⟨k, rfl⟩
    funext b
    apply Fin.ext
    refine Eq.trans ?_ (hj b).symm
    match b with
    | ⟨0, _⟩ => rfl
    | ⟨_ + 1, hb⟩ => exact absurd hb (by omega)

end sums

section terms
variable (y d : FVec E S8192x16x128 .f32) (g : FVec E S128 .f32)

def ms : FVec E S8192x16x1 .f32 :=
  addf (Host.divf (broadcastInDim S8192x16x1 ![0, 1] bcast_S8192x16_S8192x16x1_0_1 (Host.reduceAdd (mulf y y) (Read.val_main_cst (F := E)) reducesTo_S8192x16x128_S8192x16_d2 h_S_)) (Read.val_main_v9 (F := E))) (Read.val_main_v11 (F := E))

def inv : FVec E S8192x16x1 .f32 := Host.rsqrt (ms y)

/-- The inverse square root's own derivative, halved. -/
def factor : FVec E S8192x16x1 .f32 := mulf (Read.val_main_v15 (F := E)) (Host.divf (inv y) (ms y))

def wide : FVec E S8192x16x128 .f32 := broadcastInDim S8192x16x128 ![0, 1, 2] bcast_S8192x16x1_S8192x16x128_0_1_2 (inv y)

def hat : FVec E S8192x16x128 .f32 := mulf y (wide y)

/-- The gradient times the gain. -/
def scaled : FVec E S8192x16x128 .f32 := mulf d (broadcastInDim S8192x16x128 ![0, 1, 2] bcast_S1x1x128_S8192x16x128_0_1_2 (Read.val_main_v19 (F := E) g))

def dot : FVec E S8192x16x1 .f32 :=
  shapeCast _ (Host.reduceAdd (mulf y (scaled d g)) (Read.val_main_cst_14 (F := E)) reducesTo_S8192x16x128_S8192x16_d2 h_S_) shapeCasts_S8192x16_S8192x16x1

/-- The mean square's gradient, along a head's lanes. -/
def share : FVec E S8192x16x128 .f32 :=
  broadcastInDim S8192x16x128 ![0, 1] bcast_S8192x16_S8192x16x128_0_1
    (Host.reduceAdd (Host.divf (mulf (dot y d g) (factor y)) (Read.val_main_v74 (F := E))) (Read.val_main_cst_16 (F := E)) reducesTo_S8192x16x1_S8192x16_d2 h_S_)

/-- The heads' gradient. -/
def rows : FVec E S8192x16x128 .f32 := addf (addf (mulf (scaled d g) (wide y)) (mulf y (share y d g))) (mulf (share y d g) y)

/-- The gain's gradient. -/
def gain : FVec E S1x128 .f32 :=
  broadcastInDim S1x128 ![1] bcast_S128_S1x128_1 (Host.reduceAdd (shapeCast _ (Host.reduceAdd (mulf (hat y) d)
    (Read.val_main_cst_12 (F := E)) reducesTo_S8192x16x128_S128_d0_1 h_S_) shapeCasts_S128_S1x1x128) (Read.val_main_cst_13 (F := E)) reducesTo_S1x1x128_S128_d0_1 h_S_)

end terms

section real
variable (y d : FVec E S8192x16x128 .f32) (g : FVec E S128 .f32) (yr dr : Heads) (gr : S128.Idx → ℝ)
  (r : Fin 8192) (h : Fin 16) (l : Fin 128) (z : Fin 1)
  (hy : ∀ r h l, y (ix3 r h l) = (yr r h l : EReal)) (hd : ∀ r h l, d (ix3 r h l) = (dr r h l : EReal)) (hg : g = up gr)

theorem ms_at : ms y (ix3 r h z) = Ideal.div (∑ k : Fin 128, y (ix3 r h k) * y (ix3 r h k)) (Ideal.ofBits .f32 0x43000000#32) + Ideal.ofBits .f32 0x358637BD#32 := by
  pointwise [ms, Read.val_main_v9, Read.val_main_v11, Read.val_main_cst, Read.val_main_cst_0, Read.val_main_cst_1]

include hy in
theorem ms_real : ms y (ix3 r h z) = (Rms.ms (yr r h) : EReal) := by
  rw [ms_at]
  simp only [hy]
  exact Rms.ms_coe (yr r h) _ (ofBits_128.trans (by norm_num)) (by norm_num)

include hy in
theorem inv_real : inv y (ix3 r h z) = (Rms.inv (yr r h) : EReal) := by
  refine (show inv y (ix3 r h z) = Ideal.rsqrt (ms y (ix3 r h z)) from rfl).trans ?_
  rw [ms_real y yr r h z hy, Rms.inv_coe]

theorem factor_at : factor y (ix3 r h z) = Ideal.ofBits .f32 0xBF000000#32 * Ideal.div (inv y (ix3 r h z)) (ms y (ix3 r h z)) := by
  unfold factor Read.val_main_v15 Read.val_main_cst_2
  generalize inv y = y7
  generalize ms y = y6
  pointwise

include hy in
theorem factor_real : factor y (ix3 r h z) = ((-(1 / 2) * (Rms.inv (yr r h) / Rms.ms (yr r h)) : ℝ) : EReal) := by
  rw [factor_at, inv_real y yr r h z hy, ms_real y yr r h z hy, Rms.ofBits_neg_half, div_coe (Rms.ms_pos _).ne', ← EReal.coe_mul]

theorem wide_at : wide y (ix3 r h l) = inv y (ix3 r h 0) := by
  unfold wide
  generalize inv y = y7
  pointwise

include hy in
theorem hat_real : hat y (ix3 r h l) = ((yr r h l * Rms.inv (yr r h) : ℝ) : EReal) := by
  refine (show hat y (ix3 r h l) = y (ix3 r h l) * wide y (ix3 r h l) from rfl).trans ?_
  rw [wide_at, inv_real y yr r h 0 hy, hy, EReal.coe_mul]

theorem scaled_at : scaled d g (ix3 r h l) = d (ix3 r h l) * g (ix1 l) := by
  pointwise [scaled, Read.val_main_v19]

include hd hg in
theorem scaled_real : scaled d g (ix3 r h l) = ((dr r h l * gr (ix1 l) : ℝ) : EReal) := by
  rw [scaled_at, hd, hg, EReal.coe_mul]

theorem dot_at : dot y d g (ix3 r h z) = ∑ k : Fin 128, y (ix3 r h k) * scaled d g (ix3 r h k) := by
  unfold dot Read.val_main_cst_14
  generalize scaled d g = s
  pointwise

include hy hd hg in
theorem dot_real : dot y d g (ix3 r h z) = ((∑ k : Fin 128, yr r h k * (dr r h k * gr (ix1 k)) : ℝ) : EReal) := by
  rw [dot_at, coe_sum]
  refine Finset.sum_congr rfl fun k _ => ?_
  rw [scaled_real d g dr gr r h k hd hg, hy, ← EReal.coe_mul]

theorem share_at : share y d g (ix3 r h l) = Ideal.div (dot y d g (ix3 r h 0) * factor y (ix3 r h 0)) (Ideal.ofBits .f32 0x43000000#32) := by
  unfold share Read.val_main_v74 Read.val_main_cst_16 Read.val_main_cst_15
  generalize dot y d g = s
  generalize factor y = y'
  pointwise
  try simp only [Fin.sum_univ_one]
  try rfl

include hy hd hg in
theorem share_real : share y d g (ix3 r h l) = (((∑ k : Fin 128, yr r h k * (dr r h k * gr (ix1 k))) * (-(1 / 2) * (Rms.inv (yr r h) / Rms.ms (yr r h))) / 128 : ℝ) : EReal) := by
  rw [share_at, dot_real y d g yr dr gr r h 0 hy hd hg, factor_real y yr r h 0 hy, ofBits_128, ← EReal.coe_mul, div_coe (by norm_num)]

include hy hd hg in
/-- The heads' gradient. -/
theorem rows_real : rows y d g (ix3 r h l) = (headBack yr dr gr r h l : EReal) := by
  refine (show rows y d g (ix3 r h l) = scaled d g (ix3 r h l) * wide y (ix3 r h l) + y (ix3 r h l) * share y d g (ix3 r h l)
    + share y d g (ix3 r h l) * y (ix3 r h l) from rfl).trans ?_
  rw [share_real y d g yr dr gr r h l hy hd hg, wide_at, inv_real y yr r h 0 hy, scaled_real d g dr gr r h l hd hg, hy]
  rw [← EReal.coe_mul, ← EReal.coe_mul, ← EReal.coe_mul, ← EReal.coe_add, ← EReal.coe_add]
  unfold headBack
  rw [← Rms.back_eq]
  norm_num

theorem gain_at : gain y d (ix2 z l) = ∑ r : Fin 8192, ∑ h : Fin 16, hat y (ix3 r h l) * d (ix3 r h l) := by
  unfold gain Read.val_main_cst_12 Read.val_main_cst_13
  generalize hat y = y'
  pointwise
  rw [sum_two_axes _ l _ (fun b => by match b with | ⟨0, _⟩ => rfl)]
  simp only [Fin.sum_univ_one, zero_add]
  refine (shapeCast_apply _ _ (ix3 0 0 l) (ix1 l) ?_).trans ?_
  · rewrite [Shape.rowMajor_val_three, Shape.rowMajor_val_one]
    show l.val = (0 * 1 + 0) * 128 + l.val
    omega
  · rw [Idealize.ShloMosaic.ValueIdx.hostReduceAdd_apply, sum_two_axes _ l _ (fun b => by match b with | ⟨0, _⟩ => rfl)]
    refine Eq.trans ?_ (zero_add _)
    refine congrArg₂ (· + ·) (Idealize.ShloMosaic.Ideal.ofBits_zero_f32) rfl

include hy hd in
theorem gain_eq : gain y d = arrG yr dr := by
  funext i
  obtain ⟨z, l, rfl⟩ : ∃ (z : Fin 1) (l : Fin 128), i = ix2 z l := ⟨i 0, i 1, (ix2_eta i).symm⟩
  rw [gain_at]
  show _ = ((∑ r : Fin 8192, partG yr dr l r : ℝ) : EReal)
  rw [coe_sum]
  refine Finset.sum_congr rfl fun r _ => ?_
  unfold partG
  rw [coe_sum]
  refine Finset.sum_congr rfl fun h _ => ?_
  rw [hat_real y yr r h l hy, hd, ← EReal.coe_mul, mul_comm]

end real

section cat
variable (x0 : FVec E S8192x6160 .f32) (x1 x2 : FVec E S128 .f32) (x3 x4 x5 : FVec E S8192x2048 .f32) (x6 : FVec E S8192x16 .f32)
  (r : Fin 8192) (h : Fin 16) (l : Fin 128)

theorem v81_rows : Read.val_main_v81 (F := E) x0 x1 x3 = rows (Read.val_main_v1 (F := E) x0) (Read.val_main_v61 (F := E) x3) x1 := rfl
theorem v60_rows : Read.val_main_v60 (F := E) x0 x2 x4 = rows (Read.val_main_v3 (F := E) x0) (Read.val_main_v40 (F := E) x4) x2 := rfl
theorem v93_gain : Read.val_main_v93 (F := E) x0 x3 = gain (Read.val_main_v1 (F := E) x0) (Read.val_main_v61 (F := E) x3) := rfl
theorem v94_gain : Read.val_main_v94 (F := E) x0 x4 = gain (Read.val_main_v3 (F := E) x0) (Read.val_main_v40 (F := E) x4) := rfl

/-- Columns read as heads of lanes. -/
theorem split_at (x : FVec E S8192x2048 .f32) : shapeCast S8192x16x128 x shapeCasts_S8192x2048_S8192x16x128 (ix3 r h l) = x (ix2 r (colOf h l)) := by
  refine shapeCast_apply x _ (ix3 r h l) (ix2 r (colOf h l)) ?_
  rewrite [Shape.rowMajor_val_two, Shape.rowMajor_val_three]
  show r.val * 2048 + (128 * h.val + l.val) = (r.val * 16 + h.val) * 128 + l.val
  omega

/-- Heads of lanes read as columns. -/
theorem join_at (x : FVec E S8192x16x128 .f32) (j : Fin 2048) (hj : h.val = j.val / 128) (hl : l.val = j.val % 128) :
    shapeCast S8192x2048 x shapeCasts_S8192x16x128_S8192x2048 (ix2 r j) = x (ix3 r h l) := by
  refine shapeCast_apply x _ (ix2 r j) (ix3 r h l) ?_
  rewrite [Shape.rowMajor_val_two, Shape.rowMajor_val_three]
  show (r.val * 16 + h.val) * 128 + l.val = r.val * 2048 + j.val
  omega

theorem v61_at : Read.val_main_v61 (F := E) x3 (ix3 r h l) = x3 (ix2 r (colOf h l)) := split_at r h l x3
theorem v40_at : Read.val_main_v40 (F := E) x4 (ix3 r h l) = x4 (ix2 r (colOf h l)) := split_at r h l x4

/-- The columns from `o` on. -/
theorem slice_at (o : ℕ) (ho : o + 2048 ≤ 6160) (x : FVec E S8192x6160 .f32) (hs : S8192x6160.Slices ![0, o] S8192x2048) (j : Fin 2048) :
    extractStridedSlice S8192x2048 ![0, o] x hs (ix2 r j) = x (ix2 r ⟨o + j.val, by omega⟩) := by
  pointwise

theorem v1_at : Read.val_main_v1 (F := E) x0 (ix3 r h l) = x0 (ix2 r ⟨0 + (colOf h l).val, by have := (colOf h l).isLt; omega⟩) := by
  refine (split_at r h l _).trans ?_
  exact slice_at r 0 (by decide) x0 _ (colOf h l)

theorem v3_at : Read.val_main_v3 (F := E) x0 (ix3 r h l) = x0 (ix2 r ⟨2048 + (colOf h l).val, by have := (colOf h l).isLt; omega⟩) := by
  refine (split_at r h l _).trans ?_
  exact slice_at r 2048 (by decide) x0 _ (colOf h l)

/-- An array of `w` columns padded to start at column `o`. -/
theorem padded_at {w o e n : ℕ} (x : FVec E (⟨2, ![8192, w]⟩ : Shape) .f32) (z : FVec E S_ .f32) (hz : ∀ i, z i = 0)
    (hp : (⟨2, ![8192, w]⟩ : Shape).Pads (![0, o] : Fin 2 → Nat) ![0, e] ![0, 0] (⟨2, ![8192, n]⟩ : Shape)) (j : Fin n) :
    pad (⟨2, ![8192, n]⟩ : Shape) ![0, o] ![0, e] ![0, 0] x z hp h_S_ (ix2 r j)
      = if h : o ≤ j.val ∧ j.val < o + w then x (ix2 r ⟨j.val - o, by omega⟩) else 0 := by
  split
  · rename_i h
    exact pad_apply_of_inside _ _ _ _ _ _ _ (ix2 r j) (ix2 r ⟨j.val - o, by omega⟩) fun a => by
      match a with
      | ⟨0, _⟩ => show r.val = 0 + r.val * 1; omega
      | ⟨1, _⟩ => show j.val = o + (j.val - o) * 1; omega
  · rename_i h
    refine (pad_apply_of_not_inside _ _ _ _ _ _ _ (ix2 r j) 1 fun hh => h ?_).trans (hz _)
    have h1 : o ≤ j.val := hh.1
    have h2 : (j.val - o) / (0 + 1) < w := hh.2.2
    rw [Nat.div_one] at h2
    omega

theorem word_zero (i : S_.Idx) : constant (F := E) S_ FTy.f32 0#32 i = 0 := Idealize.ShloMosaic.Ideal.ofBits_zero_f32

theorem int_zero (i : S_.Idx) : Read.val_main_call0_v0 (F := E) i = 0 := by
  show ((((0#32 : BitVec 32).toInt : ℤ) : ℝ) : EReal) = 0
  norm_num

theorem v92_at (j : Fin 6272) : Read.val_main_v92 (F := E) x0 x1 x2 x3 x4 x5 x6 (ix2 r j)
    = if h : 0 ≤ j.val ∧ j.val < 0 + 6160 then Read.val_main_v90 (F := E) x0 x1 x2 x3 x4 x5 x6 (ix2 r ⟨j.val - 0, by omega⟩) else 0 :=
  padded_at (e := 112) r (Read.val_main_v90 (F := E) x0 x1 x2 x3 x4 x5 x6) _ int_zero pads_S8192x6160_S8192x6272_000_01120 j

theorem v90_at (j : Fin 6160) : Read.val_main_v90 (F := E) x0 x1 x2 x3 x4 x5 x6 (ix2 r j)
    = (((if h : 6144 ≤ j.val ∧ j.val < 6144 + 16 then x6 (ix2 r ⟨j.val - 6144, by omega⟩) else 0)
      + (if h : 4096 ≤ j.val ∧ j.val < 4096 + 2048 then x5 (ix2 r ⟨j.val - 4096, by omega⟩) else 0))
      + (if h : 2048 ≤ j.val ∧ j.val < 2048 + 2048 then Read.val_main_v85 (F := E) x0 x2 x4 (ix2 r ⟨j.val - 2048, by omega⟩) else 0))
      + (if h : 0 ≤ j.val ∧ j.val < 0 + 2048 then Read.val_main_v88 (F := E) x0 x1 x3 (ix2 r ⟨j.val - 0, by omega⟩) else 0) :=
  congrArg₂ (· + ·) (congrArg₂ (· + ·) (congrArg₂ (· + ·) (padded_at r x6 _ word_zero _ j) (padded_at r x5 _ word_zero _ j))
    (padded_at r (Read.val_main_v85 (F := E) x0 x2 x4) _ word_zero _ j)) (padded_at r (Read.val_main_v88 (F := E) x0 x1 x3) _ word_zero _ j)

variable (q k : Heads)
  (h88 : ∀ j : Fin 2048, Read.val_main_v88 (F := E) x0 x1 x3 (ix2 r j) = (q r ⟨j.val / 128, by omega⟩ ⟨j.val % 128, Nat.mod_lt _ (by decide)⟩ : EReal))
  (h85 : ∀ j : Fin 2048, Read.val_main_v85 (F := E) x0 x2 x4 (ix2 r j) = (k r ⟨j.val / 128, by omega⟩ ⟨j.val % 128, Nat.mod_lt _ (by decide)⟩ : EReal))

include h88 h85 in
/-- The parts side by side. -/
theorem joined (j : Fin 6272) : Read.val_main_v92 (F := E) x0 x1 x2 x3 x4 x5 x6 (ix2 r j) = arrP q k x5 x6 r j := by
  refine (v92_at x0 x1 x2 x3 x4 x5 x6 r j).trans ?_
  unfold arrP
  by_cases h : j.val < 6160
  · refine (dif_pos ⟨Nat.zero_le _, by omega⟩).trans ?_
    refine (v90_at x0 x1 x2 x3 x4 x5 x6 r ⟨j.val - 0, by omega⟩).trans ?_
    by_cases h0 : j.val < 2048
    · refine Eq.trans ?_ (dif_pos h0).symm
      refine (congrArg₂ (· + ·) (congrArg₂ (· + ·) (congrArg₂ (· + ·) (dif_neg (by show ¬(6144 ≤ j.val - 0 ∧ _); omega)) (dif_neg (by show ¬(4096 ≤ j.val - 0 ∧ _); omega)))
        (dif_neg (by show ¬(2048 ≤ j.val - 0 ∧ _); omega))) ((dif_pos (by show 0 ≤ j.val - 0 ∧ j.val - 0 < 0 + 2048; omega)).trans (h88 _))).trans ?_
      simp only [zero_add, add_zero]
      rfl
    · refine Eq.trans ?_ (dif_neg h0).symm
      by_cases h1 : j.val < 4096
      · refine Eq.trans ?_ (dif_pos h1).symm
        refine (congrArg₂ (· + ·) (congrArg₂ (· + ·) (congrArg₂ (· + ·) (dif_neg (by show ¬(6144 ≤ j.val - 0 ∧ _); omega)) (dif_neg (by show ¬(4096 ≤ j.val - 0 ∧ _); omega)))
          ((dif_pos (by show 2048 ≤ j.val - 0 ∧ j.val - 0 < 2048 + 2048; omega)).trans (h85 _))) (dif_neg (by show ¬(0 ≤ j.val - 0 ∧ j.val - 0 < 0 + 2048); omega))).trans ?_
        simp only [zero_add, add_zero]
        rfl
      · refine Eq.trans ?_ (dif_neg h1).symm
        by_cases h2 : j.val < 6144
        · refine Eq.trans ?_ (dif_pos h2).symm
          refine (congrArg₂ (· + ·) (congrArg₂ (· + ·) (congrArg₂ (· + ·) (dif_neg (by show ¬(6144 ≤ j.val - 0 ∧ _); omega)) (dif_pos (by show 4096 ≤ j.val - 0 ∧ j.val - 0 < 4096 + 2048; omega)))
            (dif_neg (by show ¬(2048 ≤ j.val - 0 ∧ j.val - 0 < 2048 + 2048); omega))) (dif_neg (by show ¬(0 ≤ j.val - 0 ∧ j.val - 0 < 0 + 2048); omega))).trans ?_
          simp only [zero_add, add_zero]
          rfl
        · refine Eq.trans ?_ (dif_neg h2).symm
          refine Eq.trans ?_ (dif_pos h).symm
          refine (congrArg₂ (· + ·) (congrArg₂ (· + ·) (congrArg₂ (· + ·) (dif_pos (by show 6144 ≤ j.val - 0 ∧ j.val - 0 < 6144 + 16; omega)) (dif_neg (by show ¬(4096 ≤ j.val - 0 ∧ j.val - 0 < 4096 + 2048); omega)))
            (dif_neg (by show ¬(2048 ≤ j.val - 0 ∧ j.val - 0 < 2048 + 2048); omega))) (dif_neg (by show ¬(0 ≤ j.val - 0 ∧ j.val - 0 < 0 + 2048); omega))).trans ?_
          simp only [add_zero]
          rfl
  · refine (dif_neg (by omega)).trans ?_
    refine Eq.trans ?_ (dif_neg (by omega)).symm
    refine Eq.trans ?_ (dif_neg (by omega)).symm
    refine Eq.trans ?_ (dif_neg (by omega)).symm
    exact Eq.symm (dif_neg h)

end cat

section results
variable (x0 : FVec E S8192x6160 .f32) (x1 x2 : FVec E S128 .f32) (x3 x4 x5 : FVec E S8192x2048 .f32) (x6 : FVec E S8192x16 .f32)
  (p : S8192x6160.Idx → ℝ) (gq gk : S128.Idx → ℝ) (dq dk : S8192x2048.Idx → ℝ)
  (hp : x0 = up p) (hgq : x1 = up gq) (hgk : x2 = up gk) (hdq : x3 = up dq) (hdk : x4 = up dk)

include hp hgq hgk hdq hdk in
/-- The reference's three results. -/
theorem ref_eq : Read.val_main_v92 (F := E) x0 x1 x2 x3 x4 x5 x6
      = (fun i : S8192x6272.Idx => arrP (headBack (seg 0 (by decide) p) (dseg dq) gq) (headBack (seg 2048 (by decide) p) (dseg dk) gk) x5 x6 (i 0) (i 1))
    ∧ Read.val_main_v93 (F := E) x0 x3 = arrG (seg 0 (by decide) p) (dseg dq) ∧ Read.val_main_v94 (F := E) x0 x4 = arrG (seg 2048 (by decide) p) (dseg dk) := by
  have a1 : ∀ r h l, Read.val_main_v1 (F := E) x0 (ix3 r h l) = (seg 0 (by decide) p r h l : EReal) := fun r h l => by rw [v1_at, hp]; rfl
  have a3 : ∀ r h l, Read.val_main_v3 (F := E) x0 (ix3 r h l) = (seg 2048 (by decide) p r h l : EReal) := fun r h l => by rw [v3_at, hp]; rfl
  have b1 : ∀ r h l, Read.val_main_v61 (F := E) x3 (ix3 r h l) = (dseg dq r h l : EReal) := fun r h l => by rw [v61_at, hdq]; rfl
  have b3 : ∀ r h l, Read.val_main_v40 (F := E) x4 (ix3 r h l) = (dseg dk r h l : EReal) := fun r h l => by rw [v40_at, hdk]; rfl
  refine ⟨?_, (v93_gain x0 x3).trans (gain_eq _ _ _ _ a1 b1), (v94_gain x0 x4).trans (gain_eq _ _ _ _ a3 b3)⟩
  funext i
  obtain ⟨r, j, rfl⟩ : ∃ (r : Fin 8192) (j : Fin 6272), i = ix2 r j := ⟨i 0, i 1, (ix2_eta i).symm⟩
  refine joined x0 x1 x2 x3 x4 x5 x6 r _ _ (fun j => ?_) (fun j => ?_) j
  · refine (join_at r ⟨j.val / 128, by omega⟩ ⟨j.val % 128, Nat.mod_lt _ (by decide)⟩ (Read.val_main_v81 (F := E) x0 x1 x3) j rfl rfl).trans ?_
    rw [v81_rows]
    exact rows_real _ _ x1 _ _ gq _ _ _ a1 b1 hgq
  · refine (join_at r ⟨j.val / 128, by omega⟩ ⟨j.val % 128, Nat.mod_lt _ (by decide)⟩ (Read.val_main_v60 (F := E) x0 x2 x4) j rfl rfl).trans ?_
    rw [v60_rows]
    exact rows_real _ _ x2 _ _ gk _ _ _ a3 b3 hgk

end results

end Cert.QkNormRefIdeal.Bwd

end
-- ==== Proof.QkNormClaims.lean ====
/- The claims about the gradient of the query and key norm. -/
module

public import proofs.«01_k».proof.Defs
public import proofs.«01_k».proof.Proof.QkNormValue
public import proofs.«01_k».proof.Proof.QkNormRef
public import proofs.«01_k».proof.Proof.Gen.Pre_qkv_finite
public import Idealize.ShloMosaic.Lib.Quiescent

@[expose] public section

set_option maxRecDepth 16384

noncomputable section

namespace Cert.Proof

open Idealize.ShloMosaic Idealize.SL.Sem Cert.Lift Cert.Sums

set_option maxHeartbeats 2000000 in
/-- Kernel and reference compute the same gradient of the projection and of the two gains, where the projection, the gains and the gradients of the queries and keys are finite. -/
theorem algebraic_qkv : Cert.algebraic_QkNormIdeal_QkNormRefIdeal_pre_qkv_finite := by
  intro m ρ m' ρ' hpre hargs
  refine ⟨fun c => (Cert.QkNormIdeal.Gen.dats m 0 c).arrAt 8 Cert.QkNormIdeal.cfg0.N, fun c => (Cert.QkNormIdeal.Gen.dats m 0 c).arrAt 9 Cert.QkNormIdeal.cfg0.N,
    fun c => (Cert.QkNormIdeal.Gen.dats m 0 c).arrAt 10 Cert.QkNormIdeal.cfg0.N, Cert.QkNormIdeal.Value.run_blocks m ρ, ?_⟩
  refine (θ_run Cert.QkNormRefIdeal.defs _ _).mono (fun r h c => ?_) (Cert.QkNormRefIdeal.Value.run m' ρ')
  obtain ⟨e0, e1, e2, e3, e4, e5, e6⟩ := hargs c
  obtain ⟨f0, f1, f2, f3, f4⟩ := hpre c
  obtain ⟨p, hp⟩ := reals_of_finite _ _ f0
  obtain ⟨gq, hgq⟩ := reals_of_finite _ _ f1
  obtain ⟨gk, hgk⟩ := reals_of_finite _ _ f2
  obtain ⟨dq, hdq⟩ := reals_of_finite _ _ f3
  obtain ⟨dk, hdk⟩ := reals_of_finite _ _ f4
  obtain ⟨r0, r1, r2⟩ := Cert.QkNormRefIdeal.Bwd.ref_eq _ _ _ _ _
    (m' ((c.tc : Thread Cert.QkNormRefIdeal.nD Cert.QkNormRefIdeal.τ).loc Cert.QkNormRefIdeal.main_arg5))
    (m' ((c.tc : Thread Cert.QkNormRefIdeal.nD Cert.QkNormRefIdeal.τ).loc Cert.QkNormRefIdeal.main_arg6))
    p gq gk dq dk (e0.trans hp) (e1.trans hgq) (e2.trans hgk) (e3.trans hdq) (e4.trans hdk)
  obtain ⟨p0, p1, p2, p3⟩ := h c
  have q0 := Cert.QkNormIdeal.Bwd.final_8 m c p gq gk dq dk hp hgq hgk hdq hdk
  have q1 := Cert.QkNormIdeal.Bwd.final_9 m c p dq hp hdq
  have q2 := Cert.QkNormIdeal.Bwd.final_10 m c p dk hp hdk
  refine ⟨?_, ?_, ?_, p3⟩
  · refine (p0.trans (Cert.QkNormRefIdeal.Read.val_main_v92_eq m' c)).trans (r0.trans (Eq.trans ?_ q0.symm))
    rw [e5, e6]
  · exact (p1.trans (Cert.QkNormRefIdeal.Read.val_main_v93_eq _ _)).trans (r1.trans q1.symm)
  · exact (p2.trans (Cert.QkNormRefIdeal.Read.val_main_v94_eq _ _)).trans (r2.trans q2.symm)

theorem frame_qkvRef : Cert.quiescent_QkNormRefIdeal := fun m ρ _ =>
  (θ_run Cert.QkNormRefIdeal.defs _ _).mono (fun r h => ⟨fun c => (h c).2.2.2, sem_eq_zero_of_no_sems (by decide) r.2⟩) (Cert.QkNormRefIdeal.Value.run (F := Ideal) m ρ)

theorem frame_qkvRef_pre : Cert.quiescent_QkNormRefIdeal_pre_qkv_finite := fun m ρ _ => frame_qkvRef m ρ trivial

end Cert.Proof

end
-- ==== Proof.PoolBlock.lean ====
/- The pooling layer's backward kernel: what one block of rows leaves in its results. -/
module

public import proofs.«01_k».proof.Defs
public import proofs.«01_k».proof.Proof.Gen.PoolIdeal.Value
public import proofs.«01_k».proof.Proof.RmsReal
public import Idealize.ShloMosaic.Lib.KernelVsHost
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.PoolIdeal.Bwd

open Cert.PoolIdeal Cert.PoolIdeal.Gen
open Idealize.ShloMosaic Idealize.ShloMosaic.TcCoe Idealize.SL.Sem Idealize.ShloMosaic.Tactic
open Idealize.ShloMosaic.Pipeline (Dat)
open Cert.Lift Cert.Sums

local notation "E" => Idealize.ShloMosaic.Ideal

/-! ## The pieces of a group's gradient -/

/-- The gradient of a group's means: the scaled cotangent's rows through the group's map. -/
def dyOf (y : FVec E S272x512 .bf16) (wb : Vec E S1x512x512 .bf16) : FVec E S272x512 .f32 :=
  matmul dot_S272x512_S512x512_S272x512_1_1_0_0_n_n none y (shapeCast S512x512 wb shapeCasts_S1x512x512_S512x512 : FVec E S512x512 .bf16) (constant S272x512 .f32 0x00000000#32)

/-- That over the number of tokens of each row's window. -/
def uOf (d : FVec E S272x512 .f32) (v20 : IVec S272x1 32) (win : BitVec 32) : FVec E S272x512 .f32 :=
  mulf d (broadcastTo S272x512 (divf (broadcast S272x1 (Scalar.ofBits .f32 0x3F800000#32 : E .f32))
    (sitofp .f32 (minsi (addi v20 (broadcast S272x1 1#32)) (broadcast S272x1 win))) : FVec E S272x1 .f32) broadcasts_S272x1_S272x512)

/-- An array plus itself turned by some rows. -/
def rollAdd (n : BitVec 32) (a : FVec E S272x512 .f32) : FVec E S272x512 .f32 := addf a (dynamicRotate 0 n none a rotates_S272x512_d0)

/-- An array's first 256 rows. -/
def top (a : FVec E S272x512 .f32) : FVec E S256x512 .f32 := extractStridedSlice S256x512 ![0, 0] a slices_S272x512_o0_0_S256x512

/-- The four groups side by side. -/
def beside (y0 y1 y2 y3 : FVec E S256x512 .f32) : FVec E S256x2048 .f32 :=
  concatenate S256x2048 1 [⟨S256x512, y0⟩, ⟨S256x512, y1⟩, ⟨S256x512, y2⟩, ⟨S256x512, y3⟩] concatenates_S256x512_S256x512_S256x512_S256x512_S256x2048_d1

/-- One group's map. -/
def part (w : Vec E S4x512x512 .bf16) (k : Fin 4) : Vec E S1x512x512 .bf16 := fun i => w (ix3 k (i 1) (i 2))

section block
variable (i : grid0.Coords) (sc : Vec E S1x2048 .f32) (ct : Vec E S256x2048 .f32) (ha : Vec E S16x2048 .f32) (w : Vec E S4x512x512 .bf16)

def ext16 : FVec E S272x2048 .bf16 := k0_pay11 i sc ct ha

def dy0 : FVec E S272x512 .f32 := dyOf (extractStridedSlice S272x512 ![0, 0] (ext16 i sc ct ha) slices_S272x2048_o0_0_S272x512) (part w 0)
def dy1 : FVec E S272x512 .f32 := dyOf (extractStridedSlice S272x512 ![0, 512] (ext16 i sc ct ha) slices_S272x2048_o0_512_S272x512) (part w 1)
def dy2 : FVec E S272x512 .f32 := dyOf (extractStridedSlice S272x512 ![0, 1024] (ext16 i sc ct ha) slices_S272x2048_o0_1024_S272x512) (part w 2)
def dy3 : FVec E S272x512 .f32 := dyOf (extractStridedSlice S272x512 ![0, 1536] (ext16 i sc ct ha) slices_S272x2048_o0_1536_S272x512) (part w 3)

/-- A block's gradient of the normalised rows. -/
def dh : FVec E S256x2048 .f32 := beside
  (subf (top (rollAdd 271#32 (uOf (dy0 i sc ct ha w) (k0_pay12 i) 2#32))) (top (dy0 i sc ct ha w)))
  (subf (top (rollAdd 270#32 (rollAdd 271#32 (uOf (dy1 i sc ct ha w) (k0_pay12 i) 4#32)))) (top (dy1 i sc ct ha w)))
  (subf (top (rollAdd 268#32 (rollAdd 270#32 (rollAdd 271#32 (uOf (dy2 i sc ct ha w) (k0_pay12 i) 8#32))))) (top (dy2 i sc ct ha w)))
  (subf (top (rollAdd 264#32 (rollAdd 268#32 (rollAdd 270#32 (rollAdd 271#32 (uOf (dy3 i sc ct ha w) (k0_pay12 i) 16#32)))))) (top (dy3 i sc ct ha w)))

/-- A block's gradient of the layer's input. -/
def dx (x : Vec E S256x2048 .f32) (g : Vec E S1x2048 .f32) : FVec E S256x2048 .f32 :=
  k0_pay1 ct (k0_pay18 x) (k0_pay19 x) (mulf (dh i sc ct ha w) (broadcastTo S256x2048 (shapeCast S1x2048 g shapeCasts_S1x2048_S1x2048 : FVec E S1x2048 .f32) broadcasts_S1x2048_S256x2048))
    (mulf (mulf (dh i sc ct ha w) (broadcastTo S256x2048 (shapeCast S1x2048 g shapeCasts_S1x2048_S1x2048 : FVec E S1x2048 .f32) broadcasts_S1x2048_S256x2048)) (k0_pay19 x))

end block

section outs
variable (m : (ℓ : Loc nD τ sig) → Buf (Elt E) ℓ) (c : Dev nD) (t : Fin cfg0.N)

theorem ld_part (w : Vec E S4x512x512 .bf16) (k : ℕ) (hk : k < 4) (h : ∀ a : Fin 3, (![k, 0, 0] : Fin 3 → ℕ) a + (![1, 512, 512] : Fin 3 → ℕ) a ≤ S4x512x512.size a) :
    View.ld w (Rect.unit (s := S4x512x512) ![k, 0, 0] ![1, 512, 512] h) = part w ⟨k, hk⟩ := by
  funext j
  unfold part
  show w _ = w _
  refine congrArg w (funext fun a => Fin.ext ?_)
  have h0 : (j 0).val < 1 := (j 0).isLt
  match a with
  | ⟨0, _⟩ => show k + 1 * (j 0).val = k; omega
  | ⟨1, _⟩ => show 0 + 1 * (j 1).val = (j 1).val; omega
  | ⟨2, _⟩ => show 0 + 1 * (j 2).val = (j 2).val; omega

/-- The block's gradient of the normalised rows. -/
def dhAt : FVec E S256x2048 .f32 := dh (grid0.coords t) (iblk m c 6 t) (iblk m c 0 t) (iblk m c 1 t) (iblk m c 5 t)

def dxAt : FVec E S256x2048 .f32 := dx (grid0.coords t) (iblk m c 6 t) (iblk m c 0 t) (iblk m c 1 t) (iblk m c 5 t) (iblk m c 2 t) (iblk m c 4 t)

/-- What an earlier point left in the outputs' blocks. -/
abbrev before := outsAt0 m c (t.val - 1) (by have := t.isLt; omega)

theorem outs_A (h : t.val % 32 = 0) : outsAt0 m c t.val t.isLt = (dxAt m c t, k0_pay10 (iblk m c 6 t) (iblk m c 0 t), k0_pay2 (dhAt m c t) (k0_pay19 (iblk m c 2 t)),
    k0_pay3 (iblk m c 0 t) (iblk m c 3 t), k0_pay4 (k0_pay9 (iblk m c 6 t) (iblk m c 0 t))) := by
  have hN : t.val < 32 := t.isLt
  rw [outsAt0_A m c t h (by omega)]
  refine Prod.ext ?_ (Prod.ext ?_ (Prod.ext ?_ (Prod.ext ?_ ?_)))
  · frame_out
    rw [ld_part _ 0 (by decide), ld_part _ 1 (by decide), ld_part _ 2 (by decide), ld_part _ 3 (by decide)]
    rfl
  · frame_out
  · frame_out
    rw [ld_part _ 0 (by decide), ld_part _ 1 (by decide), ld_part _ 2 (by decide), ld_part _ 3 (by decide)]
    rfl
  · frame_out
  · frame_out

theorem outs_B (h : ¬t.val % 32 = 0) : outsAt0 m c t.val t.isLt = (dxAt m c t, k0_pay10 (iblk m c 6 t) (iblk m c 0 t),
    k0_pay5 (dhAt m c t) (k0_pay19 (iblk m c 2 t)) (before m c t).2.2.1,
    k0_pay6 (iblk m c 0 t) (iblk m c 3 t) (before m c t).2.2.2.1, k0_pay7 (k0_pay9 (iblk m c 6 t) (iblk m c 0 t)) (before m c t).2.2.2.2) := by
  have hN : t.val < 32 := t.isLt
  rw [outsAt0_B m c t h (by omega)]
  refine Prod.ext ?_ (Prod.ext ?_ (Prod.ext ?_ (Prod.ext ?_ ?_)))
  · frame_out
    rw [ld_part _ 0 (by decide), ld_part _ 1 (by decide), ld_part _ 2 (by decide), ld_part _ 3 (by decide)]
    rfl
  · frame_out
  · frame_out
    rw [ld_part _ 0 (by decide), ld_part _ 1 (by decide), ld_part _ 2 (by decide), ld_part _ 3 (by decide)]
    rfl
  · frame_out
  · frame_out

end outs

end Cert.PoolIdeal.Bwd

end
-- ==== Proof.PoolNodes.lean ====
/- The pooling layer's backward pass over the reals, and one block's share of it: rows of the windows' gradients that
   the block's doubling steps add up, the normalisation's gradient, and the sums over the block's rows. -/
module

public import proofs.«01_k».proof.Proof.PoolBlock

@[expose] public section

set_option maxRecDepth 16384

noncomputable section

namespace Cert.Pool

open Cert.Sums

/-- Lane `c` of group `q`. -/
def col (q : Fin 4) (c : Fin 512) : Fin 2048 := ⟨q.val * 512 + c.val, by have := q.isLt; have := c.isLt; omega⟩

theorem col_surj (l : Fin 2048) : ∃ q c, l = col q c :=
  ⟨⟨l.val / 512, by have := l.isLt; omega⟩, ⟨l.val % 512, Nat.mod_lt _ (by decide)⟩, Fin.ext (show l.val = l.val / 512 * 512 + l.val % 512 by omega)⟩

/-- The gradient of the groups' means, from the gradient `z` of the product. -/
def dy (z : Fin 8192 → Fin 2048 → ℝ) (w : Fin 4 → Fin 512 → Fin 512 → ℝ) (q : Fin 4) (c : Fin 512) (r : Fin 8192) : ℝ :=
  ∑ k : Fin 512, z r (col q k) * w q c k

/-- A group's window. -/
def win (q : Fin 4) : ℕ := 2 ^ (q.val + 1)

/-- Each row's gradient over the number of tokens that its mean is of. -/
def du (z : Fin 8192 → Fin 2048 → ℝ) (w : Fin 4 → Fin 512 → Fin 512 → ℝ) (q : Fin 4) (c : Fin 512) (r : Fin 8192) : ℝ :=
  dy z w q c r * (1 / ((min (r.val + 1) (win q) : ℕ) : ℝ))

/-- The gradient of the normalised rows. -/
def dhg (z : Fin 8192 → Fin 2048 → ℝ) (w : Fin 4 → Fin 512 → Fin 512 → ℝ) (q : Fin 4) (c : Fin 512) (r : Fin 8192) : ℝ :=
  ∑ j ∈ Finset.range (win q), ext (du z w q c) (r.val + j) - dy z w q c r

end Cert.Pool

namespace Cert.PoolIdeal.Bwd

open Cert.PoolIdeal Cert.PoolIdeal.Gen Cert.Pool
open Idealize.ShloMosaic Idealize.ShloMosaic.TcCoe Idealize.SL.Sem Idealize.ShloMosaic.Tactic
open Cert.Lift Cert.Sums

local notation "E" => Idealize.ShloMosaic.Ideal

theorem dyOf_at (y : FVec E S272x512 .bf16) (wb : Vec E S1x512x512 .bf16) (r : Fin 272) (c : Fin 512) :
    dyOf y wb (ix2 r c) = ∑ k : Fin 512, y (ix2 r k) * wb (ix3 0 c k) := by
  pointwise [dyOf]

theorem uOf_at (d : FVec E S272x512 .f32) (v : IVec S272x1 32) (n : BitVec 32) (r : Fin 272) (c : Fin 512) :
    uOf d v n (ix2 r c) = d (ix2 r c) * Ideal.div 1 (FloatOps.sitofp (F := E) FTy.f32 (IntOp.minsi (v (ix2 r 0) + 1#32) n)) := by
  pointwise [uOf]
  try rfl

theorem rollAdd_at (s : ℕ) (hs : 0 < s) (h272 : s < 272) (a : FVec E S272x512 .f32) (r r' : Fin 272) (hr : r.val + s = r'.val) (c : Fin 512) :
    rollAdd (BitVec.ofNat 32 (272 - s)) a (ix2 r c) = a (ix2 r c) + a (ix2 r' c) := by
  show a (ix2 r c) + dynamicRotate 0 (BitVec.ofNat 32 (272 - s)) none a rotates_S272x512_d0 (ix2 r c) = _
  refine congrArg _ (dynamicRotate_apply 0 _ a rotates_S272x512_d0 (ix2 r c) (ix2 r' c) (fun b => ?_))
  have hb : (BitVec.ofNat 32 (272 - s)).toNat = 272 - s := by rw [BitVec.toNat_ofNat]; exact Nat.mod_eq_of_lt (by omega)
  have h1 := r.isLt
  have h2 := r'.isLt
  match b with
  | ⟨0, _⟩ =>
    refine Eq.trans ?_ (if_pos rfl).symm
    show r'.val = (r.val + 272 - (BitVec.ofNat 32 (272 - s)).toNat % 272) % 272
    rw [hb, Nat.mod_eq_of_lt (show 272 - s < 272 by omega), ← hr, show r.val + 272 - (272 - s) = r.val + s by omega, Nat.mod_eq_of_lt (by omega)]
  | ⟨1, _⟩ => exact (if_neg (fun h => absurd (congrArg Fin.val h) Nat.one_ne_zero)).symm

theorem beside_at (y0 y1 y2 y3 : FVec E S256x512 .f32) (a : Fin 256) (q : Fin 4) (c : Fin 512) :
    beside y0 y1 y2 y3 (ix2 a (col q c)) = (![y0, y1, y2, y3] q) (ix2 a c) := by
  have hc := c.isLt
  unfold col
  match q with
  | ⟨0, _⟩ =>
    pointwise [beside]
  | ⟨1, _⟩ =>
    pointwise [beside]
  | ⟨2, _⟩ =>
    pointwise [beside]
    rw [dif_neg (by omega), dif_neg (by omega), dif_pos (by omega)]
    exact congrArg (fun l => y2 (ix2 a l)) (Fin.ext (by show 1024 + c.val - 512 - 512 = c.val; omega))
  | ⟨3, _⟩ =>
    pointwise [beside]
    rw [dif_neg (by omega), dif_neg (by omega), dif_neg (by omega)]
    exact congrArg (fun l => y3 (ix2 a l)) (Fin.ext (by show 1536 + c.val - 512 - 512 - 512 = c.val; omega))

theorem four_at (y0 y1 y2 y3 : FVec E S256x512 .f32) (v : Fin 4 → EReal) (a : Fin 256) (c : Fin 512) (e0 : y0 (ix2 a c) = v 0) (e1 : y1 (ix2 a c) = v 1)
    (e2 : y2 (ix2 a c) = v 2) (e3 : y3 (ix2 a c) = v 3) : ∀ q : Fin 4, (![y0, y1, y2, y3] q) (ix2 a c) = v q
  | ⟨0, _⟩ => e0
  | ⟨1, _⟩ => e1
  | ⟨2, _⟩ => e2
  | ⟨3, _⟩ => e3

theorem top_at (a : FVec E S272x512 .f32) (r : Fin 256) (c : Fin 512) : top a (ix2 r c) = a (ix2 ⟨r.val, by have := r.isLt; omega⟩ c) := by
  pointwise [top]

/-- The word of a row's number of tokens, as an integer. -/
theorem count_word (i r n : ℕ) (hi : i < 32) (hr : r < 272) (hn : n < 100) :
    FloatOps.sitofp (F := E) FTy.f32 (IntOp.minsi (BitVec.ofNat 32 i * 256#32 + BitVec.ofNat 32 r + 1#32) (BitVec.ofNat 32 n)) = ((min (i * 256 + r + 1) n : ℕ) : ℝ) := by
  show ((((IntOp.minsi (BitVec.ofNat 32 i * 256#32 + BitVec.ofNat 32 r + 1#32) (BitVec.ofNat 32 n)).toInt : ℤ) : ℝ) : EReal) = _
  have e : BitVec.ofNat 32 i * 256#32 + BitVec.ofNat 32 r + 1#32 = BitVec.ofNat 32 (i * 256 + r + 1) := by
    apply BitVec.eq_of_toNat_eq
    simp only [BitVec.toNat_add, BitVec.toNat_mul, BitVec.toNat_ofNat]
    omega
  have t1 : (BitVec.ofNat 32 (i * 256 + r + 1)).toInt = ((i * 256 + r + 1 : ℕ) : ℤ) := by
    rw [BitVec.toInt_eq_toNat_of_lt (by rw [BitVec.toNat_ofNat]; omega), BitVec.toNat_ofNat]; congr 1; omega
  have t2 : (BitVec.ofNat 32 n).toInt = ((n : ℕ) : ℤ) := by
    rw [BitVec.toInt_eq_toNat_of_lt (by rw [BitVec.toNat_ofNat]; omega), BitVec.toNat_ofNat]; congr 1; omega
  rw [e]
  unfold IntOp.minsi BitVec.slt
  rw [t1, t2]
  by_cases h : i * 256 + r + 1 < n
  · rw [if_pos (by simpa using (by exact_mod_cast h : ((i * 256 + r + 1 : ℕ) : ℤ) < (n : ℤ))), t1, Nat.min_eq_left (by omega)]; push_cast; rfl
  · rw [if_neg (by simpa using (by exact_mod_cast (Nat.le_of_not_lt h) : (n : ℤ) ≤ ((i * 256 + r + 1 : ℕ) : ℤ))), t2, Nat.min_eq_right (by omega)]; push_cast; rfl

theorem pay12_at (i : grid0.Coords) (r : Fin 272) : k0_pay12 i (ix2 r 0) = BitVec.ofNat 32 (i 0).val * 256#32 + BitVec.ofNat 32 r.val := by
  pointwise [k0_pay12]
  rfl

theorem ext16_top (i : grid0.Coords) (sc : Vec E S1x2048 .f32) (ct : Vec E S256x2048 .f32) (ha : Vec E S16x2048 .f32) (r : Fin 272) (a : Fin 256)
    (h : r.val = a.val) (l : Fin 2048) : ext16 i sc ct ha (ix2 r l) = ct (ix2 a l) * sc (ix2 0 l) := by
  rw [show r = (⟨a.val, by have := a.isLt; omega⟩ : Fin 272) from Fin.ext h]
  have h1 := a.isLt
  pointwise [ext16, k0_pay11, k0_pay9, k0_pay8]

theorem ext16_tail (i : grid0.Coords) (sc : Vec E S1x2048 .f32) (ct : Vec E S256x2048 .f32) (ha : Vec E S16x2048 .f32) (r : Fin 272) (a : Fin 16)
    (h : r.val = 256 + a.val) (l : Fin 2048) : ext16 i sc ct ha (ix2 r l) = ha (ix2 a l) * sc (ix2 0 l) * (if (i 0).val < 31 then 1 else 0) := by
  rw [show r = (⟨256 + a.val, by have := a.isLt; omega⟩ : Fin 272) from Fin.ext h]
  have h1 := a.isLt
  have hi : (i 0).val < 32 := (i 0).isLt
  have hs : FloatOps.sitofp (F := E) FTy.f32 (BitVec.setWidth 32 (IntOp.cmpi CmpIPredicate.slt (BitVec.ofNat 32 (i 0).val) 31#32)) = (if (i 0).val < 31 then 1 else 0 : EReal) := by
    show ((((BitVec.setWidth 32 (IntOp.cmpi CmpIPredicate.slt (BitVec.ofNat 32 (i 0).val) 31#32)).toInt : ℤ) : ℝ) : EReal) = _
    by_cases h : (i 0).val < 31
    · have e : IntOp.cmpi CmpIPredicate.slt (BitVec.ofNat 32 (i 0).val) 31#32 = 1#1 := by word_cmp
      rw [e, if_pos h]; norm_num
    · have e : IntOp.cmpi CmpIPredicate.slt (BitVec.ofNat 32 (i 0).val) 31#32 = 0#1 := by word_cmp
      rw [e, if_neg h]; norm_num
  rw [← hs]
  pointwise [ext16, k0_pay11, k0_pay9, k0_pay8]
  rfl

theorem pay10_at (sc : Vec E S1x2048 .f32) (ct : Vec E S256x2048 .f32) (a : Fin 256) (l : Fin 2048) :
    k0_pay10 sc ct (ix2 a l) = ct (ix2 a l) * sc (ix2 0 l) := by
  pointwise [k0_pay10, k0_pay9, k0_pay8]

theorem pay9_at (sc : Vec E S1x2048 .f32) (ct : Vec E S256x2048 .f32) (a : Fin 256) (l : Fin 2048) :
    k0_pay9 sc ct (ix2 a l) = ct (ix2 a l) * sc (ix2 0 l) := by
  pointwise [k0_pay9, k0_pay8]

theorem pay18_at (x : Vec E S256x2048 .f32) (a : Fin 256) :
    k0_pay18 x (ix2 a 0) = Ideal.rsqrt (Ideal.div (∑ k : Fin 2048, x (ix2 a k) * x (ix2 a k)) (Ideal.ofBits .f32 0x45000000#32) + Ideal.ofBits .f32 0x358637BD#32) := by
  pointwise [k0_pay18]
  try rfl

theorem pay19_at (x : Vec E S256x2048 .f32) (a : Fin 256) (l : Fin 2048) : k0_pay19 x (ix2 a l) = x (ix2 a l) * k0_pay18 x (ix2 a 0) := by
  generalize hy : k0_pay18 x = y
  unfold k0_pay19
  rw [hy]
  pointwise

theorem pay1_at (ct : Vec E S256x2048 .f32) (v114 : FVec E S256x1 .f32) (v116 v120 v121 : FVec E S256x2048 .f32) (a : Fin 256) (l : Fin 2048) :
    k0_pay1 ct v114 v116 v120 v121 (ix2 a l) = ct (ix2 a l) + v114 (ix2 a 0) * (v120 (ix2 a l) - v116 (ix2 a l) * Ideal.div (∑ k : Fin 2048, v121 (ix2 a k)) (Ideal.ofBits .f32 0x45000000#32)) := by
  pointwise [k0_pay1]
  try rfl

theorem pay2_at (v105 v116 : FVec E S256x2048 .f32) (z : Fin 1) (l : Fin 2048) :
    k0_pay2 v105 v116 (ix2 z l) = ∑ a : Fin 256, v105 (ix2 a l) * v116 (ix2 a l) := by
  pointwise [k0_pay2]

theorem pay3_at (v105 v116 : Vec E S256x2048 .f32) (z : Fin 1) (l : Fin 2048) :
    k0_pay3 v105 v116 (ix2 z l) = ∑ a : Fin 256, v105 (ix2 a l) * v116 (ix2 a l) := by
  pointwise [k0_pay3]

theorem pay4_at (v4 : FVec E S256x2048 .f32) (z : Fin 1) (l : Fin 2048) : k0_pay4 v4 (ix2 z l) = ∑ a : Fin 256, v4 (ix2 a l) := by
  pointwise [k0_pay4]

theorem pay5_at (v105 v116 : FVec E S256x2048 .f32) (y : Vec E S1x2048 .f32) (z : Fin 1) (l : Fin 2048) :
    k0_pay5 v105 v116 y (ix2 z l) = y (ix2 z l) + k0_pay2 v105 v116 (ix2 z l) := by
  generalize hy : k0_pay2 v105 v116 = p
  unfold k0_pay5
  rw [hy]
  pointwise

theorem pay6_at (v105 v116 : Vec E S256x2048 .f32) (y : Vec E S1x2048 .f32) (z : Fin 1) (l : Fin 2048) :
    k0_pay6 v105 v116 y (ix2 z l) = y (ix2 z l) + k0_pay3 v105 v116 (ix2 z l) := by
  generalize hy : k0_pay3 v105 v116 = p
  unfold k0_pay6
  rw [hy]
  pointwise

theorem pay7_at (v4 : FVec E S256x2048 .f32) (y : Vec E S1x2048 .f32) (z : Fin 1) (l : Fin 2048) :
    k0_pay7 v4 y (ix2 z l) = y (ix2 z l) + k0_pay4 v4 (ix2 z l) := by
  generalize hy : k0_pay4 v4 = p
  unfold k0_pay7
  rw [hy]
  pointwise

/-! ## Over the reals -/

section real
variable (z : Fin 8192 → Fin 2048 → ℝ) (wr : Fin 4 → Fin 512 → Fin 512 → ℝ) (w : Vec E S4x512x512 .bf16) (hw : ∀ q c k, w (ix3 q c k) = (wr q c k : EReal)) (p : ℕ)

include hw in
theorem dy_real (q : Fin 4) (y : FVec E S272x512 .bf16) (hy : ∀ r k, y (ix2 r k) = (ext (fun s => z s (col q k)) (p + r.val) : ℝ)) (r : Fin 272) (c : Fin 512) :
    dyOf y (part w q) (ix2 r c) = (ext (dy z wr q c) (p + r.val) : ℝ) := by
  rw [dyOf_at]
  have hp : ∀ k, part w q (ix3 0 c k) = (wr q c k : EReal) := fun k => hw q c k
  simp only [hy, hp, ← EReal.coe_mul]
  rw [← coe_sum]
  refine congrArg _ ?_
  unfold ext
  split
  · rfl
  · simp

theorem du_real (q : Fin 4) (i : ℕ) (hi : i < 32) (d : FVec E S272x512 .f32) (v : IVec S272x1 32)
    (hv : ∀ r : Fin 272, v (ix2 r 0) = BitVec.ofNat 32 i * 256#32 + BitVec.ofNat 32 r.val)
    (hd : ∀ r c, d (ix2 r c) = (ext (dy z wr q c) (i * 256 + r.val) : ℝ)) (r : Fin 272) (c : Fin 512) :
    uOf d v (BitVec.ofNat 32 (win q)) (ix2 r c) = (ext (du z wr q c) (i * 256 + r.val) : ℝ) := by
  have hq : win q ≤ 16 := by
    unfold win
    calc 2 ^ (q.val + 1) ≤ 2 ^ 4 := Nat.pow_le_pow_right (by decide) (by have := q.isLt; omega)
      _ = 16 := by decide
  have hq0 : 0 < win q := Nat.pow_pos (by decide)
  rw [uOf_at, hd, hv, count_word i r.val (win q) hi r.isLt (by omega)]
  have hne : ((min (i * 256 + r.val + 1) (win q) : ℕ) : ℝ) ≠ 0 := by
    have : 0 < min (i * 256 + r.val + 1) (win q) := by omega
    exact_mod_cast this.ne'
  have hdiv : Ideal.div 1 (((min (i * 256 + r.val + 1) (win q) : ℕ) : ℝ) : EReal) = ((1 / ((min (i * 256 + r.val + 1) (win q) : ℕ) : ℝ) : ℝ) : EReal) := by
    unfold Ideal.div
    rw [if_neg (by exact_mod_cast hne), one_mul, ← EReal.coe_inv, one_div]
  refine (congrArg (_ * ·) hdiv).trans ?_
  rw [← EReal.coe_mul]
  refine congrArg _ ?_
  unfold ext
  split
  · rfl
  · simp

theorem roll_real (n : ℕ) (hn : 0 < n) (h2 : n < 136) (a : FVec E S272x512 .f32) (c : Fin 512) (f : ℕ → ℝ)
    (h : ∀ r : Fin 272, r.val + n ≤ 272 → a (ix2 r c) = ((∑ j ∈ Finset.range n, f (r.val + j) : ℝ) : EReal)) (r : Fin 272) (hr : r.val + 2 * n ≤ 272) :
    rollAdd (BitVec.ofNat 32 (272 - n)) a (ix2 r c) = ((∑ j ∈ Finset.range (2 * n), f (r.val + j) : ℝ) : EReal) := by
  rw [rollAdd_at n hn (by omega) a r ⟨r.val + n, by omega⟩ rfl c, h r (by omega), h ⟨r.val + n, by omega⟩ (by show r.val + n + n ≤ 272; omega), ← EReal.coe_add,
    two_mul, Finset.sum_range_add]
  refine congrArg _ (congrArg _ (Finset.sum_congr rfl fun j _ => ?_))
  show f (r.val + n + j) = _
  rw [Nat.add_assoc]

theorem two_real (b : BitVec 32) (n k : ℕ) (hb : b = BitVec.ofNat 32 (272 - n)) (hk : k = 2 * n) (hn : 0 < n) (h2 : n < 136) (a : FVec E S272x512 .f32) (c : Fin 512) (f : ℕ → ℝ)
    (h : ∀ r : Fin 272, r.val + n ≤ 272 → a (ix2 r c) = ((∑ j ∈ Finset.range n, f (r.val + j) : ℝ) : EReal)) (r : Fin 272) (hr : r.val + k ≤ 272) :
    rollAdd b a (ix2 r c) = ((∑ j ∈ Finset.range k, f (r.val + j) : ℝ) : EReal) := by
  subst hb hk
  exact roll_real n hn h2 a c f h r hr

/-- The first step of doubling starts from single rows. -/
theorem one_real (a : FVec E S272x512 .f32) (c : Fin 512) (f : ℕ → ℝ) (h : ∀ r : Fin 272, a (ix2 r c) = (f r.val : EReal)) (r : Fin 272) (hr : r.val + 1 ≤ 272) :
    a (ix2 r c) = ((∑ j ∈ Finset.range 1, f (r.val + j) : ℝ) : EReal) := by
  rw [h, Finset.sum_range_one, Nat.add_zero]

variable (i : grid0.Coords) (sc : Vec E S1x2048 .f32) (ct : Vec E S256x2048 .f32) (ha : Vec E S16x2048 .f32)
  (hx : ∀ r l, ext16 i sc ct ha (ix2 r l) = (ext (fun s => z s l) ((i 0).val * 256 + r.val) : ℝ))

theorem slice_at (k : ℕ) (q : Fin 4) (hk : k = q.val * 512) (y : FVec E S272x2048 .bf16) (h : S272x2048.Slices ![0, k] S272x512) (r : Fin 272) (c : Fin 512) :
    extractStridedSlice S272x512 ![0, k] y h (ix2 r c) = y (ix2 r (col q c)) := by
  show y _ = y _
  refine congrArg y (funext fun a => Fin.ext ?_)
  match a with
  | ⟨0, _⟩ => show 0 + r.val = r.val; omega
  | ⟨1, _⟩ => show k + c.val = q.val * 512 + c.val; omega

/-- The first doubling of a group's gradients. -/
theorem start_real (q : Fin 4) (n b : BitVec 32) (hn : n = BitVec.ofNat 32 (win q)) (hb : b = 271#32) (hi : (i 0).val < 32) (d : FVec E S272x512 .f32)
    (hd : ∀ r c, d (ix2 r c) = (ext (dy z wr q c) ((i 0).val * 256 + r.val) : ℝ)) (c : Fin 512) (r : Fin 272) (hr : r.val + 2 ≤ 272) :
    rollAdd b (uOf d (k0_pay12 i) n) (ix2 r c) = ((∑ j ∈ Finset.range 2, ext (du z wr q c) ((i 0).val * 256 + (r.val + j)) : ℝ) : EReal) := by
  subst hn
  exact two_real b 1 2 hb rfl (by decide) (by decide) (uOf d (k0_pay12 i) _) c (fun n => ext (du z wr q c) ((i 0).val * 256 + n))
    (fun r hr => one_real _ c (fun n => ext (du z wr q c) ((i 0).val * 256 + n)) (fun r => du_real z wr q (i 0).val hi d (k0_pay12 i) (pay12_at i) hd r c) r hr) r hr

theorem word_win : (2#32 = BitVec.ofNat 32 (win 0) ∧ 4#32 = BitVec.ofNat 32 (win 1)) ∧ 8#32 = BitVec.ofNat 32 (win 2) ∧ 16#32 = BitVec.ofNat 32 (win 3) := by
  refine ⟨⟨?_, ?_⟩, ?_, ?_⟩ <;> (unfold win; decide)

theorem num_win : (win 0 = 2 ∧ win 1 = 4) ∧ win 2 = 8 ∧ win 3 = 16 := by
  refine ⟨⟨?_, ?_⟩, ?_, ?_⟩ <;> (unfold win; decide)

include hw hx in
/-- One group's part of the block's gradient, from the doubled array and the gradient itself. -/
theorem group_real (q : Fin 4) (n : ℕ) (hn : win q = n) (u d : FVec E S272x512 .f32) (a : Fin 256) (c : Fin 512)
    (hu : ∀ r : Fin 272, r.val + n ≤ 272 → u (ix2 r c) = ((∑ j ∈ Finset.range n, ext (du z wr q c) ((i 0).val * 256 + (r.val + j)) : ℝ) : EReal))
    (hd : ∀ r, d (ix2 r c) = (ext (dy z wr q c) ((i 0).val * 256 + r.val) : ℝ)) (r : Fin 8192) (hr : r.val = (i 0).val * 256 + a.val) :
    subf (top u) (top d) (ix2 a c) = (dhg z wr q c r : EReal) := by
  subst hn
  have hq : win q ≤ 16 := by
    unfold win
    calc 2 ^ (q.val + 1) ≤ 2 ^ 4 := Nat.pow_le_pow_right (by decide) (by have := q.isLt; omega)
      _ = 16 := by decide
  have h1 := a.isLt
  show top u (ix2 a c) - top d (ix2 a c) = _
  rw [top_at, top_at, hu _ (by show a.val + win q ≤ 272; omega), hd, ← EReal.coe_sub]
  refine congrArg _ ?_
  unfold dhg
  rw [hr, ← ext_val (dy z wr q c) r, hr]
  refine congrArg (· - _) (Finset.sum_congr rfl fun j _ => ?_)
  show ext _ ((i 0).val * 256 + (a.val + j)) = _
  rw [Nat.add_assoc]

include hw hx in
theorem dh_real (a : Fin 256) (q : Fin 4) (c : Fin 512) (r : Fin 8192) (hr : r.val = (i 0).val * 256 + a.val) :
    dh i sc ct ha w (ix2 a (col q c)) = (dhg z wr q c r : EReal) := by
  have hi : (i 0).val < 32 := (i 0).isLt
  have hd0 := fun r c => dy_real z wr w hw ((i 0).val * 256) 0 (extractStridedSlice S272x512 ![0, 0] (ext16 i sc ct ha) slices_S272x2048_o0_0_S272x512)
    (fun r k => (slice_at 0 0 rfl _ _ r k).trans (hx r _)) r c
  have hd1 := fun r c => dy_real z wr w hw ((i 0).val * 256) 1 (extractStridedSlice S272x512 ![0, 512] (ext16 i sc ct ha) slices_S272x2048_o0_512_S272x512)
    (fun r k => (slice_at 512 1 rfl _ _ r k).trans (hx r _)) r c
  have hd2 := fun r c => dy_real z wr w hw ((i 0).val * 256) 2 (extractStridedSlice S272x512 ![0, 1024] (ext16 i sc ct ha) slices_S272x2048_o0_1024_S272x512)
    (fun r k => (slice_at 1024 2 rfl _ _ r k).trans (hx r _)) r c
  have hd3 := fun r c => dy_real z wr w hw ((i 0).val * 256) 3 (extractStridedSlice S272x512 ![0, 1536] (ext16 i sc ct ha) slices_S272x2048_o0_1536_S272x512)
    (fun r k => (slice_at 1536 3 rfl _ _ r k).trans (hx r _)) r c
  have h0 := start_real z wr i 0 2#32 271#32 word_win.1.1 rfl hi _ hd0 c
  have h1 := two_real 270#32 2 4 rfl rfl (by decide) (by decide) _ c (fun n => ext (du z wr 1 c) ((i 0).val * 256 + n)) (fun r hr => start_real z wr i 1 4#32 271#32 word_win.1.2 rfl hi _ hd1 c r hr)
  have h2 := two_real 268#32 4 8 rfl rfl (by decide) (by decide) _ c (fun n => ext (du z wr 2 c) ((i 0).val * 256 + n)) (two_real 270#32 2 4 rfl rfl (by decide) (by decide) _ c (fun n => ext (du z wr 2 c) ((i 0).val * 256 + n)) (fun r hr => start_real z wr i 2 8#32 271#32 word_win.2.1 rfl hi _ hd2 c r hr))
  have h3 := two_real 264#32 8 16 rfl rfl (by decide) (by decide) _ c (fun n => ext (du z wr 3 c) ((i 0).val * 256 + n)) (two_real 268#32 4 8 rfl rfl (by decide) (by decide) _ c (fun n => ext (du z wr 3 c) ((i 0).val * 256 + n)) (two_real 270#32 2 4 rfl rfl (by decide) (by decide) _ c (fun n => ext (du z wr 3 c) ((i 0).val * 256 + n)) (fun r hr => start_real z wr i 3 16#32 271#32 word_win.2.2 rfl hi _ hd3 c r hr)))
  unfold dh
  rw [beside_at]
  have e0 := group_real z wr w hw i sc ct ha hx 0 2 num_win.1.1 _ _ a c h0 (fun r => hd0 r c) r hr
  have e1 := group_real z wr w hw i sc ct ha hx 1 4 num_win.1.2 _ _ a c h1 (fun r => hd1 r c) r hr
  have e2 := group_real z wr w hw i sc ct ha hx 2 8 num_win.2.1 _ _ a c h2 (fun r => hd2 r c) r hr
  have e3 := group_real z wr w hw i sc ct ha hx 3 16 num_win.2.2 _ _ a c h3 (fun r => hd3 r c) r hr
  exact four_at _ _ _ _ (fun q => (dhg z wr q c r : EReal)) a c e0 e1 e2 e3 q

end real

end Cert.PoolIdeal.Bwd

end
-- ==== Proof.PoolHost.lean ====
/- The pooling layer's backward kernel: what its windows read. The saved array is the reference's own product and the bias. -/
module

public import proofs.«01_k».proof.Proof.PoolNodes
public import proofs.«01_k».proof.Proof.Gen.PoolRefIdeal.Read

@[expose] public section

set_option maxRecDepth 16384

noncomputable section

namespace Cert.PoolIdeal.Bwd

open Cert.PoolIdeal Cert.PoolIdeal.Gen Cert.Pool
open Idealize.ShloMosaic Idealize.ShloMosaic.TcCoe Idealize.SL.Sem Idealize.ShloMosaic.Tactic Idealize.ShloMosaic.StableHlo
open Idealize.ShloMosaic.Pipeline (Dat)
open Cert.Lift Cert.Sums

local notation "E" => Idealize.ShloMosaic.Ideal

section host
variable (m : (ℓ : Loc nD τ sig) → Buf (Elt E) ℓ) (c : Dev nD)

abbrev argX : FVec E S8192x2048 .f32 := m ((c : Thread nD τ).loc main_arg0)
abbrev argG : FVec E S2048 .f32 := m ((c : Thread nD τ).loc main_arg1)
abbrev argW : FVec E S4x512x512 .f32 := m ((c : Thread nD τ).loc main_arg2)
abbrev argB : FVec E S2048 .f32 := m ((c : Thread nD τ).loc main_arg3)
abbrev argS : FVec E S2048 .f32 := m ((c : Thread nD τ).loc main_arg4)
abbrev argC : FVec E S8192x2048 .f32 := m ((c : Thread nD τ).loc main_arg5)

/-- The saved array: the product, and the bias. -/
def saved : FVec E S8192x2048 .f32 := (addf (Cert.PoolRefIdeal.Read.val_main_v151 (F := E) (argX m c) (argG m c) (argW m c))
    (broadcastInDim S8192x2048 ![0, 1] bcast_S1x2048_S8192x2048_0_1 (broadcastInDim S1x2048 ![1] bcast_S2048_S1x2048_1 (argB m c))) : FVec E S8192x2048 .f32)

theorem means_eq (x : FVec E S8192x2048 .f32) (g : FVec E S2048 .f32) {a b c e : FVec E S8192x512 .f32} (ha : a = Cert.PoolRefIdeal.Read.val_main_v52 (F := E) x g)
    (hb : b = Cert.PoolRefIdeal.Read.val_main_v83 (F := E) x g) (hc : c = Cert.PoolRefIdeal.Read.val_main_v114 (F := E) x g) (he : e = Cert.PoolRefIdeal.Read.val_main_v145 (F := E) x g) :
    concatenate S8192x2048 1 [⟨S8192x512, a⟩, ⟨S8192x512, b⟩, ⟨S8192x512, c⟩, ⟨S8192x512, e⟩] concatenates_S8192x512_S8192x512_S8192x512_S8192x512_S8192x2048_d1
      = Cert.PoolRefIdeal.Read.val_main_v146 (F := E) x g := by
  subst ha hb hc he
  rfl

/-- The product that the kernel's saved array is made of is the reference's. -/
theorem V_v149 : V m c main_v149 = saved m c := by
  simp only [V, hostOps0, hostOps0_1, hostOps0_2, List.flatten_cons, List.flatten_nil, List.append_nil, List.cons_append, List.nil_append, TRef.nullary, TRef.ternary, TRef.binary, TRef.unary, TRef.toBuf, TRef.ofBuf, cast_eq]
  after_results_simp
  refine Eq.trans (congrArg (fun y : FVec E S8192x2048 .f32 => addf (fun i => shapeCast main_v146.ty.shape (transpose S8192x4x512 [2, 0, 1]
    (Host.dotGeneral (F := E) (φ₁ := .f32) (φ₂ := .f32) dot_S4x512x512_S8192x4x512_S4x512x8192_1_2_2_0_0_1 none (m (c, Proc.tc.devRef main_arg2)) fun i =>
      shapeCast main_v143.ty.shape (subf y _) shapeCasts_S8192x2048_S8192x4x512 i)
    transposes_S4x512x8192_S8192x4x512_2_0_1) shapeCasts_S8192x4x512_S8192x2048 i)
    (broadcastInDim S8192x2048 ![0, 1] bcast_S1x2048_S8192x2048_0_1 (broadcastInDim S1x2048 ![1] bcast_S2048_S1x2048_1 (m (c, Proc.tc.devRef main_arg3)))))
     (?_ : _ = Cert.PoolRefIdeal.Read.val_main_v146 (argX m c) (argG m c))) ?_
  · refine means_eq _ _ ?_ ?_ ?_ ?_
    all_goals dsimp only [Matrix.cons_val]
    all_goals after_results_simp
    all_goals rfl
  · rfl

/-- What the host lines hand to the call. -/
structure Handed : Prop where
  v150 : V m c main_v150 = (broadcastInDim S1x2048 ![1] bcast_S2048_S1x2048_1 (argG m c) : FVec E S1x2048 .f32)
  v151 : V m c main_v151 = (argW m c : S4x512x512.Idx → EReal)
  v152 : V m c main_v152 = (broadcastInDim S1x2048 ![1] bcast_S2048_S1x2048_1 (argS m c) : FVec E S1x2048 .f32)

theorem handed : Handed m c := by
  constructor <;> (simp only [V, hostOps0, hostOps0_1, hostOps0_2, List.flatten_cons, List.flatten_nil, List.append_nil, List.cons_append, List.nil_append, TRef.nullary, TRef.ternary, TRef.binary, TRef.unary, TRef.toBuf, TRef.ofBuf, cast_eq]; after_results_simp <;> rfl)

theorem line_at (x : FVec E S2048 .f32) (z : Fin 1) (l : Fin 2048) : (broadcastInDim S1x2048 ![1] bcast_S2048_S1x2048_1 x : FVec E S1x2048 .f32) (ix2 z l) = x (ix1 l) := by
  pointwise

variable (t : Fin cfg0.N) (a : Fin 256) (l : Fin 2048)

/-- Row `a` of block `t`. -/
def row (t : Fin cfg0.N) (a : Fin 256) : Fin 8192 := ⟨t.val * 256 + a.val, by have h : t.val < 32 := t.isLt; have := a.isLt; omega⟩

theorem idx_0 : ∀ t : Fin grid0.N, win0_0.index t 0 = t.val ∧ win0_0.index t 1 = 0 := by decide +kernel
theorem idx_2 : ∀ t : Fin grid0.N, win0_2.index t 0 = t.val ∧ win0_2.index t 1 = 0 := by decide +kernel
theorem idx_3 : ∀ t : Fin grid0.N, win0_3.index t 0 = t.val ∧ win0_3.index t 1 = 0 := by decide +kernel
theorem idx_4 : ∀ t : Fin grid0.N, win0_4.index t 0 = 0 ∧ win0_4.index t 1 = 0 := by decide +kernel
theorem idx_6 : ∀ t : Fin grid0.N, win0_6.index t 0 = 0 ∧ win0_6.index t 1 = 0 := by decide +kernel
theorem idx_7 : ∀ t : Fin grid0.N, win0_7.index t 0 = t.val ∧ win0_7.index t 1 = 0 := by decide +kernel
theorem idx_8 : ∀ t : Fin grid0.N, win0_8.index t 0 = t.val ∧ win0_8.index t 1 = 0 := by decide +kernel
theorem idx_9 : ∀ t : Fin grid0.N, win0_9.index t 0 = 0 ∧ win0_9.index t 1 = 0 := by decide +kernel
theorem idx_10 : ∀ t : Fin grid0.N, win0_10.index t 0 = 0 ∧ win0_10.index t 1 = 0 := by decide +kernel
theorem idx_11 : ∀ t : Fin grid0.N, win0_11.index t 0 = 0 ∧ win0_11.index t 1 = 0 := by decide +kernel
theorem idx_1 : ∀ t : Fin grid0.N, win0_1.index t 0 = min ((t.val + 1) * 16) 511 ∧ win0_1.index t 1 = 0 := by decide +kernel
theorem idx_5 : ∀ t : Fin grid0.N, win0_5.index t 0 = 0 ∧ win0_5.index t 1 = 0 ∧ win0_5.index t 2 = 0 := by decide +kernel
theorem coord : ∀ t : Fin grid0.N, (grid0.coords t 0).val = t.val := by decide +kernel

theorem iblk_0 : iblk m c 0 t (ix2 a l) = argC m c (ix2 (row t a) l) := by
  rw [show argC m c = V m c main_arg5 from (V_main_arg5 m c).symm]
  unfold iblk
  rw [View.read_apply]
  show V m c main_arg5 _ = _
  congr 1
  blk_ext [idx_0 t, row]

theorem iblk_2 : iblk m c 2 t (ix2 a l) = argX m c (ix2 (row t a) l) := by
  rw [show argX m c = V m c main_arg0 from (V_main_arg0 m c).symm]
  unfold iblk
  rw [View.read_apply]
  show V m c main_arg0 _ = _
  congr 1
  blk_ext [idx_2 t, row]

theorem iblk_3 : iblk m c 3 t (ix2 a l) = saved m c (ix2 (row t a) l) := by
  rw [← V_v149]
  unfold iblk
  rw [View.read_apply]
  show V m c main_v149 _ = _
  congr 1
  blk_ext [idx_3 t, row]

theorem iblk_4 (z : Fin 1) : iblk m c 4 t (ix2 z l) = (broadcastInDim S1x2048 ![1] bcast_S2048_S1x2048_1 (argG m c) : FVec E S1x2048 .f32) (ix2 z l) := by
  rw [← (handed m c).v150]
  unfold iblk
  rw [View.read_apply]
  show V m c main_v150 _ = _
  congr 1
  blk_ext [idx_4 t, row]

theorem iblk_6 (z : Fin 1) : iblk m c 6 t (ix2 z l) = (broadcastInDim S1x2048 ![1] bcast_S2048_S1x2048_1 (argS m c) : FVec E S1x2048 .f32) (ix2 z l) := by
  rw [← (handed m c).v152]
  unfold iblk
  rw [View.read_apply]
  show V m c main_v152 _ = _
  congr 1
  blk_ext [idx_6 t, row]

theorem iblk_5 (q : Fin 4) (d k : Fin 512) : iblk m c 5 t (ix3 q d k) = argW m c (ix3 q d k) := by
  rw [← (handed m c).v151]
  unfold iblk
  rw [View.read_apply]
  show V m c main_v151 _ = _
  congr 1
  blk_ext [idx_5 t, row]

/-- The rows after a block, the last block's own last rows where there are none. -/
theorem iblk_1 (b : Fin 16) (r : Fin 8192) (hr : t.val < 31 → r.val = t.val * 256 + 256 + b.val) (ht : t.val < 31) : iblk m c 1 t (ix2 b l) = argC m c (ix2 r l) := by
  rw [show argC m c = V m c main_arg5 from (V_main_arg5 m c).symm]
  unfold iblk
  rw [View.read_apply]
  show V m c main_arg5 _ = _
  congr 1
  have h := hr ht
  have h1 : win0_1.index t 0 = (t.val + 1) * 16 := (idx_1 t).1.trans (Nat.min_eq_left (by omega))
  funext e
  apply Fin.ext
  match e with
  | ⟨0, _⟩ => show win0_1.index t 0 * 16 + 1 * b.val = r.val; rw [h1]; omega
  | ⟨1, _⟩ => show win0_1.index t 1 * 2048 + 1 * l.val = l.val; rw [(idx_1 t).2]; omega

/-- The halo's rows are always rows of the cotangent. -/
theorem iblk_1' (b : Fin 16) : ∃ r : Fin 8192, iblk m c 1 t (ix2 b l) = argC m c (ix2 r l) := by
  have h1 : win0_1.index t 0 = min ((t.val + 1) * 16) 511 := (idx_1 t).1
  have hb := b.isLt
  refine ⟨⟨min ((t.val + 1) * 16) 511 * 16 + b.val, by omega⟩, ?_⟩
  rw [show argC m c = V m c main_arg5 from (V_main_arg5 m c).symm]
  unfold iblk
  rw [View.read_apply]
  show V m c main_arg5 _ = _
  congr 1
  funext e
  apply Fin.ext
  match e with
  | ⟨0, _⟩ => show win0_1.index t 0 * 16 + 1 * b.val = _; rw [h1]; show _ = min ((t.val + 1) * 16) 511 * 16 + b.val; omega
  | ⟨1, _⟩ => show win0_1.index t 1 * 2048 + 1 * l.val = l.val; rw [(idx_1 t).2]; omega

end host

end Cert.PoolIdeal.Bwd

end
-- ==== Proof.PoolValue.lean ====
/- The pooling layer's backward kernel: what its five result arrays hold, where the arguments that matter are real. -/
module

public import proofs.«01_k».proof.Proof.PoolHost

@[expose] public section

set_option maxRecDepth 16384

noncomputable section

namespace Cert.Pool

open Cert.Sums Idealize.ShloMosaic

section spec
variable (ct : (⟨2, ![8192, 2048]⟩ : Shape).Idx → ℝ) (s : (⟨1, ![2048]⟩ : Shape).Idx → ℝ) (w : (⟨3, ![4, 512, 512]⟩ : Shape).Idx → ℝ)
  (x : (⟨2, ![8192, 2048]⟩ : Shape).Idx → ℝ) (g : (⟨1, ![2048]⟩ : Shape).Idx → ℝ)

/-- The gradient of the product. -/
def zr (r : Fin 8192) (l : Fin 2048) : ℝ := ct (ix2 r l) * s (ix1 l)

def wq (q : Fin 4) (c k : Fin 512) : ℝ := w (ix3 q c k)

/-- The gradient of the normalised rows, by lane. -/
def dhl (l : Fin 2048) (r : Fin 8192) : ℝ :=
  dhg (zr ct s) (wq w) ⟨l.val / 512, by have := l.isLt; omega⟩ ⟨l.val % 512, Nat.mod_lt _ (by decide)⟩ r

theorem dhl_col (q : Fin 4) (c : Fin 512) (r : Fin 8192) : dhl ct s w (col q c) r = dhg (zr ct s) (wq w) q c r := by
  unfold dhl
  have hc := c.isLt
  congr 1
  · exact Fin.ext (show (q.val * 512 + c.val) / 512 = q.val by omega)
  · exact Fin.ext (show (q.val * 512 + c.val) % 512 = c.val by omega)

def xrow (r : Fin 8192) (k : Fin 2048) : ℝ := x (ix2 r k)

/-- The gradient of the layer's input. -/
def outX (r : Fin 8192) (l : Fin 2048) : ℝ := ct (ix2 r l) + Rms.back (xrow x r) (fun k => dhl ct s w k r * g (ix1 k)) l

/-- A token's part of the gradient of the normalisation's weights. -/
def partG (l : Fin 2048) (r : Fin 8192) : ℝ := dhl ct s w l r * (x (ix2 r l) * Rms.inv (xrow x r))

def arrX : (⟨2, ![8192, 2048]⟩ : Shape).Idx → EReal := fun i => (outX ct s w x g (i 0) (i 1) : EReal)
def arrZ : (⟨2, ![8192, 2048]⟩ : Shape).Idx → EReal := fun i => (zr ct s (i 0) (i 1) : EReal)
def arrG : (⟨2, ![1, 2048]⟩ : Shape).Idx → EReal := fun i => ((∑ r : Fin 8192, partG ct s w x (i 1) r : ℝ) : EReal)
def arrS (zb : (⟨2, ![8192, 2048]⟩ : Shape).Idx → EReal) : (⟨2, ![1, 2048]⟩ : Shape).Idx → EReal :=
  fun i => ∑ r : Fin 8192, (ct (ix2 r (i 1)) : EReal) * zb (ix2 r (i 1))
def arrB : (⟨2, ![1, 2048]⟩ : Shape).Idx → EReal := fun i => ((∑ r : Fin 8192, zr ct s r (i 1) : ℝ) : EReal)

end spec

end Cert.Pool

namespace Cert.PoolIdeal.Bwd

open Cert.PoolIdeal Cert.PoolIdeal.Gen Cert.Pool
open Idealize.ShloMosaic Idealize.ShloMosaic.TcCoe Idealize.SL.Sem Idealize.ShloMosaic.Tactic Idealize.ShloMosaic.StableHlo
open Idealize.ShloMosaic.Pipeline (Dat)
open Cert.Lift Cert.Sums

local notation "E" => Idealize.ShloMosaic.Ideal

section arrays
variable (m : (ℓ : Loc nD τ sig) → Buf (Elt E) ℓ) (c : Dev nD)
  (ct x : S8192x2048.Idx → ℝ) (s g : S2048.Idx → ℝ) (w : S4x512x512.Idx → ℝ)
  (hc : argC m c = up ct) (hs : argS m c = up s) (hw : argW m c = up w) (hx : argX m c = up x) (hg : argG m c = up g)
  (t : Fin cfg0.N) (a : Fin 256) (l : Fin 2048) (z : Fin 1)

include hc hs in
theorem ext16_real (r : Fin 272) :
    ext16 (grid0.coords t) (iblk m c 6 t) (iblk m c 0 t) (iblk m c 1 t) (ix2 r l) = (ext (fun n => zr ct s n l) ((grid0.coords t 0).val * 256 + r.val) : ℝ) := by
  have hN : t.val < 32 := t.isLt
  have hsc : iblk m c 6 t (ix2 0 l) = (s (ix1 l) : EReal) := by rw [iblk_6, line_at, hs]
  by_cases h : r.val < 256
  · rw [ext16_top _ _ _ _ r ⟨r.val, h⟩ rfl l, iblk_0, hc, hsc, coord t]
    show ((ct (ix2 (row t ⟨r.val, h⟩) l) : ℝ) : EReal) * _ = _
    rw [← EReal.coe_mul]
    exact congrArg _ (ext_val (fun n => zr ct s n l) (row t ⟨r.val, h⟩)).symm
  · have hr := r.isLt
    obtain ⟨b, hb⟩ : ∃ b : Fin 16, r.val = 256 + b.val := ⟨⟨r.val - 256, by omega⟩, by show r.val = 256 + (r.val - 256); omega⟩
    have hbl := b.isLt
    rw [ext16_tail _ _ _ _ r b hb l, hsc, coord t]
    by_cases ht : t.val < 31
    · rw [iblk_1 m c t l b ⟨t.val * 256 + 256 + b.val, by omega⟩ (fun _ => rfl) ht, hc, if_pos ht, mul_one]
      show ((ct (ix2 (⟨t.val * 256 + 256 + b.val, by omega⟩ : Fin 8192) l) : ℝ) : EReal) * _ = _
      rw [← EReal.coe_mul, hb, ← Nat.add_assoc]
      exact congrArg _ (ext_val (fun n => zr ct s n l) (⟨t.val * 256 + 256 + b.val, by omega⟩ : Fin 8192)).symm
    · rw [if_neg ht, mul_zero]
      unfold ext
      rw [dif_neg (by omega)]
      rfl

include hc hs hw in
theorem dh_block : dhAt m c t (ix2 a l) = (dhl ct s w l (row t a) : EReal) := by
  obtain ⟨q, d, rfl⟩ := col_surj l
  unfold dhAt
  rw [dh_real (zr ct s) (wq w) (iblk m c 5 t) (fun q d k => by rw [iblk_5, hw]; rfl) (grid0.coords t) _ _ _ (fun r l => ext16_real m c ct s hc hs t l r) a q d (row t a) (by rw [coord t]; rfl),
    dhl_col]

include hx in
theorem x_block : iblk m c 2 t (ix2 a l) = (xrow x (row t a) l : EReal) := by rw [iblk_2, hx]; rfl

include hx in
theorem inv_block : k0_pay18 (iblk m c 2 t) (ix2 a 0) = (Rms.inv (xrow x (row t a)) : EReal) := by
  rw [pay18_at]
  simp only [x_block m c x hx]
  rw [Rms.ms_coe _ _ (Rms.ofBits_2048.trans (by norm_num)) (by norm_num), Rms.inv_coe]

include hx in
theorem xn_block : k0_pay19 (iblk m c 2 t) (ix2 a l) = ((xrow x (row t a) l * Rms.inv (xrow x (row t a)) : ℝ) : EReal) := by
  rw [pay19_at, x_block m c x hx, inv_block m c x hx, EReal.coe_mul]

theorem scaled_at (y : FVec E S256x2048 .f32) (gv : Vec E S1x2048 .f32) :
    mulf y (broadcastTo S256x2048 (shapeCast S1x2048 gv shapeCasts_S1x2048_S1x2048 : FVec E S1x2048 .f32) broadcasts_S1x2048_S256x2048) (ix2 a l) = y (ix2 a l) * gv (ix2 0 l) := by
  pointwise

include hc hs hw hx hg in
theorem dx_block : dxAt m c t (ix2 a l) = (outX ct s w x g (row t a) l : EReal) := by
  have hgl : ∀ k, iblk m c 4 t (ix2 0 k) = (g (ix1 k) : EReal) := fun k => by rw [iblk_4, line_at, hg]
  have e : ∀ k, mulf (dhAt m c t) (broadcastTo S256x2048 (shapeCast S1x2048 (iblk m c 4 t) shapeCasts_S1x2048_S1x2048 : FVec E S1x2048 .f32) broadcasts_S1x2048_S256x2048) (ix2 a k)
      = ((dhl ct s w k (row t a) * g (ix1 k) : ℝ) : EReal) := fun k => by
    rw [scaled_at, dh_block m c ct s w hc hs hw, hgl, EReal.coe_mul]
  have e' : ∀ k, mulf (mulf (dhAt m c t) (broadcastTo S256x2048 (shapeCast S1x2048 (iblk m c 4 t) shapeCasts_S1x2048_S1x2048 : FVec E S1x2048 .f32) broadcasts_S1x2048_S256x2048))
      (k0_pay19 (iblk m c 2 t)) (ix2 a k) = ((dhl ct s w k (row t a) * g (ix1 k) * (xrow x (row t a) k * Rms.inv (xrow x (row t a))) : ℝ) : EReal) := fun k => by
    refine (congrArg₂ (fun u v : EReal => u * v) (e k) (xn_block m c x hx t a k)).trans ?_
    rw [← EReal.coe_mul]
  have h : dxAt m c t = k0_pay1 (iblk m c 0 t) (k0_pay18 (iblk m c 2 t)) (k0_pay19 (iblk m c 2 t))
      (mulf (dhAt m c t) (broadcastTo S256x2048 (shapeCast S1x2048 (iblk m c 4 t) shapeCasts_S1x2048_S1x2048 : FVec E S1x2048 .f32) broadcasts_S1x2048_S256x2048))
      (mulf (mulf (dhAt m c t) (broadcastTo S256x2048 (shapeCast S1x2048 (iblk m c 4 t) shapeCasts_S1x2048_S1x2048 : FVec E S1x2048 .f32) broadcasts_S1x2048_S256x2048)) (k0_pay19 (iblk m c 2 t))) := rfl
  rw [h, pay1_at, e, iblk_0, hc, inv_block m c x hx, xn_block m c x hx]
  simp only [e']
  rw [← coe_sum, Rms.ofBits_2048, div_coe (by norm_num), ← EReal.coe_mul, ← EReal.coe_sub, ← EReal.coe_mul]
  show ((ct (ix2 (row t a) l) : ℝ) : EReal) + _ = _
  rw [← EReal.coe_add]
  unfold outX Rms.back
  norm_num

include hc hs in
theorem z_block : k0_pay9 (iblk m c 6 t) (iblk m c 0 t) (ix2 a l) = (zr ct s (row t a) l : EReal) := by
  rw [pay9_at, iblk_0, iblk_6, line_at, hc, hs]
  show ((ct _ : ℝ) : EReal) * ((s _ : ℝ) : EReal) = _
  rw [← EReal.coe_mul]
  rfl

theorem outs_7 : (outsAt0 m c t.val t.isLt).1 = dxAt m c t := by
  by_cases h : t.val % 32 = 0
  · rw [outs_A m c t h]
  · rw [outs_B m c t h]

theorem outs_8 : (outsAt0 m c t.val t.isLt).2.1 = k0_pay10 (iblk m c 6 t) (iblk m c 0 t) := by
  by_cases h : t.val % 32 = 0
  · rw [outs_A m c t h]
  · rw [outs_B m c t h]

/-- A row that the first point sets and later ones add to, as the sum over the rows so far. -/
theorem carried {M : Type} [AddCommMonoid M] (o : (n : ℕ) → n < cfg0.N → M) (f : Fin 8192 → M)
    (h0 : o 0 (by decide) = ∑ b : Fin 256, f (row ⟨0, by decide⟩ b))
    (h1 : ∀ n (h : n + 1 < cfg0.N), o (n + 1) h = o n (Nat.lt_of_succ_lt h) + ∑ b : Fin 256, f (row ⟨n + 1, h⟩ b))
    (n : ℕ) (hn : n < cfg0.N) (hl : n = 31) : o n hn = ∑ r : Fin 8192, f r := by
  subst hl
  have key := acc_upto (T := 256) (n := 32) f (fun n => if h : n < cfg0.N then o n h else 0)
    (by
      rw [dif_pos (by decide), h0]
      refine Finset.sum_congr rfl fun b _ => ?_
      rw [← ext_val f]
      show ext f (0 * 256 + b.val) = _
      rw [Nat.zero_mul, Nat.zero_add])
    (by
      intro k hk
      rw [dif_pos (show k + 1 < cfg0.N from hk), dif_pos (show k < cfg0.N from Nat.lt_of_succ_lt hk), h1 k hk]
      refine congrArg _ (Finset.sum_congr rfl fun b _ => ?_)
      rw [← ext_val f]
      rfl) 31 (by decide)
  rw [dif_pos (by decide)] at key
  rw [key]
  exact upto_all f

include hc hs hw hx in
theorem outs_9 (n : ℕ) (hn : n < cfg0.N) (hl : n = 31) : (outsAt0 m c n hn).2.2.1 (ix2 z l) = ((∑ r : Fin 8192, partG ct s w x l r : ℝ) : EReal) := by
  have part : ∀ t : Fin cfg0.N, k0_pay2 (dhAt m c t) (k0_pay19 (iblk m c 2 t)) (ix2 z l) = ∑ b : Fin 256, (partG ct s w x l (row t b) : EReal) := fun t => by
    rw [pay2_at]
    refine Finset.sum_congr rfl fun b _ => ?_
    rw [dh_block m c ct s w hc hs hw, xn_block m c x hx, ← EReal.coe_mul]
    rfl
  rw [coe_sum]
  refine carried (fun n h => (outsAt0 m c n h).2.2.1 (ix2 z l)) (fun r => (partG ct s w x l r : EReal)) ?_ (fun n h => ?_) n hn hl
  · show (outsAt0 m c 0 _).2.2.1 (ix2 z l) = _
    rw [show outsAt0 m c 0 (by decide) = _ from outs_A m c ⟨0, by decide⟩ rfl]
    exact part _
  · have hN : n + 1 < 32 := h
    show (outsAt0 m c (n + 1) h).2.2.1 (ix2 z l) = _
    rw [show outsAt0 m c (n + 1) h = _ from outs_B m c ⟨n + 1, h⟩ (by show ¬(n + 1) % 32 = 0; omega)]
    show k0_pay5 _ _ _ (ix2 z l) = _
    rw [pay5_at, part]
    rfl

include hc in
theorem outs_10 (n : ℕ) (hn : n < cfg0.N) (hl : n = 31) : (outsAt0 m c n hn).2.2.2.1 (ix2 z l) = ∑ r : Fin 8192, (ct (ix2 r l) : EReal) * saved m c (ix2 r l) := by
  have part : ∀ t : Fin cfg0.N, k0_pay3 (iblk m c 0 t) (iblk m c 3 t) (ix2 z l) = ∑ b : Fin 256, (ct (ix2 (row t b) l) : EReal) * saved m c (ix2 (row t b) l) := fun t => by
    rw [pay3_at]
    refine Finset.sum_congr rfl fun b _ => ?_
    rw [iblk_0, iblk_3, hc]
  refine carried (fun n h => (outsAt0 m c n h).2.2.2.1 (ix2 z l)) (fun r => (ct (ix2 r l) : EReal) * saved m c (ix2 r l)) ?_ (fun n h => ?_) n hn hl
  · show (outsAt0 m c 0 _).2.2.2.1 (ix2 z l) = _
    rw [show outsAt0 m c 0 (by decide) = _ from outs_A m c ⟨0, by decide⟩ rfl]
    exact part _
  · have hN : n + 1 < 32 := h
    show (outsAt0 m c (n + 1) h).2.2.2.1 (ix2 z l) = _
    rw [show outsAt0 m c (n + 1) h = _ from outs_B m c ⟨n + 1, h⟩ (by show ¬(n + 1) % 32 = 0; omega)]
    show k0_pay6 _ _ _ (ix2 z l) = _
    rw [pay6_at, part]
    rfl

include hc hs in
theorem outs_11 (n : ℕ) (hn : n < cfg0.N) (hl : n = 31) : (outsAt0 m c n hn).2.2.2.2 (ix2 z l) = ((∑ r : Fin 8192, zr ct s r l : ℝ) : EReal) := by
  have part : ∀ t : Fin cfg0.N, k0_pay4 (k0_pay9 (iblk m c 6 t) (iblk m c 0 t)) (ix2 z l) = ∑ b : Fin 256, (zr ct s (row t b) l : EReal) := fun t => by
    rw [pay4_at]
    refine Finset.sum_congr rfl fun b _ => ?_
    rw [z_block m c ct s hc hs]
  rw [coe_sum]
  refine carried (fun n h => (outsAt0 m c n h).2.2.2.2 (ix2 z l)) (fun r => (zr ct s r l : EReal)) ?_ (fun n h => ?_) n hn hl
  · show (outsAt0 m c 0 _).2.2.2.2 (ix2 z l) = _
    rw [show outsAt0 m c 0 (by decide) = _ from outs_A m c ⟨0, by decide⟩ rfl]
    exact part _
  · have hN : n + 1 < 32 := h
    show (outsAt0 m c (n + 1) h).2.2.2.2 (ix2 z l) = _
    rw [show outsAt0 m c (n + 1) h = _ from outs_B m c ⟨n + 1, h⟩ (by show ¬(n + 1) % 32 = 0; omega)]
    show k0_pay7 _ _ (ix2 z l) = _
    rw [pay7_at, part]
    rfl

end arrays

section finals
variable (m : (ℓ : Loc nD τ sig) → Buf (Elt E) ℓ) (c : Dev nD)
  (ct x : S8192x2048.Idx → ℝ) (s g : S2048.Idx → ℝ) (w : S4x512x512.Idx → ℝ)
  (hc : argC m c = up ct) (hs : argS m c = up s) (hw : argW m c = up w) (hx : argX m c = up x) (hg : argG m c = up g)

include hc hs hw hx hg in
/-- The first result: the gradient of the layer's input. -/
theorem final_7 : (dats m 0 c).arrAt 7 cfg0.N = arrX ct s w x g := by
  refine (dats m 0 c).arrAt_eq_of_cover 7 _ (fun t _ => ?_) (fun (i : S8192x2048.Idx) => ?_)
  · show (cfg0.win 7).cut (grid0.coords t) ((dats m 0 c).after 7 t) = _
    rw [after0_7, outs_7]
    funext j
    rw [View.read_apply]
    obtain ⟨a, l, rfl⟩ : ∃ (a : Fin 256) (l : Fin 2048), j = ix2 a l := ⟨j 0, j 1, (ix2_eta j).symm⟩
    refine (dx_block m c ct x s g w hc hs hw hx hg t a l).trans ?_
    have e : ((cfg0.win 7).blk t).view.emb (ix2 a l) = ix2 (row t a) l := by
      funext b
      apply Fin.ext
      match b with
      | ⟨0, _⟩ => show win0_7.index t 0 * 256 + 1 * a.val = t.val * 256 + a.val; rw [(idx_7 t).1, one_mul]
      | ⟨1, _⟩ => show win0_7.index t 1 * 2048 + 1 * l.val = l.val; rw [(idx_7 t).2]; omega
    rw [e]
    rfl
  · have h0 : (i 0).val < 8192 := (i 0).isLt
    have h1 : (i 1).val < 2048 := (i 1).isLt
    obtain ⟨t, ht⟩ : ∃ t : Fin cfg0.N, t.val = (i 0).val / 256 := ⟨⟨(i 0).val / 256, by show _ < 32; omega⟩, rfl⟩
    refine ⟨t, flush0_7 _, ?_⟩
    show i ∈ ((View.whole main_v153_0).slice (win0_7.rect t)).set
    rw [View.set_slice_whole, Rect.mem_set_unit]
    intro a
    match a with
    | ⟨0, _⟩ =>
      show win0_7.index _ 0 * 256 ≤ (i 0).val ∧ (i 0).val < win0_7.index _ 0 * 256 + 256
      rw [(idx_7 _).1]; omega
    | ⟨1, _⟩ =>
      show win0_7.index _ 1 * 2048 ≤ (i 1).val ∧ (i 1).val < win0_7.index _ 1 * 2048 + 2048
      rw [(idx_7 _).2]; omega

include hc hs in
/-- The second result: the gradient of the product. -/
theorem final_8 : (dats m 0 c).arrAt 8 cfg0.N = arrZ ct s := by
  refine (dats m 0 c).arrAt_eq_of_cover 8 _ (fun t _ => ?_) (fun (i : S8192x2048.Idx) => ?_)
  · show (cfg0.win 8).cut (grid0.coords t) ((dats m 0 c).after 8 t) = _
    rw [after0_8, outs_8]
    funext j
    rw [View.read_apply]
    obtain ⟨a, l, rfl⟩ : ∃ (a : Fin 256) (l : Fin 2048), j = ix2 a l := ⟨j 0, j 1, (ix2_eta j).symm⟩
    refine ((pay10_at _ _ a l).trans ((pay9_at _ _ a l).symm.trans (z_block m c ct s hc hs t a l))).trans ?_
    have e : ((cfg0.win 8).blk t).view.emb (ix2 a l) = ix2 (row t a) l := by
      funext b
      apply Fin.ext
      match b with
      | ⟨0, _⟩ => show win0_8.index t 0 * 256 + 1 * a.val = t.val * 256 + a.val; rw [(idx_8 t).1, one_mul]
      | ⟨1, _⟩ => show win0_8.index t 1 * 2048 + 1 * l.val = l.val; rw [(idx_8 t).2]; omega
    rw [e]
    rfl
  · have h0 : (i 0).val < 8192 := (i 0).isLt
    have h1 : (i 1).val < 2048 := (i 1).isLt
    obtain ⟨t, ht⟩ : ∃ t : Fin cfg0.N, t.val = (i 0).val / 256 := ⟨⟨(i 0).val / 256, by show _ < 32; omega⟩, rfl⟩
    refine ⟨t, flush0_8 _, ?_⟩
    show i ∈ ((View.whole main_v153_1).slice (win0_8.rect t)).set
    rw [View.set_slice_whole, Rect.mem_set_unit]
    intro a
    match a with
    | ⟨0, _⟩ =>
      show win0_8.index _ 0 * 256 ≤ (i 0).val ∧ (i 0).val < win0_8.index _ 0 * 256 + 256
      rw [(idx_8 _).1]; omega
    | ⟨1, _⟩ =>
      show win0_8.index _ 1 * 2048 ≤ (i 1).val ∧ (i 1).val < win0_8.index _ 1 * 2048 + 2048
      rw [(idx_8 _).2]; omega

include hc hs hw hx in
/-- The third result: the gradient of the normalisation's weights. -/
theorem final_9 : (dats m 0 c).arrAt 9 cfg0.N = arrG ct s w x := by
  refine (dats m 0 c).arrAt_eq_of_cover 9 _ (fun t hf => ?_) (fun (i : S1x2048.Idx) => ?_)
  · have ht : t.val = 31 := by
      have := (flush0_9 t).mp hf
      have h16 : t.val < 32 := t.isLt
      omega
    show (cfg0.win 9).cut (grid0.coords t) ((dats m 0 c).after 9 t) = _
    rw [after0_9]
    funext j
    rw [View.read_apply]
    obtain ⟨a, l, rfl⟩ : ∃ (a : Fin 1) (l : Fin 2048), j = ix2 a l := ⟨j 0, j 1, (ix2_eta j).symm⟩
    refine (outs_9 m c ct x s w hc hs hw hx l a t.val t.isLt ht).trans ?_
    have e : ((cfg0.win 9).blk t).view.emb (ix2 a l) = ix2 a l := by
      funext b
      apply Fin.ext
      match b with
      | ⟨0, _⟩ => show win0_9.index t 0 * 1 + 1 * a.val = a.val; rw [(idx_9 _).1]; omega
      | ⟨1, _⟩ => show win0_9.index t 1 * 2048 + 1 * l.val = l.val; rw [(idx_9 _).2]; omega
    rw [e]
    rfl
  · obtain ⟨t, ht⟩ : ∃ t : Fin cfg0.N, t.val = 31 := ⟨⟨31, by decide⟩, rfl⟩
    refine ⟨t, (flush0_9 _).mpr (by rw [ht]), ?_⟩
    have h0 : (i 0).val < 1 := (i 0).isLt
    have h1 : (i 1).val < 2048 := (i 1).isLt
    show i ∈ ((View.whole main_v153_2).slice (win0_9.rect t)).set
    rw [View.set_slice_whole, Rect.mem_set_unit]
    intro a
    match a with
    | ⟨0, _⟩ =>
      show win0_9.index _ 0 * 1 ≤ (i 0).val ∧ (i 0).val < win0_9.index _ 0 * 1 + 1
      rw [(idx_9 _).1]; omega
    | ⟨1, _⟩ =>
      show win0_9.index _ 1 * 2048 ≤ (i 1).val ∧ (i 1).val < win0_9.index _ 1 * 2048 + 2048
      rw [(idx_9 _).2]; omega

include hc in
/-- The fourth result: the gradient of the layer's scale. -/
theorem final_10 : (dats m 0 c).arrAt 10 cfg0.N = arrS ct (saved m c) := by
  refine (dats m 0 c).arrAt_eq_of_cover 10 _ (fun t hf => ?_) (fun (i : S1x2048.Idx) => ?_)
  · have ht : t.val = 31 := by
      have := (flush0_10 t).mp hf
      have h16 : t.val < 32 := t.isLt
      omega
    show (cfg0.win 10).cut (grid0.coords t) ((dats m 0 c).after 10 t) = _
    rw [after0_10]
    funext j
    rw [View.read_apply]
    obtain ⟨a, l, rfl⟩ : ∃ (a : Fin 1) (l : Fin 2048), j = ix2 a l := ⟨j 0, j 1, (ix2_eta j).symm⟩
    refine (outs_10 m c ct hc l a t.val t.isLt ht).trans ?_
    have e : ((cfg0.win 10).blk t).view.emb (ix2 a l) = ix2 a l := by
      funext b
      apply Fin.ext
      match b with
      | ⟨0, _⟩ => show win0_10.index t 0 * 1 + 1 * a.val = a.val; rw [(idx_10 _).1]; omega
      | ⟨1, _⟩ => show win0_10.index t 1 * 2048 + 1 * l.val = l.val; rw [(idx_10 _).2]; omega
    rw [e]
    rfl
  · obtain ⟨t, ht⟩ : ∃ t : Fin cfg0.N, t.val = 31 := ⟨⟨31, by decide⟩, rfl⟩
    refine ⟨t, (flush0_10 _).mpr (by rw [ht]), ?_⟩
    have h0 : (i 0).val < 1 := (i 0).isLt
    have h1 : (i 1).val < 2048 := (i 1).isLt
    show i ∈ ((View.whole main_v153_3).slice (win0_10.rect t)).set
    rw [View.set_slice_whole, Rect.mem_set_unit]
    intro a
    match a with
    | ⟨0, _⟩ =>
      show win0_10.index _ 0 * 1 ≤ (i 0).val ∧ (i 0).val < win0_10.index _ 0 * 1 + 1
      rw [(idx_10 _).1]; omega
    | ⟨1, _⟩ =>
      show win0_10.index _ 1 * 2048 ≤ (i 1).val ∧ (i 1).val < win0_10.index _ 1 * 2048 + 2048
      rw [(idx_10 _).2]; omega

include hc hs in
/-- The fifth result: the gradient of the layer's bias. -/
theorem final_11 : (dats m 0 c).arrAt 11 cfg0.N = arrB ct s := by
  refine (dats m 0 c).arrAt_eq_of_cover 11 _ (fun t hf => ?_) (fun (i : S1x2048.Idx) => ?_)
  · have ht : t.val = 31 := by
      have := (flush0_11 t).mp hf
      have h16 : t.val < 32 := t.isLt
      omega
    show (cfg0.win 11).cut (grid0.coords t) ((dats m 0 c).after 11 t) = _
    rw [after0_11]
    funext j
    rw [View.read_apply]
    obtain ⟨a, l, rfl⟩ : ∃ (a : Fin 1) (l : Fin 2048), j = ix2 a l := ⟨j 0, j 1, (ix2_eta j).symm⟩
    refine (outs_11 m c ct s hc hs l a t.val t.isLt ht).trans ?_
    have e : ((cfg0.win 11).blk t).view.emb (ix2 a l) = ix2 a l := by
      funext b
      apply Fin.ext
      match b with
      | ⟨0, _⟩ => show win0_11.index t 0 * 1 + 1 * a.val = a.val; rw [(idx_11 _).1]; omega
      | ⟨1, _⟩ => show win0_11.index t 1 * 2048 + 1 * l.val = l.val; rw [(idx_11 _).2]; omega
    rw [e]
    rfl
  · obtain ⟨t, ht⟩ : ∃ t : Fin cfg0.N, t.val = 31 := ⟨⟨31, by decide⟩, rfl⟩
    refine ⟨t, (flush0_11 _).mpr (by rw [ht]), ?_⟩
    have h0 : (i 0).val < 1 := (i 0).isLt
    have h1 : (i 1).val < 2048 := (i 1).isLt
    show i ∈ ((View.whole main_v153_4).slice (win0_11.rect t)).set
    rw [View.set_slice_whole, Rect.mem_set_unit]
    intro a
    match a with
    | ⟨0, _⟩ =>
      show win0_11.index _ 0 * 1 ≤ (i 0).val ∧ (i 0).val < win0_11.index _ 0 * 1 + 1
      rw [(idx_11 _).1]; omega
    | ⟨1, _⟩ =>
      show win0_11.index _ 1 * 2048 ≤ (i 1).val ∧ (i 1).val < win0_11.index _ 1 * 2048 + 2048
      rw [(idx_11 _).2]; omega

end finals

end Cert.PoolIdeal.Bwd

end
-- ==== Proof.PoolScatter.lean ====
/- The window means' derivative as scatters: rows added at the two ends of each token's window, summed from a row on,
   are the rows of the windows that contain it. -/
module

public import proofs.«01_k».proof.Proof.PoolValue
public import proofs.«01_k».proof.Proof.Gen.PoolRefIdeal.Run
public import proofs.«01_k».proof.Proof.Gen.PoolRefIdeal.Read
public import Idealize.ShloMosaic.Lib.KernelVsHost

@[expose] public section

set_option maxRecDepth 16384

noncomputable section

namespace Cert.PoolRefIdeal.Bwd

open Cert.PoolRefIdeal Cert.PoolRefIdeal.Gen Cert.Pool
open Idealize.ShloMosaic Idealize.ShloMosaic.TcCoe Idealize.ShloMosaic.Tactic
open Cert.Lift Cert.Sums

local notation "E" => Idealize.ShloMosaic.Ideal
local notation "sd" => scatter_S8193x512_S8192x1_S8192x512_1_0_0_1

/-- Where an update's row lands. -/
theorem lands (idx : IVec S8192x1 32) (t : Fin 8192) (c c' : Fin 512) (j : Fin 8193) :
    ScatterDims.resultIdx? sd (ix2 t c') idx = some (ix2 j c) ↔ (idx (ix2 t 0)).toInt = (j.val : ℤ) ∧ c' = c := by
  have hs0 : ScatterDims.start sd (ix2 t c') idx (0 : Fin 2) = (idx (ix2 t 0)).toInt := by
    unfold ScatterDims.start
    refine (dif_pos (show (0 : Fin 2) ∈ [(0 : Fin 2)] from List.mem_singleton.2 rfl)).trans ?_
    refine congrArg (fun i => (idx i).toInt) ?_
    funext b
    match b with
    | ⟨0, _⟩ => rfl
    | ⟨1, _⟩ => rfl
  have hs1 : ScatterDims.start sd (ix2 t c') idx (1 : Fin 2) = 0 := by
    unfold ScatterDims.start
    exact dif_neg (show ¬ (1 : Fin 2) ∈ [(0 : Fin 2)] by decide)
  have hw0 : ScatterDims.window sd (ix2 t c') (0 : Fin 2) = 0 := rfl
  have hw1 : ScatterDims.window sd (ix2 t c') (1 : Fin 2) = c'.val := rfl
  unfold ScatterDims.resultIdx?
  have hc := c'.isLt
  have hj := j.isLt
  constructor
  · intro h
    split at h
    · rename_i hin
      have e := Option.some.inj h
      have e0 : (ScatterDims.start sd (ix2 t c') idx (0 : Fin 2) + ScatterDims.window sd (ix2 t c') (0 : Fin 2)).toNat = j.val := congrArg Fin.val (congrFun e (0 : Fin 2))
      have e1 : (ScatterDims.start sd (ix2 t c') idx (1 : Fin 2) + ScatterDims.window sd (ix2 t c') (1 : Fin 2)).toNat = c.val := congrArg Fin.val (congrFun e (1 : Fin 2))
      have i0 := (hin (0 : Fin 2)).1
      rw [hs0, hw0] at e0 i0
      rw [hs1, hw1] at e1
      exact ⟨by omega, Fin.ext (by omega)⟩
    · exact absurd h (by simp)
  · rintro ⟨h, rfl⟩
    have hin : ∀ a : Fin 2, 0 ≤ ScatterDims.start sd (ix2 t c') idx a + ScatterDims.window sd (ix2 t c') a ∧
        ScatterDims.start sd (ix2 t c') idx a + ScatterDims.window sd (ix2 t c') a < S8193x512.size a := by
      intro a
      match a with
      | ⟨0, _⟩ =>
        show 0 ≤ ScatterDims.start sd (ix2 t c') idx (0 : Fin 2) + ScatterDims.window sd (ix2 t c') (0 : Fin 2) ∧
          ScatterDims.start sd (ix2 t c') idx (0 : Fin 2) + ScatterDims.window sd (ix2 t c') (0 : Fin 2) < (8193 : ℕ)
        rw [hs0, hw0]; omega
      | ⟨1, _⟩ =>
        show 0 ≤ ScatterDims.start sd (ix2 t c') idx (1 : Fin 2) + ScatterDims.window sd (ix2 t c') (1 : Fin 2) ∧
          ScatterDims.start sd (ix2 t c') idx (1 : Fin 2) + ScatterDims.window sd (ix2 t c') (1 : Fin 2) < (512 : ℕ)
        rw [hs1, hw1]; omega
    rw [dif_pos hin]
    refine congrArg some (funext fun a => Fin.ext ?_)
    match a with
    | ⟨0, _⟩ =>
      show (ScatterDims.start sd (ix2 t c') idx (0 : Fin 2) + ScatterDims.window sd (ix2 t c') (0 : Fin 2)).toNat = j.val
      rw [hs0, hw0]; omega
    | ⟨1, _⟩ =>
      show (ScatterDims.start sd (ix2 t c') idx (1 : Fin 2) + ScatterDims.window sd (ix2 t c') (1 : Fin 2)).toNat = c'.val
      rw [hs1, hw1]; omega

/-- A scatter of rows: the rows whose index word is the row's number are added to it. -/
theorem scatter_at (v : FVec E S8193x512 .f32) (idx : IVec S8192x1 32) (u : FVec E S8192x512 .f32) (j : Fin 8193) (c : Fin 512) :
    Host.scatterAdd sd v idx u (ix2 j c) = v (ix2 j c) + ∑ t : Fin 8192, if (idx (ix2 t 0)).toInt = (j.val : ℤ) then u (ix2 t c) else 0 := by
  show Ideal.hostScatterAdd sd v idx u (ix2 j c) = _
  unfold Ideal.hostScatterAdd
  refine congrArg _ ?_
  rw [Finset.sum_filter, sum_idx2]
  refine Finset.sum_congr rfl fun t _ => ?_
  simp only [lands]
  by_cases h : (idx (ix2 t 0)).toInt = (j.val : ℤ)
  · simp only [h, true_and, if_true]
    rw [Finset.sum_ite_eq' Finset.univ c]
    simp
  · simp only [h, false_and, if_false]
    exact Finset.sum_const_zero

/-- Rows added at each token's last position and taken off before its first, summed from row `r` on. -/
theorem ends (u : Fin 8192 → ℝ) (lo : Fin 8192 → ℕ) (hlo : ∀ t, lo t ≤ t.val) (r : Fin 8192) :
    (∑ s : Fin 8192, if r.val ≤ s.val then (∑ t : Fin 8192, if lo t = s.val + 1 then -u t else 0) + (∑ t : Fin 8192, if t.val + 1 = s.val + 1 then u t else 0) else 0)
      = ∑ t : Fin 8192, if r.val ≤ t.val ∧ lo t ≤ r.val then u t else 0 := by
  have e : ∀ s : Fin 8192, (if r.val ≤ s.val then (∑ t : Fin 8192, if lo t = s.val + 1 then -u t else 0) + (∑ t : Fin 8192, if t.val + 1 = s.val + 1 then u t else 0) else 0)
      = ∑ t : Fin 8192, ((if r.val ≤ s.val ∧ lo t = s.val + 1 then -u t else 0) + (if r.val ≤ s.val ∧ t = s then u t else 0)) := fun s => by
    rw [Finset.sum_add_distrib]
    by_cases h : r.val ≤ s.val
    · simp only [h, if_true, true_and, Nat.add_right_cancel_iff, Fin.ext_iff]
    · simp only [h, if_false, false_and, Finset.sum_const_zero, add_zero]
  rw [Finset.sum_congr rfl fun s _ => e s, Finset.sum_comm]
  refine Finset.sum_congr rfl fun t _ => ?_
  have ht := t.isLt
  have hl := hlo t
  rw [Finset.sum_add_distrib, Finset.sum_eq_single_of_mem t (Finset.mem_univ t) (fun s _ hs => if_neg (fun h => hs h.2.symm)) (f := fun s : Fin 8192 => if r.val ≤ s.val ∧ t = s then u t else 0)]
  by_cases h0 : lo t = 0
  · rw [Finset.sum_eq_zero (fun s _ => if_neg (fun h => by omega))]
    simp only [h0, Nat.zero_le, and_true, zero_add]
  · rw [Finset.sum_eq_single_of_mem (⟨lo t - 1, by omega⟩ : Fin 8192) (Finset.mem_univ _) (fun s _ hs => if_neg (fun h => hs (Fin.ext (by show s.val = lo t - 1; omega))))]
    show (if r.val ≤ lo t - 1 ∧ lo t = lo t - 1 + 1 then -u t else 0) + _ = _
    by_cases h1 : r.val ≤ lo t - 1
    · rw [if_pos ⟨h1, by omega⟩, if_pos ⟨by omega, rfl⟩, if_neg (by omega)]; ring
    · rw [if_neg (fun h => h1 h.1), zero_add]
      by_cases h2 : r.val ≤ t.val
      · rw [if_pos ⟨h2, rfl⟩, if_pos ⟨h2, by omega⟩]
      · rw [if_neg (fun h => h2 h.1), if_neg (fun h => h2 h.1)]

section words

theorem toInt_small (n : ℕ) (h : n < 100000) : (BitVec.ofNat 32 n).toInt = (n : ℤ) := by
  rw [BitVec.toInt_eq_toNat_of_lt (by rw [BitVec.toNat_ofNat]; omega), BitVec.toNat_ofNat]; congr 1; omega

theorem succ_word (n : ℕ) : BitVec.ofNat 32 n + 1#32 = BitVec.ofNat 32 (n + 1) := by
  apply BitVec.eq_of_toNat_eq
  simp only [BitVec.toNat_add, BitVec.toNat_ofNat]
  omega

theorem sub_word (n k : ℕ) (hk : k ≤ n) (hn : n < 100000) : BitVec.ofNat 32 n - BitVec.ofNat 32 k = BitVec.ofNat 32 (n - k) := by
  apply BitVec.eq_of_toNat_eq
  simp only [BitVec.toNat_sub, BitVec.toNat_ofNat]
  omega

/-- A position less a window, and not below zero. -/
theorem max_word (n k : ℕ) (hn : n < 100000) (hk : k < 100000) : IntOp.maxsi (BitVec.ofNat 32 n - BitVec.ofNat 32 k) 0#32 = BitVec.ofNat 32 (n - k) := by
  unfold IntOp.maxsi BitVec.slt
  rw [show (0#32).toInt = 0 from rfl]
  by_cases h : k ≤ n
  · rw [sub_word n k h hn, toInt_small _ (by omega)]
    by_cases h0 : 0 < n - k
    · rw [if_pos (decide_eq_true (by omega))]
    · rw [if_neg (by rw [decide_eq_true_eq]; omega), show n - k = 0 by omega]
  · have ht : (BitVec.ofNat 32 n - BitVec.ofNat 32 k).toInt = (n : ℤ) - k := by
      rw [BitVec.toInt_sub, toInt_small n hn, toInt_small k hk]
      exact Int.bmod_eq_of_le (by omega) (by omega)
    rw [ht, if_neg (by rw [decide_eq_true_eq]; omega), Nat.sub_eq_zero_of_le (by omega)]

/-- A word that isn't negative, taken as a row's number. -/
theorem wrap_word (n : ℕ) (hn : n < 100000) :
    Scalar.select (IntOp.cmpi CmpIPredicate.slt (BitVec.ofNat 32 n) 0#32) (BitVec.ofNat 32 n + 8193#32) (BitVec.ofNat 32 n) = BitVec.ofNat 32 n := by
  have h : ¬ IntOp.cmpi CmpIPredicate.slt (BitVec.ofNat 32 n) 0#32 = 1 := by
    unfold IntOp.cmpi BitVec.slt
    rw [toInt_small n hn, show (0#32).toInt = 0 from rfl, decide_eq_false (by omega)]
    exact (by decide : ¬ BitVec.ofBool false = 1)
  unfold Scalar.select
  rw [if_neg h]

end words

end Cert.PoolRefIdeal.Bwd

end
-- ==== Proof.PoolRefNodes.lean ====
/- The pooling layer's derivative as the reference computes it: the nodes of its host program. -/
module

public import proofs.«01_k».proof.Proof.PoolScatter

@[expose] public section

set_option maxRecDepth 16384

noncomputable section

namespace Cert.PoolRefIdeal.Bwd

open Cert.PoolRefIdeal Cert.PoolRefIdeal.Gen Cert.Pool
open Idealize.ShloMosaic Idealize.ShloMosaic.TcCoe Idealize.ShloMosaic.Tactic
open Cert.Lift Cert.Sums

local notation "E" => Idealize.ShloMosaic.Ideal
local notation "sd" => scatter_S8193x512_S8192x1_S8192x512_1_0_0_1

/-- One group's rows, added at the windows' last positions and taken off before their first. -/
theorem group_real (y0 y1 : FVec E S8193x512 .f32) (h0 : ∀ i, y0 i = 0) (h1 : ∀ i, y1 i = 0) (hi lo : IVec S8192x1 32) (U : FVec E S8192x512 .f32)
    (c : Fin 512) (u : Fin 8192 → ℝ) (hu : ∀ t, U (ix2 t c) = (u t : EReal)) (first : Fin 8192 → ℕ)
    (hhi : ∀ t, hi (ix2 t 0) = BitVec.ofNat 32 (t.val + 1)) (hlo : ∀ t, lo (ix2 t 0) = BitVec.ofNat 32 (first t)) (hf : ∀ t, first t ≤ t.val) (j : Fin 8193) :
    addf (Host.scatterAdd sd y0 lo (Host.negf U)) (Host.scatterAdd sd y1 hi U) (ix2 j c)
      = (((∑ t : Fin 8192, if first t = j.val then -u t else 0) + ∑ t : Fin 8192, if t.val + 1 = j.val then u t else 0 : ℝ) : EReal) := by
  show Host.scatterAdd sd y0 lo (Host.negf U) (ix2 j c) + Host.scatterAdd sd y1 hi U (ix2 j c) = _
  rw [scatter_at, scatter_at, h0, h1, zero_add, zero_add, EReal.coe_add, coe_sum, coe_sum]
  refine congrArg₂ (fun a b : EReal => a + b) ?_ ?_
  · refine Finset.sum_congr rfl fun t _ => ?_
    have ht := t.isLt
    have hft := hf t
    rw [hlo, toInt_small _ (by omega)]
    show (if _ then -(U (ix2 t c)) else 0) = _
    rw [hu, ← EReal.coe_neg]
    simp only [Nat.cast_inj]
    split <;> rfl
  · refine Finset.sum_congr rfl fun t _ => ?_
    have ht := t.isLt
    rw [hhi, toInt_small _ (by omega), hu]
    simp only [Nat.cast_inj]
    split <;> rfl

theorem pad_in (L H : ℕ) (y : FVec E S8193x512 .f32) (v : FVec E S_ .f32) (h : S8193x512.Pads ![0, L] ![0, H] ![0, 0] S8193x2048)
    (hu : 0 < S_.numel) (j : Fin 8193) (l : Fin 2048) (c : Fin 512) (hl : l.val = L + c.val) :
    pad S8193x2048 ![0, L] ![0, H] ![0, 0] y v h hu (ix2 j l) = y (ix2 j c) := by
  refine pad_apply_of_inside _ _ _ y v h hu (ix2 j l) (ix2 j c) (fun a => ?_)
  match a with
  | ⟨0, _⟩ => show j.val = 0 + j.val * (0 + 1); omega
  | ⟨1, _⟩ => show l.val = L + c.val * (0 + 1); omega

theorem pad_out (L H : ℕ) (y : FVec E S8193x512 .f32) (v : FVec E S_ .f32) (hv : ∀ i, v i = 0) (h : S8193x512.Pads ![0, L] ![0, H] ![0, 0] S8193x2048)
    (hu : 0 < S_.numel) (j : Fin 8193) (l : Fin 2048) (hl : l.val < L ∨ L + 512 ≤ l.val) :
    pad S8193x2048 ![0, L] ![0, H] ![0, 0] y v h hu (ix2 j l) = 0 := by
  refine (pad_apply_of_not_inside _ _ _ y v h hu (ix2 j l) (1 : Fin 2) ?_).trans (hv _)
  show ¬(L ≤ l.val ∧ (l.val - L) % (0 + 1) = 0 ∧ (l.val - L) / (0 + 1) < 512)
  rw [Nat.div_one]
  omega

section nodes
variable (x0 : S8192x2048.Idx → EReal) (x1 : S2048.Idx → EReal) (x2 : S4x512x512.Idx → EReal) (x3 x4 : S2048.Idx → EReal) (x5 : S8192x2048.Idx → EReal)
  (r t : Fin 8192) (l : Fin 2048) (c : Fin 512) (q : Fin 4) (z : Fin 1)

theorem zero_of (i : S_.Idx) : Read.val_main_cst_47 (F := E) i = 0 ∧ Read.val_main_cst_50 (F := E) i = 0 ∧ Read.val_main_cst_53 (F := E) i = 0 ∧ Read.val_main_cst_56 (F := E) i = 0 := by
  refine ⟨?_, ?_, ?_, ?_⟩ <;> pointwise [Read.val_main_cst_47, Read.val_main_cst_50, Read.val_main_cst_53, Read.val_main_cst_56]

theorem line4_at : (Read.val_main_v164 (F := E) x4) (ix2 r l) = x4 (ix1 l) := by
  pointwise [Read.val_main_v164, Read.val_main_v156]

theorem z_at : (Read.val_main_v165 (F := E) x4 x5) (ix2 r l) = x5 (ix2 r l) * x4 (ix1 l) := by
  have h : (Read.val_main_v160 (F := E) x5) = x5 := shapeCast_self _ _
  have e : (Read.val_main_v165 (F := E) x4 x5) (ix2 r l) = (Read.val_main_v160 (F := E) x5) (ix2 r l) * (Read.val_main_v164 (F := E) x4) (ix2 r l) := rfl
  rw [e, h, line4_at]

theorem cut_at (k : Fin 512) : (Read.val_main_v171 (F := E) x4 x5) (ix3 q k r) = (Read.val_main_v165 (F := E) x4 x5) (ix2 r (col q k)) := by
  unfold Read.val_main_v171 Read.val_main_v170
  generalize (Read.val_main_v165 (F := E) x4 x5) = y
  pointwise
  try rfl

theorem dy_at : (Read.val_main_v174 (F := E) x2 x4 x5) (ix2 r (col q c)) = ∑ k : Fin 512, x5 (ix2 r (col q k)) * x4 (ix1 (col q k)) * x2 (ix3 q c k) := by
  have e1 : (Read.val_main_v174 (F := E) x2 x4 x5) (ix2 r (col q c)) = (Read.val_main_v172 (F := E) x2 x4 x5) (ix3 q r c) := by
    unfold Read.val_main_v174 Read.val_main_v173
    generalize (Read.val_main_v172 (F := E) x2 x4 x5) = y
    pointwise
    have hc := c.isLt
    exact congrArg₂ (fun a b => y (ix3 a r b)) (Fin.ext (by show (q.val * 512 + c.val) / 512 = q.val; omega)) (Fin.ext (by show (q.val * 512 + c.val) % 512 = c.val; omega))
  have e2 : (Read.val_main_v172 (F := E) x2 x4 x5) (ix3 q r c) = ∑ k : Fin 512, (Read.val_main_v171 (F := E) x4 x5) (ix3 q k r) * x2 (ix3 q c k) := by
    unfold Read.val_main_v172
    generalize (Read.val_main_v171 (F := E) x4 x5) = y
    pointwise
  rw [e1, e2]
  refine Finset.sum_congr rfl fun k _ => ?_
  rw [cut_at, z_at]

theorem hi_0 : (Read.val_main_v40 (F := E)) (ix2 t 0) = BitVec.ofNat 32 (t.val + 1) := by
  have h : (Read.val_main_v40 (F := E)) (ix2 t 0) = Scalar.select (IntOp.cmpi CmpIPredicate.slt (BitVec.ofNat 32 t.val + 1#32) 0#32) (BitVec.ofNat 32 t.val + 1#32 + 8193#32) (BitVec.ofNat 32 t.val + 1#32) := by
    pointwise [Read.val_main_v40, Read.val_main_v39, Read.val_main_v36, Read.val_main_v38, Read.val_main_v34, Read.val_main_v35, Read.val_main_v37, Read.val_main_v21, Read.val_main_v33, Read.val_main_c_10, Read.val_main_c_11, Read.val_main_c_9]
    rfl
  rw [h, succ_word, wrap_word _ (by have := t.isLt; omega)]

theorem lo_0 : (Read.val_main_v47 (F := E)) (ix2 t 0) = BitVec.ofNat 32 (t.val + 1 - 2) := by
  have h : (Read.val_main_v47 (F := E)) (ix2 t 0) = Scalar.select (IntOp.cmpi CmpIPredicate.slt (IntOp.maxsi (BitVec.ofNat 32 t.val + 1#32 - 2#32) 0#32) 0#32)
      (IntOp.maxsi (BitVec.ofNat 32 t.val + 1#32 - 2#32) 0#32 + 8193#32) (IntOp.maxsi (BitVec.ofNat 32 t.val + 1#32 - 2#32) 0#32) := by
    pointwise [Read.val_main_v47, Read.val_main_v46, Read.val_main_v43, Read.val_main_v45, Read.val_main_v28, Read.val_main_v42, Read.val_main_v44, Read.val_main_v26, Read.val_main_v27, Read.val_main_c_12, Read.val_main_c_13, Read.val_main_v24, Read.val_main_v25, Read.val_main_c_7, Read.val_main_v21, Read.val_main_v23, Read.val_main_c_6, Read.val_main_c]
    rfl
  have ht := t.isLt
  rw [h, succ_word, max_word _ _ (by omega) (by omega), wrap_word _ (by omega)]

theorem count_0 : (Read.val_main_v209 (F := E)) (ix2 t c) = ((min (t.val + 1) 2 : ℕ) : ℝ) := by
  have h : (Read.val_main_v209 (F := E)) (ix2 t c) = FloatOps.sitofp (F := E) FTy.f32 (BitVec.ofNat 32 t.val + 1#32 - IntOp.maxsi (BitVec.ofNat 32 t.val + 1#32 - 2#32) 0#32) := by
    pointwise [Read.val_main_v209, Read.val_main_v50, Read.val_main_v32, Read.val_main_v31, Read.val_main_v30, Read.val_main_v28, Read.val_main_v21, Read.val_main_v29, Read.val_main_v26, Read.val_main_v27, Read.val_main_c_8, Read.val_main_v24, Read.val_main_v25, Read.val_main_c_7, Read.val_main_v23, Read.val_main_c_6, Read.val_main_c]
    rfl
  have ht := t.isLt
  rw [h, succ_word, max_word _ _ (by omega) (by omega), sub_word _ _ (by omega) (by omega)]
  show ((((BitVec.ofNat 32 (t.val + 1 - (t.val + 1 - 2))).toInt : ℤ) : ℝ) : EReal) = _
  rw [toInt_small _ (by omega), show t.val + 1 - (t.val + 1 - 2) = min (t.val + 1) 2 by omega]
  simp

theorem u_0 : (Read.val_main_v210 (F := E) x2 x4 x5) (ix2 t c) = Ideal.div ((Read.val_main_v174 (F := E) x2 x4 x5) (ix2 t (col 0 c))) (((min (t.val + 1) 2 : ℕ) : ℝ) : EReal) := by
  have e1 : (Read.val_main_v176 (F := E) x2 x4 x5) (ix2 t c) = (Read.val_main_v174 (F := E) x2 x4 x5) (ix2 t (col 0 c)) := by
    unfold Read.val_main_v176
    generalize (Read.val_main_v174 (F := E) x2 x4 x5) = y
    pointwise
    try exact congrArg (fun l => y (ix2 t l)) (Fin.ext (by show _ = (0 : Fin 4).val * 512 + c.val; simp; try omega))
  have e : (Read.val_main_v210 (F := E) x2 x4 x5) (ix2 t c) = Ideal.div ((Read.val_main_v176 (F := E) x2 x4 x5) (ix2 t c)) ((Read.val_main_v209 (F := E)) (ix2 t c)) := rfl
  rw [e, e1, count_0]

theorem hi_1 : (Read.val_main_v71 (F := E)) (ix2 t 0) = BitVec.ofNat 32 (t.val + 1) := by
  have h : (Read.val_main_v71 (F := E)) (ix2 t 0) = Scalar.select (IntOp.cmpi CmpIPredicate.slt (BitVec.ofNat 32 t.val + 1#32) 0#32) (BitVec.ofNat 32 t.val + 1#32 + 8193#32) (BitVec.ofNat 32 t.val + 1#32) := by
    pointwise [Read.val_main_v71, Read.val_main_v70, Read.val_main_v67, Read.val_main_v69, Read.val_main_v65, Read.val_main_v66, Read.val_main_v68, Read.val_main_v21, Read.val_main_v64, Read.val_main_c_19, Read.val_main_c_20, Read.val_main_c_18]
    rfl
  rw [h, succ_word, wrap_word _ (by have := t.isLt; omega)]

theorem lo_1 : (Read.val_main_v78 (F := E)) (ix2 t 0) = BitVec.ofNat 32 (t.val + 1 - 4) := by
  have h : (Read.val_main_v78 (F := E)) (ix2 t 0) = Scalar.select (IntOp.cmpi CmpIPredicate.slt (IntOp.maxsi (BitVec.ofNat 32 t.val + 1#32 - 4#32) 0#32) 0#32)
      (IntOp.maxsi (BitVec.ofNat 32 t.val + 1#32 - 4#32) 0#32 + 8193#32) (IntOp.maxsi (BitVec.ofNat 32 t.val + 1#32 - 4#32) 0#32) := by
    pointwise [Read.val_main_v78, Read.val_main_v77, Read.val_main_v74, Read.val_main_v76, Read.val_main_v59, Read.val_main_v73, Read.val_main_v75, Read.val_main_v57, Read.val_main_v58, Read.val_main_c_21, Read.val_main_c_22, Read.val_main_v55, Read.val_main_v56, Read.val_main_c_16, Read.val_main_v21, Read.val_main_v54, Read.val_main_c_15, Read.val_main_c_14]
    rfl
  have ht := t.isLt
  rw [h, succ_word, max_word _ _ (by omega) (by omega), wrap_word _ (by omega)]

theorem count_1 : (Read.val_main_v199 (F := E)) (ix2 t c) = ((min (t.val + 1) 4 : ℕ) : ℝ) := by
  have h : (Read.val_main_v199 (F := E)) (ix2 t c) = FloatOps.sitofp (F := E) FTy.f32 (BitVec.ofNat 32 t.val + 1#32 - IntOp.maxsi (BitVec.ofNat 32 t.val + 1#32 - 4#32) 0#32) := by
    pointwise [Read.val_main_v199, Read.val_main_v81, Read.val_main_v63, Read.val_main_v62, Read.val_main_v61, Read.val_main_v59, Read.val_main_v21, Read.val_main_v60, Read.val_main_v57, Read.val_main_v58, Read.val_main_c_17, Read.val_main_v55, Read.val_main_v56, Read.val_main_c_16, Read.val_main_v54, Read.val_main_c_15, Read.val_main_c_14]
    rfl
  have ht := t.isLt
  rw [h, succ_word, max_word _ _ (by omega) (by omega), sub_word _ _ (by omega) (by omega)]
  show ((((BitVec.ofNat 32 (t.val + 1 - (t.val + 1 - 4))).toInt : ℤ) : ℝ) : EReal) = _
  rw [toInt_small _ (by omega), show t.val + 1 - (t.val + 1 - 4) = min (t.val + 1) 4 by omega]
  simp

theorem u_1 : (Read.val_main_v200 (F := E) x2 x4 x5) (ix2 t c) = Ideal.div ((Read.val_main_v174 (F := E) x2 x4 x5) (ix2 t (col 1 c))) (((min (t.val + 1) 4 : ℕ) : ℝ) : EReal) := by
  have e1 : (Read.val_main_v177 (F := E) x2 x4 x5) (ix2 t c) = (Read.val_main_v174 (F := E) x2 x4 x5) (ix2 t (col 1 c)) := by
    unfold Read.val_main_v177
    generalize (Read.val_main_v174 (F := E) x2 x4 x5) = y
    pointwise
    try exact congrArg (fun l => y (ix2 t l)) (Fin.ext (by show _ = (1 : Fin 4).val * 512 + c.val; simp; try omega))
  have e : (Read.val_main_v200 (F := E) x2 x4 x5) (ix2 t c) = Ideal.div ((Read.val_main_v177 (F := E) x2 x4 x5) (ix2 t c)) ((Read.val_main_v199 (F := E)) (ix2 t c)) := rfl
  rw [e, e1, count_1]

theorem hi_2 : (Read.val_main_v102 (F := E)) (ix2 t 0) = BitVec.ofNat 32 (t.val + 1) := by
  have h : (Read.val_main_v102 (F := E)) (ix2 t 0) = Scalar.select (IntOp.cmpi CmpIPredicate.slt (BitVec.ofNat 32 t.val + 1#32) 0#32) (BitVec.ofNat 32 t.val + 1#32 + 8193#32) (BitVec.ofNat 32 t.val + 1#32) := by
    pointwise [Read.val_main_v102, Read.val_main_v101, Read.val_main_v98, Read.val_main_v100, Read.val_main_v96, Read.val_main_v97, Read.val_main_v99, Read.val_main_v21, Read.val_main_v95, Read.val_main_c_28, Read.val_main_c_29, Read.val_main_c_27]
    rfl
  rw [h, succ_word, wrap_word _ (by have := t.isLt; omega)]

theorem lo_2 : (Read.val_main_v109 (F := E)) (ix2 t 0) = BitVec.ofNat 32 (t.val + 1 - 8) := by
  have h : (Read.val_main_v109 (F := E)) (ix2 t 0) = Scalar.select (IntOp.cmpi CmpIPredicate.slt (IntOp.maxsi (BitVec.ofNat 32 t.val + 1#32 - 8#32) 0#32) 0#32)
      (IntOp.maxsi (BitVec.ofNat 32 t.val + 1#32 - 8#32) 0#32 + 8193#32) (IntOp.maxsi (BitVec.ofNat 32 t.val + 1#32 - 8#32) 0#32) := by
    pointwise [Read.val_main_v109, Read.val_main_v108, Read.val_main_v105, Read.val_main_v107, Read.val_main_v90, Read.val_main_v104, Read.val_main_v106, Read.val_main_v88, Read.val_main_v89, Read.val_main_c_30, Read.val_main_c_31, Read.val_main_v86, Read.val_main_v87, Read.val_main_c_25, Read.val_main_v21, Read.val_main_v85, Read.val_main_c_24, Read.val_main_c_23]
    rfl
  have ht := t.isLt
  rw [h, succ_word, max_word _ _ (by omega) (by omega), wrap_word _ (by omega)]

theorem count_2 : (Read.val_main_v189 (F := E)) (ix2 t c) = ((min (t.val + 1) 8 : ℕ) : ℝ) := by
  have h : (Read.val_main_v189 (F := E)) (ix2 t c) = FloatOps.sitofp (F := E) FTy.f32 (BitVec.ofNat 32 t.val + 1#32 - IntOp.maxsi (BitVec.ofNat 32 t.val + 1#32 - 8#32) 0#32) := by
    pointwise [Read.val_main_v189, Read.val_main_v112, Read.val_main_v94, Read.val_main_v93, Read.val_main_v92, Read.val_main_v90, Read.val_main_v21, Read.val_main_v91, Read.val_main_v88, Read.val_main_v89, Read.val_main_c_26, Read.val_main_v86, Read.val_main_v87, Read.val_main_c_25, Read.val_main_v85, Read.val_main_c_24, Read.val_main_c_23]
    rfl
  have ht := t.isLt
  rw [h, succ_word, max_word _ _ (by omega) (by omega), sub_word _ _ (by omega) (by omega)]
  show ((((BitVec.ofNat 32 (t.val + 1 - (t.val + 1 - 8))).toInt : ℤ) : ℝ) : EReal) = _
  rw [toInt_small _ (by omega), show t.val + 1 - (t.val + 1 - 8) = min (t.val + 1) 8 by omega]
  simp

theorem u_2 : (Read.val_main_v190 (F := E) x2 x4 x5) (ix2 t c) = Ideal.div ((Read.val_main_v174 (F := E) x2 x4 x5) (ix2 t (col 2 c))) (((min (t.val + 1) 8 : ℕ) : ℝ) : EReal) := by
  have e1 : (Read.val_main_v178 (F := E) x2 x4 x5) (ix2 t c) = (Read.val_main_v174 (F := E) x2 x4 x5) (ix2 t (col 2 c)) := by
    unfold Read.val_main_v178
    generalize (Read.val_main_v174 (F := E) x2 x4 x5) = y
    pointwise
    try exact congrArg (fun l => y (ix2 t l)) (Fin.ext (by show _ = (2 : Fin 4).val * 512 + c.val; simp; try omega))
  have e : (Read.val_main_v190 (F := E) x2 x4 x5) (ix2 t c) = Ideal.div ((Read.val_main_v178 (F := E) x2 x4 x5) (ix2 t c)) ((Read.val_main_v189 (F := E)) (ix2 t c)) := rfl
  rw [e, e1, count_2]

theorem hi_3 : (Read.val_main_v133 (F := E)) (ix2 t 0) = BitVec.ofNat 32 (t.val + 1) := by
  have h : (Read.val_main_v133 (F := E)) (ix2 t 0) = Scalar.select (IntOp.cmpi CmpIPredicate.slt (BitVec.ofNat 32 t.val + 1#32) 0#32) (BitVec.ofNat 32 t.val + 1#32 + 8193#32) (BitVec.ofNat 32 t.val + 1#32) := by
    pointwise [Read.val_main_v133, Read.val_main_v132, Read.val_main_v129, Read.val_main_v131, Read.val_main_v127, Read.val_main_v128, Read.val_main_v130, Read.val_main_v21, Read.val_main_v126, Read.val_main_c_37, Read.val_main_c_38, Read.val_main_c_36]
    rfl
  rw [h, succ_word, wrap_word _ (by have := t.isLt; omega)]

theorem lo_3 : (Read.val_main_v140 (F := E)) (ix2 t 0) = BitVec.ofNat 32 (t.val + 1 - 16) := by
  have h : (Read.val_main_v140 (F := E)) (ix2 t 0) = Scalar.select (IntOp.cmpi CmpIPredicate.slt (IntOp.maxsi (BitVec.ofNat 32 t.val + 1#32 - 16#32) 0#32) 0#32)
      (IntOp.maxsi (BitVec.ofNat 32 t.val + 1#32 - 16#32) 0#32 + 8193#32) (IntOp.maxsi (BitVec.ofNat 32 t.val + 1#32 - 16#32) 0#32) := by
    pointwise [Read.val_main_v140, Read.val_main_v139, Read.val_main_v136, Read.val_main_v138, Read.val_main_v121, Read.val_main_v135, Read.val_main_v137, Read.val_main_v119, Read.val_main_v120, Read.val_main_c_39, Read.val_main_c_40, Read.val_main_v117, Read.val_main_v118, Read.val_main_c_34, Read.val_main_v21, Read.val_main_v116, Read.val_main_c_33, Read.val_main_c_32]
    rfl
  have ht := t.isLt
  rw [h, succ_word, max_word _ _ (by omega) (by omega), wrap_word _ (by omega)]

theorem count_3 : (Read.val_main_v180 (F := E)) (ix2 t c) = ((min (t.val + 1) 16 : ℕ) : ℝ) := by
  have h : (Read.val_main_v180 (F := E)) (ix2 t c) = FloatOps.sitofp (F := E) FTy.f32 (BitVec.ofNat 32 t.val + 1#32 - IntOp.maxsi (BitVec.ofNat 32 t.val + 1#32 - 16#32) 0#32) := by
    pointwise [Read.val_main_v180, Read.val_main_v143, Read.val_main_v125, Read.val_main_v124, Read.val_main_v123, Read.val_main_v121, Read.val_main_v21, Read.val_main_v122, Read.val_main_v119, Read.val_main_v120, Read.val_main_c_35, Read.val_main_v117, Read.val_main_v118, Read.val_main_c_34, Read.val_main_v116, Read.val_main_c_33, Read.val_main_c_32]
    rfl
  have ht := t.isLt
  rw [h, succ_word, max_word _ _ (by omega) (by omega), sub_word _ _ (by omega) (by omega)]
  show ((((BitVec.ofNat 32 (t.val + 1 - (t.val + 1 - 16))).toInt : ℤ) : ℝ) : EReal) = _
  rw [toInt_small _ (by omega), show t.val + 1 - (t.val + 1 - 16) = min (t.val + 1) 16 by omega]
  simp

theorem u_3 : (Read.val_main_v181 (F := E) x2 x4 x5) (ix2 t c) = Ideal.div ((Read.val_main_v174 (F := E) x2 x4 x5) (ix2 t (col 3 c))) (((min (t.val + 1) 16 : ℕ) : ℝ) : EReal) := by
  have e1 : (Read.val_main_v179 (F := E) x2 x4 x5) (ix2 t c) = (Read.val_main_v174 (F := E) x2 x4 x5) (ix2 t (col 3 c)) := by
    unfold Read.val_main_v179
    generalize (Read.val_main_v174 (F := E) x2 x4 x5) = y
    pointwise
    try exact congrArg (fun l => y (ix2 t l)) (Fin.ext (by show _ = (3 : Fin 4).val * 512 + c.val; simp; try omega))
  have e : (Read.val_main_v181 (F := E) x2 x4 x5) (ix2 t c) = Ideal.div ((Read.val_main_v179 (F := E) x2 x4 x5) (ix2 t c)) ((Read.val_main_v180 (F := E)) (ix2 t c)) := rfl
  rw [e, e1, count_3]

end nodes

end Cert.PoolRefIdeal.Bwd

end
-- ==== Proof.PoolRef.lean ====
/- The pooling layer's derivative as the reference computes it: its five results, where the arguments that matter are real. -/
module

public import proofs.«01_k».proof.Proof.PoolRefNodes

@[expose] public section

set_option maxRecDepth 16384

noncomputable section

namespace Cert.PoolRefIdeal.Bwd

open Cert.PoolRefIdeal Cert.PoolRefIdeal.Gen Cert.Pool
open Idealize.ShloMosaic Idealize.ShloMosaic.TcCoe Idealize.ShloMosaic.Tactic
open Cert.Lift Cert.Sums

local notation "E" => Idealize.ShloMosaic.Ideal

section real
variable (ct x : S8192x2048.Idx → ℝ) (s g : S2048.Idx → ℝ) (w : S4x512x512.Idx → ℝ) (bb : S2048.Idx → EReal)
  (x0 : S8192x2048.Idx → EReal) (x1 : S2048.Idx → EReal) (x2 : S4x512x512.Idx → EReal) (x3 x4 : S2048.Idx → EReal) (x5 : S8192x2048.Idx → EReal)
  (r t : Fin 8192) (l : Fin 2048) (c : Fin 512) (q : Fin 4) (z : Fin 1)
  (hc : x5 = up ct) (hs : x4 = up s) (hw : x2 = up w) (hx : x0 = up x) (hg : x1 = up g)

include hc hs in
theorem z_real : (Read.val_main_v165 (F := E) x4 x5) (ix2 r l) = (zr ct s r l : EReal) := by
  rw [z_at, hc, hs]
  show ((ct _ : ℝ) : EReal) * ((s _ : ℝ) : EReal) = _
  rw [← EReal.coe_mul]
  rfl

include hc hs hw in
theorem dy_real : (Read.val_main_v174 (F := E) x2 x4 x5) (ix2 r (col q c)) = (dy (zr ct s) (wq w) q c r : EReal) := by
  rw [dy_at, hc, hs, hw]
  show ∑ k : Fin 512, ((ct _ : ℝ) : EReal) * ((s _ : ℝ) : EReal) * ((w _ : ℝ) : EReal) = _
  simp only [← EReal.coe_mul, ← coe_sum]
  rfl

theorem quot_real (a : ℝ) (n k : ℕ) (hk : 0 < k) : Ideal.div (a : EReal) (((min (n + 1) k : ℕ) : ℝ) : EReal) = ((a * (1 / ((min (n + 1) k : ℕ) : ℝ)) : ℝ) : EReal) := by
  have hne : ((min (n + 1) k : ℕ) : ℝ) ≠ 0 := by
    have : 0 < min (n + 1) k := by omega
    exact_mod_cast this.ne'
  rw [div_coe hne]
  congr 1
  ring

/-- The rows added and taken off at position `j`. -/
def step (z : Fin 8192 → Fin 2048 → ℝ) (v : Fin 4 → Fin 512 → Fin 512 → ℝ) (q : Fin 4) (c : Fin 512) (j : ℕ) : ℝ :=
  (∑ t : Fin 8192, if t.val + 1 - win q = j then -du z v q c t else 0) + ∑ t : Fin 8192, if t.val + 1 = j then du z v q c t else 0

include hc hs hw in
theorem step_0 (j : Fin 8193) : (Read.val_main_v216 (F := E) x2 x4 x5) (ix2 j c) = (step (zr ct s) (wq w) 0 c j.val : EReal) := by
  refine group_real (Read.val_main_v212 (F := E)) (Read.val_main_v214 (F := E)) (fun i => ?_) (fun i => ?_) (Read.val_main_v40 (F := E)) (Read.val_main_v47 (F := E)) (Read.val_main_v210 (F := E) x2 x4 x5) c (du (zr ct s) (wq w) 0 c) (fun t => ?_) (fun t => t.val + 1 - 2) (fun t => hi_0 t) (fun t => lo_0 t) (fun t => by show t.val + 1 - 2 ≤ t.val; omega) j
  · pointwise [Read.val_main_v212, Read.val_main_cst_54]
  · pointwise [Read.val_main_v214, Read.val_main_cst_55]
  · rw [u_0, dy_real ct s w _ _ _ t c 0 hc hs hw, quot_real _ _ _ (by decide)]
    rfl

include hc hs hw in
theorem step_1 (j : Fin 8193) : (Read.val_main_v206 (F := E) x2 x4 x5) (ix2 j c) = (step (zr ct s) (wq w) 1 c j.val : EReal) := by
  refine group_real (Read.val_main_v202 (F := E)) (Read.val_main_v204 (F := E)) (fun i => ?_) (fun i => ?_) (Read.val_main_v71 (F := E)) (Read.val_main_v78 (F := E)) (Read.val_main_v200 (F := E) x2 x4 x5) c (du (zr ct s) (wq w) 1 c) (fun t => ?_) (fun t => t.val + 1 - 4) (fun t => hi_1 t) (fun t => lo_1 t) (fun t => by show t.val + 1 - 4 ≤ t.val; omega) j
  · pointwise [Read.val_main_v202, Read.val_main_cst_51]
  · pointwise [Read.val_main_v204, Read.val_main_cst_52]
  · rw [u_1, dy_real ct s w _ _ _ t c 1 hc hs hw, quot_real _ _ _ (by decide)]
    rfl

include hc hs hw in
theorem step_2 (j : Fin 8193) : (Read.val_main_v196 (F := E) x2 x4 x5) (ix2 j c) = (step (zr ct s) (wq w) 2 c j.val : EReal) := by
  refine group_real (Read.val_main_v192 (F := E)) (Read.val_main_v194 (F := E)) (fun i => ?_) (fun i => ?_) (Read.val_main_v102 (F := E)) (Read.val_main_v109 (F := E)) (Read.val_main_v190 (F := E) x2 x4 x5) c (du (zr ct s) (wq w) 2 c) (fun t => ?_) (fun t => t.val + 1 - 8) (fun t => hi_2 t) (fun t => lo_2 t) (fun t => by show t.val + 1 - 8 ≤ t.val; omega) j
  · pointwise [Read.val_main_v192, Read.val_main_cst_48]
  · pointwise [Read.val_main_v194, Read.val_main_cst_49]
  · rw [u_2, dy_real ct s w _ _ _ t c 2 hc hs hw, quot_real _ _ _ (by decide)]
    rfl

include hc hs hw in
theorem step_3 (j : Fin 8193) : (Read.val_main_v187 (F := E) x2 x4 x5) (ix2 j c) = (step (zr ct s) (wq w) 3 c j.val : EReal) := by
  refine group_real (Read.val_main_v183 (F := E)) (Read.val_main_v185 (F := E)) (fun i => ?_) (fun i => ?_) (Read.val_main_v133 (F := E)) (Read.val_main_v140 (F := E)) (Read.val_main_v181 (F := E) x2 x4 x5) c (du (zr ct s) (wq w) 3 c) (fun t => ?_) (fun t => t.val + 1 - 16) (fun t => hi_3 t) (fun t => lo_3 t) (fun t => by show t.val + 1 - 16 ≤ t.val; omega) j
  · pointwise [Read.val_main_v183, Read.val_main_cst_45]
  · pointwise [Read.val_main_v185, Read.val_main_cst_46]
  · rw [u_3, dy_real ct s w _ _ _ t c 3 hc hs hw, quot_real _ _ _ (by decide)]
    rfl

theorem every (p : Fin 4 → Prop) (h0 : p 0) (h1 : p 1) (h2 : p 2) (h3 : p 3) (q : Fin 4) : p q :=
  match q with
  | ⟨0, _⟩ => h0
  | ⟨1, _⟩ => h1
  | ⟨2, _⟩ => h2
  | ⟨3, _⟩ => h3

/-- The four groups' rows beside each other. -/
theorem beside_zero (P0 P1 P2 P3 : FVec E S8193x512 .f32) (p0 : S8193x512.Pads ![0, 0] ![0, 1536] ![0, 0] S8193x2048) (p1 : S8193x512.Pads ![0, 512] ![0, 1024] ![0, 0] S8193x2048)
    (p2 : S8193x512.Pads ![0, 1024] ![0, 512] ![0, 0] S8193x2048) (p3 : S8193x512.Pads ![0, 1536] ![0, 0] ![0, 0] S8193x2048) (hu : 0 < S_.numel)
    (v0 v1 v2 v3 : FVec E S_ .f32) (h0 : ∀ i, v0 i = 0) (h1 : ∀ i, v1 i = 0) (h2 : ∀ i, v2 i = 0) (h3 : ∀ i, v3 i = 0) (j : Fin 8193) :
    pad S8193x2048 ![0, 1536] ![0, 0] ![0, 0] P3 v3 p3 hu (ix2 j (col q c)) + pad S8193x2048 ![0, 1024] ![0, 512] ![0, 0] P2 v2 p2 hu (ix2 j (col q c))
      + pad S8193x2048 ![0, 512] ![0, 1024] ![0, 0] P1 v1 p1 hu (ix2 j (col q c)) + pad S8193x2048 ![0, 0] ![0, 1536] ![0, 0] P0 v0 p0 hu (ix2 j (col q c))
      = (![P0, P1, P2, P3] q) (ix2 j c) := by
  have hc := c.isLt
  match q with
  | ⟨0, h⟩ =>
    have e : (col ⟨0, h⟩ c).val = c.val := by show 0 * 512 + c.val = _; omega
    rw [pad_out _ _ P3 v3 h3 p3 hu j _ (by omega), pad_out _ _ P2 v2 h2 p2 hu j _ (by omega), pad_out _ _ P1 v1 h1 p1 hu j _ (by omega), pad_in _ _ P0 v0 p0 hu j _ c (by omega)]
    rw [add_zero, add_zero, zero_add]
    rfl
  | ⟨1, h⟩ =>
    have e : (col ⟨1, h⟩ c).val = 512 + c.val := by show 1 * 512 + c.val = _; omega
    rw [pad_out _ _ P3 v3 h3 p3 hu j _ (by omega), pad_out _ _ P2 v2 h2 p2 hu j _ (by omega), pad_out _ _ P0 v0 h0 p0 hu j _ (by omega), pad_in _ _ P1 v1 p1 hu j _ c (by omega)]
    rw [add_zero, add_zero, zero_add]
    rfl
  | ⟨2, h⟩ =>
    have e : (col ⟨2, h⟩ c).val = 1024 + c.val := by show 2 * 512 + c.val = _; omega
    rw [pad_out _ _ P3 v3 h3 p3 hu j _ (by omega), pad_out _ _ P1 v1 h1 p1 hu j _ (by omega), pad_out _ _ P0 v0 h0 p0 hu j _ (by omega), pad_in _ _ P2 v2 p2 hu j _ c (by omega)]
    rw [add_zero, add_zero, zero_add]
    rfl
  | ⟨3, h⟩ =>
    have e : (col ⟨3, h⟩ c).val = 1536 + c.val := by show 3 * 512 + c.val = _; omega
    rw [pad_out _ _ P2 v2 h2 p2 hu j _ (by omega), pad_out _ _ P1 v1 h1 p1 hu j _ (by omega), pad_out _ _ P0 v0 h0 p0 hu j _ (by omega), pad_in _ _ P3 v3 p3 hu j _ c (by omega)]
    rw [add_zero, add_zero, add_zero]
    rfl

include hc hs hw in
theorem steps (j : Fin 8193) : (Read.val_main_v218 (F := E) x2 x4 x5) (ix2 j (col q c)) = (step (zr ct s) (wq w) q c j.val : EReal) := by
  have h : (Read.val_main_v218 (F := E) x2 x4 x5) (ix2 j (col q c)) = (Read.val_main_v188 (F := E) x2 x4 x5) (ix2 j (col q c)) + (Read.val_main_v197 (F := E) x2 x4 x5) (ix2 j (col q c)) + (Read.val_main_v207 (F := E) x2 x4 x5) (ix2 j (col q c)) + (Read.val_main_v217 (F := E) x2 x4 x5) (ix2 j (col q c)) := rfl
  rw [h]
  refine (beside_zero c q (Read.val_main_v216 (F := E) x2 x4 x5) (Read.val_main_v206 (F := E) x2 x4 x5) (Read.val_main_v196 (F := E) x2 x4 x5) (Read.val_main_v187 (F := E) x2 x4 x5) _ _ _ _ _ _ _ _ _ (fun i => (zero_of i).2.2.2) (fun i => (zero_of i).2.2.1) (fun i => (zero_of i).2.1) (fun i => (zero_of i).1) j).trans ?_
  exact every (fun q => (![(Read.val_main_v216 (F := E) x2 x4 x5), (Read.val_main_v206 (F := E) x2 x4 x5), (Read.val_main_v196 (F := E) x2 x4 x5), (Read.val_main_v187 (F := E) x2 x4 x5)] q) (ix2 j c) = (step (zr ct s) (wq w) q c j.val : EReal)) (step_0 ct s w _ _ _ c hc hs hw j)
    (step_1 ct s w _ _ _ c hc hs hw j) (step_2 ct s w _ _ _ c hc hs hw j) (step_3 ct s w _ _ _ c hc hs hw j) q

theorem below_at : (Read.val_main_v220 (F := E) x2 x4 x5) (ix2 t l) = (Read.val_main_v218 (F := E) x2 x4 x5) (ix2 (⟨t.val + 1, by have := t.isLt; omega⟩ : Fin 8193) l) := by
  unfold Read.val_main_v220
  generalize (Read.val_main_v218 (F := E) x2 x4 x5) = y
  pointwise
  try exact congrArg (fun j => y (ix2 j l)) (Fin.ext (by show _ = t.val + 1; simp; try omega))

theorem init_zero (i : S_.Idx) : Read.val_main_call1_call0_v0 (F := E) i = 0 := by
  pointwise [Read.val_main_call1_call0_v0, Read.val_main_call1_call0_cst]

theorem later_at : (Read.val_main_v221 (F := E) x2 x4 x5) (ix2 r l) = from_ (fun t => (Read.val_main_v220 (F := E) x2 x4 x5) (ix2 t l)) r.val := by
  rw [← window_from]
  unfold Read.val_main_v221 Host.reduceWindowAdd
  rw [init_zero]
  rfl

/-- The gradient of the normalised rows. -/
theorem spread (zz : Fin 8192 → Fin 2048 → ℝ) (v : Fin 4 → Fin 512 → Fin 512 → ℝ) :
    -dy zz v q c r + (∑ t : Fin 8192, if r.val ≤ t.val then step zz v q c (t.val + 1) else 0) = dhg zz v q c r := by
  have hq : 1 ≤ win q := Nat.pow_pos (by decide)
  have h := ends (du zz v q c) (fun t => t.val + 1 - win q) (fun t => by show t.val + 1 - win q ≤ t.val; omega) r
  unfold step
  rw [h]
  unfold dhg
  rw [span_eq]
  have e : ∀ t : Fin 8192, (if r.val ≤ t.val ∧ t.val + 1 - win q ≤ r.val then du zz v q c t else 0) = (if r.val ≤ t.val ∧ t.val < r.val + win q then du zz v q c t else 0) := fun t =>
    if_congr (and_congr_right fun _ => by omega) rfl rfl
  rw [Finset.sum_congr rfl fun t _ => e t]
  ring

include hc hs hw in
theorem dh_real : (Read.val_main_v222 (F := E) x2 x4 x5) (ix2 r l) = (dhl ct s w l r : EReal) := by
  obtain ⟨q, c, rfl⟩ := col_surj l
  have h : (Read.val_main_v222 (F := E) x2 x4 x5) (ix2 r (col q c)) = -((Read.val_main_v174 (F := E) x2 x4 x5) (ix2 r (col q c))) + (Read.val_main_v221 (F := E) x2 x4 x5) (ix2 r (col q c)) := rfl
  rw [h, later_at, from_eq, dy_real ct s w _ _ _ r c q hc hs hw, dhl_col, ← spread]
  have e : ∀ t : Fin 8192, (if r.val ≤ t.val then (Read.val_main_v220 (F := E) x2 x4 x5) (ix2 t (col q c)) else 0) = ((if r.val ≤ t.val then step (zr ct s) (wq w) q c (t.val + 1) else 0 : ℝ) : EReal) := fun t => by
    rw [below_at, steps ct s w _ _ _ c q hc hs hw]
    split <;> rfl
  rw [Finset.sum_congr rfl fun t _ => e t, ← coe_sum, ← EReal.coe_neg, ← EReal.coe_add]

theorem ms_at : (Read.val_main_v7 (F := E) x0) (ix2 r z) = Ideal.div (∑ k : Fin 2048, x0 (ix2 r k) * x0 (ix2 r k)) (Ideal.ofBits .f32 0x45000000#32) + Ideal.ofBits .f32 0x358637BD#32 := by
  pointwise [Read.val_main_v7, Read.val_main_v5, Read.val_main_v6, Read.val_main_v3, Read.val_main_v4, Read.val_main_cst_2, Read.val_main_v2, Read.val_main_cst_1, Read.val_main_v1, Read.val_main_cst_0]

include hx in
theorem ms_real : (Read.val_main_v7 (F := E) x0) (ix2 r z) = (Rms.ms (xrow x r) : EReal) := by
  rw [ms_at, hx]
  exact Rms.ms_coe (xrow x r) _ (Rms.ofBits_2048.trans (by norm_num)) (by norm_num)

include hx in
theorem inv_real : (Read.val_main_v8 (F := E) x0) (ix2 r z) = (Rms.inv (xrow x r) : EReal) := by
  refine (show (Read.val_main_v8 (F := E) x0) (ix2 r z) = Ideal.rsqrt ((Read.val_main_v7 (F := E) x0) (ix2 r z)) from rfl).trans ?_
  rw [ms_real x x0 r z hx, Rms.inv_coe]

theorem factor_at : (Read.val_main_v11 (F := E) x0) (ix2 r z) = Ideal.ofBits .f32 0xBF000000#32 * Ideal.div ((Read.val_main_v8 (F := E) x0) (ix2 r z)) ((Read.val_main_v7 (F := E) x0) (ix2 r z)) := by
  unfold Read.val_main_v11 Read.val_main_v9 Read.val_main_v10 Read.val_main_cst_3
  generalize (Read.val_main_v8 (F := E) x0) = y8
  generalize (Read.val_main_v7 (F := E) x0) = y7
  pointwise

include hx in
theorem factor_real : (Read.val_main_v11 (F := E) x0) (ix2 r z) = ((-(1 / 2) * (Rms.inv (xrow x r) / Rms.ms (xrow x r)) : ℝ) : EReal) := by
  rw [factor_at, inv_real x x0 r z hx, ms_real x x0 r z hx, Rms.ofBits_neg_half, div_coe (Rms.ms_pos _).ne', ← EReal.coe_mul]

theorem wide8_at : (Read.val_main_v12 (F := E) x0) (ix2 r l) = (Read.val_main_v8 (F := E) x0) (ix2 r 0) := by
  unfold Read.val_main_v12
  generalize (Read.val_main_v8 (F := E) x0) = y8
  pointwise

include hx in
theorem xn_real : (Read.val_main_v13 (F := E) x0) (ix2 r l) = ((x (ix2 r l) * Rms.inv (xrow x r) : ℝ) : EReal) := by
  refine (show (Read.val_main_v13 (F := E) x0) (ix2 r l) = x0 (ix2 r l) * (Read.val_main_v12 (F := E) x0) (ix2 r l) from rfl).trans ?_
  rw [wide8_at, inv_real x x0 r 0 hx, hx, EReal.coe_mul]

theorem wideg_at : (Read.val_main_v226 (F := E) x1) (ix2 r l) = x1 (ix1 l) := by
  pointwise [Read.val_main_v226, Read.val_main_v14]

include hc hs hw hg in
theorem dn_real : (Read.val_main_v227 (F := E) x1 x2 x4 x5) (ix2 r l) = ((dhl ct s w l r * g (ix1 l) : ℝ) : EReal) := by
  refine (show (Read.val_main_v227 (F := E) x1 x2 x4 x5) (ix2 r l) = (Read.val_main_v222 (F := E) x2 x4 x5) (ix2 r l) * (Read.val_main_v226 (F := E) x1) (ix2 r l) from rfl).trans ?_
  rw [wideg_at, dh_real ct s w _ _ _ r l hc hs hw, hg, EReal.coe_mul]

theorem dot_at : (Read.val_main_v231 (F := E) x0 x1 x2 x4 x5) (ix2 r z) = ∑ k : Fin 2048, x0 (ix2 r k) * (Read.val_main_v227 (F := E) x1 x2 x4 x5) (ix2 r k) := by
  unfold Read.val_main_v231 Read.val_main_v230 Read.val_main_v229 Read.val_main_cst_59
  generalize (Read.val_main_v227 (F := E) x1 x2 x4 x5) = y
  pointwise

include hc hs hw hx hg in
theorem dot_real : (Read.val_main_v231 (F := E) x0 x1 x2 x4 x5) (ix2 r z) = ((∑ k : Fin 2048, xrow x r k * (dhl ct s w k r * g (ix1 k)) : ℝ) : EReal) := by
  rw [dot_at, coe_sum]
  refine Finset.sum_congr rfl fun k _ => ?_
  rw [dn_real ct s g w _ _ _ _ r k hc hs hw hg, hx, EReal.coe_mul]
  rfl

theorem share_at : (Read.val_main_v239 (F := E) x0 x1 x2 x4 x5) (ix2 r 0) = Ideal.div ((Read.val_main_v231 (F := E) x0 x1 x2 x4 x5) (ix2 r 0) * (Read.val_main_v11 (F := E) x0) (ix2 r 0)) (Ideal.ofBits .f32 0x45000000#32) := by
  unfold Read.val_main_v239 Read.val_main_v238 Read.val_main_v237 Read.val_main_v235 Read.val_main_v236 Read.val_main_cst_61 Read.val_main_cst_60
  generalize (Read.val_main_v231 (F := E) x0 x1 x2 x4 x5) = y
  generalize (Read.val_main_v11 (F := E) x0) = y'
  pointwise
  try simp only [Fin.sum_univ_one]
  try rfl

theorem wide_inv_at : (Read.val_main_v232 (F := E) x0) (ix2 r l) = (Read.val_main_v8 (F := E) x0) (ix2 r 0) := by
  unfold Read.val_main_v232
  generalize (Read.val_main_v8 (F := E) x0) = y8
  pointwise

theorem share_row : (Read.val_main_v239 (F := E) x0 x1 x2 x4 x5) (ix2 r l) = (Read.val_main_v239 (F := E) x0 x1 x2 x4 x5) (ix2 r 0) := by
  unfold Read.val_main_v239
  generalize (Read.val_main_v238 (F := E) x0 x1 x2 x4 x5) = y
  pointwise

theorem dx_at : (Read.val_main_v243 (F := E) x0 x1 x2 x4 x5) (ix2 r l) = x5 (ix2 r l) + (Read.val_main_v227 (F := E) x1 x2 x4 x5) (ix2 r l) * (Read.val_main_v232 (F := E) x0) (ix2 r l) + x0 (ix2 r l) * (Read.val_main_v239 (F := E) x0 x1 x2 x4 x5) (ix2 r l) + (Read.val_main_v239 (F := E) x0 x1 x2 x4 x5) (ix2 r l) * x0 (ix2 r l) := rfl

include hc hs hw hx hg in
theorem share_real : (Read.val_main_v239 (F := E) x0 x1 x2 x4 x5) (ix2 r l) = (((∑ k : Fin 2048, xrow x r k * (dhl ct s w k r * g (ix1 k))) * (-(1 / 2) * (Rms.inv (xrow x r) / Rms.ms (xrow x r))) / 2048 : ℝ) : EReal) := by
  rw [share_row, share_at, dot_real ct x s g w _ _ _ _ _ r 0 hc hs hw hx hg, factor_real x x0 r 0 hx, Rms.ofBits_2048, ← EReal.coe_mul, div_coe (by norm_num)]

include hc hs hw hx hg in
theorem dx_real : (Read.val_main_v243 (F := E) x0 x1 x2 x4 x5) (ix2 r l) = (outX ct s w x g r l : EReal) := by
  rw [dx_at, share_real ct x s g w _ _ _ _ _ r l hc hs hw hx hg, wide_inv_at, inv_real x x0 r 0 hx, dn_real ct s g w _ _ _ _ r l hc hs hw hg, hc, hx]
  show ((ct _ : ℝ) : EReal) + _ + ((x _ : ℝ) : EReal) * _ + _ * ((x _ : ℝ) : EReal) = _
  rw [← EReal.coe_mul, ← EReal.coe_mul, ← EReal.coe_mul, ← EReal.coe_add, ← EReal.coe_add, ← EReal.coe_add]
  unfold outX
  rw [← Rms.back_eq]
  refine congrArg _ ?_
  show _ = ct (ix2 r l) + (_ + x (ix2 r l) * _ + _ * x (ix2 r l))
  push_cast
  ring

theorem dg_at : (Read.val_main_v245 (F := E) x0 x2 x4 x5) (ix2 z l) = ∑ r : Fin 8192, (Read.val_main_v13 (F := E) x0) (ix2 r l) * (Read.val_main_v222 (F := E) x2 x4 x5) (ix2 r l) := by
  unfold Read.val_main_v245 Read.val_main_v228 Read.val_main_v225 Read.val_main_v224 Read.val_main_v223 Read.val_main_cst_57 Read.val_main_cst_58
  generalize (Read.val_main_v13 (F := E) x0) = y
  generalize (Read.val_main_v222 (F := E) x2 x4 x5) = y'
  pointwise
  try simp only [Fin.sum_univ_one]
  try rfl

include hc hs hw hx in
theorem dg_real : (Read.val_main_v245 (F := E) x0 x2 x4 x5) (ix2 z l) = ((∑ r : Fin 8192, partG ct s w x l r : ℝ) : EReal) := by
  rw [dg_at, coe_sum]
  refine Finset.sum_congr rfl fun r _ => ?_
  rw [xn_real x x0 r l hx, dh_real ct s w _ _ _ r l hc hs hw, ← EReal.coe_mul]
  unfold partG
  rw [mul_comm]

theorem ds_at : (Read.val_main_v246 (F := E) x0 x1 x2 x3 x5) (ix2 z l) = ∑ r : Fin 8192, (Read.val_main_v155 (F := E) x0 x1 x2 x3) (ix2 r l) * x5 (ix2 r l) := by
  have h : (Read.val_main_v160 (F := E) x5) = x5 := shapeCast_self _ _
  unfold Read.val_main_v246 Read.val_main_v166 Read.val_main_v163 Read.val_main_v162 Read.val_main_v161 Read.val_main_cst_41 Read.val_main_cst_42
  rw [h]
  generalize (Read.val_main_v155 (F := E) x0 x1 x2 x3) = y
  pointwise
  try simp only [Fin.sum_univ_one]
  try rfl

theorem product_at : (Read.val_main_v155 (F := E) x0 x1 x2 x3) (ix2 r l) = (Read.val_main_v151 (F := E) x0 x1 x2) (ix2 r l) + x3 (ix1 l) := by
  have h : (Read.val_main_v155 (F := E) x0 x1 x2 x3) (ix2 r l) = (Read.val_main_v151 (F := E) x0 x1 x2) (ix2 r l) + (Read.val_main_v0 (F := E)) (ix2 r l) + (Read.val_main_v154 (F := E) x3) (ix2 r l) := rfl
  have h0 : (Read.val_main_v0 (F := E)) (ix2 r l) = 0 := by pointwise [Read.val_main_v0, Read.val_main_cst]
  have h3 : (Read.val_main_v154 (F := E) x3) (ix2 r l) = x3 (ix1 l) := by pointwise [Read.val_main_v154, Read.val_main_v153]
  rw [h, h0, h3, add_zero]

theorem db_at : (Read.val_main_v247 (F := E) x4 x5) (ix2 z l) = ∑ r : Fin 8192, (Read.val_main_v165 (F := E) x4 x5) (ix2 r l) := by
  unfold Read.val_main_v247 Read.val_main_v169 Read.val_main_v168 Read.val_main_v167 Read.val_main_cst_43 Read.val_main_cst_44
  generalize (Read.val_main_v165 (F := E) x4 x5) = y
  pointwise
  try simp only [Fin.sum_univ_one]
  try rfl

include hc hs in
theorem db_real : (Read.val_main_v247 (F := E) x4 x5) (ix2 z l) = ((∑ r : Fin 8192, zr ct s r l : ℝ) : EReal) := by
  rw [db_at, coe_sum]
  exact Finset.sum_congr rfl fun r _ => z_real ct s _ _ r l hc hs

end real

end Cert.PoolRefIdeal.Bwd

end
-- ==== Proof.PoolClaims.lean ====
/- The claims about the pooling layer's backward pass. -/
module

public import proofs.«01_k».proof.Defs
public import proofs.«01_k».proof.Proof.PoolRef
public import proofs.«01_k».proof.Proof.RealSum
public import proofs.«01_k».proof.Proof.Gen.Pre_pool_finite
public import Idealize.ShloMosaic.Lib.Quiescent

@[expose] public section

set_option maxRecDepth 16384

noncomputable section

namespace Cert.PoolIdeal.Bwd

open Cert.PoolIdeal Cert.PoolIdeal.Gen Cert.Pool
open Idealize.ShloMosaic Idealize.ShloMosaic.TcCoe Idealize.SL.Sem Idealize.ShloMosaic.Tactic

local notation "E" => Idealize.ShloMosaic.Ideal

theorem saved_at (m : (ℓ : Loc nD τ sig) → Buf (Elt E) ℓ) (c : Dev nD) (r : Fin 8192) (l : Fin 2048) :
    saved m c (ix2 r l) = Cert.PoolRefIdeal.Read.val_main_v151 (F := E) (argX m c) (argG m c) (argW m c) (ix2 r l) + argB m c (ix1 l) := by
  unfold saved
  generalize Cert.PoolRefIdeal.Read.val_main_v151 (F := E) (argX m c) (argG m c) (argW m c) = y
  generalize argB m c = b
  pointwise

end Cert.PoolIdeal.Bwd

namespace Cert.Proof

open Idealize.ShloMosaic Idealize.SL.Sem Cert.Lift Cert.Sums Cert.Pool
open Cert.PoolIdeal.Bwd (argX argG argW argB argS argC saved)

/-- The reference's five results, its arguments but the bias being arrays of reals. -/
theorem pool_ref {x0 : (⟨Cert.PoolRefIdeal.S8192x2048, .f32⟩ : BufTy).Contents (Elt Ideal)} {x1 : (⟨Cert.PoolRefIdeal.S2048, .f32⟩ : BufTy).Contents (Elt Ideal)}
    {x2 : (⟨Cert.PoolRefIdeal.S4x512x512, .f32⟩ : BufTy).Contents (Elt Ideal)} {x3 x4 : (⟨Cert.PoolRefIdeal.S2048, .f32⟩ : BufTy).Contents (Elt Ideal)}
    {x5 : (⟨Cert.PoolRefIdeal.S8192x2048, .f32⟩ : BufTy).Contents (Elt Ideal)}
    (x : Cert.PoolIdeal.S8192x2048.Idx → ℝ) (g : Cert.PoolIdeal.S2048.Idx → ℝ) (w : Cert.PoolIdeal.S4x512x512.Idx → ℝ)
    (s : Cert.PoolIdeal.S2048.Idx → ℝ) (ct : Cert.PoolIdeal.S8192x2048.Idx → ℝ) (zb : Cert.PoolIdeal.S8192x2048.Idx → EReal)
    (h0 : x0 = up x) (h1 : x1 = up g) (h2 : x2 = up w) (h4 : x4 = up s) (h5 : x5 = up ct)
    (hz : ∀ r l, zb (ix2 r l) = Cert.PoolRefIdeal.Read.val_main_v151 (F := Ideal) x0 x1 x2 (ix2 r l) + x3 (ix1 l)) :
    Cert.PoolRefIdeal.Read.val_main_v243 (F := Ideal) x0 x1 x2 x4 x5 = arrX ct s w x g
    ∧ Cert.PoolRefIdeal.Read.val_main_v244 (F := Ideal) x4 x5 = arrZ ct s
    ∧ Cert.PoolRefIdeal.Read.val_main_v245 (F := Ideal) x0 x2 x4 x5 = arrG ct s w x
    ∧ Cert.PoolRefIdeal.Read.val_main_v246 (F := Ideal) x0 x1 x2 x3 x5 = arrS ct zb
    ∧ Cert.PoolRefIdeal.Read.val_main_v247 (F := Ideal) x4 x5 = arrB ct s := by
  refine ⟨?_, ?_, ?_, ?_, ?_⟩
  · funext i
    obtain ⟨r, l, rfl⟩ : ∃ (r : Fin 8192) (l : Fin 2048), i = ix2 r l := ⟨i 0, i 1, (ix2_eta i).symm⟩
    exact Cert.PoolRefIdeal.Bwd.dx_real ct x s g w x0 x1 x2 x4 x5 r l h5 h4 h2 h0 h1
  · funext i
    obtain ⟨r, l, rfl⟩ : ∃ (r : Fin 8192) (l : Fin 2048), i = ix2 r l := ⟨i 0, i 1, (ix2_eta i).symm⟩
    exact Cert.PoolRefIdeal.Bwd.z_real ct s x4 x5 r l h5 h4
  · funext i
    obtain ⟨z, l, rfl⟩ : ∃ (z : Fin 1) (l : Fin 2048), i = ix2 z l := ⟨i 0, i 1, (ix2_eta i).symm⟩
    exact Cert.PoolRefIdeal.Bwd.dg_real ct x s w x0 x2 x4 x5 l z h5 h4 h2 h0
  · funext i
    obtain ⟨z, l, rfl⟩ : ∃ (z : Fin 1) (l : Fin 2048), i = ix2 z l := ⟨i 0, i 1, (ix2_eta i).symm⟩
    refine (Cert.PoolRefIdeal.Bwd.ds_at x0 x1 x2 x3 x5 l z).trans ?_
    refine Finset.sum_congr rfl fun r _ => ?_
    rw [Cert.PoolRefIdeal.Bwd.product_at, h5]
    show _ * ((ct (ix2 r l) : ℝ) : EReal) = ((ct (ix2 r l) : ℝ) : EReal) * zb (ix2 r l)
    rw [hz, mul_comm]
  · funext i
    obtain ⟨z, l, rfl⟩ : ∃ (z : Fin 1) (l : Fin 2048), i = ix2 z l := ⟨i 0, i 1, (ix2_eta i).symm⟩
    exact Cert.PoolRefIdeal.Bwd.db_real ct s x4 x5 l z h5 h4

end Cert.Proof

namespace Cert.PoolRefIdeal

open Idealize.ShloMosaic Idealize.ShloMosaic.TcCoe Idealize.ShloMosaic.StableHlo Idealize.SL.Sem

/-- The reference's run, its results as its generated stages state them. -/
theorem pool_ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v243) = Read.val_main_v243 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v244) = Read.val_main_v244 (F := Ideal) (m ((c.tc : Thread nD τ).loc main_arg4)) (m ((c.tc : Thread nD τ).loc main_arg5))
      ∧ r.2.mem ((c.tc : Thread nD τ).loc main_v245) = Read.val_main_v245 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v246) = Read.val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v247) = Read.val_main_v247 (F := Ideal) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨p0, p1, p2, p3, p4, p5⟩ := h c
  exact ⟨p0.trans (Read.val_main_v243_eq (launchContents m c)), p1.trans (Read.val_main_v244_eq (launchContents m c)), p2.trans (Read.val_main_v245_eq (launchContents m c)), p3.trans (Read.val_main_v246_eq (launchContents m c)), p4.trans (Read.val_main_v247_eq (launchContents m c)), p5⟩

end Cert.PoolRefIdeal

namespace Cert.Proof

open Idealize.ShloMosaic Idealize.SL.Sem Cert.Lift Cert.Sums Cert.Pool
open Cert.PoolIdeal.Bwd (argX argG argW argB argS argC saved)

set_option maxHeartbeats 2000000 in
/-- Kernel and reference compute the same five gradients of the pooling layer, where all arguments but the bias are finite. -/
theorem algebraic_pool : Cert.algebraic_PoolIdeal_PoolRefIdeal_pre_pool_finite := by
  intro m ρ m' ρ' hpre hargs
  refine ⟨fun c => (Cert.PoolIdeal.Gen.dats m 0 c).arrAt 7 Cert.PoolIdeal.cfg0.N, fun c => (Cert.PoolIdeal.Gen.dats m 0 c).arrAt 8 Cert.PoolIdeal.cfg0.N,
    fun c => (Cert.PoolIdeal.Gen.dats m 0 c).arrAt 9 Cert.PoolIdeal.cfg0.N, fun c => (Cert.PoolIdeal.Gen.dats m 0 c).arrAt 10 Cert.PoolIdeal.cfg0.N,
    fun c => (Cert.PoolIdeal.Gen.dats m 0 c).arrAt 11 Cert.PoolIdeal.cfg0.N, Cert.PoolIdeal.Value.run_blocks m ρ, ?_⟩
  refine (θ_run Cert.PoolRefIdeal.defs _ _).mono (fun r h c => ?_) (Cert.PoolRefIdeal.pool_ref_run m' ρ')
  obtain ⟨e0, e1, e2, e3, e4, e5⟩ := hargs c
  obtain ⟨f0, f1, f2, f4, f5⟩ := hpre c
  obtain ⟨x, hx⟩ := reals_of_finite _ _ f0
  obtain ⟨g, hg⟩ := reals_of_finite _ _ f1
  obtain ⟨w, hw⟩ := reals_of_finite _ _ f2
  obtain ⟨s, hs⟩ := reals_of_finite _ _ f4
  obtain ⟨ct, hc⟩ := reals_of_finite _ _ f5
  obtain ⟨r0, r1, r2, r3, r4⟩ := pool_ref (x3 := m' ((c.tc : Thread Cert.PoolRefIdeal.nD Cert.PoolRefIdeal.τ).loc Cert.PoolRefIdeal.main_arg3)) x g w s ct (saved m c) (e0.trans hx) (e1.trans hg) (e2.trans hw) (e4.trans hs) (e5.trans hc)
    (fun r l => by rw [e0, e1, e2, e3]; exact Cert.PoolIdeal.Bwd.saved_at m c r l)
  obtain ⟨p0, p1, p2, p3, p4, p5⟩ := h c
  have q0 := Cert.PoolIdeal.Bwd.final_7 m c ct x s g w hc hs hw hx hg
  have q1 := Cert.PoolIdeal.Bwd.final_8 m c ct s hc hs
  have q2 := Cert.PoolIdeal.Bwd.final_9 m c ct x s w hc hs hw hx
  have q3 := Cert.PoolIdeal.Bwd.final_10 m c ct hc
  have q4 := Cert.PoolIdeal.Bwd.final_11 m c ct s hc hs
  refine ⟨?_, ?_, ?_, ?_, ?_, p5⟩
  · exact p0.trans (r0.trans q0.symm)
  · exact p1.trans (r1.trans q1.symm)
  · exact p2.trans (r2.trans q2.symm)
  · exact p3.trans (r3.trans q3.symm)
  · exact p4.trans (r4.trans q4.symm)

theorem frame_poolRef : Cert.quiescent_PoolRefIdeal := fun m ρ _ =>
  (θ_run Cert.PoolRefIdeal.defs _ _).mono (fun r h => ⟨fun c => (h c).2.2.2.2.2, sem_eq_zero_of_no_sems (by decide) r.2⟩) (Cert.PoolRefIdeal.Value.run (F := Ideal) m ρ)

theorem frame_poolRef_pre : Cert.quiescent_PoolRefIdeal_pre_pool_finite := fun m ρ _ => frame_poolRef m ρ trivial

end Cert.Proof

end
-- ==== Proof.DactBlock.lean ====
/- The SwiGLU backward kernel over the extended reals: what one grid point leaves in its block. -/
module

public import proofs.«01_k».proof.Proof.Gen.DactIdeal.Value
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.DactIdeal.Bwd

open Cert.DactIdeal Cert.DactIdeal.Gen
open Idealize.ShloMosaic Idealize.ShloMosaic.TcCoe Idealize.ShloMosaic.Tactic

local notation "E" => Idealize.ShloMosaic.Ideal

/-! ## The stored values, entry by entry -/

theorem pay5_at (v0 : Vec E S512x2048 .f32) (v2 : Vec E S1x640x2048 .bf16) (v5 : Vec E S512x640 .bf16) (z : Fin 1) (a : Fin 512) (d : Fin 640) :
    k0_pay5 v0 v2 v5 (ix3 z a d) = (∑ k : Fin 2048, v0 (ix2 a k) * v2 (ix3 0 d k)) * v5 (ix2 a d) := by
  pointwise [k0_pay5, k0_pay4, k0_pay3]

theorem pay6_at (v0 : Vec E S512x2048 .f32) (v2 : Vec E S1x640x2048 .bf16) (v5 : Vec E S512x640 .bf16) (z : Fin 1) (a : Fin 512) (d : Fin 640) :
    k0_pay6 v0 v2 v5 (ix3 z a d) = (∑ k : Fin 2048, v0 (ix2 a k) * v2 (ix3 0 d k)) * v5 (ix2 a d) := by
  pointwise [k0_pay6, k0_pay4, k0_pay3]

theorem pay1_at (v0 : Vec E S512x2048 .f32) (v2 : Vec E S1x768x2048 .bf16) (v5 : Vec E S512x768 .bf16) (z : Fin 1) (a : Fin 512) (d : Fin 768) :
    k0_pay1 (k0_pay8 v0 v2 v5) (ix3 z a d) = (∑ k : Fin 2048, v0 (ix2 a k) * v2 (ix3 0 d k)) * v5 (ix2 a d) := by
  pointwise [k0_pay1, k0_pay8, k0_pay7, k0_pay3]

theorem pay2_at (v0 : Vec E S512x2048 .f32) (v2 : Vec E S1x768x2048 .bf16) (v5 : Vec E S512x768 .bf16) (z : Fin 1) (a : Fin 512) (d : Fin 768) :
    k0_pay2 (k0_pay7 v0 v2) v5 (ix3 z a d) = (∑ k : Fin 2048, v0 (ix2 a k) * v2 (ix3 0 d k)) * v5 (ix2 a d) := by
  pointwise [k0_pay2, k0_pay7, k0_pay3]

/-! ## The block -/

/-- A stored tile is the tile of the whole block's value: the product of rows by rows, times the factor that the first coordinate picks. -/
theorem tile {n : ℕ} (x0 : Vec E S512x2048 .f32) (x1 : Vec E S1x1408x2048 .bf16) (x2 x3 : Vec E S512x1408 .bf16) (q o : ℕ) {y : EReal}
    {i1 : ∀ b, (![0, o, 0] : Fin 3 → ℕ) b + (![1, n, 2048] : Fin 3 → ℕ) b ≤ S1x1408x2048.size b} {i2 : ∀ b, (![0, o] : Fin 2 → ℕ) b + (![512, n] : Fin 2 → ℕ) b ≤ S512x1408.size b}
    {xs : Vec E S512x1408 .bf16} {z : Fin 1} {a' : Fin 512} {d : Fin n}
    (hy : y = (∑ k : Fin 2048, (show EReal from x0 (ix2 a' k)) * (show EReal from View.ld x1 (Rect.unit ![0, o, 0] ![1, n, 2048] i1) (ix3 0 d k))) *
      (show EReal from View.ld xs (Rect.unit ![0, o] ![512, n] i2) (ix2 a' d)))
    (p : Fin 2) (a : Fin 512) (l : Fin 1408) (h0 : (p : ℕ) = q + (z : ℕ)) (h1 : (a : ℕ) = (a' : ℕ)) (h2 : (l : ℕ) = o + (d : ℕ))
    (hx : xs = if q = 0 then x3 else x2) :
    y = (∑ k : Fin 2048, (show EReal from x0 (ix2 a k)) * (show EReal from x1 (ix3 0 l k))) *
      (if p = 0 then (show EReal from x3 (ix2 a l)) else (show EReal from x2 (ix2 a l))) := by
  obtain rfl : a = a' := Fin.ext h1
  subst hx
  rw [hy]
  refine congrArg₂ (fun y z : EReal => y * z) (Finset.sum_congr rfl fun k _ => congrArg (fun y : EReal => (show EReal from x0 (ix2 a k)) * y)
    (View.ld_unit_apply_of x1 _ _ _ _ (ix3 0 l k) fun b => ?_)) ((View.ld_unit_apply_of _ _ _ _ _ (ix2 a l) fun b => ?_).trans ?_)
  · match b with
    | ⟨0, _⟩ => rfl
    | ⟨1, _⟩ => exact h2
    | ⟨2, _⟩ => exact (Nat.zero_add _).symm
  · match b with
    | ⟨0, _⟩ => exact (Nat.zero_add _).symm
    | ⟨1, _⟩ => exact h2
  · have hz := z.isLt
    by_cases hq : q = 0
    · rw [if_pos hq, if_pos (Fin.ext (by show (p : ℕ) = 0; omega))]
    · rw [if_neg hq, if_neg (fun e => by rw [e] at h0; exact hq (by have : (0 : ℕ) = q + z := h0; omega))]

section block
variable (m : (ℓ : Loc nD τ sig) → Buf (Elt E) ℓ) (c : Dev nD) (t : Fin cfg0.N)

/-- What one grid point leaves in its block. -/
theorem out_at (p : Fin 2) (a : Fin 512) (l : Fin 1408) :
    outsAt0 m c t (ix3 p a l) = (∑ k : Fin 2048, (show EReal from iblk m c 0 t (ix2 a k)) * (show EReal from iblk m c 1 t (ix3 0 l k)))
      * (if p = 0 then (show EReal from iblk m c 3 t (ix2 a l)) else (show EReal from iblk m c 2 t (ix2 a l))) := by
  unfold outsAt0
  generalize iblk m c 0 t = x0
  generalize iblk m c 1 t = x1
  generalize iblk m c 2 t = x2
  generalize iblk m c 3 t = x3
  frame_out
  canon_tiles x h using View.cover_of_tiledBy _ ![1, 512, 128] (by sl_kernel_rfl) _
  all_goals obtain ⟨z, a', d, rfl⟩ : ∃ z a' d, x = ix3 z a' d := ⟨x 0, x 1, x 2, eq_ix3 x⟩
  · exact (pay2_at _ _ _ z a' d).trans (tile x0 x1 x2 x3 1 640 rfl p a l h0 h1 h2 rfl)
  · exact (pay1_at _ _ _ z a' d).trans (tile x0 x1 x2 x3 0 640 rfl p a l (h0.trans (Nat.zero_add _).symm) h1 h2 rfl)
  · exact (pay6_at _ _ _ z a' d).trans (tile x0 x1 x2 x3 1 0 rfl p a l h0 h1 (h2.trans (Nat.zero_add _).symm) rfl)
  · exact (pay5_at _ _ _ z a' d).trans (tile x0 x1 x2 x3 0 0 rfl p a l (h0.trans (Nat.zero_add _).symm) h1 (h2.trans (Nat.zero_add _).symm) rfl)

end block

end Cert.DactIdeal.Bwd

end
-- ==== Proof.DactValue.lean ====
/- The SwiGLU backward kernel over the extended reals: the array of the two gradients that it returns. -/
module

public import proofs.«01_k».proof.Proof.DactBlock
public import proofs.«01_k».proof.Proof.Sums
public import Idealize.ShloMosaic.Lib.KernelVsHost

@[expose] public section

set_option maxRecDepth 16384

noncomputable section

namespace Cert.DactIdeal.Bwd

open Cert.DactIdeal Cert.DactIdeal.Gen
open Idealize.ShloMosaic Idealize.ShloMosaic.TcCoe Idealize.SL.Sem Idealize.ShloMosaic.Tactic Idealize.ShloMosaic.StableHlo
open Idealize.ShloMosaic.Pipeline (Dat)

local notation "E" => Idealize.ShloMosaic.Ideal

/-- The logistic function of an extended real, as the programs spell it. -/
def sgm (x : EReal) : EReal := Ideal.div (Ideal.ofBits .f32 0x3F800000#32) (Ideal.ofBits .f32 0x3F800000#32 + Ideal.exp (-x))

/-- The logistic function of an array. -/
def sgmA (x : FVec E S8192x5632 .f32) : FVec E S8192x5632 .f32 :=
  Host.divf (broadcastInDim S8192x5632 ![] bcast_S_S8192x5632 (constant S_ .f32 0x3F800000#32))
    (addf (broadcastInDim S8192x5632 ![] bcast_S_S8192x5632 (constant S_ .f32 0x3F800000#32)) (Host.exp (Host.negf x)))

theorem sgmA_at (x : FVec E S8192x5632 .f32) (r : Fin 8192) (l : Fin 5632) : sgmA x (ix2 r l) = sgm (x (ix2 r l)) := by
  unfold sgm
  pointwise [sgmA]

/-- The two factors that a hidden gradient is multiplied with: of the gate's gradient and of the up projection's. -/
def fac (g u : EReal) (p : Fin 2) : EReal :=
  if p = 0 then u * (sgm g * (Ideal.ofBits .f32 0x3F800000#32 + g * (Ideal.ofBits .f32 0x3F800000#32 - sgm g))) else g * sgm g

section host
variable (m : (ℓ : Loc nD τ sig) → Buf (Elt E) ℓ) (c : Dev nD)

abbrev argG : FVec E S8192x5632 .f32 := m ((c : Thread nD τ).loc main_arg0)
abbrev argU : FVec E S8192x5632 .f32 := m ((c : Thread nD τ).loc main_arg1)
abbrev argW : FVec E S5632x2048 .f32 := m ((c : Thread nD τ).loc main_arg2)
abbrev argC : FVec E S8192x2048 .f32 := m ((c : Thread nD τ).loc main_arg3)

/-- The weight in four blocks of columns of the hidden layer. -/
def quarters (w : FVec E S5632x2048 .f32) : FVec E S4x1408x2048 .bf16 := shapeCast S4x1408x2048 (truncf .bf16 w bitsLt_bf16_f32) shapeCasts_S5632x2048_S4x1408x2048

def upF (g u : FVec E S8192x5632 .f32) : FVec E S8192x5632 .bf16 := truncf .bf16 (mulf g (sgmA g)) bitsLt_bf16_f32

def gateF (g u : FVec E S8192x5632 .f32) : FVec E S8192x5632 .bf16 :=
  truncf .bf16 (mulf u (mulf (sgmA g) (addf (broadcastInDim S8192x5632 ![] bcast_S_S8192x5632 (constant S_ .f32 0x3F800000#32))
    (mulf g (subf (broadcastInDim S8192x5632 ![] bcast_S_S8192x5632 (constant S_ .f32 0x3F800000#32)) (sgmA g)))))) bitsLt_bf16_f32

/-- What the host lines hand to the call. -/
structure Handed : Prop where
  v15 : V m c main_v15 = quarters (argW m c)
  v16 : V m c main_v16 = upF (argG m c) (argU m c)
  v17 : V m c main_v17 = gateF (argG m c) (argU m c)

theorem handed : Handed m c := by
  constructor <;> (simp only [V, hostOps0, List.flatten_cons, List.flatten_nil, List.append_nil, List.cons_append, List.nil_append, TRef.nullary, TRef.ternary, TRef.binary, TRef.unary, TRef.toBuf, TRef.ofBuf, cast_eq]; after_results_simp <;> rfl)

theorem upF_at (g u : FVec E S8192x5632 .f32) (r : Fin 8192) (l : Fin 5632) : upF g u (ix2 r l) = fac (g (ix2 r l)) (u (ix2 r l)) 1 := by
  unfold fac
  rw [if_neg (by decide), ← sgmA_at]
  unfold upF
  generalize sgmA g = s
  pointwise

theorem gateF_at (g u : FVec E S8192x5632 .f32) (r : Fin 8192) (l : Fin 5632) : gateF g u (ix2 r l) = fac (g (ix2 r l)) (u (ix2 r l)) 0 := by
  unfold fac
  rw [if_pos rfl, ← sgmA_at]
  unfold gateF
  generalize sgmA g = s
  pointwise

theorem quarters_at (w : FVec E S5632x2048 .f32) (j : Fin 4) (l : Fin 1408) (k : Fin 2048) (h : j.val * 1408 + l.val < 5632) :
    quarters w (ix3 j l k) = w (ix2 ⟨j.val * 1408 + l.val, h⟩ k) := by
  unfold quarters
  refine (shapeCast_apply _ shapeCasts_S5632x2048_S4x1408x2048 (ix3 j l k) (ix2 ⟨j.val * 1408 + l.val, h⟩ k) ?_).trans rfl
  rewrite [Shape.rowMajor_val_two, Shape.rowMajor_val_three]
  rfl

variable (t : Fin cfg0.N) (a : Fin 512) (l : Fin 1408) (k : Fin 2048)

theorem lt64 : t.val < 64 := t.isLt

/-- Row `a` and column `l` of the block of point `t`. -/
def row : Fin 8192 := ⟨(t.val % 16) * 512 + a.val, by have := a.isLt; omega⟩
def col : Fin 5632 := ⟨(t.val / 16) * 1408 + l.val, by have := l.isLt; have := lt64 t; omega⟩

theorem idx_0 : ∀ t : Fin grid0.N, win0_0.index t 0 = t.val % 16 ∧ win0_0.index t 1 = 0 := by decide +kernel
theorem idx_1 : ∀ t : Fin grid0.N, win0_1.index t 0 = t.val / 16 ∧ win0_1.index t 1 = 0 ∧ win0_1.index t 2 = 0 := by decide +kernel
theorem idx_2 : ∀ t : Fin grid0.N, win0_2.index t 0 = t.val % 16 ∧ win0_2.index t 1 = t.val / 16 := by decide +kernel
theorem idx_3 : ∀ t : Fin grid0.N, win0_3.index t 0 = t.val % 16 ∧ win0_3.index t 1 = t.val / 16 := by decide +kernel
theorem idx_4 : ∀ t : Fin grid0.N, win0_4.index t 0 = 0 ∧ win0_4.index t 1 = t.val % 16 ∧ win0_4.index t 2 = t.val / 16 := by decide +kernel

theorem iblk_0 : iblk m c 0 t (ix2 a k) = argC m c (ix2 (row t a) k) := by
  rw [show argC m c = V m c main_arg3 from (V_main_arg3 m c).symm]
  unfold iblk
  rw [View.read_apply]
  show V m c main_arg3 _ = _
  congr 1
  blk_ext [idx_0 t, row]

theorem iblk_1 (z : Fin 1) : iblk m c 1 t (ix3 z l k) = argW m c (ix2 (col t l) k) := by
  have hq : t.val / 16 < 4 := by have := lt64 t; omega
  refine Eq.trans ?_ (quarters_at (argW m c) ⟨t.val / 16, hq⟩ l k (col t l).isLt)
  rw [← (handed m c).v15]
  unfold iblk
  rw [View.read_apply]
  show V m c main_v15 _ = _
  congr 1
  blk_ext [idx_1 t, row]

theorem iblk_2 : iblk m c 2 t (ix2 a l) = fac (argG m c (ix2 (row t a) (col t l))) (argU m c (ix2 (row t a) (col t l))) 1 := by
  rw [← upF_at, ← (handed m c).v16]
  unfold iblk
  rw [View.read_apply]
  show V m c main_v16 _ = _
  congr 1
  blk_ext [idx_2 t, row, col]

theorem iblk_3 : iblk m c 3 t (ix2 a l) = fac (argG m c (ix2 (row t a) (col t l))) (argU m c (ix2 (row t a) (col t l))) 0 := by
  rw [← gateF_at, ← (handed m c).v17]
  unfold iblk
  rw [View.read_apply]
  show V m c main_v17 _ = _
  congr 1
  blk_ext [idx_3 t, row, col]

/-- The two gradients: a hidden gradient, a product of rows, times its factor. -/
def arr (g u : FVec E S8192x5632 .f32) (w : FVec E S5632x2048 .f32) (ct : FVec E S8192x2048 .f32) : FVec E S2x8192x5632 .bf16 := fun i =>
  (∑ k : Fin 2048, ct (ix2 (i 1) k) * w (ix2 (i 2) k)) * fac (g (ix2 (i 1) (i 2))) (u (ix2 (i 1) (i 2))) (i 0)

theorem block_at (p : Fin 2) : outsAt0 m c t (ix3 p a l) = arr (argG m c) (argU m c) (argW m c) (argC m c) (ix3 p (row t a) (col t l)) := by
  rw [out_at]
  simp only [iblk_0, iblk_1, iblk_2, iblk_3]
  unfold arr
  refine congrArg _ ?_
  by_cases hp : p = 0
  · subst hp; rfl
  · have : p = 1 := by omega
    subst this; rfl

/-- The array that the call returns. -/
theorem final_4 : (dats m 0 c).arrAt 4 cfg0.N = arr (argG m c) (argU m c) (argW m c) (argC m c) := by
  refine (dats m 0 c).arrAt_eq_of_cover 4 _ (fun t _ => ?_) (fun (i : S2x8192x5632.Idx) => ?_)
  · show (cfg0.win 4).cut (grid0.coords t) ((dats m 0 c).after 4 t) = _
    rw [after0_4]
    funext j
    rw [View.read_apply]
    obtain ⟨p, a, l, rfl⟩ : ∃ (p : Fin 2) (a : Fin 512) (l : Fin 1408), j = ix3 p a l := ⟨j 0, j 1, j 2, (ix3_eta j).symm⟩
    refine (block_at m c t a l p).trans ?_
    have e : ((cfg0.win 4).blk t).view.emb (ix3 p a l) = ix3 p (row t a) (col t l) := by
      funext b
      apply Fin.ext
      match b with
      | ⟨0, _⟩ => show win0_4.index t 0 * 2 + 1 * p.val = p.val; rw [(idx_4 t).1]; omega
      | ⟨1, _⟩ => show win0_4.index t 1 * 512 + 1 * a.val = t.val % 16 * 512 + a.val; rw [(idx_4 t).2.1]; omega
      | ⟨2, _⟩ => show win0_4.index t 2 * 1408 + 1 * l.val = t.val / 16 * 1408 + l.val; rw [(idx_4 t).2.2]; omega
    rw [e]
    rfl
  · have h0 : (i 0).val < 2 := (i 0).isLt
    have h1 : (i 1).val < 8192 := (i 1).isLt
    have h2 : (i 2).val < 5632 := (i 2).isLt
    obtain ⟨t, ht⟩ : ∃ t : Fin cfg0.N, t.val = (i 2).val / 1408 * 16 + (i 1).val / 512 := ⟨⟨(i 2).val / 1408 * 16 + (i 1).val / 512, by show _ < 64; omega⟩, rfl⟩
    refine ⟨t, flush0_4 _, ?_⟩
    show i ∈ ((View.whole main_v18).slice (win0_4.rect t)).set
    rw [View.set_slice_whole, Rect.mem_set_unit]
    intro b
    match b with
    | ⟨0, _⟩ =>
      show win0_4.index _ 0 * 2 ≤ (i 0).val ∧ (i 0).val < win0_4.index _ 0 * 2 + 2
      rw [(idx_4 _).1]; omega
    | ⟨1, _⟩ =>
      show win0_4.index _ 1 * 512 ≤ (i 1).val ∧ (i 1).val < win0_4.index _ 1 * 512 + 512
      rw [(idx_4 _).2.1]; omega
    | ⟨2, _⟩ =>
      show win0_4.index _ 2 * 1408 ≤ (i 2).val ∧ (i 2).val < win0_4.index _ 2 * 1408 + 1408
      rw [(idx_4 _).2.2]; omega

end host

end Cert.DactIdeal.Bwd

end
-- ==== Proof.DactClaims.lean ====
/- The claims about the SwiGLU's backward pass: what the reference computes, and that the kernel computes the same. -/
module

public import proofs.«01_k».proof.Defs
public import proofs.«01_k».proof.Proof.DactValue
public import proofs.«01_k».proof.Proof.RealSum
public import proofs.«01_k».proof.Proof.Gen.Pre_dact_finite
public import proofs.«01_k».proof.Proof.Gen.DactRefIdeal.Read
public import Idealize.ShloMosaic.Lib.Quiescent

@[expose] public section

set_option maxRecDepth 16384

noncomputable section

namespace Cert.DactRefIdeal.Bwd

open Cert.DactRefIdeal Cert.DactRefIdeal.Gen
open Idealize.ShloMosaic Idealize.ShloMosaic.TcCoe Idealize.SL.Sem Idealize.ShloMosaic.Tactic
open Cert.Lift Cert.Sums Cert.DactIdeal.Bwd

local notation "E" => Idealize.ShloMosaic.Ideal

/-- The logistic function of a real. -/
def sg (x : ℝ) : ℝ := 1 / (1 + Real.exp (-x))

theorem sgm_coe (x : ℝ) : sgm (x : EReal) = (sg x : EReal) := by
  unfold sgm sg
  rw [ofBits_one, ← EReal.coe_neg, exp_coe, ← EReal.coe_add, div_coe (by positivity)]

section nodes
variable (x0 x1 : (⟨S8192x5632, .f32⟩ : BufTy).Contents (Elt E)) (x2 : (⟨S5632x2048, .f32⟩ : BufTy).Contents (Elt E)) (x3 : (⟨S8192x2048, .f32⟩ : BufTy).Contents (Elt E))
  (r : Fin 8192) (l : Fin 5632)

theorem sig_at : Read.val_main_v0_2 (F := E) x0 (ix2 r l) = sgm (x0 (ix2 r l)) := by
  unfold sgm
  pointwise [Read.val_main_v0_2, Read.val_main_call0_v4, Read.val_main_call0_cst_0, Read.val_main_call0_v3, Read.val_main_call0_v2, Read.val_main_call0_cst, Read.val_main_call0_v1, Read.val_main_call0_v0]

theorem dsig_at : Read.val_main_v0_1 (F := E) x0 (ix2 r l) = sgm (x0 (ix2 r l)) * (Ideal.ofBits .f32 0x3F800000#32 - sgm (x0 (ix2 r l))) := by
  rw [← sig_at]
  unfold Read.val_main_v0_1 Read.val_main_call0_v7
  generalize Read.val_main_v0_2 (F := E) x0 = y
  pointwise [Read.val_main_call0_v6, Read.val_main_call0_cst_1]

theorem silu_at : Read.val_main_v0_0 (F := E) x0 (ix2 r l) = x0 (ix2 r l) * sgm (x0 (ix2 r l)) := by
  rw [← sig_at]; rfl

theorem hidden_at : Read.val_main_v3 (F := E) x2 x3 (ix2 r l) = ∑ k : Fin 2048, x3 (ix2 r k) * x2 (ix2 l k) := by
  pointwise [Read.val_main_v3]

/-- The up projection's gradient. -/
theorem up_at : Read.val_main_v4 (F := E) x0 x2 x3 (ix2 r l) = (x0 (ix2 r l) * sgm (x0 (ix2 r l))) * ∑ k : Fin 2048, x3 (ix2 r k) * x2 (ix2 l k) := by
  rw [← silu_at, ← hidden_at]; rfl

/-- The gate's gradient. -/
theorem gate_at : Read.val_main_v6 (F := E) x0 x1 x2 x3 (ix2 r l) = (∑ k : Fin 2048, x3 (ix2 r k) * x2 (ix2 l k)) * x1 (ix2 r l) * sgm (x0 (ix2 r l))
    + x0 (ix2 r l) * ((∑ k : Fin 2048, x3 (ix2 r k) * x2 (ix2 l k)) * x1 (ix2 r l)) * (sgm (x0 (ix2 r l)) * (Ideal.ofBits .f32 0x3F800000#32 - sgm (x0 (ix2 r l)))) := by
  rw [← dsig_at, ← hidden_at, ← sig_at]; rfl

theorem stack_at (p : Fin 2) : Read.val_main_v10 (F := E) x0 x1 x2 x3 (ix3 p r l) = if p = 0 then Read.val_main_v6 (F := E) x0 x1 x2 x3 (ix2 r l) else Read.val_main_v4 (F := E) x0 x2 x3 (ix2 r l) := by
  unfold Read.val_main_v10 Read.val_main_v9 Read.val_main_v7 Read.val_main_v8
  generalize Read.val_main_v6 (F := E) x0 x1 x2 x3 = y6
  generalize Read.val_main_v4 (F := E) x0 x2 x3 = y4
  pointwise
  by_cases hp : p = 0
  · subst hp; rfl
  · rw [if_neg hp, dif_neg (by have := Fin.val_ne_of_ne hp; show ¬(p : ℕ) < 1; have : (p : ℕ) ≠ 0 := this; omega)]

/-- The reference's array is the kernel's, where all arguments are reals. -/
theorem ref_eq (g u : S8192x5632.Idx → ℝ) (w : S5632x2048.Idx → ℝ) (ct : S8192x2048.Idx → ℝ) (h0 : x0 = up g) (h1 : x1 = up u) (h2 : x2 = up w) (h3 : x3 = up ct) :
    Read.val_main_v10 (F := E) x0 x1 x2 x3 = arr x0 x1 x2 x3 := by
  funext i
  obtain ⟨p, r, l, rfl⟩ : ∃ (p : Fin 2) (r : Fin 8192) (l : Fin 5632), i = ix3 p r l := ⟨i 0, i 1, i 2, (ix3_eta i).symm⟩
  refine (stack_at x0 x1 x2 x3 r l p).trans ?_
  rw [gate_at, up_at]
  show _ = (∑ k : Fin 2048, x3 (ix2 r k) * x2 (ix2 l k)) * fac (x0 (ix2 r l)) (x1 (ix2 r l)) p
  unfold fac
  have hd : (∑ k : Fin 2048, x3 (ix2 r k) * x2 (ix2 l k)) = ((∑ k : Fin 2048, ct (ix2 r k) * w (ix2 l k) : ℝ) : EReal) := by
    rw [h2, h3, coe_sum]
    exact Finset.sum_congr rfl fun k _ => (EReal.coe_mul _ _).symm
  rw [hd, show x0 (ix2 r l) = (g (ix2 r l) : EReal) by rw [h0], show x1 (ix2 r l) = (u (ix2 r l) : EReal) by rw [h1], sgm_coe, ofBits_one]
  by_cases hp : p = 0
  · rw [if_pos hp, if_pos hp]
    simp only [← EReal.coe_mul, ← EReal.coe_add, ← EReal.coe_sub]
    congr 1
    ring
  · rw [if_neg hp, if_neg hp, mul_comm]

end nodes

end Cert.DactRefIdeal.Bwd

namespace Cert.Proof

open Idealize.ShloMosaic Idealize.SL.Sem Cert.Lift Cert.Sums

/-- Kernel and reference compute the same gradients of the gate and of the up projection, where all arguments are finite. -/
theorem algebraic_dact : Cert.algebraic_DactIdeal_DactRefIdeal_pre_dact_finite := by
  intro m ρ m' ρ' hpre hargs
  refine ⟨fun c => (Cert.DactIdeal.Gen.dats m 0 c).arrAt 4 Cert.DactIdeal.cfg0.N, Cert.DactIdeal.Value.run_blocks m ρ, ?_⟩
  refine (θ_run Cert.DactRefIdeal.defs _ _).mono (fun r h c => ?_) (Cert.DactRefIdeal.Value.run m' ρ')
  obtain ⟨e0, e1, e2, e3⟩ := hargs c
  obtain ⟨f0, f1, f2, f3⟩ := hpre c
  obtain ⟨g, hg⟩ := reals_of_finite _ _ f0
  obtain ⟨u, hu⟩ := reals_of_finite _ _ f1
  obtain ⟨w, hw⟩ := reals_of_finite _ _ f2
  obtain ⟨ct, hc⟩ := reals_of_finite _ _ f3
  obtain ⟨p0, p1⟩ := h c
  refine ⟨?_, p1⟩
  have q0 := Cert.DactIdeal.Bwd.final_4 m c
  have r0 := Cert.DactRefIdeal.Bwd.ref_eq _ _ _ _ g u w ct hg hu hw hc
  refine p0.trans (Eq.trans ?_ (r0.trans q0.symm))
  rw [e0, e1, e2, e3]
  exact Cert.DactRefIdeal.Read.val_main_v10_eq _ _ _ _

theorem frame_dactRef : Cert.quiescent_DactRefIdeal := fun m ρ _ =>
  (θ_run Cert.DactRefIdeal.defs _ _).mono (fun r h => ⟨fun c => (h c).2, sem_eq_zero_of_no_sems (by decide) r.2⟩) (Cert.DactRefIdeal.Value.run (F := Ideal) m ρ)

theorem frame_dactRef_pre : Cert.quiescent_DactRefIdeal_pre_dact_finite := fun m ρ _ => frame_dactRef m ρ trivial

end Cert.Proof

end
-- ==== Proof.RowsLoop.lean ====
/- A loop that takes a block of 512 rows in four steps of 128 rows, replaces every step's rows by a function of them, and carries a row
   that every step adds to. -/
module

public import Idealize.ShloMosaic.Lib.WritesUnit
public import Idealize.ShloMosaic.Lib.Pointwise
public import Idealize.ShloMosaic.Lib.ValueIdx

@[expose] public section

set_option maxRecDepth 16384

noncomputable section

namespace Cert.Rows

open Idealize.ShloMosaic

variable {sig : RefSig} {κ : Kind} {sp : Space} {e : EltTy} {Val : EltTy → Type} {A : Type}

/-- Row `a` of step `q`. -/
def row (q : Fin 4) (a : Fin 128) : Fin 512 := ⟨q.val * 128 + a.val, by omega⟩

/-- The 128 rows of step `q`. -/
def part (q : Fin 4) (X : (⟨2, ![512, 2048]⟩ : Shape).Idx → Val e) : (⟨2, ![128, 2048]⟩ : Shape).Idx → Val e := fun i => X (ix2 (row q (i 0)) (i 1))

theorem load_rows (v : View sig κ sp ⟨2, ![512, 2048]⟩ e) (f : v.ty.Contents Val) {off : Fin 2 → ℕ} (q : Fin 4) (h : off = ![q.val * 128, 0])
    (inb : ∀ a, off a + (![128, 2048] : Fin 2 → ℕ) a ≤ (![512, 2048] : Fin 2 → ℕ) a) :
    v.readAt Val (Rect.unit (s := ⟨2, ![512, 2048]⟩) off ![128, 2048] inb).toLoadRect f = part q (v.read Val f) := by
  subst h
  funext i
  refine congrArg (v.read Val f) (funext fun c => Fin.ext ?_)
  match c with
  | ⟨0, _⟩ => show q.val * 128 + 1 * (i 0).val = q.val * 128 + (i 0).val; omega
  | ⟨1, _⟩ => show 0 + 1 * (i 1).val = (i 1).val; omega

section loop
variable (v : View sig κ sp ⟨2, ![512, 2048]⟩ e) (G : v.ty.Contents Val)
  (st : ℕ → A × List (View.Piece Val ⟨2, ![512, 2048]⟩ e)) (off : Fin 4 → Fin 2 → ℕ) (hoff : ∀ q, off q = ![q.val * 128, 0])
  (inb : ∀ q a, off q a + (![128, 2048] : Fin 2 → ℕ) a ≤ (![512, 2048] : Fin 2 → ℕ) a)
  (new : Fin 4 → ((⟨2, ![128, 2048]⟩ : Shape).Idx → Val e) → (⟨2, ![128, 2048]⟩ : Shape).Idx → Val e)
  (add : Fin 4 → A → ((⟨2, ![128, 2048]⟩ : Shape).Idx → Val e) → A)
  (h0 : (st 0).2 = [])
  (hs1 : ∀ q : Fin 4, (st (q.val + 1)).1
    = add q (st q.val).1 (v.readAt Val (Rect.unit (s := ⟨2, ![512, 2048]⟩) (off q) ![128, 2048] (inb q)).toLoadRect (v.writes Val G (st q.val).2)))
  (hs2 : ∀ q : Fin 4, (st (q.val + 1)).2
    = (⟨Rect.unit (s := ⟨2, ![512, 2048]⟩) (off q) ![128, 2048] (inb q),
        new q (v.readAt Val (Rect.unit (s := ⟨2, ![512, 2048]⟩) (off q) ![128, 2048] (inb q)).toLoadRect (v.writes Val G (st q.val).2))⟩
        : View.Piece Val ⟨2, ![512, 2048]⟩ e) :: (st q.val).2)

include h0 hs1 hs2 hoff in
/-- After `n` steps: a step already made left its new rows, a step to come finds the old ones. -/
theorem after (n : ℕ) (hn : n ≤ 4) (q : Fin 4) (a : Fin 128) (l : Fin 2048) :
    v.read Val (v.writes Val G (st n).2) (ix2 (row q a) l)
      = if q.val < n then new q (part q (v.read Val G)) (ix2 a l) else v.read Val G (ix2 (row q a) l) := by
  induction n generalizing q a l with
  | zero => rw [h0, if_neg (Nat.not_lt_zero _)]; rfl
  | succ n ih =>
    have e2 := hs2 ⟨n, hn⟩
    rw [show (st (n + 1)).2 = _ from e2]
    by_cases hq : q.val = n
    · obtain rfl : q = ⟨n, hn⟩ := Fin.ext hq
      rw [if_pos (Nat.lt_succ_self n)]
      refine (View.read_writes_cons_rows_of_mem v G _ _ _ (ix2 (row ⟨n, hn⟩ a) l) (ix2 a l) (hoff _) rfl rfl).trans ?_
      rw [load_rows v _ ⟨n, hn⟩ (hoff _)]
      congr 1
      funext i
      refine (ih (by omega) ⟨n, hn⟩ (i 0) (i 1)).trans ?_
      rw [if_neg (Nat.lt_irrefl n)]
      rfl
    · refine (View.read_writes_cons_rows_of_not_mem v G (W := 128) _ _ _ (ix2 (row q a) l) (hoff _) rfl ?_).trans ?_
      · show q.val * 128 + a.val < n * 128 ∨ n * 128 + 128 ≤ q.val * 128 + a.val
        have := a.isLt
        omega
      · rw [ih (by omega)]
        by_cases h : q.val < n
        · rw [if_pos h, if_pos (by omega)]
        · rw [if_neg h, if_neg (by omega)]

include h0 hs1 hs2 hoff in
/-- The rows after the loop. -/
theorem rows (q : Fin 4) (a : Fin 128) (l : Fin 2048) :
    v.read Val (v.writes Val G (st 4).2) (ix2 (row q a) l) = new q (part q (v.read Val G)) (ix2 a l) :=
  (after v G st off hoff inb new add h0 hs1 hs2 4 (Nat.le_refl 4) q a l).trans (if_pos q.isLt)

include h0 hs1 hs2 hoff in
/-- What a step finds in its rows is what was there before the loop. -/
theorem found (q : Fin 4) :
    v.readAt Val (Rect.unit (s := ⟨2, ![512, 2048]⟩) (off q) ![128, 2048] (inb q)).toLoadRect (v.writes Val G (st q.val).2) = part q (v.read Val G) := by
  rw [load_rows v _ q (hoff _)]
  funext i
  exact (after v G st off hoff inb new add h0 hs1 hs2 q.val (by omega) q (i 0) (i 1)).trans (if_neg (Nat.lt_irrefl _))

include h0 hs1 hs2 hoff in
/-- The carried value after the loop: the four steps added in turn. -/
theorem carry : (st 4).1 = add 3 (add 2 (add 1 (add 0 (st 0).1 (part 0 (v.read Val G))) (part 1 (v.read Val G))) (part 2 (v.read Val G))) (part 3 (v.read Val G)) := by
  have f := found v G st off hoff inb new add h0 hs1 hs2
  have s (q : Fin 4) : (st (q.val + 1)).1 = add q (st q.val).1 (part q (v.read Val G)) := (hs1 q).trans (by rw [f q])
  rw [show (st 4).1 = _ from s 3, show (st (3 : Fin 4).val).1 = _ from s 2, show (st (2 : Fin 4).val).1 = _ from s 1, show (st (1 : Fin 4).val).1 = _ from s 0]
  rfl

end loop

end Cert.Rows

end
-- ==== Proof.DhBlock.lean ====
/- The feed-forward layer's input gradient over the extended reals: what one grid point leaves in its blocks. -/
module

public import proofs.«01_k».proof.Proof.Gen.DhIdeal.Value
public import proofs.«01_k».proof.Proof.RowsLoop
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.DhIdeal.Bwd

open Cert.DhIdeal Cert.DhIdeal.Gen
open Idealize.ShloMosaic Idealize.ShloMosaic.TcCoe Idealize.ShloMosaic.Tactic

local notation "E" => Idealize.ShloMosaic.Ideal

theorem hz : (![0, 0] : Fin 2 → Nat) = fun _ => 0 := funext fun a => by fin_cases a <;> rfl

theorem trips_eq : k0_t1_loop.trips = 4 := by decide +kernel

/-- The rows that a step of the loop reads and writes. -/
theorem off_eq : ∀ k : Fin k0_t1_loop.trips, k0_off1 k = ![k.val * 128, 0] := by decide +kernel

section loop
variable (c : Dev nD) (i : grid0.Coords)
  (a2 : Memref sig .tc .vmem S1x512x1408 .bf16) (w2 : a2.IsWhole) (a3 : Memref sig .tc .vmem S1x2048x1408 .bf16) (w3 : a3.IsWhole)
  (a4 : Memref sig .tc .vmem S512x2048 .f32) (w4 : a4.IsWhole) (a5 : Memref sig .tc .vmem S1x2048 .f32) (w5 : a5.IsWhole)
  (a6 : Memref sig .tc .vmem S512x2048 .f32) (w6 : a6.IsWhole) (a7 : Memref sig .tc .vmem S512x2048 .f32) (w7 : a7.IsWhole)
  (a8 : Memref sig .tc .vmem S1x2048 .f32) (w8 : a8.IsWhole) (hc : k0_cond2 i = 1#1)
  (x : Vec E S512x2048 .f32) (g : Vec E S1x2048 .f32) (res : Vec E S512x2048 .f32)

/-- What a step of the loop makes of its rows of the product. -/
abbrev newRows (q : Fin 4) (d : Vec E S128x2048 .f32) : FVec E S128x2048 .f32 := k0_pay7 d (Rows.part q x) g (Rows.part q res)

/-- What a step of the loop adds to the gain's gradient. -/
abbrev addRows (q : Fin 4) (acc : FVec E S1x2048 .f32) (d : Vec E S128x2048 .f32) : FVec E S1x2048 .f32 := k0_pay8 acc d (Rows.part q x)

theorem trip_R (k : Fin k0_t1_loop.trips) (q : Fin 4) (hq : k.val = q.val) (acc) (f) :
    tripR_k0_t1 Variants.none c none i a2 w2 a3 w3 a4 w4 a5 w5 a6 w6 a7 w7 a8 w8 hc (w4.unread x) (w5.unread g) (w6.unread res) k acc f
      = addRows x q acc (View.readAt (Elt E) a7.view (Rect.unit (s := S512x2048) (k0_off1 k) ![128, 2048] (k0_off1_inb i k hc)).toLoadRect f) := by
  unfold tripR_k0_t1 trip_k0_t1
  dsimp only
  exact congrArg (k0_pay8 _ _) ((Rows.load_rows a4.view _ q ((off_eq k).trans (by rw [hq])) _).trans (by rw [w4.read_unread]))

theorem trip_L (k : Fin k0_t1_loop.trips) (q : Fin 4) (hq : k.val = q.val) (acc) (f) :
    tripL_k0_t1 Variants.none c none i a2 w2 a3 w3 a4 w4 a5 w5 a6 w6 a7 w7 a8 w8 hc (w4.unread x) (w5.unread g) (w6.unread res) k acc f
      = [⟨Rect.unit (s := S512x2048) (k0_off1 k) ![128, 2048] (k0_off1_inb i k hc),
          newRows x g res q (View.readAt (Elt E) a7.view (Rect.unit (s := S512x2048) (k0_off1 k) ![128, 2048] (k0_off1_inb i k hc)).toLoadRect f)⟩] := by
  unfold tripL_k0_t1 trip_k0_t1
  dsimp only
  have e4 := (Rows.load_rows a4.view (w4.unread x) q ((off_eq k).trans (by rw [hq])) (k0_off1_inb i k hc)).trans (by rw [w4.read_unread])
  have e6 := (Rows.load_rows a6.view (w6.unread res) q ((off_eq k).trans (by rw [hq])) (k0_off1_inb i k hc)).trans (by rw [w6.read_unread])
  have e5 : View.readAt (Elt E) a5.view (Rect.unit (s := S1x2048) ![0, 0] ![1, 2048] inb_S1x2048_S1x2048_0_0).toLoadRect (w5.unread g) = g := by
    exact (View.ld_unit_zero hz _ _).trans (w5.read_unread g)
  rw [e4, e6, e5]
/-- The loop's state before step `n`. -/
abbrev state (G : BufTy.Contents (Elt E) a7.view.ty) (init : FVec E S1x2048 .f32) (n : ℕ) :=
  st_k0_t1 Variants.none c none i a2 w2 a3 w3 a4 w4 a5 w5 a6 w6 a7 w7 a8 w8 hc (w4.unread x) (w5.unread g) (w6.unread res) G init n

/-- A step's number among the loop's. -/
def trip (q : Fin 4) : Fin k0_t1_loop.trips := ⟨q.val, by rw [trips_eq]; exact q.isLt⟩

theorem state_R (G) (init) (q : Fin 4) :
    (state c i a2 w2 a3 w3 a4 w4 a5 w5 a6 w6 a7 w7 a8 w8 hc x g res G init (q.val + 1)).1
      = addRows x q (state c i a2 w2 a3 w3 a4 w4 a5 w5 a6 w6 a7 w7 a8 w8 hc x g res G init q.val).1
          (View.readAt (Elt E) a7.view (Rect.unit (s := S512x2048) (k0_off1 (trip q)) ![128, 2048] (k0_off1_inb i (trip q) hc)).toLoadRect
            (a7.view.writes (Elt E) G (state c i a2 w2 a3 w3 a4 w4 a5 w5 a6 w6 a7 w7 a8 w8 hc x g res G init q.val).2)) :=
  (congrArg Prod.fst (st_k0_t1_succ Variants.none c none i a2 w2 a3 w3 a4 w4 a5 w5 a6 w6 a7 w7 a8 w8 hc (w4.unread x) (w5.unread g) (w6.unread res) G init (trip q))).trans
    (trip_R c i a2 w2 a3 w3 a4 w4 a5 w5 a6 w6 a7 w7 a8 w8 hc x g res (trip q) q rfl _ _)

theorem state_L (G) (init) (q : Fin 4) :
    (state c i a2 w2 a3 w3 a4 w4 a5 w5 a6 w6 a7 w7 a8 w8 hc x g res G init (q.val + 1)).2
      = ⟨Rect.unit (s := S512x2048) (k0_off1 (trip q)) ![128, 2048] (k0_off1_inb i (trip q) hc),
          newRows x g res q (View.readAt (Elt E) a7.view (Rect.unit (s := S512x2048) (k0_off1 (trip q)) ![128, 2048] (k0_off1_inb i (trip q) hc)).toLoadRect
            (a7.view.writes (Elt E) G (state c i a2 w2 a3 w3 a4 w4 a5 w5 a6 w6 a7 w7 a8 w8 hc x g res G init q.val).2))⟩
        :: (state c i a2 w2 a3 w3 a4 w4 a5 w5 a6 w6 a7 w7 a8 w8 hc x g res G init q.val).2 :=
  (congrArg Prod.snd (st_k0_t1_succ Variants.none c none i a2 w2 a3 w3 a4 w4 a5 w5 a6 w6 a7 w7 a8 w8 hc (w4.unread x) (w5.unread g) (w6.unread res) G init (trip q))).trans
    (congrArg (· ++ (state c i a2 w2 a3 w3 a4 w4 a5 w5 a6 w6 a7 w7 a8 w8 hc x g res G init q.val).2)
      (trip_L c i a2 w2 a3 w3 a4 w4 a5 w5 a6 w6 a7 w7 a8 w8 hc x g res (trip q) q rfl _ _))

/-- The rows after the loop. -/
theorem loop_rows (G) (init) (q : Fin 4) (a : Fin 128) (l : Fin 2048) :
    a7.view.read (Elt E) (a7.view.writes (Elt E) G (state c i a2 w2 a3 w3 a4 w4 a5 w5 a6 w6 a7 w7 a8 w8 hc x g res G init 4).2) (ix2 (Rows.row q a) l)
      = newRows x g res q (Rows.part q (a7.view.read (Elt E) G)) (ix2 a l) :=
  Rows.rows a7.view G (state c i a2 w2 a3 w3 a4 w4 a5 w5 a6 w6 a7 w7 a8 w8 hc x g res G init) (fun q => k0_off1 (trip q)) (fun q => off_eq (trip q))
    (fun q => k0_off1_inb i (trip q) hc) (newRows x g res) (addRows x) rfl
    (state_R c i a2 w2 a3 w3 a4 w4 a5 w5 a6 w6 a7 w7 a8 w8 hc x g res G init) (state_L c i a2 w2 a3 w3 a4 w4 a5 w5 a6 w6 a7 w7 a8 w8 hc x g res G init) q a l

/-- What the loop adds up over the rows `d`. -/
def carried (d : Vec E S512x2048 .f32) (init : FVec E S1x2048 .f32) : FVec E S1x2048 .f32 :=
  addRows x 3 (addRows x 2 (addRows x 1 (addRows x 0 init (Rows.part 0 d)) (Rows.part 1 d)) (Rows.part 2 d)) (Rows.part 3 d)

/-- The carried row after the loop. -/
theorem loop_carry (G) (init) :
    (state c i a2 w2 a3 w3 a4 w4 a5 w5 a6 w6 a7 w7 a8 w8 hc x g res G init 4).1 = carried x (a7.view.read (Elt E) G) init :=
  Rows.carry a7.view G (state c i a2 w2 a3 w3 a4 w4 a5 w5 a6 w6 a7 w7 a8 w8 hc x g res G init) (fun q => k0_off1 (trip q)) (fun q => off_eq (trip q))
    (fun q => k0_off1_inb i (trip q) hc) (newRows x g res) (addRows x) rfl
    (state_R c i a2 w2 a3 w3 a4 w4 a5 w5 a6 w6 a7 w7 a8 w8 hc x g res G init) (state_L c i a2 w2 a3 w3 a4 w4 a5 w5 a6 w6 a7 w7 a8 w8 hc x g res G init)
end loop

section block
variable (m : (ℓ : Loc nD τ sig) → Buf (Elt E) ℓ) (c : Dev nD) (t : Fin cfg0.N)

/-- The point before. -/
abbrev prev : ℕ := t.val - 1
theorem prev_lt : prev t < cfg0.N := Nat.lt_of_le_of_lt (Nat.sub_le _ _) t.isLt

/-- The block of the product that is complete at a run's last point. -/
abbrev done : FVec E S512x2048 .f32 := k0_pay2 (outsAt0 m c (prev t) (prev_lt t)).1 (iblk m c 0 t) (iblk m c 1 t)

theorem outs_A (h : t.val % 8 = 0) (h1 : ¬t.val % 8 = 7) : (outsAt0 m c t.val t.isLt).1 = k0_pay2 k0_pay1 (iblk m c 0 t) (iblk m c 1 t) := by
  rw [outsAt0_A m c t h h1]
  frame_out

theorem outs_A2 (h : t.val % 8 = 0) (h1 : ¬t.val % 8 = 7) : (outsAt0 m c t.val t.isLt).2 = (outsAt0 m c (prev t) (prev_lt t)).2 := by
  rw [outsAt0_A m c t h h1]
  rfl

theorem outs_B (h : ¬t.val % 8 = 0) (h1 : ¬t.val % 8 = 7) : (outsAt0 m c t.val t.isLt).1 = done m c t := by
  rw [outsAt0_B m c t h h1]
  frame_out

theorem outs_B2 (h : ¬t.val % 8 = 0) (h1 : ¬t.val % 8 = 7) : (outsAt0 m c t.val t.isLt).2 = (outsAt0 m c (prev t) (prev_lt t)).2 := by
  rw [outsAt0_B m c t h h1]
  rfl

theorem base_C (a2 : Memref sig .tc .vmem S1x512x1408 .bf16) (w2 : a2.IsWhole) (a3 : Memref sig .tc .vmem S1x2048x1408 .bf16) (w3 : a3.IsWhole)
    (a7 : Memref sig .tc .vmem S512x2048 .f32) (w7 : a7.IsWhole) (x0 : Vec E S1x512x1408 .bf16) (x1 : Vec E S1x2048x1408 .bf16) (o : Vec E S512x2048 .f32) :
    a7.view.read (Elt E) (a7.view.writes (Elt E) a7.view.junk (kernelRun0_C.sl.H5_1 c a2 w2 a3 w3 a7 w7 x0 x1 o)) = k0_pay2 o x0 x1 := by
  rw [View.read_writes_junk_eq_canon]
  unfold kernelRun0_C.sl.H5_1
  frame_out

theorem base_D (a2 : Memref sig .tc .vmem S1x512x1408 .bf16) (w2 : a2.IsWhole) (a3 : Memref sig .tc .vmem S1x2048x1408 .bf16) (w3 : a3.IsWhole)
    (a7 : Memref sig .tc .vmem S512x2048 .f32) (w7 : a7.IsWhole) (x0 : Vec E S1x512x1408 .bf16) (x1 : Vec E S1x2048x1408 .bf16) (o : Vec E S512x2048 .f32) :
    a7.view.read (Elt E) (a7.view.writes (Elt E) a7.view.junk (kernelRun0_D.sl.H5_1 c a2 w2 a3 w3 a7 w7 x0 x1 o)) = k0_pay2 o x0 x1 := by
  rw [View.read_writes_junk_eq_canon]
  unfold kernelRun0_D.sl.H5_1
  frame_out

theorem outs_C (h : ¬t.val % 8 = 0) (h1 : t.val % 8 = 7) (h2 : t.val < 8) (h3 : ¬8 ≤ t.val) (q : Fin 4) (a : Fin 128) (l : Fin 2048) :
    (outsAt0 m c t.val t.isLt).1 (ix2 (Rows.row q a) l) = newRows (iblk m c 2 t) (iblk m c 3 t) (iblk m c 4 t) q (Rows.part q (done m c t)) (ix2 a l) := by
  rw [outsAt0_C m c t h h1 h2 h3]
  dsimp only
  unfold out0_C_5 kernelRun0_C
  dsimp only
  rw [View.read_writes_junk_eq_canon, ← View.read_writes_junk_eq_canon (ms0_5 t).view, View.writes_append]
  refine (loop_rows c _ _ _ _ _ _ _ _ _ _ _ _ _ _ _ _ (iblk m c 2 t) (iblk m c 3 t) (iblk m c 4 t) _ _ q a l).trans ?_
  rw [base_C]

theorem outs_C2 (h : ¬t.val % 8 = 0) (h1 : t.val % 8 = 7) (h2 : t.val < 8) (h3 : ¬8 ≤ t.val)  : (outsAt0 m c t.val t.isLt).2 = carried (iblk m c 2 t) (done m c t) k0_pay3 := by
  rw [outsAt0_C m c t h h1 h2 h3]
  dsimp only
  unfold out0_C_6 kernelRun0_C
  dsimp only
  rw [View.read_writes_junk_eq_canon, View.canon_unit_zero hz]
  refine (loop_carry c _ _ _ _ _ _ _ _ _ _ _ _ _ _ _ _ (iblk m c 2 t) (iblk m c 3 t) (iblk m c 4 t) _ _).trans ?_
  rw [base_C]

theorem outs_D (h : ¬t.val % 8 = 0) (h1 : t.val % 8 = 7) (h2 : ¬t.val < 8) (h3 : 8 ≤ t.val) (q : Fin 4) (a : Fin 128) (l : Fin 2048) :
    (outsAt0 m c t.val t.isLt).1 (ix2 (Rows.row q a) l) = newRows (iblk m c 2 t) (iblk m c 3 t) (iblk m c 4 t) q (Rows.part q (done m c t)) (ix2 a l) := by
  rw [outsAt0_D m c t h h1 h2 h3]
  dsimp only
  unfold out0_D_5 kernelRun0_D
  dsimp only
  rw [View.read_writes_junk_eq_canon, ← View.read_writes_junk_eq_canon (ms0_5 t).view, View.writes_append]
  refine (loop_rows c _ _ _ _ _ _ _ _ _ _ _ _ _ _ _ _ (iblk m c 2 t) (iblk m c 3 t) (iblk m c 4 t) _ _ q a l).trans ?_
  rw [base_D]

theorem outs_D2 (h : ¬t.val % 8 = 0) (h1 : t.val % 8 = 7) (h2 : ¬t.val < 8) (h3 : 8 ≤ t.val) :
    (outsAt0 m c t.val t.isLt).2 = k0_pay9 (carried (iblk m c 2 t) (done m c t) k0_pay3) (outsAt0 m c (prev t) (prev_lt t)).2 := by
  rw [outsAt0_D m c t h h1 h2 h3]
  dsimp only
  unfold out0_D_6 kernelRun0_D
  dsimp only
  rw [View.read_writes_junk_eq_canon, View.canon_unit_zero hz]
  refine congrArg₂ k0_pay9 ((loop_carry c _ _ _ _ _ _ _ _ _ _ _ _ _ _ _ _ (iblk m c 2 t) (iblk m c 3 t) (iblk m c 4 t) _ _).trans ?_)
    ((View.ld_unit_zero hz _ _).trans (Memref.IsWhole.read_unread _ _))
  rw [base_D]

end block

end Cert.DhIdeal.Bwd

end
-- ==== Proof.NormRows.lean ====
/- The row norm's gradient as the kernels write it, of 128 rows at a time: what it is where the rows are reals. -/
module

public import proofs.«01_k».proof.Proof.RmsReal
public import proofs.«01_k».proof.Proof.Sums
public import proofs.«01_k».proof.Proof.DhBlock

@[expose] public section

set_option maxRecDepth 16384

noncomputable section

namespace Cert.NormRows

open Cert.DhIdeal Cert.DhIdeal.Gen Cert.DhIdeal.Bwd
open Idealize.ShloMosaic Idealize.ShloMosaic.TcCoe Idealize.ShloMosaic.Tactic
open Cert.Lift Cert.Sums

local notation "E" => Idealize.ShloMosaic.Ideal

section pay
variable (d x res : Vec E S128x2048 .f32) (g : Vec E S1x2048 .f32) (a : Fin 128) (l : Fin 2048) (z : Fin 1)
  (dr xr : Fin 128 → Fin 2048 → ℝ) (gr : Fin 2048 → ℝ)
  (hd : ∀ a k, d (ix2 a k) = (dr a k : EReal)) (hx : ∀ a k, x (ix2 a k) = (xr a k : EReal)) (hg : ∀ k, g (ix2 0 k) = (gr k : EReal))

theorem inv_at : k0_pay5 x (ix2 a z) = Ideal.rsqrt (Ideal.div (∑ k : Fin 2048, x (ix2 a k) * x (ix2 a k)) (Ideal.ofBits .f32 0x45000000#32) + Ideal.ofBits .f32 0x358637BD#32) := by
  pointwise [k0_pay5]

include hx in
theorem inv_real : k0_pay5 x (ix2 a z) = (Rms.inv (xr a) : EReal) := by
  rw [inv_at]
  simp only [hx]
  rw [Rms.ms_coe (xr a) _ (Rms.ofBits_2048.trans (by norm_num)) (by norm_num), Rms.inv_coe]

theorem xn_at : k0_pay6 x (ix2 a l) = x (ix2 a l) * k0_pay5 x (ix2 a 0) := by
  unfold k0_pay6
  generalize k0_pay5 x = y
  pointwise

include hx in
theorem xn_real : k0_pay6 x (ix2 a l) = ((xr a l * Rms.inv (xr a) : ℝ) : EReal) := by
  rw [xn_at, inv_real x a 0 xr hx, hx, EReal.coe_mul]

theorem rows_at : k0_pay7 d x g res (ix2 a l) = res (ix2 a l) + k0_pay5 x (ix2 a 0) * (d (ix2 a l) * g (ix2 0 l)
    - k0_pay6 x (ix2 a l) * Ideal.div (∑ k : Fin 2048, d (ix2 a k) * g (ix2 0 k) * k0_pay6 x (ix2 a k)) (Ideal.ofBits .f32 0x45000000#32)) := by
  unfold k0_pay7 k0_pay4
  generalize k0_pay5 x = y5
  generalize k0_pay6 x = y6
  pointwise

include hd hx hg in
/-- The rows' gradient. -/
theorem rows_real : k0_pay7 d x g res (ix2 a l) = res (ix2 a l) + (Rms.back (xr a) (fun k => dr a k * gr k) l : EReal) := by
  rw [rows_at, inv_real x a 0 xr hx]
  simp only [xn_real x a _ xr hx, hd, hg]
  simp only [← EReal.coe_mul, ← coe_sum]
  rw [Rms.ofBits_2048, div_coe (by norm_num), ← EReal.coe_mul, ← EReal.coe_sub, ← EReal.coe_mul]
  unfold Rms.back
  norm_num

theorem gain_at (acc : FVec E S1x2048 .f32) : k0_pay8 acc d x (ix2 z l) = acc (ix2 z l) + ∑ a : Fin 128, d (ix2 a l) * k0_pay6 x (ix2 a l) := by
  unfold k0_pay8 k0_pay4
  generalize k0_pay6 x = y6
  pointwise

include hd hx in
/-- A step's part of the gain's gradient. -/
theorem gain_real (acc : FVec E S1x2048 .f32) : k0_pay8 acc d x (ix2 z l) = acc (ix2 z l) + ((∑ a : Fin 128, dr a l * (xr a l * Rms.inv (xr a)) : ℝ) : EReal) := by
  rw [gain_at, coe_sum]
  refine congrArg _ (Finset.sum_congr rfl fun a _ => ?_)
  rw [xn_real x a l xr hx, hd, ← EReal.coe_mul]

theorem zero_at (i : S1x2048.Idx) : k0_pay3 (F := E) i = 0 := by
  pointwise [k0_pay3]

theorem sum_at (p q : FVec E S1x2048 .f32) (i : S1x2048.Idx) : k0_pay9 p q i = q i + p i := by
  obtain ⟨z, l, rfl⟩ : ∃ (z : Fin 1) (l : Fin 2048), i = ix2 z l := ⟨i 0, i 1, (ix2_eta i).symm⟩
  pointwise [k0_pay9]

end pay

section block
variable (d x res : Vec E S512x2048 .f32) (g : Vec E S1x2048 .f32) (q : Fin 4) (a : Fin 128) (l : Fin 2048) (z : Fin 1)
  (dr xr : Fin 512 → Fin 2048 → ℝ) (gr : Fin 2048 → ℝ)
  (hd : ∀ a k, d (ix2 a k) = (dr a k : EReal)) (hx : ∀ a k, x (ix2 a k) = (xr a k : EReal)) (hg : ∀ k, g (ix2 0 k) = (gr k : EReal))

include hd hx hg in
theorem newRows_real : newRows x g res q (Rows.part q d) (ix2 a l)
    = res (ix2 (Rows.row q a) l) + (Rms.back (xr (Rows.row q a)) (fun k => dr (Rows.row q a) k * gr k) l : EReal) :=
  rows_real (Rows.part q d) (Rows.part q x) (Rows.part q res) g a l (fun a => dr (Rows.row q a)) (fun a => xr (Rows.row q a)) gr (fun a k => hd _ k) (fun a k => hx _ k) hg

/-- A row's part of the gain's gradient. -/
def part (l : Fin 2048) (a : Fin 512) : ℝ := dr a l * (xr a l * Rms.inv (xr a))

include hd hx in
theorem addRows_real (acc : FVec E S1x2048 .f32) : addRows x q acc (Rows.part q d) (ix2 z l) = acc (ix2 z l) + ((∑ b : Fin 128, ext (part dr xr l) (q.val * 128 + b.val) : ℝ) : EReal) := by
  refine (gain_real (Rows.part q d) (Rows.part q x) l z (fun a => dr (Rows.row q a)) (fun a => xr (Rows.row q a)) (fun a k => hd _ k) (fun a k => hx _ k) acc).trans ?_
  refine congrArg (fun y : ℝ => acc (ix2 z l) + (y : EReal)) (Finset.sum_congr rfl fun b _ => ?_)
  exact (ext_val (part dr xr l) (Rows.row q b)).symm

include hd hx in
/-- The block's part of the gain's gradient. -/
theorem carried_real : carried x d k0_pay3 (ix2 z l) = ((∑ a : Fin 512, part dr xr l a : ℝ) : EReal) := by
  unfold carried
  rw [addRows_real d x 3 l z dr xr hd hx, addRows_real d x 2 l z dr xr hd hx, addRows_real d x 1 l z dr xr hd hx, addRows_real d x 0 l z dr xr hd hx, zero_at]
  rw [zero_add, ← EReal.coe_add, ← EReal.coe_add, ← EReal.coe_add, ← upto_all (part dr xr l)]
  refine congrArg _ ?_
  have h := upto_block (part dr xr l) 128
  have h3 := h 3
  have h2 := h 2
  have h1 := h 1
  have h0 := h 0
  have hz : upto (part dr xr l) 0 = 0 := by unfold upto; simp
  norm_num at h0 h1 h2 h3
  rw [h3, h2, h1, h0, hz, zero_add]
  refine congrArg₂ _ (congrArg₂ _ (congrArg₂ _ (Finset.sum_congr rfl fun b _ => ?_) rfl) rfl) rfl
  exact congrArg _ (by show 0 * 128 + b.val = b.val; omega)

end block

end Cert.NormRows

end
-- ==== Proof.NormBack.lean ====
/- A row norm's gradient as the references state it, of any gradient of the normalised rows: what it is where its arguments are reals. -/
module

public import proofs.«01_k».proof.Proof.RmsReal
public import proofs.«01_k».proof.Proof.Sums
public import proofs.«01_k».proof.Proof.Gen.DhRefIdeal.Read
public import Idealize.ShloMosaic.Lib.Pointwise
public import Idealize.ShloMosaic.Lib.ValueIdx

@[expose] public section

set_option maxRecDepth 16384

noncomputable section

namespace Cert.NormBack

open Cert.DhRefIdeal Cert.DhRefIdeal.Gen
open Idealize.ShloMosaic Idealize.ShloMosaic.TcCoe Idealize.ShloMosaic.Tactic
open Cert.Lift Cert.Sums

local notation "E" => Idealize.ShloMosaic.Ideal

/-- A row. -/
def xrow (x : S8192x2048.Idx → ℝ) (r : Fin 8192) (k : Fin 2048) : ℝ := x (ix2 r k)

/-- A residual plus the gradient of the rows before their norm, `D` being the gradient after it and its gain. -/
def arrX (D : Fin 8192 → Fin 2048 → ℝ) (x : S8192x2048.Idx → ℝ) (g : S2048.Idx → ℝ) (res : S8192x2048.Idx → EReal) : S8192x2048.Idx → EReal :=
  fun i => res i + (Rms.back (xrow x (i 0)) (fun k => D (i 0) k * g (ix1 k)) (i 1) : EReal)

/-- A row's part of the gain's gradient. -/
def partG (D : Fin 8192 → Fin 2048 → ℝ) (x : S8192x2048.Idx → ℝ) (l : Fin 2048) (r : Fin 8192) : ℝ := D r l * (xrow x r l * Rms.inv (xrow x r))

/-- The gain's gradient. -/
def arrG (D : Fin 8192 → Fin 2048 → ℝ) (x : S8192x2048.Idx → ℝ) : S1x2048.Idx → EReal := fun i => ((∑ r : Fin 8192, partG D x (i 1) r : ℝ) : EReal)

section terms
variable (x0 : FVec E S8192x2048 .f32) (x1 : FVec E S2048 .f32) (d res : FVec E S8192x2048 .f32)

/-- The gradient times the gain. -/
def scaled : FVec E S8192x2048 .f32 := mulf d (Read.val_main_v21 (F := E) x1)

/-- Every row's product with the row itself. -/
def dot : FVec E S8192x1 .f32 :=
  shapeCast _ (Host.reduceAdd (mulf x0 (scaled x1 d)) (Read.val_main_cst_5 (F := E)) reducesTo_S8192x2048_S8192_d1 h_S_) shapeCasts_S8192_S8192x1

/-- The mean square's gradient, along a row. -/
def share : FVec E S8192x2048 .f32 :=
  broadcastInDim S8192x2048 ![0] bcast_S8192_S8192x2048_0
    (Host.reduceAdd (Host.divf (mulf (dot x0 x1 d) (Read.val_main_v10 (F := E) x0)) (Read.val_main_v31 (F := E))) (Read.val_main_cst_7 (F := E)) reducesTo_S8192x1_S8192_d1 h_S_)

/-- The rows' gradient. -/
def rows : FVec E S8192x2048 .f32 :=
  addf (addf (addf res (mulf (scaled x1 d) (Read.val_main_v27 (F := E) x0))) (mulf x0 (share x0 x1 d))) (mulf (share x0 x1 d) x0)

/-- The gain's gradient. -/
def gain : FVec E S1x2048 .f32 :=
  broadcastInDim S1x2048 ![1] bcast_S2048_S1x2048_1 (Host.reduceAdd (shapeCast _ (Host.reduceAdd (mulf (Read.val_main_v12 (F := E) x0) d)
    (Read.val_main_cst_3 (F := E)) reducesTo_S8192x2048_S2048_d0 h_S_) shapeCasts_S2048_S1x2048) (Read.val_main_cst_4 (F := E)) reducesTo_S1x2048_S2048_d0 h_S_)

end terms

section real
variable (D : Fin 8192 → Fin 2048 → ℝ) (x : S8192x2048.Idx → ℝ) (g : S2048.Idx → ℝ)
  (x0 : FVec E S8192x2048 .f32) (x1 : FVec E S2048 .f32) (d res : FVec E S8192x2048 .f32) (r : Fin 8192) (l : Fin 2048) (z : Fin 1)
  (hx : x0 = up x) (hg : x1 = up g) (hd : ∀ r l, d (ix2 r l) = (D r l : EReal))

theorem ms_at : (Read.val_main_v6 (F := E) x0) (ix2 r z) = Ideal.div (∑ k : Fin 2048, x0 (ix2 r k) * x0 (ix2 r k)) (Ideal.ofBits .f32 0x45000000#32) + Ideal.ofBits .f32 0x358637BD#32 := by
  pointwise [Read.val_main_v6, Read.val_main_v5, Read.val_main_v4, Read.val_main_v3, Read.val_main_v2, Read.val_main_cst_1, Read.val_main_cst_0, Read.val_main_v1, Read.val_main_cst, Read.val_main_v0]

include hx in
theorem ms_real : (Read.val_main_v6 (F := E) x0) (ix2 r z) = (Rms.ms (xrow x r) : EReal) := by
  rw [ms_at, hx]
  exact Rms.ms_coe (xrow x r) _ (Rms.ofBits_2048.trans (by norm_num)) (by norm_num)

include hx in
theorem inv_real : (Read.val_main_v7 (F := E) x0) (ix2 r z) = (Rms.inv (xrow x r) : EReal) := by
  refine (show (Read.val_main_v7 (F := E) x0) (ix2 r z) = Ideal.rsqrt ((Read.val_main_v6 (F := E) x0) (ix2 r z)) from rfl).trans ?_
  rw [ms_real x x0 r z hx, Rms.inv_coe]

theorem factor_at : (Read.val_main_v10 (F := E) x0) (ix2 r z) = Ideal.ofBits .f32 0xBF000000#32 * Ideal.div ((Read.val_main_v7 (F := E) x0) (ix2 r z)) ((Read.val_main_v6 (F := E) x0) (ix2 r z)) := by
  unfold Read.val_main_v10 Read.val_main_v9 Read.val_main_v8 Read.val_main_cst_2
  generalize (Read.val_main_v7 (F := E) x0) = y7
  generalize (Read.val_main_v6 (F := E) x0) = y6
  pointwise

include hx in
theorem factor_real : (Read.val_main_v10 (F := E) x0) (ix2 r z) = ((-(1 / 2) * (Rms.inv (xrow x r) / Rms.ms (xrow x r)) : ℝ) : EReal) := by
  rw [factor_at, inv_real x x0 r z hx, ms_real x x0 r z hx, Rms.ofBits_neg_half, div_coe (Rms.ms_pos _).ne', ← EReal.coe_mul]

theorem wide_at : (Read.val_main_v11 (F := E) x0) (ix2 r l) = (Read.val_main_v7 (F := E) x0) (ix2 r 0) := by
  unfold Read.val_main_v11
  generalize (Read.val_main_v7 (F := E) x0) = y
  pointwise

theorem wide'_at : (Read.val_main_v27 (F := E) x0) (ix2 r l) = (Read.val_main_v7 (F := E) x0) (ix2 r 0) := by
  unfold Read.val_main_v27
  generalize (Read.val_main_v7 (F := E) x0) = y
  pointwise

include hx in
theorem xn_real : (Read.val_main_v12 (F := E) x0) (ix2 r l) = ((xrow x r l * Rms.inv (xrow x r) : ℝ) : EReal) := by
  refine (show (Read.val_main_v12 (F := E) x0) (ix2 r l) = x0 (ix2 r l) * (Read.val_main_v11 (F := E) x0) (ix2 r l) from rfl).trans ?_
  rw [wide_at, inv_real x x0 r 0 hx, hx, EReal.coe_mul]
  rfl

theorem wideg_at : (Read.val_main_v21 (F := E) x1) (ix2 r l) = x1 (ix1 l) := by
  pointwise [Read.val_main_v21, Read.val_main_v13]

include hg hd in
theorem scaled_real : scaled x1 d (ix2 r l) = ((D r l * g (ix1 l) : ℝ) : EReal) := by
  refine (show scaled x1 d (ix2 r l) = d (ix2 r l) * (Read.val_main_v21 (F := E) x1) (ix2 r l) from rfl).trans ?_
  rw [wideg_at, hd, hg, EReal.coe_mul]

theorem dot_at : dot x0 x1 d (ix2 r z) = ∑ k : Fin 2048, x0 (ix2 r k) * scaled x1 d (ix2 r k) := by
  unfold dot Read.val_main_cst_5
  generalize scaled x1 d = y
  pointwise

include hx hg hd in
theorem dot_real : dot x0 x1 d (ix2 r z) = ((∑ k : Fin 2048, xrow x r k * (D r k * g (ix1 k)) : ℝ) : EReal) := by
  rw [dot_at, coe_sum]
  refine Finset.sum_congr rfl fun k _ => ?_
  rw [scaled_real D g x1 d r k hg hd, hx, EReal.coe_mul]
  rfl

theorem share_at : share x0 x1 d (ix2 r l) = Ideal.div (dot x0 x1 d (ix2 r 0) * (Read.val_main_v10 (F := E) x0) (ix2 r 0)) (Ideal.ofBits .f32 0x45000000#32) := by
  unfold share Read.val_main_v31 Read.val_main_cst_7 Read.val_main_cst_6
  generalize dot x0 x1 d = y
  generalize (Read.val_main_v10 (F := E) x0) = y'
  pointwise
  try simp only [Fin.sum_univ_one]
  try rfl

include hx hg hd in
theorem share_real : share x0 x1 d (ix2 r l) = (((∑ k : Fin 2048, xrow x r k * (D r k * g (ix1 k))) * (-(1 / 2) * (Rms.inv (xrow x r) / Rms.ms (xrow x r))) / 2048 : ℝ) : EReal) := by
  rw [share_at, dot_real D x g x0 x1 d r 0 hx hg hd, factor_real x x0 r 0 hx, Rms.ofBits_2048, ← EReal.coe_mul, div_coe (by norm_num)]

include hx hg hd in
theorem rows_eq : rows x0 x1 d res = arrX D x g res := by
  funext i
  obtain ⟨r, l, rfl⟩ : ∃ (r : Fin 8192) (l : Fin 2048), i = ix2 r l := ⟨i 0, i 1, (ix2_eta i).symm⟩
  refine (show rows x0 x1 d res (ix2 r l) = res (ix2 r l) + scaled x1 d (ix2 r l) * (Read.val_main_v27 (F := E) x0) (ix2 r l) + x0 (ix2 r l) * share x0 x1 d (ix2 r l)
    + share x0 x1 d (ix2 r l) * x0 (ix2 r l) from rfl).trans ?_
  rw [share_real D x g x0 x1 d r l hx hg hd, wide'_at, inv_real x x0 r 0 hx, scaled_real D g x1 d r l hg hd, hx]
  show _ + _ + ((x _ : ℝ) : EReal) * _ + _ * ((x _ : ℝ) : EReal) = _
  rw [← EReal.coe_mul, ← EReal.coe_mul, ← EReal.coe_mul, add_assoc, add_assoc, ← EReal.coe_add, ← EReal.coe_add]
  show _ = res (ix2 r l) + (Rms.back (xrow x r) (fun k => D r k * g (ix1 k)) l : EReal)
  rw [← Rms.back_eq]
  refine congrArg (fun y : ℝ => res (ix2 r l) + (y : EReal)) ?_
  show _ + (x (ix2 r l) * _ + _ * x (ix2 r l)) = _ + x (ix2 r l) * _ + _ * x (ix2 r l)
  push_cast
  ring

theorem gain_at : gain x0 d (ix2 z l) = ∑ r : Fin 8192, (Read.val_main_v12 (F := E) x0) (ix2 r l) * d (ix2 r l) := by
  unfold gain Read.val_main_cst_3 Read.val_main_cst_4
  generalize (Read.val_main_v12 (F := E) x0) = y
  pointwise
  try simp only [Fin.sum_univ_one]
  try rfl

include hx hd in
theorem gain_eq : gain x0 d = arrG D x := by
  funext i
  obtain ⟨z, l, rfl⟩ : ∃ (z : Fin 1) (l : Fin 2048), i = ix2 z l := ⟨i 0, i 1, (ix2_eta i).symm⟩
  rw [gain_at]
  show _ = ((∑ r : Fin 8192, partG D x l r : ℝ) : EReal)
  rw [coe_sum]
  refine Finset.sum_congr rfl fun r _ => ?_
  rw [xn_real x x0 r l hx, hd, ← EReal.coe_mul]
  unfold partG
  rw [mul_comm]

end real

end Cert.NormBack

end
-- ==== Proof.Runs.lean ====
/- Sums that a grid carries: over the steps of one run of the inner axis, and over the runs themselves. -/
module

public import proofs.«01_k».proof.Proof.Sums
public import proofs.«01_k».proof.Proof.RealSum

@[expose] public section

noncomputable section

namespace Cert.Sums

/-- The point before belongs to the same run, one step earlier. -/
theorem step_back {n P : ℕ} (h : ¬n % P = 0) : (n - 1) / P = n / P ∧ (n - 1) % P + 1 = n % P := by
  rcases Nat.eq_zero_or_pos P with rfl | hP
  · have : ¬n = 0 := by simpa using h
    simp
    omega
  have e := Nat.div_add_mod n P
  have hr := Nat.mod_lt n hP
  obtain ⟨s, hs⟩ : ∃ s, n % P = s + 1 := ⟨n % P - 1, by omega⟩
  have e1 : n - 1 = s + P * (n / P) := by omega
  have hs' : s < P := by omega
  constructor
  · rw [e1, Nat.add_mul_div_left _ _ hP, Nat.div_eq_of_lt hs', zero_add]
  · rw [e1, Nat.add_mul_mod_self_left, Nat.mod_eq_of_lt hs', hs]

/-- Before the step of a point that does not begin a run, the accumulator holds the run's sum so far. -/
theorem run_before {K T N P : ℕ} (f : ℕ → Fin K → EReal) (A : ∀ n, n < N → EReal)
    (h0 : ∀ n (hn : n < N), n % P = 0 → A n hn = ∑ b : Fin T, ext (f (n / P)) (n % P * T + b.val))
    (hs : ∀ n (hn : n < N) (hp : n - 1 < N), ¬n % P = 0 → ¬n % P = P - 1 → A n hn = A (n - 1) hp + ∑ b : Fin T, ext (f (n / P)) (n % P * T + b.val)) :
    ∀ n (hp : n - 1 < N), n < N → ¬n % P = 0 → A (n - 1) hp = upto (f (n / P)) (n % P * T) := by
  intro n
  induction n with
  | zero => intro hp hn h; exact absurd (Nat.zero_mod P) h
  | succ n ih =>
    intro hp hn h
    obtain ⟨e1, e2⟩ := step_back h
    rw [Nat.add_sub_cancel] at e1 e2
    show A n hp = _
    rw [← e1, ← e2, upto_block]
    have hP : (n + 1) % P < P ∨ P = 0 := by
      rcases Nat.eq_zero_or_pos P with h | h
      · exact Or.inr h
      · exact Or.inl (Nat.mod_lt _ h)
    by_cases hz : n % P = 0
    · rw [h0 n hp hz, hz, Nat.zero_mul]
      have : upto (f (n / P)) 0 = 0 := by unfold upto; simp
      rw [this, zero_add]
    · have hne : ¬n % P = P - 1 := by
        rcases hP with h | h
        · omega
        · subst h; simp at hz e2 ⊢; omega
      rw [hs n hp (Nat.lt_of_le_of_lt (Nat.sub_le _ _) hp) hz hne, ih _ hp hz]

/-- From the end of the first run on, a sum that is added to at the end of every run holds the parts of the runs so far. -/
theorem runs_sum {K T N P : ℕ} (hP : 0 < P) (p : Fin K → ℝ) (G : ∀ n, n < N → EReal)
    (h0 : ∀ n (hn : n < N), n % P = P - 1 → n < P → G n hn = ((∑ b : Fin T, ext p (n / P * T + b.val) : ℝ) : EReal))
    (hs : ∀ n (hn : n < N) (hp : n - 1 < N), n % P = P - 1 → ¬n < P → G n hn = G (n - 1) hp + ((∑ b : Fin T, ext p (n / P * T + b.val) : ℝ) : EReal))
    (hk : ∀ n (hn : n < N) (hp : n - 1 < N), ¬n % P = P - 1 → G n hn = G (n - 1) hp) :
    ∀ n (hn : n < N), P - 1 ≤ n → G n hn = ((upto p ((n + 1) / P * T) : ℝ) : EReal) := by
  intro n
  induction n with
  | zero =>
    intro hn h
    have : P = 1 := by omega
    subst this
    rw [h0 0 hn (by simp) (by omega)]
    refine congrArg _ ?_
    rw [show (0 + 1) / 1 * T = (0 + 1) * T from by simp, upto_block]
    simp [upto]
  | succ n ih =>
    intro hn h
    have hp : n < N := by omega
    have hsd := Nat.succ_div (a := n + 1) (b := P)
    have e := Nat.div_add_mod (n + 1) P
    have hl := Nat.mod_lt (n + 1) hP
    by_cases hm : (n + 1) % P = P - 1
    · have hd : P ∣ n + 1 + 1 := ⟨(n + 1) / P + 1, by rw [Nat.mul_add, Nat.mul_one]; omega⟩
      rw [if_pos hd] at hsd
      rw [hsd, upto_block, EReal.coe_add]
      by_cases hlt : n + 1 < P
      · rw [h0 _ hn hm hlt, Nat.div_eq_of_lt hlt, Nat.zero_mul]
        have : upto p 0 = 0 := by unfold upto; simp
        rw [this, EReal.coe_zero, zero_add]
      · rw [hs _ hn hp hm hlt]
        exact congrArg₂ _ (ih hp (by omega)) rfl
    · have hd : ¬P ∣ n + 1 + 1 := by
        intro hd
        have := Nat.mod_eq_zero_of_dvd hd
        rw [Nat.add_mod] at this
        rcases Nat.eq_or_lt_of_le (Nat.succ_le_of_lt hP) with h1 | h1
        · have : P = 1 := h1.symm
          subst this
          exact hm (by simp [Nat.mod_one])
        · rw [Nat.mod_eq_of_lt h1, Nat.mod_eq_of_lt (by omega)] at this
          omega
      rw [if_neg hd, Nat.add_zero] at hsd
      rw [hsd, hk _ hn hp hm]
      have hne : ¬n + 1 = P - 1 := fun h2 => hm (by rw [h2]; exact Nat.mod_eq_of_lt (by omega))
      exact ih hp (by omega)

end Cert.Sums

end
-- ==== Proof.DhValue.lean ====
/- The feed-forward layer's input gradient over the extended reals: what its two result arrays hold, where the arguments that matter are real. -/
module

public import proofs.«01_k».proof.Proof.NormRows
public import proofs.«01_k».proof.Proof.NormBack
public import proofs.«01_k».proof.Proof.Runs
public import Idealize.ShloMosaic.Lib.KernelVsHost

@[expose] public section

set_option maxRecDepth 16384

noncomputable section

namespace Cert.DhIdeal.Bwd

open Cert.DhIdeal Cert.DhIdeal.Gen
open Idealize.ShloMosaic Idealize.ShloMosaic.TcCoe Idealize.SL.Sem Idealize.ShloMosaic.Tactic Idealize.ShloMosaic.StableHlo
open Idealize.ShloMosaic.Pipeline (Dat)
open Cert.Lift Cert.Sums

local notation "E" => Idealize.ShloMosaic.Ideal

section host
variable (m : (ℓ : Loc nD τ sig) → Buf (Elt E) ℓ) (c : Dev nD)

abbrev argX : FVec E S8192x2048 .f32 := m ((c : Thread nD τ).loc main_arg0)
abbrev argG : FVec E S2048 .f32 := m ((c : Thread nD τ).loc main_arg1)
abbrev argW : FVec E S2048x11264 .f32 := m ((c : Thread nD τ).loc main_arg2)
abbrev argR : FVec E S8192x2048 .f32 := m ((c : Thread nD τ).loc main_arg3)
abbrev argD : FVec E S8192x11264 .f32 := m ((c : Thread nD τ).loc main_arg4)

/-- The weight in eight blocks of columns. -/
def eighths (w : FVec E S2048x11264 .f32) : FVec E S8x2048x1408 .bf16 :=
  truncf .bf16 (transpose S8x2048x1408 [1, 0, 2] (shapeCast S2048x8x1408 w shapeCasts_S2048x11264_S2048x8x1408) transposes_S2048x8x1408_S8x2048x1408_1_0_2) bitsLt_bf16_f32

/-- The two halves of the cotangent, stacked. -/
def halves (d : FVec E S8192x11264 .f32) : FVec E S2x8192x5632 .bf16 :=
  truncf .bf16 (concatenate S2x8192x5632 0
    [⟨S1x8192x5632, broadcastInDim S1x8192x5632 ![1, 2] bcast_S8192x5632_S1x8192x5632_1_2 (extractStridedSlice S8192x5632 ![0, 0] d slices_S8192x11264_S8192x5632_0_0)⟩,
     ⟨S1x8192x5632, broadcastInDim S1x8192x5632 ![1, 2] bcast_S8192x5632_S1x8192x5632_1_2 (extractStridedSlice S8192x5632 ![0, 5632] d slices_S8192x11264_S8192x5632_0_5632)⟩] concatenates_S1x8192x5632_S1x8192x5632_S2x8192x5632_d0) bitsLt_bf16_f32

def gainRow (g : FVec E S2048 .f32) : FVec E S1x2048 .f32 := broadcastInDim S1x2048 ![1] bcast_S2048_S1x2048_1 g

/-- What the host lines hand to the call. -/
structure Handed : Prop where
  v2 : V m c main_v2 = eighths (argW m c)
  v8 : V m c main_v8 = halves (argD m c)
  v9 : V m c main_v9 = gainRow (argG m c)

theorem handed : Handed m c := by
  constructor <;> (simp only [V, hostOps0, List.flatten_cons, List.flatten_nil, List.append_nil, List.cons_append, List.nil_append, TRef.nullary, TRef.ternary, TRef.binary, TRef.unary, TRef.toBuf, TRef.ofBuf, cast_eq]; after_results_simp <;> rfl)

theorem gainRow_at (g : FVec E S2048 .f32) (z : Fin 1) (l : Fin 2048) : gainRow g (ix2 z l) = g (ix1 l) := by
  pointwise [gainRow]

theorem eighths_at (w : FVec E S2048x11264 .f32) (j : Fin 8) (k : Fin 2048) (l : Fin 1408) (h : j.val * 1408 + l.val < 11264) :
    eighths w (ix3 j k l) = w (ix2 k ⟨j.val * 1408 + l.val, h⟩) := by
  have e : ∀ y : FVec E S2048x8x1408 .f32, (truncf .bf16 (transpose S8x2048x1408 [1, 0, 2] y transposes_S2048x8x1408_S8x2048x1408_1_0_2) bitsLt_bf16_f32 : FVec E S8x2048x1408 .bf16) (ix3 j k l) = y (ix3 k j l) := fun y => by
    pointwise
  unfold eighths
  rw [e]
  refine (shapeCast_apply _ shapeCasts_S2048x11264_S2048x8x1408 (ix3 k j l) (ix2 k ⟨j.val * 1408 + l.val, h⟩) ?_).trans rfl
  rewrite [Shape.rowMajor_val_two, Shape.rowMajor_val_three]
  show k.val * 11264 + (j.val * 1408 + l.val) = (k.val * 8 + j.val) * 1408 + l.val
  omega

theorem halves_at (d : FVec E S8192x11264 .f32) (p : Fin 2) (r : Fin 8192) (l : Fin 5632) (h : p.val * 5632 + l.val < 11264) :
    halves d (ix3 p r l) = d (ix2 r ⟨p.val * 5632 + l.val, h⟩) := by
  pointwise [halves]
  by_cases hp : p = 0
  · subst hp
    refine congrArg d ?_
    blk_ext []
  · rw [dif_neg (by have := Fin.val_ne_of_ne hp; show ¬(p : ℕ) < 1; have : (p : ℕ) ≠ 0 := this; omega)]
    have : p = 1 := by omega
    subst this
    refine congrArg d ?_
    blk_ext []

variable (t : Fin cfg0.N) (a : Fin 512) (l : Fin 1408) (k : Fin 2048) (z : Fin 1)

theorem lt128 : t.val < 128 := t.isLt

/-- Row `a` and column `l` of the block of point `t`. -/
def row : Fin 8192 := ⟨(t.val / 8) * 512 + a.val, by have := a.isLt; have := lt128 t; omega⟩
def col : Fin 11264 := ⟨(t.val % 8) * 1408 + l.val, by have := l.isLt; omega⟩

theorem idx_0 : ∀ t : Fin grid0.N, win0_0.index t 0 = t.val % 8 / 4 ∧ win0_0.index t 1 = t.val / 8 ∧ win0_0.index t 2 = t.val % 8 % 4 := by decide +kernel
theorem idx_1 : ∀ t : Fin grid0.N, win0_1.index t 0 = t.val % 8 ∧ win0_1.index t 1 = 0 ∧ win0_1.index t 2 = 0 := by decide +kernel
theorem idx_2 : ∀ t : Fin grid0.N, win0_2.index t 0 = t.val / 8 ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = t.val / 8 ∧ win0_4.index t 1 = 0 := by decide +kernel
theorem idx_5 : ∀ t : Fin grid0.N, win0_5.index t 0 = t.val / 8 ∧ win0_5.index t 1 = 0 := by decide +kernel
theorem idx_6 : ∀ t : Fin grid0.N, win0_6.index t 0 = 0 ∧ win0_6.index t 1 = 0 := by decide +kernel

theorem iblk_0 : iblk m c 0 t (ix3 z a l) = argD m c (ix2 (row t a) (col t l)) := by
  have hl := l.isLt
  have hq : t.val % 8 / 4 < 2 := by omega
  have hb : t.val % 8 % 4 * 1408 + l.val < 5632 := by omega
  have hh : t.val % 8 / 4 * 5632 + (t.val % 8 % 4 * 1408 + l.val) < 11264 := by omega
  have hc : col t l = ⟨t.val % 8 / 4 * 5632 + (t.val % 8 % 4 * 1408 + l.val), hh⟩ := Fin.ext (by show t.val % 8 * 1408 + l.val = t.val % 8 / 4 * 5632 + (t.val % 8 % 4 * 1408 + l.val); omega)
  rw [hc]
  refine Eq.trans ?_ (halves_at (argD m c) ⟨t.val % 8 / 4, hq⟩ (row t a) ⟨t.val % 8 % 4 * 1408 + l.val, hb⟩ hh)
  rw [← (handed m c).v8]
  unfold iblk
  rw [View.read_apply]
  show V m c main_v8 _ = _
  congr 1
  blk_ext [idx_0 t, row]

theorem iblk_1 : iblk m c 1 t (ix3 z k l) = argW m c (ix2 k (col t l)) := by
  have hq : t.val % 8 < 8 := by omega
  refine Eq.trans ?_ (eighths_at (argW m c) ⟨t.val % 8, hq⟩ k l (col t l).isLt)
  rw [← (handed m c).v2]
  unfold iblk
  rw [View.read_apply]
  show V m c main_v2 _ = _
  congr 1
  blk_ext [idx_1 t, row]

theorem iblk_2 : iblk m c 2 t (ix2 a k) = argX m c (ix2 (row t a) k) := by
  rw [show argX m c = V m c main_arg0 from (V_main_arg0 m c).symm]
  unfold iblk
  rw [View.read_apply]
  show V m c main_arg0 _ = _
  congr 1
  blk_ext [idx_2 t, row]

theorem iblk_3 : iblk m c 3 t (ix2 z k) = argG m c (ix1 k) := by
  rw [← gainRow_at (argG m c) z k, ← (handed m c).v9]
  unfold iblk
  rw [View.read_apply]
  show V m c main_v9 _ = _
  congr 1
  blk_ext [idx_3 t]

theorem iblk_4 : iblk m c 4 t (ix2 a k) = argR m c (ix2 (row t a) k) := by
  rw [show argR m c = V m c main_arg3 from (V_main_arg3 m c).symm]
  unfold iblk
  rw [View.read_apply]
  show V m c main_arg3 _ = _
  congr 1
  blk_ext [idx_4 t, row]

theorem pay1_at (i : S512x2048.Idx) : k0_pay1 (F := E) i = 0 := by
  pointwise [k0_pay1]

theorem pay2_at (o : FVec E S512x2048 .f32) (p : FVec E S1x512x1408 .bf16) (q : FVec E S1x2048x1408 .bf16) :
    k0_pay2 o p q (ix2 a k) = o (ix2 a k) + ∑ l : Fin 1408, p (ix3 0 a l) * q (ix3 0 k l) := by
  pointwise [k0_pay2]

/-- The terms of one entry of the product with the transposed weight. -/
def terms (d : FVec E S8192x11264 .f32) (w : FVec E S2048x11264 .f32) (r : Fin 8192) (k : Fin 2048) (j : Fin 11264) : EReal := d (ix2 r j) * w (ix2 k j)

/-- Row `a` of the `i`-th block of rows. -/
def rowOf (i : ℕ) (a : Fin 512) : Fin 8192 := ⟨(i * 512 + a.val) % 8192, Nat.mod_lt _ (by decide)⟩

theorem row_eq : row t a = rowOf (t.val / 8) a := Fin.ext (by
  have := a.isLt
  have := lt128 t
  exact (Nat.mod_eq_of_lt (by omega)).symm)

theorem step_at (o : FVec E S512x2048 .f32) :
    k0_pay2 o (iblk m c 0 t) (iblk m c 1 t) (ix2 a k) = o (ix2 a k) + ∑ b : Fin 1408, ext (terms (argD m c) (argW m c) (rowOf (t.val / 8) a) k) (t.val % 8 * 1408 + b.val) := by
  rw [pay2_at]
  refine congrArg _ (Finset.sum_congr rfl fun b _ => ?_)
  refine Eq.trans ?_ (ext_val (terms (argD m c) (argW m c) (rowOf (t.val / 8) a) k) (col t b)).symm
  rw [iblk_0, iblk_1, row_eq]
  rfl

/-- The product of a block of rows is complete at the last point of its run. -/
theorem done_at (h7 : t.val % 8 = 7) : done m c t (ix2 a k) = ∑ j : Fin 11264, terms (argD m c) (argW m c) (row t a) k j := by
  have h := run_before (K := 11264) (T := 1408) (N := cfg0.N) (P := 8) (fun i => terms (argD m c) (argW m c) (rowOf i a) k)
    (fun n hn => (outsAt0 m c n hn).1 (ix2 a k))
    (fun n hn h0 => by
      have e := outs_A m c ⟨n, hn⟩ h0 (by show ¬n % 8 = 7; omega)
      show (outsAt0 m c n hn).1 (ix2 a k) = _
      rw [show (outsAt0 m c n hn).1 = _ from e, step_at, pay1_at, zero_add])
    (fun n hn hp h0 h7 => by
      have e := outs_B m c ⟨n, hn⟩ h0 h7
      show (outsAt0 m c n hn).1 (ix2 a k) = _
      rw [show (outsAt0 m c n hn).1 = _ from e]
      exact step_at m c ⟨n, hn⟩ a k _)
    t.val (prev_lt t) t.isLt (by omega)
  refine (step_at m c t a k _).trans ?_
  rw [show (outsAt0 m c (prev t) (prev_lt t)).1 (ix2 a k) = _ from h, ← upto_block, ← row_eq, h7]
  exact upto_all _

end host

section real
variable (m : (ℓ : Loc nD τ sig) → Buf (Elt E) ℓ) (c : Dev nD)
  (x : S8192x2048.Idx → ℝ) (g : S2048.Idx → ℝ) (w : S2048x11264.Idx → ℝ) (d : S8192x11264.Idx → ℝ)
  (hx : argX m c = up x) (hg : argG m c = up g) (hw : argW m c = up w) (hd : argD m c = up d)
  (t : Fin cfg0.N) (a : Fin 512) (k : Fin 2048) (z : Fin 1)

/-- The gradient of the normalised rows. -/
def back (d : S8192x11264.Idx → ℝ) (w : S2048x11264.Idx → ℝ) (r : Fin 8192) (k : Fin 2048) : ℝ := ∑ j : Fin 11264, d (ix2 r j) * w (ix2 k j)

include hw hd in
theorem terms_sum (r : Fin 8192) : ∑ j : Fin 11264, terms (argD m c) (argW m c) r k j = (back d w r k : EReal) := by
  unfold back
  rw [coe_sum, hd, hw]
  rfl

include hw hd in
theorem done_real (h7 : t.val % 8 = 7) : done m c t (ix2 a k) = (back d w (row t a) k : EReal) := by
  rw [done_at m c t a k h7]
  exact terms_sum m c w d hw hd k _

include hx in
theorem x_real : iblk m c 2 t (ix2 a k) = (NormBack.xrow x (row t a) k : EReal) := by
  rw [iblk_2, hx]
  rfl

include hg in
theorem g_real : iblk m c 3 t (ix2 0 k) = ((g (ix1 k) : ℝ) : EReal) := by
  rw [iblk_3, hg]

theorem split_row (a : Fin 512) : ∃ (q : Fin 4) (b : Fin 128), a = Rows.row q b :=
  ⟨⟨a.val / 128, by have := a.isLt; omega⟩, ⟨a.val % 128, Nat.mod_lt _ (by decide)⟩, Fin.ext (by show a.val = a.val / 128 * 128 + a.val % 128; omega)⟩

include hx hg hw hd in
/-- What a run's last point leaves of its rows. -/
theorem rows_at (h7 : t.val % 8 = 7) : (outsAt0 m c t.val t.isLt).1 (ix2 a k) = NormBack.arrX (back d w) x g (argR m c) (ix2 (row t a) k) := by
  obtain ⟨q, b, rfl⟩ := split_row a
  have e : newRows (iblk m c 2 t) (iblk m c 3 t) (iblk m c 4 t) q (Rows.part q (done m c t)) (ix2 b k) = NormBack.arrX (back d w) x g (argR m c) (ix2 (row t (Rows.row q b)) k) := by
    rw [NormRows.newRows_real (done m c t) (iblk m c 2 t) (iblk m c 4 t) (iblk m c 3 t) q b k (fun a k => back d w (row t a) k) (fun a k => NormBack.xrow x (row t a) k) (fun k => g (ix1 k))
      (fun a k => done_real m c w d hw hd t a k h7) (fun a k => x_real m c x hx t a k) (fun k => g_real m c g hg t k), iblk_4]
    rfl
  by_cases h : t.val < 8
  · exact (outs_C m c t (by omega) h7 h (by omega) q b k).trans e
  · exact (outs_D m c t (by omega) h7 h (by omega) q b k).trans e

include hx hw hd in
/-- The part of a block of rows of the gain's gradient. -/
theorem part_at (h7 : t.val % 8 = 7) : carried (iblk m c 2 t) (done m c t) k0_pay3 (ix2 z k)
    = ((∑ b : Fin 512, ext (NormBack.partG (back d w) x k) (t.val / 8 * 512 + b.val) : ℝ) : EReal) := by
  rw [NormRows.carried_real (done m c t) (iblk m c 2 t) k z (fun a k => back d w (row t a) k) (fun a k => NormBack.xrow x (row t a) k)
    (fun a k => done_real m c w d hw hd t a k h7) (fun a k => x_real m c x hx t a k)]
  refine congrArg _ (Finset.sum_congr rfl fun b _ => ?_)
  exact (ext_val (NormBack.partG (back d w) x k) (row t b)).symm

include hx hw hd in
/-- The gain's gradient after the runs so far. -/
theorem gain_at (n : ℕ) (hn : n < cfg0.N) (h : 7 ≤ n) : (outsAt0 m c n hn).2 (ix2 z k) = ((upto (NormBack.partG (back d w) x k) ((n + 1) / 8 * 512) : ℝ) : EReal) := by
  refine runs_sum (T := 512) (P := 8) (by decide) (NormBack.partG (back d w) x k) (fun n hn => (outsAt0 m c n hn).2 (ix2 z k)) (fun n hn h7 h8 => ?_) (fun n hn hp h7 h8 => ?_) (fun n hn hp h7 => ?_) n hn h
  · have h7 : n % 8 = 7 := h7
    show (outsAt0 m c n hn).2 (ix2 z k) = _
    rw [show (outsAt0 m c n hn).2 = _ from outs_C2 m c ⟨n, hn⟩ (by show ¬n % 8 = 0; omega) h7 h8 (by show ¬8 ≤ n; omega)]
    exact part_at m c x w d hx hw hd ⟨n, hn⟩ k z h7
  · have h7 : n % 8 = 7 := h7
    show (outsAt0 m c n hn).2 (ix2 z k) = _
    rw [show (outsAt0 m c n hn).2 = _ from outs_D2 m c ⟨n, hn⟩ (by show ¬n % 8 = 0; omega) h7 h8 (by show 8 ≤ n; omega), NormRows.sum_at,
      part_at m c x w d hx hw hd ⟨n, hn⟩ k z h7]
  · have h7 : ¬n % 8 = 7 := h7
    show (outsAt0 m c n hn).2 (ix2 z k) = _
    by_cases h0 : n % 8 = 0
    · rw [show (outsAt0 m c n hn).2 = _ from outs_A2 m c ⟨n, hn⟩ h0 h7]
    · rw [show (outsAt0 m c n hn).2 = _ from outs_B2 m c ⟨n, hn⟩ h0 h7]

include hx hg hw hd in
/-- The first result: the residual plus the gradient of the layer's input. -/
theorem final_5 : (dats m 0 c).arrAt 5 cfg0.N = NormBack.arrX (back d w) x g (argR m c) := by
  refine (dats m 0 c).arrAt_eq_of_cover 5 _ (fun t hf => ?_) (fun (i : S8192x2048.Idx) => ?_)
  · show (cfg0.win 5).cut (grid0.coords t) ((dats m 0 c).after 5 t) = _
    rw [after0_5]
    funext j
    rw [View.read_apply]
    obtain ⟨a, l, rfl⟩ : ∃ (a : Fin 512) (l : Fin 2048), j = ix2 a l := ⟨j 0, j 1, (ix2_eta j).symm⟩
    refine (rows_at m c x g w d hx hg hw hd t a l ((flush0_5 t).mp hf)).trans ?_
    have e : ((cfg0.win 5).blk t).view.emb (ix2 a l) = ix2 (row t a) l := by
      funext b
      apply Fin.ext
      match b with
      | ⟨0, _⟩ => show win0_5.index t 0 * 512 + 1 * a.val = t.val / 8 * 512 + a.val; rw [(idx_5 t).1]; omega
      | ⟨1, _⟩ => show win0_5.index t 1 * 2048 + 1 * l.val = l.val; rw [(idx_5 t).2]; omega
    rw [e]
    rfl
  · have h0 : (i 0).val < 8192 := (i 0).isLt
    have h1 : (i 1).val < 2048 := (i 1).isLt
    obtain ⟨t, ht⟩ : ∃ t : Fin cfg0.N, t.val = (i 0).val / 512 * 8 + 7 := ⟨⟨(i 0).val / 512 * 8 + 7, by show _ < 128; omega⟩, rfl⟩
    refine ⟨t, (flush0_5 _).mpr (by rw [ht]; omega), ?_⟩
    show i ∈ ((View.whole main_v10_0).slice (win0_5.rect t)).set
    rw [View.set_slice_whole, Rect.mem_set_unit]
    intro b
    match b with
    | ⟨0, _⟩ =>
      show win0_5.index _ 0 * 512 ≤ (i 0).val ∧ (i 0).val < win0_5.index _ 0 * 512 + 512
      rw [(idx_5 _).1]; omega
    | ⟨1, _⟩ =>
      show win0_5.index _ 1 * 2048 ≤ (i 1).val ∧ (i 1).val < win0_5.index _ 1 * 2048 + 2048
      rw [(idx_5 _).2]; omega

include hx hw hd in
/-- The second result: the gradient of the norm's gain. -/
theorem final_6 : (dats m 0 c).arrAt 6 cfg0.N = NormBack.arrG (back d w) x := by
  refine (dats m 0 c).arrAt_eq_of_cover 6 _ (fun t hf => ?_) (fun (i : S1x2048.Idx) => ?_)
  · have ht : t.val = 127 := by
      have := (flush0_6 t).mp hf
      have := lt128 t
      omega
    show (cfg0.win 6).cut (grid0.coords t) ((dats m 0 c).after 6 t) = _
    rw [after0_6]
    funext j
    rw [View.read_apply]
    obtain ⟨a, l, rfl⟩ : ∃ (a : Fin 1) (l : Fin 2048), j = ix2 a l := ⟨j 0, j 1, (ix2_eta j).symm⟩
    refine (gain_at m c x w d hx hw hd l a t.val t.isLt (by omega)).trans ?_
    have e : ((cfg0.win 6).blk t).view.emb (ix2 a l) = ix2 a l := by
      funext b
      apply Fin.ext
      match b with
      | ⟨0, _⟩ => show win0_6.index t 0 * 1 + 1 * a.val = a.val; rw [(idx_6 _).1]; omega
      | ⟨1, _⟩ => show win0_6.index t 1 * 2048 + 1 * l.val = l.val; rw [(idx_6 _).2]; omega
    rw [e, show (t.val + 1) / 8 * 512 = 8192 from by omega, upto_all]
    rfl
  · obtain ⟨t, ht⟩ : ∃ t : Fin cfg0.N, t.val = 127 := ⟨⟨127, by decide⟩, rfl⟩
    refine ⟨t, (flush0_6 _).mpr (by rw [ht]), ?_⟩
    have h0 : (i 0).val < 1 := (i 0).isLt
    have h1 : (i 1).val < 2048 := (i 1).isLt
    show i ∈ ((View.whole main_v10_1).slice (win0_6.rect t)).set
    rw [View.set_slice_whole, Rect.mem_set_unit]
    intro a
    match a with
    | ⟨0, _⟩ =>
      show win0_6.index _ 0 * 1 ≤ (i 0).val ∧ (i 0).val < win0_6.index _ 0 * 1 + 1
      rw [(idx_6 _).1]; omega
    | ⟨1, _⟩ =>
      show win0_6.index _ 1 * 2048 ≤ (i 1).val ∧ (i 1).val < win0_6.index _ 1 * 2048 + 2048
      rw [(idx_6 _).2]; omega

end real

end Cert.DhIdeal.Bwd

end
-- ==== Proof.DhClaims.lean ====
/- The claims about the feed-forward layer's input gradient. -/
module

public import proofs.«01_k».proof.Defs
public import proofs.«01_k».proof.Proof.DhValue
public import proofs.«01_k».proof.Proof.Gen.DhRefIdeal.Read
public import proofs.«01_k».proof.Proof.Gen.Pre_dh_finite
public import Idealize.ShloMosaic.Lib.Quiescent

@[expose] public section

set_option maxRecDepth 16384

noncomputable section

namespace Cert.DhRefIdeal.Bwd

open Cert.DhRefIdeal Cert.DhRefIdeal.Gen
open Idealize.ShloMosaic Idealize.ShloMosaic.TcCoe Idealize.SL.Sem Idealize.ShloMosaic.Tactic
open Cert.Lift Cert.Sums Cert.DhIdeal.Bwd

local notation "E" => Idealize.ShloMosaic.Ideal

section nodes
variable (x0 : (⟨S8192x2048, .f32⟩ : BufTy).Contents (Elt E)) (x1 : (⟨S2048, .f32⟩ : BufTy).Contents (Elt E)) (x2 : (⟨S2048x11264, .f32⟩ : BufTy).Contents (Elt E))
  (x3 : (⟨S8192x2048, .f32⟩ : BufTy).Contents (Elt E)) (x4 : (⟨S8192x11264, .f32⟩ : BufTy).Contents (Elt E))

theorem product_at (r : Fin 8192) (k : Fin 2048) : Read.val_main_v17 (F := E) x2 x4 (ix2 r k) = ∑ j : Fin 11264, x4 (ix2 r j) * x2 (ix2 k j) := by
  pointwise [Read.val_main_v17]

theorem v38_rows : Read.val_main_v38 (F := E) x0 x1 x2 x3 x4 = NormBack.rows x0 x1 (Read.val_main_v17 (F := E) x2 x4) x3 := rfl
theorem v39_gain : Read.val_main_v39 (F := E) x0 x2 x4 = NormBack.gain x0 (Read.val_main_v17 (F := E) x2 x4) := rfl

variable (x : S8192x2048.Idx → ℝ) (g : S2048.Idx → ℝ) (w : S2048x11264.Idx → ℝ) (d : S8192x11264.Idx → ℝ)
  (h0 : x0 = up x) (h1 : x1 = up g) (h2 : x2 = up w) (h4 : x4 = up d)

include h2 h4 in
theorem product_real (r : Fin 8192) (k : Fin 2048) : Read.val_main_v17 (F := E) x2 x4 (ix2 r k) = (back d w r k : EReal) := by
  rw [product_at]
  unfold back
  rw [coe_sum, h2, h4]
  rfl

include h0 h1 h2 h4 in
/-- The reference's two results, its arguments but the residual being arrays of reals. -/
theorem ref_eq : Read.val_main_v38 (F := E) x0 x1 x2 x3 x4 = NormBack.arrX (back d w) x g x3 ∧ Read.val_main_v39 (F := E) x0 x2 x4 = NormBack.arrG (back d w) x :=
  ⟨(v38_rows x0 x1 x2 x3 x4).trans (NormBack.rows_eq (back d w) x g x0 x1 _ x3 h0 h1 (product_real x2 x4 w d h2 h4)),
   (v39_gain x0 x2 x4).trans (NormBack.gain_eq (back d w) x x0 _ h0 (product_real x2 x4 w d h2 h4))⟩

end nodes

end Cert.DhRefIdeal.Bwd

namespace Cert.Proof

open Idealize.ShloMosaic Idealize.SL.Sem Cert.Lift Cert.Sums

set_option maxHeartbeats 2000000 in
/-- Kernel and reference compute the same input gradient and the same gain's gradient, where the rows, the gain, the weight and the cotangent are finite. -/
theorem algebraic_dh : Cert.algebraic_DhIdeal_DhRefIdeal_pre_dh_finite := by
  intro m ρ m' ρ' hpre hargs
  refine ⟨fun c => (Cert.DhIdeal.Gen.dats m 0 c).arrAt 5 Cert.DhIdeal.cfg0.N, fun c => (Cert.DhIdeal.Gen.dats m 0 c).arrAt 6 Cert.DhIdeal.cfg0.N, Cert.DhIdeal.Value.run_blocks m ρ, ?_⟩
  refine (θ_run Cert.DhRefIdeal.defs _ _).mono (fun r h c => ?_) (Cert.DhRefIdeal.Value.run m' ρ')
  obtain ⟨e0, e1, e2, e3, e4⟩ := hargs c
  obtain ⟨f0, f1, f2, f4⟩ := hpre c
  obtain ⟨x, hx⟩ := reals_of_finite _ _ f0
  obtain ⟨g, hg⟩ := reals_of_finite _ _ f1
  obtain ⟨w, hw⟩ := reals_of_finite _ _ f2
  obtain ⟨d, hd⟩ := reals_of_finite _ _ f4
  obtain ⟨r0, r1⟩ := Cert.DhRefIdeal.Bwd.ref_eq _ _ _ (m' ((c.tc : Thread Cert.DhRefIdeal.nD Cert.DhRefIdeal.τ).loc Cert.DhRefIdeal.main_arg3)) _ x g w d (e0.trans hx) (e1.trans hg) (e2.trans hw) (e4.trans hd)
  obtain ⟨p0, p1, p2⟩ := h c
  have q0 := Cert.DhIdeal.Bwd.final_5 m c x g w d hx hg hw hd
  have q1 := Cert.DhIdeal.Bwd.final_6 m c x w d hx hw hd
  refine ⟨?_, ?_, p2⟩
  · refine (p0.trans (Cert.DhRefIdeal.Read.val_main_v38_eq m' c)).trans (r0.trans (Eq.trans ?_ q0.symm))
    rw [e3]
  · exact (p1.trans (Cert.DhRefIdeal.Read.val_main_v39_eq _ _ _)).trans (r1.trans q1.symm)

theorem frame_dhRef : Cert.quiescent_DhRefIdeal := fun m ρ _ =>
  (θ_run Cert.DhRefIdeal.defs _ _).mono (fun r h => ⟨fun c => (h c).2.2, sem_eq_zero_of_no_sems (by decide) r.2⟩) (Cert.DhRefIdeal.Value.run (F := Ideal) m ρ)

theorem frame_dhRef_pre : Cert.quiescent_DhRefIdeal_pre_dh_finite := fun m ρ _ => frame_dhRef m ρ trivial

end Cert.Proof

end
-- ==== Proof.DinBlock.lean ====
/- The input projection's input gradient over the extended reals: what one grid point leaves in its blocks. -/
module

public import proofs.«01_k».proof.Proof.Gen.DinIdeal.Value
public import proofs.«01_k».proof.Proof.DhBlock
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.DinIdeal.Bwd

open Cert.DinIdeal Cert.DinIdeal.Gen
open Idealize.ShloMosaic Idealize.ShloMosaic.TcCoe Idealize.ShloMosaic.Tactic
open Cert.DhIdeal.Bwd (newRows addRows carried hz)

local notation "E" => Idealize.ShloMosaic.Ideal

theorem trips_eq : k0_t1_loop.trips = 4 := by decide +kernel

/-- The rows that a step of the loop reads and writes. -/
theorem off_eq : ∀ k : Fin k0_t1_loop.trips, k0_off1 k = ![k.val * 128, 0] := by decide +kernel

section loop
variable (c : Dev nD) (i : grid0.Coords)
  (a2 : Memref sig .tc .vmem S512x896 .bf16) (w2 : a2.IsWhole) (a3 : Memref sig .tc .vmem S2048x896 .bf16) (w3 : a3.IsWhole)
  (a4 : Memref sig .tc .vmem S512x2048 .f32) (w4 : a4.IsWhole) (a5 : Memref sig .tc .vmem S1x2048 .f32) (w5 : a5.IsWhole)
  (a6 : Memref sig .tc .vmem S512x2048 .f32) (w6 : a6.IsWhole) (a7 : Memref sig .tc .vmem S512x2048 .f32) (w7 : a7.IsWhole)
  (a8 : Memref sig .tc .vmem S1x2048 .f32) (w8 : a8.IsWhole) (hc : k0_cond2 i = 1#1)
  (x : Vec E S512x2048 .f32) (g : Vec E S1x2048 .f32) (res : Vec E S512x2048 .f32)

theorem trip_R (k : Fin k0_t1_loop.trips) (q : Fin 4) (hq : k.val = q.val) (acc) (f) :
    tripR_k0_t1 Variants.none c none i a2 w2 a3 w3 a4 w4 a5 w5 a6 w6 a7 w7 a8 w8 hc (w4.unread x) (w5.unread g) (w6.unread res) k acc f
      = addRows x q acc (View.readAt (Elt E) a7.view (Rect.unit (s := S512x2048) (k0_off1 k) ![128, 2048] (k0_off1_inb i k hc)).toLoadRect f) := by
  unfold tripR_k0_t1 trip_k0_t1
  dsimp only
  exact congrArg (k0_pay8 _ _) ((Rows.load_rows a4.view _ q ((off_eq k).trans (by rw [hq])) _).trans (by rw [w4.read_unread]))

theorem trip_L (k : Fin k0_t1_loop.trips) (q : Fin 4) (hq : k.val = q.val) (acc) (f) :
    tripL_k0_t1 Variants.none c none i a2 w2 a3 w3 a4 w4 a5 w5 a6 w6 a7 w7 a8 w8 hc (w4.unread x) (w5.unread g) (w6.unread res) k acc f
      = [⟨Rect.unit (s := S512x2048) (k0_off1 k) ![128, 2048] (k0_off1_inb i k hc),
          newRows x g res q (View.readAt (Elt E) a7.view (Rect.unit (s := S512x2048) (k0_off1 k) ![128, 2048] (k0_off1_inb i k hc)).toLoadRect f)⟩] := by
  unfold tripL_k0_t1 trip_k0_t1
  dsimp only
  have e4 := (Rows.load_rows a4.view (w4.unread x) q ((off_eq k).trans (by rw [hq])) (k0_off1_inb i k hc)).trans (by rw [w4.read_unread])
  have e6 := (Rows.load_rows a6.view (w6.unread res) q ((off_eq k).trans (by rw [hq])) (k0_off1_inb i k hc)).trans (by rw [w6.read_unread])
  have e5 : View.readAt (Elt E) a5.view (Rect.unit (s := S1x2048) ![0, 0] ![1, 2048] inb_S1x2048_S1x2048_0_0).toLoadRect (w5.unread g) = g := by
    exact (View.ld_unit_zero hz _ _).trans (w5.read_unread g)
  rw [e4, e6, e5]
  rfl

/-- The loop's state before step `n`. -/
abbrev state (G : BufTy.Contents (Elt E) a7.view.ty) (init : FVec E S1x2048 .f32) (n : ℕ) :=
  st_k0_t1 Variants.none c none i a2 w2 a3 w3 a4 w4 a5 w5 a6 w6 a7 w7 a8 w8 hc (w4.unread x) (w5.unread g) (w6.unread res) G init n

/-- A step's number among the loop's. -/
def trip (q : Fin 4) : Fin k0_t1_loop.trips := ⟨q.val, by rw [trips_eq]; exact q.isLt⟩

theorem state_R (G) (init) (q : Fin 4) :
    (state c i a2 w2 a3 w3 a4 w4 a5 w5 a6 w6 a7 w7 a8 w8 hc x g res G init (q.val + 1)).1
      = addRows x q (state c i a2 w2 a3 w3 a4 w4 a5 w5 a6 w6 a7 w7 a8 w8 hc x g res G init q.val).1
          (View.readAt (Elt E) a7.view (Rect.unit (s := S512x2048) (k0_off1 (trip q)) ![128, 2048] (k0_off1_inb i (trip q) hc)).toLoadRect
            (a7.view.writes (Elt E) G (state c i a2 w2 a3 w3 a4 w4 a5 w5 a6 w6 a7 w7 a8 w8 hc x g res G init q.val).2)) :=
  (congrArg Prod.fst (st_k0_t1_succ Variants.none c none i a2 w2 a3 w3 a4 w4 a5 w5 a6 w6 a7 w7 a8 w8 hc (w4.unread x) (w5.unread g) (w6.unread res) G init (trip q))).trans
    (trip_R c i a2 w2 a3 w3 a4 w4 a5 w5 a6 w6 a7 w7 a8 w8 hc x g res (trip q) q rfl _ _)

theorem state_L (G) (init) (q : Fin 4) :
    (state c i a2 w2 a3 w3 a4 w4 a5 w5 a6 w6 a7 w7 a8 w8 hc x g res G init (q.val + 1)).2
      = ⟨Rect.unit (s := S512x2048) (k0_off1 (trip q)) ![128, 2048] (k0_off1_inb i (trip q) hc),
          newRows x g res q (View.readAt (Elt E) a7.view (Rect.unit (s := S512x2048) (k0_off1 (trip q)) ![128, 2048] (k0_off1_inb i (trip q) hc)).toLoadRect
            (a7.view.writes (Elt E) G (state c i a2 w2 a3 w3 a4 w4 a5 w5 a6 w6 a7 w7 a8 w8 hc x g res G init q.val).2))⟩
        :: (state c i a2 w2 a3 w3 a4 w4 a5 w5 a6 w6 a7 w7 a8 w8 hc x g res G init q.val).2 :=
  (congrArg Prod.snd (st_k0_t1_succ Variants.none c none i a2 w2 a3 w3 a4 w4 a5 w5 a6 w6 a7 w7 a8 w8 hc (w4.unread x) (w5.unread g) (w6.unread res) G init (trip q))).trans
    (congrArg (· ++ (state c i a2 w2 a3 w3 a4 w4 a5 w5 a6 w6 a7 w7 a8 w8 hc x g res G init q.val).2)
      (trip_L c i a2 w2 a3 w3 a4 w4 a5 w5 a6 w6 a7 w7 a8 w8 hc x g res (trip q) q rfl _ _))

/-- The rows after the loop. -/
theorem loop_rows (G) (init) (q : Fin 4) (a : Fin 128) (l : Fin 2048) :
    a7.view.read (Elt E) (a7.view.writes (Elt E) G (state c i a2 w2 a3 w3 a4 w4 a5 w5 a6 w6 a7 w7 a8 w8 hc x g res G init 4).2) (ix2 (Rows.row q a) l)
      = newRows x g res q (Rows.part q (a7.view.read (Elt E) G)) (ix2 a l) :=
  Rows.rows a7.view G (state c i a2 w2 a3 w3 a4 w4 a5 w5 a6 w6 a7 w7 a8 w8 hc x g res G init) (fun q => k0_off1 (trip q)) (fun q => off_eq (trip q))
    (fun q => k0_off1_inb i (trip q) hc) (newRows x g res) (addRows x) rfl
    (state_R c i a2 w2 a3 w3 a4 w4 a5 w5 a6 w6 a7 w7 a8 w8 hc x g res G init) (state_L c i a2 w2 a3 w3 a4 w4 a5 w5 a6 w6 a7 w7 a8 w8 hc x g res G init) q a l

/-- The carried row after the loop. -/
theorem loop_carry (G) (init) :
    (state c i a2 w2 a3 w3 a4 w4 a5 w5 a6 w6 a7 w7 a8 w8 hc x g res G init 4).1 = carried x (a7.view.read (Elt E) G) init :=
  Rows.carry a7.view G (state c i a2 w2 a3 w3 a4 w4 a5 w5 a6 w6 a7 w7 a8 w8 hc x g res G init) (fun q => k0_off1 (trip q)) (fun q => off_eq (trip q))
    (fun q => k0_off1_inb i (trip q) hc) (newRows x g res) (addRows x) rfl
    (state_R c i a2 w2 a3 w3 a4 w4 a5 w5 a6 w6 a7 w7 a8 w8 hc x g res G init) (state_L c i a2 w2 a3 w3 a4 w4 a5 w5 a6 w6 a7 w7 a8 w8 hc x g res G init)
end loop

section block
variable (m : (ℓ : Loc nD τ sig) → Buf (Elt E) ℓ) (c : Dev nD) (t : Fin cfg0.N)

/-- The point before. -/
abbrev prev : ℕ := t.val - 1
theorem prev_lt : prev t < cfg0.N := Nat.lt_of_le_of_lt (Nat.sub_le _ _) t.isLt

/-- The block of the product that is complete at a run's last point. -/
abbrev done : FVec E S512x2048 .f32 := k0_pay2 (outsAt0 m c (prev t) (prev_lt t)).1 (iblk m c 0 t) (iblk m c 1 t)

theorem outs_A (h : t.val % 7 = 0) (h1 : ¬t.val % 7 = 6) : (outsAt0 m c t.val t.isLt).1 = k0_pay2 k0_pay1 (iblk m c 0 t) (iblk m c 1 t) := by
  rw [outsAt0_A m c t h h1]
  frame_out

theorem outs_A2 (h : t.val % 7 = 0) (h1 : ¬t.val % 7 = 6) : (outsAt0 m c t.val t.isLt).2 = (outsAt0 m c (prev t) (prev_lt t)).2 := by
  rw [outsAt0_A m c t h h1]
  rfl

theorem outs_B (h : ¬t.val % 7 = 0) (h1 : ¬t.val % 7 = 6) : (outsAt0 m c t.val t.isLt).1 = done m c t := by
  rw [outsAt0_B m c t h h1]
  frame_out

theorem outs_B2 (h : ¬t.val % 7 = 0) (h1 : ¬t.val % 7 = 6) : (outsAt0 m c t.val t.isLt).2 = (outsAt0 m c (prev t) (prev_lt t)).2 := by
  rw [outsAt0_B m c t h h1]
  rfl

theorem base_C (a2 : Memref sig .tc .vmem S512x896 .bf16) (w2 : a2.IsWhole) (a3 : Memref sig .tc .vmem S2048x896 .bf16) (w3 : a3.IsWhole)
    (a7 : Memref sig .tc .vmem S512x2048 .f32) (w7 : a7.IsWhole) (x0 : Vec E S512x896 .bf16) (x1 : Vec E S2048x896 .bf16) (o : Vec E S512x2048 .f32) :
    a7.view.read (Elt E) (a7.view.writes (Elt E) a7.view.junk (kernelRun0_C.sl.H5_1 c a2 w2 a3 w3 a7 w7 x0 x1 o)) = k0_pay2 o x0 x1 := by
  rw [View.read_writes_junk_eq_canon]
  unfold kernelRun0_C.sl.H5_1
  frame_out

theorem base_D (a2 : Memref sig .tc .vmem S512x896 .bf16) (w2 : a2.IsWhole) (a3 : Memref sig .tc .vmem S2048x896 .bf16) (w3 : a3.IsWhole)
    (a7 : Memref sig .tc .vmem S512x2048 .f32) (w7 : a7.IsWhole) (x0 : Vec E S512x896 .bf16) (x1 : Vec E S2048x896 .bf16) (o : Vec E S512x2048 .f32) :
    a7.view.read (Elt E) (a7.view.writes (Elt E) a7.view.junk (kernelRun0_D.sl.H5_1 c a2 w2 a3 w3 a7 w7 x0 x1 o)) = k0_pay2 o x0 x1 := by
  rw [View.read_writes_junk_eq_canon]
  unfold kernelRun0_D.sl.H5_1
  frame_out

theorem outs_C (h : ¬t.val % 7 = 0) (h1 : t.val % 7 = 6) (h2 : t.val < 7) (h3 : ¬7 ≤ t.val) (q : Fin 4) (a : Fin 128) (l : Fin 2048) :
    (outsAt0 m c t.val t.isLt).1 (ix2 (Rows.row q a) l) = newRows (iblk m c 2 t) (iblk m c 3 t) (iblk m c 4 t) q (Rows.part q (done m c t)) (ix2 a l) := by
  rw [outsAt0_C m c t h h1 h2 h3]
  dsimp only
  unfold out0_C_5 kernelRun0_C
  dsimp only
  rw [View.read_writes_junk_eq_canon, ← View.read_writes_junk_eq_canon (ms0_5 t).view, View.writes_append]
  refine (loop_rows c _ _ _ _ _ _ _ _ _ _ _ _ _ _ _ _ (iblk m c 2 t) (iblk m c 3 t) (iblk m c 4 t) _ _ q a l).trans ?_
  rw [base_C]

theorem outs_C2 (h : ¬t.val % 7 = 0) (h1 : t.val % 7 = 6) (h2 : t.val < 7) (h3 : ¬7 ≤ t.val)  : (outsAt0 m c t.val t.isLt).2 = carried (iblk m c 2 t) (done m c t) k0_pay3 := by
  rw [outsAt0_C m c t h h1 h2 h3]
  dsimp only
  unfold out0_C_6 kernelRun0_C
  dsimp only
  rw [View.read_writes_junk_eq_canon, View.canon_unit_zero hz]
  refine (loop_carry c _ _ _ _ _ _ _ _ _ _ _ _ _ _ _ _ (iblk m c 2 t) (iblk m c 3 t) (iblk m c 4 t) _ _).trans ?_
  rw [base_C]

theorem outs_D (h : ¬t.val % 7 = 0) (h1 : t.val % 7 = 6) (h2 : ¬t.val < 7) (h3 : 7 ≤ t.val) (q : Fin 4) (a : Fin 128) (l : Fin 2048) :
    (outsAt0 m c t.val t.isLt).1 (ix2 (Rows.row q a) l) = newRows (iblk m c 2 t) (iblk m c 3 t) (iblk m c 4 t) q (Rows.part q (done m c t)) (ix2 a l) := by
  rw [outsAt0_D m c t h h1 h2 h3]
  dsimp only
  unfold out0_D_5 kernelRun0_D
  dsimp only
  rw [View.read_writes_junk_eq_canon, ← View.read_writes_junk_eq_canon (ms0_5 t).view, View.writes_append]
  refine (loop_rows c _ _ _ _ _ _ _ _ _ _ _ _ _ _ _ _ (iblk m c 2 t) (iblk m c 3 t) (iblk m c 4 t) _ _ q a l).trans ?_
  rw [base_D]

theorem outs_D2 (h : ¬t.val % 7 = 0) (h1 : t.val % 7 = 6) (h2 : ¬t.val < 7) (h3 : 7 ≤ t.val) :
    (outsAt0 m c t.val t.isLt).2 = k0_pay9 (carried (iblk m c 2 t) (done m c t) k0_pay3) (outsAt0 m c (prev t) (prev_lt t)).2 := by
  rw [outsAt0_D m c t h h1 h2 h3]
  dsimp only
  unfold out0_D_6 kernelRun0_D
  dsimp only
  rw [View.read_writes_junk_eq_canon, View.canon_unit_zero hz]
  refine congrArg₂ k0_pay9 ((loop_carry c _ _ _ _ _ _ _ _ _ _ _ _ _ _ _ _ (iblk m c 2 t) (iblk m c 3 t) (iblk m c 4 t) _ _).trans ?_)
    ((View.ld_unit_zero hz _ _).trans (Memref.IsWhole.read_unread _ _))
  rw [base_D]

end block

end Cert.DinIdeal.Bwd

end
-- ==== Proof.DinValue.lean ====
/- The input projection's input gradient over the extended reals: what its two result arrays hold, where the arguments that matter are real. -/
module

public import proofs.«01_k».proof.Proof.NormRows
public import proofs.«01_k».proof.Proof.DinBlock
public import proofs.«01_k».proof.Proof.NormBack
public import proofs.«01_k».proof.Proof.DhValue
public import Idealize.ShloMosaic.Lib.KernelVsHost

@[expose] public section

set_option maxRecDepth 16384

noncomputable section

namespace Cert.DinIdeal.Bwd

open Cert.DinIdeal Cert.DinIdeal.Gen
open Idealize.ShloMosaic Idealize.ShloMosaic.TcCoe Idealize.SL.Sem Idealize.ShloMosaic.Tactic Idealize.ShloMosaic.StableHlo
open Idealize.ShloMosaic.Pipeline (Dat)
open Cert.Lift Cert.Sums
open Cert.DhIdeal.Bwd (newRows addRows carried split_row)

local notation "E" => Idealize.ShloMosaic.Ideal

section host
variable (m : (ℓ : Loc nD τ sig) → Buf (Elt E) ℓ) (c : Dev nD)

abbrev argX : FVec E S8192x2048 .f32 := m ((c : Thread nD τ).loc main_arg0)
abbrev argG : FVec E S2048 .f32 := m ((c : Thread nD τ).loc main_arg1)
abbrev argW : FVec E S2048x6160 .f32 := m ((c : Thread nD τ).loc main_arg2)
abbrev argR : FVec E S8192x2048 .f32 := m ((c : Thread nD τ).loc main_arg3)
abbrev argD : FVec E S8192x6160 .f32 := m ((c : Thread nD τ).loc main_arg4)

/-- The weight with 112 lanes of zeros after its columns. -/
def padW (w : FVec E S2048x6160 .f32) : FVec E S2048x6272 .bf16 :=
  pad S2048x6272 ![0, 0] ![0, 112] ![0, 0] (truncf .bf16 w bitsLt_bf16_f32) (sitofp .bf16 (constantI S_ 32 0#32) : FVec E S_ .bf16) pads_S2048x6160_S2048x6272_000_01120 h_S_

/-- The cotangent with 112 lanes of zeros after its columns. -/
def padD (d : FVec E S8192x6160 .f32) : FVec E S8192x6272 .bf16 :=
  truncf .bf16 (pad S8192x6272 ![0, 0] ![0, 112] ![0, 0] d (sitofp .f32 (constantI S_ 32 0#32) : FVec E S_ .f32) pads_S8192x6160_S8192x6272_000_01120 h_S_) bitsLt_bf16_f32

def gainRow (g : FVec E S2048 .f32) : FVec E S1x2048 .f32 := broadcastInDim S1x2048 ![1] bcast_S2048_S1x2048_1 g

/-- What the host lines hand to the call. -/
structure Handed : Prop where
  v3 : V m c main_v3 = padW (argW m c)
  v1 : V m c main_v1 = padD (argD m c)
  v4 : V m c main_v4 = gainRow (argG m c)

theorem handed : Handed m c := by
  constructor <;> (simp only [V, hostOps0, hostOps0_1, hostOps0_2, hostOps0_3, hostOps0_4, List.flatten_cons, List.flatten_nil, List.append_nil, List.cons_append, List.nil_append, TRef.nullary, TRef.ternary, TRef.binary, TRef.unary, TRef.toBuf, TRef.ofBuf, cast_eq]; after_results_simp <;> rfl)

theorem gainRow_at (g : FVec E S2048 .f32) (z : Fin 1) (l : Fin 2048) : gainRow g (ix2 z l) = g (ix1 l) := by
  pointwise [gainRow]

theorem word_zero (i : S_.Idx) : (sitofp .f32 (constantI S_ 32 0#32) : FVec E S_ .f32) i = 0 := by
  show ((((0#32 : BitVec 32).toInt : ℤ) : ℝ) : EReal) = 0
  norm_num

theorem padW_at (w : FVec E S2048x6160 .f32) (k : Fin 2048) (l : Fin 6272) : padW w (ix2 k l) = if h : l.val < 6160 then w (ix2 k ⟨l.val, h⟩) else 0 := by
  unfold padW
  split
  · rename_i h
    exact pad_apply_of_inside _ _ _ _ _ _ _ (ix2 k l) (ix2 k ⟨l.val, h⟩) fun a => by
      match a with
      | ⟨0, _⟩ => show k.val = 0 + k.val * 1; omega
      | ⟨1, _⟩ => show l.val = 0 + l.val * 1; omega
  · rename_i h
    refine (pad_apply_of_not_inside _ _ _ _ _ _ _ (ix2 k l) 1 fun hh => h ?_).trans (word_zero _)
    have h2 : (l.val - 0) / (0 + 1) < 6160 := hh.2.2
    omega

theorem padD_at (d : FVec E S8192x6160 .f32) (r : Fin 8192) (l : Fin 6272) : padD d (ix2 r l) = if h : l.val < 6160 then d (ix2 r ⟨l.val, h⟩) else 0 := by
  unfold padD
  show pad S8192x6272 ![0, 0] ![0, 112] ![0, 0] d (sitofp .f32 (constantI S_ 32 0#32) : FVec E S_ .f32) pads_S8192x6160_S8192x6272_000_01120 h_S_ (ix2 r l) = _
  split
  · rename_i h
    exact pad_apply_of_inside _ _ _ _ _ _ _ (ix2 r l) (ix2 r ⟨l.val, h⟩) fun a => by
      match a with
      | ⟨0, _⟩ => show r.val = 0 + r.val * 1; omega
      | ⟨1, _⟩ => show l.val = 0 + l.val * 1; omega
  · rename_i h
    refine (pad_apply_of_not_inside _ _ _ _ _ _ _ (ix2 r l) 1 fun hh => h ?_).trans (word_zero _)
    have h2 : (l.val - 0) / (0 + 1) < 6160 := hh.2.2
    omega

variable (t : Fin cfg0.N) (a : Fin 512) (l : Fin 896) (k : Fin 2048) (z : Fin 1)

theorem lt112 : t.val < 112 := t.isLt

/-- Row `a` and column `l` of the block of point `t`. -/
def row : Fin 8192 := ⟨(t.val / 7) * 512 + a.val, by have := a.isLt; have := lt112 t; omega⟩
def col : Fin 6272 := ⟨(t.val % 7) * 896 + l.val, by have := l.isLt; omega⟩

theorem idx_0 : ∀ t : Fin grid0.N, win0_0.index t 0 = t.val / 7 ∧ win0_0.index t 1 = t.val % 7 := by decide +kernel
theorem idx_1 : ∀ t : Fin grid0.N, win0_1.index t 0 = 0 ∧ win0_1.index t 1 = t.val % 7 := by decide +kernel
theorem idx_2 : ∀ t : Fin grid0.N, win0_2.index t 0 = t.val / 7 ∧ win0_2.index t 1 = 0 := by decide +kernel
theorem idx_3 : ∀ t : Fin grid0.N, win0_3.index t 0 = 0 ∧ win0_3.index t 1 = 0 := by decide +kernel
theorem idx_4 : ∀ t : Fin grid0.N, win0_4.index t 0 = t.val / 7 ∧ win0_4.index t 1 = 0 := by decide +kernel
theorem idx_5 : ∀ t : Fin grid0.N, win0_5.index t 0 = t.val / 7 ∧ win0_5.index t 1 = 0 := by decide +kernel
theorem idx_6 : ∀ t : Fin grid0.N, win0_6.index t 0 = 0 ∧ win0_6.index t 1 = 0 := by decide +kernel

theorem iblk_0 : iblk m c 0 t (ix2 a l) = padD (argD m c) (ix2 (row t a) (col t l)) := by
  rw [← (handed m c).v1]
  unfold iblk
  rw [View.read_apply]
  show V m c main_v1 _ = _
  congr 1
  blk_ext [idx_0 t, row, col]

theorem iblk_1 : iblk m c 1 t (ix2 k l) = padW (argW m c) (ix2 k (col t l)) := by
  rw [← (handed m c).v3]
  unfold iblk
  rw [View.read_apply]
  show V m c main_v3 _ = _
  congr 1
  blk_ext [idx_1 t, col]

theorem iblk_2 : iblk m c 2 t (ix2 a k) = argX m c (ix2 (row t a) k) := by
  rw [show argX m c = V m c main_arg0 from (V_main_arg0 m c).symm]
  unfold iblk
  rw [View.read_apply]
  show V m c main_arg0 _ = _
  congr 1
  blk_ext [idx_2 t, row]

theorem iblk_3 : iblk m c 3 t (ix2 z k) = argG m c (ix1 k) := by
  rw [← gainRow_at (argG m c) z k, ← (handed m c).v4]
  unfold iblk
  rw [View.read_apply]
  show V m c main_v4 _ = _
  congr 1
  blk_ext [idx_3 t]

theorem iblk_4 : iblk m c 4 t (ix2 a k) = argR m c (ix2 (row t a) k) := by
  rw [show argR m c = V m c main_arg3 from (V_main_arg3 m c).symm]
  unfold iblk
  rw [View.read_apply]
  show V m c main_arg3 _ = _
  congr 1
  blk_ext [idx_4 t, row]

theorem pay1_at (i : S512x2048.Idx) : k0_pay1 (F := E) i = 0 := by
  pointwise [k0_pay1]

theorem pay2_at (o : FVec E S512x2048 .f32) (p : FVec E S512x896 .bf16) (q : FVec E S2048x896 .bf16) :
    k0_pay2 o p q (ix2 a k) = o (ix2 a k) + ∑ l : Fin 896, p (ix2 a l) * q (ix2 k l) := by
  pointwise [k0_pay2]

/-- The terms of one entry of the product with the transposed weight, zeros included. -/
def terms (d : FVec E S8192x6160 .f32) (w : FVec E S2048x6160 .f32) (r : Fin 8192) (k : Fin 2048) (j : Fin 6272) : EReal := padD d (ix2 r j) * padW w (ix2 k j)

/-- Row `a` of the `i`-th block of rows. -/
def rowOf (i : ℕ) (a : Fin 512) : Fin 8192 := ⟨(i * 512 + a.val) % 8192, Nat.mod_lt _ (by decide)⟩

theorem row_eq : row t a = rowOf (t.val / 7) a := Fin.ext (by
  have := a.isLt
  have := lt112 t
  exact (Nat.mod_eq_of_lt (by omega)).symm)

theorem step_at (o : FVec E S512x2048 .f32) :
    k0_pay2 o (iblk m c 0 t) (iblk m c 1 t) (ix2 a k) = o (ix2 a k) + ∑ b : Fin 896, ext (terms (argD m c) (argW m c) (rowOf (t.val / 7) a) k) (t.val % 7 * 896 + b.val) := by
  rw [pay2_at]
  refine congrArg _ (Finset.sum_congr rfl fun b _ => ?_)
  refine Eq.trans ?_ (ext_val (terms (argD m c) (argW m c) (rowOf (t.val / 7) a) k) (col t b)).symm
  rw [iblk_0, iblk_1, row_eq]
  rfl

/-- The product of a block of rows is complete at the last point of its run. -/
theorem done_at (h7 : t.val % 7 = 6) : done m c t (ix2 a k) = ∑ j : Fin 6272, terms (argD m c) (argW m c) (row t a) k j := by
  have h := run_before (K := 6272) (T := 896) (N := cfg0.N) (P := 7) (fun i => terms (argD m c) (argW m c) (rowOf i a) k)
    (fun n hn => (outsAt0 m c n hn).1 (ix2 a k))
    (fun n hn h0 => by
      have e := outs_A m c ⟨n, hn⟩ h0 (by show ¬n % 7 = 6; omega)
      show (outsAt0 m c n hn).1 (ix2 a k) = _
      rw [show (outsAt0 m c n hn).1 = _ from e, step_at, pay1_at, zero_add])
    (fun n hn hp h0 h7 => by
      have e := outs_B m c ⟨n, hn⟩ h0 h7
      show (outsAt0 m c n hn).1 (ix2 a k) = _
      rw [show (outsAt0 m c n hn).1 = _ from e]
      exact step_at m c ⟨n, hn⟩ a k _)
    t.val (prev_lt t) t.isLt (by omega)
  refine (step_at m c t a k _).trans ?_
  rw [show (outsAt0 m c (prev t) (prev_lt t)).1 (ix2 a k) = _ from h, ← upto_block, ← row_eq, h7]
  exact upto_all _

end host

section real
variable (m : (ℓ : Loc nD τ sig) → Buf (Elt E) ℓ) (c : Dev nD)
  (x : S8192x2048.Idx → ℝ) (g : S2048.Idx → ℝ) (w : S2048x6160.Idx → ℝ) (d : S8192x6160.Idx → ℝ)
  (hx : argX m c = up x) (hg : argG m c = up g) (hw : argW m c = up w) (hd : argD m c = up d)
  (t : Fin cfg0.N) (a : Fin 512) (k : Fin 2048) (z : Fin 1)

/-- The gradient of the normalised rows. -/
def back (d : S8192x6160.Idx → ℝ) (w : S2048x6160.Idx → ℝ) (r : Fin 8192) (k : Fin 2048) : ℝ := ∑ j : Fin 6160, d (ix2 r j) * w (ix2 k j)

include hw hd in
/-- The zeros add nothing. -/
theorem terms_sum (r : Fin 8192) : ∑ j : Fin 6272, terms (argD m c) (argW m c) r k j = (back d w r k : EReal) := by
  unfold back
  rw [coe_sum, ← upto_all]
  unfold upto
  rw [show Finset.range 6272 = Finset.range (6160 + 112) from congrArg _ (by norm_num), Finset.sum_range_add, Finset.sum_eq_zero (s := Finset.range 112), add_zero, ← Fin.sum_univ_eq_sum_range]
  · refine Finset.sum_congr rfl fun j _ => ?_
    refine (ext_val (terms (argD m c) (argW m c) r k) ⟨j.val, Nat.lt_of_lt_of_le j.isLt (by decide)⟩).trans ?_
    unfold terms
    rw [padD_at, padW_at, dif_pos j.isLt, dif_pos j.isLt, hd, hw, EReal.coe_mul]
  · intro i hi
    have hi := Finset.mem_range.mp hi
    refine (ext_val (terms (argD m c) (argW m c) r k) ⟨6160 + i, by show 6160 + i < 6272; omega⟩).trans ?_
    unfold terms
    rw [padD_at, padW_at, dif_neg (by show ¬6160 + i < 6160; omega), dif_neg (by show ¬6160 + i < 6160; omega), mul_zero]

include hw hd in
theorem done_real (h7 : t.val % 7 = 6) : done m c t (ix2 a k) = (back d w (row t a) k : EReal) := by
  rw [done_at m c t a k h7]
  exact terms_sum m c w d hw hd k _

include hx in
theorem x_real : iblk m c 2 t (ix2 a k) = (NormBack.xrow x (row t a) k : EReal) := by
  rw [iblk_2, hx]
  rfl

include hg in
theorem g_real : iblk m c 3 t (ix2 0 k) = ((g (ix1 k) : ℝ) : EReal) := by
  rw [iblk_3, hg]

include hx hg hw hd in
/-- What a run's last point leaves of its rows. -/
theorem rows_at (h7 : t.val % 7 = 6) : (outsAt0 m c t.val t.isLt).1 (ix2 a k) = NormBack.arrX (back d w) x g (argR m c) (ix2 (row t a) k) := by
  obtain ⟨q, b, rfl⟩ := split_row a
  have e : newRows (iblk m c 2 t) (iblk m c 3 t) (iblk m c 4 t) q (Rows.part q (done m c t)) (ix2 b k) = NormBack.arrX (back d w) x g (argR m c) (ix2 (row t (Rows.row q b)) k) := by
    rw [NormRows.newRows_real (done m c t) (iblk m c 2 t) (iblk m c 4 t) (iblk m c 3 t) q b k (fun a k => back d w (row t a) k) (fun a k => NormBack.xrow x (row t a) k) (fun k => g (ix1 k))
      (fun a k => done_real m c w d hw hd t a k h7) (fun a k => x_real m c x hx t a k) (fun k => g_real m c g hg t k), iblk_4]
    rfl
  by_cases h : t.val < 7
  · exact (outs_C m c t (by omega) h7 h (by omega) q b k).trans e
  · exact (outs_D m c t (by omega) h7 h (by omega) q b k).trans e

include hx hw hd in
/-- The part of a block of rows of the gain's gradient. -/
theorem part_at (h7 : t.val % 7 = 6) : carried (iblk m c 2 t) (done m c t) k0_pay3 (ix2 z k)
    = ((∑ b : Fin 512, ext (NormBack.partG (back d w) x k) (t.val / 7 * 512 + b.val) : ℝ) : EReal) := by
  refine (NormRows.carried_real (done m c t) (iblk m c 2 t) k z (fun a k => back d w (row t a) k) (fun a k => NormBack.xrow x (row t a) k)
    (fun a k => done_real m c w d hw hd t a k h7) (fun a k => x_real m c x hx t a k)).trans ?_
  refine congrArg _ (Finset.sum_congr rfl fun b _ => ?_)
  exact (ext_val (NormBack.partG (back d w) x k) (row t b)).symm

include hx hw hd in
/-- The gain's gradient after the runs so far. -/
theorem gain_at (n : ℕ) (hn : n < cfg0.N) (h : 6 ≤ n) : (outsAt0 m c n hn).2 (ix2 z k) = ((upto (NormBack.partG (back d w) x k) ((n + 1) / 7 * 512) : ℝ) : EReal) := by
  refine runs_sum (T := 512) (P := 7) (by decide) (NormBack.partG (back d w) x k) (fun n hn => (outsAt0 m c n hn).2 (ix2 z k)) (fun n hn h7 h8 => ?_) (fun n hn hp h7 h8 => ?_) (fun n hn hp h7 => ?_) n hn h
  · have h7 : n % 7 = 6 := h7
    show (outsAt0 m c n hn).2 (ix2 z k) = _
    rw [show (outsAt0 m c n hn).2 = _ from outs_C2 m c ⟨n, hn⟩ (by show ¬n % 7 = 0; omega) h7 h8 (by show ¬7 ≤ n; omega)]
    exact part_at m c x w d hx hw hd ⟨n, hn⟩ k z h7
  · have h7 : n % 7 = 6 := h7
    show (outsAt0 m c n hn).2 (ix2 z k) = _
    rw [show (outsAt0 m c n hn).2 = _ from outs_D2 m c ⟨n, hn⟩ (by show ¬n % 7 = 0; omega) h7 h8 (by show 7 ≤ n; omega)]
    refine (NormRows.sum_at _ _ _).trans ?_
    rw [part_at m c x w d hx hw hd ⟨n, hn⟩ k z h7]
  · have h7 : ¬n % 7 = 6 := h7
    show (outsAt0 m c n hn).2 (ix2 z k) = _
    by_cases h0 : n % 7 = 0
    · rw [show (outsAt0 m c n hn).2 = _ from outs_A2 m c ⟨n, hn⟩ h0 h7]
    · rw [show (outsAt0 m c n hn).2 = _ from outs_B2 m c ⟨n, hn⟩ h0 h7]

include hx hg hw hd in
/-- The first result: the residual plus the gradient of the layer's input. -/
theorem final_5 : (dats m 0 c).arrAt 5 cfg0.N = NormBack.arrX (back d w) x g (argR m c) := by
  refine (dats m 0 c).arrAt_eq_of_cover 5 _ (fun t hf => ?_) (fun (i : S8192x2048.Idx) => ?_)
  · show (cfg0.win 5).cut (grid0.coords t) ((dats m 0 c).after 5 t) = _
    rw [after0_5]
    funext j
    rw [View.read_apply]
    obtain ⟨a, l, rfl⟩ : ∃ (a : Fin 512) (l : Fin 2048), j = ix2 a l := ⟨j 0, j 1, (ix2_eta j).symm⟩
    refine (rows_at m c x g w d hx hg hw hd t a l ((flush0_5 t).mp hf)).trans ?_
    have e : ((cfg0.win 5).blk t).view.emb (ix2 a l) = ix2 (row t a) l := by
      funext b
      apply Fin.ext
      match b with
      | ⟨0, _⟩ => show win0_5.index t 0 * 512 + 1 * a.val = t.val / 7 * 512 + a.val; rw [(idx_5 t).1]; omega
      | ⟨1, _⟩ => show win0_5.index t 1 * 2048 + 1 * l.val = l.val; rw [(idx_5 t).2]; omega
    rw [e]
    rfl
  · have h0 : (i 0).val < 8192 := (i 0).isLt
    have h1 : (i 1).val < 2048 := (i 1).isLt
    obtain ⟨t, ht⟩ : ∃ t : Fin cfg0.N, t.val = (i 0).val / 512 * 7 + 6 := ⟨⟨(i 0).val / 512 * 7 + 6, by show _ < 112; omega⟩, rfl⟩
    refine ⟨t, (flush0_5 _).mpr (by rw [ht]; omega), ?_⟩
    show i ∈ ((View.whole main_v5_0).slice (win0_5.rect t)).set
    rw [View.set_slice_whole, Rect.mem_set_unit]
    intro b
    match b with
    | ⟨0, _⟩ =>
      show win0_5.index _ 0 * 512 ≤ (i 0).val ∧ (i 0).val < win0_5.index _ 0 * 512 + 512
      rw [(idx_5 _).1]; omega
    | ⟨1, _⟩ =>
      show win0_5.index _ 1 * 2048 ≤ (i 1).val ∧ (i 1).val < win0_5.index _ 1 * 2048 + 2048
      rw [(idx_5 _).2]; omega

include hx hw hd in
/-- The second result: the gradient of the norm's gain. -/
theorem final_6 : (dats m 0 c).arrAt 6 cfg0.N = NormBack.arrG (back d w) x := by
  refine (dats m 0 c).arrAt_eq_of_cover 6 _ (fun t hf => ?_) (fun (i : S1x2048.Idx) => ?_)
  · have ht : t.val = 111 := by
      have := (flush0_6 t).mp hf
      have := lt112 t
      omega
    show (cfg0.win 6).cut (grid0.coords t) ((dats m 0 c).after 6 t) = _
    rw [after0_6]
    funext j
    rw [View.read_apply]
    obtain ⟨a, l, rfl⟩ : ∃ (a : Fin 1) (l : Fin 2048), j = ix2 a l := ⟨j 0, j 1, (ix2_eta j).symm⟩
    refine (gain_at m c x w d hx hw hd l a t.val t.isLt (by omega)).trans ?_
    have e : ((cfg0.win 6).blk t).view.emb (ix2 a l) = ix2 a l := by
      funext b
      apply Fin.ext
      match b with
      | ⟨0, _⟩ => show win0_6.index t 0 * 1 + 1 * a.val = a.val; rw [(idx_6 _).1]; omega
      | ⟨1, _⟩ => show win0_6.index t 1 * 2048 + 1 * l.val = l.val; rw [(idx_6 _).2]; omega
    rw [e, show (t.val + 1) / 7 * 512 = 8192 from by omega, upto_all]
    rfl
  · obtain ⟨t, ht⟩ : ∃ t : Fin cfg0.N, t.val = 111 := ⟨⟨111, by decide⟩, rfl⟩
    refine ⟨t, (flush0_6 _).mpr (by rw [ht]), ?_⟩
    have h0 : (i 0).val < 1 := (i 0).isLt
    have h1 : (i 1).val < 2048 := (i 1).isLt
    show i ∈ ((View.whole main_v5_1).slice (win0_6.rect t)).set
    rw [View.set_slice_whole, Rect.mem_set_unit]
    intro a
    match a with
    | ⟨0, _⟩ =>
      show win0_6.index _ 0 * 1 ≤ (i 0).val ∧ (i 0).val < win0_6.index _ 0 * 1 + 1
      rw [(idx_6 _).1]; omega
    | ⟨1, _⟩ =>
      show win0_6.index _ 1 * 2048 ≤ (i 1).val ∧ (i 1).val < win0_6.index _ 1 * 2048 + 2048
      rw [(idx_6 _).2]; omega

end real

end Cert.DinIdeal.Bwd

end
-- ==== Proof.DinClaims.lean ====
/- The claims about the input projection's input gradient. -/
module

public import proofs.«01_k».proof.Defs
public import proofs.«01_k».proof.Proof.DinValue
public import proofs.«01_k».proof.Proof.Gen.DinRefIdeal.Read
public import proofs.«01_k».proof.Proof.Gen.Pre_din_finite
public import Idealize.ShloMosaic.Lib.Quiescent

@[expose] public section

set_option maxRecDepth 16384

noncomputable section

namespace Cert.DinRefIdeal.Bwd

open Cert.DinRefIdeal Cert.DinRefIdeal.Gen
open Idealize.ShloMosaic Idealize.ShloMosaic.TcCoe Idealize.SL.Sem Idealize.ShloMosaic.Tactic
open Cert.Lift Cert.Sums Cert.DinIdeal.Bwd

local notation "E" => Idealize.ShloMosaic.Ideal

section nodes
variable (x0 : (⟨S8192x2048, .f32⟩ : BufTy).Contents (Elt E)) (x1 : (⟨S2048, .f32⟩ : BufTy).Contents (Elt E)) (x2 : (⟨S2048x6160, .f32⟩ : BufTy).Contents (Elt E))
  (x3 : (⟨S8192x2048, .f32⟩ : BufTy).Contents (Elt E)) (x4 : (⟨S8192x6160, .f32⟩ : BufTy).Contents (Elt E))

theorem product_at (r : Fin 8192) (k : Fin 2048) : Read.val_main_v17 (F := E) x2 x4 (ix2 r k) = ∑ j : Fin 6160, x4 (ix2 r j) * x2 (ix2 k j) := by
  pointwise [Read.val_main_v17]

theorem v38_rows : Read.val_main_v38 (F := E) x0 x1 x2 x3 x4 = NormBack.rows x0 x1 (Read.val_main_v17 (F := E) x2 x4) x3 := rfl
theorem v39_gain : Read.val_main_v39 (F := E) x0 x2 x4 = NormBack.gain x0 (Read.val_main_v17 (F := E) x2 x4) := rfl

variable (x : S8192x2048.Idx → ℝ) (g : S2048.Idx → ℝ) (w : S2048x6160.Idx → ℝ) (d : S8192x6160.Idx → ℝ)
  (h0 : x0 = up x) (h1 : x1 = up g) (h2 : x2 = up w) (h4 : x4 = up d)

include h2 h4 in
theorem product_real (r : Fin 8192) (k : Fin 2048) : Read.val_main_v17 (F := E) x2 x4 (ix2 r k) = (back d w r k : EReal) := by
  rw [product_at]
  unfold back
  rw [coe_sum, h2, h4]
  rfl

include h0 h1 h2 h4 in
/-- The reference's two results, its arguments but the residual being arrays of reals. -/
theorem ref_eq : Read.val_main_v38 (F := E) x0 x1 x2 x3 x4 = NormBack.arrX (back d w) x g x3 ∧ Read.val_main_v39 (F := E) x0 x2 x4 = NormBack.arrG (back d w) x :=
  ⟨(v38_rows x0 x1 x2 x3 x4).trans (NormBack.rows_eq (back d w) x g x0 x1 _ x3 h0 h1 (product_real x2 x4 w d h2 h4)),
   (v39_gain x0 x2 x4).trans (NormBack.gain_eq (back d w) x x0 _ h0 (product_real x2 x4 w d h2 h4))⟩

end nodes

end Cert.DinRefIdeal.Bwd

namespace Cert.Proof

open Idealize.ShloMosaic Idealize.SL.Sem Cert.Lift Cert.Sums

set_option maxHeartbeats 2000000 in
/-- Kernel and reference compute the same input gradient and the same gain's gradient, where the rows, the gain, the weight and the cotangent are finite. -/
theorem algebraic_din : Cert.algebraic_DinIdeal_DinRefIdeal_pre_din_finite := by
  intro m ρ m' ρ' hpre hargs
  refine ⟨fun c => (Cert.DinIdeal.Gen.dats m 0 c).arrAt 5 Cert.DinIdeal.cfg0.N, fun c => (Cert.DinIdeal.Gen.dats m 0 c).arrAt 6 Cert.DinIdeal.cfg0.N, Cert.DinIdeal.Value.run_blocks m ρ, ?_⟩
  refine (θ_run Cert.DinRefIdeal.defs _ _).mono (fun r h c => ?_) (Cert.DinRefIdeal.Value.run m' ρ')
  obtain ⟨e0, e1, e2, e3, e4⟩ := hargs c
  obtain ⟨f0, f1, f2, f4⟩ := hpre c
  obtain ⟨x, hx⟩ := reals_of_finite _ _ f0
  obtain ⟨g, hg⟩ := reals_of_finite _ _ f1
  obtain ⟨w, hw⟩ := reals_of_finite _ _ f2
  obtain ⟨d, hd⟩ := reals_of_finite _ _ f4
  obtain ⟨r0, r1⟩ := Cert.DinRefIdeal.Bwd.ref_eq _ _ _ (m' ((c.tc : Thread Cert.DinRefIdeal.nD Cert.DinRefIdeal.τ).loc Cert.DinRefIdeal.main_arg3)) _ x g w d (e0.trans hx) (e1.trans hg) (e2.trans hw) (e4.trans hd)
  obtain ⟨p0, p1, p2⟩ := h c
  have q0 := Cert.DinIdeal.Bwd.final_5 m c x g w d hx hg hw hd
  have q1 := Cert.DinIdeal.Bwd.final_6 m c x w d hx hw hd
  refine ⟨?_, ?_, p2⟩
  · refine (p0.trans (Cert.DinRefIdeal.Read.val_main_v38_eq m' c)).trans (r0.trans (Eq.trans ?_ q0.symm))
    rw [e3]
  · exact (p1.trans (Cert.DinRefIdeal.Read.val_main_v39_eq _ _ _)).trans (r1.trans q1.symm)

theorem frame_dinRef : Cert.quiescent_DinRefIdeal := fun m ρ _ =>
  (θ_run Cert.DinRefIdeal.defs _ _).mono (fun r h => ⟨fun c => (h c).2.2, sem_eq_zero_of_no_sems (by decide) r.2⟩) (Cert.DinRefIdeal.Value.run (F := Ideal) m ρ)

theorem frame_dinRef_pre : Cert.quiescent_DinRefIdeal_pre_din_finite := fun m ρ _ => frame_dinRef m ρ trivial

end Cert.Proof

end
-- ==== Proof.DeltaValue.lean ====
/- The row sums of the attention's output times its cotangent: what a grid point leaves, the array, the host lines before. -/
module

public import proofs.«01_k».proof.Proof.Gen.DeltaIdeal.Value
public import proofs.«01_k».proof.Proof.Gen.DeltaRefIdeal.Read
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pointwise

@[expose] public section

set_option maxRecDepth 16384

noncomputable section

namespace Cert.DeltaIdeal.Bwd

open Cert.DeltaIdeal Cert.DeltaIdeal.Gen
open Idealize.ShloMosaic Idealize.ShloMosaic.TcCoe Idealize.ShloMosaic.Tactic Idealize.ShloMosaic.StableHlo

local notation "E" => Idealize.ShloMosaic.Ideal

/-- Lane `l` of head `h` among 16 heads of 128 lanes. -/
def lane (h : ℕ) (l : Fin 128) : Fin 2048 := ⟨(128 * h + l.val) % 2048, Nat.mod_lt _ (by decide)⟩

/-- The lanes of one head of a block of rows. -/
def part (X : Vec E S256x2048 .bf16) (h : ℕ) : Vec E S256x128 .bf16 := fun i => X (ix2 (i 0) (lane h (i 1)))

theorem ld_part (X : Vec E S256x2048 .bf16) (o h : ℕ) (hh : o = 128 * h) (inb : _) : View.ld (Val := Elt E) X (Rect.unit (s := S256x2048) ![0, o] ![256, 128] inb) = part X h := by
  have hb : o + 128 ≤ 2048 := inb 1
  funext i
  have hl : (i 1).val < 128 := (i 1).isLt
  refine (View.ld_unit_apply_of X ![0, o] ![256, 128] inb i (ix2 (i 0) (lane h (i 1))) ?_).trans rfl
  intro b
  match b with
  | ⟨0, _⟩ => show (i 0).val = 0 + (i 0).val; omega
  | ⟨1, _⟩ => show (128 * h + (i 1).val) % 2048 = o + (i 1).val; omega

/-- The row sums of `x * y` placed into column `n` of `p`. -/
def put (n : BitVec 32) (x y : Vec E S256x128 .bf16) (p : FVec E S256x128 .f32) : FVec E S256x128 .f32 :=
  select (cmpi .eq (iota .tc S256x128 32 [1] iota_S256x128_d1_w32) (broadcast S256x128 n))
    (broadcastTo S256x128 (shapeCast S256x1 (k0_pay3 x y) shapeCasts_S256x1_S256x1) broadcasts_S256x1_S256x128) p

variable (a : Fin 256) (l : Fin 128)

theorem sum_at (x y : Vec E S256x128 .bf16) : k0_pay3 (F := E) x y (ix2 a (0 : Fin 1)) = ∑ k : Fin 128, x (ix2 a k) * y (ix2 a k) := by
  pointwise [k0_pay3]

theorem put_at (h : ℕ) (hh : h < 16) (x y : Vec E S256x128 .bf16) (p : FVec E S256x128 .f32) :
    put (BitVec.ofNat 32 h) x y p (ix2 a l) = if l.val = h then ∑ k : Fin 128, x (ix2 a k) * y (ix2 a k) else p (ix2 a l) := by
  rw [← sum_at]
  unfold put
  generalize k0_pay3 (F := E) x y = s
  pointwise
  have hl := l.isLt
  have e : BitVec.ofNat 32 l.val = BitVec.ofNat 32 h ↔ l.val = h := by
    rw [← BitVec.toNat_inj, BitVec.toNat_ofNat, BitVec.toNat_ofNat, Nat.mod_eq_of_lt (by omega), Nat.mod_eq_of_lt (by omega)]
  by_cases hc : l.val = h
  · rw [if_pos hc, hc]
    simp [Scalar.select, IntOp.cmpi]
  · rw [if_neg hc]
    have hn : (BitVec.ofNat 32 l.val == BitVec.ofNat 32 h) = false := beq_eq_false_iff_ne.mpr fun hh => hc (e.mp hh)
    simp [Scalar.select, IntOp.cmpi, hn]

/-- The first `n` columns filled in. -/
def filled (X Y : Vec E S256x2048 .bf16) : ℕ → FVec E S256x128 .f32
  | 0 => broadcast S256x128 (Scalar.ofBits (F := E) .f32 0x00000000#32)
  | n + 1 => put (BitVec.ofNat 32 n) (part X n) (part Y n) (filled X Y n)

theorem filled_at (X Y : Vec E S256x2048 .bf16) (n : ℕ) (hn : n ≤ 16) :
    filled X Y n (ix2 a l) = if l.val < n then ∑ k : Fin 128, X (ix2 a (lane l.val k)) * Y (ix2 a (lane l.val k)) else 0 := by
  induction n with
  | zero => exact Idealize.ShloMosaic.Ideal.ofBits_zero_f32
  | succ n ih =>
    refine (put_at a l n (by omega) _ _ _).trans ?_
    rw [ih (by omega)]
    by_cases h : l.val = n
    · rw [if_pos h, if_pos (by omega), h]
      rfl
    · rw [if_neg h]
      by_cases h1 : l.val < n
      · rw [if_pos h1, if_pos (by omega)]
      · rw [if_neg h1, if_neg (by omega)]

/-- What a grid point leaves: the sixteen row sums, then zeros. -/
theorem out_eq (X Y : Vec E S256x2048 .bf16) : out0_2 X Y = filled X Y 16 := by
  unfold out0_2
  rw [View.canon_cons_unit_lit _ _ _ (by decide)]
  simp only [r0_0, r0_1, r0_2, r0_3, r0_4, r0_5, r0_6, r0_7, r0_8, r0_9, r0_10, r0_11, r0_12, r0_13, r0_14, r0_15, ld_part _ 0 0 rfl, ld_part _ 128 1 rfl, ld_part _ 256 2 rfl, ld_part _ 384 3 rfl, ld_part _ 512 4 rfl, ld_part _ 640 5 rfl, ld_part _ 768 6 rfl, ld_part _ 896 7 rfl, ld_part _ 1024 8 rfl, ld_part _ 1152 9 rfl, ld_part _ 1280 10 rfl, ld_part _ 1408 11 rfl, ld_part _ 1536 12 rfl, ld_part _ 1664 13 rfl, ld_part _ 1792 14 rfl, ld_part _ 1920 15 rfl]
  rfl

variable (m : (ℓ : Loc nD τ sig) → Buf (Elt E) ℓ) (c : Dev nD)

abbrev argQ : FVec E S8192x2048 .f32 := m ((c : Thread nD τ).loc main_arg0)
abbrev argK : FVec E S8192x2048 .f32 := m ((c : Thread nD τ).loc main_arg1)
abbrev argV : FVec E S8192x2048 .f32 := m ((c : Thread nD τ).loc main_arg2)
abbrev argC : FVec E S16x8192 .f32 := m ((c : Thread nD τ).loc main_arg3)
abbrev argW : FVec E S8192x2048 .f32 := m ((c : Thread nD τ).loc main_arg4)

/-- The attention's output, by the host lines that the reference has too. -/
abbrev attn : FVec E S8192x2048 .f32 := Cert.DeltaRefIdeal.Read.val_main_v34 (F := E) (argQ m c) (argK m c) (argV m c) (argC m c)

set_option maxHeartbeats 1000000 in
theorem V_v34 : V m c main_v34 = truncf FTy.bf16 (attn m c) bitsLt_bf16_f32 := by
  simp only [V, hostOps0, hostOps0_1, hostOps0_2, List.flatten_cons, List.flatten_nil, List.append_nil, List.cons_append, List.nil_append, TRef.nullary, TRef.ternary, TRef.unary, TRef.toBuf, TRef.ofBuf, cast_eq]
  after_results_simp <;> rfl

theorem V_v35 : V m c main_v35 = truncf FTy.bf16 (argW m c) bitsLt_bf16_f32 := by
  simp only [V, hostOps0, hostOps0_1, hostOps0_2, List.flatten_cons, List.flatten_nil, List.append_nil, List.cons_append, List.nil_append, TRef.nullary, TRef.ternary, TRef.unary, TRef.toBuf, TRef.ofBuf, cast_eq]
  after_results_simp <;> rfl

variable (t : Fin cfg0.N) (k : Fin 2048)

theorem lt32 : t.val < 32 := t.isLt

/-- Row `a` of block `t`. -/
def row : Fin 8192 := ⟨t.val * 256 + a.val, by have := a.isLt; have := lt32 t; omega⟩

theorem idx_0 : ∀ t : Fin grid0.N, win0_0.index t 0 = t.val ∧ win0_0.index t 1 = 0 := by decide +kernel
theorem idx_1 : ∀ t : Fin grid0.N, win0_1.index t 0 = t.val ∧ win0_1.index t 1 = 0 := by decide +kernel
theorem idx_2 : ∀ t : Fin grid0.N, win0_2.index t 0 = t.val ∧ win0_2.index t 1 = 0 := by decide +kernel

theorem iblk_0 : iblk m c 0 t (ix2 a k) = attn m c (ix2 (row a t) k) := by
  refine Eq.trans ?_ (congrFun (V_v34 m c) (ix2 (row a t) k))
  unfold iblk
  rw [View.read_apply]
  show V m c main_v34 _ = _
  congr 1
  blk_ext [idx_0 t, row]

theorem iblk_1 : iblk m c 1 t (ix2 a k) = argW m c (ix2 (row a t) k) := by
  refine Eq.trans ?_ (congrFun (V_v35 m c) (ix2 (row a t) k))
  unfold iblk
  rw [View.read_apply]
  show V m c main_v35 _ = _
  congr 1
  blk_ext [idx_1 t, row]

/-- The row sums of the output times its cotangent, one column a head, then zeros. -/
def rowSums (o w : FVec E S8192x2048 .f32) : FVec E S8192x128 .f32 := fun i =>
  if (i 1).val < 16 then ∑ k : Fin 128, o (ix2 (i 0) (lane (i 1).val k)) * w (ix2 (i 0) (lane (i 1).val k)) else 0

theorem rows_at : out0_2 (iblk m c 0 t) (iblk m c 1 t) (ix2 a l) = rowSums (attn m c) (argW m c) (ix2 (row a t) l) := by
  rw [out_eq, filled_at a l _ _ 16 le_rfl]
  simp only [iblk_0, iblk_1]
  rfl

/-- The result of the call. -/
theorem final : (dats m 0 c).arrAt 2 cfg0.N = rowSums (attn m c) (argW m c) := by
  refine (dats m 0 c).arrAt_eq_of_cover 2 _ (fun t hf => ?_) (fun (i : S8192x128.Idx) => ?_)
  · show (cfg0.win 2).cut (grid0.coords t) ((dats m 0 c).after 2 t) = _
    rw [after0_2]
    funext j
    rw [View.read_apply]
    obtain ⟨a, l, rfl⟩ : ∃ (a : Fin 256) (l : Fin 128), j = ix2 a l := ⟨j 0, j 1, (ix2_eta j).symm⟩
    refine (rows_at a l m c t).trans ?_
    have e : ((cfg0.win 2).blk t).view.emb (ix2 a l) = ix2 (row a t) l := by
      funext b
      apply Fin.ext
      match b with
      | ⟨0, _⟩ => show win0_2.index t 0 * 256 + 1 * a.val = t.val * 256 + a.val; rw [(idx_2 t).1]; omega
      | ⟨1, _⟩ => show win0_2.index t 1 * 128 + 1 * l.val = l.val; rw [(idx_2 t).2]; omega
    rw [e]
    rfl
  · have h0 : (i 0).val < 8192 := (i 0).isLt
    have h1 : (i 1).val < 128 := (i 1).isLt
    obtain ⟨t, ht⟩ : ∃ t : Fin cfg0.N, t.val = (i 0).val / 256 := ⟨⟨(i 0).val / 256, by show _ < 32; omega⟩, rfl⟩
    refine ⟨t, flush0_2 _, ?_⟩
    show i ∈ ((View.whole main_v36).slice (win0_2.rect t)).set
    rw [View.set_slice_whole, Rect.mem_set_unit]
    intro b
    match b with
    | ⟨0, _⟩ =>
      show win0_2.index _ 0 * 256 ≤ (i 0).val ∧ (i 0).val < win0_2.index _ 0 * 256 + 256
      rw [(idx_2 _).1]; omega
    | ⟨1, _⟩ =>
      show win0_2.index _ 1 * 128 ≤ (i 1).val ∧ (i 1).val < win0_2.index _ 1 * 128 + 128
      rw [(idx_2 _).2]; omega

end Cert.DeltaIdeal.Bwd

end
-- ==== Proof.DeltaRef.lean ====
/- The gradient of a factor of each head's row of the attention's output, as the reference computes it. -/
module

public import proofs.«01_k».proof.Proof.DeltaValue
public import Idealize.ShloMosaic.Lib.KernelVsHost

@[expose] public section

set_option maxRecDepth 16384

noncomputable section

namespace Cert.DeltaRefIdeal.Bwd

open Cert.DeltaRefIdeal Cert.DeltaRefIdeal.Gen
open Idealize.ShloMosaic Idealize.ShloMosaic.TcCoe Idealize.ShloMosaic.Tactic Idealize.ShloMosaic.StableHlo
open Cert.DeltaIdeal.Bwd (lane rowSums)

local notation "E" => Idealize.ShloMosaic.Ideal

variable (x0 x1 x2 : FVec E S8192x2048 .f32) (x3 : FVec E S16x8192 .f32) (x4 : FVec E S8192x2048 .f32)
variable (r : Fin 8192) (h : Fin 16) (k : Fin 128) (l : Fin 128)

/-- Columns read as heads of lanes. -/
theorem split_at (x : FVec E S8192x2048 .f32) : shapeCast S8192x16x128 x shapeCasts_S8192x2048_S8192x16x128 (ix3 r h k) = x (ix2 r (lane h.val k)) := by
  refine shapeCast_apply x _ (ix3 r h k) (ix2 r (lane h.val k)) ?_
  rewrite [Shape.rowMajor_val_two, Shape.rowMajor_val_three]
  have hh := h.isLt
  have hk := k.isLt
  show r.val * 2048 + (128 * h.val + k.val) % 2048 = (r.val * 16 + h.val) * 128 + k.val
  omega

theorem prod_at : Read.val_main_v41 (F := E) x0 x1 x2 x3 x4 (ix3 r h k)
    = Read.val_main_v34 (F := E) x0 x1 x2 x3 (ix2 r (lane h.val k)) * x4 (ix2 r (lane h.val k)) := by
  rw [Read.val_main_v41_apply]
  unfold Read.val_main_v35 Read.val_main_v40
  generalize Read.val_main_v34 (F := E) x0 x1 x2 x3 = y
  rw [split_at, split_at]
  rfl

theorem sum_at : Read.val_main_v44 (F := E) x0 x1 x2 x3 x4 (ix2 r h)
    = ∑ k : Fin 128, Read.val_main_v34 (F := E) x0 x1 x2 x3 (ix2 r (lane h.val k)) * x4 (ix2 r (lane h.val k)) := by
  rw [Read.val_main_v44_apply, Fin.sum_univ_one, Read.val_main_v43_apply, Read.val_main_v42_apply]
  rw [show (Read.val_main_cst_6 (F := E)) (Shape.Idx.first h_S_) = 0 from Idealize.ShloMosaic.Ideal.ofBits_zero_f32,
    show (Read.val_main_cst_5 (F := E)) (Shape.Idx.first h_S_) = 0 from Idealize.ShloMosaic.Ideal.ofBits_zero_f32, zero_add, zero_add]
  refine Finset.sum_congr rfl fun k _ => Eq.trans (congrArg _ ?_) (prod_at x0 x1 x2 x3 x4 r h k)
  have hh := h.isLt
  have hk := k.isLt
  funext b
  apply Fin.ext
  match b with
  | ⟨0, _⟩ => show ((r.val * 16 + h.val) * 1 + 0) / 16 = r.val; omega
  | ⟨1, _⟩ => show ((r.val * 16 + h.val) * 1 + 0) % 16 = h.val; omega
  | ⟨2, _⟩ => rfl

theorem int_zero (i : S_.Idx) : Read.val_main_call1_v0 (F := E) i = 0 := by
  show ((((0#32 : BitVec 32).toInt : ℤ) : ℝ) : EReal) = 0
  norm_num

/-- The reference's result: the row sums of the output times its cotangent. -/
theorem ref_eq : Read.val_main_v45 (F := E) x0 x1 x2 x3 x4 = rowSums (Read.val_main_v34 (F := E) x0 x1 x2 x3) x4 := by
  funext i
  obtain ⟨r, l, rfl⟩ : ∃ (r : Fin 8192) (l : Fin 128), i = ix2 r l := ⟨i 0, i 1, (ix2_eta i).symm⟩
  unfold Read.val_main_v45
  by_cases hl : l.val < 16
  · refine Eq.trans ?_ (if_pos hl).symm
    refine Eq.trans ?_ (sum_at x0 x1 x2 x3 x4 r ⟨l.val, hl⟩)
    exact pad_apply_of_inside _ _ _ _ _ _ _ (ix2 r l) (ix2 r ⟨l.val, hl⟩) fun a => by
      match a with
      | ⟨0, _⟩ => show r.val = 0 + r.val * 1; omega
      | ⟨1, _⟩ => show l.val = 0 + l.val * 1; omega
  · refine Eq.trans ?_ (if_neg hl).symm
    refine (pad_apply_of_not_inside _ _ _ _ _ _ _ (ix2 r l) 1 fun hh => hl ?_).trans (int_zero _)
    have h2 : (l.val - 0) / (0 + 1) < 16 := hh.2.2
    rw [Nat.div_one] at h2
    omega

end Cert.DeltaRefIdeal.Bwd

end
-- ==== Proof.DeltaClaims.lean ====
/- The claims about the row sums of the attention's output times its cotangent. -/
module

public import proofs.«01_k».proof.Defs
public import proofs.«01_k».proof.Proof.DeltaRef
public import proofs.«01_k».proof.Proof.Gen.DeltaRefIdeal.Run
public import Idealize.ShloMosaic.Lib.Quiescent

@[expose] public section

set_option maxRecDepth 16384

noncomputable section

namespace Cert.Proof

open Idealize.ShloMosaic Idealize.SL.Sem

set_option maxHeartbeats 2000000 in
/-- Kernel and reference compute the same row sums, for all arguments. -/
theorem algebraic_delta : Cert.algebraic_DeltaIdeal_DeltaRefIdeal := by
  intro m ρ m' ρ' hpre hargs
  refine ⟨fun c => (Cert.DeltaIdeal.Gen.dats m 0 c).arrAt 2 Cert.DeltaIdeal.cfg0.N, Cert.DeltaIdeal.Value.run_blocks m ρ, ?_⟩
  refine (θ_run Cert.DeltaRefIdeal.defs _ _).mono (fun r h c => ?_) (Cert.DeltaRefIdeal.Value.run m' ρ')
  obtain ⟨e0, e1, e2, e3, e4⟩ := hargs c
  obtain ⟨p0, p1⟩ := h c
  refine ⟨?_, p1⟩
  refine (p0.trans (Cert.DeltaRefIdeal.Read.val_main_v45_eq m' c)).trans ((Cert.DeltaRefIdeal.Bwd.ref_eq _ _ _ _ _).trans (Eq.trans ?_ (Cert.DeltaIdeal.Bwd.final m c).symm))
  rw [e0, e1, e2, e3, e4]

theorem frame_deltaRef : Cert.quiescent_DeltaRefIdeal := fun m ρ _ =>
  (θ_run Cert.DeltaRefIdeal.defs _ _).mono (fun r h => ⟨fun c => (h c).2, sem_eq_zero_of_no_sems (by decide) r.2⟩) (Cert.DeltaRefIdeal.Value.run (F := Ideal) m ρ)

end Cert.Proof

end
-- ==== Proof.FwdBody.lean ====
/- The attention's forward kernel over the extended reals: the buffers of one grid point, and what it loads. -/
module

public import proofs.«01_k».proof.Proof.Gen.FwdIdeal.Value
public import Idealize.ShloMosaic.Lib.WritesUnit
public import Idealize.ShloMosaic.Lib.WholeRead
public import Idealize.ShloMosaic.Lib.Scf
public import Idealize.ShloMosaic.Lib.Pointwise
public import Idealize.ShloMosaic.PureOps.Ideal.Laws

@[expose] public section

set_option maxRecDepth 16384

noncomputable section

namespace Cert.FwdIdeal.Fwd

open Cert.FwdIdeal Cert.FwdIdeal.Gen
open Idealize.ShloMosaic Idealize.ShloMosaic.TcCoe Idealize.ShloMosaic.Tactic

local notation "E" => Idealize.ShloMosaic.Ideal

/-- The whole memrefs that the body is called with: five inputs, two results, three scratch buffers. -/
structure Refs where
  a2 : Memref sig .tc .vmem S512x256 .bf16
  w2 : a2.IsWhole
  a3 : Memref sig .tc .vmem S8192x256 .bf16
  w3 : a3.IsWhole
  a4 : Memref sig .tc .vmem S256x8192 .bf16
  w4 : a4.IsWhole
  a5 : Memref sig .tc .vmem S2x1x512 .f32
  w5 : a5.IsWhole
  a6 : Memref sig .tc .vmem S2x8192x1 .f32
  w6 : a6.IsWhole
  a7 : Memref sig .tc .vmem S512x256 .bf16
  w7 : a7.IsWhole
  a8 : Memref sig .tc .vmem S2x1x512 .f32
  w8 : a8.IsWhole
  a9 : Memref sig .tc .vmem S2x1x512 .f32
  w9 : a9.IsWhole
  a10 : Memref sig .tc .vmem S2x1x512 .f32
  w10 : a10.IsWhole
  a11 : Memref sig .tc .vmem S2x128x512 .f32
  w11 : a11.IsWhole

/-- What the inputs hold: the point's queries, the heads' keys, their values transposed, the gate's sums of the queries and of the keys. -/
structure Ins where
  x2 : S512x256.Idx → EReal
  x3 : S8192x256.Idx → EReal
  x4 : S256x8192.Idx → EReal
  x5 : S2x1x512.Idx → EReal
  x6 : S2x8192x1.Idx → EReal

section trip
variable (c : Dev nD) (i : grid0.Coords) (R : Refs) (X : Ins)
  (f9 : R.a9.view.ty.Contents (Elt E)) (f10 : R.a10.view.ty.Contents (Elt E)) (f11 : R.a11.view.ty.Contents (Elt E))

/-- The stores of one trip of the loop. -/
abbrev tripOf (k : Fin (k0_t1_loop i).trips) := tripL_k0_t1 (F := E) Variants.none c none i R.a2 R.w2 R.a3 R.w3 R.a4 R.w4 R.a5 R.w5 R.a6 R.w6 R.a7 R.w7 R.a8 R.w8 R.a9 R.w9 R.a10 R.w10 R.a11 R.w11 (R.w2.unread X.x2) (R.w3.unread X.x3) (R.w4.unread X.x4) (R.w6.unread X.x6) k f9 f10 f11

/-- The stores of the trips before `n`. -/
abbrev pbOf (n : ℕ) := pb_k0_t1 (F := E) Variants.none c none i R.a2 R.w2 R.a3 R.w3 R.a4 R.w4 R.a5 R.w5 R.a6 R.w6 R.a7 R.w7 R.a8 R.w8 R.a9 R.w9 R.a10 R.w10 R.a11 R.w11 (R.w2.unread X.x2) (R.w3.unread X.x3) (R.w4.unread X.x4) (R.w6.unread X.x6) f9 f10 f11 n

end trip

end Cert.FwdIdeal.Fwd

end
-- ==== Proof.FwdSoft.lean ====
/- A softmax's weighted sum taken over blocks of keys, with a running maximum: what one block does to the running maximum, the running sum
   of weights and the running weighted sum of values, and that these keep standing for the sums of the powers of two. -/
module

public import proofs.«01_k».proof.Proof.RealSum

@[expose] public section

noncomputable section

namespace Cert.FwdSoft

open Idealize.ShloMosaic Cert.Lift

/-- Two to a real power. -/
def pow2 (x : ℝ) : ℝ := Real.exp (Real.log 2 * x)

theorem exp2_real (x : ℝ) : Ideal.exp2 (x : EReal) = (pow2 x : EReal) := by
  rw [Ideal.exp2_coe]
  exact congrArg _ (Real.rpow_def_of_pos (by norm_num) x)

theorem pow2_sub (x μ : ℝ) : pow2 (x - μ) = pow2 x * pow2 (-μ) := by
  unfold pow2; rw [← Real.exp_add]; congr 1; ring

theorem pow2_pos (x : ℝ) : 0 < pow2 x := Real.exp_pos _

/-- What is kept for one query: the largest score so far, the sum of the weights and the weighted sums of the values. -/
@[ext] structure State where
  m : EReal
  l : EReal
  acc : Fin 128 → EReal

/-- Before any key. -/
def start : State := ⟨⊥, 0, fun _ => 0⟩

/-- The largest score after a block's scores. -/
def top (m : EReal) (s : Fin 512 → EReal) : EReal := max m (Finset.univ.fold max ⊥ s)

/-- One block of keys. -/
def step (s : Fin 512 → EReal) (v : Fin 512 → Fin 128 → EReal) (x : State) : State where
  m := top x.m s
  l := Ideal.exp2 (x.m - top x.m s) * x.l + ∑ κ, Ideal.exp2 (s κ - top x.m s)
  acc d := Ideal.exp2 (x.m - top x.m s) * x.acc d + ∑ κ, v κ d * Ideal.exp2 (s κ - top x.m s)

/-- The state stands for the sum `A` of the powers of two of the scores, and for the sums `B` of values with these weights. -/
def Holds (A : ℝ) (B : Fin 128 → ℝ) (x : State) : Prop :=
  (x = start ∧ A = 0 ∧ B = fun _ => 0) ∨
    ∃ μ : ℝ, x.m = μ ∧ x.l = ((A * pow2 (-μ) : ℝ) : EReal) ∧ ∀ d, x.acc d = ((B d * pow2 (-μ) : ℝ) : EReal)

theorem holds_start : Holds 0 (fun _ => 0) start := Or.inl ⟨rfl, rfl, rfl⟩

/-- A weight of a block's key, zero for a masked one. -/
def wt (P : Fin 512 → Prop) [DecidablePred P] (σ : Fin 512 → ℝ) (κ : Fin 512) : ℝ := if P κ then pow2 (σ κ) else 0

/-- A block of keys, of which some are masked, adds its weights and its weighted values; the state then has a real maximum. -/
theorem step_real {A : ℝ} {B : Fin 128 → ℝ} {x : State} (h : Holds A B x) (P : Fin 512 → Prop) [DecidablePred P] (hP : ∃ κ, P κ)
    (σ : Fin 512 → ℝ) (w : Fin 512 → Fin 128 → ℝ) (s : Fin 512 → EReal) (v : Fin 512 → Fin 128 → EReal)
    (hs : ∀ κ, s κ = if P κ then (σ κ : EReal) else ⊥) (hv : ∀ κ d, v κ d = (w κ d : EReal)) :
    ∃ μ : ℝ, (step s v x).m = μ ∧ (step s v x).l = (((A + ∑ κ, wt P σ κ) * pow2 (-μ) : ℝ) : EReal) ∧
      ∀ d, (step s v x).acc d = (((B d + ∑ κ, w κ d * wt P σ κ) * pow2 (-μ) : ℝ) : EReal) := by
  obtain ⟨M, hM⟩ := fold_max_real s
    (fun κ => by rw [hs]; split; exacts [Or.inr ⟨_, rfl⟩, Or.inl rfl]) (hP.imp fun κ hκ => ⟨σ κ, by rw [hs, if_pos hκ]⟩)
  have hp (μ : ℝ) (κ) : Ideal.exp2 (s κ - (μ : EReal)) = ((wt P σ κ * pow2 (-μ) : ℝ) : EReal) := by
    unfold wt; rw [hs]; split
    · rw [← EReal.coe_sub, exp2_real, pow2_sub]
    · rw [EReal.bot_sub, zero_mul]; rfl
  have hl (μ : ℝ) : (∑ κ, Ideal.exp2 (s κ - (μ : EReal))) = (((∑ κ, wt P σ κ) * pow2 (-μ) : ℝ) : EReal) := by
    simp only [hp, ← coe_sum, Finset.sum_mul]
  have ha (μ : ℝ) (d) : (∑ κ, v κ d * Ideal.exp2 (s κ - (μ : EReal))) = (((∑ κ, w κ d * wt P σ κ) * pow2 (-μ) : ℝ) : EReal) := by
    simp only [hp, hv, ← EReal.coe_mul, ← coe_sum, Finset.sum_mul, mul_assoc]
  rcases h with ⟨rfl, rfl, rfl⟩ | ⟨μ, hm, hL, hA⟩
  · have ht : top (start).m s = (M : EReal) := by unfold top; rw [hM]; exact max_eq_right bot_le
    have h0 : Ideal.exp2 ((start).m - (M : EReal)) = 0 := by show Ideal.exp2 (⊥ - (M : EReal)) = 0; rw [EReal.bot_sub]; rfl
    refine ⟨M, ht, ?_, fun d => ?_⟩
    · show Ideal.exp2 (_ - _) * _ + _ = _
      rw [ht, h0, zero_mul, zero_add, hl, zero_add]
    · show Ideal.exp2 (_ - _) * _ + _ = _
      rw [ht, h0, zero_mul, zero_add, ha, zero_add]
  · have ht : top x.m s = ((max μ M : ℝ) : EReal) := by unfold top; rw [hM, hm]; exact (EReal.coe_strictMono.monotone.map_max).symm
    have h0 : Ideal.exp2 (x.m - ((max μ M : ℝ) : EReal)) = ((pow2 μ * pow2 (-(max μ M)) : ℝ) : EReal) := by
      rw [hm, ← EReal.coe_sub, exp2_real, pow2_sub]
    have h1 : pow2 μ * pow2 (-μ) = 1 := by rw [← pow2_sub, sub_self]; unfold pow2; rw [mul_zero, Real.exp_zero]
    refine ⟨max μ M, ht, ?_, fun d => ?_⟩
    · show Ideal.exp2 (_ - _) * _ + _ = _
      rw [ht, h0, hL, hl, ← EReal.coe_mul, ← EReal.coe_add]
      refine congrArg _ ?_
      linear_combination (A * pow2 (-(max μ M))) * h1
    · show Ideal.exp2 (_ - _) * _ + _ = _
      rw [ht, h0, hA, ha, ← EReal.coe_mul, ← EReal.coe_add]
      refine congrArg _ ?_
      linear_combination (B d * pow2 (-(max μ M))) * h1

end Cert.FwdSoft
-- ==== Proof.FwdPay.lean ====
/- The attention's forward kernel over the extended reals: what one block of keys does to the running maximum, sum and weighted sum, read
   off the values that the body computes. -/
module

public import proofs.«01_k».proof.Proof.FwdBody
public import proofs.«01_k».proof.Proof.FwdSoft
public import Idealize.ShloMosaic.Lib.WordCmp

@[expose] public section

set_option maxRecDepth 16384

noncomputable section

namespace Cert.FwdIdeal.Fwd

open Cert.FwdIdeal Cert.FwdIdeal.Gen Cert.FwdSoft
open Idealize.ShloMosaic Idealize.ShloMosaic.TcCoe Idealize.ShloMosaic.Tactic

local notation "E" => Idealize.ShloMosaic.Ideal

abbrev ln2 : EReal := ((Real.log 2 : ℝ) : EReal)
abbrev log2e : EReal := (((Real.log 2)⁻¹ : ℝ) : EReal)

theorem named_ln2 : Named.named (F := Ideal) κ "ln2" (φ := .f32) 0x3F317218#32 = ln2 := rfl
theorem named_log2e : Named.named (F := Ideal) κ "log2e" (φ := .f32) 0x3FB8AA3B#32 = log2e := rfl
theorem named_mask : Named.named (F := Ideal) κ "mask" (φ := .f32) 0xF149F2CA#32 = (⊥ : EReal) := rfl

/-- The score of a key for a query, in powers of two, without the query's gate. -/
def scoreOf (k q : S512x128.Idx → EReal) (ck : S1x512x1.Idx → EReal) (κ ρ : Fin 512) : EReal :=
  (∑ d : Fin 128, k (ix2 κ d) * q (ix2 ρ d)) - ck (ix3 0 κ 0) * log2e

theorem id2 (x) : k0_pay2 (F := E) x = x := shapeCast_self _ _
theorem id11 (x) : k0_pay11 (F := E) x = x := shapeCast_self _ _
theorem id41 (x) : k0_pay41 (F := E) x = x := shapeCast_self _ _
theorem id52 (x) : k0_pay52 (F := E) x = x := shapeCast_self _ _

theorem pay3_at (k q ck) (κ ρ : Fin 512) : k0_pay3 (F := E) k q ck (ix2 κ ρ) = scoreOf k q ck κ ρ := by
  have e1 : shapeCast S512x128 k shapeCasts_S512x128_S512x128 = k := shapeCast_self _ _
  have e2 : shapeCast S512x128 q shapeCasts_S512x128_S512x128 = q := shapeCast_self _ _
  unfold scoreOf
  pointwise [k0_pay3, named_log2e, e1, e2]

/-- The mask of the point's own block: a key is seen by the queries from its own on. -/
theorem seen (κ ρ : Fin 512) : Scalar.select (IntOp.cmpi CmpIPredicate.sge (BitVec.ofNat 32 ρ.val) (BitVec.ofNat 32 κ.val)) =
    fun (a b : EReal) => if κ.val ≤ ρ.val then a else b := by
  funext a b
  have hr := ρ.isLt
  have hs := κ.isLt
  unfold Scalar.select
  have : IntOp.cmpi CmpIPredicate.sge (BitVec.ofNat 32 ρ.val) (BitVec.ofNat 32 κ.val) = 1 ↔ κ.val ≤ ρ.val := by
    word_cmp
  simp only [this]

theorem pay43_at (k q ck) (κ ρ : Fin 512) :
    k0_pay43 (F := E) (k0_pay42 k q) ck (ix2 κ ρ) = if κ.val ≤ ρ.val then scoreOf k q ck κ ρ else ⊥ := by
  have e1 : shapeCast S512x128 k shapeCasts_S512x128_S512x128 = k := shapeCast_self _ _
  have e2 : shapeCast S512x128 q shapeCasts_S512x128_S512x128 = q := shapeCast_self _ _
  unfold scoreOf
  have h : k0_pay43 (F := E) (k0_pay42 k q) ck (ix2 κ ρ) = Scalar.select (IntOp.cmpi CmpIPredicate.sge (BitVec.ofNat 32 ρ.val) (BitVec.ofNat 32 κ.val))
      ((∑ d : Fin 128, k (ix2 κ d) * q (ix2 ρ d)) - ck (ix3 0 κ 0) * log2e) ⊥ := by
    pointwise [k0_pay43, k0_pay42, named_log2e, named_mask, e1, e2]
    try rfl
  rw [h, seen]

/-- The largest score after a block. -/
def mOf (s : FVec E S512x512 .f32) (m : FVec E S1x1x512 .f32) : FVec E S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)

/-- The block's weights. -/
def pOf (s : FVec E S512x512 .f32) (m : FVec E S1x1x512 .f32) : FVec E S512x512 .f32 :=
  exp2 (subf s (broadcastTo S512x512 (mOf s m) broadcasts_S1x512_S512x512))

/-- What the earlier weights shrink by. -/
def aOf (s : FVec E S512x512 .f32) (m : FVec E S1x1x512 .f32) : FVec E S1x512 .f32 :=
  exp2 (subf (shapeCast S1x512 m shapeCasts_S1x1x512_S1x512) (mOf s m))

def lOf (s : FVec E S512x512 .f32) (m l : FVec E S1x1x512 .f32) : FVec E S1x1x512 .f32 :=
  shapeCast S1x1x512 (addf (mulf (aOf s m) (shapeCast S1x512 l shapeCasts_S1x1x512_S1x512))
    (shapeCast S1x512 (multiReduction .add [0] S512 (pOf s m) 0x00000000#32 reduces_S512x512_S512 (.inl rfl) rfl) shapeCasts_S512_S1x512))
    shapeCasts_S1x512_S1x1x512

def accOf (s : FVec E S512x512 .f32) (m : FVec E S1x1x512 .f32) (v : FVec E S128x512 .bf16) (a : FVec E S1x128x512 .f32) : FVec E S1x128x512 .f32 :=
  shapeCast S1x128x512 (addf (mulf (broadcastTo S128x512 (aOf s m) broadcasts_S1x512_S128x512) (shapeCast S128x512 a shapeCasts_S1x128x512_S128x512))
    (matmul dot_S128x512_S512x512_S128x512_1_0_0_1_n_n none v (truncf .bf16 (pOf s m) bitsLt_bf16_f32) (constant S128x512 .f32 0x00000000#32)))
    shapeCasts_S128x512_S1x128x512

section entries
variable (s : FVec E S512x512 .f32) (m l : FVec E S1x1x512 .f32) (v : FVec E S128x512 .bf16) (a : FVec E S1x128x512 .f32) (κ ρ : Fin 512) (d : Fin 128)

theorem mOf_at : mOf s m (ix2 0 ρ) = top (m (ix3 0 0 ρ)) fun κ => s (ix2 κ ρ) := by
  have h : mOf s m (ix2 0 ρ) = max (m (ix3 0 0 ρ)) (Finset.univ.fold max (Ideal.ofBits .f32 0xFF800000#32) fun κ => s (ix2 κ ρ)) := by
    pointwise [mOf]
  rw [h, Lift.ofBits_neg_inf]; rfl

theorem m3_at : shapeCast S1x1x512 (mOf s m) shapeCasts_S1x512_S1x1x512 (ix3 0 0 ρ) = top (m (ix3 0 0 ρ)) fun κ => s (ix2 κ ρ) := by
  rw [← mOf_at]; generalize mOf s m = y; pointwise

theorem pOf_at : pOf s m (ix2 κ ρ) = Ideal.exp2 (s (ix2 κ ρ) - top (m (ix3 0 0 ρ)) fun κ => s (ix2 κ ρ)) := by
  rw [← mOf_at]; unfold pOf; generalize mOf s m = y; pointwise; rfl

theorem aOf_at : aOf s m (ix2 0 ρ) = Ideal.exp2 (m (ix3 0 0 ρ) - top (m (ix3 0 0 ρ)) fun κ => s (ix2 κ ρ)) := by
  rw [← mOf_at]; unfold aOf; generalize mOf s m = y; pointwise; rfl

theorem lOf_at : lOf s m l (ix3 0 0 ρ) = aOf s m (ix2 0 ρ) * l (ix3 0 0 ρ) + ∑ κ, pOf s m (ix2 κ ρ) := by
  unfold lOf; generalize aOf s m = x; generalize pOf s m = y; pointwise

theorem accOf_at : accOf s m v a (ix3 0 d ρ) = aOf s m (ix2 0 ρ) * a (ix3 0 d ρ) + ∑ κ, v (ix2 d κ) * pOf s m (ix2 κ ρ) := by
  unfold accOf; generalize aOf s m = x; generalize pOf s m = y; pointwise

/-- The three stores of a block, as one step. -/
theorem step_at : (⟨shapeCast S1x1x512 (mOf s m) shapeCasts_S1x512_S1x1x512 (ix3 0 0 ρ), lOf s m l (ix3 0 0 ρ), fun d => accOf s m v a (ix3 0 d ρ)⟩ : State)
    = step (fun κ => s (ix2 κ ρ)) (fun κ d => v (ix2 d κ)) ⟨m (ix3 0 0 ρ), l (ix3 0 0 ρ), fun d => a (ix3 0 d ρ)⟩ := by
  unfold step
  simp only [m3_at, lOf_at, accOf_at, pOf_at, aOf_at]

/-- The output and the log-sum of a row. -/
theorem pay62_at : k0_pay62 (F := E) a l (ix2 ρ d) = Ideal.div (a (ix3 0 d ρ)) (l (ix3 0 0 ρ)) := by
  pointwise [k0_pay62]
theorem pay65_at : k0_pay65 (F := E) a l (ix2 ρ d) = Ideal.div (a (ix3 0 d ρ)) (l (ix3 0 0 ρ)) := pay62_at l a ρ d
theorem pay64_at (c : FVec E S1x1x512 .f32) :
    k0_pay64 (F := E) (k0_pay63 m) l c (ix3 0 0 ρ) = (m (ix3 0 0 ρ) + Ideal.log (l (ix3 0 0 ρ)) * log2e) * ln2 + c (ix3 0 0 ρ) := by
  pointwise [k0_pay64, k0_pay63, named_log2e, named_ln2]
theorem pay1_at (c : FVec E S1x1x512 .f32) :
    k0_pay1 (F := E) (k0_pay66 m l) k0_pay67 c (ix3 0 0 ρ) = (m (ix3 0 0 ρ) + Ideal.log (l (ix3 0 0 ρ)) * log2e) * ln2 + c (ix3 0 0 ρ) := by
  pointwise [k0_pay1, k0_pay66, k0_pay67, named_log2e, named_ln2]

/-- Before the loop. -/
theorem start_at (h : Fin 2) : (⟨k0_pay30 (F := E) (ix3 h 0 ρ), k0_pay31 (F := E) (ix3 h 0 ρ), fun d => k0_pay32 (F := E) (ix3 h d ρ)⟩ : State) = start := by
  have e0 : k0_pay30 (F := E) (ix3 h 0 ρ) = ⊥ := by pointwise [k0_pay30, named_mask]
  have e1 : k0_pay31 (F := E) (ix3 h 0 ρ) = 0 := by pointwise [k0_pay31]
  have e2 (d) : k0_pay32 (F := E) (ix3 h d ρ) = 0 := by pointwise [k0_pay32]
  simp only [e0, e1, e2]; rfl

end entries

end Cert.FwdIdeal.Fwd

end
-- ==== Proof.FwdStep.lean ====
/- The attention's forward kernel over the extended reals: what one trip of its loop, and then all of them, make of the three scratch buffers. -/
module

public import proofs.«01_k».proof.Proof.FwdBody
public import proofs.«01_k».proof.Proof.FwdPay

@[expose] public section

set_option maxRecDepth 16384

noncomputable section

namespace Cert.FwdIdeal.Fwd

open Cert.FwdIdeal Cert.FwdIdeal.Gen Cert.FwdSoft
open Idealize.ShloMosaic Idealize.ShloMosaic.TcCoe Idealize.ShloMosaic.Tactic

local notation "E" => Idealize.ShloMosaic.Ideal

/-- Feature `d` of head `h` of a pair. -/
abbrev col (h : Fin 2) (d : Fin 128) : Fin 256 := ⟨h.val * 128 + d.val, by omega⟩

/-- Token `ρ` of block `b`. -/
abbrev row (b : Fin 16) (ρ : Fin 512) : Fin 8192 := ⟨b.val * 512 + ρ.val, by omega⟩

section loads
variable {sp : Space} {e : EltTy}

/-- A load of a rectangle of a matrix reads the entry that lies at its offset. -/
theorem at2 {n0 n1 : ℕ} {M : Memref sig .tc sp ⟨2, ![n0, n1]⟩ e} (f : M.view.ty.Contents (Elt E)) {off : Fin 2 → ℕ} {s0 s1 o0 o1 : ℕ}
    (inb : ∀ a, off a + (![s0, s1] : Fin 2 → ℕ) a ≤ (![n0, n1] : Fin 2 → ℕ) a) (h : off = ![o0, o1])
    (a : Fin s0) (b : Fin s1) (y : Fin n0 × Fin n1) (h0 : y.1.val = o0 + a.val) (h1 : y.2.val = o1 + b.val) :
    View.readAt (Elt E) M.view (Rect.unit (s := ⟨2, ![n0, n1]⟩) off ![s0, s1] inb).toLoadRect f (ix2 a b) = M.view.read (Elt E) f (ix2 y.1 y.2) := by
  subst h
  refine congrArg (M.view.read (Elt E) f) (funext fun c => Fin.ext ?_)
  match c with
  | ⟨0, _⟩ => show o0 + 1 * a.val = y.1.val; omega
  | ⟨1, _⟩ => show o1 + 1 * b.val = y.2.val; omega

/-- The same of an array of three axes. -/
theorem at3 {n0 n1 n2 : ℕ} {M : Memref sig .tc sp ⟨3, ![n0, n1, n2]⟩ e} (f : M.view.ty.Contents (Elt E)) {off : Fin 3 → ℕ} {s0 s1 s2 o0 o1 o2 : ℕ}
    (inb : ∀ a, off a + (![s0, s1, s2] : Fin 3 → ℕ) a ≤ (![n0, n1, n2] : Fin 3 → ℕ) a) (h : off = ![o0, o1, o2])
    (a : Fin s0) (b : Fin s1) (c : Fin s2) (y : Fin n0 × Fin n1 × Fin n2)
    (h0 : y.1.val = o0 + a.val) (h1 : y.2.1.val = o1 + b.val) (h2 : y.2.2.val = o2 + c.val) :
    View.readAt (Elt E) M.view (Rect.unit (s := ⟨3, ![n0, n1, n2]⟩) off ![s0, s1, s2] inb).toLoadRect f (ix3 a b c)
      = M.view.read (Elt E) f (ix3 y.1 y.2.1 y.2.2) := by
  subst h
  refine congrArg (M.view.read (Elt E) f) (funext fun d => Fin.ext ?_)
  match d with
  | ⟨0, _⟩ => show o0 + 1 * a.val = y.1.val; omega
  | ⟨1, _⟩ => show o1 + 1 * b.val = y.2.1.val; omega
  | ⟨2, _⟩ => show o2 + 1 * c.val = y.2.2.val; omega

/-- Of an array of two parts the last store to a part is what it reads. -/
theorem part_hit {n : ℕ} {v : View sig .tc sp ⟨3, ![2, n, 512]⟩ e} (f : v.ty.Contents (Elt E)) (h : Fin 2) {off : Fin 3 → ℕ} (ho : off = ![h.val, 0, 0]) (inb)
    (w : (⟨3, ![1, n, 512]⟩ : Shape).Idx → Elt E e) (L : List (View.Piece (Elt E) ⟨3, ![2, n, 512]⟩ e)) (d : Fin n) (ρ : Fin 512) :
    v.read (Elt E) (v.writes (Elt E) f ((⟨Rect.unit (s := ⟨3, ![2, n, 512]⟩) off ![1, n, 512] inb, w⟩ : View.Piece (Elt E) ⟨3, ![2, n, 512]⟩ e) :: L)) (ix3 h d ρ)
      = w (ix3 0 d ρ) := by
  refine View.read_writes_cons_unit_of_mem v f _ w _ _ (ix3 0 d ρ) ho fun a => ?_
  match a with
  | ⟨0, _⟩ => rfl
  | ⟨1, _⟩ => exact (Nat.zero_add _).symm
  | ⟨2, _⟩ => exact (Nat.zero_add _).symm

/-- A store to the other part does not touch it. -/
theorem part_miss {n : ℕ} {v : View sig .tc sp ⟨3, ![2, n, 512]⟩ e} (f : v.ty.Contents (Elt E)) (h h' : Fin 2) (hne : h ≠ h') {off : Fin 3 → ℕ}
    (ho : off = ![h'.val, 0, 0]) (inb) (w : (⟨3, ![1, n, 512]⟩ : Shape).Idx → Elt E e) (L : List (View.Piece (Elt E) ⟨3, ![2, n, 512]⟩ e)) (d : Fin n) (ρ : Fin 512) :
    v.read (Elt E) (v.writes (Elt E) f ((⟨Rect.unit (s := ⟨3, ![2, n, 512]⟩) off ![1, n, 512] inb, w⟩ : View.Piece (Elt E) ⟨3, ![2, n, 512]⟩ e) :: L)) (ix3 h d ρ)
      = v.read (Elt E) (v.writes (Elt E) f L) (ix3 h d ρ) :=
  View.read_writes_cons_unit_of_not_mem v f _ w _ _ ho 0 (by
    show h.val < h'.val ∨ h'.val + 1 ≤ h.val
    have : h.val ≠ h'.val := fun e => hne (Fin.ext e)
    omega)

end loads

/-! ## Where the blocks lie -/

theorem j_lt (i : grid0.Coords) : (i 1).val < 16 := (i 1).isLt

/-- The block of the point's queries. -/
abbrev own (i : grid0.Coords) : Fin 16 := ⟨(i 1).val, j_lt i⟩

theorem trips_eq (i : grid0.Coords) : (k0_t1_loop i).trips = (i 1).val := by
  show Scf.trips (k0_t1_loop i).lb (k0_t1_loop i).ub (k0_t1_loop i).st = _
  unfold k0_t1_loop; dsimp only; have := j_lt i; revert this; generalize (i 1).val = j; intro h; interval_cases j <;> rfl

/-- The block of keys that a trip takes. -/
def blk (i : grid0.Coords) (k : Fin (k0_t1_loop i).trips) : Fin 16 := ⟨k.val, by have := trips_eq i; have := k.isLt; have := j_lt i; omega⟩

theorem iv_toNat (i : grid0.Coords) (k : Fin (k0_t1_loop i).trips) :
    (Scalar.indexCast (Scalar.muli (Scf.iv 0#32 1#32 k) 512#32)).toNat = (blk i k).val * 512 := by
  have hk : k.val < 16 := (blk i k).isLt
  unfold blk; dsimp only
  revert hk; generalize k.val = n; intro h; interval_cases n <;> rfl

theorem own_toNat (i : grid0.Coords) : (Scalar.indexCast (Scalar.muli (BitVec.ofNat 32 (i 1).val) 512#32)).toNat = (own i).val * 512 := by
  unfold own; dsimp only
  have := j_lt i; revert this; generalize (i 1).val = j; intro h; interval_cases j <;> rfl

/-! ## The state of a query -/

section state
variable (i : grid0.Coords) (R : Refs) (X : Ins)

/-- What the scratch buffers hold for query `ρ` and head `h`. -/
def St (f9 : R.a9.view.ty.Contents (Elt E)) (f10 : R.a10.view.ty.Contents (Elt E)) (f11 : R.a11.view.ty.Contents (Elt E)) (h : Fin 2) (ρ : Fin 512) : State :=
  ⟨R.a9.view.read (Elt E) f9 (ix3 h 0 ρ), R.a10.view.read (Elt E) f10 (ix3 h 0 ρ), fun d => R.a11.view.read (Elt E) f11 (ix3 h d ρ)⟩

/-- The score of query `ρ` with token `κ` of block `b`. -/
def sc (h : Fin 2) (b : Fin 16) (ρ κ : Fin 512) : EReal :=
  (∑ d, X.x3 (ix2 (row b κ) (col h d)) * X.x2 (ix2 ρ (col h d))) - X.x6 (ix3 h (row b κ) 0) * log2e

/-- The values of block `b`. -/
def vv (h : Fin 2) (b : Fin 16) (κ : Fin 512) (d : Fin 128) : EReal := X.x4 (ix2 (col h d) (row b κ))

theorem step_of {S : FVec E S512x512 .f32} {m l : FVec E S1x1x512 .f32} {v : FVec E S128x512 .bf16} {a : FVec E S1x128x512 .f32} {ρ : Fin 512}
    {s : Fin 512 → EReal} {w : Fin 512 → Fin 128 → EReal} {x y : State}
    (hm : y.m = shapeCast S1x1x512 (mOf S m) shapeCasts_S1x512_S1x1x512 (ix3 0 0 ρ)) (hl : y.l = lOf S m l (ix3 0 0 ρ)) (ha : ∀ d, y.acc d = accOf S m v a (ix3 0 d ρ))
    (hS : ∀ κ, S (ix2 κ ρ) = s κ) (hv : ∀ κ d, v (ix2 d κ) = w κ d)
    (hx : (⟨m (ix3 0 0 ρ), l (ix3 0 0 ρ), fun d => a (ix3 0 d ρ)⟩ : State) = x) : y = step s w x := by
  rw [← hx, ← (funext hS : (fun κ => S (ix2 κ ρ)) = s), ← (funext fun κ => funext (hv κ) : (fun κ d => v (ix2 d κ)) = w), ← step_at]
  exact State.ext hm hl (funext ha)

theorem score_of {k q : S512x128.Idx → EReal} {ck : S1x512x1.Idx → EReal} (h : Fin 2) (b : Fin 16)
    (hk : ∀ κ d, k (ix2 κ d) = X.x3 (ix2 (row b κ) (col h d))) (hq : ∀ ρ d, q (ix2 ρ d) = X.x2 (ix2 ρ (col h d)))
    (hc : ∀ κ, ck (ix3 0 κ 0) = X.x6 (ix3 h (row b κ) 0)) (κ ρ : Fin 512) : scoreOf k q ck κ ρ = sc X h b ρ κ := by
  unfold scoreOf sc; rw [hc]; simp only [hk, hq]

section loads
variable (h : Fin 2) (b : Fin 16)

theorem load_k {off : Fin 2 → ℕ} (ho : off = ![b.val * 512, h.val * 128]) (inb) (κ : Fin 512) (d : Fin 128) :
    View.readAt (Elt E) R.a3.view (Rect.unit (s := S8192x256) off S512x128.size inb).toLoadRect (R.w3.unread X.x3) (ix2 κ d) = X.x3 (ix2 (row b κ) (col h d)) :=
  (at2 _ inb ho κ d (row b κ, col h d) rfl rfl).trans (congrFun (R.w3.read_unread (Val := Elt E) X.x3) (ix2 (row b κ) (col h d)))

theorem load_v {off : Fin 2 → ℕ} (ho : off = ![h.val * 128, b.val * 512]) (inb) (κ : Fin 512) (d : Fin 128) :
    View.readAt (Elt E) R.a4.view (Rect.unit (s := S256x8192) off S128x512.size inb).toLoadRect (R.w4.unread X.x4) (ix2 d κ) = vv X h b κ d :=
  (at2 _ inb ho d κ (col h d, row b κ) rfl rfl).trans (congrFun (R.w4.read_unread (Val := Elt E) X.x4) (ix2 (col h d) (row b κ)))

theorem load_q {off : Fin 2 → ℕ} (ho : off = ![0, h.val * 128]) (inb) (ρ : Fin 512) (d : Fin 128) :
    View.readAt (Elt E) R.a2.view (Rect.unit (s := S512x256) off S512x128.size inb).toLoadRect (R.w2.unread X.x2) (ix2 ρ d) = X.x2 (ix2 ρ (col h d)) :=
  (at2 _ inb ho ρ d (ρ, col h d) (Nat.zero_add _).symm rfl).trans (congrFun (R.w2.read_unread (Val := Elt E) X.x2) (ix2 ρ (col h d)))

theorem load_c {off : Fin 3 → ℕ} (ho : off = ![h.val, b.val * 512, 0]) (inb) (κ : Fin 512) :
    View.readAt (Elt E) R.a6.view (Rect.unit (s := S2x8192x1) off S1x512x1.size inb).toLoadRect (R.w6.unread X.x6) (ix3 0 κ 0) = X.x6 (ix3 h (row b κ) 0) :=
  (at3 _ inb ho 0 κ 0 (h, row b κ, 0) rfl rfl rfl).trans (congrFun (R.w6.read_unread (Val := Elt E) X.x6) (ix3 h (row b κ) 0))

theorem load_part {sp : Space} {e : EltTy} {n : ℕ} {M : Memref sig .tc sp ⟨3, ![2, n, 512]⟩ e} (f : M.view.ty.Contents (Elt E)) {off : Fin 3 → ℕ} (ho : off = ![h.val, 0, 0]) (inb)
    (d : Fin n) (ρ : Fin 512) :
    View.readAt (Elt E) M.view (Rect.unit (s := ⟨3, ![2, n, 512]⟩) off ![1, n, 512] inb).toLoadRect f (ix3 0 d ρ) = M.view.read (Elt E) f (ix3 h d ρ) :=
  at3 _ inb ho 0 d ρ (h, d, ρ) rfl (Nat.zero_add _).symm (Nat.zero_add _).symm

end loads

section pays
variable (k q : FVec E S512x128 .bf16) (ck : FVec E S1x512x1 .f32) (m l : FVec E S1x1x512 .f32) (v : FVec E S128x512 .bf16) (a : FVec E S1x128x512 .f32)

theorem p10 : k0_pay10 (F := E) (k0_pay5 k q ck m) = shapeCast S1x1x512 (mOf (k0_pay3 k q ck) m) shapeCasts_S1x512_S1x1x512 := rfl
theorem p36 : k0_pay36 (F := E) (k0_pay14 k q ck m) = shapeCast S1x1x512 (mOf (k0_pay3 k q ck) m) shapeCasts_S1x512_S1x1x512 := rfl
theorem p8 : k0_pay8 (F := E) k q ck m l = lOf (k0_pay3 k q ck) m l := rfl
theorem p34 : k0_pay34 (F := E) (k0_pay13 m) (k0_pay14 k q ck m) (k0_pay15 k q ck m) l = lOf (k0_pay3 k q ck) m l := rfl
theorem p9 : k0_pay9 (F := E) (k0_pay2 v) (k0_pay6 k q ck m) (k0_pay7 k q ck m) a = accOf (k0_pay3 k q ck) m v a := by rw [id2]; rfl
theorem p35 : k0_pay35 (F := E) (k0_pay11 v) (k0_pay13 m) (k0_pay14 k q ck m) (k0_pay15 k q ck m) a = accOf (k0_pay3 k q ck) m v a := by rw [id11]; rfl

theorem p51 : k0_pay51 (F := E) (k0_pay45 (k0_pay42 k q) ck m) = shapeCast S1x1x512 (mOf (k0_pay43 (k0_pay42 k q) ck) m) shapeCasts_S1x512_S1x1x512 := rfl
theorem p61 : k0_pay61 (F := E) (k0_pay55 k q ck m) = shapeCast S1x1x512 (mOf (k0_pay43 (k0_pay42 k q) ck) m) shapeCasts_S1x512_S1x1x512 := rfl
theorem p48 : k0_pay48 (F := E) (k0_pay42 k q) ck m l = lOf (k0_pay43 (k0_pay42 k q) ck) m l := rfl
theorem p59 : k0_pay59 (F := E) (k0_pay56 k q ck m) (k0_pay58 k q ck m l) = lOf (k0_pay43 (k0_pay42 k q) ck) m l := rfl
theorem p50 : k0_pay50 (F := E) (k0_pay49 (k0_pay41 v) (k0_pay42 k q) ck m a) = accOf (k0_pay43 (k0_pay42 k q) ck) m v a := by rw [id41]; rfl
theorem p60 : k0_pay60 (F := E) (k0_pay52 v) (k0_pay56 k q ck m) (k0_pay57 k q ck m) a = accOf (k0_pay43 (k0_pay42 k q) ck) m v a := by rw [id52]; rfl

end pays

/-! ## One trip -/

section trip
variable (c : Dev nD) (f9 : R.a9.view.ty.Contents (Elt E)) (f10 : R.a10.view.ty.Contents (Elt E)) (f11 : R.a11.view.ty.Contents (Elt E))

/-- A trip takes both heads' states one step on, over its block of keys. -/
theorem trip_st (k : Fin (k0_t1_loop i).trips) (h : Fin 2) (ρ : Fin 512) :
    St R (R.a9.view.writes (Elt E) f9 (tripOf c i R X f9 f10 f11 k).1) (R.a10.view.writes (Elt E) f10 (tripOf c i R X f9 f10 f11 k).2.1)
      (R.a11.view.writes (Elt E) f11 (tripOf c i R X f9 f10 f11 k).2.2) h ρ
      = step (fun κ => sc X h (blk i k) ρ κ) (vv X h (blk i k)) (St R f9 f10 f11 h ρ) := by
  unfold tripOf tripL_k0_t1 trip_k0_t1; dsimp only
  unfold trip_k0_t1.sl.r trip_k0_t1.sl.r_1 trip_k0_t1.sl.r_2 trip_k0_t1.sl.r_3 trip_k0_t1.sl.r_4 trip_k0_t1.sl.r_5 trip_k0_t1.sl.r_6 trip_k0_t1.sl.r_7
  obtain rfl | rfl : h = 0 ∨ h = 1 := by omega
  · refine step_of (S := k0_pay3 _ _ _) ((part_miss f9 0 1 (by decide) rfl _ _ _ 0 ρ).trans ((part_hit f9 0 rfl _ _ _ 0 ρ).trans (congrFun (p10 _ _ _ _) _)))
      ((part_miss f10 0 1 (by decide) rfl _ _ _ 0 ρ).trans ((part_hit f10 0 rfl _ _ _ 0 ρ).trans (congrFun (p8 _ _ _ _ _) _)))
      (fun d => (part_miss f11 0 1 (by decide) rfl _ _ _ d ρ).trans ((part_hit f11 0 rfl _ _ _ d ρ).trans (congrFun (p9 _ _ _ _ _ _) _)))
      (fun κ => (pay3_at _ _ _ κ ρ).trans (score_of X 0 (blk i k) (load_k R X 0 _ (by rw [← iv_toNat]; rfl) (k0_off1_inb i k))
        (load_q R X 0 rfl inb_S512x256_S512x128_0_0) (load_c R X 0 _ (by rw [← iv_toNat]; rfl) (k0_off3_inb i k)) κ ρ))
      (load_v R X 0 _ (by rw [← iv_toNat]; rfl) (k0_off2_inb i k)) ?_
    exact State.ext (load_part 0 f9 rfl _ 0 ρ) (load_part 0 f10 rfl _ 0 ρ) (funext fun d => load_part 0 f11 rfl _ d ρ)
  · refine step_of (S := k0_pay3 _ _ _) ((part_hit f9 1 rfl _ _ _ 0 ρ).trans (congrFun (p36 _ _ _ _) _)) ((part_hit f10 1 rfl _ _ _ 0 ρ).trans (congrFun (p34 _ _ _ _ _) _))
      (fun d => (part_hit f11 1 rfl _ _ _ d ρ).trans (congrFun (p35 _ _ _ _ _ _) _))
      (fun κ => (pay3_at _ _ _ κ ρ).trans (score_of X 1 (blk i k) (load_k R X 1 _ (by rw [← iv_toNat]; rfl) (k0_off4_inb i k))
        (load_q R X 1 rfl inb_S512x256_S512x128_0_128) (load_c R X 1 _ (by rw [← iv_toNat]; rfl) (k0_off6_inb i k)) κ ρ))
      (load_v R X 1 _ (by rw [← iv_toNat]; rfl) (k0_off5_inb i k)) ?_
    exact State.ext (load_part 1 f9 rfl _ 0 ρ) (load_part 1 f10 rfl _ 0 ρ) (funext fun d => load_part 1 f11 rfl _ d ρ)

end trip

end state

end Cert.FwdIdeal.Fwd

end
-- ==== Proof.FwdPoint.lean ====
/- The attention's forward kernel over the extended reals: what one grid point leaves in its two results. -/
module

public import proofs.«01_k».proof.Proof.FwdStep

@[expose] public section

set_option maxRecDepth 16384

noncomputable section

namespace Cert.FwdIdeal.Fwd

open Cert.FwdIdeal Cert.FwdIdeal.Gen Cert.FwdSoft
open Idealize.ShloMosaic Idealize.ShloMosaic.TcCoe Idealize.ShloMosaic.Tactic

local notation "E" => Idealize.ShloMosaic.Ideal

/-- The sum over the blocks before `n`. -/
def sumTo (n : ℕ) (g : Fin 16 → ℝ) : ℝ := ∑ b : Fin 16, if b.val < n then g b else 0

theorem sumTo_zero (g : Fin 16 → ℝ) : sumTo 0 g = 0 := Finset.sum_eq_zero fun _ _ => if_neg (Nat.not_lt_zero _)

theorem sumTo_succ (b : Fin 16) (g : Fin 16 → ℝ) : sumTo (b.val + 1) g = sumTo b.val g + g b := by
  unfold sumTo
  have h : g b = ∑ x : Fin 16, if x = b then g x else 0 := by rw [Finset.sum_ite_eq' Finset.univ b g]; exact (if_pos (Finset.mem_univ _)).symm
  conv_rhs => rw [h]
  rw [← Finset.sum_add_distrib]
  refine Finset.sum_congr rfl fun x _ => ?_
  by_cases hx : x = b
  · subst hx; rw [if_pos (by omega), if_neg (by omega), if_pos rfl, zero_add]
  · have : x.val ≠ b.val := fun e => hx (Fin.ext e)
    rw [if_neg hx, add_zero]; exact if_congr (by omega) rfl rfl

section point
variable (c : Dev nD) (i : grid0.Coords) (R : Refs) (X : Ins)

section loop
variable (f9 : R.a9.view.ty.Contents (Elt E)) (f10 : R.a10.view.ty.Contents (Elt E)) (f11 : R.a11.view.ty.Contents (Elt E))

theorem loop_holds {h : Fin 2} {ρ : Fin 512} {σ : Fin 16 → Fin 512 → ℝ} {w : Fin 16 → Fin 512 → Fin 128 → ℝ}
    (hσ : ∀ b κ, sc X h b ρ κ = (σ b κ : EReal)) (hw : ∀ b κ d, vv X h b κ d = (w b κ d : EReal)) (h0 : St R f9 f10 f11 h ρ = start)
    (n : ℕ) (hn : n ≤ (k0_t1_loop i).trips) :
    Holds (sumTo n fun b => ∑ κ, pow2 (σ b κ)) (fun d => sumTo n fun b => ∑ κ, w b κ d * pow2 (σ b κ))
      (St R (R.a9.view.writes (Elt E) f9 (pbOf c i R X f9 f10 f11 n).1) (R.a10.view.writes (Elt E) f10 (pbOf c i R X f9 f10 f11 n).2.1)
        (R.a11.view.writes (Elt E) f11 (pbOf c i R X f9 f10 f11 n).2.2) h ρ) := by
  induction n with
  | zero => simp only [sumTo_zero]; exact Eq.mp (congrArg _ h0.symm) holds_start
  | succ n ih =>
    unfold pbOf
    rw [pb_k0_t1_succ (F := E) Variants.none c none i R.a2 R.w2 R.a3 R.w3 R.a4 R.w4 R.a5 R.w5 R.a6 R.w6 R.a7 R.w7 R.a8 R.w8 R.a9 R.w9 R.a10 R.w10 R.a11 R.w11 (R.w2.unread X.x2) (R.w3.unread X.x3) (R.w4.unread X.x4) (R.w6.unread X.x6) f9 f10 f11 ⟨n, hn⟩]
    dsimp only
    rw [View.writes_append, View.writes_append, View.writes_append]
    refine Eq.mp (congrArg _ (trip_st i R X c _ _ _ ⟨n, hn⟩ h ρ).symm) ?_
    have := step_real (ih (by omega)) (fun _ => True) ⟨0, trivial⟩ (σ (blk i ⟨n, hn⟩)) (w (blk i ⟨n, hn⟩)) (fun κ => sc X h (blk i ⟨n, hn⟩) ρ κ)
      (vv X h (blk i ⟨n, hn⟩)) (fun κ => (hσ _ κ).trans (if_pos trivial).symm) (hw _)
    simp only [wt, if_true] at this
    have e (g : Fin 16 → ℝ) : sumTo (n + 1) g = sumTo n g + g (blk i ⟨n, hn⟩) := sumTo_succ (blk i ⟨n, hn⟩) g
    simp only [e]
    exact Or.inr this

end loop

/-! ## The buffers after the loop, and after each head's own block -/

/-- The stores before the own blocks. -/
abbrev l9 := (pbOf c i R X (R.a9.view.writes (Elt E) R.a9.view.junk kernelRun0_A.sl.HS0_1) (R.a10.view.writes (Elt E) R.a10.view.junk kernelRun0_A.sl.HS1_1) (R.a11.view.writes (Elt E) R.a11.view.junk kernelRun0_A.sl.HS2_1) (Scf.trips (k0_t1_loop i).lb (k0_t1_loop i).ub (k0_t1_loop i).st)).1 ++ kernelRun0_A.sl.HS0_1
abbrev l10 := (pbOf c i R X (R.a9.view.writes (Elt E) R.a9.view.junk kernelRun0_A.sl.HS0_1) (R.a10.view.writes (Elt E) R.a10.view.junk kernelRun0_A.sl.HS1_1) (R.a11.view.writes (Elt E) R.a11.view.junk kernelRun0_A.sl.HS2_1) (Scf.trips (k0_t1_loop i).lb (k0_t1_loop i).ub (k0_t1_loop i).st)).2.1 ++ kernelRun0_A.sl.HS1_1
abbrev l11 := (pbOf c i R X (R.a9.view.writes (Elt E) R.a9.view.junk kernelRun0_A.sl.HS0_1) (R.a10.view.writes (Elt E) R.a10.view.junk kernelRun0_A.sl.HS1_1) (R.a11.view.writes (Elt E) R.a11.view.junk kernelRun0_A.sl.HS2_1) (Scf.trips (k0_t1_loop i).lb (k0_t1_loop i).ub (k0_t1_loop i).st)).2.2 ++ kernelRun0_A.sl.HS2_1

/-- The stores with head 0's own block. -/
abbrev m9 := kernelRun0_A.sl.HS0_1_1 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6
abbrev m10 := kernelRun0_A.sl.HS1_1_1 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6
abbrev m11 := kernelRun0_A.sl.HS2_1_1 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6

/-- All stores. -/
abbrev n9 := kernelRun0_A.sl.HS0_2 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6
abbrev n10 := kernelRun0_A.sl.HS1_2 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6
abbrev n11 := kernelRun0_A.sl.HS2_2 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x6

/-- The state that a list of stores leaves. -/
abbrev StOf (L9 L10 : List (View.Piece (Elt E) S2x1x512 .f32)) (L11 : List (View.Piece (Elt E) S2x128x512 .f32)) (h : Fin 2) (ρ : Fin 512) : State :=
  St R (R.a9.view.writes (Elt E) R.a9.view.junk L9) (R.a10.view.writes (Elt E) R.a10.view.junk L10) (R.a11.view.writes (Elt E) R.a11.view.junk L11) h ρ

/-- The scores with the own block, of which a query sees the tokens up to itself. -/
def own_sc (h : Fin 2) (ρ κ : Fin 512) : EReal := if κ.val ≤ ρ.val then sc X h (own i) ρ κ else ⊥

theorem rest_trips : Scf.trips (k0_t2_loop i).lb (k0_t2_loop i).ub (k0_t2_loop i).st = 0 := by
  unfold k0_t2_loop; dsimp only; generalize i 1 = j; revert j; decide

theorem first_own (ρ : Fin 512) :
    StOf R (m9 c i R X) (m10 c i R X) (m11 c i R X) 0 ρ = step (own_sc i X 0 ρ) (vv X 0 (own i)) (StOf R (l9 c i R X) (l10 c i R X) (l11 c i R X) 0 ρ) := by
  unfold m9 m10 m11 kernelRun0_A.sl.HS0_1_1 kernelRun0_A.sl.HS1_1_1 kernelRun0_A.sl.HS2_1_1
  unfold kernelRun0_A.sl.r_3 kernelRun0_A.sl.r_2 kernelRun0_A.sl.r_1 kernelRun0_A.sl.r
  refine step_of (S := k0_pay43 (k0_pay42 _ _) _) ((part_hit _ 0 rfl _ _ _ 0 ρ).trans (congrFun (p51 _ _ _ _) _))
    ((part_hit _ 0 rfl _ _ _ 0 ρ).trans (congrFun (p48 _ _ _ _ _) _)) (fun d => (part_hit _ 0 rfl _ _ _ d ρ).trans (congrFun (p50 _ _ _ _ _ _) _))
    (fun κ => (pay43_at _ _ _ κ ρ).trans (if_congr Iff.rfl (score_of X 0 (own i) (load_k R X 0 _ (by rw [← own_toNat]; rfl) (k0_off13_inb i))
      (load_q R X 0 rfl inb_S512x256_S512x128_0_0) (load_c R X 0 _ (by rw [← own_toNat]; rfl) (k0_off15_inb i)) κ ρ) rfl))
    (load_v R X 0 _ (by rw [← own_toNat]; rfl) (k0_off14_inb i)) ?_
  unfold kernelRun0_A.sl.v40 kernelRun0_A.sl.v50 kernelRun0_A.sl.v59
  rw [rest_trips]; simp only [pb_k0_t2, List.nil_append]
  exact State.ext (load_part 0 _ rfl _ 0 ρ) (load_part 0 _ rfl _ 0 ρ) (funext fun d => load_part 0 _ rfl _ d ρ)

theorem first_other (ρ : Fin 512) :
    StOf R (m9 c i R X) (m10 c i R X) (m11 c i R X) 1 ρ = StOf R (l9 c i R X) (l10 c i R X) (l11 c i R X) 1 ρ := by
  unfold m9 m10 m11 kernelRun0_A.sl.HS0_1_1 kernelRun0_A.sl.HS1_1_1 kernelRun0_A.sl.HS2_1_1
  rw [rest_trips]; simp only [pb_k0_t2, List.nil_append]
  exact State.ext (part_miss _ 1 0 (by decide) rfl _ _ _ 0 ρ) (part_miss _ 1 0 (by decide) rfl _ _ _ 0 ρ) (funext fun d => part_miss _ 1 0 (by decide) rfl _ _ _ d ρ)

theorem second_own (ρ : Fin 512) :
    StOf R (n9 c i R X) (n10 c i R X) (n11 c i R X) 1 ρ = step (own_sc i X 1 ρ) (vv X 1 (own i)) (StOf R (m9 c i R X) (m10 c i R X) (m11 c i R X) 1 ρ) := by
  unfold n9 n10 n11 kernelRun0_A.sl.HS0_2 kernelRun0_A.sl.HS1_2 kernelRun0_A.sl.HS2_2
  unfold kernelRun0_A.sl.r_8 kernelRun0_A.sl.r_7 kernelRun0_A.sl.r_6 kernelRun0_A.sl.r_5 kernelRun0_A.sl.r_4
  refine step_of (S := k0_pay43 (k0_pay42 _ _) _) ((part_hit _ 1 rfl _ _ _ 0 ρ).trans (congrFun (p61 _ _ _ _) _))
    ((part_hit _ 1 rfl _ _ _ 0 ρ).trans (congrFun (p59 _ _ _ _ _) _)) (fun d => (part_hit _ 1 rfl _ _ _ d ρ).trans (congrFun (p60 _ _ _ _ _ _) _))
    (fun κ => (pay43_at _ _ _ κ ρ).trans (if_congr Iff.rfl (score_of X 1 (own i) (load_k R X 1 _ (by rw [← own_toNat]; rfl) (k0_off16_inb i))
      (load_q R X 1 rfl inb_S512x256_S512x128_0_128) (load_c R X 1 _ (by rw [← own_toNat]; rfl) (k0_off18_inb i)) κ ρ) rfl))
    (load_v R X 1 _ (by rw [← own_toNat]; rfl) (k0_off17_inb i)) ?_
  unfold kernelRun0_A.sl.v93 kernelRun0_A.sl.v103 kernelRun0_A.sl.v112
  exact State.ext (load_part 1 _ rfl _ 0 ρ) (load_part 1 _ rfl _ 0 ρ) (funext fun d => load_part 1 _ rfl _ d ρ)

theorem second_other (ρ : Fin 512) :
    StOf R (n9 c i R X) (n10 c i R X) (n11 c i R X) 0 ρ = StOf R (m9 c i R X) (m10 c i R X) (m11 c i R X) 0 ρ := by
  unfold n9 n10 n11 kernelRun0_A.sl.HS0_2 kernelRun0_A.sl.HS1_2 kernelRun0_A.sl.HS2_2
  exact State.ext (part_miss _ 0 1 (by decide) rfl _ _ _ 0 ρ) (part_miss _ 0 1 (by decide) rfl _ _ _ 0 ρ) (funext fun d => part_miss _ 0 1 (by decide) rfl _ _ _ d ρ)

/-- Both heads end one step, over their own block, after the loop. -/
theorem final_step (h : Fin 2) (ρ : Fin 512) :
    StOf R (n9 c i R X) (n10 c i R X) (n11 c i R X) h ρ = step (own_sc i X h ρ) (vv X h (own i)) (StOf R (l9 c i R X) (l10 c i R X) (l11 c i R X) h ρ) := by
  obtain rfl | rfl : h = 0 ∨ h = 1 := by omega
  · exact (second_other c i R X ρ).trans (first_own c i R X ρ)
  · exact (second_own c i R X ρ).trans (congrArg _ (first_other c i R X ρ))

theorem start_st (h : Fin 2) (ρ : Fin 512) :
    St R (R.a9.view.writes (Elt E) R.a9.view.junk kernelRun0_A.sl.HS0_1) (R.a10.view.writes (Elt E) R.a10.view.junk kernelRun0_A.sl.HS1_1)
      (R.a11.view.writes (Elt E) R.a11.view.junk kernelRun0_A.sl.HS2_1) h ρ = start := by
  have e {n : ℕ} {v : View sig .tc .vmem ⟨3, ![2, n, 512]⟩ .f32} (f : v.ty.Contents (Elt E)) (inb)
      (w : (⟨3, ![2, n, 512]⟩ : Shape).Idx → Elt E .f32) (d : Fin n) :
      v.read (Elt E) (v.writes (Elt E) f [(⟨Rect.unit (s := ⟨3, ![2, n, 512]⟩) ![0, 0, 0] ![2, n, 512] inb, w⟩ : View.Piece (Elt E) ⟨3, ![2, n, 512]⟩ .f32)]) (ix3 h d ρ) = w (ix3 h d ρ) := by
    refine View.read_writes_cons_unit_of_mem v f _ w _ _ (ix3 h d ρ) rfl fun a => ?_
    match a with
    | ⟨0, _⟩ => exact (Nat.zero_add _).symm
    | ⟨1, _⟩ => exact (Nat.zero_add _).symm
    | ⟨2, _⟩ => exact (Nat.zero_add _).symm
  refine Eq.trans ?_ (start_at ρ h)
  unfold kernelRun0_A.sl.HS0_1 kernelRun0_A.sl.HS1_1 kernelRun0_A.sl.HS2_1
  exact State.ext (e _ _ _ 0) (e _ _ _ 0) (funext fun d => e _ _ _ d)

/-- A query's last state, from real scores and values: the weights' sum and the weighted values, off by the same power of two. -/
theorem final_real {h : Fin 2} {ρ : Fin 512} {σ : Fin 16 → Fin 512 → ℝ} {w : Fin 16 → Fin 512 → Fin 128 → ℝ}
    (hσ : ∀ b κ, sc X h b ρ κ = (σ b κ : EReal)) (hw : ∀ b κ d, vv X h b κ d = (w b κ d : EReal)) :
    ∃ μ : ℝ, (StOf R (n9 c i R X) (n10 c i R X) (n11 c i R X) h ρ).m = μ ∧
      (StOf R (n9 c i R X) (n10 c i R X) (n11 c i R X) h ρ).l
        = ((((sumTo (i 1).val fun b => ∑ κ, pow2 (σ b κ)) + ∑ κ : Fin 512, wt (fun κ => κ.val ≤ ρ.val) (σ (own i)) κ) * pow2 (-μ) : ℝ) : EReal) ∧
      ∀ d, (StOf R (n9 c i R X) (n10 c i R X) (n11 c i R X) h ρ).acc d
        = ((((sumTo (i 1).val fun b => ∑ κ, w b κ d * pow2 (σ b κ)) + ∑ κ : Fin 512, w (own i) κ d * wt (fun κ => κ.val ≤ ρ.val) (σ (own i)) κ) * pow2 (-μ) : ℝ) : EReal) := by
  rw [final_step]
  refine step_real (B := fun d => sumTo (i 1).val fun b => ∑ κ, w b κ d * pow2 (σ b κ)) ?_ (fun κ : Fin 512 => κ.val ≤ ρ.val) ⟨0, Nat.zero_le _⟩ (σ (own i)) (w (own i)) _ _ (fun κ => ?_) (hw _)
  · have := loop_holds c i R X _ _ _ hσ hw (start_st R h ρ) _ (le_of_eq (trips_eq i).symm)
    unfold StOf l9 l10 l11
    rw [View.writes_append, View.writes_append, View.writes_append, show Scf.trips (k0_t1_loop i).lb (k0_t1_loop i).ub (k0_t1_loop i).st = (i 1).val from trips_eq i]
    exact this
  · unfold own_sc; split
    · exact hσ _ κ
    · rfl

/-! ## The two results of a point -/

/-- The columns of the last store to a head are what the head's part reads. -/
theorem col_hit {v : View sig .tc .vmem S512x256 .bf16} (f : v.ty.Contents (Elt E)) (h : Fin 2) {off : Fin 2 → ℕ} (ho : off = ![0, h.val * 128]) (inb)
    (w : S512x128.Idx → Elt E .bf16) (L : List (View.Piece (Elt E) S512x256 .bf16)) (ρ : Fin 512) (d : Fin 128) :
    v.read (Elt E) (v.writes (Elt E) f ((⟨Rect.unit (s := S512x256) off S512x128.size inb, w⟩ : View.Piece (Elt E) S512x256 .bf16) :: L)) (ix2 ρ (col h d)) = w (ix2 ρ d) := by
  refine View.read_writes_cons_unit_of_mem v f _ w _ _ (ix2 ρ d) ho fun a => ?_
  match a with
  | ⟨0, _⟩ => exact (Nat.zero_add _).symm
  | ⟨1, _⟩ => rfl

theorem col_miss {v : View sig .tc .vmem S512x256 .bf16} (f : v.ty.Contents (Elt E)) (inb)
    (w : S512x128.Idx → Elt E .bf16) (L : List (View.Piece (Elt E) S512x256 .bf16)) (ρ : Fin 512) (d : Fin 128) :
    v.read (Elt E) (v.writes (Elt E) f ((⟨Rect.unit (s := S512x256) ![0, 128] S512x128.size inb, w⟩ : View.Piece (Elt E) S512x256 .bf16) :: L)) (ix2 ρ (col 0 d))
      = v.read (Elt E) (v.writes (Elt E) f L) (ix2 ρ (col 0 d)) :=
  View.read_writes_cons_unit_of_not_mem v f _ w _ _ rfl 1 (Or.inl (by show 0 * 128 + d.val < 128; omega))

theorem out_o (h : Fin 2) (ρ : Fin 512) (d : Fin 128) :
    out0_A_5 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x5 X.x6 (ix2 ρ (col h d))
      = Ideal.div ((StOf R (n9 c i R X) (n10 c i R X) (n11 c i R X) h ρ).acc d) (StOf R (n9 c i R X) (n10 c i R X) (n11 c i R X) h ρ).l := by
  unfold out0_A_5 kernelRun0_A; dsimp only
  obtain rfl | rfl : h = 0 ∨ h = 1 := by omega
  · refine ((col_miss _ _ _ _ ρ d).trans (col_hit _ 0 rfl _ _ _ ρ d)).trans ((pay62_at _ _ ρ d).trans ?_)
    exact congrArg₂ Ideal.div (load_part 0 _ rfl _ d ρ) (load_part 0 _ rfl _ 0 ρ)
  · refine (col_hit _ 1 rfl _ _ _ ρ d).trans ((pay65_at _ _ ρ d).trans ?_)
    exact congrArg₂ Ideal.div (load_part 1 _ rfl _ d ρ) (load_part 1 _ rfl _ 0 ρ)

theorem load_g (h : Fin 2) {off : Fin 3 → ℕ} (ho : off = ![h.val, 0, 0]) (inb) (ρ : Fin 512) :
    View.readAt (Elt E) R.a5.view (Rect.unit (s := S2x1x512) off S1x1x512.size inb).toLoadRect (R.w5.unread X.x5) (ix3 0 0 ρ) = X.x5 (ix3 h 0 ρ) :=
  (load_part h _ ho inb 0 ρ).trans (congrFun (R.w5.read_unread (Val := Elt E) X.x5) (ix3 h 0 ρ))

theorem out_lse (h : Fin 2) (ρ : Fin 512) :
    out0_A_6 (F := E) c i R.a2 R.w2 R.a3 R.w3 R.a4 R.w4 R.a5 R.w5 R.a6 R.w6 R.a7 R.w7 R.a8 R.w8 R.a9 R.w9 R.a10 R.w10 R.a11 R.w11 X.x2 X.x3 X.x4 X.x5 X.x6 (ix3 h 0 ρ)
      = ((StOf R (n9 c i R X) (n10 c i R X) (n11 c i R X) h ρ).m + Ideal.log (StOf R (n9 c i R X) (n10 c i R X) (n11 c i R X) h ρ).l * log2e) * ln2 + X.x5 (ix3 h 0 ρ) := by
  have e {m l g m' l' g' : EReal} (h1 : m = m') (h2 : l = l') (h3 : g = g') : (m + Ideal.log l * log2e) * ln2 + g = (m' + Ideal.log l' * log2e) * ln2 + g' := by rw [h1, h2, h3]
  unfold out0_A_6 kernelRun0_A; dsimp only
  obtain rfl | rfl : h = 0 ∨ h = 1 := by omega
  · refine ((part_miss _ 0 1 (by decide) rfl _ _ _ 0 ρ).trans (part_hit _ 0 rfl _ _ _ 0 ρ)).trans ?_
    unfold kernelRun0_A.sl.r_9
    exact (pay64_at _ _ ρ _).trans (e (load_part 0 _ rfl _ 0 ρ) (load_part 0 _ rfl _ 0 ρ) (load_g R X 0 rfl _ ρ))
  · refine (part_hit _ 1 rfl _ _ _ 0 ρ).trans ?_
    unfold kernelRun0_A.sl.r_10
    exact (pay1_at _ _ ρ _).trans (e (load_part 1 _ rfl _ 0 ρ) (load_part 1 _ rfl _ 0 ρ) (load_g R X 1 rfl _ ρ))

end point

end Cert.FwdIdeal.Fwd

end
-- ==== Proof.FwdReal.lean ====
/- The forgetting attention's forward pass over the real numbers: sums of powers of two over blocks of keys are the sums of exponentials of one row. -/
module

public import proofs.«01_k».proof.Proof.FwdPoint
public import proofs.«01_k».proof.Proof.AttnHolds

@[expose] public section

noncomputable section

namespace Cert.FwdIdeal.Fwd

open Cert.AttnReal Cert.FwdSoft

/-- The blocks before the query's own, and the own one up to the query, are the tokens up to the query. -/
theorem split_sum (b0 : Fin 16) (ρ : Fin 512) (f : Fin 8192 → ℝ) :
    (sumTo b0.val fun b => ∑ κ, f (row b κ)) + (∑ κ : Fin 512, if κ.val ≤ ρ.val then f (row b0 κ) else 0)
      = ∑ s : Fin 8192, if s.val ≤ (row b0 ρ).val then f s else 0 := by
  refine Eq.trans ?_ (sum_blocks fun s => if s.val ≤ (row b0 ρ).val then f s else 0)
  have h : (∑ κ : Fin 512, if κ.val ≤ ρ.val then f (row b0 κ) else 0)
      = ∑ b : Fin 16, if b = b0 then (∑ κ : Fin 512, if κ.val ≤ ρ.val then f (row b κ) else 0) else 0 := by
    rw [Finset.sum_ite_eq' Finset.univ b0]; exact (if_pos (Finset.mem_univ _)).symm
  rw [h]; unfold sumTo
  rw [← Finset.sum_add_distrib]
  refine Finset.sum_congr rfl fun b _ => ?_
  have hρ := ρ.isLt
  obtain hb | rfl | hb : b.val < b0.val ∨ b = b0 ∨ b0.val < b.val := by
    rcases lt_trichotomy b.val b0.val with h | h | h
    exacts [Or.inl h, Or.inr (Or.inl (Fin.ext h)), Or.inr (Or.inr h)]
  · rw [if_pos hb, if_neg (fun e => by rw [e] at hb; exact lt_irrefl _ hb), add_zero]
    refine Finset.sum_congr rfl fun κ _ => (if_pos ?_).symm
    show b.val * 512 + κ.val ≤ b0.val * 512 + ρ.val
    have := κ.isLt; omega
  · rw [if_neg (lt_irrefl _), if_pos rfl, zero_add]
    refine Finset.sum_congr rfl fun κ _ => if_congr ?_ rfl rfl
    show κ.val ≤ ρ.val ↔ b.val * 512 + κ.val ≤ b.val * 512 + ρ.val
    omega
  · rw [if_neg (by omega), if_neg (fun e => by rw [e] at hb; exact lt_irrefl _ hb), add_zero]
    refine (Finset.sum_eq_zero fun κ _ => if_neg ?_).symm
    show ¬ b.val * 512 + κ.val ≤ b0.val * 512 + ρ.val
    omega

section maths
variable (D : Data) (H : Fin 16) (r s : Fin 8192)

/-- A key's weight without the query's own gate. -/
def wgt : ℝ := Real.exp ((∑ d, D.q H r d * D.k H s d) * rs - D.c H s)

/-- A score as the kernel has it, for powers of two. -/
def sg (b : Fin 16) (κ : Fin 512) : ℝ := (∑ d, D.k H (row b κ) d * foldF * (D.q H r d * foldF)) - D.c H (row b κ) * (Real.log 2)⁻¹

theorem log2_inv : Real.log 2 * (Real.log 2)⁻¹ = 1 := mul_inv_cancel₀ log2_pos.ne'

theorem pow2_sg (b : Fin 16) (κ : Fin 512) : pow2 (sg D H r b κ) = wgt D H r (row b κ) := by
  have h : (∑ d, D.k H (row b κ) d * foldF * (D.q H r d * foldF)) = (∑ d, D.q H r d * D.k H (row b κ) d) * (foldF * foldF) := by
    rw [Finset.sum_mul]; exact Finset.sum_congr rfl fun d _ => by ring
  unfold pow2 wgt sg
  rw [h]
  congr 1
  linear_combination (∑ d, D.q H r d * D.k H (row b κ) d) * fold_sq - D.c H (row b κ) * log2_inv

/-- The sum of a row's weights. -/
def tot : ℝ := ∑ s : Fin 8192, if s.val ≤ r.val then wgt D H r s else 0

theorem e_eq : e D H r s = (if s.val ≤ r.val then wgt D H r s else 0) * Real.exp (D.c H r - D.M H r) := by
  unfold e wgt x; split
  · rw [← Real.exp_add]; congr 1; ring
  · rw [zero_mul]

theorem l_eq : l D H r = tot D H r * Real.exp (D.c H r - D.M H r) := by
  unfold l tot; rw [Finset.sum_mul]; exact Finset.sum_congr rfl fun s _ => e_eq D H r s

theorem tot_pos : 0 < tot D H r := by
  have h := l_pos D H r
  rw [l_eq] at h
  exact pos_of_mul_pos_left h (Real.exp_pos _).le

/-- The attention's output and each row's logarithm of its sum. -/
def outR (d : Fin 128) : ℝ := ∑ s, D.v H s d * p D H r s
def lseR : ℝ := D.M H r + Real.log (l D H r)

variable (b : Fin 16) (ρ : Fin 512)

theorem den_eq : (sumTo b.val fun b' => ∑ κ, pow2 (sg D H (row b ρ) b' κ)) + (∑ κ : Fin 512, wt (fun κ => κ.val ≤ ρ.val) (sg D H (row b ρ) b) κ) = tot D H (row b ρ) := by
  simp only [wt, pow2_sg]; exact split_sum b ρ (wgt D H (row b ρ))

theorem num_eq (d : Fin 128) : (sumTo b.val fun b' => ∑ κ, D.v H (row b' κ) d * pow2 (sg D H (row b ρ) b' κ)) +
    (∑ κ : Fin 512, D.v H (row b κ) d * wt (fun κ => κ.val ≤ ρ.val) (sg D H (row b ρ) b) κ) = outR D H (row b ρ) d * tot D H (row b ρ) := by
  have h := split_sum b ρ fun s => D.v H s d * wgt D H (row b ρ) s
  simp only [wt, pow2_sg, mul_ite, mul_zero]
  refine h.trans ?_
  unfold outR
  rw [Finset.sum_mul]
  refine Finset.sum_congr rfl fun s _ => ?_
  unfold p
  rw [e_eq, l_eq, mul_div_mul_right _ _ (Real.exp_pos _).ne', mul_assoc, div_mul_cancel₀ _ (tot_pos D H _).ne', mul_ite, mul_zero]

theorem lse_eq (μ : ℝ) : (μ + Real.log (tot D H r * pow2 (-μ)) * (Real.log 2)⁻¹) * Real.log 2 + D.c H r = lseR D H r := by
  unfold lseR
  rw [l_eq, Real.log_mul (tot_pos D H r).ne' (pow2_pos _).ne', Real.log_mul (tot_pos D H r).ne' (Real.exp_pos _).ne', Real.log_exp]
  unfold pow2
  rw [Real.log_exp]
  linear_combination (Real.log (tot D H r) - Real.log 2 * μ) * log2_inv

end maths

end Cert.FwdIdeal.Fwd

end
-- ==== Proof.FwdArrays.lean ====
/- The attention's forward kernel, where all arguments are real: its two arrays when the grid is done. -/
module

public import proofs.«01_k».proof.Proof.FwdReal

@[expose] public section

set_option maxRecDepth 16384

noncomputable section

namespace Cert.FwdIdeal.Fwd

open Cert.FwdIdeal Cert.FwdIdeal.Gen Cert.FwdIdeal.Value
open Idealize.ShloMosaic Idealize.ShloMosaic.TcCoe Idealize.ShloMosaic.Tactic Idealize.ShloMosaic.StableHlo
open Cert.Lift Cert.AttnReal Cert.FwdSoft
open Cert.AttnIdeal.Bwd (gcol hd foldedOf foldedOf_at byHead byHead_gcol head_row head_col col_eta)

local notation "E" => Idealize.ShloMosaic.Ideal

variable (m : (ℓ : Loc nD τ sig) → Buf (Elt E) ℓ) (c : Dev nD)

abbrev argQ : FVec E S8192x2048 .f32 := m ((c : Thread nD τ).loc main_arg0)
abbrev argK : FVec E S8192x2048 .f32 := m ((c : Thread nD τ).loc main_arg1)
abbrev argV : FVec E S8192x2048 .f32 := m ((c : Thread nD τ).loc main_arg2)
abbrev argC : FVec E S16x8192 .f32 := m ((c : Thread nD τ).loc main_arg3)

/-! ## What the host lines hand to the call -/

/-- What the host lines hand to the call. -/
structure Handed : Prop where
  v6 : V m c main_v6 = foldedOf (argQ m c)
  v13 : V m c main_v13 = foldedOf (argK m c)
  v15 : V m c main_v15 = transpose S2048x8192 [1, 0] (truncf FTy.bf16 (argV m c) bitsLt_bf16_f32) transposes_S8192x2048_S2048x8192_1_0
  v16 : V m c main_v16 = broadcastInDim S16x1x8192 ![0, 2] bcast_S16x8192_S16x1x8192_0_2 (argC m c)
  v17 : V m c main_v17 = broadcastInDim S16x8192x1 ![0, 1] bcast_S16x8192_S16x8192x1_0_1 (argC m c)

theorem handed : Handed m c := by
  constructor <;> (simp only [V, hostOps0, List.flatten_cons, List.flatten_nil, List.append_nil, List.cons_append, List.nil_append, TRef.nullary, TRef.ternary, TRef.unary, TRef.toBuf, TRef.ofBuf, cast_eq]; after_results_simp <;> rfl)

theorem turned (y : FVec E S8192x2048 .bf16) (k : Fin 2048) (s : Fin 8192) :
    transpose S2048x8192 [1, 0] y transposes_S8192x2048_S2048x8192_1_0 (ix2 k s) = y (ix2 s k) := by
  pointwise

/-! ## The blocks of a point -/

/-- The point of the grid for the pair `p` of heads and the block `b` of queries. -/
def pt (p : Fin 8) (b : Fin 16) : Fin cfg0.N := ⟨p.val * 16 + b.val, by show _ < 128; omega⟩

theorem pt_eta (t : Fin cfg0.N) : ∃ p b, t = pt p b :=
  have h : t.val < 128 := t.isLt
  ⟨⟨t.val / 16, by omega⟩, ⟨t.val % 16, by omega⟩, Fin.ext (by show t.val = t.val / 16 * 16 + t.val % 16; omega)⟩

theorem coords_pt (p : Fin 8) (b : Fin 16) : (grid0.coords (pt p b) 1).val = b.val := by
  have h1 : (grid0.coords (pt p b) 1).val = (p.val * 16 + b.val) / 1 % 16 := Pipeline.Grid.coords_val _ 1 (by decide) rfl
  omega

theorem idx_q : ∀ (p : Fin 8) (b : Fin 16), win0_0.index (pt p b) 0 = b.val ∧ win0_0.index (pt p b) 1 = p.val := by decide +kernel
theorem idx_k : ∀ (p : Fin 8) (b : Fin 16), win0_1.index (pt p b) 0 = 0 ∧ win0_1.index (pt p b) 1 = p.val := by decide +kernel
theorem idx_v : ∀ (p : Fin 8) (b : Fin 16), win0_2.index (pt p b) 0 = p.val ∧ win0_2.index (pt p b) 1 = 0 := by decide +kernel
theorem idx_cr : ∀ (p : Fin 8) (b : Fin 16), win0_3.index (pt p b) 0 = p.val ∧ win0_3.index (pt p b) 1 = 0 ∧ win0_3.index (pt p b) 2 = b.val := by decide +kernel
theorem idx_cc : ∀ (p : Fin 8) (b : Fin 16), win0_4.index (pt p b) 0 = p.val ∧ win0_4.index (pt p b) 1 = 0 ∧ win0_4.index (pt p b) 2 = 0 := by decide +kernel
theorem idx_o : ∀ (p : Fin 8) (b : Fin 16), win0_5.index (pt p b) 0 = b.val ∧ win0_5.index (pt p b) 1 = p.val := by decide +kernel
theorem idx_ls : ∀ (p : Fin 8) (b : Fin 16), win0_6.index (pt p b) 0 = p.val ∧ win0_6.index (pt p b) 1 = 0 ∧ win0_6.index (pt p b) 2 = b.val := by decide +kernel

section blocks
variable (p : Fin 8) (b : Fin 16) (h : Fin 2) (d : Fin 128) (ρ : Fin 512) (s : Fin 8192)

theorem blk_q : iblk m c 0 (pt p b) (ix2 ρ (col h d)) = argQ m c (ix2 (row b ρ) (gcol (hd p h) d)) * (foldF : EReal) := by
  refine Eq.trans ?_ ((congrFun (handed m c).v6 (ix2 (row b ρ) (gcol (hd p h) d))).trans (foldedOf_at _ _ _))
  unfold iblk; rw [View.read_apply]
  show V m c main_v6 _ = _
  congr 1; funext a; apply Fin.ext
  match a with
  | ⟨0, _⟩ => show win0_0.index _ 0 * 512 + 1 * ρ.val = b.val * 512 + ρ.val; rw [(idx_q p b).1]; omega
  | ⟨1, _⟩ => show win0_0.index _ 1 * 256 + 1 * (h.val * 128 + d.val) = (p.val * 2 + h.val) * 128 + d.val; rw [(idx_q p b).2]; omega

theorem blk_k : iblk m c 1 (pt p b) (ix2 s (col h d)) = argK m c (ix2 s (gcol (hd p h) d)) * (foldF : EReal) := by
  refine Eq.trans ?_ ((congrFun (handed m c).v13 (ix2 s (gcol (hd p h) d))).trans (foldedOf_at _ _ _))
  unfold iblk; rw [View.read_apply]
  show V m c main_v13 _ = _
  congr 1; funext a; apply Fin.ext
  match a with
  | ⟨0, _⟩ => show win0_1.index _ 0 * 8192 + 1 * s.val = s.val; rw [(idx_k p b).1]; omega
  | ⟨1, _⟩ => show win0_1.index _ 1 * 256 + 1 * (h.val * 128 + d.val) = (p.val * 2 + h.val) * 128 + d.val; rw [(idx_k p b).2]; omega

theorem blk_v : iblk m c 2 (pt p b) (ix2 (col h d) s) = argV m c (ix2 s (gcol (hd p h) d)) := by
  refine Eq.trans ?_ ((congrFun (handed m c).v15 (ix2 (gcol (hd p h) d) s)).trans (turned _ _ _))
  unfold iblk; rw [View.read_apply]
  show V m c main_v15 _ = _
  congr 1; funext a; apply Fin.ext
  match a with
  | ⟨0, _⟩ => show win0_2.index _ 0 * 256 + 1 * (h.val * 128 + d.val) = (p.val * 2 + h.val) * 128 + d.val; rw [(idx_v p b).1]; omega
  | ⟨1, _⟩ => show win0_2.index _ 1 * 8192 + 1 * s.val = s.val; rw [(idx_v p b).2]; omega

theorem blk_cr : iblk m c 3 (pt p b) (ix3 h 0 ρ) = argC m c (ix2 (hd p h) (row b ρ)) := by
  refine Eq.trans ?_ ((congrFun (handed m c).v16 (ix3 (hd p h) 0 (row b ρ))).trans (head_row _ _ _))
  unfold iblk; rw [View.read_apply]
  show V m c main_v16 _ = _
  congr 1; funext a; apply Fin.ext
  match a with
  | ⟨0, _⟩ => show win0_3.index _ 0 * 2 + 1 * h.val = p.val * 2 + h.val; rw [(idx_cr p b).1]; omega
  | ⟨1, _⟩ => show win0_3.index _ 1 * 1 + 1 * 0 = 0; rw [(idx_cr p b).2.1]
  | ⟨2, _⟩ => show win0_3.index _ 2 * 512 + 1 * ρ.val = b.val * 512 + ρ.val; rw [(idx_cr p b).2.2]; omega

theorem blk_cc : iblk m c 4 (pt p b) (ix3 h s 0) = argC m c (ix2 (hd p h) s) := by
  refine Eq.trans ?_ ((congrFun (handed m c).v17 (ix3 (hd p h) s 0)).trans (head_col _ _ _))
  unfold iblk; rw [View.read_apply]
  show V m c main_v17 _ = _
  congr 1; funext a; apply Fin.ext
  match a with
  | ⟨0, _⟩ => show win0_4.index _ 0 * 2 + 1 * h.val = p.val * 2 + h.val; rw [(idx_cc p b).1]; omega
  | ⟨1, _⟩ => show win0_4.index _ 1 * 8192 + 1 * s.val = s.val; rw [(idx_cc p b).2.1]; omega
  | ⟨2, _⟩ => show win0_4.index _ 2 * 1 + 1 * 0 = 0; rw [(idx_cc p b).2.2]

end blocks

/-- The memrefs of a point. -/
abbrev refs (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t,
  scM0_0, Memref.isWhole_whole _, scM0_1, Memref.isWhole_whole _, scM0_2, Memref.isWhole_whole _⟩

/-- What a point's inputs hold. -/
abbrev ins (t : Fin cfg0.N) : Ins := ⟨iblk m c 0 t, iblk m c 1 t, iblk m c 2 t, iblk m c 3 t, iblk m c 4 t⟩

/-- What a point leaves of the output and of the rows' logarithms. -/
abbrev oOf (t : Fin cfg0.N) : FVec E S512x256 .bf16 := out0_A_5 (F := E) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t)
abbrev rowsOf (t : Fin cfg0.N) : FVec E S2x1x512 .f32 := out0_A_6 (F := E) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t)

section reals
variable {q k v : S8192x2048.Idx → ℝ} {g : S16x8192.Idx → ℝ}

/-- The data of the arguments. -/
abbrev dat (q k v : S8192x2048.Idx → ℝ) (g : S16x8192.Idx → ℝ) : Data := dataOf q k v (fun _ => 0) g

variable (hq : argQ m c = up q) (hk : argK m c = up k) (hv : argV m c = up v) (hc : argC m c = up g)
  (p : Fin 8) (b : Fin 16) (h : Fin 2) (d : Fin 128) (ρ : Fin 512)

include hq hk hc in
theorem sc_real (b' : Fin 16) (κ : Fin 512) :
    sc (ins m c (pt p b)) h b' ρ κ = (sg (dat q k v g) (hd p h) (row b ρ) b' κ : EReal) := by
  unfold sc
  dsimp only
  simp only [blk_q, blk_k, blk_cc]
  rw [hq, hk, hc]
  unfold sg log2e
  simp only [← EReal.coe_mul, ← coe_sum, ← EReal.coe_sub]
  rfl

include hv in
theorem vv_real (b' : Fin 16) (κ : Fin 512) : vv (ins m c (pt p b)) h b' κ d = ((dat q k v g).v (hd p h) (row b' κ) d : EReal) := by
  unfold vv
  dsimp only
  rw [blk_v, hv]; rfl

include hq hk hv hc

theorem o_point : oOf m c (pt p b) (ix2 ρ (col h d))
    = (outR (dat q k v g) (hd p h) (row b ρ) d : EReal) := by
  refine (out_o c (grid0.coords (pt p b)) (refs (pt p b)) (ins m c (pt p b)) h ρ d).trans ?_
  obtain ⟨μ, -, hl, ha⟩ := final_real c (grid0.coords (pt p b)) (refs (pt p b)) (ins m c (pt p b)) (sc_real m c (v := v) hq hk hc p b h ρ)
    (fun b' κ d' => vv_real m c (q := q) (k := k) (g := g) hv p b h d' b' κ)
  have ho : own (grid0.coords (pt p b)) = b := Fin.ext (coords_pt p b)
  rw [ha, hl, ho, coords_pt, den_eq, num_eq, div_coe (mul_pos (tot_pos _ _ _) (pow2_pos _)).ne',
    mul_div_mul_right _ _ (pow2_pos _).ne', mul_div_cancel_right₀ _ (tot_pos _ _ _).ne']

theorem l_point : rowsOf m c (pt p b) (ix3 h 0 ρ)
    = (lseR (dat q k v g) (hd p h) (row b ρ) : EReal) := by
  refine (out_lse c (grid0.coords (pt p b)) (refs (pt p b)) (ins m c (pt p b)) h ρ).trans ?_
  obtain ⟨μ, hm, hl, -⟩ := final_real c (grid0.coords (pt p b)) (refs (pt p b)) (ins m c (pt p b)) (sc_real m c (v := v) hq hk hc p b h ρ)
    (fun b' κ d' => vv_real m c (q := q) (k := k) (g := g) hv p b h d' b' κ)
  have ho : own (grid0.coords (pt p b)) = b := Fin.ext (coords_pt p b)
  have hg : (ins m c (pt p b)).x5 (ix3 h 0 ρ) = ((dat q k v g).c (hd p h) (row b ρ) : EReal) := (blk_cr m c p b h ρ).trans (by rw [hc]; rfl)
  rw [hm, hl, ho, coords_pt, den_eq, hg, log_coe (mul_pos (tot_pos _ _ _) (pow2_pos _)), ← lse_eq _ _ _ μ]
  simp only [← EReal.coe_mul, ← EReal.coe_add]

/-- The attention's output when the grid is done. -/
theorem arr_o : (dats m 0 c).arrAt 5 cfg0.N = byHead (fun H r d => (outR (dat q k v g) H r d : EReal)) := by
  refine (dats m 0 c).arrAt_eq_of_cover 5 _ (fun t _ => ?_) (fun (i : S8192x2048.Idx) => ?_)
  · obtain ⟨p, b, rfl⟩ := pt_eta t
    rw [flushed5_A]; funext j; rw [View.read_apply]
    obtain ⟨κ, y, rfl⟩ : ∃ (κ : Fin 512) (y : Fin 256), j = ix2 κ y := ⟨j 0, j 1, (ix2_eta j).symm⟩
    obtain ⟨h, d, rfl⟩ : ∃ h d, y = col h d := col_eta y
    have e : ((cfg0.win 5).blk (pt p b)).view.emb (ix2 κ (col h d)) = ix2 (row b κ) (gcol (hd p h) d) := by
      funext a; apply Fin.ext
      match a with
      | ⟨0, _⟩ => show win0_5.index _ 0 * 512 + 1 * κ.val = b.val * 512 + κ.val; rw [(idx_o p b).1]; omega
      | ⟨1, _⟩ => show win0_5.index _ 1 * 256 + 1 * (h.val * 128 + d.val) = (p.val * 2 + h.val) * 128 + d.val; rw [(idx_o p b).2]; omega
    rw [e]
    exact (o_point m c hq hk hv hc p b h d κ).trans (byHead_gcol (fun H r d => (outR (dat q k v g) H r d : EReal)) _ _ _).symm
  · have h0 : (i 0).val < 8192 := (i 0).isLt
    have h1 : (i 1).val < 2048 := (i 1).isLt
    obtain ⟨p, hp⟩ : ∃ p : Fin 8, p.val = (i 1).val / 256 := ⟨⟨_, by omega⟩, rfl⟩
    obtain ⟨b, hb⟩ : ∃ b : Fin 16, b.val = (i 0).val / 512 := ⟨⟨_, by omega⟩, rfl⟩
    refine ⟨pt p b, flush0_5 _, ?_⟩
    show i ∈ ((View.whole main_v18_0).slice (win0_5.rect (pt p b))).set
    rw [View.set_slice_whole, Rect.mem_set_unit]; intro a
    match a with
    | ⟨0, _⟩ => show win0_5.index _ 0 * 512 ≤ (i 0).val ∧ (i 0).val < win0_5.index _ 0 * 512 + 512; rw [(idx_o _ _).1]; omega
    | ⟨1, _⟩ => show win0_5.index _ 1 * 256 ≤ (i 1).val ∧ (i 1).val < win0_5.index _ 1 * 256 + 256; rw [(idx_o _ _).2]; omega

/-- Each row's logarithm of its sum, by head and row. -/
def byRow (f : Fin 16 → Fin 8192 → EReal) : S16x1x8192.Idx → EReal := fun i => f (i 0) (i 2)

omit hq hk hv hc in
theorem part_eta (j : S2x1x512.Idx) : ∃ h ρ, j = ix3 h 0 ρ := ⟨j 0, j 2, by
  funext a
  match a with
  | ⟨0, _⟩ => rfl
  | ⟨1, _⟩ => exact Subsingleton.elim (α := Fin 1) _ _
  | ⟨2, _⟩ => rfl⟩

theorem arr_l : (dats m 0 c).arrAt 6 cfg0.N = byRow (fun H r => (lseR (dat q k v g) H r : EReal)) := by
  refine (dats m 0 c).arrAt_eq_of_cover 6 _ (fun t _ => ?_) (fun (i : S16x1x8192.Idx) => ?_)
  · obtain ⟨p, b, rfl⟩ := pt_eta t
    rw [flushed6_A]; funext j; rw [View.read_apply]
    obtain ⟨h, ρ, rfl⟩ := part_eta j
    have e : ((cfg0.win 6).blk (pt p b)).view.emb (ix3 h 0 ρ) = ix3 (hd p h) 0 (row b ρ) := by
      funext a; apply Fin.ext
      match a with
      | ⟨0, _⟩ => show win0_6.index _ 0 * 2 + 1 * h.val = p.val * 2 + h.val; rw [(idx_ls p b).1]; omega
      | ⟨1, _⟩ => show win0_6.index _ 1 * 1 + 1 * 0 = 0; rw [(idx_ls p b).2.1]
      | ⟨2, _⟩ => show win0_6.index _ 2 * 512 + 1 * ρ.val = b.val * 512 + ρ.val; rw [(idx_ls p b).2.2]; omega
    rw [e]
    exact l_point m c hq hk hv hc p b h ρ
  · have h0 : (i 0).val < 16 := (i 0).isLt
    have h1 : (i 1).val < 1 := (i 1).isLt
    have h2 : (i 2).val < 8192 := (i 2).isLt
    obtain ⟨p, hp⟩ : ∃ p : Fin 8, p.val = (i 0).val / 2 := ⟨⟨_, by omega⟩, rfl⟩
    obtain ⟨b, hb⟩ : ∃ b : Fin 16, b.val = (i 2).val / 512 := ⟨⟨_, by omega⟩, rfl⟩
    refine ⟨pt p b, flush0_6 _, ?_⟩
    show i ∈ ((View.whole main_v18_1).slice (win0_6.rect (pt p b))).set
    rw [View.set_slice_whole, Rect.mem_set_unit]; intro a
    match a with
    | ⟨0, _⟩ => show win0_6.index _ 0 * 2 ≤ (i 0).val ∧ (i 0).val < win0_6.index _ 0 * 2 + 2; rw [(idx_ls _ _).1]; omega
    | ⟨1, _⟩ => show win0_6.index _ 1 * 1 ≤ (i 1).val ∧ (i 1).val < win0_6.index _ 1 * 1 + 1; rw [(idx_ls _ _).2.1]; omega
    | ⟨2, _⟩ => show win0_6.index _ 2 * 512 ≤ (i 2).val ∧ (i 2).val < win0_6.index _ 2 * 512 + 512; rw [(idx_ls _ _).2.2]; omega

end reals

end Cert.FwdIdeal.Fwd

end
-- ==== Proof.FwdRef.lean ====
/- The reference of the attention's forward kernel, where all arguments are real. -/
module

public import proofs.«01_k».proof.Proof.FwdArrays
public import proofs.«01_k».proof.Proof.AttnValue
public import proofs.«01_k».proof.Proof.Gen.FwdRefIdeal.Run
public import proofs.«01_k».proof.Proof.Gen.FwdRefIdeal.Read

@[expose] public section

set_option maxRecDepth 16384

noncomputable section

namespace Cert.FwdRefIdeal.Fwd

open Cert.FwdRefIdeal Cert.FwdRefIdeal.Gen
open Idealize.ShloMosaic Idealize.ShloMosaic.TcCoe Idealize.ShloMosaic.Tactic
open Cert.Lift Cert.AttnReal Cert.FwdIdeal.Fwd
open Cert.AttnIdeal.Bwd (gcol byHead byHead_gcol masked maxOf sumOf expOf lseOf outOf)
open Cert.AttnRefIdeal.Bwd (Q2 G2 head_div col_mod)

local notation "E" => Idealize.ShloMosaic.Ideal

theorem heads_eq (x0 x1 x2 : Q2) (x3 : G2) : Read.val_main_v30 (F := E) x0 x1 x2 x3 = outOf x2 (masked x0 x1 x3) := rfl

theorem rows_eq (x0 x1 : Q2) (x3 : G2) : Read.val_main_v33 (F := E) x0 x1 x3 = lseOf (masked x0 x1 x3) := rfl

theorem out_at (x0 x1 x2 : Q2) (x3 : G2) (H : Fin 16) (r : Fin 8192) (d : Fin 128) :
    Read.val_main_v35 (F := E) x0 x1 x2 x3 (ix2 r (gcol H d)) = Read.val_main_v30 (F := E) x0 x1 x2 x3 (ix3 r H d) := by
  have e : ∀ y : FVec E S8192x16x128 .f32, shapeCast S8192x2048 y shapeCasts_S8192x16x128_S8192x2048 (ix2 r (gcol H d)) = y (ix3 r H d) := fun y => by
    refine shapeCast_apply y _ (ix2 r (gcol H d)) (ix3 r H d) ?_
    rewrite [Shape.rowMajor_val_two, Shape.rowMajor_val_three]
    show (r.val * 16 + H.val) * 128 + d.val = r.val * 2048 + (H.val * 128 + d.val)
    omega
  exact e (Read.val_main_v30 (F := E) x0 x1 x2 x3)

theorem lse_at (x0 x1 : Q2) (x3 : G2) (H : Fin 16) (r : Fin 8192) :
    Read.val_main_v36 (F := E) x0 x1 x3 (ix3 H 0 r) = Read.val_main_v33 (F := E) x0 x1 x3 (ix2 H r) :=
  Cert.AttnIdeal.Bwd.head_row _ _ _

/-- The reference's two results at four arguments that are equal to real ones. -/
theorem values {x0 x1 x2 : Q2} {x3 : G2} (q k v : Cert.FwdIdeal.S8192x2048.Idx → ℝ) (g : Cert.FwdIdeal.S16x8192.Idx → ℝ)
    (hq : x0 = up q) (hk : x1 = up k) (hv : x2 = up v) (hg : x3 = up g) :
    Read.val_main_v35 (F := E) x0 x1 x2 x3 = byHead (fun H r d => (outR (dat q k v g) H r d : EReal))
    ∧ Read.val_main_v36 (F := E) x0 x1 x3 = byRow (fun H r => (lseR (dat q k v g) H r : EReal)) := by
  subst hq hk hv hg
  refine ⟨ext_heads fun H r d => ?_, funext fun i => ?_⟩
  · rw [byHead_gcol, out_at, heads_eq]; exact out_real q k v (fun _ => 0) g H r d
  · obtain ⟨H, r, rfl⟩ : ∃ (H : Fin 16) (r : Fin 8192), i = ix3 H 0 r := ⟨i 0, i 2, by
      funext a
      match a with
      | ⟨0, _⟩ => rfl
      | ⟨1, _⟩ => exact Subsingleton.elim (α := Fin 1) _ _
      | ⟨2, _⟩ => rfl⟩
    rw [lse_at, rows_eq]; exact lse_real q k v (fun _ => 0) g H r

end Cert.FwdRefIdeal.Fwd

end
-- ==== Proof.FwdClaims.lean ====
/- The claims about the attention's forward kernel. -/
module

public import proofs.«01_k».proof.Defs
public import proofs.«01_k».proof.Proof.FwdRef
public import proofs.«01_k».proof.Proof.Gen.Pre_fwd_finite
public import Idealize.ShloMosaic.Lib.Quiescent

@[expose] public section

set_option maxRecDepth 16384

noncomputable section

namespace Cert.Proof

open Idealize.ShloMosaic Idealize.SL.Sem Cert.Lift Cert.AttnReal

/-- Kernel and reference compute the same output and the same logarithms of the rows' sums, where the arguments are finite. -/
theorem algebraic_fwd : Cert.algebraic_FwdIdeal_FwdRefIdeal_pre_fwd_finite := by
  intro m ρ m' ρ' hpre hargs
  refine ⟨_, _, Cert.FwdIdeal.Value.run_blocks m ρ, ?_⟩
  refine (θ_run Cert.FwdRefIdeal.defs _ _).mono (fun r h c => ?_) (Cert.FwdRefIdeal.Value.run m' ρ')
  obtain ⟨e0, e1, e2, e3⟩ := hargs c
  obtain ⟨h0, h1, h2, h3⟩ := hpre c
  obtain ⟨q, hq⟩ := reals_of_finite _ _ h0
  obtain ⟨k, hk⟩ := reals_of_finite _ _ h1
  obtain ⟨v, hv⟩ := reals_of_finite _ _ h2
  obtain ⟨g, hg⟩ := reals_of_finite _ _ h3
  obtain ⟨ro, rl⟩ := Cert.FwdRefIdeal.Fwd.values q k v g (e0.trans hq) (e1.trans hk) (e2.trans hv) (e3.trans hg)
  obtain ⟨po, pl, pa⟩ := h c
  exact ⟨po.trans ((Cert.FwdRefIdeal.Read.val_main_v35_eq m' c).trans (ro.trans (Cert.FwdIdeal.Fwd.arr_o m c hq hk hv hg).symm)),
    pl.trans ((Cert.FwdRefIdeal.Read.val_main_v36_eq m' c).trans (rl.trans (Cert.FwdIdeal.Fwd.arr_l m c hq hk hv hg).symm)), pa⟩

theorem frame_fwdRef : Cert.quiescent_FwdRefIdeal := fun m ρ _ =>
  (θ_run Cert.FwdRefIdeal.defs _ _).mono (fun r h => ⟨fun c => (h c).2.2, sem_eq_zero_of_no_sems (by decide) r.2⟩) (Cert.FwdRefIdeal.Value.run (F := Ideal) m ρ)

theorem frame_fwdRef_pre : Cert.quiescent_FwdRefIdeal_pre_fwd_finite := fun m ρ _ =>
  (θ_run Cert.FwdRefIdeal.defs _ _).mono (fun r h => ⟨fun c => (h c).2.2, sem_eq_zero_of_no_sems (by decide) r.2⟩) (Cert.FwdRefIdeal.Value.run (F := Ideal) m ρ)

/-- The named constants: −∞ for the mask, 1 / ln 2 and ln 2. -/
theorem preserves_fwd : Cert.preserves_Fwd_FwdIdeal :=
  ⟨IdealRules.named_const.statement _ "mask" .f32 0xF149F2CA#32 _ rfl, IdealRules.named_const.statement _ "log2e" .f32 0x3FB8AA3B#32 _ rfl,
    IdealRules.named_const.statement _ "ln2" .f32 0x3F317218#32 _ rfl⟩

end Cert.Proof

end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.QkNorm
public import proofs.«01_k».proof.Proof.Gen.QkNorm.Skeleton
public import proofs.«01_k».proof.Proof.Gen.QkNorm.Launch
public import proofs.«01_k».proof.Proof.Gen.QkNorm.Points
public import proofs.«01_k».proof.Proof.Gen.QkNorm.Frame
public import proofs.«01_k».proof.Proof.Gen.QkNormIdeal
public import proofs.«01_k».proof.Proof.Gen.QkNormIdeal.Skeleton
public import proofs.«01_k».proof.Proof.Gen.QkNormIdeal.Launch
public import proofs.«01_k».proof.Proof.Gen.QkNormIdeal.Points
public import proofs.«01_k».proof.Proof.Gen.QkNormIdeal.Frame
public import proofs.«01_k».proof.Proof.Gen.QkNormIdeal.Value
public import proofs.«01_k».proof.Proof.Gen.QkNormRefIdeal
public import proofs.«01_k».proof.Proof.Gen.QkNormRefIdeal.Run
public import proofs.«01_k».proof.Proof.Gen.QkNormRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.DactRefIdeal.Read
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Din
public import proofs.«01_k».proof.Proof.Gen.Din.Skeleton
public import proofs.«01_k».proof.Proof.Gen.Din.Launch
public import proofs.«01_k».proof.Proof.Gen.Din.Points
public import proofs.«01_k».proof.Proof.Gen.Din.Frame
public import proofs.«01_k».proof.Proof.Gen.DinIdeal
public import proofs.«01_k».proof.Proof.Gen.DinIdeal.Skeleton
public import proofs.«01_k».proof.Proof.Gen.DinIdeal.Launch
public import proofs.«01_k».proof.Proof.Gen.DinIdeal.Points
public import proofs.«01_k».proof.Proof.Gen.DinIdeal.Frame
public import proofs.«01_k».proof.Proof.Gen.DinIdeal.Value
public import proofs.«01_k».proof.Proof.Gen.DinRefIdeal
public import proofs.«01_k».proof.Proof.Gen.DinRefIdeal.Run
public import proofs.«01_k».proof.Proof.Gen.DinRefIdeal.Read
public import proofs.«01_k».proof.Proof.Gen.Pre_gate_finite
public import proofs.«01_k».proof.Proof.Gen.Pre_qkv_finite
public import proofs.«01_k».proof.Proof.Gen.Pre_pool_finite
public import proofs.«01_k».proof.Proof.Gen.Pre_dact_finite
public import proofs.«01_k».proof.Proof.Gen.Pre_dh_finite
public import proofs.«01_k».proof.Proof.Gen.Pre_din_finite
public import proofs.«01_k».proof.Proof.LossValue
public import proofs.«01_k».proof.Proof.AttnValue
public import Idealize.ShloMosaic.Adequacy
public import Idealize.ShloMosaic.Init
public import proofs.«01_k».proof.Proof.Gen.Delta
public import proofs.«01_k».proof.Proof.Gen.DeltaIdeal
public import proofs.«01_k».proof.Proof.Gen.DeltaRefIdeal
public import proofs.«01_k».proof.Proof.Gen.DeltaIdeal.Value
public import proofs.«01_k».proof.Proof.Gen.Fwd
public import proofs.«01_k».proof.Proof.Gen.FwdIdeal
public import proofs.«01_k».proof.Proof.Gen.FwdRefIdeal
public import proofs.«01_k».proof.Proof.Gen.FwdIdeal.Value
public import proofs.«01_k».proof.Proof.Gen.Pre_fwd_finite
public import proofs.«01_k».proof.Proof.Gen.Delta.Skeleton
public import proofs.«01_k».proof.Proof.Gen.DeltaIdeal.Skeleton
public import proofs.«01_k».proof.Proof.Gen.Delta.Launch
public import proofs.«01_k».proof.Proof.Gen.DeltaIdeal.Launch
public import proofs.«01_k».proof.Proof.Gen.Delta.Points
public import proofs.«01_k».proof.Proof.Gen.DeltaIdeal.Points
public import proofs.«01_k».proof.Proof.Gen.Delta.Frame
public import proofs.«01_k».proof.Proof.Gen.DeltaIdeal.Frame
public import proofs.«01_k».proof.Proof.Gen.DeltaRefIdeal.Run
public import proofs.«01_k».proof.Proof.Gen.DeltaRefIdeal.Read
public import proofs.«01_k».proof.Proof.Gen.Fwd.Skeleton
public import proofs.«01_k».proof.Proof.Gen.FwdIdeal.Skeleton
public import proofs.«01_k».proof.Proof.Gen.Fwd.Launch
public import proofs.«01_k».proof.Proof.Gen.FwdIdeal.Launch
public import proofs.«01_k».proof.Proof.Gen.Fwd.Points
public import proofs.«01_k».proof.Proof.Gen.FwdIdeal.Points
public import proofs.«01_k».proof.Proof.Gen.Fwd.Frame
public import proofs.«01_k».proof.Proof.Gen.FwdIdeal.Frame
public import proofs.«01_k».proof.Proof.Gen.FwdRefIdeal.Run
public import proofs.«01_k».proof.Proof.Gen.FwdRefIdeal.Read
public import proofs.«01_k».proof.Proof.GateClaims
public import proofs.«01_k».proof.Proof.QkNormClaims
public import proofs.«01_k».proof.Proof.PoolClaims
public import proofs.«01_k».proof.Proof.DactClaims
public import proofs.«01_k».proof.Proof.DhClaims
public import proofs.«01_k».proof.Proof.DinClaims
public import proofs.«01_k».proof.Proof.DeltaClaims
public import proofs.«01_k».proof.Proof.FwdClaims

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts, Cert.Attn.Gen.facts, Cert.AttnIdeal.Gen.facts, Cert.AttnRefIdeal.Gen.facts,
  Cert.Gate.Gen.facts, Cert.GateIdeal.Gen.facts, Cert.GateRefIdeal.Gen.facts, Cert.QkNorm.Gen.facts, Cert.QkNormIdeal.Gen.facts,
  Cert.QkNormRefIdeal.Gen.facts, Cert.Pool.Gen.facts, Cert.PoolIdeal.Gen.facts, Cert.PoolRefIdeal.Gen.facts, Cert.Dact.Gen.facts,
  Cert.DactIdeal.Gen.facts, Cert.DactRefIdeal.Gen.facts, Cert.Dh.Gen.facts, Cert.DhIdeal.Gen.facts, Cert.DhRefIdeal.Gen.facts, Cert.Din.Gen.facts,
  Cert.DinIdeal.Gen.facts, Cert.DinRefIdeal.Gen.facts, Cert.Delta.Gen.facts, Cert.DeltaIdeal.Gen.facts, Cert.DeltaRefIdeal.Gen.facts, Cert.Fwd.Gen.facts,
  Cert.FwdIdeal.Gen.facts, Cert.FwdRefIdeal.Gen.facts, Cert.Pre_attn_finite.Gen.facts, Cert.Pre_gate_finite.Gen.facts, Cert.Pre_qkv_finite.Gen.facts,
  Cert.Pre_pool_finite.Gen.facts, Cert.Pre_dact_finite.Gen.facts, Cert.Pre_dh_finite.Gen.facts, Cert.Pre_din_finite.Gen.facts,
  Cert.Pre_fwd_finite.Gen.facts, fun m ρ _ => Cert.Loss.Gen.frame m ρ, fun m ρ _ => Cert.LossIdeal.Gen.frame m ρ, frame_lossRef, frame_attn,
  frame_attnIdeal, frame_attnIdeal_pre, frame_attnRef, frame_attnRef_pre, fun m ρ _ => Cert.Gate.Gen.frame m ρ,
  fun m ρ _ => Cert.GateIdeal.Gen.frame m ρ, fun m ρ _ => Cert.GateIdeal.Gen.frame m ρ, frame_gateRef, frame_gateRef_pre,
  fun m ρ _ => Cert.QkNorm.Gen.frame m ρ, fun m ρ _ => Cert.QkNormIdeal.Gen.frame m ρ, fun m ρ _ => Cert.QkNormIdeal.Gen.frame m ρ, frame_qkvRef,
  frame_qkvRef_pre, fun m ρ _ => Cert.Pool.Gen.frame m ρ, fun m ρ _ => Cert.PoolIdeal.Gen.frame m ρ, fun m ρ _ => Cert.PoolIdeal.Gen.frame m ρ,
  frame_poolRef, frame_poolRef_pre, fun m ρ _ => Cert.Dact.Gen.frame m ρ, fun m ρ _ => Cert.DactIdeal.Gen.frame m ρ,
  fun m ρ _ => Cert.DactIdeal.Gen.frame m ρ, frame_dactRef, frame_dactRef_pre, fun m ρ _ => Cert.Dh.Gen.frame m ρ,
  fun m ρ _ => Cert.DhIdeal.Gen.frame m ρ, fun m ρ _ => Cert.DhIdeal.Gen.frame m ρ, frame_dhRef, frame_dhRef_pre, fun m ρ _ => Cert.Din.Gen.frame m ρ,
  fun m ρ _ => Cert.DinIdeal.Gen.frame m ρ, fun m ρ _ => Cert.DinIdeal.Gen.frame m ρ, frame_dinRef, frame_dinRef_pre,
  fun m ρ _ => Cert.Delta.Gen.frame m ρ, fun m ρ _ => Cert.DeltaIdeal.Gen.frame m ρ, frame_deltaRef, fun m ρ _ => Cert.Fwd.Gen.frame m ρ,
  fun m ρ _ => Cert.FwdIdeal.Gen.frame m ρ, fun m ρ _ => Cert.FwdIdeal.Gen.frame m ρ, frame_fwdRef, frame_fwdRef_pre, trivial, algebraic_loss,
  preserves_attn, algebraic_attn, trivial, algebraic_gate, trivial, algebraic_qkv, trivial, algebraic_pool, trivial, algebraic_dact, trivial,
  algebraic_dh, trivial, algebraic_din, trivial, algebraic_delta, preserves_fwd, algebraic_fwd⟩

end Cert.Proof

end
